-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_KernelWIn (m : (ℓ : Loc Cert.KernelWIn.nD Cert.KernelWIn.τ Cert.KernelWIn.sig) → Buf (Elt Bits) ℓ) : Prop :=
  True

def Pre_KernelWInIdeal (m : (ℓ : Loc Cert.KernelWInIdeal.nD Cert.KernelWInIdeal.τ Cert.KernelWInIdeal.sig) → Buf (Elt Ideal) ℓ) : Prop :=
  True

def Pre_ReferenceWInIdeal (m : (ℓ : Loc Cert.ReferenceWInIdeal.nD Cert.ReferenceWInIdeal.τ Cert.ReferenceWInIdeal.sig) → Buf (Elt Ideal) ℓ) : Prop :=
  True

def Pre_KernelHFirst (m : (ℓ : Loc Cert.KernelHFirst.nD Cert.KernelHFirst.τ Cert.KernelHFirst.sig) → Buf (Elt Bits) ℓ) : Prop :=
  True

def Pre_KernelHFirstIdeal (m : (ℓ : Loc Cert.KernelHFirstIdeal.nD Cert.KernelHFirstIdeal.τ Cert.KernelHFirstIdeal.sig) → Buf (Elt Ideal) ℓ) : Prop :=
  True

def Pre_ReferenceHFirstIdeal (m : (ℓ : Loc Cert.ReferenceHFirstIdeal.nD Cert.ReferenceHFirstIdeal.τ Cert.ReferenceHFirstIdeal.sig) → Buf (Elt Ideal) ℓ) : Prop :=
  True

def Pre_KernelHLast (m : (ℓ : Loc Cert.KernelHLast.nD Cert.KernelHLast.τ Cert.KernelHLast.sig) → Buf (Elt Bits) ℓ) : Prop :=
  True

def Pre_KernelHLastIdeal (m : (ℓ : Loc Cert.KernelHLastIdeal.nD Cert.KernelHLastIdeal.τ Cert.KernelHLastIdeal.sig) → Buf (Elt Ideal) ℓ) : Prop :=
  True

def Pre_ReferenceHLastIdeal (m : (ℓ : Loc Cert.ReferenceHLastIdeal.nD Cert.ReferenceHLastIdeal.τ Cert.ReferenceHLastIdeal.sig) → Buf (Elt Ideal) ℓ) : Prop :=
  True

def Pre_KernelWOut (m : (ℓ : Loc Cert.KernelWOut.nD Cert.KernelWOut.τ Cert.KernelWOut.sig) → Buf (Elt Bits) ℓ) : Prop :=
  True

def Pre_KernelWOutIdeal (m : (ℓ : Loc Cert.KernelWOutIdeal.nD Cert.KernelWOutIdeal.τ Cert.KernelWOutIdeal.sig) → Buf (Elt Ideal) ℓ) : Prop :=
  True

def Pre_ReferenceWOutIdeal (m : (ℓ : Loc Cert.ReferenceWOutIdeal.nD Cert.ReferenceWOutIdeal.τ Cert.ReferenceWOutIdeal.sig) → Buf (Elt Ideal) ℓ) : Prop :=
  True

def Pre_KernelY (m : (ℓ : Loc Cert.KernelY.nD Cert.KernelY.τ Cert.KernelY.sig) → Buf (Elt Bits) ℓ) : Prop :=
  True

def Pre_KernelYIdeal (m : (ℓ : Loc Cert.KernelYIdeal.nD Cert.KernelYIdeal.τ Cert.KernelYIdeal.sig) → Buf (Elt Ideal) ℓ) : Prop :=
  True

def Pre_ReferenceYIdeal (m : (ℓ : Loc Cert.ReferenceYIdeal.nD Cert.ReferenceYIdeal.τ Cert.ReferenceYIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelWIn [hKernelWIn : Cert.KernelWIn.Facts] : Prop :=
  ∀ (m : (ℓ : Loc Cert.KernelWIn.nD Cert.KernelWIn.τ Cert.KernelWIn.sig) → Buf (Elt Bits) ℓ) (g : Dev Cert.KernelWIn.nD → PrngReg), Pre_KernelWIn m →
    θ_run (Cert.KernelWIn.defs (F := Bits)) (onTc (τ := Cert.KernelWIn.τ) (Cert.KernelWIn.main (F := Bits))) ⟨m, fun _ => 0, g⟩ (fun r => (∀ c : Dev Cert.KernelWIn.nD,
      r.2.mem ((c.tc : Thread Cert.KernelWIn.nD Cert.KernelWIn.τ).loc Cert.KernelWIn.main_arg0) = m ((c.tc : Thread Cert.KernelWIn.nD Cert.KernelWIn.τ).loc Cert.KernelWIn.main_arg0)
      ∧ r.2.mem ((c.tc : Thread Cert.KernelWIn.nD Cert.KernelWIn.τ).loc Cert.KernelWIn.main_arg1) = m ((c.tc : Thread Cert.KernelWIn.nD Cert.KernelWIn.τ).loc Cert.KernelWIn.main_arg1)
      ∧ r.2.mem ((c.tc : Thread Cert.KernelWIn.nD Cert.KernelWIn.τ).loc Cert.KernelWIn.main_arg2) = m ((c.tc : Thread Cert.KernelWIn.nD Cert.KernelWIn.τ).loc Cert.KernelWIn.main_arg2))
      ∧ r.2.sem = fun _ => 0)

def quiescent_KernelWInIdeal [hKernelWInIdeal : Cert.KernelWInIdeal.Facts] : Prop :=
  ∀ (m : (ℓ : Loc Cert.KernelWInIdeal.nD Cert.KernelWInIdeal.τ Cert.KernelWInIdeal.sig) → Buf (Elt Ideal) ℓ) (g : Dev Cert.KernelWInIdeal.nD → PrngReg), Pre_KernelWInIdeal m →
    θ_run (Cert.KernelWInIdeal.defs (F := Ideal)) (onTc (τ := Cert.KernelWInIdeal.τ) (Cert.KernelWInIdeal.main (F := Ideal))) ⟨m, fun _ => 0, g⟩ (fun r => (∀ c : Dev Cert.KernelWInIdeal.nD,
      r.2.mem ((c.tc : Thread Cert.KernelWInIdeal.nD Cert.KernelWInIdeal.τ).loc Cert.KernelWInIdeal.main_arg0) = m ((c.tc : Thread Cert.KernelWInIdeal.nD Cert.KernelWInIdeal.τ).loc Cert.KernelWInIdeal.main_arg0)
      ∧ r.2.mem ((c.tc : Thread Cert.KernelWInIdeal.nD Cert.KernelWInIdeal.τ).loc Cert.KernelWInIdeal.main_arg1) = m ((c.tc : Thread Cert.KernelWInIdeal.nD Cert.KernelWInIdeal.τ).loc Cert.KernelWInIdeal.main_arg1)
      ∧ r.2.mem ((c.tc : Thread Cert.KernelWInIdeal.nD Cert.KernelWInIdeal.τ).loc Cert.KernelWInIdeal.main_arg2) = m ((c.tc : Thread Cert.KernelWInIdeal.nD Cert.KernelWInIdeal.τ).loc Cert.KernelWInIdeal.main_arg2))
      ∧ r.2.sem = fun _ => 0)

def quiescent_ReferenceWInIdeal [hReferenceWInIdeal : Cert.ReferenceWInIdeal.Facts] : Prop :=
  ∀ (m : (ℓ : Loc Cert.ReferenceWInIdeal.nD Cert.ReferenceWInIdeal.τ Cert.ReferenceWInIdeal.sig) → Buf (Elt Ideal) ℓ) (g : Dev Cert.ReferenceWInIdeal.nD → PrngReg), Pre_ReferenceWInIdeal m →
    θ_run (Cert.ReferenceWInIdeal.defs (F := Ideal)) (onTc (τ := Cert.ReferenceWInIdeal.τ) (Cert.ReferenceWInIdeal.main (F := Ideal))) ⟨m, fun _ => 0, g⟩ (fun r => (∀ c : Dev Cert.ReferenceWInIdeal.nD,
      r.2.mem ((c.tc : Thread Cert.ReferenceWInIdeal.nD Cert.ReferenceWInIdeal.τ).loc Cert.ReferenceWInIdeal.main_arg0) = m ((c.tc : Thread Cert.ReferenceWInIdeal.nD Cert.ReferenceWInIdeal.τ).loc Cert.ReferenceWInIdeal.main_arg0)
      ∧ r.2.mem ((c.tc : Thread Cert.ReferenceWInIdeal.nD Cert.ReferenceWInIdeal.τ).loc Cert.ReferenceWInIdeal.main_arg1) = m ((c.tc : Thread Cert.ReferenceWInIdeal.nD Cert.ReferenceWInIdeal.τ).loc Cert.ReferenceWInIdeal.main_arg1)
      ∧ r.2.mem ((c.tc : Thread Cert.ReferenceWInIdeal.nD Cert.ReferenceWInIdeal.τ).loc Cert.ReferenceWInIdeal.main_arg2) = m ((c.tc : Thread Cert.ReferenceWInIdeal.nD Cert.ReferenceWInIdeal.τ).loc Cert.ReferenceWInIdeal.main_arg2))
      ∧ r.2.sem = fun _ => 0)

def quiescent_KernelHFirst [hKernelHFirst : Cert.KernelHFirst.Facts] : Prop :=
  ∀ (m : (ℓ : Loc Cert.KernelHFirst.nD Cert.KernelHFirst.τ Cert.KernelHFirst.sig) → Buf (Elt Bits) ℓ) (g : Dev Cert.KernelHFirst.nD → PrngReg), Pre_KernelHFirst m →
    θ_run (Cert.KernelHFirst.defs (F := Bits)) (onTc (τ := Cert.KernelHFirst.τ) (Cert.KernelHFirst.main (F := Bits))) ⟨m, fun _ => 0, g⟩ (fun r => (∀ c : Dev Cert.KernelHFirst.nD,
      r.2.mem ((c.tc : Thread Cert.KernelHFirst.nD Cert.KernelHFirst.τ).loc Cert.KernelHFirst.main_arg0) = m ((c.tc : Thread Cert.KernelHFirst.nD Cert.KernelHFirst.τ).loc Cert.KernelHFirst.main_arg0)
      ∧ r.2.mem ((c.tc : Thread Cert.KernelHFirst.nD Cert.KernelHFirst.τ).loc Cert.KernelHFirst.main_arg1) = m ((c.tc : Thread Cert.KernelHFirst.nD Cert.KernelHFirst.τ).loc Cert.KernelHFirst.main_arg1)
      ∧ r.2.mem ((c.tc : Thread Cert.KernelHFirst.nD Cert.KernelHFirst.τ).loc Cert.KernelHFirst.main_arg2) = m ((c.tc : Thread Cert.KernelHFirst.nD Cert.KernelHFirst.τ).loc Cert.KernelHFirst.main_arg2)
      ∧ r.2.mem ((c.tc : Thread Cert.KernelHFirst.nD Cert.KernelHFirst.τ).loc Cert.KernelHFirst.main_arg3) = m ((c.tc : Thread Cert.KernelHFirst.nD Cert.KernelHFirst.τ).loc Cert.KernelHFirst.main_arg3))
      ∧ r.2.sem = fun _ => 0)

def quiescent_KernelHFirstIdeal [hKernelHFirstIdeal : Cert.KernelHFirstIdeal.Facts] : Prop :=
  ∀ (m : (ℓ : Loc Cert.KernelHFirstIdeal.nD Cert.KernelHFirstIdeal.τ Cert.KernelHFirstIdeal.sig) → Buf (Elt Ideal) ℓ) (g : Dev Cert.KernelHFirstIdeal.nD → PrngReg), Pre_KernelHFirstIdeal m →
    θ_run (Cert.KernelHFirstIdeal.defs (F := Ideal)) (onTc (τ := Cert.KernelHFirstIdeal.τ) (Cert.KernelHFirstIdeal.main (F := Ideal))) ⟨m, fun _ => 0, g⟩ (fun r => (∀ c : Dev Cert.KernelHFirstIdeal.nD,
      r.2.mem ((c.tc : Thread Cert.KernelHFirstIdeal.nD Cert.KernelHFirstIdeal.τ).loc Cert.KernelHFirstIdeal.main_arg0) = m ((c.tc : Thread Cert.KernelHFirstIdeal.nD Cert.KernelHFirstIdeal.τ).loc Cert.KernelHFirstIdeal.main_arg0)
      ∧ r.2.mem ((c.tc : Thread Cert.KernelHFirstIdeal.nD Cert.KernelHFirstIdeal.τ).loc Cert.KernelHFirstIdeal.main_arg1) = m ((c.tc : Thread Cert.KernelHFirstIdeal.nD Cert.KernelHFirstIdeal.τ).loc Cert.KernelHFirstIdeal.main_arg1)
      ∧ r.2.mem ((c.tc : Thread Cert.KernelHFirstIdeal.nD Cert.KernelHFirstIdeal.τ).loc Cert.KernelHFirstIdeal.main_arg2) = m ((c.tc : Thread Cert.KernelHFirstIdeal.nD Cert.KernelHFirstIdeal.τ).loc Cert.KernelHFirstIdeal.main_arg2)
      ∧ r.2.mem ((c.tc : Thread Cert.KernelHFirstIdeal.nD Cert.KernelHFirstIdeal.τ).loc Cert.KernelHFirstIdeal.main_arg3) = m ((c.tc : Thread Cert.KernelHFirstIdeal.nD Cert.KernelHFirstIdeal.τ).loc Cert.KernelHFirstIdeal.main_arg3))
      ∧ r.2.sem = fun _ => 0)

def quiescent_ReferenceHFirstIdeal [hReferenceHFirstIdeal : Cert.ReferenceHFirstIdeal.Facts] : Prop :=
  ∀ (m : (ℓ : Loc Cert.ReferenceHFirstIdeal.nD Cert.ReferenceHFirstIdeal.τ Cert.ReferenceHFirstIdeal.sig) → Buf (Elt Ideal) ℓ) (g : Dev Cert.ReferenceHFirstIdeal.nD → PrngReg), Pre_ReferenceHFirstIdeal m →
    θ_run (Cert.ReferenceHFirstIdeal.defs (F := Ideal)) (onTc (τ := Cert.ReferenceHFirstIdeal.τ) (Cert.ReferenceHFirstIdeal.main (F := Ideal))) ⟨m, fun _ => 0, g⟩ (fun r => (∀ c : Dev Cert.ReferenceHFirstIdeal.nD,
      r.2.mem ((c.tc : Thread Cert.ReferenceHFirstIdeal.nD Cert.ReferenceHFirstIdeal.τ).loc Cert.ReferenceHFirstIdeal.main_arg0) = m ((c.tc : Thread Cert.ReferenceHFirstIdeal.nD Cert.ReferenceHFirstIdeal.τ).loc Cert.ReferenceHFirstIdeal.main_arg0)
      ∧ r.2.mem ((c.tc : Thread Cert.ReferenceHFirstIdeal.nD Cert.ReferenceHFirstIdeal.τ).loc Cert.ReferenceHFirstIdeal.main_arg1) = m ((c.tc : Thread Cert.ReferenceHFirstIdeal.nD Cert.ReferenceHFirstIdeal.τ).loc Cert.ReferenceHFirstIdeal.main_arg1)
      ∧ r.2.mem ((c.tc : Thread Cert.ReferenceHFirstIdeal.nD Cert.ReferenceHFirstIdeal.τ).loc Cert.ReferenceHFirstIdeal.main_arg2) = m ((c.tc : Thread Cert.ReferenceHFirstIdeal.nD Cert.ReferenceHFirstIdeal.τ).loc Cert.ReferenceHFirstIdeal.main_arg2)
      ∧ r.2.mem ((c.tc : Thread Cert.ReferenceHFirstIdeal.nD Cert.ReferenceHFirstIdeal.τ).loc Cert.ReferenceHFirstIdeal.main_arg3) = m ((c.tc : Thread Cert.ReferenceHFirstIdeal.nD Cert.ReferenceHFirstIdeal.τ).loc Cert.ReferenceHFirstIdeal.main_arg3))
      ∧ r.2.sem = fun _ => 0)

def quiescent_KernelHLast [hKernelHLast : Cert.KernelHLast.Facts] : Prop :=
  ∀ (m : (ℓ : Loc Cert.KernelHLast.nD Cert.KernelHLast.τ Cert.KernelHLast.sig) → Buf (Elt Bits) ℓ) (g : Dev Cert.KernelHLast.nD → PrngReg), Pre_KernelHLast m →
    θ_run (Cert.KernelHLast.defs (F := Bits)) (onTc (τ := Cert.KernelHLast.τ) (Cert.KernelHLast.main (F := Bits))) ⟨m, fun _ => 0, g⟩ (fun r => (∀ c : Dev Cert.KernelHLast.nD,
      r.2.mem ((c.tc : Thread Cert.KernelHLast.nD Cert.KernelHLast.τ).loc Cert.KernelHLast.main_arg0) = m ((c.tc : Thread Cert.KernelHLast.nD Cert.KernelHLast.τ).loc Cert.KernelHLast.main_arg0)
      ∧ r.2.mem ((c.tc : Thread Cert.KernelHLast.nD Cert.KernelHLast.τ).loc Cert.KernelHLast.main_arg1) = m ((c.tc : Thread Cert.KernelHLast.nD Cert.KernelHLast.τ).loc Cert.KernelHLast.main_arg1)
      ∧ r.2.mem ((c.tc : Thread Cert.KernelHLast.nD Cert.KernelHLast.τ).loc Cert.KernelHLast.main_arg2) = m ((c.tc : Thread Cert.KernelHLast.nD Cert.KernelHLast.τ).loc Cert.KernelHLast.main_arg2)
      ∧ r.2.mem ((c.tc : Thread Cert.KernelHLast.nD Cert.KernelHLast.τ).loc Cert.KernelHLast.main_arg3) = m ((c.tc : Thread Cert.KernelHLast.nD Cert.KernelHLast.τ).loc Cert.KernelHLast.main_arg3))
      ∧ r.2.sem = fun _ => 0)

def quiescent_KernelHLastIdeal [hKernelHLastIdeal : Cert.KernelHLastIdeal.Facts] : Prop :=
  ∀ (m : (ℓ : Loc Cert.KernelHLastIdeal.nD Cert.KernelHLastIdeal.τ Cert.KernelHLastIdeal.sig) → Buf (Elt Ideal) ℓ) (g : Dev Cert.KernelHLastIdeal.nD → PrngReg), Pre_KernelHLastIdeal m →
    θ_run (Cert.KernelHLastIdeal.defs (F := Ideal)) (onTc (τ := Cert.KernelHLastIdeal.τ) (Cert.KernelHLastIdeal.main (F := Ideal))) ⟨m, fun _ => 0, g⟩ (fun r => (∀ c : Dev Cert.KernelHLastIdeal.nD,
      r.2.mem ((c.tc : Thread Cert.KernelHLastIdeal.nD Cert.KernelHLastIdeal.τ).loc Cert.KernelHLastIdeal.main_arg0) = m ((c.tc : Thread Cert.KernelHLastIdeal.nD Cert.KernelHLastIdeal.τ).loc Cert.KernelHLastIdeal.main_arg0)
      ∧ r.2.mem ((c.tc : Thread Cert.KernelHLastIdeal.nD Cert.KernelHLastIdeal.τ).loc Cert.KernelHLastIdeal.main_arg1) = m ((c.tc : Thread Cert.KernelHLastIdeal.nD Cert.KernelHLastIdeal.τ).loc Cert.KernelHLastIdeal.main_arg1)
      ∧ r.2.mem ((c.tc : Thread Cert.KernelHLastIdeal.nD Cert.KernelHLastIdeal.τ).loc Cert.KernelHLastIdeal.main_arg2) = m ((c.tc : Thread Cert.KernelHLastIdeal.nD Cert.KernelHLastIdeal.τ).loc Cert.KernelHLastIdeal.main_arg2)
      ∧ r.2.mem ((c.tc : Thread Cert.KernelHLastIdeal.nD Cert.KernelHLastIdeal.τ).loc Cert.KernelHLastIdeal.main_arg3) = m ((c.tc : Thread Cert.KernelHLastIdeal.nD Cert.KernelHLastIdeal.τ).loc Cert.KernelHLastIdeal.main_arg3))
      ∧ r.2.sem = fun _ => 0)

def quiescent_ReferenceHLastIdeal [hReferenceHLastIdeal : Cert.ReferenceHLastIdeal.Facts] : Prop :=
  ∀ (m : (ℓ : Loc Cert.ReferenceHLastIdeal.nD Cert.ReferenceHLastIdeal.τ Cert.ReferenceHLastIdeal.sig) → Buf (Elt Ideal) ℓ) (g : Dev Cert.ReferenceHLastIdeal.nD → PrngReg), Pre_ReferenceHLastIdeal m →
    θ_run (Cert.ReferenceHLastIdeal.defs (F := Ideal)) (onTc (τ := Cert.ReferenceHLastIdeal.τ) (Cert.ReferenceHLastIdeal.main (F := Ideal))) ⟨m, fun _ => 0, g⟩ (fun r => (∀ c : Dev Cert.ReferenceHLastIdeal.nD,
      r.2.mem ((c.tc : Thread Cert.ReferenceHLastIdeal.nD Cert.ReferenceHLastIdeal.τ).loc Cert.ReferenceHLastIdeal.main_arg0) = m ((c.tc : Thread Cert.ReferenceHLastIdeal.nD Cert.ReferenceHLastIdeal.τ).loc Cert.ReferenceHLastIdeal.main_arg0)
      ∧ r.2.mem ((c.tc : Thread Cert.ReferenceHLastIdeal.nD Cert.ReferenceHLastIdeal.τ).loc Cert.ReferenceHLastIdeal.main_arg1) = m ((c.tc : Thread Cert.ReferenceHLastIdeal.nD Cert.ReferenceHLastIdeal.τ).loc Cert.ReferenceHLastIdeal.main_arg1)
      ∧ r.2.mem ((c.tc : Thread Cert.ReferenceHLastIdeal.nD Cert.ReferenceHLastIdeal.τ).loc Cert.ReferenceHLastIdeal.main_arg2) = m ((c.tc : Thread Cert.ReferenceHLastIdeal.nD Cert.ReferenceHLastIdeal.τ).loc Cert.ReferenceHLastIdeal.main_arg2)
      ∧ r.2.mem ((c.tc : Thread Cert.ReferenceHLastIdeal.nD Cert.ReferenceHLastIdeal.τ).loc Cert.ReferenceHLastIdeal.main_arg3) = m ((c.tc : Thread Cert.ReferenceHLastIdeal.nD Cert.ReferenceHLastIdeal.τ).loc Cert.ReferenceHLastIdeal.main_arg3))
      ∧ r.2.sem = fun _ => 0)

def quiescent_KernelWOut [hKernelWOut : Cert.KernelWOut.Facts] : Prop :=
  ∀ (m : (ℓ : Loc Cert.KernelWOut.nD Cert.KernelWOut.τ Cert.KernelWOut.sig) → Buf (Elt Bits) ℓ) (g : Dev Cert.KernelWOut.nD → PrngReg), Pre_KernelWOut m →
    θ_run (Cert.KernelWOut.defs (F := Bits)) (onTc (τ := Cert.KernelWOut.τ) (Cert.KernelWOut.main (F := Bits))) ⟨m, fun _ => 0, g⟩ (fun r => (∀ c : Dev Cert.KernelWOut.nD,
      r.2.mem ((c.tc : Thread Cert.KernelWOut.nD Cert.KernelWOut.τ).loc Cert.KernelWOut.main_arg0) = m ((c.tc : Thread Cert.KernelWOut.nD Cert.KernelWOut.τ).loc Cert.KernelWOut.main_arg0)
      ∧ r.2.mem ((c.tc : Thread Cert.KernelWOut.nD Cert.KernelWOut.τ).loc Cert.KernelWOut.main_arg1) = m ((c.tc : Thread Cert.KernelWOut.nD Cert.KernelWOut.τ).loc Cert.KernelWOut.main_arg1)
      ∧ r.2.mem ((c.tc : Thread Cert.KernelWOut.nD Cert.KernelWOut.τ).loc Cert.KernelWOut.main_arg2) = m ((c.tc : Thread Cert.KernelWOut.nD Cert.KernelWOut.τ).loc Cert.KernelWOut.main_arg2))
      ∧ r.2.sem = fun _ => 0)

def quiescent_KernelWOutIdeal [hKernelWOutIdeal : Cert.KernelWOutIdeal.Facts] : Prop :=
  ∀ (m : (ℓ : Loc Cert.KernelWOutIdeal.nD Cert.KernelWOutIdeal.τ Cert.KernelWOutIdeal.sig) → Buf (Elt Ideal) ℓ) (g : Dev Cert.KernelWOutIdeal.nD → PrngReg), Pre_KernelWOutIdeal m →
    θ_run (Cert.KernelWOutIdeal.defs (F := Ideal)) (onTc (τ := Cert.KernelWOutIdeal.τ) (Cert.KernelWOutIdeal.main (F := Ideal))) ⟨m, fun _ => 0, g⟩ (fun r => (∀ c : Dev Cert.KernelWOutIdeal.nD,
      r.2.mem ((c.tc : Thread Cert.KernelWOutIdeal.nD Cert.KernelWOutIdeal.τ).loc Cert.KernelWOutIdeal.main_arg0) = m ((c.tc : Thread Cert.KernelWOutIdeal.nD Cert.KernelWOutIdeal.τ).loc Cert.KernelWOutIdeal.main_arg0)
      ∧ r.2.mem ((c.tc : Thread Cert.KernelWOutIdeal.nD Cert.KernelWOutIdeal.τ).loc Cert.KernelWOutIdeal.main_arg1) = m ((c.tc : Thread Cert.KernelWOutIdeal.nD Cert.KernelWOutIdeal.τ).loc Cert.KernelWOutIdeal.main_arg1)
      ∧ r.2.mem ((c.tc : Thread Cert.KernelWOutIdeal.nD Cert.KernelWOutIdeal.τ).loc Cert.KernelWOutIdeal.main_arg2) = m ((c.tc : Thread Cert.KernelWOutIdeal.nD Cert.KernelWOutIdeal.τ).loc Cert.KernelWOutIdeal.main_arg2))
      ∧ r.2.sem = fun _ => 0)

def quiescent_ReferenceWOutIdeal [hReferenceWOutIdeal : Cert.ReferenceWOutIdeal.Facts] : Prop :=
  ∀ (m : (ℓ : Loc Cert.ReferenceWOutIdeal.nD Cert.ReferenceWOutIdeal.τ Cert.ReferenceWOutIdeal.sig) → Buf (Elt Ideal) ℓ) (g : Dev Cert.ReferenceWOutIdeal.nD → PrngReg), Pre_ReferenceWOutIdeal m →
    θ_run (Cert.ReferenceWOutIdeal.defs (F := Ideal)) (onTc (τ := Cert.ReferenceWOutIdeal.τ) (Cert.ReferenceWOutIdeal.main (F := Ideal))) ⟨m, fun _ => 0, g⟩ (fun r => (∀ c : Dev Cert.ReferenceWOutIdeal.nD,
      r.2.mem ((c.tc : Thread Cert.ReferenceWOutIdeal.nD Cert.ReferenceWOutIdeal.τ).loc Cert.ReferenceWOutIdeal.main_arg0) = m ((c.tc : Thread Cert.ReferenceWOutIdeal.nD Cert.ReferenceWOutIdeal.τ).loc Cert.ReferenceWOutIdeal.main_arg0)
      ∧ r.2.mem ((c.tc : Thread Cert.ReferenceWOutIdeal.nD Cert.ReferenceWOutIdeal.τ).loc Cert.ReferenceWOutIdeal.main_arg1) = m ((c.tc : Thread Cert.ReferenceWOutIdeal.nD Cert.ReferenceWOutIdeal.τ).loc Cert.ReferenceWOutIdeal.main_arg1)
      ∧ r.2.mem ((c.tc : Thread Cert.ReferenceWOutIdeal.nD Cert.ReferenceWOutIdeal.τ).loc Cert.ReferenceWOutIdeal.main_arg2) = m ((c.tc : Thread Cert.ReferenceWOutIdeal.nD Cert.ReferenceWOutIdeal.τ).loc Cert.ReferenceWOutIdeal.main_arg2))
      ∧ r.2.sem = fun _ => 0)

def quiescent_KernelY [hKernelY : Cert.KernelY.Facts] : Prop :=
  ∀ (m : (ℓ : Loc Cert.KernelY.nD Cert.KernelY.τ Cert.KernelY.sig) → Buf (Elt Bits) ℓ) (g : Dev Cert.KernelY.nD → PrngReg), Pre_KernelY m →
    θ_run (Cert.KernelY.defs (F := Bits)) (onTc (τ := Cert.KernelY.τ) (Cert.KernelY.main (F := Bits))) ⟨m, fun _ => 0, g⟩ (fun r => (∀ c : Dev Cert.KernelY.nD,
      r.2.mem ((c.tc : Thread Cert.KernelY.nD Cert.KernelY.τ).loc Cert.KernelY.main_arg0) = m ((c.tc : Thread Cert.KernelY.nD Cert.KernelY.τ).loc Cert.KernelY.main_arg0)
      ∧ r.2.mem ((c.tc : Thread Cert.KernelY.nD Cert.KernelY.τ).loc Cert.KernelY.main_arg1) = m ((c.tc : Thread Cert.KernelY.nD Cert.KernelY.τ).loc Cert.KernelY.main_arg1)
      ∧ r.2.mem ((c.tc : Thread Cert.KernelY.nD Cert.KernelY.τ).loc Cert.KernelY.main_arg2) = m ((c.tc : Thread Cert.KernelY.nD Cert.KernelY.τ).loc Cert.KernelY.main_arg2)
      ∧ r.2.mem ((c.tc : Thread Cert.KernelY.nD Cert.KernelY.τ).loc Cert.KernelY.main_arg3) = m ((c.tc : Thread Cert.KernelY.nD Cert.KernelY.τ).loc Cert.KernelY.main_arg3))
      ∧ r.2.sem = fun _ => 0)

def quiescent_KernelYIdeal [hKernelYIdeal : Cert.KernelYIdeal.Facts] : Prop :=
  ∀ (m : (ℓ : Loc Cert.KernelYIdeal.nD Cert.KernelYIdeal.τ Cert.KernelYIdeal.sig) → Buf (Elt Ideal) ℓ) (g : Dev Cert.KernelYIdeal.nD → PrngReg), Pre_KernelYIdeal m →
    θ_run (Cert.KernelYIdeal.defs (F := Ideal)) (onTc (τ := Cert.KernelYIdeal.τ) (Cert.KernelYIdeal.main (F := Ideal))) ⟨m, fun _ => 0, g⟩ (fun r => (∀ c : Dev Cert.KernelYIdeal.nD,
      r.2.mem ((c.tc : Thread Cert.KernelYIdeal.nD Cert.KernelYIdeal.τ).loc Cert.KernelYIdeal.main_arg0) = m ((c.tc : Thread Cert.KernelYIdeal.nD Cert.KernelYIdeal.τ).loc Cert.KernelYIdeal.main_arg0)
      ∧ r.2.mem ((c.tc : Thread Cert.KernelYIdeal.nD Cert.KernelYIdeal.τ).loc Cert.KernelYIdeal.main_arg1) = m ((c.tc : Thread Cert.KernelYIdeal.nD Cert.KernelYIdeal.τ).loc Cert.KernelYIdeal.main_arg1)
      ∧ r.2.mem ((c.tc : Thread Cert.KernelYIdeal.nD Cert.KernelYIdeal.τ).loc Cert.KernelYIdeal.main_arg2) = m ((c.tc : Thread Cert.KernelYIdeal.nD Cert.KernelYIdeal.τ).loc Cert.KernelYIdeal.main_arg2)
      ∧ r.2.mem ((c.tc : Thread Cert.KernelYIdeal.nD Cert.KernelYIdeal.τ).loc Cert.KernelYIdeal.main_arg3) = m ((c.tc : Thread Cert.KernelYIdeal.nD Cert.KernelYIdeal.τ).loc Cert.KernelYIdeal.main_arg3))
      ∧ r.2.sem = fun _ => 0)

def quiescent_ReferenceYIdeal [hReferenceYIdeal : Cert.ReferenceYIdeal.Facts] : Prop :=
  ∀ (m : (ℓ : Loc Cert.ReferenceYIdeal.nD Cert.ReferenceYIdeal.τ Cert.ReferenceYIdeal.sig) → Buf (Elt Ideal) ℓ) (g : Dev Cert.ReferenceYIdeal.nD → PrngReg), Pre_ReferenceYIdeal m →
    θ_run (Cert.ReferenceYIdeal.defs (F := Ideal)) (onTc (τ := Cert.ReferenceYIdeal.τ) (Cert.ReferenceYIdeal.main (F := Ideal))) ⟨m, fun _ => 0, g⟩ (fun r => (∀ c : Dev Cert.ReferenceYIdeal.nD,
      r.2.mem ((c.tc : Thread Cert.ReferenceYIdeal.nD Cert.ReferenceYIdeal.τ).loc Cert.ReferenceYIdeal.main_arg0) = m ((c.tc : Thread Cert.ReferenceYIdeal.nD Cert.ReferenceYIdeal.τ).loc Cert.ReferenceYIdeal.main_arg0)
      ∧ r.2.mem ((c.tc : Thread Cert.ReferenceYIdeal.nD Cert.ReferenceYIdeal.τ).loc Cert.ReferenceYIdeal.main_arg1) = m ((c.tc : Thread Cert.ReferenceYIdeal.nD Cert.ReferenceYIdeal.τ).loc Cert.ReferenceYIdeal.main_arg1)
      ∧ r.2.mem ((c.tc : Thread Cert.ReferenceYIdeal.nD Cert.ReferenceYIdeal.τ).loc Cert.ReferenceYIdeal.main_arg2) = m ((c.tc : Thread Cert.ReferenceYIdeal.nD Cert.ReferenceYIdeal.τ).loc Cert.ReferenceYIdeal.main_arg2)
      ∧ r.2.mem ((c.tc : Thread Cert.ReferenceYIdeal.nD Cert.ReferenceYIdeal.τ).loc Cert.ReferenceYIdeal.main_arg3) = m ((c.tc : Thread Cert.ReferenceYIdeal.nD Cert.ReferenceYIdeal.τ).loc Cert.ReferenceYIdeal.main_arg3))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v64_0)) (v1 : (c : Dev Cert.KernelIdeal.nD) → Buf (Elt Ideal) ((c.tc : Thread Cert.KernelIdeal.nD Cert.KernelIdeal.τ).loc Cert.KernelIdeal.main_v64_1)) (v2 : (c : Dev Cert.KernelIdeal.nD) → Buf (Elt Ideal) ((c.tc : Thread Cert.KernelIdeal.nD Cert.KernelIdeal.τ).loc Cert.KernelIdeal.main_v64_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64_0) = v0 c
          ∧ r.2.mem ((c.tc : Thread Cert.KernelIdeal.nD Cert.KernelIdeal.τ).loc Cert.KernelIdeal.main_v64_1) = v1 c
          ∧ r.2.mem ((c.tc : Thread Cert.KernelIdeal.nD Cert.KernelIdeal.τ).loc Cert.KernelIdeal.main_v64_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v201) = v0 c
          ∧ r.2.mem ((c.tc : Thread Cert.ReferenceIdeal.nD Cert.ReferenceIdeal.τ).loc Cert.ReferenceIdeal.main_v195) = v1 c
          ∧ r.2.mem ((c.tc : Thread Cert.ReferenceIdeal.nD Cert.ReferenceIdeal.τ).loc Cert.ReferenceIdeal.main_v115) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelWIn_KernelWInIdeal : Prop :=
  True

def algebraic_KernelWInIdeal_ReferenceWInIdeal [hKernelWInIdeal : Cert.KernelWInIdeal.Facts] [hReferenceWInIdeal : Cert.ReferenceWInIdeal.Facts] : Prop :=
  ∀ (m : (ℓ : Loc Cert.KernelWInIdeal.nD Cert.KernelWInIdeal.τ Cert.KernelWInIdeal.sig) → Buf (Elt Ideal) ℓ) (g : Dev Cert.KernelWInIdeal.nD → PrngReg)
    (m' : (ℓ : Loc Cert.ReferenceWInIdeal.nD Cert.ReferenceWInIdeal.τ Cert.ReferenceWInIdeal.sig) → Buf (Elt Ideal) ℓ) (g' : Dev Cert.ReferenceWInIdeal.nD → PrngReg), Pre_KernelWInIdeal m →
    (∀ c : Dev Cert.KernelWInIdeal.nD,
      m' ((c.tc : Thread Cert.ReferenceWInIdeal.nD Cert.ReferenceWInIdeal.τ).loc Cert.ReferenceWInIdeal.main_arg0) = m ((c.tc : Thread Cert.KernelWInIdeal.nD Cert.KernelWInIdeal.τ).loc Cert.KernelWInIdeal.main_arg0)
      ∧ m' ((c.tc : Thread Cert.ReferenceWInIdeal.nD Cert.ReferenceWInIdeal.τ).loc Cert.ReferenceWInIdeal.main_arg1) = m ((c.tc : Thread Cert.KernelWInIdeal.nD Cert.KernelWInIdeal.τ).loc Cert.KernelWInIdeal.main_arg1)
      ∧ m' ((c.tc : Thread Cert.ReferenceWInIdeal.nD Cert.ReferenceWInIdeal.τ).loc Cert.ReferenceWInIdeal.main_arg2) = m ((c.tc : Thread Cert.KernelWInIdeal.nD Cert.KernelWInIdeal.τ).loc Cert.KernelWInIdeal.main_arg2)) →
    ∃ (v0 : (c : Dev Cert.KernelWInIdeal.nD) → Buf (Elt Ideal) ((c.tc : Thread Cert.KernelWInIdeal.nD Cert.KernelWInIdeal.τ).loc Cert.KernelWInIdeal.main_v0)),
      θ_run (Cert.KernelWInIdeal.defs (F := Ideal)) (onTc (τ := Cert.KernelWInIdeal.τ) (Cert.KernelWInIdeal.main (F := Ideal))) ⟨m, fun _ => 0, g⟩ (fun r => ∀ c : Dev Cert.KernelWInIdeal.nD,
          r.2.mem ((c.tc : Thread Cert.KernelWInIdeal.nD Cert.KernelWInIdeal.τ).loc Cert.KernelWInIdeal.main_v0) = v0 c
          ∧ r.2.mem ((c.tc : Thread Cert.KernelWInIdeal.nD Cert.KernelWInIdeal.τ).loc Cert.KernelWInIdeal.main_arg0) = m ((c.tc : Thread Cert.KernelWInIdeal.nD Cert.KernelWInIdeal.τ).loc Cert.KernelWInIdeal.main_arg0)
          ∧ r.2.mem ((c.tc : Thread Cert.KernelWInIdeal.nD Cert.KernelWInIdeal.τ).loc Cert.KernelWInIdeal.main_arg1) = m ((c.tc : Thread Cert.KernelWInIdeal.nD Cert.KernelWInIdeal.τ).loc Cert.KernelWInIdeal.main_arg1)
          ∧ r.2.mem ((c.tc : Thread Cert.KernelWInIdeal.nD Cert.KernelWInIdeal.τ).loc Cert.KernelWInIdeal.main_arg2) = m ((c.tc : Thread Cert.KernelWInIdeal.nD Cert.KernelWInIdeal.τ).loc Cert.KernelWInIdeal.main_arg2))
      ∧ θ_run (Cert.ReferenceWInIdeal.defs (F := Ideal)) (onTc (τ := Cert.ReferenceWInIdeal.τ) (Cert.ReferenceWInIdeal.main (F := Ideal))) ⟨m', fun _ => 0, g'⟩ (fun r => ∀ c : Dev Cert.ReferenceWInIdeal.nD,
          r.2.mem ((c.tc : Thread Cert.ReferenceWInIdeal.nD Cert.ReferenceWInIdeal.τ).loc Cert.ReferenceWInIdeal.main_v31) = v0 c
          ∧ r.2.mem ((c.tc : Thread Cert.ReferenceWInIdeal.nD Cert.ReferenceWInIdeal.τ).loc Cert.ReferenceWInIdeal.main_arg0) = m' ((c.tc : Thread Cert.ReferenceWInIdeal.nD Cert.ReferenceWInIdeal.τ).loc Cert.ReferenceWInIdeal.main_arg0)
          ∧ r.2.mem ((c.tc : Thread Cert.ReferenceWInIdeal.nD Cert.ReferenceWInIdeal.τ).loc Cert.ReferenceWInIdeal.main_arg1) = m' ((c.tc : Thread Cert.ReferenceWInIdeal.nD Cert.ReferenceWInIdeal.τ).loc Cert.ReferenceWInIdeal.main_arg1)
          ∧ r.2.mem ((c.tc : Thread Cert.ReferenceWInIdeal.nD Cert.ReferenceWInIdeal.τ).loc Cert.ReferenceWInIdeal.main_arg2) = m' ((c.tc : Thread Cert.ReferenceWInIdeal.nD Cert.ReferenceWInIdeal.τ).loc Cert.ReferenceWInIdeal.main_arg2))

def preserves_KernelHFirst_KernelHFirstIdeal : Prop :=
  True

def algebraic_KernelHFirstIdeal_ReferenceHFirstIdeal [hKernelHFirstIdeal : Cert.KernelHFirstIdeal.Facts] [hReferenceHFirstIdeal : Cert.ReferenceHFirstIdeal.Facts] : Prop :=
  ∀ (m : (ℓ : Loc Cert.KernelHFirstIdeal.nD Cert.KernelHFirstIdeal.τ Cert.KernelHFirstIdeal.sig) → Buf (Elt Ideal) ℓ) (g : Dev Cert.KernelHFirstIdeal.nD → PrngReg)
    (m' : (ℓ : Loc Cert.ReferenceHFirstIdeal.nD Cert.ReferenceHFirstIdeal.τ Cert.ReferenceHFirstIdeal.sig) → Buf (Elt Ideal) ℓ) (g' : Dev Cert.ReferenceHFirstIdeal.nD → PrngReg), Pre_KernelHFirstIdeal m →
    (∀ c : Dev Cert.KernelHFirstIdeal.nD,
      m' ((c.tc : Thread Cert.ReferenceHFirstIdeal.nD Cert.ReferenceHFirstIdeal.τ).loc Cert.ReferenceHFirstIdeal.main_arg0) = m ((c.tc : Thread Cert.KernelHFirstIdeal.nD Cert.KernelHFirstIdeal.τ).loc Cert.KernelHFirstIdeal.main_arg0)
      ∧ m' ((c.tc : Thread Cert.ReferenceHFirstIdeal.nD Cert.ReferenceHFirstIdeal.τ).loc Cert.ReferenceHFirstIdeal.main_arg1) = m ((c.tc : Thread Cert.KernelHFirstIdeal.nD Cert.KernelHFirstIdeal.τ).loc Cert.KernelHFirstIdeal.main_arg1)
      ∧ m' ((c.tc : Thread Cert.ReferenceHFirstIdeal.nD Cert.ReferenceHFirstIdeal.τ).loc Cert.ReferenceHFirstIdeal.main_arg2) = m ((c.tc : Thread Cert.KernelHFirstIdeal.nD Cert.KernelHFirstIdeal.τ).loc Cert.KernelHFirstIdeal.main_arg2)
      ∧ m' ((c.tc : Thread Cert.ReferenceHFirstIdeal.nD Cert.ReferenceHFirstIdeal.τ).loc Cert.ReferenceHFirstIdeal.main_arg3) = m ((c.tc : Thread Cert.KernelHFirstIdeal.nD Cert.KernelHFirstIdeal.τ).loc Cert.KernelHFirstIdeal.main_arg3)) →
    ∃ (v0 : (c : Dev Cert.KernelHFirstIdeal.nD) → Buf (Elt Ideal) ((c.tc : Thread Cert.KernelHFirstIdeal.nD Cert.KernelHFirstIdeal.τ).loc Cert.KernelHFirstIdeal.main_v0)),
      θ_run (Cert.KernelHFirstIdeal.defs (F := Ideal)) (onTc (τ := Cert.KernelHFirstIdeal.τ) (Cert.KernelHFirstIdeal.main (F := Ideal))) ⟨m, fun _ => 0, g⟩ (fun r => ∀ c : Dev Cert.KernelHFirstIdeal.nD,
          r.2.mem ((c.tc : Thread Cert.KernelHFirstIdeal.nD Cert.KernelHFirstIdeal.τ).loc Cert.KernelHFirstIdeal.main_v0) = v0 c
          ∧ r.2.mem ((c.tc : Thread Cert.KernelHFirstIdeal.nD Cert.KernelHFirstIdeal.τ).loc Cert.KernelHFirstIdeal.main_arg0) = m ((c.tc : Thread Cert.KernelHFirstIdeal.nD Cert.KernelHFirstIdeal.τ).loc Cert.KernelHFirstIdeal.main_arg0)
          ∧ r.2.mem ((c.tc : Thread Cert.KernelHFirstIdeal.nD Cert.KernelHFirstIdeal.τ).loc Cert.KernelHFirstIdeal.main_arg1) = m ((c.tc : Thread Cert.KernelHFirstIdeal.nD Cert.KernelHFirstIdeal.τ).loc Cert.KernelHFirstIdeal.main_arg1)
          ∧ r.2.mem ((c.tc : Thread Cert.KernelHFirstIdeal.nD Cert.KernelHFirstIdeal.τ).loc Cert.KernelHFirstIdeal.main_arg2) = m ((c.tc : Thread Cert.KernelHFirstIdeal.nD Cert.KernelHFirstIdeal.τ).loc Cert.KernelHFirstIdeal.main_arg2)
          ∧ r.2.mem ((c.tc : Thread Cert.KernelHFirstIdeal.nD Cert.KernelHFirstIdeal.τ).loc Cert.KernelHFirstIdeal.main_arg3) = m ((c.tc : Thread Cert.KernelHFirstIdeal.nD Cert.KernelHFirstIdeal.τ).loc Cert.KernelHFirstIdeal.main_arg3))
      ∧ θ_run (Cert.ReferenceHFirstIdeal.defs (F := Ideal)) (onTc (τ := Cert.ReferenceHFirstIdeal.τ) (Cert.ReferenceHFirstIdeal.main (F := Ideal))) ⟨m', fun _ => 0, g'⟩ (fun r => ∀ c : Dev Cert.ReferenceHFirstIdeal.nD,
          r.2.mem ((c.tc : Thread Cert.ReferenceHFirstIdeal.nD Cert.ReferenceHFirstIdeal.τ).loc Cert.ReferenceHFirstIdeal.main_v31) = v0 c
          ∧ r.2.mem ((c.tc : Thread Cert.ReferenceHFirstIdeal.nD Cert.ReferenceHFirstIdeal.τ).loc Cert.ReferenceHFirstIdeal.main_arg0) = m' ((c.tc : Thread Cert.ReferenceHFirstIdeal.nD Cert.ReferenceHFirstIdeal.τ).loc Cert.ReferenceHFirstIdeal.main_arg0)
          ∧ r.2.mem ((c.tc : Thread Cert.ReferenceHFirstIdeal.nD Cert.ReferenceHFirstIdeal.τ).loc Cert.ReferenceHFirstIdeal.main_arg1) = m' ((c.tc : Thread Cert.ReferenceHFirstIdeal.nD Cert.ReferenceHFirstIdeal.τ).loc Cert.ReferenceHFirstIdeal.main_arg1)
          ∧ r.2.mem ((c.tc : Thread Cert.ReferenceHFirstIdeal.nD Cert.ReferenceHFirstIdeal.τ).loc Cert.ReferenceHFirstIdeal.main_arg2) = m' ((c.tc : Thread Cert.ReferenceHFirstIdeal.nD Cert.ReferenceHFirstIdeal.τ).loc Cert.ReferenceHFirstIdeal.main_arg2)
          ∧ r.2.mem ((c.tc : Thread Cert.ReferenceHFirstIdeal.nD Cert.ReferenceHFirstIdeal.τ).loc Cert.ReferenceHFirstIdeal.main_arg3) = m' ((c.tc : Thread Cert.ReferenceHFirstIdeal.nD Cert.ReferenceHFirstIdeal.τ).loc Cert.ReferenceHFirstIdeal.main_arg3))

def preserves_KernelHLast_KernelHLastIdeal : Prop :=
  True

def algebraic_KernelHLastIdeal_ReferenceHLastIdeal [hKernelHLastIdeal : Cert.KernelHLastIdeal.Facts] [hReferenceHLastIdeal : Cert.ReferenceHLastIdeal.Facts] : Prop :=
  ∀ (m : (ℓ : Loc Cert.KernelHLastIdeal.nD Cert.KernelHLastIdeal.τ Cert.KernelHLastIdeal.sig) → Buf (Elt Ideal) ℓ) (g : Dev Cert.KernelHLastIdeal.nD → PrngReg)
    (m' : (ℓ : Loc Cert.ReferenceHLastIdeal.nD Cert.ReferenceHLastIdeal.τ Cert.ReferenceHLastIdeal.sig) → Buf (Elt Ideal) ℓ) (g' : Dev Cert.ReferenceHLastIdeal.nD → PrngReg), Pre_KernelHLastIdeal m →
    (∀ c : Dev Cert.KernelHLastIdeal.nD,
      m' ((c.tc : Thread Cert.ReferenceHLastIdeal.nD Cert.ReferenceHLastIdeal.τ).loc Cert.ReferenceHLastIdeal.main_arg0) = m ((c.tc : Thread Cert.KernelHLastIdeal.nD Cert.KernelHLastIdeal.τ).loc Cert.KernelHLastIdeal.main_arg0)
      ∧ m' ((c.tc : Thread Cert.ReferenceHLastIdeal.nD Cert.ReferenceHLastIdeal.τ).loc Cert.ReferenceHLastIdeal.main_arg1) = m ((c.tc : Thread Cert.KernelHLastIdeal.nD Cert.KernelHLastIdeal.τ).loc Cert.KernelHLastIdeal.main_arg1)
      ∧ m' ((c.tc : Thread Cert.ReferenceHLastIdeal.nD Cert.ReferenceHLastIdeal.τ).loc Cert.ReferenceHLastIdeal.main_arg2) = m ((c.tc : Thread Cert.KernelHLastIdeal.nD Cert.KernelHLastIdeal.τ).loc Cert.KernelHLastIdeal.main_arg2)
      ∧ m' ((c.tc : Thread Cert.ReferenceHLastIdeal.nD Cert.ReferenceHLastIdeal.τ).loc Cert.ReferenceHLastIdeal.main_arg3) = m ((c.tc : Thread Cert.KernelHLastIdeal.nD Cert.KernelHLastIdeal.τ).loc Cert.KernelHLastIdeal.main_arg3)) →
    ∃ (v0 : (c : Dev Cert.KernelHLastIdeal.nD) → Buf (Elt Ideal) ((c.tc : Thread Cert.KernelHLastIdeal.nD Cert.KernelHLastIdeal.τ).loc Cert.KernelHLastIdeal.main_v0)),
      θ_run (Cert.KernelHLastIdeal.defs (F := Ideal)) (onTc (τ := Cert.KernelHLastIdeal.τ) (Cert.KernelHLastIdeal.main (F := Ideal))) ⟨m, fun _ => 0, g⟩ (fun r => ∀ c : Dev Cert.KernelHLastIdeal.nD,
          r.2.mem ((c.tc : Thread Cert.KernelHLastIdeal.nD Cert.KernelHLastIdeal.τ).loc Cert.KernelHLastIdeal.main_v0) = v0 c
          ∧ r.2.mem ((c.tc : Thread Cert.KernelHLastIdeal.nD Cert.KernelHLastIdeal.τ).loc Cert.KernelHLastIdeal.main_arg0) = m ((c.tc : Thread Cert.KernelHLastIdeal.nD Cert.KernelHLastIdeal.τ).loc Cert.KernelHLastIdeal.main_arg0)
          ∧ r.2.mem ((c.tc : Thread Cert.KernelHLastIdeal.nD Cert.KernelHLastIdeal.τ).loc Cert.KernelHLastIdeal.main_arg1) = m ((c.tc : Thread Cert.KernelHLastIdeal.nD Cert.KernelHLastIdeal.τ).loc Cert.KernelHLastIdeal.main_arg1)
          ∧ r.2.mem ((c.tc : Thread Cert.KernelHLastIdeal.nD Cert.KernelHLastIdeal.τ).loc Cert.KernelHLastIdeal.main_arg2) = m ((c.tc : Thread Cert.KernelHLastIdeal.nD Cert.KernelHLastIdeal.τ).loc Cert.KernelHLastIdeal.main_arg2)
          ∧ r.2.mem ((c.tc : Thread Cert.KernelHLastIdeal.nD Cert.KernelHLastIdeal.τ).loc Cert.KernelHLastIdeal.main_arg3) = m ((c.tc : Thread Cert.KernelHLastIdeal.nD Cert.KernelHLastIdeal.τ).loc Cert.KernelHLastIdeal.main_arg3))
      ∧ θ_run (Cert.ReferenceHLastIdeal.defs (F := Ideal)) (onTc (τ := Cert.ReferenceHLastIdeal.τ) (Cert.ReferenceHLastIdeal.main (F := Ideal))) ⟨m', fun _ => 0, g'⟩ (fun r => ∀ c : Dev Cert.ReferenceHLastIdeal.nD,
          r.2.mem ((c.tc : Thread Cert.ReferenceHLastIdeal.nD Cert.ReferenceHLastIdeal.τ).loc Cert.ReferenceHLastIdeal.main_v31) = v0 c
          ∧ r.2.mem ((c.tc : Thread Cert.ReferenceHLastIdeal.nD Cert.ReferenceHLastIdeal.τ).loc Cert.ReferenceHLastIdeal.main_arg0) = m' ((c.tc : Thread Cert.ReferenceHLastIdeal.nD Cert.ReferenceHLastIdeal.τ).loc Cert.ReferenceHLastIdeal.main_arg0)
          ∧ r.2.mem ((c.tc : Thread Cert.ReferenceHLastIdeal.nD Cert.ReferenceHLastIdeal.τ).loc Cert.ReferenceHLastIdeal.main_arg1) = m' ((c.tc : Thread Cert.ReferenceHLastIdeal.nD Cert.ReferenceHLastIdeal.τ).loc Cert.ReferenceHLastIdeal.main_arg1)
          ∧ r.2.mem ((c.tc : Thread Cert.ReferenceHLastIdeal.nD Cert.ReferenceHLastIdeal.τ).loc Cert.ReferenceHLastIdeal.main_arg2) = m' ((c.tc : Thread Cert.ReferenceHLastIdeal.nD Cert.ReferenceHLastIdeal.τ).loc Cert.ReferenceHLastIdeal.main_arg2)
          ∧ r.2.mem ((c.tc : Thread Cert.ReferenceHLastIdeal.nD Cert.ReferenceHLastIdeal.τ).loc Cert.ReferenceHLastIdeal.main_arg3) = m' ((c.tc : Thread Cert.ReferenceHLastIdeal.nD Cert.ReferenceHLastIdeal.τ).loc Cert.ReferenceHLastIdeal.main_arg3))

def preserves_KernelWOut_KernelWOutIdeal : Prop :=
  True

def algebraic_KernelWOutIdeal_ReferenceWOutIdeal [hKernelWOutIdeal : Cert.KernelWOutIdeal.Facts] [hReferenceWOutIdeal : Cert.ReferenceWOutIdeal.Facts] : Prop :=
  ∀ (m : (ℓ : Loc Cert.KernelWOutIdeal.nD Cert.KernelWOutIdeal.τ Cert.KernelWOutIdeal.sig) → Buf (Elt Ideal) ℓ) (g : Dev Cert.KernelWOutIdeal.nD → PrngReg)
    (m' : (ℓ : Loc Cert.ReferenceWOutIdeal.nD Cert.ReferenceWOutIdeal.τ Cert.ReferenceWOutIdeal.sig) → Buf (Elt Ideal) ℓ) (g' : Dev Cert.ReferenceWOutIdeal.nD → PrngReg), Pre_KernelWOutIdeal m →
    (∀ c : Dev Cert.KernelWOutIdeal.nD,
      m' ((c.tc : Thread Cert.ReferenceWOutIdeal.nD Cert.ReferenceWOutIdeal.τ).loc Cert.ReferenceWOutIdeal.main_arg0) = m ((c.tc : Thread Cert.KernelWOutIdeal.nD Cert.KernelWOutIdeal.τ).loc Cert.KernelWOutIdeal.main_arg0)
      ∧ m' ((c.tc : Thread Cert.ReferenceWOutIdeal.nD Cert.ReferenceWOutIdeal.τ).loc Cert.ReferenceWOutIdeal.main_arg1) = m ((c.tc : Thread Cert.KernelWOutIdeal.nD Cert.KernelWOutIdeal.τ).loc Cert.KernelWOutIdeal.main_arg1)
      ∧ m' ((c.tc : Thread Cert.ReferenceWOutIdeal.nD Cert.ReferenceWOutIdeal.τ).loc Cert.ReferenceWOutIdeal.main_arg2) = m ((c.tc : Thread Cert.KernelWOutIdeal.nD Cert.KernelWOutIdeal.τ).loc Cert.KernelWOutIdeal.main_arg2)) →
    ∃ (v0 : (c : Dev Cert.KernelWOutIdeal.nD) → Buf (Elt Ideal) ((c.tc : Thread Cert.KernelWOutIdeal.nD Cert.KernelWOutIdeal.τ).loc Cert.KernelWOutIdeal.main_v0)),
      θ_run (Cert.KernelWOutIdeal.defs (F := Ideal)) (onTc (τ := Cert.KernelWOutIdeal.τ) (Cert.KernelWOutIdeal.main (F := Ideal))) ⟨m, fun _ => 0, g⟩ (fun r => ∀ c : Dev Cert.KernelWOutIdeal.nD,
          r.2.mem ((c.tc : Thread Cert.KernelWOutIdeal.nD Cert.KernelWOutIdeal.τ).loc Cert.KernelWOutIdeal.main_v0) = v0 c
          ∧ r.2.mem ((c.tc : Thread Cert.KernelWOutIdeal.nD Cert.KernelWOutIdeal.τ).loc Cert.KernelWOutIdeal.main_arg0) = m ((c.tc : Thread Cert.KernelWOutIdeal.nD Cert.KernelWOutIdeal.τ).loc Cert.KernelWOutIdeal.main_arg0)
          ∧ r.2.mem ((c.tc : Thread Cert.KernelWOutIdeal.nD Cert.KernelWOutIdeal.τ).loc Cert.KernelWOutIdeal.main_arg1) = m ((c.tc : Thread Cert.KernelWOutIdeal.nD Cert.KernelWOutIdeal.τ).loc Cert.KernelWOutIdeal.main_arg1)
          ∧ r.2.mem ((c.tc : Thread Cert.KernelWOutIdeal.nD Cert.KernelWOutIdeal.τ).loc Cert.KernelWOutIdeal.main_arg2) = m ((c.tc : Thread Cert.KernelWOutIdeal.nD Cert.KernelWOutIdeal.τ).loc Cert.KernelWOutIdeal.main_arg2))
      ∧ θ_run (Cert.ReferenceWOutIdeal.defs (F := Ideal)) (onTc (τ := Cert.ReferenceWOutIdeal.τ) (Cert.ReferenceWOutIdeal.main (F := Ideal))) ⟨m', fun _ => 0, g'⟩ (fun r => ∀ c : Dev Cert.ReferenceWOutIdeal.nD,
          r.2.mem ((c.tc : Thread Cert.ReferenceWOutIdeal.nD Cert.ReferenceWOutIdeal.τ).loc Cert.ReferenceWOutIdeal.main_v7) = v0 c
          ∧ r.2.mem ((c.tc : Thread Cert.ReferenceWOutIdeal.nD Cert.ReferenceWOutIdeal.τ).loc Cert.ReferenceWOutIdeal.main_arg0) = m' ((c.tc : Thread Cert.ReferenceWOutIdeal.nD Cert.ReferenceWOutIdeal.τ).loc Cert.ReferenceWOutIdeal.main_arg0)
          ∧ r.2.mem ((c.tc : Thread Cert.ReferenceWOutIdeal.nD Cert.ReferenceWOutIdeal.τ).loc Cert.ReferenceWOutIdeal.main_arg1) = m' ((c.tc : Thread Cert.ReferenceWOutIdeal.nD Cert.ReferenceWOutIdeal.τ).loc Cert.ReferenceWOutIdeal.main_arg1)
          ∧ r.2.mem ((c.tc : Thread Cert.ReferenceWOutIdeal.nD Cert.ReferenceWOutIdeal.τ).loc Cert.ReferenceWOutIdeal.main_arg2) = m' ((c.tc : Thread Cert.ReferenceWOutIdeal.nD Cert.ReferenceWOutIdeal.τ).loc Cert.ReferenceWOutIdeal.main_arg2))

def preserves_KernelY_KernelYIdeal : Prop :=
  True

def algebraic_KernelYIdeal_ReferenceYIdeal [hKernelYIdeal : Cert.KernelYIdeal.Facts] [hReferenceYIdeal : Cert.ReferenceYIdeal.Facts] : Prop :=
  ∀ (m : (ℓ : Loc Cert.KernelYIdeal.nD Cert.KernelYIdeal.τ Cert.KernelYIdeal.sig) → Buf (Elt Ideal) ℓ) (g : Dev Cert.KernelYIdeal.nD → PrngReg)
    (m' : (ℓ : Loc Cert.ReferenceYIdeal.nD Cert.ReferenceYIdeal.τ Cert.ReferenceYIdeal.sig) → Buf (Elt Ideal) ℓ) (g' : Dev Cert.ReferenceYIdeal.nD → PrngReg), Pre_KernelYIdeal m →
    (∀ c : Dev Cert.KernelYIdeal.nD,
      m' ((c.tc : Thread Cert.ReferenceYIdeal.nD Cert.ReferenceYIdeal.τ).loc Cert.ReferenceYIdeal.main_arg0) = m ((c.tc : Thread Cert.KernelYIdeal.nD Cert.KernelYIdeal.τ).loc Cert.KernelYIdeal.main_arg0)
      ∧ m' ((c.tc : Thread Cert.ReferenceYIdeal.nD Cert.ReferenceYIdeal.τ).loc Cert.ReferenceYIdeal.main_arg1) = m ((c.tc : Thread Cert.KernelYIdeal.nD Cert.KernelYIdeal.τ).loc Cert.KernelYIdeal.main_arg1)
      ∧ m' ((c.tc : Thread Cert.ReferenceYIdeal.nD Cert.ReferenceYIdeal.τ).loc Cert.ReferenceYIdeal.main_arg2) = m ((c.tc : Thread Cert.KernelYIdeal.nD Cert.KernelYIdeal.τ).loc Cert.KernelYIdeal.main_arg2)
      ∧ m' ((c.tc : Thread Cert.ReferenceYIdeal.nD Cert.ReferenceYIdeal.τ).loc Cert.ReferenceYIdeal.main_arg3) = m ((c.tc : Thread Cert.KernelYIdeal.nD Cert.KernelYIdeal.τ).loc Cert.KernelYIdeal.main_arg3)) →
    ∃ (v0 : (c : Dev Cert.KernelYIdeal.nD) → Buf (Elt Ideal) ((c.tc : Thread Cert.KernelYIdeal.nD Cert.KernelYIdeal.τ).loc Cert.KernelYIdeal.main_v0_0)) (v1 : (c : Dev Cert.KernelYIdeal.nD) → Buf (Elt Ideal) ((c.tc : Thread Cert.KernelYIdeal.nD Cert.KernelYIdeal.τ).loc Cert.KernelYIdeal.main_v0_1)),
      θ_run (Cert.KernelYIdeal.defs (F := Ideal)) (onTc (τ := Cert.KernelYIdeal.τ) (Cert.KernelYIdeal.main (F := Ideal))) ⟨m, fun _ => 0, g⟩ (fun r => ∀ c : Dev Cert.KernelYIdeal.nD,
          r.2.mem ((c.tc : Thread Cert.KernelYIdeal.nD Cert.KernelYIdeal.τ).loc Cert.KernelYIdeal.main_v0_0) = v0 c
          ∧ r.2.mem ((c.tc : Thread Cert.KernelYIdeal.nD Cert.KernelYIdeal.τ).loc Cert.KernelYIdeal.main_v0_1) = v1 c
          ∧ r.2.mem ((c.tc : Thread Cert.KernelYIdeal.nD Cert.KernelYIdeal.τ).loc Cert.KernelYIdeal.main_arg0) = m ((c.tc : Thread Cert.KernelYIdeal.nD Cert.KernelYIdeal.τ).loc Cert.KernelYIdeal.main_arg0)
          ∧ r.2.mem ((c.tc : Thread Cert.KernelYIdeal.nD Cert.KernelYIdeal.τ).loc Cert.KernelYIdeal.main_arg1) = m ((c.tc : Thread Cert.KernelYIdeal.nD Cert.KernelYIdeal.τ).loc Cert.KernelYIdeal.main_arg1)
          ∧ r.2.mem ((c.tc : Thread Cert.KernelYIdeal.nD Cert.KernelYIdeal.τ).loc Cert.KernelYIdeal.main_arg2) = m ((c.tc : Thread Cert.KernelYIdeal.nD Cert.KernelYIdeal.τ).loc Cert.KernelYIdeal.main_arg2)
          ∧ r.2.mem ((c.tc : Thread Cert.KernelYIdeal.nD Cert.KernelYIdeal.τ).loc Cert.KernelYIdeal.main_arg3) = m ((c.tc : Thread Cert.KernelYIdeal.nD Cert.KernelYIdeal.τ).loc Cert.KernelYIdeal.main_arg3))
      ∧ θ_run (Cert.ReferenceYIdeal.defs (F := Ideal)) (onTc (τ := Cert.ReferenceYIdeal.τ) (Cert.ReferenceYIdeal.main (F := Ideal))) ⟨m', fun _ => 0, g'⟩ (fun r => ∀ c : Dev Cert.ReferenceYIdeal.nD,
          r.2.mem ((c.tc : Thread Cert.ReferenceYIdeal.nD Cert.ReferenceYIdeal.τ).loc Cert.ReferenceYIdeal.main_v14) = v0 c
          ∧ r.2.mem ((c.tc : Thread Cert.ReferenceYIdeal.nD Cert.ReferenceYIdeal.τ).loc Cert.ReferenceYIdeal.main_v18) = v1 c
          ∧ r.2.mem ((c.tc : Thread Cert.ReferenceYIdeal.nD Cert.ReferenceYIdeal.τ).loc Cert.ReferenceYIdeal.main_arg0) = m' ((c.tc : Thread Cert.ReferenceYIdeal.nD Cert.ReferenceYIdeal.τ).loc Cert.ReferenceYIdeal.main_arg0)
          ∧ r.2.mem ((c.tc : Thread Cert.ReferenceYIdeal.nD Cert.ReferenceYIdeal.τ).loc Cert.ReferenceYIdeal.main_arg1) = m' ((c.tc : Thread Cert.ReferenceYIdeal.nD Cert.ReferenceYIdeal.τ).loc Cert.ReferenceYIdeal.main_arg1)
          ∧ r.2.mem ((c.tc : Thread Cert.ReferenceYIdeal.nD Cert.ReferenceYIdeal.τ).loc Cert.ReferenceYIdeal.main_arg2) = m' ((c.tc : Thread Cert.ReferenceYIdeal.nD Cert.ReferenceYIdeal.τ).loc Cert.ReferenceYIdeal.main_arg2)
          ∧ r.2.mem ((c.tc : Thread Cert.ReferenceYIdeal.nD Cert.ReferenceYIdeal.τ).loc Cert.ReferenceYIdeal.main_arg3) = m' ((c.tc : Thread Cert.ReferenceYIdeal.nD Cert.ReferenceYIdeal.τ).loc Cert.ReferenceYIdeal.main_arg3))

def Claim : Prop :=
  ∃ (hKernel : Cert.Kernel.Facts) (hKernelIdeal : Cert.KernelIdeal.Facts) (hReferenceIdeal : Cert.ReferenceIdeal.Facts) (hKernelWIn : Cert.KernelWIn.Facts) (hKernelWInIdeal : Cert.KernelWInIdeal.Facts) (hReferenceWInIdeal : Cert.ReferenceWInIdeal.Facts) (hKernelHFirst : Cert.KernelHFirst.Facts) (hKernelHFirstIdeal : Cert.KernelHFirstIdeal.Facts) (hReferenceHFirstIdeal : Cert.ReferenceHFirstIdeal.Facts) (hKernelHLast : Cert.KernelHLast.Facts) (hKernelHLastIdeal : Cert.KernelHLastIdeal.Facts) (hReferenceHLastIdeal : Cert.ReferenceHLastIdeal.Facts) (hKernelWOut : Cert.KernelWOut.Facts) (hKernelWOutIdeal : Cert.KernelWOutIdeal.Facts) (hReferenceWOutIdeal : Cert.ReferenceWOutIdeal.Facts) (hKernelY : Cert.KernelY.Facts) (hKernelYIdeal : Cert.KernelYIdeal.Facts) (hReferenceYIdeal : Cert.ReferenceYIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_KernelWIn (hKernelWIn := hKernelWIn)
    ∧ quiescent_KernelWInIdeal (hKernelWInIdeal := hKernelWInIdeal)
    ∧ quiescent_ReferenceWInIdeal (hReferenceWInIdeal := hReferenceWInIdeal)
    ∧ quiescent_KernelHFirst (hKernelHFirst := hKernelHFirst)
    ∧ quiescent_KernelHFirstIdeal (hKernelHFirstIdeal := hKernelHFirstIdeal)
    ∧ quiescent_ReferenceHFirstIdeal (hReferenceHFirstIdeal := hReferenceHFirstIdeal)
    ∧ quiescent_KernelHLast (hKernelHLast := hKernelHLast)
    ∧ quiescent_KernelHLastIdeal (hKernelHLastIdeal := hKernelHLastIdeal)
    ∧ quiescent_ReferenceHLastIdeal (hReferenceHLastIdeal := hReferenceHLastIdeal)
    ∧ quiescent_KernelWOut (hKernelWOut := hKernelWOut)
    ∧ quiescent_KernelWOutIdeal (hKernelWOutIdeal := hKernelWOutIdeal)
    ∧ quiescent_ReferenceWOutIdeal (hReferenceWOutIdeal := hReferenceWOutIdeal)
    ∧ quiescent_KernelY (hKernelY := hKernelY)
    ∧ quiescent_KernelYIdeal (hKernelYIdeal := hKernelYIdeal)
    ∧ quiescent_ReferenceYIdeal (hReferenceYIdeal := hReferenceYIdeal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_KernelWIn_KernelWInIdeal
    ∧ algebraic_KernelWInIdeal_ReferenceWInIdeal (hKernelWInIdeal := hKernelWInIdeal) (hReferenceWInIdeal := hReferenceWInIdeal)
    ∧ preserves_KernelHFirst_KernelHFirstIdeal
    ∧ algebraic_KernelHFirstIdeal_ReferenceHFirstIdeal (hKernelHFirstIdeal := hKernelHFirstIdeal) (hReferenceHFirstIdeal := hReferenceHFirstIdeal)
    ∧ preserves_KernelHLast_KernelHLastIdeal
    ∧ algebraic_KernelHLastIdeal_ReferenceHLastIdeal (hKernelHLastIdeal := hKernelHLastIdeal) (hReferenceHLastIdeal := hReferenceHLastIdeal)
    ∧ preserves_KernelWOut_KernelWOutIdeal
    ∧ algebraic_KernelWOutIdeal_ReferenceWOutIdeal (hKernelWOutIdeal := hKernelWOutIdeal) (hReferenceWOutIdeal := hReferenceWOutIdeal)
    ∧ preserves_KernelY_KernelYIdeal
    ∧ algebraic_KernelYIdeal_ReferenceYIdeal (hKernelYIdeal := hKernelYIdeal) (hReferenceYIdeal := hReferenceYIdeal)
-- ==== Pre_finite_inputs.lean ====
abbrev S1x8192x8192 : Shape := ⟨3, ![1, 8192, 8192]⟩
abbrev S2x1024 : Shape := ⟨2, ![2, 1024]⟩
abbrev S1x128 : Shape := ⟨2, ![1, 128]⟩
abbrev S1x8192x1024 : Shape := ⟨3, ![1, 8192, 1024]⟩
abbrev S_ : Shape := ⟨0, ![]⟩

class Facts : Prop where
  bcast_S_S1x8192x8192 : S_.BroadcastsInDim S1x8192x8192 (![] : Fin 0 → Fin S1x8192x8192.rank)
  bcast_S_S2x1024 : S_.BroadcastsInDim S2x1024 (![] : Fin 0 → Fin S2x1024.rank)
  bcast_S_S1x128 : S_.BroadcastsInDim S1x128 (![] : Fin 0 → Fin S1x128.rank)
  bcast_S_S1x8192x1024 : S_.BroadcastsInDim S1x8192x1024 (![] : Fin 0 → Fin S1x8192x1024.rank)

variable [Facts]

def fn {F : FTy → Type} [FloatOps F] (main_arg0 : FVec F S1x8192x8192 .f32) (main_arg1 : FVec F S2x1024 .f32) (main_arg2 : FVec F S1x128 .f32) (main_arg3 : FVec F S1x8192x1024 .f32) : IVec S1x8192x8192 1 × IVec S2x1024 1 × IVec S1x128 1 × IVec S1x8192x1024 1 :=
  let main_v0 : FVec F S1x8192x8192 .f32 := Host.absf main_arg0
  let main_cst : FVec F S_ .f32 := constant S_ .f32 0x7F800000#32
  let main_v1 : FVec F S1x8192x8192 .f32 := broadcastInDim S1x8192x8192 ![] bcast_S_S1x8192x8192 main_cst
  let main_v2 : IVec S1x8192x8192 1 := cmpf .olt main_v0 main_v1
  let main_v3 : FVec F S2x1024 .f32 := Host.absf main_arg1
  let main_cst_0 : FVec F S_ .f32 := constant S_ .f32 0x7F800000#32
  let main_v4 : FVec F S2x1024 .f32 := broadcastInDim S2x1024 ![] bcast_S_S2x1024 main_cst_0
  let main_v5 : IVec S2x1024 1 := cmpf .olt main_v3 main_v4
  let main_v6 : FVec F S1x128 .f32 := Host.absf main_arg2
  let main_cst_1 : FVec F S_ .f32 := constant S_ .f32 0x7F800000#32
  let main_v7 : FVec F S1x128 .f32 := broadcastInDim S1x128 ![] bcast_S_S1x128 main_cst_1
  let main_v8 : IVec S1x128 1 := cmpf .olt main_v6 main_v7
  let main_v9 : FVec F S1x8192x1024 .f32 := Host.absf main_arg3
  let main_cst_2 : FVec F S_ .f32 := constant S_ .f32 0x7F800000#32
  let main_v10 : FVec F S1x8192x1024 .f32 := broadcastInDim S1x8192x1024 ![] bcast_S_S1x8192x1024 main_cst_2
  let main_v11 : IVec S1x8192x1024 1 := cmpf .olt main_v9 main_v10
  (main_v2, main_v5, main_v8, main_v11)
-- ==== Kernel.lean ====
abbrev S1x8192x8192 : Shape := ⟨3, ![1, 8192, 8192]⟩
abbrev S2x1024 : Shape := ⟨2, ![2, 1024]⟩
abbrev S1x128 : Shape := ⟨2, ![1, 128]⟩
abbrev S1x8192x1024 : Shape := ⟨3, ![1, 8192, 1024]⟩
abbrev S8192x8192 : Shape := ⟨2, ![8192, 8192]⟩
abbrev S8192x8x8x128 : Shape := ⟨4, ![8192, 8, 8, 128]⟩
abbrev S8x8x8192x128 : Shape := ⟨4, ![8, 8, 8192, 128]⟩
abbrev S8192x1024 : Shape := ⟨2, ![8192, 1024]⟩
abbrev S_ : Shape := ⟨0, ![]⟩
abbrev S1024 : Shape := ⟨1, ![1024]⟩
abbrev S1x1024 : Shape := ⟨2, ![1, 1024]⟩
abbrev S8x1x128 : Shape := ⟨3, ![8, 1, 128]⟩
abbrev S8192x8x128 : Shape := ⟨3, ![8192, 8, 128]⟩
abbrev S8x8192x128 : Shape := ⟨3, ![8, 8192, 128]⟩
abbrev S8x127x128 : Shape := ⟨3, ![8, 127, 128]⟩
abbrev S8x128x128 : Shape := ⟨3, ![8, 128, 128]⟩
abbrev S128x8192x1 : Shape := ⟨3, ![128, 8192, 1]⟩
abbrev S8x128x1x128 : Shape := ⟨4, ![8, 128, 1, 128]⟩
abbrev S8x1x8192x128 : Shape := ⟨4, ![8, 1, 8192, 128]⟩
abbrev S8x128x8192x128 : Shape := ⟨4, ![8, 128, 8192, 128]⟩
abbrev S8x128x128x128 : Shape := ⟨4, ![8, 128, 128, 128]⟩
abbrev S128x8x128x128 : Shape := ⟨4, ![128, 8, 128, 128]⟩
abbrev S4x8192x1024 : Shape := ⟨3, ![4, 8192, 1024]⟩
abbrev S1x1x2048x128 : Shape := ⟨4, ![1, 1, 2048, 128]⟩
abbrev S2x128 : Shape := ⟨2, ![2, 128]⟩
abbrev S32x1x128x128 : Shape := ⟨4, ![32, 1, 128, 128]⟩
abbrev S2048x128 : Shape := ⟨2, ![2048, 128]⟩
abbrev S4x2048x128 : Shape := ⟨3, ![4, 2048, 128]⟩
abbrev S1x1x128 : Shape := ⟨3, ![1, 1, 128]⟩
abbrev S1x128x128 : Shape := ⟨3, ![1, 128, 128]⟩
abbrev S128x128 : Shape := ⟨2, ![128, 128]⟩
abbrev S32x64x128 : Shape := ⟨3, ![32, 64, 128]⟩
abbrev S32x1x128 : Shape := ⟨3, ![32, 1, 128]⟩
abbrev S1x1x128x128 : Shape := ⟨4, ![1, 1, 128, 128]⟩
abbrev S64x128 : Shape := ⟨2, ![64, 128]⟩
abbrev S2048 : Shape := ⟨1, ![2048]⟩
abbrev S2048x1 : Shape := ⟨2, ![2048, 1]⟩
abbrev S1x2048x128 : Shape := ⟨3, ![1, 2048, 128]⟩
abbrev S128 : Shape := ⟨1, ![128]⟩
abbrev S32x128 : Shape := ⟨2, ![32, 128]⟩

abbrev nBuf : Space → Nat
  | .hbm => 92
  | .vmem => 22
  | .smem => 0
  | _ => 0

abbrev bufTy : (tb : Table) → Fin (tcTables nBuf tb) → BufTy
  | .hbm, ⟨0, _⟩ => ⟨S1x8192x8192, .f32⟩
  | .hbm, ⟨1, _⟩ => ⟨S2x1024, .f32⟩
  | .hbm, ⟨2, _⟩ => ⟨S1x128, .f32⟩
  | .hbm, ⟨3, _⟩ => ⟨S1x8192x1024, .f32⟩
  | .hbm, ⟨4, _⟩ => ⟨S8192x8192, .f32⟩
  | .hbm, ⟨5, _⟩ => ⟨S8192x8x8x128, .f32⟩
  | .hbm, ⟨6, _⟩ => ⟨S8x8x8192x128, .f32⟩
  | .hbm, ⟨7, _⟩ => ⟨S1x8192x1024, .f32⟩
  | .hbm, ⟨8, _⟩ => ⟨S8192x1024, .f32⟩
  | .hbm, ⟨9, _⟩ => ⟨S_, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S1x1024, .f32⟩
  | .hbm, ⟨15, _⟩ => ⟨S2x1024, .f32⟩
  | .hbm, ⟨16, _⟩ => ⟨S2x1024, .f32⟩
  | .hbm, ⟨17, _⟩ => ⟨S2x1024, .f32⟩
  | .hbm, ⟨18, _⟩ => ⟨S_, .f32⟩
  | .hbm, ⟨19, _⟩ => ⟨S1024, .f32⟩
  | .hbm, ⟨20, _⟩ => ⟨S1x1024, .f32⟩
  | .hbm, ⟨21, _⟩ => ⟨S2x1024, .f32⟩
  | .hbm, ⟨22, _⟩ => ⟨S2x1024, .f32⟩
  | .hbm, ⟨23, _⟩ => ⟨S_, .f32⟩
  | .hbm, ⟨24, _⟩ => ⟨S_, .f32⟩
  | .hbm, ⟨25, _⟩ => ⟨S2x1024, .f32⟩
  | .hbm, ⟨26, _⟩ => ⟨S1x1024, .f32⟩
  | .hbm, ⟨27, _⟩ => ⟨S1024, .f32⟩
  | .hbm, ⟨28, _⟩ => ⟨S8x1x128, .f32⟩
  | .hbm, ⟨29, _⟩ => ⟨S_, .f32⟩
  | .hbm, ⟨30, _⟩ => ⟨S8x1x128, .f32⟩
  | .hbm, ⟨31, _⟩ => ⟨S8x1x128, .f32⟩
  | .hbm, ⟨32, _⟩ => ⟨S8192x8x128, .f32⟩
  | .hbm, ⟨33, _⟩ => ⟨S8x8192x128, .f32⟩
  | .hbm, ⟨34, _⟩ => ⟨S8x8192x128, .f32⟩
  | .hbm, ⟨35, _⟩ => ⟨S8x8192x128, .f32⟩
  | .hbm, ⟨36, _⟩ => ⟨S_, .f32⟩
  | .hbm, ⟨37, _⟩ => ⟨S8x8192x128, .f32⟩
  | .hbm, ⟨38, _⟩ => ⟨S8x8192x128, .f32⟩
  | .hbm, ⟨39, _⟩ => ⟨S_, .f32⟩
  | .hbm, ⟨40, _⟩ => ⟨S8x8192x128, .f32⟩
  | .hbm, ⟨41, _⟩ => ⟨S8x8192x128, .f32⟩
  | .hbm, ⟨42, _⟩ => ⟨S8x8192x128, .f32⟩
  | .hbm, ⟨43, _⟩ => ⟨S8x8192x128, .f32⟩
  | .hbm, ⟨44, _⟩ => ⟨S8x8192x128, .f32⟩
  | .hbm, ⟨45, _⟩ => ⟨S8x8192x128, .f32⟩
  | .hbm, ⟨46, _⟩ => ⟨S_, .f32⟩
  | .hbm, ⟨47, _⟩ => ⟨S8x8192x128, .f32⟩
  | .hbm, ⟨48, _⟩ => ⟨S8x8192x128, .f32⟩
  | .hbm, ⟨49, _⟩ => ⟨S8x8192x128, .f32⟩
  | .hbm, ⟨50, _⟩ => ⟨S_, .f32⟩
  | .hbm, ⟨51, _⟩ => ⟨S_, .f32⟩
  | .hbm, ⟨52, _⟩ => ⟨S8x8192x128, .f32⟩
  | .hbm, ⟨53, _⟩ => ⟨S_, .f32⟩
  | .hbm, ⟨54, _⟩ => ⟨S8x1x128, .f32⟩
  | .hbm, ⟨55, _⟩ => ⟨S8x127x128, .f32⟩
  | .hbm, ⟨56, _⟩ => ⟨S8x128x128, .f32⟩
  | .hbm, ⟨57, _⟩ => ⟨S128x8192x1, .i32⟩
  | .hbm, ⟨58, _⟩ => ⟨S_, .i32⟩
  | .hbm, ⟨59, _⟩ => ⟨S128x8192x1, .i32⟩
  | .hbm, ⟨60, _⟩ => ⟨S128x8192x1, .i32⟩
  | .hbm, ⟨61, _⟩ => ⟨S128x8192x1, .i32⟩
  | .hbm, ⟨62, _⟩ => ⟨S128x8192x1, .i1⟩
  | .hbm, ⟨63, _⟩ => ⟨S8x128x1x128, .f32⟩
  | .hbm, ⟨64, _⟩ => ⟨S8x1x8192x128, .f32⟩
  | .hbm, ⟨65, _⟩ => ⟨S8x128x8192x128, .f32⟩
  | .hbm, ⟨66, _⟩ => ⟨S8x128x8192x128, .f32⟩
  | .hbm, ⟨67, _⟩ => ⟨S8x128x8192x128, .f32⟩
  | .hbm, ⟨68, _⟩ => ⟨S_, .f32⟩
  | .hbm, ⟨69, _⟩ => ⟨S_, .f32⟩
  | .hbm, ⟨70, _⟩ => ⟨S8x128x8192x128, .i1⟩
  | .hbm, ⟨71, _⟩ => ⟨S8x128x8192x128, .f32⟩
  | .hbm, ⟨72, _⟩ => ⟨S8x128x8192x128, .f32⟩
  | .hbm, ⟨73, _⟩ => ⟨S8x128x8192x128, .f32⟩
  | .hbm, ⟨74, _⟩ => ⟨S_, .f32⟩
  | .hbm, ⟨75, _⟩ => ⟨S_, .f32⟩
  | .hbm, ⟨76, _⟩ => ⟨S8x128x8192x128, .i1⟩
  | .hbm, ⟨77, _⟩ => ⟨S8x128x8192x128, .f32⟩
  | .hbm, ⟨78, _⟩ => ⟨S8x128x8192x128, .f32⟩
  | .hbm, ⟨79, _⟩ => ⟨S8x1x8192x128, .f32⟩
  | .hbm, ⟨80, _⟩ => ⟨S8x128x8192x128, .f32⟩
  | .hbm, ⟨81, _⟩ => ⟨S8x128x8192x128, .f32⟩
  | .hbm, ⟨82, _⟩ => ⟨S1x8192x1024, .f32⟩
  | .hbm, ⟨83, _⟩ => ⟨S8192x1024, .f32⟩
  | .hbm, ⟨84, _⟩ => ⟨S8192x8x128, .f32⟩
  | .hbm, ⟨85, _⟩ => ⟨S8x8192x128, .f32⟩
  | .hbm, ⟨86, _⟩ => ⟨S8x128x128x128, .f32⟩
  | .hbm, ⟨87, _⟩ => ⟨S128x8x128x128, .f32⟩
  | .hbm, ⟨88, _⟩ => ⟨S8192x1024, .f32⟩
  | .hbm, ⟨89, _⟩ => ⟨S4x8192x1024, .bf16⟩
  | .hbm, ⟨90, _⟩ => ⟨S2x1024, .f32⟩
  | .hbm, ⟨91, _⟩ => ⟨S8x1x128, .f32⟩
  | .local _ .vmem, ⟨0, _⟩ => ⟨S1x1x2048x128, .f32⟩
  | .local _ .vmem, ⟨1, _⟩ => ⟨S1x1x2048x128, .f32⟩
  | .local _ .vmem, ⟨2, _⟩ => ⟨S1x1x2048x128, .f32⟩
  | .local _ .vmem, ⟨3, _⟩ => ⟨S1x1x2048x128, .f32⟩
  | .local _ .vmem, ⟨4, _⟩ => ⟨S1x1x2048x128, .f32⟩
  | .local _ .vmem, ⟨5, _⟩ => ⟨S1x1x2048x128, .f32⟩
  | .local _ .vmem, ⟨6, _⟩ => ⟨S1x1x2048x128, .f32⟩
  | .local _ .vmem, ⟨7, _⟩ => ⟨S1x1x2048x128, .f32⟩
  | .local _ .vmem, ⟨8, _⟩ => ⟨S2x128, .f32⟩
  | .local _ .vmem, ⟨9, _⟩ => ⟨S2x128, .f32⟩
  | .local _ .vmem, ⟨10, _⟩ => ⟨S1x128, .f32⟩
  | .local _ .vmem, ⟨11, _⟩ => ⟨S32x1x128x128, .f32⟩
  | .local _ .vmem, ⟨12, _⟩ => ⟨S32x1x128x128, .f32⟩
  | .local _ .vmem, ⟨13, _⟩ => ⟨S2048x128, .f32⟩
  | .local _ .vmem, ⟨14, _⟩ => ⟨S2048x128, .f32⟩
  | .local _ .vmem, ⟨15, _⟩ => ⟨S4x2048x128, .bf16⟩
  | .local _ .vmem, ⟨16, _⟩ => ⟨S4x2048x128, .bf16⟩
  | .local _ .vmem, ⟨17, _⟩ => ⟨S2x128, .f32⟩
  | .local _ .vmem, ⟨18, _⟩ => ⟨S2x128, .f32⟩
  | .local _ .vmem, ⟨19, _⟩ => ⟨S1x1x128, .f32⟩
  | .local _ .vmem, ⟨20, _⟩ => ⟨S1x1x128, .f32⟩
  | .local _ .vmem, ⟨21, _⟩ => ⟨S1x128x128, .f32⟩
  | _, _ => ⟨S1x8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_call0_cst : Ref sig .tc := ⟨.hbm, 23, rfl⟩
abbrev main_call0_call0_v0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_call1_call0_cst : Ref sig .tc := ⟨.hbm, 50, rfl⟩
abbrev main_call1_call0_v0 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_c : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_7 : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_v51 : Ref sig .tc := ⟨.hbm, 72, rfl⟩
abbrev main_v52 : Ref sig .tc := ⟨.hbm, 73, rfl⟩
abbrev main_cst_8 : Ref sig .tc := ⟨.hbm, 74, rfl⟩
abbrev main_call3_v0 : Ref sig .tc := ⟨.hbm, 75, rfl⟩
abbrev main_call3_v1 : Ref sig .tc := ⟨.hbm, 76, rfl⟩
abbrev main_call3_v2 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64_0 : Ref sig .tc := ⟨.hbm, 89, rfl⟩
abbrev main_v64_1 : Ref sig .tc := ⟨.hbm, 90, rfl⟩
abbrev main_v64_2 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  let c0_i32_1 : BitVec 32 := 0#32
  ![c0_i32.toNat, arg0.toNat, v0.toNat, c0_i32_0.toNat]

def cc0_transform_1 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c1_i32 : BitVec 32 := 1#32
  let c0_i32 : BitVec 32 := 0#32
  let c0_i32_0 : BitVec 32 := 0#32
  ![c1_i32.toNat, arg0.toNat, v0.toNat, c0_i32.toNat]

def cc0_transform_2 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c2_i32 : BitVec 32 := 2#32
  let c0_i32 : BitVec 32 := 0#32
  let c0_i32_0 : BitVec 32 := 0#32
  ![c2_i32.toNat, arg0.toNat, v0.toNat, c0_i32.toNat]

def cc0_transform_3 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c3_i32_0 : BitVec 32 := 3#32
  let c0_i32 : BitVec 32 := 0#32
  let c0_i32_1 : BitVec 32 := 0#32
  ![c3_i32_0.toNat, arg0.toNat, v0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  let c0_i32_1 : BitVec 32 := 0#32
  ![v0.toNat, arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  ![v0.toNat, arg0.toNat]

def cc0_transform_8 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![c0_i32.toNat, v0.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S32x1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4x2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceIdeal.lean ====
abbrev S1x8192x8192 : Shape := ⟨3, ![1, 8192, 8192]⟩
abbrev S2x1024 : Shape := ⟨2, ![2, 1024]⟩
abbrev S1x128 : Shape := ⟨2, ![1, 128]⟩
abbrev S1x8192x1024 : Shape := ⟨3, ![1, 8192, 1024]⟩
abbrev S8192x1024 : Shape := ⟨2, ![8192, 1024]⟩
abbrev S1x1x128 : Shape := ⟨3, ![1, 1, 128]⟩
abbrev S8x1x128 : Shape := ⟨3, ![8, 1, 128]⟩
abbrev S_ : Shape := ⟨0, ![]⟩
abbrev S1024 : Shape := ⟨1, ![1024]⟩
abbrev S1x1024 : Shape := ⟨2, ![1, 1024]⟩
abbrev S8192x8x128 : Shape := ⟨3, ![8192, 8, 128]⟩
abbrev S8x8192x128 : Shape := ⟨3, ![8, 8192, 128]⟩
abbrev S8192x8192 : Shape := ⟨2, ![8192, 8192]⟩
abbrev S8x8192x1x128 : Shape := ⟨4, ![8, 8192, 1, 128]⟩
abbrev S8x1x8192x128 : Shape := ⟨4, ![8, 1, 8192, 128]⟩
abbrev S8x8192x8192x128 : Shape := ⟨4, ![8, 8192, 8192, 128]⟩
abbrev S8192x8192x1 : Shape := ⟨3, ![8192, 8192, 1]⟩
abbrev S8x8192x8192 : Shape := ⟨3, ![8, 8192, 8192]⟩
abbrev S8x8192 : Shape := ⟨2, ![8, 8192]⟩
abbrev S8x8192x1 : Shape := ⟨3, ![8, 8192, 1]⟩
abbrev S8x128 : Shape := ⟨2, ![8, 128]⟩
abbrev S8x128x8192 : Shape := ⟨3, ![8, 128, 8192]⟩
abbrev S4x8192x1024 : Shape := ⟨3, ![4, 8192, 1024]⟩

abbrev nBuf : Space → Nat
  | .hbm => 297
  | .vmem => 0
  | .smem => 0
  | _ => 0

abbrev hbmTy0_0 (i : Nat) : BufTy := match i % 128 with
  | 0 => ⟨S1x8192x8192, .f32⟩
  | 1 => ⟨S2x1024, .f32⟩
  | 2 => ⟨S1x128, .f32⟩
  | 3 => ⟨S1x8192x1024, .f32⟩
  | 4 => ⟨S1x8192x1024, .f32⟩
  | 5 => ⟨S8192x1024, .f32⟩
  | 6 => ⟨S1x8192x1024, .f32⟩
  | 7 => ⟨S8192x1024, .f32⟩
  | 8 => ⟨S1x8192x1024, .f32⟩
  | 9 => ⟨S8192x1024, .f32⟩
  | 10 => ⟨S1x8192x1024, .f32⟩
  | 11 => ⟨S8192x1024, .f32⟩
  | 12 => ⟨S1x1x128, .f32⟩
  | 13 => ⟨S8x1x128, .f32⟩
  | 14 => ⟨S_, .f32⟩
  | 15 => ⟨S1024, .f32⟩
  | 16 => ⟨S1x1024, .f32⟩
  | 17 => ⟨S2x1024, .f32⟩
  | 18 => ⟨S2x1024, .i1⟩
  | 19 => ⟨S2x1024, .f32⟩
  | 20 => ⟨S_, .f32⟩
  | 21 => ⟨S1024, .f32⟩
  | 22 => ⟨S_, .f32⟩
  | 23 => ⟨S1024, .f32⟩
  | 24 => ⟨S1024, .f32⟩
  | 25 => ⟨S_, .f32⟩
  | 26 => ⟨S1024, .f32⟩
  | 27 => ⟨S1024, .i1⟩
  | 28 => ⟨S_, .f32⟩
  | 29 => ⟨S1024, .f32⟩
  | 30 => ⟨S1024, .i1⟩
  | 31 => ⟨S_, .f32⟩
  | 32 => ⟨S1024, .f32⟩
  | 33 => ⟨S_, .f32⟩
  | 34 => ⟨S1024, .f32⟩
  | 35 => ⟨S_, .f32⟩
  | 36 => ⟨S1024, .f32⟩
  | 37 => ⟨S1024, .f32⟩
  | 38 => ⟨S1024, .f32⟩
  | 39 => ⟨S1x1024, .f32⟩
  | 40 => ⟨S2x1024, .f32⟩
  | 41 => ⟨S2x1024, .f32⟩
  | 42 => ⟨S2x1024, .f32⟩
  | 43 => ⟨S_, .f32⟩
  | 44 => ⟨S1024, .f32⟩
  | 45 => ⟨S1x1024, .f32⟩
  | 46 => ⟨S2x1024, .f32⟩
  | 47 => ⟨S2x1024, .f32⟩
  | 48 => ⟨S1x1024, .f32⟩
  | 49 => ⟨S_, .f32⟩
  | 50 => ⟨S1x1024, .f32⟩
  | 51 => ⟨S1x1024, .f32⟩
  | 52 => ⟨S_, .f32⟩
  | 53 => ⟨S_, .f32⟩
  | 54 => ⟨S2x1024, .f32⟩
  | 55 => ⟨S1x1024, .f32⟩
  | 56 => ⟨S1024, .f32⟩
  | 57 => ⟨S8x1x128, .f32⟩
  | 58 => ⟨S_, .f32⟩
  | 59 => ⟨S8x1x128, .f32⟩
  | 60 => ⟨S8x1x128, .f32⟩
  | 61 => ⟨S8192x8x128, .f32⟩
  | 62 => ⟨S8x8192x128, .f32⟩
  | 63 => ⟨S8x8192x128, .f32⟩
  | 64 => ⟨S8x8192x128, .f32⟩
  | 65 => ⟨S_, .f32⟩
  | 66 => ⟨S8x8192x128, .f32⟩
  | 67 => ⟨S8x8192x128, .f32⟩
  | 68 => ⟨S_, .f32⟩
  | 69 => ⟨S8x8192x128, .f32⟩
  | 70 => ⟨S8x8192x128, .f32⟩
  | 71 => ⟨S_, .f32⟩
  | 72 => ⟨S8x8192x128, .f32⟩
  | 73 => ⟨S8x8192x128, .f32⟩
  | 74 => ⟨S8x8192x128, .f32⟩
  | 75 => ⟨S8x8192x128, .f32⟩
  | 76 => ⟨S8x8192x128, .f32⟩
  | 77 => ⟨S8x8192x128, .f32⟩
  | 78 => ⟨S8x8192x128, .f32⟩
  | 79 => ⟨S_, .f32⟩
  | 80 => ⟨S8x8192x128, .f32⟩
  | 81 => ⟨S8x8192x128, .f32⟩
  | 82 => ⟨S8x8192x128, .f32⟩
  | 83 => ⟨S8192x8x128, .f32⟩
  | 84 => ⟨S8x8192x128, .f32⟩
  | 85 => ⟨S8x8192x128, .f32⟩
  | 86 => ⟨S8x8192x128, .f32⟩
  | 87 => ⟨S_, .f32⟩
  | 88 => ⟨S8x8192x128, .f32⟩
  | 89 => ⟨S8x8192x128, .f32⟩
  | 90 => ⟨S_, .f32⟩
  | 91 => ⟨S8x8192x128, .f32⟩
  | 92 => ⟨S8x8192x128, .f32⟩
  | 93 => ⟨S_, .f32⟩
  | 94 => ⟨S8x8192x128, .f32⟩
  | 95 => ⟨S8x8192x128, .f32⟩
  | 96 => ⟨S8x8192x128, .f32⟩
  | 97 => ⟨S8x8192x128, .f32⟩
  | 98 => ⟨S8192x8x128, .f32⟩
  | 99 => ⟨S8x8192x128, .f32⟩
  | 100 => ⟨S_, .f32⟩
  | 101 => ⟨S_, .f32⟩
  | 102 => ⟨S8x8192x128, .f32⟩
  | 103 => ⟨S8192x8192, .i32⟩
  | 104 => ⟨S8192x8192, .i32⟩
  | 105 => ⟨S8192x8192, .i1⟩
  | 106 => ⟨S8x8192x1x128, .f32⟩
  | 107 => ⟨S8x1x8192x128, .f32⟩
  | 108 => ⟨S8x8192x8192x128, .f32⟩
  | 109 => ⟨S8x8192x8192x128, .f32⟩
  | 110 => ⟨S8x8192x8192x128, .f32⟩
  | 111 => ⟨S8192x8192x1, .i1⟩
  | 112 => ⟨S_, .f32⟩
  | 113 => ⟨S_, .f32⟩
  | 114 => ⟨S8x8192x8192x128, .i1⟩
  | 115 => ⟨S8x8192x8192x128, .f32⟩
  | 116 => ⟨S8x8192x8192x128, .f32⟩
  | 117 => ⟨S_, .f32⟩
  | 118 => ⟨S8x8192x8192x128, .f32⟩
  | 119 => ⟨S8x8192x8192x128, .f32⟩
  | 120 => ⟨S8x8192x1x128, .f32⟩
  | 121 => ⟨S8x1x8192x128, .f32⟩
  | 122 => ⟨S8x8192x8192x128, .f32⟩
  | 123 => ⟨S8x8192x8192x128, .f32⟩
  | 124 => ⟨S8x8192x8192x128, .f32⟩
  | 125 => ⟨S8x8192x8192x128, .f32⟩
  | 126 => ⟨S_, .f32⟩
  | 127 => ⟨S8x8192x8192, .f32⟩
  | _ => ⟨S1x8192x8192, .f32⟩

abbrev hbmTy0_1 (i : Nat) : BufTy := match i % 128 with
  | 0 => ⟨S_, .f32⟩
  | 1 => ⟨S_, .f32⟩
  | 2 => ⟨S8x8192x8192, .i1⟩
  | 3 => ⟨S8x8192x8192, .f32⟩
  | 4 => ⟨S8x8192x8192, .f32⟩
  | 5 => ⟨S_, .f32⟩
  | 6 => ⟨S8x8192x8192, .f32⟩
  | 7 => ⟨S8x8192x128, .f32⟩
  | 8 => ⟨S8x8192x128, .f32⟩
  | 9 => ⟨S_, .f32⟩
  | 10 => ⟨S8x8192, .f32⟩
  | 11 => ⟨S8x8192x1, .f32⟩
  | 12 => ⟨S_, .f32⟩
  | 13 => ⟨S8x8192x1, .f32⟩
  | 14 => ⟨S8x8192x1, .f32⟩
  | 15 => ⟨S_, .f32⟩
  | 16 => ⟨S8x8192x1, .f32⟩
  | 17 => ⟨S8x8192x1, .f32⟩
  | 18 => ⟨S8x8192x1, .f32⟩
  | 19 => ⟨S8x8192x1, .f32⟩
  | 20 => ⟨S_, .f32⟩
  | 21 => ⟨S8x8192x1, .f32⟩
  | 22 => ⟨S8x8192x1, .f32⟩
  | 23 => ⟨S8x8192x128, .f32⟩
  | 24 => ⟨S8x8192x128, .f32⟩
  | 25 => ⟨S8x8192x128, .f32⟩
  | 26 => ⟨S8x8192x128, .f32⟩
  | 27 => ⟨S8192x8x128, .f32⟩
  | 28 => ⟨S8192x1024, .f32⟩
  | 29 => ⟨S8192x1024, .f32⟩
  | 30 => ⟨S8192x1024, .f32⟩
  | 31 => ⟨S_, .f32⟩
  | 32 => ⟨S8192x1024, .f32⟩
  | 33 => ⟨S8192x1024, .f32⟩
  | 34 => ⟨S_, .f32⟩
  | 35 => ⟨S8192x1024, .f32⟩
  | 36 => ⟨S8192x1024, .f32⟩
  | 37 => ⟨S_, .f32⟩
  | 38 => ⟨S8192x1024, .f32⟩
  | 39 => ⟨S8192x1024, .f32⟩
  | 40 => ⟨S8192x1024, .f32⟩
  | 41 => ⟨S8192x1024, .f32⟩
  | 42 => ⟨S8192x1024, .f32⟩
  | 43 => ⟨S8192x1024, .f32⟩
  | 44 => ⟨S8192x1024, .f32⟩
  | 45 => ⟨S8192x1024, .f32⟩
  | 46 => ⟨S8192x1024, .f32⟩
  | 47 => ⟨S8192x1024, .f32⟩
  | 48 => ⟨S8192x1024, .f32⟩
  | 49 => ⟨S8192x1024, .f32⟩
  | 50 => ⟨S8192x8x128, .f32⟩
  | 51 => ⟨S8x8192x128, .f32⟩
  | 52 => ⟨S8x8192x128, .f32⟩
  | 53 => ⟨S_, .f32⟩
  | 54 => ⟨S8x128, .f32⟩
  | 55 => ⟨S8x1x128, .f32⟩
  | 56 => ⟨S8x8192x128, .f32⟩
  | 57 => ⟨S8x8192x128, .f32⟩
  | 58 => ⟨S8x8192x128, .f32⟩
  | 59 => ⟨S_, .f32⟩
  | 60 => ⟨S8x8192, .f32⟩
  | 61 => ⟨S8x8192x1, .f32⟩
  | 62 => ⟨S8x8192x128, .f32⟩
  | 63 => ⟨S8x8192x128, .f32⟩
  | 64 => ⟨S8x8192x1, .f32⟩
  | 65 => ⟨S_, .f32⟩
  | 66 => ⟨S8x8192x1, .f32⟩
  | 67 => ⟨S8x8192x1, .f32⟩
  | 68 => ⟨S_, .f32⟩
  | 69 => ⟨S8x8192, .f32⟩
  | 70 => ⟨S8x8192x128, .f32⟩
  | 71 => ⟨S8x8192x128, .f32⟩
  | 72 => ⟨S8x8192x128, .f32⟩
  | 73 => ⟨S8x8192x128, .f32⟩
  | 74 => ⟨S8x8192x128, .f32⟩
  | 75 => ⟨S8x128x8192, .f32⟩
  | 76 => ⟨S8x8192x128, .f32⟩
  | 77 => ⟨S8x8192x8192, .f32⟩
  | 78 => ⟨S_, .f32⟩
  | 79 => ⟨S8x8192x8192, .f32⟩
  | 80 => ⟨S8x8192x8192, .f32⟩
  | 81 => ⟨S8x8192x8192x128, .f32⟩
  | 82 => ⟨S8x8192x8192x128, .f32⟩
  | 83 => ⟨S8x8192x8192x128, .f32⟩
  | 84 => ⟨S8x8192x8192x128, .f32⟩
  | 85 => ⟨S8x8192x8192x128, .f32⟩
  | 86 => ⟨S_, .f32⟩
  | 87 => ⟨S8x8192x128, .f32⟩
  | 88 => ⟨S8x1x8192x128, .f32⟩
  | 89 => ⟨S8x8192x8192x128, .f32⟩
  | 90 => ⟨S8x8192x8192x128, .f32⟩
  | 91 => ⟨S_, .f32⟩
  | 92 => ⟨S8x8192x128, .f32⟩
  | 93 => ⟨S8x8192x1x128, .f32⟩
  | 94 => ⟨S_, .f32⟩
  | 95 => ⟨S8x8192x128, .f32⟩
  | 96 => ⟨S_, .f32⟩
  | 97 => ⟨S8x8192x128, .f32⟩
  | 98 => ⟨S8x8192x8192x128, .f32⟩
  | 99 => ⟨S_, .f32⟩
  | 100 => ⟨S8x8192x8192x128, .f32⟩
  | 101 => ⟨S8x8192x8192x128, .f32⟩
  | 102 => ⟨S_, .f32⟩
  | 103 => ⟨S8x8192x128, .f32⟩
  | 104 => ⟨S8x8192x1x128, .f32⟩
  | 105 => ⟨S8x8192x8192x128, .f32⟩
  | 106 => ⟨S_, .f32⟩
  | 107 => ⟨S8x8192x128, .f32⟩
  | 108 => ⟨S8x1x8192x128, .f32⟩
  | 109 => ⟨S_, .f32⟩
  | 110 => ⟨S8x8192x128, .f32⟩
  | 111 => ⟨S_, .f32⟩
  | 112 => ⟨S8x8192x128, .f32⟩
  | 113 => ⟨S8x8192x128, .f32⟩
  | 114 => ⟨S_, .f32⟩
  | 115 => ⟨S_, .f32⟩
  | 116 => ⟨S8x8192x128, .f32⟩
  | 117 => ⟨S8192x8x128, .f32⟩
  | 118 => ⟨S8192x1024, .f32⟩
  | 119 => ⟨S8x8192x128, .f32⟩
  | 120 => ⟨S8x8192x128, .f32⟩
  | 121 => ⟨S8x8192x128, .f32⟩
  | 122 => ⟨S8x8192x128, .f32⟩
  | 123 => ⟨S8192x8x128, .f32⟩
  | 124 => ⟨S8192x1024, .f32⟩
  | 125 => ⟨S8x8192x128, .f32⟩
  | 126 => ⟨S8x8192x128, .f32⟩
  | 127 => ⟨S8x8192x128, .f32⟩
  | _ => ⟨S1x8192x8192, .f32⟩

abbrev hbmTy0_2 (i : Nat) : BufTy := match i % 128 with
  | 0 => ⟨S_, .f32⟩
  | 1 => ⟨S8x128, .f32⟩
  | 2 => ⟨S8x1x128, .f32⟩
  | 3 => ⟨S8x8192x128, .f32⟩
  | 4 => ⟨S8x8192x128, .f32⟩
  | 5 => ⟨S8x8192x128, .f32⟩
  | 6 => ⟨S_, .f32⟩
  | 7 => ⟨S8x128, .f32⟩
  | 8 => ⟨S8x1x128, .f32⟩
  | 9 => ⟨S8x8192x128, .f32⟩
  | 10 => ⟨S8192x8x128, .f32⟩
  | 11 => ⟨S8192x1024, .f32⟩
  | 12 => ⟨S8x1x128, .f32⟩
  | 13 => ⟨S8x1x128, .f32⟩
  | 14 => ⟨S1024, .f32⟩
  | 15 => ⟨S1x1024, .f32⟩
  | 16 => ⟨S_, .f32⟩
  | 17 => ⟨S2x1024, .f32⟩
  | 18 => ⟨S_, .f32⟩
  | 19 => ⟨S_, .f32⟩
  | 20 => ⟨S2x1024, .f32⟩
  | 21 => ⟨S2x1024, .f32⟩
  | 22 => ⟨S2x1024, .f32⟩
  | 23 => ⟨S2x1024, .f32⟩
  | 24 => ⟨S_, .f32⟩
  | 25 => ⟨S1024, .f32⟩
  | 26 => ⟨S1x1024, .f32⟩
  | 27 => ⟨S1x1024, .f32⟩
  | 28 => ⟨S2x1024, .f32⟩
  | 29 => ⟨S2x1024, .f32⟩
  | 30 => ⟨S_, .f32⟩
  | 31 => ⟨S1024, .f32⟩
  | 32 => ⟨S2x1024, .f32⟩
  | 33 => ⟨S2x1024, .f32⟩
  | 34 => ⟨S2x1024, .f32⟩
  | 35 => ⟨S1x8192x1024, .f32⟩
  | 36 => ⟨S1x8192x1024, .f32⟩
  | 37 => ⟨S1x8192x1024, .f32⟩
  | 38 => ⟨S1x8192x1024, .f32⟩
  | 39 => ⟨S4x8192x1024, .f32⟩
  | 40 => ⟨S4x8192x1024, .bf16⟩
  | _ => ⟨S1x8192x8192, .f32⟩

abbrev hbmTy (i : Nat) : BufTy := match i / 128 with
  | 0 => hbmTy0_0 i
  | 1 => hbmTy0_1 i
  | 2 => hbmTy0_2 i
  | _ => ⟨S1x8192x8192, .f32⟩

abbrev bufTy : (tb : Table) → Fin (tcTables nBuf tb) → BufTy
  | .hbm, ⟨i, _⟩ => hbmTy i
  | _, _ => ⟨S1x8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_8 : Ref sig .tc := ⟨.hbm, 49, rfl⟩
abbrev main_v36 : Ref sig .tc := ⟨.hbm, 50, rfl⟩
abbrev main_v37 : Ref sig .tc := ⟨.hbm, 51, rfl⟩
abbrev main_call0_call0_cst : Ref sig .tc := ⟨.hbm, 52, rfl⟩
abbrev main_call0_call0_v0 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_10 : Ref sig .tc := ⟨.hbm, 65, rfl⟩
abbrev main_v48 : Ref sig .tc := ⟨.hbm, 66, rfl⟩
abbrev main_v49 : Ref sig .tc := ⟨.hbm, 67, rfl⟩
abbrev main_cst_11 : Ref sig .tc := ⟨.hbm, 68, rfl⟩
abbrev main_v50 : Ref sig .tc := ⟨.hbm, 69, rfl⟩
abbrev main_v51 : Ref sig .tc := ⟨.hbm, 70, rfl⟩
abbrev main_cst_12 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_13 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_call1_v0 : Ref sig .tc := ⟨.hbm, 85, rfl⟩
abbrev main_call1_v1 : Ref sig .tc := ⟨.hbm, 86, rfl⟩
abbrev main_call1_cst : Ref sig .tc := ⟨.hbm, 87, rfl⟩
abbrev main_call1_v2 : Ref sig .tc := ⟨.hbm, 88, rfl⟩
abbrev main_call1_v3 : Ref sig .tc := ⟨.hbm, 89, rfl⟩
abbrev main_call1_cst_0 : Ref sig .tc := ⟨.hbm, 90, rfl⟩
abbrev main_call1_v4 : Ref sig .tc := ⟨.hbm, 91, rfl⟩
abbrev main_v64_2 : Ref sig .tc := ⟨.hbm, 92, rfl⟩
abbrev main_call1_cst_1 : Ref sig .tc := ⟨.hbm, 93, rfl⟩
abbrev main_call1_v6 : Ref sig .tc := ⟨.hbm, 94, rfl⟩
abbrev main_call1_v7 : Ref sig .tc := ⟨.hbm, 95, rfl⟩
abbrev main_v64_1 : Ref sig .tc := ⟨.hbm, 96, rfl⟩
abbrev main_v64_0 : Ref sig .tc := ⟨.hbm, 97, rfl⟩
abbrev main_v65 : Ref sig .tc := ⟨.hbm, 98, rfl⟩
abbrev main_v66 : Ref sig .tc := ⟨.hbm, 99, rfl⟩
abbrev main_call2_call0_cst : Ref sig .tc := ⟨.hbm, 100, rfl⟩
abbrev main_call2_call0_v0 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_14 : Ref sig .tc := ⟨.hbm, 112, rfl⟩
abbrev main_call3_v0 : Ref sig .tc := ⟨.hbm, 113, rfl⟩
abbrev main_v77_1 : Ref sig .tc := ⟨.hbm, 114, rfl⟩
abbrev main_call3_v2 : Ref sig .tc := ⟨.hbm, 115, rfl⟩
abbrev main_v77_0 : Ref sig .tc := ⟨.hbm, 116, rfl⟩
abbrev main_call3_cst : Ref sig .tc := ⟨.hbm, 117, rfl⟩
abbrev main_v77_2 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_cst_15 : Ref sig .tc := ⟨.hbm, 126, rfl⟩
abbrev main_v85 : Ref sig .tc := ⟨.hbm, 127, rfl⟩
abbrev main_cst_16 : Ref sig .tc := ⟨.hbm, 128, rfl⟩
abbrev main_call4_v0 : Ref sig .tc := ⟨.hbm, 129, rfl⟩
abbrev main_v86_1 : Ref sig .tc := ⟨.hbm, 130, rfl⟩
abbrev main_call4_v2 : Ref sig .tc := ⟨.hbm, 131, rfl⟩
abbrev main_v86_0 : Ref sig .tc := ⟨.hbm, 132, rfl⟩
abbrev main_call4_cst : Ref sig .tc := ⟨.hbm, 133, rfl⟩
abbrev main_v86_2 : Ref sig .tc := ⟨.hbm, 134, rfl⟩
abbrev main_v87 : Ref sig .tc := ⟨.hbm, 135, rfl⟩
abbrev main_v88 : Ref sig .tc := ⟨.hbm, 136, rfl⟩
abbrev main_cst_17 : Ref sig .tc := ⟨.hbm, 137, rfl⟩
abbrev main_v89 : Ref sig .tc := ⟨.hbm, 138, rfl⟩
abbrev main_v90 : Ref sig .tc := ⟨.hbm, 139, rfl⟩
abbrev main_cst_18 : Ref sig .tc := ⟨.hbm, 140, rfl⟩
abbrev main_v91 : Ref sig .tc := ⟨.hbm, 141, rfl⟩
abbrev main_v92 : Ref sig .tc := ⟨.hbm, 142, rfl⟩
abbrev main_cst_19 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_cst_20 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_call5_v0 : Ref sig .tc := ⟨.hbm, 157, rfl⟩
abbrev main_call5_v1 : Ref sig .tc := ⟨.hbm, 158, rfl⟩
abbrev main_call5_cst : Ref sig .tc := ⟨.hbm, 159, rfl⟩
abbrev main_call5_v2 : Ref sig .tc := ⟨.hbm, 160, rfl⟩
abbrev main_call5_v3 : Ref sig .tc := ⟨.hbm, 161, rfl⟩
abbrev main_call5_cst_0 : Ref sig .tc := ⟨.hbm, 162, rfl⟩
abbrev main_call5_v4 : Ref sig .tc := ⟨.hbm, 163, rfl⟩
abbrev main_v105_2 : Ref sig .tc := ⟨.hbm, 164, rfl⟩
abbrev main_call5_cst_1 : Ref sig .tc := ⟨.hbm, 165, rfl⟩
abbrev main_call5_v6 : Ref sig .tc := ⟨.hbm, 166, rfl⟩
abbrev main_call5_v7 : Ref sig .tc := ⟨.hbm, 167, rfl⟩
abbrev main_v105_1 : Ref sig .tc := ⟨.hbm, 168, rfl⟩
abbrev main_v105_0 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_call6_v0 : Ref sig .tc := ⟨.hbm, 174, rfl⟩
abbrev main_call6_v1 : Ref sig .tc := ⟨.hbm, 175, rfl⟩
abbrev main_call6_v2 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_cst_21 : Ref sig .tc := ⟨.hbm, 181, rfl⟩
abbrev main_v114 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_v118 : Ref sig .tc := ⟨.hbm, 186, rfl⟩
abbrev main_cst_22 : Ref sig .tc := ⟨.hbm, 187, rfl⟩
abbrev main_v119 : Ref sig .tc := ⟨.hbm, 188, rfl⟩
abbrev main_v120 : Ref sig .tc := ⟨.hbm, 189, rfl⟩
abbrev main_v121 : Ref sig .tc := ⟨.hbm, 190, rfl⟩
abbrev main_v122 : Ref sig .tc := ⟨.hbm, 191, rfl⟩
abbrev main_v123 : Ref sig .tc := ⟨.hbm, 192, rfl⟩
abbrev main_cst_23 : Ref sig .tc := ⟨.hbm, 193, rfl⟩
abbrev main_v124 : Ref sig .tc := ⟨.hbm, 194, rfl⟩
abbrev main_v125 : Ref sig .tc := ⟨.hbm, 195, rfl⟩
abbrev main_cst_24 : Ref sig .tc := ⟨.hbm, 196, rfl⟩
abbrev main_v126 : Ref sig .tc := ⟨.hbm, 197, rfl⟩
abbrev main_v127 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_v131 : Ref sig .tc := ⟨.hbm, 202, rfl⟩
abbrev main_v132 : Ref sig .tc := ⟨.hbm, 203, rfl⟩
abbrev main_v133 : Ref sig .tc := ⟨.hbm, 204, rfl⟩
abbrev main_v134 : Ref sig .tc := ⟨.hbm, 205, rfl⟩
abbrev main_call7_cst : Ref sig .tc := ⟨.hbm, 206, rfl⟩
abbrev main_call7_v0 : Ref sig .tc := ⟨.hbm, 207, rfl⟩
abbrev main_v135 : Ref sig .tc := ⟨.hbm, 208, rfl⟩
abbrev main_v136 : Ref sig .tc := ⟨.hbm, 209, rfl⟩
abbrev main_v137 : Ref sig .tc := ⟨.hbm, 210, rfl⟩
abbrev main_v138 : Ref sig .tc := ⟨.hbm, 211, rfl⟩
abbrev main_v139 : Ref sig .tc := ⟨.hbm, 212, rfl⟩
abbrev main_v140 : Ref sig .tc := ⟨.hbm, 213, rfl⟩
abbrev main_cst_25 : Ref sig .tc := ⟨.hbm, 214, rfl⟩
abbrev main_v141 : Ref sig .tc := ⟨.hbm, 215, rfl⟩
abbrev main_v142 : Ref sig .tc := ⟨.hbm, 216, rfl⟩
abbrev main_v143 : Ref sig .tc := ⟨.hbm, 217, rfl⟩
abbrev main_v144 : Ref sig .tc := ⟨.hbm, 218, rfl⟩
abbrev main_cst_26 : Ref sig .tc := ⟨.hbm, 219, rfl⟩
abbrev main_v145 : Ref sig .tc := ⟨.hbm, 220, rfl⟩
abbrev main_v146 : Ref sig .tc := ⟨.hbm, 221, rfl⟩
abbrev main_cst_27 : Ref sig .tc := ⟨.hbm, 222, rfl⟩
abbrev main_v147 : Ref sig .tc := ⟨.hbm, 223, rfl⟩
abbrev main_cst_28 : Ref sig .tc := ⟨.hbm, 224, rfl⟩
abbrev main_v148 : Ref sig .tc := ⟨.hbm, 225, rfl⟩
abbrev main_v149 : Ref sig .tc := ⟨.hbm, 226, rfl⟩
abbrev main_call8_cst : Ref sig .tc := ⟨.hbm, 227, rfl⟩
abbrev main_call8_v0 : Ref sig .tc := ⟨.hbm, 228, rfl⟩
abbrev main_v150 : Ref sig .tc := ⟨.hbm, 229, rfl⟩
abbrev main_cst_29 : Ref sig .tc := ⟨.hbm, 230, rfl⟩
abbrev main_v151 : Ref sig .tc := ⟨.hbm, 231, rfl⟩
abbrev main_v152 : Ref sig .tc := ⟨.hbm, 232, rfl⟩
abbrev main_v153 : Ref sig .tc := ⟨.hbm, 233, rfl⟩
abbrev main_cst_30 : Ref sig .tc := ⟨.hbm, 234, rfl⟩
abbrev main_v154 : Ref sig .tc := ⟨.hbm, 235, rfl⟩
abbrev main_v155 : Ref sig .tc := ⟨.hbm, 236, rfl⟩
abbrev main_cst_31 : Ref sig .tc := ⟨.hbm, 237, rfl⟩
abbrev main_v156 : Ref sig .tc := ⟨.hbm, 238, rfl⟩
abbrev main_cst_32 : Ref sig .tc := ⟨.hbm, 239, rfl⟩
abbrev main_v157 : Ref sig .tc := ⟨.hbm, 240, rfl⟩
abbrev main_v158 : Ref sig .tc := ⟨.hbm, 241, rfl⟩
abbrev main_call9_call0_cst : Ref sig .tc := ⟨.hbm, 242, rfl⟩
abbrev main_call9_call0_v0 : Ref sig .tc := ⟨.hbm, 243, rfl⟩
abbrev main_v159 : Ref sig .tc := ⟨.hbm, 244, rfl⟩
abbrev main_v160 : Ref sig .tc := ⟨.hbm, 245, rfl⟩
abbrev main_v161 : Ref sig .tc := ⟨.hbm, 246, rfl⟩
abbrev main_call10_v0 : Ref sig .tc := ⟨.hbm, 247, rfl⟩
abbrev main_call10_v1 : Ref sig .tc := ⟨.hbm, 248, rfl⟩
abbrev main_call10_v2 : Ref sig .tc := ⟨.hbm, 249, rfl⟩
abbrev main_v162 : Ref sig .tc := ⟨.hbm, 250, rfl⟩
abbrev main_v163 : Ref sig .tc := ⟨.hbm, 251, rfl⟩
abbrev main_v164 : Ref sig .tc := ⟨.hbm, 252, rfl⟩
abbrev main_v165 : Ref sig .tc := ⟨.hbm, 253, rfl⟩
abbrev main_v166 : Ref sig .tc := ⟨.hbm, 254, rfl⟩
abbrev main_v167 : Ref sig .tc := ⟨.hbm, 255, rfl⟩
abbrev main_cst_33 : Ref sig .tc := ⟨.hbm, 256, rfl⟩
abbrev main_v168 : Ref sig .tc := ⟨.hbm, 257, rfl⟩
abbrev main_v169 : Ref sig .tc := ⟨.hbm, 258, rfl⟩
abbrev main_v170 : Ref sig .tc := ⟨.hbm, 259, rfl⟩
abbrev main_v171 : Ref sig .tc := ⟨.hbm, 260, rfl⟩
abbrev main_v172 : Ref sig .tc := ⟨.hbm, 261, rfl⟩
abbrev main_cst_34 : Ref sig .tc := ⟨.hbm, 262, rfl⟩
abbrev main_v173 : Ref sig .tc := ⟨.hbm, 263, rfl⟩
abbrev main_v174 : Ref sig .tc := ⟨.hbm, 264, rfl⟩
abbrev main_v175 : Ref sig .tc := ⟨.hbm, 265, rfl⟩
abbrev main_v176 : Ref sig .tc := ⟨.hbm, 266, rfl⟩
abbrev main_v177 : Ref sig .tc := ⟨.hbm, 267, rfl⟩
abbrev main_v178 : Ref sig .tc := ⟨.hbm, 268, rfl⟩
abbrev main_v179 : Ref sig .tc := ⟨.hbm, 269, rfl⟩
abbrev main_v180 : Ref sig .tc := ⟨.hbm, 270, rfl⟩
abbrev main_v181 : Ref sig .tc := ⟨.hbm, 271, rfl⟩
abbrev main_cst_35 : Ref sig .tc := ⟨.hbm, 272, rfl⟩
abbrev main_v182 : Ref sig .tc := ⟨.hbm, 273, rfl⟩
abbrev main_call11_call0_cst : Ref sig .tc := ⟨.hbm, 274, rfl⟩
abbrev main_call11_call0_v0 : Ref sig .tc := ⟨.hbm, 275, rfl⟩
abbrev main_v183 : Ref sig .tc := ⟨.hbm, 276, rfl⟩
abbrev main_v184 : Ref sig .tc := ⟨.hbm, 277, rfl⟩
abbrev main_v185 : Ref sig .tc := ⟨.hbm, 278, rfl⟩
abbrev main_v186 : Ref sig .tc := ⟨.hbm, 279, rfl⟩
abbrev main_cst_36 : Ref sig .tc := ⟨.hbm, 280, rfl⟩
abbrev main_v187 : Ref sig .tc := ⟨.hbm, 281, rfl⟩
abbrev main_v188 : Ref sig .tc := ⟨.hbm, 282, rfl⟩
abbrev main_v189 : Ref sig .tc := ⟨.hbm, 283, rfl⟩
abbrev main_v190 : Ref sig .tc := ⟨.hbm, 284, rfl⟩
abbrev main_v191 : Ref sig .tc := ⟨.hbm, 285, rfl⟩
abbrev main_cst_37 : Ref sig .tc := ⟨.hbm, 286, rfl⟩
abbrev main_v192 : Ref sig .tc := ⟨.hbm, 287, rfl⟩
abbrev main_v193 : Ref sig .tc := ⟨.hbm, 288, rfl⟩
abbrev main_v194 : Ref sig .tc := ⟨.hbm, 289, rfl⟩
abbrev main_v195 : Ref sig .tc := ⟨.hbm, 290, rfl⟩
abbrev main_v196 : Ref sig .tc := ⟨.hbm, 291, rfl⟩
abbrev main_v197 : Ref sig .tc := ⟨.hbm, 292, rfl⟩
abbrev main_v198 : Ref sig .tc := ⟨.hbm, 293, rfl⟩
abbrev main_v199 : Ref sig .tc := ⟨.hbm, 294, rfl⟩
abbrev main_v200 : Ref sig .tc := ⟨.hbm, 295, rfl⟩
abbrev main_v201 : Ref sig .tc := ⟨.hbm, 296, rfl⟩

abbrev nD : Nat := 1
abbrev τ : Topo := Topo.v7x

variable {F : FTy → Type} [FloatOps F]
-- ==== KernelWIn.lean ====
abbrev S8192x2048 : Shape := ⟨2, ![8192, 2048]⟩
abbrev S4x8192x1024 : Shape := ⟨3, ![4, 8192, 1024]⟩
abbrev S4x2048x2048 : Shape := ⟨3, ![4, 2048, 2048]⟩
abbrev S2048x2048 : Shape := ⟨2, ![2048, 2048]⟩
abbrev S1x2048x1024 : Shape := ⟨3, ![1, 2048, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S4x8192x1024, .bf16⟩
  | .hbm, ⟨2, _⟩ => ⟨S4x8192x1024, .bf16⟩
  | .hbm, ⟨3, _⟩ => ⟨S4x2048x2048, .f32⟩
  | .local _ .vmem, ⟨0, _⟩ => ⟨S2048x2048, .bf16⟩
  | .local _ .vmem, ⟨1, _⟩ => ⟨S2048x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x2048x1024, .f32⟩
  | .local _ .vmem, ⟨7, _⟩ => ⟨S1x2048x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sge arg0 c0_i32_1
  let c4_i32 : BitVec 32 := 4#32
  let v4 : BitVec 1 := Scalar.cmpi .slt arg0 c4_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg0 : BitVec 32 := BitVec.ofNat 32 (i 0).val
  let c4_i32_3 : BitVec 32 := 4#32
  let v8 : BitVec 1 := Scalar.cmpi .sge arg0 c4_i32_3
  let c8_i32 : BitVec 32 := 8#32
  let v9 : BitVec 1 := Scalar.cmpi .slt arg0 c8_i32
  let v10 : BitVec 1 := Scalar.andi v8 v9
  let v11 : BitVec 32 := Scalar.extui v10
  let c0_i32_4 : BitVec 32 := 0#32
  let v12 : BitVec 1 := Scalar.cmpi .ne v11 c0_i32_4
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  ![v2.toNat, arg1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.subi arg0 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![v2.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ReferenceWInIdeal.lean ====
abbrev S8192x2048 : Shape := ⟨2, ![8192, 2048]⟩
abbrev S4x8192x1024 : Shape := ⟨3, ![4, 8192, 1024]⟩
abbrev S1x8192x1024 : Shape := ⟨3, ![1, 8192, 1024]⟩
abbrev S8192x1024 : Shape := ⟨2, ![8192, 1024]⟩
abbrev S8192x8192 : Shape := ⟨2, ![8192, 8192]⟩
abbrev S_ : Shape := ⟨0, ![]⟩
abbrev S2048x8192 : Shape := ⟨2, ![2048, 8192]⟩
abbrev S2048x2048 : Shape := ⟨2, ![2048, 2048]⟩
abbrev S1x2048x2048 : Shape := ⟨3, ![1, 2048, 2048]⟩
abbrev S4x2048x2048 : Shape := ⟨3, ![4, 2048, 2048]⟩

abbrev nBuf : Space → Nat
  | .hbm => 36
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x8192x1024, .bf16⟩
  | .hbm, ⟨2, _⟩ => ⟨S4x8192x1024, .bf16⟩
  | .hbm, ⟨3, _⟩ => ⟨S1x8192x1024, .bf16⟩
  | .hbm, ⟨4, _⟩ => ⟨S8192x1024, .bf16⟩
  | .hbm, ⟨5, _⟩ => ⟨S1x8192x1024, .bf16⟩
  | .hbm, ⟨6, _⟩ => ⟨S8192x1024, .bf16⟩
  | .hbm, ⟨7, _⟩ => ⟨S1x8192x1024, .bf16⟩
  | .hbm, ⟨8, _⟩ => ⟨S8192x1024, .bf16⟩
  | .hbm, ⟨9, _⟩ => ⟨S1x8192x1024, .bf16⟩
  | .hbm, ⟨10, _⟩ => ⟨S8192x1024, .bf16⟩
  | .hbm, ⟨11, _⟩ => ⟨S1x8192x1024, .bf16⟩
  | .hbm, ⟨12, _⟩ => ⟨S8192x1024, .bf16⟩
  | .hbm, ⟨13, _⟩ => ⟨S1x8192x1024, .bf16⟩
  | .hbm, ⟨14, _⟩ => ⟨S8192x1024, .bf16⟩
  | .hbm, ⟨15, _⟩ => ⟨S1x8192x1024, .bf16⟩
  | .hbm, ⟨16, _⟩ => ⟨S8192x1024, .bf16⟩
  | .hbm, ⟨17, _⟩ => ⟨S1x8192x1024, .bf16⟩
  | .hbm, ⟨18, _⟩ => ⟨S8192x1024, .bf16⟩
  | .hbm, ⟨19, _⟩ => ⟨S8192x8192, .bf16⟩
  | .hbm, ⟨20, _⟩ => ⟨S8192x8192, .f32⟩
  | .hbm, ⟨21, _⟩ => ⟨S_, .f32⟩
  | .hbm, ⟨22, _⟩ => ⟨S2048x8192, .f32⟩
  | .hbm, ⟨23, _⟩ => ⟨S8192x2048, .f32⟩
  | .hbm, ⟨24, _⟩ => ⟨S8192x8192, .f32⟩
  | .hbm, ⟨25, _⟩ => ⟨S8192x2048, .f32⟩
  | .hbm, ⟨26, _⟩ => ⟨S2048x8192, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S1x2048x2048, .f32⟩
  | .hbm, ⟨32, _⟩ => ⟨S1x2048x2048, .f32⟩
  | .hbm, ⟨33, _⟩ => ⟨S1x2048x2048, .f32⟩
  | .hbm, ⟨34, _⟩ => ⟨S1x2048x2048, .f32⟩
  | .hbm, ⟨35, _⟩ => ⟨S4x2048x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩

abbrev nD : Nat := 1
abbrev τ : Topo := Topo.v7x

variable {F : FTy → Type} [FloatOps F]
-- ==== KernelHFirst.lean ====
abbrev S4x8192x1024 : Shape := ⟨3, ![4, 8192, 1024]⟩
abbrev S4x2048x2048 : Shape := ⟨3, ![4, 2048, 2048]⟩
abbrev S8x128 : Shape := ⟨2, ![8, 128]⟩
abbrev S3072x2048 : Shape := ⟨2, ![3072, 2048]⟩
abbrev S2x1024x1024 : Shape := ⟨3, ![2, 1024, 1024]⟩
abbrev S1x2048x2048 : Shape := ⟨3, ![1, 2048, 2048]⟩
abbrev S1024x2048 : Shape := ⟨2, ![1024, 2048]⟩
abbrev S1x1024x1024 : Shape := ⟨3, ![1, 1024, 1024]⟩
abbrev S1024x1024 : Shape := ⟨2, ![1024, 1024]⟩
abbrev S1x2048x1024 : Shape := ⟨3, ![1, 2048, 1024]⟩
abbrev S2048x1024 : Shape := ⟨2, ![2048, 1024]⟩

abbrev nBuf : Space → Nat
  | .hbm => 5
  | .vmem => 9
  | .smem => 0
  | _ => 0

abbrev bufTy : (tb : Table) → Fin (tcTables nBuf tb) → BufTy
  | .hbm, ⟨0, _⟩ => ⟨S4x8192x1024, .bf16⟩
  | .hbm, ⟨1, _⟩ => ⟨S4x8192x1024, .bf16⟩
  | .hbm, ⟨2, _⟩ => ⟨S4x2048x2048, .bf16⟩
  | .hbm, ⟨3, _⟩ => ⟨S8x128, .f32⟩
  | .hbm, ⟨4, _⟩ => ⟨S3072x2048, .f32⟩
  | .local _ .vmem, ⟨0, _⟩ => ⟨S2x1024x1024, .bf16⟩
  | .local _ .vmem, ⟨1, _⟩ => ⟨S2x1024x1024, .bf16⟩
  | .local _ .vmem, ⟨2, _⟩ => ⟨S2x1024x1024, .bf16⟩
  | .local _ .vmem, ⟨3, _⟩ => ⟨S2x1024x1024, .bf16⟩
  | .local _ .vmem, ⟨4, _⟩ => ⟨S1x2048x2048, .bf16⟩
  | .local _ .vmem, ⟨5, _⟩ => ⟨S1x2048x2048, .bf16⟩
  | .local _ .vmem, ⟨6, _⟩ => ⟨S8x128, .f32⟩
  | .local _ .vmem, ⟨7, _⟩ => ⟨S1024x2048, .f32⟩
  | .local _ .vmem, ⟨8, _⟩ => ⟨S1024x2048, .f32⟩
  | _, _ => ⟨S4x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![3, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let c2_i32 : BitVec 32 := 2#32
  let arg1 : BitVec 32 := BitVec.ofNat 32 (i 1).val
  let v3 : BitVec 32 := Scalar.muli c2_i32 arg1
  let c0_i32_1 : BitVec 32 := 0#32
  let v4 : BitVec 1 := Scalar.cmpi .sge v3 c0_i32_1
  let c2_i32_2 : BitVec 32 := 2#32
  let v5 : BitVec 32 := Scalar.muli c2_i32_2 arg1
  let c4_i32 : BitVec 32 := 4#32
  let v6 : BitVec 1 := Scalar.cmpi .slt v5 c4_i32
  let v7 : BitVec 1 := Scalar.andi v4 v6
  let v8 : BitVec 32 := Scalar.extui v7
  let c0_i32_3 : BitVec 32 := 0#32
  let v9 : BitVec 1 := Scalar.cmpi .ne v8 c0_i32_3
  v9

def k0_cond3 (i : grid0.Coords) : BitVec 1 :=
  let c2_i32_4 : BitVec 32 := 2#32
  let arg1 : BitVec 32 := BitVec.ofNat 32 (i 1).val
  let v10 : BitVec 32 := Scalar.muli c2_i32_4 arg1
  let c4_i32_5 : BitVec 32 := 4#32
  let v11 : BitVec 1 := Scalar.cmpi .sge v10 c4_i32_5
  let c2_i32_6 : BitVec 32 := 2#32
  let v12 : BitVec 32 := Scalar.muli c2_i32_6 arg1
  let c8_i32 : BitVec 32 := 8#32
  let v13 : BitVec 1 := Scalar.cmpi .slt v12 c8_i32
  let v14 : BitVec 1 := Scalar.andi v11 v13
  let v15 : BitVec 32 := Scalar.extui v14
  let c0_i32_7 : BitVec 32 := 0#32
  let v16 : BitVec 1 := Scalar.cmpi .ne v15 c0_i32_7
  v16

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let v3 : BitVec 32 := Scalar.addi c0_i32_1 arg0
  let c0_i32_2 : BitVec 32 := 0#32
  let c0_i32_3 : BitVec 32 := 0#32
  ![v2.toNat, v3.toNat, c0_i32_2.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let v3 : BitVec 32 := Scalar.addi c0_i32_0 arg0
  let c0_i32_1 : BitVec 32 := 0#32
  let c0_i32_2 : BitVec 32 := 0#32
  ![v2.toNat, v3.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceHFirstIdeal.lean ====
abbrev S4x8192x1024 : Shape := ⟨3, ![4, 8192, 1024]⟩
abbrev S4x2048x2048 : Shape := ⟨3, ![4, 2048, 2048]⟩
abbrev S8x128 : Shape := ⟨2, ![8, 128]⟩
abbrev S1x2048x2048 : Shape := ⟨3, ![1, 2048, 2048]⟩
abbrev S2048x2048 : Shape := ⟨2, ![2048, 2048]⟩
abbrev S2048x8192 : Shape := ⟨2, ![2048, 8192]⟩
abbrev S_ : Shape := ⟨0, ![]⟩
abbrev S8192x2048 : Shape := ⟨2, ![8192, 2048]⟩
abbrev S8192x8192 : Shape := ⟨2, ![8192, 8192]⟩
abbrev S1x8192x1024 : Shape := ⟨3, ![1, 8192, 1024]⟩
abbrev S8192x1024 : Shape := ⟨2, ![8192, 1024]⟩
abbrev S3072x2048 : Shape := ⟨2, ![3072, 2048]⟩

abbrev nBuf : Space → Nat
  | .hbm => 37
  | .vmem => 0
  | .smem => 0
  | _ => 0

abbrev bufTy : (tb : Table) → Fin (tcTables nBuf tb) → BufTy
  | .hbm, ⟨0, _⟩ => ⟨S4x8192x1024, .bf16⟩
  | .hbm, ⟨1, _⟩ => ⟨S4x8192x1024, .bf16⟩
  | .hbm, ⟨2, _⟩ => ⟨S4x2048x2048, .bf16⟩
  | .hbm, ⟨3, _⟩ => ⟨S8x128, .f32⟩
  | .hbm, ⟨4, _⟩ => ⟨S1x2048x2048, .bf16⟩
  | .hbm, ⟨5, _⟩ => ⟨S2048x2048, .bf16⟩
  | .hbm, ⟨6, _⟩ => ⟨S1x2048x2048, .bf16⟩
  | .hbm, ⟨7, _⟩ => ⟨S2048x2048, .bf16⟩
  | .hbm, ⟨8, _⟩ => ⟨S1x2048x2048, .bf16⟩
  | .hbm, ⟨9, _⟩ => ⟨S2048x2048, .bf16⟩
  | .hbm, ⟨10, _⟩ => ⟨S1x2048x2048, .bf16⟩
  | .hbm, ⟨11, _⟩ => ⟨S2048x2048, .bf16⟩
  | .hbm, ⟨12, _⟩ => ⟨S2048x8192, .bf16⟩
  | .hbm, ⟨13, _⟩ => ⟨S2048x8192, .f32⟩
  | .hbm, ⟨14, _⟩ => ⟨S_, .f32⟩
  | .hbm, ⟨15, _⟩ => ⟨S8192x2048, .f32⟩
  | .hbm, ⟨16, _⟩ => ⟨S8192x8192, .f32⟩
  | .hbm, ⟨17, _⟩ => ⟨S1x8192x1024, .bf16⟩
  | .hbm, ⟨18, _⟩ => ⟨S8192x1024, .bf16⟩
  | .hbm, ⟨19, _⟩ => ⟨S1x8192x1024, .bf16⟩
  | .hbm, ⟨20, _⟩ => ⟨S8192x1024, .bf16⟩
  | .hbm, ⟨21, _⟩ => ⟨S1x8192x1024, .bf16⟩
  | .hbm, ⟨22, _⟩ => ⟨S8192x1024, .bf16⟩
  | .hbm, ⟨23, _⟩ => ⟨S1x8192x1024, .bf16⟩
  | .hbm, ⟨24, _⟩ => ⟨S8192x1024, .bf16⟩
  | .hbm, ⟨25, _⟩ => ⟨S1x8192x1024, .bf16⟩
  | .hbm, ⟨26, _⟩ => ⟨S8192x1024, .bf16⟩
  | .hbm, ⟨27, _⟩ => ⟨S1x8192x1024, .bf16⟩
  | .hbm, ⟨28, _⟩ => ⟨S8192x1024, .bf16⟩
  | .hbm, ⟨29, _⟩ => ⟨S1x8192x1024, .bf16⟩
  | .hbm, ⟨30, _⟩ => ⟨S8192x1024, .bf16⟩
  | .hbm, ⟨31, _⟩ => ⟨S1x8192x1024, .bf16⟩
  | .hbm, ⟨32, _⟩ => ⟨S8192x1024, .bf16⟩
  | .hbm, ⟨33, _⟩ => ⟨S8192x8192, .bf16⟩
  | .hbm, ⟨34, _⟩ => ⟨S8192x8192, .f32⟩
  | .hbm, ⟨35, _⟩ => ⟨S8192x2048, .f32⟩
  | .hbm, ⟨36, _⟩ => ⟨S3072x2048, .f32⟩
  | _, _ => ⟨S4x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩

abbrev nD : Nat := 1
abbrev τ : Topo := Topo.v7x

variable {F : FTy → Type} [FloatOps F]
-- ==== KernelHLast.lean ====
abbrev S4x8192x1024 : Shape := ⟨3, ![4, 8192, 1024]⟩
abbrev S4x2048x2048 : Shape := ⟨3, ![4, 2048, 2048]⟩
abbrev S8x128 : Shape := ⟨2, ![8, 128]⟩
abbrev S5120x2048 : Shape := ⟨2, ![5120, 2048]⟩
abbrev S2x1024x1024 : Shape := ⟨3, ![2, 1024, 1024]⟩
abbrev S1x2048x2048 : Shape := ⟨3, ![1, 2048, 2048]⟩
abbrev S1024x2048 : Shape := ⟨2, ![1024, 2048]⟩
abbrev S1x1024x1024 : Shape := ⟨3, ![1, 1024, 1024]⟩
abbrev S1024x1024 : Shape := ⟨2, ![1024, 1024]⟩
abbrev S1x2048x1024 : Shape := ⟨3, ![1, 2048, 1024]⟩
abbrev S2048x1024 : Shape := ⟨2, ![2048, 1024]⟩

abbrev nBuf : Space → Nat
  | .hbm => 5
  | .vmem => 9
  | .smem => 0
  | _ => 0

abbrev bufTy : (tb : Table) → Fin (tcTables nBuf tb) → BufTy
  | .hbm, ⟨0, _⟩ => ⟨S4x8192x1024, .bf16⟩
  | .hbm, ⟨1, _⟩ => ⟨S4x8192x1024, .bf16⟩
  | .hbm, ⟨2, _⟩ => ⟨S4x2048x2048, .bf16⟩
  | .hbm, ⟨3, _⟩ => ⟨S8x128, .f32⟩
  | .hbm, ⟨4, _⟩ => ⟨S5120x2048, .f32⟩
  | .local _ .vmem, ⟨0, _⟩ => ⟨S2x1024x1024, .bf16⟩
  | .local _ .vmem, ⟨1, _⟩ => ⟨S2x1024x1024, .bf16⟩
  | .local _ .vmem, ⟨2, _⟩ => ⟨S2x1024x1024, .bf16⟩
  | .local _ .vmem, ⟨3, _⟩ => ⟨S2x1024x1024, .bf16⟩
  | .local _ .vmem, ⟨4, _⟩ => ⟨S1x2048x2048, .bf16⟩
  | .local _ .vmem, ⟨5, _⟩ => ⟨S1x2048x2048, .bf16⟩
  | .local _ .vmem, ⟨6, _⟩ => ⟨S8x128, .f32⟩
  | .local _ .vmem, ⟨7, _⟩ => ⟨S1024x2048, .f32⟩
  | .local _ .vmem, ⟨8, _⟩ => ⟨S1024x2048, .f32⟩
  | _, _ => ⟨S4x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![5, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let c2_i32 : BitVec 32 := 2#32
  let arg1 : BitVec 32 := BitVec.ofNat 32 (i 1).val
  let v3 : BitVec 32 := Scalar.muli c2_i32 arg1
  let c0_i32_1 : BitVec 32 := 0#32
  let v4 : BitVec 1 := Scalar.cmpi .sge v3 c0_i32_1
  let c2_i32_2 : BitVec 32 := 2#32
  let v5 : BitVec 32 := Scalar.muli c2_i32_2 arg1
  let c4_i32 : BitVec 32 := 4#32
  let v6 : BitVec 1 := Scalar.cmpi .slt v5 c4_i32
  let v7 : BitVec 1 := Scalar.andi v4 v6
  let v8 : BitVec 32 := Scalar.extui v7
  let c0_i32_3 : BitVec 32 := 0#32
  let v9 : BitVec 1 := Scalar.cmpi .ne v8 c0_i32_3
  v9

def k0_cond3 (i : grid0.Coords) : BitVec 1 :=
  let c2_i32_4 : BitVec 32 := 2#32
  let arg1 : BitVec 32 := BitVec.ofNat 32 (i 1).val
  let v10 : BitVec 32 := Scalar.muli c2_i32_4 arg1
  let c4_i32_5 : BitVec 32 := 4#32
  let v11 : BitVec 1 := Scalar.cmpi .sge v10 c4_i32_5
  let c2_i32_6 : BitVec 32 := 2#32
  let v12 : BitVec 32 := Scalar.muli c2_i32_6 arg1
  let c8_i32 : BitVec 32 := 8#32
  let v13 : BitVec 1 := Scalar.cmpi .slt v12 c8_i32
  let v14 : BitVec 1 := Scalar.andi v11 v13
  let v15 : BitVec 32 := Scalar.extui v14
  let c0_i32_7 : BitVec 32 := 0#32
  let v16 : BitVec 1 := Scalar.cmpi .ne v15 c0_i32_7
  v16

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c3_i32 : BitVec 32 := 3#32
  let v3 : BitVec 32 := Scalar.addi c3_i32 arg0
  let c0_i32_1 : BitVec 32 := 0#32
  let c0_i32_2 : BitVec 32 := 0#32
  ![v2.toNat, v3.toNat, c0_i32_1.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c1_i32 : BitVec 32 := 1#32
  let v1 : BitVec 32 := Scalar.maxsi c0_i32 v0
  let v2 : BitVec 32 := Scalar.minsi c1_i32 v1
  let c3_i32 : BitVec 32 := 3#32
  let v3 : BitVec 32 := Scalar.addi c3_i32 arg0
  let c0_i32_0 : BitVec 32 := 0#32
  let c0_i32_1 : BitVec 32 := 0#32
  ![v2.toNat, v3.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceHLastIdeal.lean ====
abbrev S4x8192x1024 : Shape := ⟨3, ![4, 8192, 1024]⟩
abbrev S4x2048x2048 : Shape := ⟨3, ![4, 2048, 2048]⟩
abbrev S8x128 : Shape := ⟨2, ![8, 128]⟩
abbrev S1x2048x2048 : Shape := ⟨3, ![1, 2048, 2048]⟩
abbrev S2048x2048 : Shape := ⟨2, ![2048, 2048]⟩
abbrev S2048x8192 : Shape := ⟨2, ![2048, 8192]⟩
abbrev S_ : Shape := ⟨0, ![]⟩
abbrev S8192x2048 : Shape := ⟨2, ![8192, 2048]⟩
abbrev S8192x8192 : Shape := ⟨2, ![8192, 8192]⟩
abbrev S1x8192x1024 : Shape := ⟨3, ![1, 8192, 1024]⟩
abbrev S8192x1024 : Shape := ⟨2, ![8192, 1024]⟩
abbrev S5120x2048 : Shape := ⟨2, ![5120, 2048]⟩

abbrev nBuf : Space → Nat
  | .hbm => 37
  | .vmem => 0
  | .smem => 0
  | _ => 0

abbrev bufTy : (tb : Table) → Fin (tcTables nBuf tb) → BufTy
  | .hbm, ⟨0, _⟩ => ⟨S4x8192x1024, .bf16⟩
  | .hbm, ⟨1, _⟩ => ⟨S4x8192x1024, .bf16⟩
  | .hbm, ⟨2, _⟩ => ⟨S4x2048x2048, .bf16⟩
  | .hbm, ⟨3, _⟩ => ⟨S8x128, .f32⟩
  | .hbm, ⟨4, _⟩ => ⟨S1x2048x2048, .bf16⟩
  | .hbm, ⟨5, _⟩ => ⟨S2048x2048, .bf16⟩
  | .hbm, ⟨6, _⟩ => ⟨S1x2048x2048, .bf16⟩
  | .hbm, ⟨7, _⟩ => ⟨S2048x2048, .bf16⟩
  | .hbm, ⟨8, _⟩ => ⟨S1x2048x2048, .bf16⟩
  | .hbm, ⟨9, _⟩ => ⟨S2048x2048, .bf16⟩
  | .hbm, ⟨10, _⟩ => ⟨S1x2048x2048, .bf16⟩
  | .hbm, ⟨11, _⟩ => ⟨S2048x2048, .bf16⟩
  | .hbm, ⟨12, _⟩ => ⟨S2048x8192, .bf16⟩
  | .hbm, ⟨13, _⟩ => ⟨S2048x8192, .f32⟩
  | .hbm, ⟨14, _⟩ => ⟨S_, .f32⟩
  | .hbm, ⟨15, _⟩ => ⟨S8192x2048, .f32⟩
  | .hbm, ⟨16, _⟩ => ⟨S8192x8192, .f32⟩
  | .hbm, ⟨17, _⟩ => ⟨S1x8192x1024, .bf16⟩
  | .hbm, ⟨18, _⟩ => ⟨S8192x1024, .bf16⟩
  | .hbm, ⟨19, _⟩ => ⟨S1x8192x1024, .bf16⟩
  | .hbm, ⟨20, _⟩ => ⟨S8192x1024, .bf16⟩
  | .hbm, ⟨21, _⟩ => ⟨S1x8192x1024, .bf16⟩
  | .hbm, ⟨22, _⟩ => ⟨S8192x1024, .bf16⟩
  | .hbm, ⟨23, _⟩ => ⟨S1x8192x1024, .bf16⟩
  | .hbm, ⟨24, _⟩ => ⟨S8192x1024, .bf16⟩
  | .hbm, ⟨25, _⟩ => ⟨S1x8192x1024, .bf16⟩
  | .hbm, ⟨26, _⟩ => ⟨S8192x1024, .bf16⟩
  | .hbm, ⟨27, _⟩ => ⟨S1x8192x1024, .bf16⟩
  | .hbm, ⟨28, _⟩ => ⟨S8192x1024, .bf16⟩
  | .hbm, ⟨29, _⟩ => ⟨S1x8192x1024, .bf16⟩
  | .hbm, ⟨30, _⟩ => ⟨S8192x1024, .bf16⟩
  | .hbm, ⟨31, _⟩ => ⟨S1x8192x1024, .bf16⟩
  | .hbm, ⟨32, _⟩ => ⟨S8192x1024, .bf16⟩
  | .hbm, ⟨33, _⟩ => ⟨S8192x8192, .bf16⟩
  | .hbm, ⟨34, _⟩ => ⟨S8192x8192, .f32⟩
  | .hbm, ⟨35, _⟩ => ⟨S8192x2048, .f32⟩
  | .hbm, ⟨36, _⟩ => ⟨S5120x2048, .f32⟩
  | _, _ => ⟨S4x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩

abbrev nD : Nat := 1
abbrev τ : Topo := Topo.v7x

variable {F : FTy → Type} [FloatOps F]
-- ==== KernelWOut.lean ====
abbrev S8192x1024 : Shape := ⟨2, ![8192, 1024]⟩
abbrev S8192x2048 : Shape := ⟨2, ![8192, 2048]⟩
abbrev S4x512x2048 : Shape := ⟨3, ![4, 512, 2048]⟩
abbrev S2048x512 : Shape := ⟨2, ![2048, 512]⟩
abbrev S2048x2048 : Shape := ⟨2, ![2048, 2048]⟩
abbrev S1x512x2048 : Shape := ⟨3, ![1, 512, 2048]⟩
abbrev S512x2048 : Shape := ⟨2, ![512, 2048]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x2048, .bf16⟩
  | .hbm, ⟨3, _⟩ => ⟨S4x512x2048, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x2048, .bf16⟩
  | .local _ .vmem, ⟨5, _⟩ => ⟨S2048x2048, .bf16⟩
  | .local _ .vmem, ⟨6, _⟩ => ⟨S1x512x2048, .f32⟩
  | .local _ .vmem, ⟨7, _⟩ => ⟨S1x512x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c2_i32 : BitVec 32 := 2#32
  let v3 : BitVec 1 := Scalar.cmpi .slt arg0 c2_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32_2 : BitVec 32 := 2#32
  let v6 : BitVec 1 := Scalar.cmpi .sge arg0 c2_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.minsi arg0 c1_i32
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  ![arg1.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ReferenceWOutIdeal.lean ====
abbrev S8192x1024 : Shape := ⟨2, ![8192, 1024]⟩
abbrev S8192x2048 : Shape := ⟨2, ![8192, 2048]⟩
abbrev S_ : Shape := ⟨0, ![]⟩
abbrev S2048x2048 : Shape := ⟨2, ![2048, 2048]⟩
abbrev S4x512x2048 : Shape := ⟨3, ![4, 512, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x2048, .bf16⟩
  | .hbm, ⟨3, _⟩ => ⟨S8192x2048, .bf16⟩
  | .hbm, ⟨4, _⟩ => ⟨S8192x2048, .f32⟩
  | .hbm, ⟨5, _⟩ => ⟨S_, .f32⟩
  | .hbm, ⟨6, _⟩ => ⟨S2048x2048, .f32⟩
  | .hbm, ⟨7, _⟩ => ⟨S8192x2048, .f32⟩
  | .hbm, ⟨8, _⟩ => ⟨S8192x2048, .f32⟩
  | .hbm, ⟨9, _⟩ => ⟨S2048x2048, .f32⟩
  | .hbm, ⟨10, _⟩ => ⟨S2048x2048, .f32⟩
  | .hbm, ⟨11, _⟩ => ⟨S4x512x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== KernelY.lean ====
abbrev S8192x2048 : Shape := ⟨2, ![8192, 2048]⟩
abbrev S2048x2048 : Shape := ⟨2, ![2048, 2048]⟩
abbrev S8x8192x128 : Shape := ⟨3, ![8, 8192, 128]⟩
abbrev S8x8x8192x128 : Shape := ⟨4, ![8, 8, 8192, 128]⟩
abbrev S8192x1024 : Shape := ⟨2, ![8192, 1024]⟩
abbrev S4x8192x1024 : Shape := ⟨3, ![4, 8192, 1024]⟩
abbrev S512x2048 : Shape := ⟨2, ![512, 2048]⟩
abbrev S8x512x128 : Shape := ⟨3, ![8, 512, 128]⟩
abbrev S1x8x512x128 : Shape := ⟨4, ![1, 8, 512, 128]⟩
abbrev S512x1024 : Shape := ⟨2, ![512, 1024]⟩
abbrev S1x512x1024 : Shape := ⟨3, ![1, 512, 1024]⟩
abbrev S1024x2048 : Shape := ⟨2, ![1024, 2048]⟩
abbrev S128x128 : Shape := ⟨2, ![128, 128]⟩
abbrev S1x1x512x128 : Shape := ⟨4, ![1, 1, 512, 128]⟩
abbrev S512x128 : Shape := ⟨2, ![512, 128]⟩
abbrev S1x512x128 : Shape := ⟨3, ![1, 512, 128]⟩

abbrev nBuf : Space → Nat
  | .hbm => 8
  | .vmem => 15
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8x8192x128, .f32⟩
  | .hbm, ⟨3, _⟩ => ⟨S8x8x8192x128, .f32⟩
  | .hbm, ⟨4, _⟩ => ⟨S8192x1024, .f32⟩
  | .hbm, ⟨5, _⟩ => ⟨S8x8192x128, .f32⟩
  | .hbm, ⟨6, _⟩ => ⟨S8x8192x128, .f32⟩
  | .hbm, ⟨7, _⟩ => ⟨S4x8192x1024, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S8x512x128, .f32⟩
  | .local _ .vmem, ⟨4, _⟩ => ⟨S8x512x128, .f32⟩
  | .local _ .vmem, ⟨5, _⟩ => ⟨S1x8x512x128, .f32⟩
  | .local _ .vmem, ⟨6, _⟩ => ⟨S1x8x512x128, .f32⟩
  | .local _ .vmem, ⟨7, _⟩ => ⟨S512x1024, .f32⟩
  | .local _ .vmem, ⟨8, _⟩ => ⟨S512x1024, .f32⟩
  | .local _ .vmem, ⟨9, _⟩ => ⟨S8x512x128, .f32⟩
  | .local _ .vmem, ⟨10, _⟩ => ⟨S8x512x128, .f32⟩
  | .local _ .vmem, ⟨11, _⟩ => ⟨S8x512x128, .f32⟩
  | .local _ .vmem, ⟨12, _⟩ => ⟨S8x512x128, .f32⟩
  | .local _ .vmem, ⟨13, _⟩ => ⟨S1x512x1024, .bf16⟩
  | .local _ .vmem, ⟨14, _⟩ => ⟨S1x512x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 4 → Nat :=
  let arg0 : BitVec 32 := BitVec.ofNat 32 (i 0).val
  let c7_i32 : BitVec 32 := 7#32
  let c0_i32 : BitVec 32 := 0#32
  let c0_i32_0 : BitVec 32 := 0#32
  let c0_i32_1 : BitVec 32 := 0#32
  ![c7_i32.toNat, c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceYIdeal.lean ====
abbrev S8192x2048 : Shape := ⟨2, ![8192, 2048]⟩
abbrev S2048x2048 : Shape := ⟨2, ![2048, 2048]⟩
abbrev S8x8192x128 : Shape := ⟨3, ![8, 8192, 128]⟩
abbrev S8x8x8192x128 : Shape := ⟨4, ![8, 8, 8192, 128]⟩
abbrev S1x8x8192x128 : Shape := ⟨4, ![1, 8, 8192, 128]⟩
abbrev S8192x8x128 : Shape := ⟨3, ![8192, 8, 128]⟩
abbrev S8192x1024 : Shape := ⟨2, ![8192, 1024]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8x8192x128, .f32⟩
  | .hbm, ⟨3, _⟩ => ⟨S8x8x8192x128, .f32⟩
  | .hbm, ⟨4, _⟩ => ⟨S1x8x8192x128, .f32⟩
  | .hbm, ⟨5, _⟩ => ⟨S8x8192x128, .f32⟩
  | .hbm, ⟨6, _⟩ => ⟨S8192x8x128, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S2048x2048, .f32⟩
  | .hbm, ⟨18, _⟩ => ⟨S_, .f32⟩
  | .hbm, ⟨19, _⟩ => ⟨S8192x1024, .f32⟩
  | .hbm, ⟨20, _⟩ => ⟨S8192x8x128, .f32⟩
  | .hbm, ⟨21, _⟩ => ⟨S8192x1024, .f32⟩
  | .hbm, ⟨22, _⟩ => ⟨S8192x1024, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x8x128, .f32⟩
  | .hbm, ⟨31, _⟩ => ⟨S8x8192x128, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩

abbrev nD : Nat := 1
abbrev τ : Topo := Topo.v7x

variable {F : FTy → Type} [FloatOps F]
-- ==== Proof.RealVec.lean ====
/-
  Arrays of extended reals that hold real numbers. `Reads X r` says that the two-dimensional array `X` holds the
  real `r i j` at row `i`, column `j`; the lemmas carry it through the vector operations one by one.
-/
module

public import Idealize.ShloMosaic.Lib.Pointwise
public import Idealize.ShloMosaic.Lib.Pipeline.Value
public import Mathlib.Analysis.SpecialFunctions.Log.Basic
public import Mathlib.Algebra.BigOperators.Intervals

@[expose] public section

set_option maxRecDepth 16384

noncomputable section

namespace Cert.Hgrn

open Idealize.ShloMosaic

/-- The two-dimensional array `X` holds the real `r i j` at row `i`, column `j`. -/
def Reads {a b : ℕ} (X : (⟨2, ![a, b]⟩ : Shape).Idx → EReal) (r : ℕ → ℕ → ℝ) : Prop :=
  ∀ (i : Fin a) (j : Fin b), X (ix2 i j) = ((r i j : ℝ) : EReal)

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

namespace Reads

variable {a b : ℕ} {φ ψ : FTy}

theorem congr {X : (⟨2, ![a, b]⟩ : Shape).Idx → EReal} {r s : ℕ → ℕ → ℝ} (h : Reads X r)
    (e : ∀ i < a, ∀ j < b, r i j = s i j) : Reads X s := fun i j => by rw [h i j, e i i.isLt j j.isLt]

theorem add {X Y : FVec Ideal ⟨2, ![a, b]⟩ φ} {r s : ℕ → ℕ → ℝ} (hx : Reads X r) (hy : Reads Y s) :
    Reads (addf X Y) (fun i j => r i j + s i j) := fun i j => by
  show X (ix2 i j) + Y (ix2 i j) = _
  rw [hx i j, hy i j, EReal.coe_add]

theorem sub {X Y : FVec Ideal ⟨2, ![a, b]⟩ φ} {r s : ℕ → ℕ → ℝ} (hx : Reads X r) (hy : Reads Y s) :
    Reads (subf X Y) (fun i j => r i j - s i j) := fun i j => by
  show X (ix2 i j) - Y (ix2 i j) = _
  rw [hx i j, hy i j, EReal.coe_sub]

theorem mul {X Y : FVec Ideal ⟨2, ![a, b]⟩ φ} {r s : ℕ → ℕ → ℝ} (hx : Reads X r) (hy : Reads Y s) :
    Reads (mulf X Y) (fun i j => r i j * s i j) := fun i j => by
  show X (ix2 i j) * Y (ix2 i j) = _
  rw [hx i j, hy i j, EReal.coe_mul]

theorem div_val {x y : ℝ} (h : y ≠ 0) : Ideal.div (x : EReal) (y : EReal) = ((x / y : ℝ) : EReal) := by
  unfold Ideal.div
  rw [if_neg (by simpa using h), ← EReal.coe_inv, ← EReal.coe_mul, div_eq_mul_inv]

theorem div {X Y : FVec Ideal ⟨2, ![a, b]⟩ φ} {r s : ℕ → ℕ → ℝ} (hx : Reads X r) (hy : Reads Y s)
    (h : ∀ i < a, ∀ j < b, s i j ≠ 0) : Reads (divf X Y) (fun i j => r i j / s i j) := fun i j => by
  show Ideal.div (X (ix2 i j)) (Y (ix2 i j)) = _
  rw [hx i j, hy i j, div_val (h i i.isLt j j.isLt)]

theorem exp {X : FVec Ideal ⟨2, ![a, b]⟩ φ} {r : ℕ → ℕ → ℝ} (hx : Reads X r) :
    Reads (Idealize.ShloMosaic.exp X) (fun i j => Real.exp (r i j)) := fun i j => by
  show Ideal.exp (X (ix2 i j)) = _
  rw [hx i j]; rfl

theorem log {X : FVec Ideal ⟨2, ![a, b]⟩ φ} {r : ℕ → ℕ → ℝ} (hx : Reads X r) (h : ∀ i < a, ∀ j < b, 0 < r i j) :
    Reads (Idealize.ShloMosaic.log X) (fun i j => Real.log (r i j)) := fun i j => by
  show Ideal.log (X (ix2 i j)) = _
  rw [hx i j]
  show (if r i j ≤ 0 then (⊥ : EReal) else _) = _
  rw [if_neg (not_le.2 (h i i.isLt j j.isLt))]

theorem rsqrt {X : FVec Ideal ⟨2, ![a, b]⟩ φ} {r : ℕ → ℕ → ℝ} (hx : Reads X r) (h : ∀ i < a, ∀ j < b, 0 < r i j) :
    Reads (Idealize.ShloMosaic.rsqrt X) (fun i j => (Real.sqrt (r i j))⁻¹) := fun i j => by
  show Ideal.rsqrt (X (ix2 i j)) = _
  rw [hx i j]
  have h0 := h i i.isLt j j.isLt
  show (if r i j < 0 then (⊥ : EReal) else if r i j = 0 then ⊤ else _) = _
  rw [if_neg (not_lt.2 h0.le), if_neg h0.ne']

theorem logistic_val (x : ℝ) : Ideal.logistic (x : EReal) = (((1 + Real.exp (-x))⁻¹ : ℝ) : EReal) := by
  have hp : (1 + Real.exp (-x)) ≠ 0 := by positivity
  have e : Ideal.exp (-(x : EReal)) = ((Real.exp (-x) : ℝ) : EReal) := by rw [← EReal.coe_neg]; rfl
  show Ideal.div 1 (1 + Ideal.exp (-(x : EReal))) = _
  rw [e, ← EReal.coe_one, ← EReal.coe_add, div_val hp, one_div]

theorem logistic {X : FVec Ideal ⟨2, ![a, b]⟩ φ} {r : ℕ → ℕ → ℝ} (hx : Reads X r) :
    Reads (Idealize.ShloMosaic.logistic X) (fun i j => (1 + Real.exp (-(r i j)))⁻¹) := fun i j => by
  show Ideal.logistic (X (ix2 i j)) = _
  rw [hx i j, logistic_val]

theorem trunc {X : FVec Ideal ⟨2, ![a, b]⟩ φ} {r : ℕ → ℕ → ℝ} (hx : Reads X r) (h : ψ.bits < φ.bits) :
    Reads (truncf ψ X h) r := fun i j => hx i j

theorem ext {X : FVec Ideal ⟨2, ![a, b]⟩ φ} {r : ℕ → ℕ → ℝ} (hx : Reads X r) (h : φ.bits < ψ.bits) :
    Reads (extf ψ X h) r := fun i j => hx i j

theorem max {X Y : FVec Ideal ⟨2, ![a, b]⟩ φ} {r s : ℕ → ℕ → ℝ} (hx : Reads X r) (hy : Reads Y s) :
    Reads (maximumf X Y) (fun i j => Max.max (r i j) (s i j)) := fun i j => by
  show Max.max (X (ix2 i j)) (Y (ix2 i j)) = _
  rw [hx i j, hy i j]
  exact (EReal.coe_strictMono.monotone.map_max (a := r i j) (b := s i j)).symm

/-- A masked product: the entry where the mask is set, zero elsewhere. -/
theorem select {c : IVec ⟨2, ![a, b]⟩ 1} {X Y : FVec Ideal ⟨2, ![a, b]⟩ φ} {r s : ℕ → ℕ → ℝ} {p : ℕ → ℕ → Prop}
    [∀ i j, Decidable (p i j)] (hc : ∀ (i : Fin a) (j : Fin b), c (ix2 i j) = if p i j then 1#1 else 0#1)
    (hx : Reads X r) (hy : Reads Y s) :
    Reads (Idealize.ShloMosaic.select c X Y) (fun i j => if p i j then r i j else s i j) := fun i j => by
  show (if c (ix2 i j) = 1 then X (ix2 i j) else Y (ix2 i j)) = _
  rw [hc i j, hx i j, hy i j]
  by_cases h : p i j <;> simp [h]

/-- Rows `o, …, o + n - 1`. -/
theorem rows {n : ℕ} {X : FVec Ideal ⟨2, ![a, b]⟩ φ} {r : ℕ → ℕ → ℝ} (hx : Reads X r) (o : ℕ)
    (h : (⟨2, ![a, b]⟩ : Shape).Slices ![o, 0] ⟨2, ![n, b]⟩) :
    Reads (extractStridedSlice ⟨2, ![n, b]⟩ ![o, 0] X h) (fun i j => r (o + i) j) := fun i j => by
  have ho : o + n ≤ a := h.2 0
  have e : extractStridedSlice ⟨2, ![n, b]⟩ ![o, 0] X h (ix2 i j) = X (ix2 ⟨o + i, by omega⟩ j) := by
    unfold extractStridedSlice
    congr 1
    funext x
    match x with
    | 0 => exact Fin.ext rfl
    | 1 => exact Fin.ext (Nat.zero_add _)
  rw [e, hx]

/-- `N` blocks of `K` rows one above the other. -/
theorem stack {N K : ℕ} (hK : 0 < K) {f : Fin N → FVec Ideal ⟨2, ![K, b]⟩ φ} {r : ℕ → ℕ → ℝ}
    (hf : ∀ n : Fin N, Reads (f n) (fun i j => r (K * n + i) j))
    (ha : a = N * K)
    (h : Shape.Concatenates ((List.ofFn fun n : Fin N => (⟨⟨2, ![K, b]⟩, f n⟩ : (s : Shape) × (s.Idx → EReal))).map (·.1))
      ⟨2, ![a, b]⟩ 0) :
    Reads (a := a) (b := b) (concatenate ⟨2, ![a, b]⟩ 0 (List.ofFn fun n : Fin N => ⟨⟨2, ![K, b]⟩, f n⟩) h) r := fun i j => by
  have hn : i.val / K < N := Nat.div_lt_of_lt_mul (lt_of_lt_of_eq i.isLt (ha.trans (Nat.mul_comm _ _)))
  rw [concatenate_ofFn_apply (s₁ := ⟨2, ![K, b]⟩) 0 f h rfl K rfl (ix2 i j) ⟨i.val / K, hn⟩ rfl
    (ix2 ⟨i.val % K, Nat.mod_lt _ hK⟩ j) rfl ?_]
  · rw [hf]
    simp only [Nat.div_add_mod]
  · intro x hx
    match x with
    | 0 => exact absurd rfl hx
    | 1 => rfl

end Reads

end Cert.Hgrn
-- ==== Proof.HostOps.lean ====
/-
  Operations of a host program read at an index: arrays of three and four axes that hold reals, the running sum along an
  axis in both directions, and the largest entry of a column.
-/
module

public import proofs.«01_k».proof.Proof.RealVec
public import Idealize.ShloMosaic.PureOps.Reduce

@[expose] public section

set_option maxRecDepth 16384

noncomputable section

namespace Cert.Hgrn

open Idealize.ShloMosaic
open Finset (range Ico)

/-- A float array of three axes holds the reals `r`, and one of four axes does. -/
def Reads3 {a b c : ℕ} (X : (⟨3, ![a, b, c]⟩ : Shape).Idx → EReal) (r : ℕ → ℕ → ℕ → ℝ) : Prop :=
  ∀ i j k, X (ix3 i j k) = ((r i j k : ℝ) : EReal)

def Reads4 {a b c d : ℕ} (X : (⟨4, ![a, b, c, d]⟩ : Shape).Idx → EReal) (r : ℕ → ℕ → ℕ → ℕ → ℝ) : Prop :=
  ∀ i j k l, X (ix4 i j k l) = ((r i j k l : ℝ) : EReal)

theorem foldl_add_sum {n : ℕ} (g : Fin n → EReal) (v : EReal) :
    (List.finRange n).foldl (fun r k => r + g k) v = v + ∑ k, g k := by
  have h : ∀ (l : List (Fin n)) (v : EReal), l.foldl (fun r k => r + g k) v = v + (l.map g).sum := by
    intro l
    induction l with
    | nil => intro v; simp
    | cons x l ih => intro v; rw [List.foldl_cons, ih, List.map_cons, List.sum_cons, add_assoc]
  rw [h, Fin.sum_univ_def]

/-- A window sum from zero: the sum over the window's positions, a position outside the array giving nothing. -/
theorem windowSum {s t : Shape} (window strides lo hi : Fin s.rank → ℕ) (h : s.ReduceWindows window strides lo hi t)
    (x : s.Idx → EReal) (j : t.Idx) :
    Ideal.hostReduceWindowAdd window strides lo hi h x 0 j
      = ∑ w : (⟨s.rank, window⟩ : Shape).Idx,
          if hin : ∀ a, lo a ≤ (j (a.cast h.1.symm)).val * strides a + (w a).val
              ∧ (j (a.cast h.1.symm)).val * strides a + (w a).val - lo a < s.size a then
            x (fun a => ⟨(j (a.cast h.1.symm)).val * strides a + (w a).val - lo a, (hin a).2⟩) else 0 := by
  unfold Ideal.hostReduceWindowAdd Host.reduceWindow
  dsimp only
  rw [foldl_add_sum, zero_add]
  refine (Finset.sum_congr rfl fun k _ => ?_).trans (Equiv.sum_comp (⟨s.rank, window⟩ : Shape).rowMajor.symm (fun w =>
    if hin : ∀ a, lo a ≤ (j (a.cast h.1.symm)).val * strides a + (w a).val
              ∧ (j (a.cast h.1.symm)).val * strides a + (w a).val - lo a < s.size a then
            x (fun a => ⟨(j (a.cast h.1.symm)).val * strides a + (w a).val - lo a, (hin a).2⟩) else 0))
  split
  · rfl
  · rfl

/-- A window one wide on the outer axes is its middle coordinate. -/
def middle (n : ℕ) : (⟨3, ![1, n, 1]⟩ : Shape).Idx ≃ Fin n where
  toFun w := w 1
  invFun k := ix3 0 k 0
  left_inv w := by
    funext b
    fin_cases b
    · exact Fin.ext (by have : (w 0 : ℕ) < 1 := (w 0).isLt; show 0 = (w 0 : ℕ); omega)
    · rfl
    · exact Fin.ext (by have : (w 2 : ℕ) < 1 := (w 2).isLt; show 0 = (w 2 : ℕ); omega)
  right_inv _ := rfl

/-- The running sum along the middle axis, from its start. -/
theorem Reads3.cumsum {a n c : ℕ} {lo : ℕ} (hn : lo + 1 = n) {X : FVec Ideal ⟨3, ![a, n, c]⟩ .f32} {r : ℕ → ℕ → ℕ → ℝ} (hx : Reads3 X r)
    (h : (⟨3, ![a, n, c]⟩ : Shape).ReduceWindows (![1, n, 1] : Fin 3 → ℕ) ![1, 1, 1] ![0, lo, 0] ![0, 0, 0] ⟨3, ![a, n, c]⟩) :
    Reads3 (Ideal.hostReduceWindowAdd ![1, n, 1] ![1, 1, 1] ![0, lo, 0] ![0, 0, 0] h X 0)
      (fun i t d => ∑ u ∈ range (t + 1), r i u d) := fun i t d => by
  have ht := t.isLt
  rw [windowSum, coe_sum]
  refine (Fintype.sum_equiv (middle n) _
    (fun k : Fin n => if lo ≤ t.val + k.val then ((r i (t.val + k.val - lo) d : ℝ) : EReal) else 0) ?_).trans ?_
  · intro w
    have h0 : (w 0 : ℕ) < 1 := (w 0).isLt
    have h1 : (w 1 : ℕ) < n := (w 1).isLt
    have h2 : (w 2 : ℕ) < 1 := (w 2).isLt
    have hi := i.isLt
    have hd := d.isLt
    show _ = if lo ≤ t.val + (w 1 : ℕ) then ((r i (t.val + (w 1 : ℕ) - lo) d : ℝ) : EReal) else 0
    split
    · next hin =>
      have q : lo ≤ t.val * 1 + (w 1 : ℕ) ∧ t.val * 1 + (w 1 : ℕ) - lo < n := hin 1
      rw [if_pos (by omega)]
      refine (congrArg X (funext fun b => Fin.ext ?_)).trans (hx i ⟨t.val + (w 1 : ℕ) - lo, by omega⟩ d)
      match b with
      | ⟨0, _⟩ => show i.val * 1 + (w 0 : ℕ) - 0 = i.val; omega
      | ⟨1, _⟩ => show t.val * 1 + (w 1 : ℕ) - lo = t.val + (w 1 : ℕ) - lo; omega
      | ⟨2, _⟩ => show d.val * 1 + (w 2 : ℕ) - 0 = d.val; omega
    · next hin =>
      rw [if_neg fun q => hin fun b => by
        match b with
        | ⟨0, _⟩ => show 0 ≤ i.val * 1 + (w 0 : ℕ) ∧ i.val * 1 + (w 0 : ℕ) - 0 < a; omega
        | ⟨1, _⟩ => show lo ≤ t.val * 1 + (w 1 : ℕ) ∧ t.val * 1 + (w 1 : ℕ) - lo < n; omega
        | ⟨2, _⟩ => show 0 ≤ d.val * 1 + (w 2 : ℕ) ∧ d.val * 1 + (w 2 : ℕ) - 0 < c; omega]
  · rw [Fin.sum_univ_eq_sum_range (fun k : ℕ => if lo ≤ t.val + k then ((r i (t.val + k - lo) d : ℝ) : EReal) else 0) n, ← Finset.sum_filter]
    refine Finset.sum_bij' (fun k _ => t.val + k - lo) (fun u _ => u + lo - t.val) ?_ ?_ ?_ ?_ ?_ <;> intro k hk <;>
      simp only [Finset.mem_filter, Finset.mem_range] at hk ⊢ <;> omega

/-- The running sum along the middle axis, from its end. -/
theorem Reads3.cumsumBack {a n c : ℕ} {hi : ℕ} (hn : hi + 1 = n) {X : FVec Ideal ⟨3, ![a, n, c]⟩ .f32} {r : ℕ → ℕ → ℕ → ℝ} (hx : Reads3 X r)
    (h : (⟨3, ![a, n, c]⟩ : Shape).ReduceWindows (![1, n, 1] : Fin 3 → ℕ) ![1, 1, 1] ![0, 0, 0] ![0, hi, 0] ⟨3, ![a, n, c]⟩) :
    Reads3 (Ideal.hostReduceWindowAdd ![1, n, 1] ![1, 1, 1] ![0, 0, 0] ![0, hi, 0] h X 0)
      (fun i t d => ∑ u ∈ Ico t n, r i u d) := fun i t d => by
  have ht := t.isLt
  rw [windowSum, coe_sum]
  refine (Fintype.sum_equiv (middle n) _
    (fun k : Fin n => if t.val + k.val < n then ((r i (t.val + k.val) d : ℝ) : EReal) else 0) ?_).trans ?_
  · intro w
    have h0 : (w 0 : ℕ) < 1 := (w 0).isLt
    have h1 : (w 1 : ℕ) < n := (w 1).isLt
    have h2 : (w 2 : ℕ) < 1 := (w 2).isLt
    have hi' := i.isLt
    have hd := d.isLt
    show _ = if t.val + (w 1 : ℕ) < n then ((r i (t.val + (w 1 : ℕ)) d : ℝ) : EReal) else 0
    split
    · next hin =>
      have q : 0 ≤ t.val * 1 + (w 1 : ℕ) ∧ t.val * 1 + (w 1 : ℕ) - 0 < n := hin 1
      rw [if_pos (by omega)]
      refine (congrArg X (funext fun b => Fin.ext ?_)).trans (hx i ⟨t.val + (w 1 : ℕ), by omega⟩ d)
      match b with
      | ⟨0, _⟩ => show i.val * 1 + (w 0 : ℕ) - 0 = i.val; omega
      | ⟨1, _⟩ => show t.val * 1 + (w 1 : ℕ) - 0 = t.val + (w 1 : ℕ); omega
      | ⟨2, _⟩ => show d.val * 1 + (w 2 : ℕ) - 0 = d.val; omega
    · next hin =>
      rw [if_neg fun q => hin fun b => by
        match b with
        | ⟨0, _⟩ => show 0 ≤ i.val * 1 + (w 0 : ℕ) ∧ i.val * 1 + (w 0 : ℕ) - 0 < a; omega
        | ⟨1, _⟩ => show 0 ≤ t.val * 1 + (w 1 : ℕ) ∧ t.val * 1 + (w 1 : ℕ) - 0 < n; omega
        | ⟨2, _⟩ => show 0 ≤ d.val * 1 + (w 2 : ℕ) ∧ d.val * 1 + (w 2 : ℕ) - 0 < c; omega]
  · rw [Fin.sum_univ_eq_sum_range (fun k : ℕ => if t.val + k < n then ((r i (t.val + k) d : ℝ) : EReal) else 0) n, ← Finset.sum_filter]
    refine Finset.sum_bij' (fun k _ => t.val + k) (fun u _ => u - t.val) ?_ ?_ ?_ ?_ ?_ <;> intro k hk <;>
      simp only [Finset.mem_filter, Finset.mem_range, Finset.mem_Ico] at hk ⊢ <;> omega

/-- A window one wide on the second axis is its first coordinate. -/
def upright (n : ℕ) : (⟨2, ![n, 1]⟩ : Shape).Idx ≃ Fin n where
  toFun w := w 0
  invFun k := ix2 k 0
  left_inv w := by
    funext b
    fin_cases b
    · rfl
    · exact Fin.ext (by have : (w 1 : ℕ) < 1 := (w 1).isLt; show 0 = (w 1 : ℕ); omega)
  right_inv _ := rfl

/-- The running sum along the first axis, from its start. -/
theorem Reads.cumsum {n c : ℕ} {lo : ℕ} (hn : lo + 1 = n) {X : FVec Ideal ⟨2, ![n, c]⟩ .f32} {r : ℕ → ℕ → ℝ} (hx : Reads X r)
    (h : (⟨2, ![n, c]⟩ : Shape).ReduceWindows (![n, 1] : Fin 2 → ℕ) ![1, 1] ![lo, 0] ![0, 0] ⟨2, ![n, c]⟩) :
    Reads (Ideal.hostReduceWindowAdd ![n, 1] ![1, 1] ![lo, 0] ![0, 0] h X 0)
      (fun t d => ∑ u ∈ range (t + 1), r u d) := fun t d => by
  have ht := t.isLt
  rw [windowSum, coe_sum]
  refine (Fintype.sum_equiv (upright n) _
    (fun k : Fin n => if lo ≤ t.val + k.val then ((r (t.val + k.val - lo) d : ℝ) : EReal) else 0) ?_).trans ?_
  · intro w
    have h0 : (w 0 : ℕ) < n := (w 0).isLt
    have h1 : (w 1 : ℕ) < 1 := (w 1).isLt
    have hd := d.isLt
    show _ = if lo ≤ t.val + (w 0 : ℕ) then ((r (t.val + (w 0 : ℕ) - lo) d : ℝ) : EReal) else 0
    split
    · next hin =>
      have q : lo ≤ t.val * 1 + (w 0 : ℕ) ∧ t.val * 1 + (w 0 : ℕ) - lo < n := hin 0
      rw [if_pos (by omega)]
      refine (congrArg X (funext fun b => Fin.ext ?_)).trans (hx ⟨t.val + (w 0 : ℕ) - lo, by omega⟩ d)
      match b with
      | ⟨0, _⟩ => show t.val * 1 + (w 0 : ℕ) - lo = t.val + (w 0 : ℕ) - lo; omega
      | ⟨1, _⟩ => show d.val * 1 + (w 1 : ℕ) - 0 = d.val; omega
    · next hin =>
      rw [if_neg fun q => hin fun b => by
        match b with
        | ⟨0, _⟩ => show lo ≤ t.val * 1 + (w 0 : ℕ) ∧ t.val * 1 + (w 0 : ℕ) - lo < n; omega
        | ⟨1, _⟩ => show 0 ≤ d.val * 1 + (w 1 : ℕ) ∧ d.val * 1 + (w 1 : ℕ) - 0 < c; omega]
  · rw [Fin.sum_univ_eq_sum_range (fun k : ℕ => if lo ≤ t.val + k then ((r (t.val + k - lo) d : ℝ) : EReal) else 0) n, ← Finset.sum_filter]
    refine Finset.sum_bij' (fun k _ => t.val + k - lo) (fun u _ => u + lo - t.val) ?_ ?_ ?_ ?_ ?_ <;> intro k hk <;>
      simp only [Finset.mem_filter, Finset.mem_range] at hk ⊢ <;> omega

/-- The running sum along the first axis, from its end. -/
theorem Reads.cumsumBack {n c : ℕ} {hi : ℕ} (hn : hi + 1 = n) {X : FVec Ideal ⟨2, ![n, c]⟩ .f32} {r : ℕ → ℕ → ℝ} (hx : Reads X r)
    (h : (⟨2, ![n, c]⟩ : Shape).ReduceWindows (![n, 1] : Fin 2 → ℕ) ![1, 1] ![0, 0] ![hi, 0] ⟨2, ![n, c]⟩) :
    Reads (Ideal.hostReduceWindowAdd ![n, 1] ![1, 1] ![0, 0] ![hi, 0] h X 0)
      (fun t d => ∑ u ∈ Ico t n, r u d) := fun t d => by
  have ht := t.isLt
  rw [windowSum, coe_sum]
  refine (Fintype.sum_equiv (upright n) _
    (fun k : Fin n => if t.val + k.val < n then ((r (t.val + k.val) d : ℝ) : EReal) else 0) ?_).trans ?_
  · intro w
    have h0 : (w 0 : ℕ) < n := (w 0).isLt
    have h1 : (w 1 : ℕ) < 1 := (w 1).isLt
    have hd := d.isLt
    show _ = if t.val + (w 0 : ℕ) < n then ((r (t.val + (w 0 : ℕ)) d : ℝ) : EReal) else 0
    split
    · next hin =>
      have q : 0 ≤ t.val * 1 + (w 0 : ℕ) ∧ t.val * 1 + (w 0 : ℕ) - 0 < n := hin 0
      rw [if_pos (by omega)]
      refine (congrArg X (funext fun b => Fin.ext ?_)).trans (hx ⟨t.val + (w 0 : ℕ), by omega⟩ d)
      match b with
      | ⟨0, _⟩ => show t.val * 1 + (w 0 : ℕ) - 0 = t.val + (w 0 : ℕ); omega
      | ⟨1, _⟩ => show d.val * 1 + (w 1 : ℕ) - 0 = d.val; omega
    · next hin =>
      rw [if_neg fun q => hin fun b => by
        match b with
        | ⟨0, _⟩ => show 0 ≤ t.val * 1 + (w 0 : ℕ) ∧ t.val * 1 + (w 0 : ℕ) - 0 < n; omega
        | ⟨1, _⟩ => show 0 ≤ d.val * 1 + (w 1 : ℕ) ∧ d.val * 1 + (w 1 : ℕ) - 0 < c; omega]
  · rw [Fin.sum_univ_eq_sum_range (fun k : ℕ => if t.val + k < n then ((r (t.val + k) d : ℝ) : EReal) else 0) n, ← Finset.sum_filter]
    refine Finset.sum_bij' (fun k _ => t.val + k) (fun u _ => u - t.val) ?_ ?_ ?_ ?_ ?_ <;> intro k hk <;>
      simp only [Finset.mem_filter, Finset.mem_range, Finset.mem_Ico] at hk ⊢ <;> omega

/-- The larger of the two entries of a column, taken from the bottom element. -/
theorem colMax {c : ℕ} {X : FVec Ideal ⟨2, ![2, c]⟩ .f32} {r : ℕ → ℕ → ℝ} (hx : Reads X r) (v : (⟨0, ![]⟩ : Shape).Idx → EReal)
    (h : (⟨2, ![2, c]⟩ : Shape).ReducesTo [0] ⟨1, ![c]⟩) (hu : 0 < (⟨0, ![]⟩ : Shape).numel) (hv : v (Shape.Idx.first hu) = ⊥) (d : Fin c) :
    ∃ M : ℝ, Host.reduce (FloatOps.maximumf (F := Ideal) (φ := .f32)) X v h hu (ix1 d) = (M : EReal) := by
  rw [Host.reduce_eq_fold, hv]
  have hr : ∀ i, X i = ((r (i 0) (i 1) : ℝ) : EReal) := fun i => (congrArg X (eq_ix2 i)).trans (hx (i 0) (i 1))
  have key : ∀ s : Finset (⟨2, ![2, c]⟩ : Shape).Idx, s = ∅ ∨ ∃ M : ℝ, s.fold (FloatOps.maximumf (F := Ideal) (φ := .f32)) ⊥ X = (M : EReal) := by
    classical
    intro s
    induction s using Finset.induction_on with
    | empty => exact .inl rfl
    | insert a s ha ih =>
      right
      rw [Finset.fold_insert ha, hr a]
      rcases ih with rfl | ⟨M, hM⟩
      · exact ⟨r (a 0) (a 1), max_eq_left bot_le⟩
      · rw [hM]
        exact ⟨max (r (a 0) (a 1)) M, (EReal.coe_strictMono.monotone.map_max (a := r (a 0) (a 1)) (b := M)).symm⟩
  refine (key _).resolve_left fun e => ?_
  have hm : ix2 (0 : Fin 2) d ∈ (Finset.univ.filter fun i => h.drop i = ix1 d) :=
    Finset.mem_filter.2 ⟨Finset.mem_univ _, by
      funext a
      fin_cases a
      rfl⟩
  rw [e] at hm
  exact Finset.notMem_empty _ hm

end Cert.Hgrn
-- ==== Proof.Host.lean ====
/-
  What the program computes before its launch: the saved states, from the forget gates and the values of the projected
  input, and the two arrays that are only laid out anew.
-/
module

public import proofs.«01_k».proof.Proof.Gen.KernelIdeal.Value
public import proofs.«01_k».proof.Proof.HostOps
public import Idealize.ShloMosaic.Lib.StableHlo.ReadAt

@[expose] public section

set_option maxRecDepth 16384

noncomputable section

namespace Cert.Hgrn

open Idealize.ShloMosaic Idealize.ShloMosaic.TcCoe Cert.KernelIdeal Cert.KernelIdeal.Gen

/-! ## The forget gate's lower bound -/

abbrev zeroWord : FVec Ideal S_ .f32 := constant S_ .f32 0x00000000#32

def largest (l : FVec Ideal S2x1024 .f32) : FVec Ideal S1024 .f32 :=
  maximumf (broadcastInDim S1024 ![] bcast_S_S1024 (constant S_ .f32 0xFF800000#32))
    (Host.reduce FloatOps.maximumf l (constant S_ .f32 0xFF800000#32) reducesTo_S2x1024_S1024_d0 h_S_)

def overTwo (x : FVec Ideal S1024 .f32) : FVec Ideal S2x1024 .f32 :=
  broadcastInDim S2x1024 ![0, 1] bcast_S1x1024_S2x1024_0_1 (broadcastInDim S1x1024 ![1] bcast_S1024_S1x1024_1 x)

def shiftedExp (l : FVec Ideal S2x1024 .f32) : FVec Ideal S2x1024 .f32 := Host.exp (subf l (overTwo (largest l)))

def softmax (l : FVec Ideal S2x1024 .f32) : FVec Ideal S2x1024 .f32 :=
  Host.divf (shiftedExp l) (overTwo (Host.reduceAdd (shiftedExp l) zeroWord reducesTo_S2x1024_S1024_d0 h_S_))

def partialSums (x : FVec Ideal S2x1024 .f32) : FVec Ideal S2x1024 .f32 :=
  Host.reduceWindowAdd ![2, 1] ![1, 1] ![1, 0] ![0, 0] x (broadcastInDim S_ ![] bcast_S_S_ zeroWord) reduceWindows_S2x1024_S2x1024_w2s1p1_0_w1s1p0_0 h_S_

def firstRowByHead (P : FVec Ideal S2x1024 .f32) : FVec Ideal S8x1x128 .f32 :=
  shapeCast S8x1x128 (shapeCast S1024 (extractStridedSlice S1x1024 ![0, 0] P slices_S2x1024_S1x1024_0_0) shapeCasts_S1x1024_S1024) shapeCasts_S1024_S8x1x128

/-! ## Gates and keys, by head -/

def byHead (x : FVec Ideal S8192x1024 .f32) : FVec Ideal S8x8192x128 .f32 :=
  transpose S8x8192x128 [1, 0, 2] (shapeCast S8192x8x128 x shapeCasts_S8192x1024_S8192x8x128) transposes_S8192x8x128_S8x8192x128_1_0_2

def gateCols (z : FVec Ideal S1x8192x8192 .f32) : FVec Ideal S8192x1024 .f32 :=
  shapeCast S8192x1024 (extractStridedSlice S1x8192x1024 ![0, 0, 1024] z slices_S1x8192x8192_S1x8192x1024_0_0_1024) shapeCasts_S1x8192x1024_S8192x1024

def valueCols (z : FVec Ideal S1x8192x8192 .f32) : FVec Ideal S8192x1024 .f32 :=
  shapeCast S8192x1024 (extractStridedSlice S1x8192x1024 ![0, 0, 2048] z slices_S1x8192x8192_S1x8192x1024_0_0_2048) shapeCasts_S1x8192x1024_S8192x1024

def ones3 : FVec Ideal S8x8192x128 .f32 := broadcastInDim S8x8192x128 ![] bcast_S_S8x8192x128 (constant S_ .f32 0x3F800000#32)

def sigmoid3 (x : FVec Ideal S8x8192x128 .f32) : FVec Ideal S8x8192x128 .f32 := Host.divf ones3 (addf ones3 (Host.exp (Host.negf x)))

def overTokens (x : FVec Ideal S8x1x128 .f32) : FVec Ideal S8x8192x128 .f32 := broadcastInDim S8x8192x128 ![0, 1, 2] bcast_S8x1x128_S8x8192x128_0_1_2 x

/-- The gate, from the partial sums of the logits' softmax and the gate's columns of the projected input. -/
def gateOf (P : FVec Ideal S2x1024 .f32) (x : FVec Ideal S8192x1024 .f32) : FVec Ideal S8x8192x128 .f32 :=
  addf (overTokens (firstRowByHead P)) (mulf (overTokens (subf (broadcastInDim S8x1x128 ![] bcast_S_S8x1x128 (constant S_ .f32 0x3F800000#32)) (firstRowByHead P))) (sigmoid3 (byHead x)))

def keyOf (P : FVec Ideal S2x1024 .f32) (x : FVec Ideal S8192x1024 .f32) : FVec Ideal S8x8192x128 .f32 := subf ones3 (gateOf P x)

def logOf (P : FVec Ideal S2x1024 .f32) (x : FVec Ideal S8192x1024 .f32) : FVec Ideal S8x8192x128 .f32 := Host.log (gateOf P x)

def runningSum (x : FVec Ideal S8x8192x128 .f32) : FVec Ideal S8x8192x128 .f32 :=
  Host.reduceWindowAdd ![1, 8192, 1] ![1, 1, 1] ![0, 8191, 0] ![0, 0, 0] x (broadcastInDim S_ ![] bcast_S_S_ zeroWord) reduceWindows_S8x8192x128_S8x8192x128_w1s1p0_0_w8192s1p8191_0_w1s1p0_0 h_S_

/-! ## The states before the chunks -/

/-- The running sum before each chunk: zero, then every sixty-fourth entry. -/
def before3 (B : FVec Ideal S8x8192x128 .f32) : FVec Ideal S8x128x128 .f32 :=
  concatenate S8x128x128 1 [⟨S8x1x128, broadcastInDim S8x1x128 ![] bcast_S_S8x1x128 zeroWord⟩,
    ⟨S8x127x128, Host.slice S8x127x128 ![0, 63, 0] ![1, 64, 1] B slicesBy_S8x8192x128_S8x127x128_0s1_63s64_0s1⟩] concatenates_S8x1x128_S8x127x128_S8x128x128_d1

def earlier : IVec S128x8192x1 1 :=
  cmpi .sgt (muli (broadcastInDim S128x8192x1 ![] bcast_S_S128x8192x1 (constantI S_ 32 64#32)) (iotaInDim S128x8192x1 32 0)) (iotaInDim S128x8192x1 32 1)

/-- `x` where the mask holds, the scalar elsewhere. -/
def whereMask (c : IVec S128x8192x1 1) (x : FVec Ideal S8x128x8192x128 .f32) (y : FVec Ideal S_ .f32) : FVec Ideal S8x128x8192x128 .f32 :=
  select (broadcastInDim S8x128x8192x128 ![1, 2, 3] bcast_S128x8192x1_S8x128x8192x128_1_2_3 c) x (broadcastInDim S8x128x8192x128 ![] bcast_S_S8x128x8192x128 y)

def spread (x : FVec Ideal S8x8192x128 .f32) : FVec Ideal S8x128x8192x128 .f32 :=
  broadcastInDim S8x128x8192x128 ![0, 1, 2, 3] bcast_S8x1x8192x128_S8x128x8192x128_0_1_2_3 (broadcastInDim S8x1x8192x128 ![0, 2, 3] bcast_S8x8192x128_S8x1x8192x128_0_2_3 x)

def spreadChunks (x : FVec Ideal S8x128x128 .f32) : FVec Ideal S8x128x8192x128 .f32 :=
  broadcastInDim S8x128x8192x128 ![0, 1, 2, 3] bcast_S8x128x1x128_S8x128x8192x128_0_1_2_3 (broadcastInDim S8x128x1x128 ![0, 1, 3] bcast_S8x128x128_S8x128x1x128_0_1_3 x)

def gaps (B : FVec Ideal S8x8192x128 .f32) : FVec Ideal S8x128x8192x128 .f32 := subf (spreadChunks (before3 B)) (spread B)

def expOf (x : FVec Ideal S8x128x8192x128 .f32) : FVec Ideal S8x128x8192x128 .f32 := Host.exp x

def decayOf (B : FVec Ideal S8x8192x128 .f32) : FVec Ideal S8x128x8192x128 .f32 :=
  whereMask earlier (expOf (whereMask earlier (gaps B) zeroWord)) zeroWord

def statesOf (W : FVec Ideal S8x128x8192x128 .f32) (k : FVec Ideal S8x8192x128 .f32) (z : FVec Ideal S1x8192x8192 .f32) : FVec Ideal S128x8x128x128 .f32 :=
  transpose S128x8x128x128 [2, 0, 1, 3]
    (Host.dotGeneral dot_S8x8192x128_S8x128x8192x128_S8x128x128x128_1_2_2_13_0_0 none (byHead (valueCols z)) (mulf W (spread k)))
    transposes_S8x128x128x128_S128x8x128x128_2_0_1_3

def states (z : FVec Ideal S1x8192x8192 .f32) (l : FVec Ideal S2x1024 .f32) : FVec Ideal S128x8x128x128 .f32 :=
  statesOf (decayOf (runningSum (logOf (partialSums (softmax l)) (gateCols z)))) (keyOf (partialSums (softmax l)) (gateCols z)) z

/-- The projected input by segment, head and token. -/
def bySegment (z : FVec Ideal S1x8192x8192 .f32) : FVec Ideal S8x8x8192x128 .f32 :=
  transpose S8x8x8192x128 [1, 2, 0, 3] (shapeCast S8192x8x8x128 (shapeCast S8192x8192 z shapeCasts_S1x8192x8192_S8192x8192) shapeCasts_S8192x8192_S8192x8x8x128) transposes_S8192x8x8x128_S8x8x8192x128_1_2_0_3

variable (m : (ℓ : Loc nD τ sig) → Buf (Elt Ideal) ℓ) (c : Dev nD)

abbrev argZ : FVec Ideal S1x8192x8192 .f32 := m ((c.tc : Thread nD τ).loc main_arg0)
abbrev argL : FVec Ideal S2x1024 .f32 := m ((c.tc : Thread nD τ).loc main_arg1)
abbrev argG : FVec Ideal S1x128 .f32 := m ((c.tc : Thread nD τ).loc main_arg2)
abbrev argDy : FVec Ideal S1x8192x1024 .f32 := m ((c.tc : Thread nD τ).loc main_arg3)

theorem entry_z : V m c main_v2 = bySegment (argZ m c) := by
  entry_read
  rfl

theorem entry_dy : V m c main_v63 = shapeCast S8192x1024 (argDy m c) shapeCasts_S1x8192x1024_S8192x1024 := by
  entry_read
  rfl

/-! ## The program's lines before the launch, in stretches, from any contents -/

variable (W : Valuation τ sig (Elt Ideal))

theorem line0_softmax : StableHlo.after (hostOps0 (F := Ideal)) W (Proc.devRef .tc main_v15) = softmax (W (Proc.devRef .tc main_arg1)) := by
  after_reads_simp
  rfl

theorem line0_gate : StableHlo.after (hostOps0 (F := Ideal)) W (Proc.devRef .tc main_v4) = gateCols (W (Proc.devRef .tc main_arg0)) := by
  after_reads_simp
  rfl

theorem keep0_arg0 : StableHlo.after (hostOps0 (F := Ideal)) W (Proc.devRef .tc main_arg0) = (W (Proc.devRef .tc main_arg0)) := by
  after_reads_simp

theorem line1_sums : StableHlo.after (hostOps0_1 (F := Ideal)) W (Proc.devRef .tc main_v16) = partialSums (W (Proc.devRef .tc main_v15)) := by
  after_reads_simp
  simp -implicitDefEqProofs only [StableHlo.TRef.ofBuf_toBuf, StableHlo.TRef.toBuf, StableHlo.TRef.ofBuf, cast_eq]
  rfl

theorem keep1_arg0 : StableHlo.after (hostOps0_1 (F := Ideal)) W (Proc.devRef .tc main_arg0) = (W (Proc.devRef .tc main_arg0)) := by
  after_reads_simp

theorem keep1_v4 : StableHlo.after (hostOps0_1 (F := Ideal)) W (Proc.devRef .tc main_v4) = (W (Proc.devRef .tc main_v4)) := by
  after_reads_simp

theorem line2_key : StableHlo.after (hostOps0_2 (F := Ideal)) W (Proc.devRef .tc main_v35) = keyOf (W (Proc.devRef .tc main_v16)) (W (Proc.devRef .tc main_v4)) := by
  after_reads_simp
  rfl

theorem line2_log : StableHlo.after (hostOps0_2 (F := Ideal)) W (Proc.devRef .tc main_v36) = logOf (W (Proc.devRef .tc main_v16)) (W (Proc.devRef .tc main_v4)) := by
  after_reads_simp
  rfl

theorem keep2_arg0 : StableHlo.after (hostOps0_2 (F := Ideal)) W (Proc.devRef .tc main_arg0) = (W (Proc.devRef .tc main_arg0)) := by
  after_reads_simp

theorem line3_sums : StableHlo.after (hostOps0_3 (F := Ideal)) W (Proc.devRef .tc main_v37) = runningSum (W (Proc.devRef .tc main_v36)) := by
  after_reads_simp
  simp -implicitDefEqProofs only [StableHlo.TRef.ofBuf_toBuf, StableHlo.TRef.toBuf, StableHlo.TRef.ofBuf, cast_eq]
  rfl

theorem keep3_arg0 : StableHlo.after (hostOps0_3 (F := Ideal)) W (Proc.devRef .tc main_arg0) = (W (Proc.devRef .tc main_arg0)) := by
  after_reads_simp

theorem keep3_v35 : StableHlo.after (hostOps0_3 (F := Ideal)) W (Proc.devRef .tc main_v35) = (W (Proc.devRef .tc main_v35)) := by
  after_reads_simp

theorem line4_mask : StableHlo.after (hostOps0_4 (F := Ideal)) W (Proc.devRef .tc main_v45) = earlier := by
  after_reads_simp
  rfl

theorem line4_gaps : StableHlo.after (hostOps0_4 (F := Ideal)) W (Proc.devRef .tc main_v50) = gaps (W (Proc.devRef .tc main_v37)) := by
  after_reads_simp
  rfl

theorem line4_zero : StableHlo.after (hostOps0_4 (F := Ideal)) W (Proc.devRef .tc main_cst_7) = zeroWord := by
  after_reads_simp

theorem keep4_arg0 : StableHlo.after (hostOps0_4 (F := Ideal)) W (Proc.devRef .tc main_arg0) = (W (Proc.devRef .tc main_arg0)) := by
  after_reads_simp

theorem keep4_v35 : StableHlo.after (hostOps0_4 (F := Ideal)) W (Proc.devRef .tc main_v35) = (W (Proc.devRef .tc main_v35)) := by
  after_reads_simp

theorem line5_where : StableHlo.after (hostOps0_5 (F := Ideal)) W (Proc.devRef .tc main_v51) = whereMask (W (Proc.devRef .tc main_v45)) (W (Proc.devRef .tc main_v50)) (W (Proc.devRef .tc main_cst_7)) := by
  after_reads_simp
  simp -implicitDefEqProofs only [StableHlo.TRef.ofBuf_toBuf, StableHlo.TRef.toBuf, StableHlo.TRef.ofBuf, cast_eq]
  rfl

theorem keep5_arg0 : StableHlo.after (hostOps0_5 (F := Ideal)) W (Proc.devRef .tc main_arg0) = (W (Proc.devRef .tc main_arg0)) := by
  after_reads_simp

theorem keep5_v35 : StableHlo.after (hostOps0_5 (F := Ideal)) W (Proc.devRef .tc main_v35) = (W (Proc.devRef .tc main_v35)) := by
  after_reads_simp

theorem keep5_v45 : StableHlo.after (hostOps0_5 (F := Ideal)) W (Proc.devRef .tc main_v45) = (W (Proc.devRef .tc main_v45)) := by
  after_reads_simp

theorem line6_exp : StableHlo.after (hostOps0_6 (F := Ideal)) W (Proc.devRef .tc main_v52) = expOf (W (Proc.devRef .tc main_v51)) := by
  after_reads_simp
  rfl

theorem line6_zero : StableHlo.after (hostOps0_6 (F := Ideal)) W (Proc.devRef .tc main_cst_8) = zeroWord := by
  after_reads_simp

theorem keep6_arg0 : StableHlo.after (hostOps0_6 (F := Ideal)) W (Proc.devRef .tc main_arg0) = (W (Proc.devRef .tc main_arg0)) := by
  after_reads_simp

theorem keep6_v35 : StableHlo.after (hostOps0_6 (F := Ideal)) W (Proc.devRef .tc main_v35) = (W (Proc.devRef .tc main_v35)) := by
  after_reads_simp

theorem keep6_v45 : StableHlo.after (hostOps0_6 (F := Ideal)) W (Proc.devRef .tc main_v45) = (W (Proc.devRef .tc main_v45)) := by
  after_reads_simp

theorem line7_where : StableHlo.after (hostOps0_7 (F := Ideal)) W (Proc.devRef .tc main_v53) = whereMask (W (Proc.devRef .tc main_v45)) (W (Proc.devRef .tc main_v52)) (W (Proc.devRef .tc main_cst_8)) := by
  after_reads_simp
  simp -implicitDefEqProofs only [StableHlo.TRef.ofBuf_toBuf, StableHlo.TRef.toBuf, StableHlo.TRef.ofBuf, cast_eq]
  rfl

theorem keep7_arg0 : StableHlo.after (hostOps0_7 (F := Ideal)) W (Proc.devRef .tc main_arg0) = (W (Proc.devRef .tc main_arg0)) := by
  after_reads_simp

theorem keep7_v35 : StableHlo.after (hostOps0_7 (F := Ideal)) W (Proc.devRef .tc main_v35) = (W (Proc.devRef .tc main_v35)) := by
  after_reads_simp

theorem line8_states : StableHlo.after (hostOps0_8 (F := Ideal)) W (Proc.devRef .tc main_v62) = statesOf (W (Proc.devRef .tc main_v53)) (W (Proc.devRef .tc main_v35)) (W (Proc.devRef .tc main_arg0)) := by
  after_reads_simp
  rfl

theorem after_append (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => exact ih _

theorem entry_states : V m c main_v62 = states (argZ m c) (argL m c) := by
  unfold V
  rw [List.flatten_cons, List.flatten_cons, List.flatten_cons, List.flatten_cons, List.flatten_cons, List.flatten_cons, List.flatten_cons, List.flatten_cons, List.flatten_cons, List.flatten_nil, List.append_nil]
  rw [after_append, after_append, after_append, after_append, after_append, after_append, after_append, after_append]
  rw [line8_states, line7_where, keep7_v35, keep7_arg0, line6_exp, line6_zero, keep6_v45, keep6_v35, keep6_arg0, line5_where, keep5_v45, keep5_v35, keep5_arg0,
    line4_mask, line4_gaps, line4_zero, keep4_v35, keep4_arg0, line3_sums, keep3_v35, keep3_arg0, line2_key, line2_log, keep2_arg0,
    line1_sums, keep1_v4, keep1_arg0, line0_softmax, line0_gate, keep0_arg0]
  rfl

end Cert.Hgrn
-- ==== Proof.Real.lean ====
/- One head of the gated recurrence and its gradient, over the real numbers: the quantities of the token-level
   text (every token against every earlier one), and the equations by which a walk over chunks of 64 tokens
   reaches them. Arrays are functions of a token and a lane. -/
module

public import Idealize.ShloMosaic.PureOps.Ideal
public import Mathlib.Analysis.SpecialFunctions.Log.Basic
public import Mathlib.Algebra.BigOperators.Intervals
public import Mathlib.Algebra.Order.Interval.Finset.SuccPred
public import Mathlib.Tactic.Linarith
public import Mathlib.Tactic.Positivity
public import Mathlib.Tactic.FieldSimp
public import Mathlib.Tactic.Ring

@[expose] public section

noncomputable section

namespace Cert.Hgrn

open Finset

/-- The number of tokens. -/
def N : ℕ := 8192

theorem N_eq : N = 8192 := rfl

/-- The inputs of one head: its lanes of the four segments, of the incoming gradient, of the two rows of
    lower-bound logits and of the norm's gain. -/
structure Head where
  zq : ℕ → ℕ → ℝ
  zf : ℕ → ℕ → ℝ
  zi : ℕ → ℕ → ℝ
  zg : ℕ → ℕ → ℝ
  dy : ℕ → ℕ → ℝ
  l0 : ℕ → ℝ
  l1 : ℕ → ℝ
  gn : ℕ → ℝ

/-- The logistic function. -/
def sgm (x : ℝ) : ℝ := (1 + Real.exp (-x))⁻¹

theorem one_add_exp_pos (x : ℝ) : 0 < 1 + Real.exp (-x) := by positivity

theorem sgm_pos (x : ℝ) : 0 < sgm x := inv_pos.2 (one_add_exp_pos x)

theorem sgm_lt_one (x : ℝ) : sgm x < 1 := by
  unfold sgm
  rw [inv_lt_one_iff₀]
  right
  linarith [Real.exp_pos (-x)]

namespace Head

variable (H : Head)

/-- The forget gate's lower bound: the first of the softmax of the two logits. -/
def lb (d : ℕ) : ℝ := Real.exp (H.l0 d) / (Real.exp (H.l0 d) + Real.exp (H.l1 d))

/-- The query, and its derivative in the segment it comes from. -/
def q (t d : ℕ) : ℝ := H.zq t d * sgm (H.zq t d)
def qz (t d : ℕ) : ℝ := sgm (H.zq t d) * (1 + H.zq t d * (1 - sgm (H.zq t d)))

def sf (t d : ℕ) : ℝ := sgm (H.zf t d)

/-- The forget gate, the key, and the gate's logarithm. -/
def f (t d : ℕ) : ℝ := H.lb d + (1 - H.lb d) * H.sf t d
def k (t d : ℕ) : ℝ := 1 - H.f t d
def lf (t d : ℕ) : ℝ := Real.log (H.f t d)

/-- The sum of the gate's logarithm over the first `n` tokens. -/
def S (n d : ℕ) : ℝ := ∑ u ∈ range n, H.lf u d

/-- Through token `t`. -/
def B (t d : ℕ) : ℝ := H.S (t + 1) d

/-- The weight of token `s` in token `t`'s output. -/
def A (t s : ℕ) : ℝ := if s ≤ t then ∑ d ∈ range 128, H.q t d * H.k s d * Real.exp (H.B t d - H.B s d) else 0

/-- The recurrence's output. -/
def o (t v : ℕ) : ℝ := ∑ s ∈ range N, H.A t s * H.zi s v

/-- The constant added to the mean square. -/
def var (eps : ℝ) (t : ℕ) : ℝ := (∑ v ∈ range 128, H.o t v * H.o t v) / 128 + eps

def rinv (eps : ℝ) (t : ℕ) : ℝ := (Real.sqrt (H.var eps t))⁻¹

def ohat (eps : ℝ) (t v : ℕ) : ℝ := H.o t v * H.rinv eps t

def sg (t v : ℕ) : ℝ := H.zg t v * sgm (H.zg t v)
def dsg (t v : ℕ) : ℝ := sgm (H.zg t v) * (1 + H.zg t v * (1 - sgm (H.zg t v)))

/-- The gradients, from the gated output back. -/
def don (t v : ℕ) : ℝ := H.dy t v * H.sg t v
def dzg (eps : ℝ) (t v : ℕ) : ℝ := H.dy t v * (H.ohat eps t v * H.gn v) * H.dsg t v
def dgnTo (eps : ℝ) (m v : ℕ) : ℝ := ∑ t ∈ Ico m N, H.don t v * H.ohat eps t v
def dohat (t v : ℕ) : ℝ := H.don t v * H.gn v
def dot (eps : ℝ) (t : ℕ) : ℝ := (∑ v ∈ range 128, H.dohat t v * H.ohat eps t v) / 128
def do' (eps : ℝ) (t v : ℕ) : ℝ := H.rinv eps t * (H.dohat t v - H.ohat eps t v * H.dot eps t)

def DA (eps : ℝ) (t s : ℕ) : ℝ := if s ≤ t then ∑ v ∈ range 128, H.do' eps t v * H.zi s v else 0

def dv (eps : ℝ) (s v : ℕ) : ℝ := ∑ t ∈ range N, H.A t s * H.do' eps t v
def dq (eps : ℝ) (t d : ℕ) : ℝ := ∑ s ∈ range N, H.DA eps t s * H.k s d * Real.exp (H.B t d - H.B s d)
def dk (eps : ℝ) (s d : ℕ) : ℝ := ∑ t ∈ range N, H.DA eps t s * H.q t d * Real.exp (H.B t d - H.B s d)

/-- The product one pair of tokens contributes to the gradient of the decay between them. -/
def w (eps : ℝ) (d t s : ℕ) : ℝ := H.DA eps t s * H.q t d * H.k s d * Real.exp (H.B t d - H.B s d)

def dB (eps : ℝ) (u d : ℕ) : ℝ := ∑ s ∈ range N, H.w eps d u s - ∑ t ∈ range N, H.w eps d t u

def dlf (eps : ℝ) (u d : ℕ) : ℝ := ∑ r ∈ Ico u N, H.dB eps r d

def df (eps : ℝ) (t d : ℕ) : ℝ := H.dlf eps t d / H.f t d - H.dk eps t d

def dzf (eps : ℝ) (t d : ℕ) : ℝ := H.df eps t d * (1 - H.lb d) * (H.sf t d * (1 - H.sf t d))

def dzq (eps : ℝ) (t d : ℕ) : ℝ := H.dq eps t d * H.qz t d

/-- The lower bound's gradient summed over the tokens from `m` on, and the first logit's. -/
def dlbTo (eps : ℝ) (m d : ℕ) : ℝ := ∑ t ∈ Ico m N, H.df eps t d * (1 - H.sf t d)
def dl0To (eps : ℝ) (m d : ℕ) : ℝ := H.dlbTo eps m d * H.lb d * (1 - H.lb d)

theorem lb_pos (d : ℕ) : 0 < H.lb d := by unfold lb; positivity

theorem lb_lt_one (d : ℕ) : H.lb d < 1 := by
  unfold lb
  rw [div_lt_one (by positivity)]
  linarith [Real.exp_pos (H.l1 d)]

theorem sf_pos (t d : ℕ) : 0 < H.sf t d := sgm_pos _
theorem sf_lt_one (t d : ℕ) : H.sf t d < 1 := sgm_lt_one _

theorem f_pos (t d : ℕ) : 0 < H.f t d := by
  have h1 := H.lb_pos d
  have h2 := H.lb_lt_one d
  have h3 := H.sf_pos t d
  unfold f
  nlinarith

theorem var_pos {eps : ℝ} (he : 0 < eps) (t : ℕ) : 0 < H.var eps t := by
  unfold var
  have : 0 ≤ ∑ v ∈ range 128, H.o t v * H.o t v := sum_nonneg fun v _ => mul_self_nonneg _
  have := div_nonneg this (by norm_num : (0 : ℝ) ≤ 128)
  linarith

/-! ## The chunks -/

/-- The state before chunk `c`: what the tokens before it left. -/
def St (c v d : ℕ) : ℝ := ∑ s ∈ range (64 * c), Real.exp (H.S (64 * c) d - H.B s d) * H.k s d * H.zi s v

/-- The gradient of the state before chunk `c`, from the tokens of the chunk and after it. -/
def Gs (eps : ℝ) (c v d : ℕ) : ℝ := ∑ t ∈ Ico (64 * c) N, H.do' eps t v * H.q t d * Real.exp (H.B t d - H.S (64 * c) d)

/-- The decay from the chunk's start through token `t`, and over the whole chunk of `t`. -/
def b (t d : ℕ) : ℝ := H.S (t + 1) d - H.S (64 * (t / 64)) d
def bl (t d : ℕ) : ℝ := H.S (64 * (t / 64) + 64) d - H.S (64 * (t / 64)) d
def qd (t d : ℕ) : ℝ := H.q t d * Real.exp (H.b t d)
def kd (t d : ℕ) : ℝ := H.k t d * Real.exp (-H.b t d)
def ke (t d : ℕ) : ℝ := H.k t d * Real.exp (H.bl t d - H.b t d)

theorem A_eq {t s : ℕ} (hc : s / 64 = t / 64) (hs : s ≤ t) : H.A t s = ∑ d ∈ range 128, H.qd t d * H.kd s d := by
  unfold A
  rw [if_pos hs]
  refine sum_congr rfl fun d _ => ?_
  unfold qd kd b B
  rw [hc]
  have : Real.exp (H.S (t + 1) d - H.S (s + 1) d) = Real.exp (H.S (t + 1) d - H.S (64 * (t / 64)) d) * Real.exp (-(H.S (s + 1) d - H.S (64 * (t / 64)) d)) := by
    rw [← Real.exp_add]; congr 1; ring
  rw [this]; ring

theorem A_of_lt {t s : ℕ} (h : t < s) : H.A t s = 0 := if_neg (by omega)

theorem DA_of_lt {eps : ℝ} {t s : ℕ} (h : t < s) : H.DA eps t s = 0 := if_neg (by omega)

theorem w_of_lt {eps : ℝ} {d t s : ℕ} (h : t < s) : H.w eps d t s = 0 := by unfold w; rw [H.DA_of_lt h]; ring

/-- A sum over all tokens of something that vanishes after `t`, cut at the start of `t`'s chunk. -/
theorem sum_upto {g : ℕ → ℝ} {t : ℕ} (ht : t < N) (hg : ∀ s, t < s → g s = 0) :
    ∑ s ∈ range N, g s = ∑ s ∈ Ico (64 * (t / 64)) (t + 1), g s + ∑ s ∈ range (64 * (t / 64)), g s := by
  rw [← sum_subset (s₁ := range (t + 1)) (by intro x; simp; omega) (by intro x _ h; apply hg; simp at h; omega)]
  rw [range_eq_Ico, range_eq_Ico, add_comm (∑ s ∈ Ico _ _, g s)]
  exact (sum_Ico_consecutive g (Nat.zero_le (64 * (t / 64))) (by omega)).symm

/-- A sum over all tokens of something that vanishes before `s`, cut at the end of `s`'s chunk. -/
theorem sum_from {g : ℕ → ℝ} {s : ℕ} (hs : s < N) (hg : ∀ t, t < s → g t = 0) :
    ∑ t ∈ range N, g t = ∑ t ∈ Ico s (64 * (s / 64) + 64), g t + ∑ t ∈ Ico (64 * (s / 64) + 64) N, g t := by
  rw [N_eq] at *
  rw [sum_Ico_consecutive _ (by omega) (by omega)]
  exact (sum_subset (by intro x; simp; ) (by intro x _ h; apply hg; simp at *; omega)).symm

theorem o_eq {t : ℕ} (ht : t < N) (v : ℕ) :
    H.o t v = ∑ s ∈ Ico (64 * (t / 64)) (t + 1), H.A t s * H.zi s v + ∑ d ∈ range 128, H.qd t d * H.St (t / 64) v d := by
  unfold o
  rw [sum_upto ht (g := fun s => H.A t s * H.zi s v) (fun s h => by simp [H.A_of_lt h])]
  congr 1
  unfold St
  simp only [mul_sum]
  rw [sum_comm]
  refine sum_congr rfl fun s hs => ?_
  simp only [mem_range] at hs
  unfold A
  rw [if_pos (by omega), sum_mul]
  refine sum_congr rfl fun d _ => ?_
  unfold qd b B
  have : Real.exp (H.S (t + 1) d - H.S (s + 1) d) = Real.exp (H.S (t + 1) d - H.S (64 * (t / 64)) d) * Real.exp (H.S (64 * (t / 64)) d - H.S (s + 1) d) := by
    rw [← Real.exp_add]; congr 1; ring
  rw [this]; ring

theorem dv_eq {eps : ℝ} {s : ℕ} (hs : s < N) (v : ℕ) :
    H.dv eps s v = ∑ t ∈ Ico s (64 * (s / 64) + 64), H.A t s * H.do' eps t v + ∑ d ∈ range 128, H.ke s d * H.Gs eps (s / 64 + 1) v d := by
  unfold dv
  rw [sum_from hs (g := fun t => H.A t s * H.do' eps t v) (fun t h => by simp [H.A_of_lt h])]
  congr 1
  unfold Gs
  simp only [mul_sum]
  rw [sum_comm, show 64 * (s / 64 + 1) = 64 * (s / 64) + 64 by ring]
  refine sum_congr rfl fun t ht => ?_
  simp only [mem_Ico] at ht
  unfold A
  rw [if_pos (by omega), sum_mul]
  refine sum_congr rfl fun d _ => ?_
  unfold ke bl b B
  have : Real.exp (H.S (t + 1) d - H.S (s + 1) d) = Real.exp (H.S (64 * (s / 64) + 64) d - H.S (64 * (s / 64)) d - (H.S (s + 1) d - H.S (64 * (s / 64)) d)) * Real.exp (H.S (t + 1) d - H.S (64 * (s / 64) + 64) d) := by
    rw [← Real.exp_add]; congr 1; ring
  rw [this]; ring

/-- What the tokens before the chunk give the query's gradient, before the decay is put back. -/
theorem dq_state {eps : ℝ} {t : ℕ} (d : ℕ) :
    (∑ v ∈ range 128, H.do' eps t v * H.St (t / 64) v d) * Real.exp (H.b t d)
      = ∑ s ∈ range (64 * (t / 64)), H.DA eps t s * H.k s d * Real.exp (H.B t d - H.B s d) := by
  unfold St
  simp only [mul_sum, sum_mul]
  rw [sum_comm]
  refine sum_congr rfl fun s hs => ?_
  simp only [mem_range] at hs
  unfold DA
  rw [if_pos (by omega), sum_mul, sum_mul]
  refine sum_congr rfl fun v _ => ?_
  unfold b B
  have : Real.exp (H.S (t + 1) d - H.S (s + 1) d) = Real.exp (H.S (t + 1) d - H.S (64 * (t / 64)) d) * Real.exp (H.S (64 * (t / 64)) d - H.S (s + 1) d) := by
    rw [← Real.exp_add]; congr 1; ring
  rw [this]; ring

theorem exp_pair {t s : ℕ} (hc : s / 64 = t / 64) (d : ℕ) :
    Real.exp (-H.b s d) * Real.exp (H.b t d) = Real.exp (H.B t d - H.B s d) := by
  rw [← Real.exp_add]; unfold b B; rw [hc]; congr 1; ring

/-- The query's gradient from the chunk and the state before it. -/
def dqd (eps : ℝ) (t d : ℕ) : ℝ :=
  ∑ s ∈ Ico (64 * (t / 64)) (t + 1), H.DA eps t s * H.kd s d + ∑ v ∈ range 128, H.do' eps t v * H.St (t / 64) v d

theorem dq_eq {eps : ℝ} {t : ℕ} (ht : t < N) (d : ℕ) : H.dqd eps t d * Real.exp (H.b t d) = H.dq eps t d := by
  unfold dqd dq
  rw [add_mul, H.dq_state, sum_upto ht (fun s h => by simp [H.DA_of_lt h]), sum_mul]
  congr 1
  refine sum_congr rfl fun s hs => ?_
  simp only [mem_Ico] at hs
  rw [← H.exp_pair (t := t) (s := s) (by omega)]
  unfold kd
  ring

/-- The key's gradient from the chunk, and from the state after it. -/
def dkd (eps : ℝ) (s d : ℕ) : ℝ := ∑ t ∈ Ico s (64 * (s / 64) + 64), H.DA eps t s * H.qd t d
def dke (eps : ℝ) (s d : ℕ) : ℝ := ∑ v ∈ range 128, H.zi s v * H.Gs eps (s / 64 + 1) v d

theorem dke_eq {eps : ℝ} {s : ℕ} (d : ℕ) : H.dke eps s d * Real.exp (H.bl s d - H.b s d)
      = ∑ t ∈ Ico (64 * (s / 64) + 64) N, H.DA eps t s * H.q t d * Real.exp (H.B t d - H.B s d) := by
  unfold dke Gs
  simp only [mul_sum, sum_mul]
  rw [sum_comm, show 64 * (s / 64 + 1) = 64 * (s / 64) + 64 by ring]
  refine sum_congr rfl fun t ht => ?_
  simp only [mem_Ico] at ht
  unfold DA
  rw [if_pos (by omega), sum_mul, sum_mul]
  refine sum_congr rfl fun v _ => ?_
  unfold bl b B
  have : Real.exp (H.S (t + 1) d - H.S (s + 1) d) = Real.exp (H.S (64 * (s / 64) + 64) d - H.S (64 * (s / 64)) d - (H.S (s + 1) d - H.S (64 * (s / 64)) d)) * Real.exp (H.S (t + 1) d - H.S (64 * (s / 64) + 64) d) := by
    rw [← Real.exp_add]; congr 1; ring
  rw [this]; ring

theorem dk_eq {eps : ℝ} {s : ℕ} (hs : s < N) (d : ℕ) :
    H.dkd eps s d * Real.exp (-H.b s d) + H.dke eps s d * Real.exp (H.bl s d - H.b s d) = H.dk eps s d := by
  rw [H.dke_eq]
  unfold dk dkd
  rw [sum_from hs (fun s h => by simp [H.DA_of_lt h]), sum_mul]
  congr 1
  refine sum_congr rfl fun t ht => ?_
  simp only [mem_Ico] at ht
  rw [← H.exp_pair (t := t) (s := s) (by omega)]
  unfold qd
  ring

/-- The gradient of the decay through token `u`, as the chunk computes it. -/
theorem db_eq {eps : ℝ} {u : ℕ} (hu : u < N) (d : ℕ) :
    H.dqd eps u d * H.qd u d - H.dkd eps u d * H.kd u d - H.dke eps u d * H.ke u d = H.dB eps u d := by
  have h1 : H.dqd eps u d * H.qd u d = H.dq eps u d * H.q u d := by rw [← H.dq_eq hu]; unfold qd; ring
  have h2 : H.dkd eps u d * H.kd u d + H.dke eps u d * H.ke u d = H.dk eps u d * H.k u d := by
    rw [← H.dk_eq hu]; unfold kd ke; ring
  rw [sub_sub, h1, h2]
  unfold dB dq dk w
  rw [sum_mul, sum_mul]
  refine congrArg₂ (· - ·) ?_ ?_
  · exact sum_congr rfl fun s _ => by ring
  · exact sum_congr rfl fun s _ => by ring

/-- The gradients of the decays after token `e` sum to what crosses `e`. -/
theorem sum_dB {eps : ℝ} {e : ℕ} (he : e ≤ N) (d : ℕ) :
    ∑ u ∈ Ico e N, H.dB eps u d = ∑ t ∈ Ico e N, ∑ s ∈ range e, H.w eps d t s := by
  unfold dB
  rw [sum_sub_distrib, sub_eq_iff_eq_add, sum_comm (s := Ico e N) (t := range N) (f := fun u t => H.w eps d t u)]
  have h : ∑ t ∈ range N, ∑ u ∈ Ico e N, H.w eps d t u = ∑ t ∈ Ico e N, ∑ u ∈ Ico e N, H.w eps d t u := by
    refine (sum_subset (fun x => by simp) fun t _ ht => ?_).symm
    refine sum_eq_zero fun u hu => H.w_of_lt ?_
    simp at *
    omega
  rw [h, ← sum_add_distrib]
  refine sum_congr rfl fun t _ => ?_
  rw [range_eq_Ico, range_eq_Ico]
  exact (sum_Ico_consecutive _ (by omega) he).symm

/-- What crosses the end of the chunk of `u`: from inside the chunk, and from before it. -/
theorem last_eq {eps : ℝ} {c : ℕ} (hc : 64 * c + 64 ≤ N) (d : ℕ) :
    ∑ r ∈ Ico (64 * c) (64 * c + 64), H.dke eps r d * H.ke r d
        + (∑ v ∈ range 128, H.Gs eps (c + 1) v d * H.St c v d) * Real.exp (H.S (64 * c + 64) d - H.S (64 * c) d)
      = ∑ u ∈ Ico (64 * c + 64) N, H.dB eps u d := by
  rw [H.sum_dB hc]
  have h1 : ∀ r ∈ Ico (64 * c) (64 * c + 64), H.dke eps r d * H.ke r d = ∑ t ∈ Ico (64 * c + 64) N, H.w eps d t r := by
    intro r hr
    simp only [mem_Ico] at hr
    have : H.dke eps r d * H.ke r d = H.dke eps r d * Real.exp (H.bl r d - H.b r d) * H.k r d := by unfold ke; ring
    rw [this, H.dke_eq, show r / 64 = c by omega, sum_mul]
    refine sum_congr rfl fun t _ => ?_
    unfold w; ring
  rw [sum_congr rfl h1, sum_comm]
  have h2 : (∑ v ∈ range 128, H.Gs eps (c + 1) v d * H.St c v d) * Real.exp (H.S (64 * c + 64) d - H.S (64 * c) d)
      = ∑ t ∈ Ico (64 * c + 64) N, ∑ s ∈ range (64 * c), H.w eps d t s := by
    unfold Gs St
    simp only [sum_mul, mul_sum]
    rw [sum_comm, sum_comm (s := Ico _ _), show 64 * (c + 1) = 64 * c + 64 by ring]
    refine sum_congr rfl fun s hs => ?_
    rw [sum_comm]
    refine sum_congr rfl fun t ht => ?_
    simp only [mem_Ico, mem_range] at ht hs
    unfold w DA
    rw [if_pos (by omega), sum_mul, sum_mul, sum_mul]
    refine sum_congr rfl fun v _ => ?_
    unfold B
    have : Real.exp (H.S (t + 1) d - H.S (s + 1) d) = Real.exp (H.S (64 * c + 64) d - H.S (64 * c) d) * Real.exp (H.S (t + 1) d - H.S (64 * c + 64) d) * Real.exp (H.S (64 * c) d - H.S (s + 1) d) := by
      rw [← Real.exp_add, ← Real.exp_add]; congr 1; ring
    rw [this]; ring
  rw [h2, ← sum_add_distrib]
  refine sum_congr rfl fun t _ => ?_
  rw [range_eq_Ico, range_eq_Ico, add_comm (∑ s ∈ Ico (64 * c) _, _)]
  exact sum_Ico_consecutive _ (by omega) (by omega)

theorem dlf_eq {eps : ℝ} {u : ℕ} (hu : u < N) (d : ℕ) :
    ∑ r ∈ Ico u (64 * (u / 64) + 64), H.dB eps r d
        + (∑ r ∈ Ico (64 * (u / 64)) (64 * (u / 64) + 64), H.dke eps r d * H.ke r d
          + (∑ v ∈ range 128, H.Gs eps (u / 64 + 1) v d * H.St (u / 64) v d) * Real.exp (H.bl u d))
      = H.dlf eps u d := by
  have h64 : 64 * (u / 64) + 64 ≤ N := by rw [N_eq] at *; omega
  unfold bl
  rw [H.last_eq h64, sum_Ico_consecutive _ (by omega) h64]
  rfl

/-- The state's gradient one chunk earlier. -/
theorem Gs_step {eps : ℝ} {c : ℕ} (hc : 64 * c + 64 ≤ N) (v d : ℕ) :
    H.Gs eps (c + 1) v d * Real.exp (H.bl (64 * c) d) + ∑ r ∈ Ico (64 * c) (64 * c + 64), H.do' eps r v * H.qd r d
      = H.Gs eps c v d := by
  unfold Gs
  rw [← sum_Ico_consecutive (m := 64 * c) (n := 64 * c + 64) (k := N) _ (by omega) hc, add_comm,
    show 64 * (c + 1) = 64 * c + 64 by ring, sum_mul]
  congr 1
  · refine sum_congr rfl fun r hr => ?_
    simp only [mem_Ico] at hr
    unfold qd b B
    rw [show r / 64 = c by omega]; ring
  · refine sum_congr rfl fun t _ => ?_
    unfold bl
    rw [show 64 * c / 64 = c by omega]
    have : Real.exp (H.B t d - H.S (64 * c) d) = Real.exp (H.B t d - H.S (64 * c + 64) d) * Real.exp (H.S (64 * c + 64) d - H.S (64 * c) d) := by
      rw [← Real.exp_add]; congr 1; ring
    rw [this]; ring

theorem Gs_end {eps : ℝ} {c : ℕ} (hc : 64 * c = N) (v d : ℕ) : H.Gs eps c v d = 0 := by
  unfold Gs; rw [hc]; simp

end Head

/-! ## A tile of two chunks under its masks -/

theorem tril_sum {a : ℕ} (ha : a < 128) (g : ℕ → ℝ) :
    ∑ k ∈ range 128, (if a / 64 = k / 64 ∧ k ≤ a then g k else 0) = ∑ k ∈ Ico (64 * (a / 64)) (a + 1), g k := by
  rw [← sum_filter]
  refine sum_congr ?_ fun _ _ => rfl
  ext k; simp; omega

theorem triu_sum {a : ℕ} (ha : a < 128) (g : ℕ → ℝ) :
    ∑ k ∈ range 128, (if a / 64 = k / 64 ∧ a ≤ k then g k else 0) = ∑ k ∈ Ico a (64 * (a / 64) + 64), g k := by
  rw [← sum_filter]
  refine sum_congr ?_ fun _ _ => rfl
  ext k; simp; omega

end Cert.Hgrn

end

end
-- ==== Proof.Heads.lean ====
/-
  The heads of the arguments, as real numbers, and the arrays of extended reals that hold them.
-/
module

public import proofs.«01_k».proof.Proof.HostOps
public import proofs.«01_k».proof.Proof.Real

@[expose] public section

set_option maxRecDepth 16384

noncomputable section

namespace Cert.Hgrn

open Idealize.ShloMosaic

/-- Every entry is a real number. -/
def IsReal {s : Shape} (X : s.Idx → EReal) : Prop := ∀ i, X i = ((X i).toReal : EReal)

variable (z : (⟨3, ![1, 8192, 8192]⟩ : Shape).Idx → EReal) (l : (⟨2, ![2, 1024]⟩ : Shape).Idx → EReal)
  (g : (⟨2, ![1, 128]⟩ : Shape).Idx → EReal) (dy : (⟨3, ![1, 8192, 1024]⟩ : Shape).Idx → EReal)

def zAt (t j : ℕ) : ℝ := (z (ix3 0 (Fin.ofNat 8192 t) (Fin.ofNat 8192 j))).toReal
def lAt (r j : ℕ) : ℝ := (l (ix2 (Fin.ofNat 2 r) (Fin.ofNat 1024 j))).toReal
def gAt (j : ℕ) : ℝ := (g (ix2 0 (Fin.ofNat 128 j))).toReal
def dyAt (t j : ℕ) : ℝ := (dy (ix3 0 (Fin.ofNat 8192 t) (Fin.ofNat 1024 j))).toReal

theorem ofNat_val {n : ℕ} [NeZero n] (i : Fin n) : Fin.ofNat n i.val = i := Fin.ext (Nat.mod_eq_of_lt i.isLt)

variable {z l g dy}

theorem at_z (h : IsReal z) (i j : Fin 8192) : z (ix3 0 i j) = ((zAt z i j : ℝ) : EReal) := by
  rw [zAt, ofNat_val, ofNat_val]; exact h _
theorem at_l (h : IsReal l) : Reads l (lAt l) := fun i j => by
  rw [lAt, ofNat_val, ofNat_val]; exact h _
theorem at_g (h : IsReal g) (j : Fin 128) : g (ix2 0 j) = ((gAt g j : ℝ) : EReal) := by
  rw [gAt, ofNat_val]; exact h _
theorem at_dy (h : IsReal dy) (i : Fin 8192) (j : Fin 1024) : dy (ix3 0 i j) = ((dyAt dy i j : ℝ) : EReal) := by
  rw [dyAt, ofNat_val, ofNat_val]; exact h _

variable (z l g dy)

/-- Head `h`: lanes `128 h …` of each segment of the projected input, of the logits and of the gradient that comes in. -/
def headOf (h : ℕ) : Head where
  zq t d := zAt z t (128 * h + d)
  zf t d := zAt z t (1024 + (128 * h + d))
  zi t d := zAt z t (2048 + (128 * h + d))
  zg t d := zAt z t (3072 + (128 * h + d))
  dy t d := dyAt dy t (128 * h + d)
  l0 d := lAt l 0 (128 * h + d)
  l1 d := lAt l 1 (128 * h + d)
  gn d := gAt g d

end Cert.Hgrn
-- ==== Proof.HostReads.lean ====
/-
  The saved states that the program computes before its launch, as the states of the heads.
-/
module

public import proofs.«01_k».proof.Proof.Host
public import proofs.«01_k».proof.Proof.Heads

@[expose] public section

set_option maxRecDepth 16384

noncomputable section

namespace Cert.Hgrn

open Idealize.ShloMosaic Cert.KernelIdeal Cert.KernelIdeal.Gen

theorem firstRow_at (P : FVec Ideal S2x1024 .f32) (h : Fin 8) (d : Fin 128) :
    firstRowByHead P (ix3 h 0 d) = P (ix2 0 ⟨h.val * 128 + d.val, by omega⟩) := by
  pointwise [firstRowByHead]

theorem byHead_at (x : FVec Ideal S8192x1024 .f32) (h : Fin 8) (t : Fin 8192) (d : Fin 128) :
    byHead x (ix3 h t d) = x (ix2 t ⟨h.val * 128 + d.val, by omega⟩) := by
  pointwise [byHead]

theorem gateCols_at (z : FVec Ideal S1x8192x8192 .f32) (t : Fin 8192) (j : Fin 1024) :
    gateCols z (ix2 t j) = z (ix3 0 t ⟨1024 + j.val, by omega⟩) := by
  pointwise [gateCols]

theorem valueCols_at (z : FVec Ideal S1x8192x8192 .f32) (t : Fin 8192) (j : Fin 1024) :
    valueCols z (ix2 t j) = z (ix3 0 t ⟨2048 + j.val, by omega⟩) := by
  pointwise [valueCols]

theorem gateOf_at (P : FVec Ideal S2x1024 .f32) (x : FVec Ideal S8192x1024 .f32) (h : Fin 8) (t : Fin 8192) (d : Fin 128) :
    gateOf P x (ix3 h t d) = firstRowByHead P (ix3 h 0 d) + (Ideal.ofBits .f32 0x3F800000#32 - firstRowByHead P (ix3 h 0 d))
      * (sigmoid3 (byHead x) (ix3 h t d)) := by
  pointwise [gateOf, overTokens]

theorem sigmoid3_at (x : FVec Ideal S8x8192x128 .f32) (h : Fin 8) (t : Fin 8192) (d : Fin 128) :
    sigmoid3 x (ix3 h t d) = Ideal.div (Ideal.ofBits .f32 0x3F800000#32) (Ideal.ofBits .f32 0x3F800000#32 + Ideal.exp (-x (ix3 h t d))) := by
  pointwise [sigmoid3, ones3]

theorem bySegment_at (z : FVec Ideal S1x8192x8192 .f32) (n h : Fin 8) (t : Fin 8192) (d : Fin 128) :
    bySegment z (ix4 n h t d) = z (ix3 0 t ⟨n.val * 1024 + h.val * 128 + d.val, by omega⟩) := by
  pointwise [bySegment]

theorem states_at (W : FVec Ideal S8x128x8192x128 .f32) (k : FVec Ideal S8x8192x128 .f32) (z : FVec Ideal S1x8192x8192 .f32)
    (c : Fin 128) (h : Fin 8) (v d : Fin 128) :
    statesOf W k z (ix4 c h v d) = ∑ s : Fin 8192, byHead (valueCols z) (ix3 h s v) * (W (ix4 h c s d) * k (ix3 h s d)) := by
  pointwise [statesOf, spread]

theorem earlier_at (c : Fin 128) (s : Fin 8192) : earlier (ix3 c s 0) = if s.val < 64 * c.val then 1#1 else 0#1 := by
  have e : earlier (ix3 c s 0) = IntOp.cmpi CmpIPredicate.sgt (IntOp.muli (64#32) (BitVec.ofNat 32 c)) (BitVec.ofNat 32 s) := by
    pointwise [earlier]
  have h1 : (IntOp.muli (64#32) (BitVec.ofNat 32 c)).toInt = 64 * c.val := by
    have hc := c.isLt
    show ((64#32) * (BitVec.ofNat 32 c)).toInt = _
    rw [BitVec.toInt_eq_toNat_of_lt] <;> simp only [BitVec.toNat_mul, BitVec.toNat_ofNat] <;> omega
  have h2 : (BitVec.ofNat 32 s.val).toInt = s.val := by
    have hs := s.isLt
    rw [BitVec.toInt_eq_toNat_of_lt] <;> simp only [BitVec.toNat_ofNat] <;> omega
  rw [e]
  show BitVec.ofBool (BitVec.slt _ _) = _
  rw [BitVec.slt, h1, h2]
  by_cases hs : s.val < 64 * c.val
  · rw [if_pos hs, decide_eq_true (by exact_mod_cast hs)]; rfl
  · rw [if_neg hs, decide_eq_false (by exact_mod_cast hs)]; rfl

theorem decayOf_at (B : FVec Ideal S8x8192x128 .f32) (h : Fin 8) (c : Fin 128) (s : Fin 8192) (d : Fin 128) :
    decayOf B (ix4 h c s d) = if earlier (ix3 c s 0) = 1#1 then Ideal.exp (before3 B (ix3 h c d) - B (ix3 h s d)) else 0 := by
  have e : decayOf B (ix4 h c s d) = Scalar.select (earlier (ix3 c s 0))
      (Ideal.exp (Scalar.select (earlier (ix3 c s 0)) (before3 B (ix3 h c d) - B (ix3 h s d)) 0)) 0 := by
    pointwise [decayOf, expOf, whereMask, gaps, spreadChunks, spread]
  rw [e]
  by_cases hm : earlier (ix3 c s 0) = 1#1
  · rw [if_pos hm, hm]; rfl
  · rw [if_neg hm]
    exact if_neg hm

theorem before3_at (B : FVec Ideal S8x8192x128 .f32) (h : Fin 8) (c : Fin 128) (d : Fin 128) :
    before3 B (ix3 h c d) = if hc : c.val = 0 then 0 else B (ix3 h ⟨64 * c.val - 1, by omega⟩ d) := by
  have e : before3 B (ix3 h c d) = if hc : c.val < 1 then 0 else B (ix3 h ⟨63 + 64 * (c.val - 1), by omega⟩ d) := by
    pointwise [before3]
  rw [e]
  split_ifs with h1 h2 h2
  · rfl
  · omega
  · omega
  · congr 2; exact Fin.ext (by show 63 + 64 * (c.val - 1) = 64 * c.val - 1; omega)

theorem one_word : Ideal.ofBits .f32 0x3F800000#32 = ((1 : ℝ) : EReal) := by
  rw [Ideal.ofBits_one_f32, EReal.coe_one]

theorem log_pos {x : ℝ} (h : 0 < x) : Ideal.log (x : EReal) = ((Real.log x : ℝ) : EReal) := by
  show (if x ≤ 0 then (⊥ : EReal) else _) = _
  rw [if_neg (not_le.2 h)]

/-- The logistic function in the text's words. -/
theorem sigmoid_word (x : ℝ) :
    Ideal.div ((1 : ℝ) : EReal) (((1 : ℝ) : EReal) + Ideal.exp (-(x : EReal))) = ((sgm x : ℝ) : EReal) := by
  have e : Ideal.exp (-(x : EReal)) = ((Real.exp (-x) : ℝ) : EReal) := by rw [← EReal.coe_neg]; rfl
  rw [e, ← EReal.coe_add, Reads.div_val (one_add_exp_pos x).ne', one_div]
  rfl

/-! ## The lower bound -/

theorem largest_real {l : FVec Ideal S2x1024 .f32} (hl : IsReal l) : ∃ M : ℕ → ℝ, ∀ j : Fin 1024, largest l (ix1 j) = ((M j : ℝ) : EReal) := by
  have hbot : Ideal.ofBits .f32 0xFF800000#32 = ⊥ := by simp [Ideal.ofBits, Ideal.ieee]
  have e : ∀ j : Fin 1024, ∃ M : ℝ, largest l (ix1 j) = (M : EReal) := fun j => by
    obtain ⟨M, hM⟩ := colMax (at_l hl) (constant (F := Ideal) S_ .f32 0xFF800000#32) reducesTo_S2x1024_S1024_d0 h_S_ hbot j
    refine ⟨M, ?_⟩
    show max (Ideal.ofBits .f32 0xFF800000#32) (Host.reduce FloatOps.maximumf l (constant S_ .f32 0xFF800000#32) reducesTo_S2x1024_S1024_d0 h_S_ (ix1 j)) = _
    rw [hbot]
    exact (max_eq_right bot_le).trans hM
  choose f hf using e
  refine ⟨fun j => f (Fin.ofNat 1024 j), fun j => ?_⟩
  rw [hf j]
  beta_reduce
  rw [ofNat_val]

theorem overTwo_at (x : FVec Ideal S1024 .f32) (r : Fin 2) (j : Fin 1024) : overTwo x (ix2 r j) = x (ix1 j) := by
  pointwise [overTwo]

theorem shifted_reads {l : FVec Ideal S2x1024 .f32} (hl : IsReal l) {M : ℕ → ℝ}
    (hM : ∀ j : Fin 1024, largest l (ix1 j) = ((M j : ℝ) : EReal)) :
    Reads (shiftedExp l) (fun r j => Real.exp (lAt l r j - M j)) := fun r j => by
  have e : shiftedExp l (ix2 r j) = Ideal.exp (l (ix2 r j) - overTwo (largest l) (ix2 r j)) := by pointwise [shiftedExp]
  rw [e, overTwo_at, at_l hl r j, hM j, ← EReal.coe_sub]
  rfl

theorem colSum_at (x : FVec Ideal S2x1024 .f32) (j : Fin 1024) :
    Host.reduceAdd x zeroWord reducesTo_S2x1024_S1024_d0 h_S_ (ix1 j) = x (ix2 0 j) + x (ix2 1 j) := by
  have e : Host.reduceAdd x zeroWord reducesTo_S2x1024_S1024_d0 h_S_ (ix1 j) = ∑ r : Fin 2, x (ix2 r j) := by
    pointwise [zeroWord]
  rw [e, Fin.sum_univ_two]

def soft (l0 l1 a : ℝ) : ℝ := Real.exp a / (Real.exp l0 + Real.exp l1)

theorem soft_shift (l0 l1 a M : ℝ) : Real.exp (a - M) / (Real.exp (l0 - M) + Real.exp (l1 - M)) = soft l0 l1 a := by
  unfold soft
  rw [Real.exp_sub, Real.exp_sub, Real.exp_sub, ← add_div]
  have h1 := (Real.exp_pos M).ne'
  have h2 : Real.exp l0 + Real.exp l1 ≠ 0 := by positivity
  field_simp

theorem softmax_reads {l : FVec Ideal S2x1024 .f32} (hl : IsReal l) :
    Reads (softmax l) (fun r j => soft (lAt l 0 j) (lAt l 1 j) (lAt l r j)) := fun r j => by
  obtain ⟨M, hM⟩ := largest_real hl
  have hs := shifted_reads hl hM
  have e : softmax l (ix2 r j) = Ideal.div (shiftedExp l (ix2 r j))
      (overTwo (Host.reduceAdd (shiftedExp l) zeroWord reducesTo_S2x1024_S1024_d0 h_S_) (ix2 r j)) := by pointwise [softmax]
  have hp : Real.exp (lAt l 0 j - M j) + Real.exp (lAt l 1 j - M j) ≠ 0 := by positivity
  rw [e, overTwo_at, colSum_at, hs r j, hs 0 j, hs 1 j, ← EReal.coe_add]
  refine (Reads.div_val hp).trans ?_
  exact congrArg _ (soft_shift _ _ _ _)

theorem window_init {s t u : Shape} (window strides lo hi : Fin s.rank → ℕ) (x : FVec Ideal s .f32) (v : FVec Ideal u .f32)
    (h : s.ReduceWindows window strides lo hi t) (hu : 0 < u.numel) :
    Host.reduceWindowAdd window strides lo hi x v h hu = Ideal.hostReduceWindowAdd window strides lo hi h x (v (Shape.Idx.first hu)) := rfl

theorem init_zero : broadcastInDim S_ ![] bcast_S_S_ zeroWord (Shape.Idx.first h_S_) = (0 : EReal) := by
  pointwise [zeroWord]

theorem partialSums_reads {x : FVec Ideal S2x1024 .f32} {r : ℕ → ℕ → ℝ} (hx : Reads x r) :
    Reads (partialSums x) (fun t j => ∑ u ∈ Finset.range (t + 1), r u j) := by
  have e : partialSums x = Ideal.hostReduceWindowAdd ![2, 1] ![1, 1] ![1, 0] ![0, 0] reduceWindows_S2x1024_S2x1024_w2s1p1_0_w1s1p0_0 x (broadcastInDim S_ ![] bcast_S_S_ zeroWord (Shape.Idx.first h_S_)) := rfl
  rw [init_zero] at e
  rw [e]
  exact Reads.cumsum rfl hx _

variable {z : FVec Ideal S1x8192x8192 .f32} {l : FVec Ideal S2x1024 .f32} {g : FVec Ideal S1x128 .f32} {dy : FVec Ideal S1x8192x1024 .f32}

theorem bound_reads (hl : IsReal l) (h : Fin 8) (d : Fin 128) :
    firstRowByHead (partialSums (softmax l)) (ix3 h 0 d) = (((headOf z l g dy h).lb d : ℝ) : EReal) := by
  rw [firstRow_at]
  refine (partialSums_reads (softmax_reads hl) 0 _).trans ?_
  beta_reduce
  have e : h.val * 128 + d.val = 128 * h.val + d.val := by omega
  simp only [e, Fin.val_zero, Nat.zero_add, Finset.sum_range_one]
  rfl

theorem gateCols_reads (hz : IsReal z) (h : Fin 8) (t : Fin 8192) (d : Fin 128) :
    byHead (gateCols z) (ix3 h t d) = (((headOf z l g dy h).zf t d : ℝ) : EReal) := by
  rw [byHead_at, gateCols_at, at_z hz]
  simp only [headOf, Nat.mul_comm 128]

theorem valueCols_reads (hz : IsReal z) (h : Fin 8) (t : Fin 8192) (d : Fin 128) :
    byHead (valueCols z) (ix3 h t d) = (((headOf z l g dy h).zi t d : ℝ) : EReal) := by
  rw [byHead_at, valueCols_at, at_z hz]
  simp only [headOf, Nat.mul_comm 128]

theorem gate_reads (hz : IsReal z) (hl : IsReal l) :
    Reads3 (gateOf (partialSums (softmax l)) (gateCols z)) (fun h t d => (headOf z l g dy h).f t d) := fun h t d => by
  rw [gateOf_at, sigmoid3_at, bound_reads (z := z) (g := g) (dy := dy) hl, gateCols_reads (l := l) (g := g) (dy := dy) hz, one_word, sigmoid_word]
  rw [← EReal.coe_sub, ← EReal.coe_mul, ← EReal.coe_add]
  rfl

theorem key_reads (hz : IsReal z) (hl : IsReal l) :
    Reads3 (keyOf (partialSums (softmax l)) (gateCols z)) (fun h t d => (headOf z l g dy h).k t d) := fun h t d => by
  have e : keyOf (partialSums (softmax l)) (gateCols z) (ix3 h t d)
      = Ideal.ofBits .f32 0x3F800000#32 - gateOf (partialSums (softmax l)) (gateCols z) (ix3 h t d) := by pointwise [keyOf, ones3]
  rw [e, one_word, gate_reads (g := g) (dy := dy) hz hl h t d, ← EReal.coe_sub]
  rfl

theorem log_reads (hz : IsReal z) (hl : IsReal l) :
    Reads3 (logOf (partialSums (softmax l)) (gateCols z)) (fun h t d => (headOf z l g dy h).lf t d) := fun h t d => by
  have e : logOf (partialSums (softmax l)) (gateCols z) (ix3 h t d)
      = Ideal.log (gateOf (partialSums (softmax l)) (gateCols z) (ix3 h t d)) := by pointwise [logOf]
  rw [e, gate_reads (g := g) (dy := dy) hz hl h t d]
  exact log_pos (Head.f_pos _ _ _)

theorem running_reads {x : FVec Ideal S8x8192x128 .f32} {r : ℕ → ℕ → ℕ → ℝ} (hx : Reads3 x r) :
    Reads3 (runningSum x) (fun h t d => ∑ u ∈ Finset.range (t + 1), r h u d) := by
  have e : runningSum x = Ideal.hostReduceWindowAdd ![1, 8192, 1] ![1, 1, 1] ![0, 8191, 0] ![0, 0, 0] reduceWindows_S8x8192x128_S8x8192x128_w1s1p0_0_w8192s1p8191_0_w1s1p0_0 x (broadcastInDim S_ ![] bcast_S_S_ zeroWord (Shape.Idx.first h_S_)) := window_init _ _ _ _ _ _ _ _
  rw [init_zero] at e
  rw [e]
  exact Reads3.cumsum rfl hx _

/-! ## The states -/

theorem before_reads {B : FVec Ideal S8x8192x128 .f32} {H : ℕ → Head} (hB : Reads3 B (fun h t d => (H h).B t d)) (h : Fin 8) (c d : Fin 128) :
    before3 B (ix3 h c d) = (((H h).S (64 * c) d : ℝ) : EReal) := by
  rw [before3_at]
  split_ifs with hc
  · rw [hc]; simp [Head.S]
  · rw [hB]
    show ((((H h).S (64 * c.val - 1 + 1) d : ℝ)) : EReal) = _
    rw [show 64 * c.val - 1 + 1 = 64 * c.val by omega]

theorem decay_reads {B : FVec Ideal S8x8192x128 .f32} {H : ℕ → Head} (hB : Reads3 B (fun h t d => (H h).B t d)) (h : Fin 8) (c : Fin 128) (s : Fin 8192) (d : Fin 128) :
    decayOf B (ix4 h c s d) = ((if s.val < 64 * c.val then Real.exp ((H h).S (64 * c) d - (H h).B s d) else 0 : ℝ) : EReal) := by
  rw [decayOf_at, earlier_at, before_reads hB, hB h s d, ← EReal.coe_sub]
  by_cases hs : s.val < 64 * c.val
  · rw [if_pos hs, if_pos hs, if_pos rfl]; rfl
  · rw [if_neg hs, if_neg hs, if_neg (by decide), EReal.coe_zero]

theorem states_reads (hz : IsReal z) (hl : IsReal l) (c : Fin 128) (h : Fin 8) (v d : Fin 128) :
    states z l (ix4 c h v d) = (((headOf z l g dy h).St c v d : ℝ) : EReal) := by
  have hB : Reads3 (runningSum (logOf (partialSums (softmax l)) (gateCols z))) (fun h t d => (headOf z l g dy h).B t d) :=
    running_reads (log_reads hz hl)
  unfold states
  rw [states_at]
  have e : (headOf z l g dy h).St c v d = ∑ s ∈ Finset.range 8192, if s < 64 * c.val then
      Real.exp ((headOf z l g dy h).S (64 * c) d - (headOf z l g dy h).B s d) * (headOf z l g dy h).k s d * (headOf z l g dy h).zi s v else 0 := by
    rw [← Finset.sum_filter]
    refine Finset.sum_congr ?_ fun _ _ => rfl
    have hc := c.isLt
    ext s
    simp only [Finset.mem_range, Finset.mem_filter]
    omega
  rw [e, Finset.sum_range, coe_sum]
  refine Finset.sum_congr rfl fun s _ => ?_
  rw [valueCols_reads (l := l) (g := g) (dy := dy) hz, decay_reads hB, key_reads (g := g) (dy := dy) hz hl h s d, ← EReal.coe_mul, ← EReal.coe_mul]
  congr 1
  split_ifs <;> ring

end Cert.Hgrn
-- ==== Proof.Body.lean ====
/-
  What one grid point computes, written as vector expressions of its eight input blocks and of the state it was
  handed: 2048 tokens of one head, in 16 tiles of 128 tokens and 32 chunks of 64.
-/
module

public import proofs.«01_k».proof.Proof.RealVec
public import proofs.«01_k».proof.Proof.Gen.KernelIdeal.Skeleton

@[expose] public section

set_option maxRecDepth 16384

noncomputable section

namespace Cert.Hgrn

open Idealize.ShloMosaic Cert.KernelIdeal Cert.KernelIdeal.Gen

/-- The blocks one grid point reads: the four segments, the logits, the gain, the states before its chunks, the
    incoming gradient, and the state's gradient from the tokens after it. -/
structure Blk where
  zq : FVec Ideal S1x1x2048x128 .f32
  zf : FVec Ideal S1x1x2048x128 .f32
  zi : FVec Ideal S1x1x2048x128 .f32
  zg : FVec Ideal S1x1x2048x128 .f32
  lg : FVec Ideal S2x128 .f32
  gn : FVec Ideal S1x128 .f32
  st : Fin 32 → FVec Ideal S1x1x128x128 .f32
  dy : FVec Ideal S2048x128 .f32
  g0 : FVec Ideal S1x128x128 .f32

theorem slices_tile (n : Fin 16) : S2048x128.Slices ![128 * n.val, 0] S128x128 :=
  ⟨rfl, fun a => match a with
    | 0 => by show 128 * n.val + 128 ≤ 2048; omega
    | 1 => by show 0 + 128 ≤ 128; omega⟩

theorem slices_chunk (c : Fin 32) : S2048x128.Slices ![64 * c.val, 0] S64x128 :=
  ⟨rfl, fun a => match a with
    | 0 => by show 64 * c.val + 64 ≤ 2048; omega
    | 1 => by show 0 + 128 ≤ 128; omega⟩

theorem slices_row (c : Fin 32) : S2048x128.Slices ![64 * c.val, 0] S1x128 :=
  ⟨rfl, fun a => match a with
    | 0 => by show 64 * c.val + 1 ≤ 2048; omega
    | 1 => by show 0 + 128 ≤ 128; omega⟩

/-- Tile `n`, chunk `c` of the block, and the first row of chunk `c`. -/
def tile {φ : FTy} (X : FVec Ideal S2048x128 φ) (n : Fin 16) : FVec Ideal S128x128 φ :=
  extractStridedSlice S128x128 ![128 * n.val, 0] X (slices_tile n)
def chunk {φ : FTy} (X : FVec Ideal S2048x128 φ) (c : Fin 32) : FVec Ideal S64x128 φ :=
  extractStridedSlice S64x128 ![64 * c.val, 0] X (slices_chunk c)
def firstRow {φ : FTy} (X : FVec Ideal S2048x128 φ) (c : Fin 32) : FVec Ideal S1x128 φ :=
  extractStridedSlice S1x128 ![64 * c.val, 0] X (slices_row c)

/-- The tiles, the chunks, put back together. -/
def tiles {φ : FTy} (f : Fin 16 → FVec Ideal S128x128 φ) : FVec Ideal S2048x128 φ :=
  concatenate S2048x128 0 (List.ofFn fun n : Fin 16 => ⟨S128x128, f n⟩)
    concatenates_S128x128_S128x128_S128x128_S128x128_S128x128_S128x128_S128x128_S128x128_S128x128_S128x128_S128x128_S128x128_S128x128_S128x128_S128x128_S128x128_S2048x128_d0
def chunks {φ : FTy} (f : Fin 32 → FVec Ideal S64x128 φ) : FVec Ideal S2048x128 φ :=
  concatenate S2048x128 0 (List.ofFn fun n : Fin 32 => ⟨S64x128, f n⟩)
    concatenates_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S2048x128_d0

/-- A block of one value. -/
def splat (s : Shape) (w : BitVec 32) : FVec Ideal s .f32 := broadcast s (Scalar.ofBits .f32 w)

/-- The accumulator's zeros. -/
def zeros (s : Shape) : FVec Ideal s .f32 := constant s .f32 0x00000000#32

/-- One row repeated over the block, and a column repeated over the lanes. -/
def overRows (X : FVec Ideal S1x128 .f32) : FVec Ideal S2048x128 .f32 :=
  broadcastTo S2048x128 X broadcasts_S1x128_S2048x128
def overLanes (X : FVec Ideal S2048x1 .f32) : FVec Ideal S2048x128 .f32 :=
  broadcastTo S2048x128 X broadcasts_S2048x1_S2048x128

/-- The sum over the lanes, and the sum over the tokens. -/
def sumLanes (X : FVec Ideal S2048x128 .f32) : FVec Ideal S2048x1 .f32 :=
  shapeCast S2048x1 (multiReduction .add [1] S2048 X 0x00000000#32 reduces_S2048x128_S2048 (.inl rfl) rfl) shapeCasts_S2048_S2048x1
def sumRows (X : FVec Ideal S2048x128 .f32) : FVec Ideal S1x128 .f32 :=
  shapeCast S1x128 (multiReduction .add [0] S128 X 0x00000000#32 reduces_S2048x128_S128 (.inl rfl) rfl) shapeCasts_S128_S1x128

/-- The mean over the lanes. -/
def meanLanes (X : FVec Ideal S2048x128 .f32) : FVec Ideal S2048x1 .f32 :=
  divf (sumLanes X) (splat S2048x1 0x43000000#32)

/-- Each chunk's last row, and each chunk's sum, repeated over the chunk. -/
def lastOfChunk (X : FVec Ideal S2048x128 .f32) : FVec Ideal S2048x128 .f32 :=
  shapeCast S2048x128 (broadcastTo S32x64x128 (shapeCast S32x1x128 (extractStridedSlice S32x1x128 ![0, 63, 0]
    (shapeCast S32x64x128 X shapeCasts_S2048x128_S32x64x128) slices_S32x64x128_o0_63_0_S32x1x128)
    shapeCasts_S32x1x128_S32x1x128) broadcasts_S32x1x128_S32x64x128) shapeCasts_S32x64x128_S2048x128
def sumOfChunk (X : FVec Ideal S2048x128 .f32) : FVec Ideal S2048x128 .f32 :=
  shapeCast S2048x128 (broadcastTo S32x64x128 (shapeCast S32x1x128 (shapeCast S32x1x128 (multiReduction .add [1] S32x128
    (shapeCast S32x64x128 X shapeCasts_S2048x128_S32x64x128) 0x00000000#32 reduces_S32x64x128_S32x128 (.inl rfl) rfl)
    shapeCasts_S32x128_S32x1x128) shapeCasts_S32x1x128_S32x1x128) broadcasts_S32x1x128_S32x64x128) shapeCasts_S32x64x128_S2048x128

/-- The products of two tiles, of a chunk and a state, of two chunks. -/
def tileNN {φ ψ : FTy} (X : FVec Ideal S128x128 φ) (Y : FVec Ideal S128x128 ψ) : FVec Ideal S128x128 .f32 :=
  matmul dot_S128x128_S128x128_S128x128_1_0_0_1_n_n none X Y (zeros S128x128)
def tileNT {φ ψ : FTy} (X : FVec Ideal S128x128 φ) (Y : FVec Ideal S128x128 ψ) : FVec Ideal S128x128 .f32 :=
  matmul dot_S128x128_S128x128_S128x128_1_1_0_0_n_n none X Y (zeros S128x128)
def tileTN {φ ψ : FTy} (X : FVec Ideal S128x128 φ) (Y : FVec Ideal S128x128 ψ) : FVec Ideal S128x128 .f32 :=
  matmul dot_S128x128_S128x128_S128x128_0_0_1_1_n_n none X Y (zeros S128x128)
def chunkNN {φ ψ : FTy} (X : FVec Ideal S64x128 φ) (Y : FVec Ideal S128x128 ψ) : FVec Ideal S64x128 .f32 :=
  matmul dot_S64x128_S128x128_S64x128_1_0_0_1_n_n none X Y (zeros S64x128)
def chunkNT {φ ψ : FTy} (X : FVec Ideal S64x128 φ) (Y : FVec Ideal S128x128 ψ) : FVec Ideal S64x128 .f32 :=
  matmul dot_S64x128_S128x128_S64x128_1_1_0_0_n_n none X Y (zeros S64x128)
def chunkTN {φ ψ : FTy} (X : FVec Ideal S64x128 φ) (Y : FVec Ideal S64x128 ψ) : FVec Ideal S128x128 .f32 :=
  matmul dot_S64x128_S64x128_S128x128_0_0_1_1_n_n none X Y (zeros S128x128)

def half {s : Shape} (X : FVec Ideal s .f32) : FVec Ideal s .bf16 := truncf .bf16 X bitsLt_bf16_f32
def rest {s : Shape} (X : FVec Ideal s .f32) : FVec Ideal s .f32 := subf X (extf .f32 (half X) bitsLt_bf16_f32)

/-- A product with a tile of zeros and ones, in three parts of the right factor. -/
def exactDot (T : FVec Ideal S128x128 .bf16) (X : FVec Ideal S128x128 .f32) : FVec Ideal S128x128 .f32 :=
  addf (addf (tileNN T (half X)) (tileNN T (half (rest X)))) (tileNN T (half (rest (rest X))))

/-- The chunk number of a position of a tile, from the position's words. -/
def chunkNo (P : IVec S128x128 32) : IVec S128x128 32 :=
  select
    (andi
      (cmpi .ne (subi (extui 32 (cmpi .sgt P (broadcast S128x128 0#32)) natLt_1_32) (extui 32 (cmpi .slt P (broadcast S128x128 0#32)) natLt_1_32))
        (broadcast S128x128 (Scalar.subi (Scalar.extui (Scalar.cmpi .sgt 64#32 0#32)) (Scalar.extui (Scalar.cmpi .slt 64#32 0#32)))))
      (cmpi .ne (remsi P (broadcast S128x128 64#32)) (broadcast S128x128 0#32)))
    (subi (divsi P (broadcast S128x128 64#32)) (broadcast S128x128 1#32))
    (divsi P (broadcast S128x128 64#32))

def rowNo : IVec S128x128 32 := iota .tc S128x128 32 [0] iota_S128x128_d0_w32
def colNo : IVec S128x128 32 := iota .tc S128x128 32 [1] iota_S128x128_d1_w32

def sameChunk : IVec S128x128 1 := cmpi .eq (chunkNo rowNo) (chunkNo colNo)
/-- Same chunk and not after; same chunk and not before. -/
def lower : IVec S128x128 1 := andi sameChunk (cmpi .sge rowNo colNo)
def upper : IVec S128x128 1 := andi sameChunk (cmpi .sle rowNo colNo)

def ones (c : IVec S128x128 1) : FVec Ideal S128x128 .bf16 := truncf .bf16 (sitofp .f32 (extui 32 c natLt_1_32)) bitsLt_bf16_f32

/-- A tile of weights between tokens of one chunk. -/
def pairs (X Y : FVec Ideal S128x128 .bf16) : FVec Ideal S128x128 .bf16 :=
  half (select lower (tileNT X Y) (splat S128x128 0x00000000#32))

/-- `z σ(z)` and its derivative. -/
def silu (Z : FVec Ideal S2048x128 .f32) : FVec Ideal S2048x128 .f32 := mulf Z (logistic Z)
def siluGrad (Z : FVec Ideal S2048x128 .f32) : FVec Ideal S2048x128 .f32 :=
  mulf (logistic Z) (addf (splat S2048x128 0x3F800000#32) (mulf Z (subf (splat S2048x128 0x3F800000#32) (logistic Z))))

def flat (X : FVec Ideal S1x1x2048x128 .f32) : FVec Ideal S2048x128 .f32 := shapeCast S2048x128 X shapeCasts_S1x1x2048x128_S2048x128
def lift (X : FVec Ideal S2048x128 .bf16) : FVec Ideal S1x2048x128 .bf16 := shapeCast S1x2048x128 X shapeCasts_S2048x128_S1x2048x128

namespace Blk

variable (B : Blk)

def logit0 : FVec Ideal S1x128 .f32 := extractStridedSlice S1x128 ![0, 0] B.lg slices_S2x128_o0_0_S1x128
def logit1 : FVec Ideal S1x128 .f32 := extractStridedSlice S1x128 ![1, 0] B.lg slices_S2x128_o1_0_S1x128
def e0 : FVec Ideal S1x128 .f32 := exp (subf B.logit0 (maximumf B.logit0 B.logit1))
def e1 : FVec Ideal S1x128 .f32 := exp (subf B.logit1 (maximumf B.logit0 B.logit1))
def lb : FVec Ideal S1x128 .f32 := divf B.e0 (addf B.e0 B.e1)
def oneLessLb : FVec Ideal S1x128 .f32 := subf (splat S1x128 0x3F800000#32) B.lb
def q : FVec Ideal S2048x128 .f32 := silu (flat B.zq)
def qz : FVec Ideal S2048x128 .f32 := siluGrad (flat B.zq)
def sf : FVec Ideal S2048x128 .f32 := logistic (flat B.zf)
def f : FVec Ideal S2048x128 .f32 := addf (overRows B.lb) (mulf (overRows B.oneLessLb) B.sf)
def k : FVec Ideal S2048x128 .f32 := subf (splat S2048x128 0x3F800000#32) B.f
def lf : FVec Ideal S2048x128 .f32 := log B.f
def b : FVec Ideal S2048x128 .f32 := tiles fun n => exactDot (ones lower) (tile B.lf n)
def bl : FVec Ideal S2048x128 .f32 := lastOfChunk B.b
def eb : FVec Ideal S2048x128 .f32 := exp B.b
def enb : FVec Ideal S2048x128 .f32 := exp (subf (splat S2048x128 0x00000000#32) B.b)
def ekl : FVec Ideal S2048x128 .f32 := exp (subf B.bl B.b)
def ebl : FVec Ideal S2048x128 .f32 := exp B.bl
def qd : FVec Ideal S2048x128 .f32 := mulf B.q B.eb
def kd : FVec Ideal S2048x128 .f32 := mulf B.k B.enb
def ke : FVec Ideal S2048x128 .f32 := mulf B.k B.ekl
def qdh : FVec Ideal S2048x128 .bf16 := half B.qd
def kdh : FVec Ideal S2048x128 .bf16 := half B.kd
def keh : FVec Ideal S2048x128 .bf16 := half B.ke
def v : FVec Ideal S2048x128 .bf16 := half (flat B.zi)
def sts (c : Fin 32) : FVec Ideal S128x128 .f32 := shapeCast S128x128 (B.st c) shapeCasts_S1x1x128x128_S128x128
def sth (c : Fin 32) : FVec Ideal S128x128 .bf16 := half (B.sts c)
def a (n : Fin 16) : FVec Ideal S128x128 .bf16 := pairs (tile B.qdh n) (tile B.kdh n)
def oIntra : FVec Ideal S2048x128 .f32 := tiles fun n => tileNN (B.a n) (tile B.v n)
def o : FVec Ideal S2048x128 .f32 := addf B.oIntra (chunks fun c => chunkNT (chunk B.qdh c) (B.sth c))
def rinv : FVec Ideal S2048x1 .f32 := rsqrt (addf (meanLanes (mulf B.o B.o)) (splat S2048x1 0x358637BD#32))
def ohat : FVec Ideal S2048x128 .f32 := mulf B.o (overLanes B.rinv)
def sg : FVec Ideal S2048x128 .f32 := silu (flat B.zg)
def dsg : FVec Ideal S2048x128 .f32 := siluGrad (flat B.zg)
def dyv : FVec Ideal S2048x128 .f32 := shapeCast S2048x128 B.dy shapeCasts_S2048x128_S2048x128
def don : FVec Ideal S2048x128 .f32 := mulf B.dyv B.sg
def dzg : FVec Ideal S2048x128 .bf16 := half (mulf (mulf B.dyv (mulf B.ohat (overRows B.gn))) B.dsg)
def dgn : FVec Ideal S1x128 .f32 := sumRows (mulf B.don B.ohat)
def dohat : FVec Ideal S2048x128 .f32 := mulf B.don (overRows B.gn)
def do' : FVec Ideal S2048x128 .bf16 :=
  half (mulf (overLanes B.rinv) (subf B.dohat (mulf B.ohat (overLanes (meanLanes (mulf B.dohat B.ohat))))))
def da (n : Fin 16) : FVec Ideal S128x128 .bf16 := pairs (tile B.do' n) (tile B.v n)
def dvIntra : FVec Ideal S2048x128 .f32 := tiles fun n => tileTN (B.a n) (tile B.do' n)
def dqdIntra : FVec Ideal S2048x128 .f32 := tiles fun n => tileNN (B.da n) (tile B.kdh n)
def dkd : FVec Ideal S2048x128 .f32 := tiles fun n => tileTN (B.da n) (tile B.qdh n)
def dqdInter : FVec Ideal S2048x128 .f32 := chunks fun c => chunkNN (chunk B.do' c) (B.sth c)
def gk (c : Fin 32) : FVec Ideal S128x128 .f32 := chunkTN (chunk B.do' c) (chunk B.qdh c)
/-- The state's gradient after the last `n` chunks of the block have been taken in. -/
def g : ℕ → FVec Ideal S128x128 .f32
  | 0 => shapeCast S128x128 B.g0 shapeCasts_S1x128x128_S128x128
  | n + 1 => addf (mulf (g n) (broadcastTo S128x128 (firstRow B.ebl ⟨31 - n, by omega⟩) broadcasts_S1x128_S128x128)) (B.gk ⟨31 - n, by omega⟩)
def gs (c : Fin 32) : FVec Ideal S128x128 .f32 := B.g (31 - c.val)
def gsh (c : Fin 32) : FVec Ideal S128x128 .bf16 := half (B.gs c)
def gOut : FVec Ideal S1x128x128 .f32 := shapeCast S1x128x128 (B.g 32) shapeCasts_S128x128_S1x128x128
def dv : FVec Ideal S2048x128 .f32 := addf B.dvIntra (chunks fun c => chunkNT (chunk B.keh c) (B.gsh c))
def dvh : FVec Ideal S2048x128 .bf16 := half B.dv
def dke : FVec Ideal S2048x128 .f32 := chunks fun c => chunkNN (chunk B.v c) (B.gsh c)
def stateRow (c : Fin 32) : FVec Ideal S1x128 .f32 :=
  shapeCast S1x128 (shapeCast S1x128 (multiReduction .add [0] S128 (mulf (B.gs c) (B.sts c)) 0x00000000#32
    reduces_S128x128_S128 (.inl rfl) rfl) shapeCasts_S128_S1x128) shapeCasts_S1x128_S1x128
def stateSum (c : Fin 32) : FVec Ideal S64x128 .f32 := broadcastTo S64x128 (B.stateRow c) broadcasts_S1x128_S64x128
def debl : FVec Ideal S2048x128 .f32 := chunks fun c => B.stateSum c
def dqd : FVec Ideal S2048x128 .f32 := addf B.dqdIntra B.dqdInter
def dzq : FVec Ideal S2048x128 .bf16 := half (mulf (mulf B.dqd B.eb) B.qz)
def tke : FVec Ideal S2048x128 .f32 := mulf B.dke B.ke
def db : FVec Ideal S2048x128 .f32 := subf (subf (mulf B.dqd B.qd) (mulf B.dkd B.kd)) B.tke
def dbLast : FVec Ideal S2048x128 .f32 := addf (sumOfChunk B.tke) (mulf B.debl B.ebl)
def dk : FVec Ideal S2048x128 .f32 := addf (mulf B.dkd B.enb) (mulf B.dke B.ekl)
def dlfIntra : FVec Ideal S2048x128 .f32 := tiles fun n => exactDot (ones upper) (tile B.db n)
def dlf : FVec Ideal S2048x128 .f32 := addf B.dlfIntra B.dbLast
def df : FVec Ideal S2048x128 .f32 := subf (divf B.dlf B.f) B.dk
def dzf : FVec Ideal S2048x128 .bf16 :=
  half (mulf (mulf B.df (overRows B.oneLessLb)) (mulf B.sf (subf (splat S2048x128 0x3F800000#32) B.sf)))
def dlb : FVec Ideal S1x128 .f32 := sumRows (mulf B.df (subf (splat S2048x128 0x3F800000#32) B.sf))
def dl0 : FVec Ideal S1x128 .f32 := mulf (mulf B.dlb B.lb) (subf (splat S1x128 0x3F800000#32) B.lb)

end Blk

end Cert.Hgrn
-- ==== Proof.Words1.lean ====
/-
  The vector expressions of one grid point, one after the other: what each holds in the words of the block's stages
  (part 1 of 3).
-/
module

public import proofs.«01_k».proof.Proof.Body

@[expose] public section

set_option maxRecDepth 16384

noncomputable section

namespace Cert.Hgrn

open Idealize.ShloMosaic Cert.KernelIdeal Cert.KernelIdeal.Gen

variable (B : Blk)

theorem word1 : k0_pay1 (F := Ideal) B.dzf = (lift B.dzf) := rfl
theorem word2 : k0_pay2 (F := Ideal) B.lb B.sf B.df = B.dl0 := rfl
theorem word12 (x y z : BitVec 32) (hx : x = 64#32) (hy : y = 1#32) (hz : z = 0#32) : k0_pay12 (iota .tc S128x128 32 (@List.cons (Fin 2) (0 : Fin S128x128.rank) (@List.nil (Fin 2))) iota_S128x128_d0_w32) (iota .tc S128x128 32 (@List.cons (Fin 2) (1 : Fin S128x128.rank) (@List.nil (Fin 2))) iota_S128x128_d1_w32) k0_pay8 x k0_pay9 k0_pay10 y z = lower := by subst hx hy hz; rfl
theorem word13 (x y z : BitVec 32) (hx : x = 64#32) (hy : y = 1#32) (hz : z = 0#32) : k0_pay13 (F := Ideal) (iota .tc S128x128 32 (@List.cons (Fin 2) (0 : Fin S128x128.rank) (@List.nil (Fin 2))) iota_S128x128_d0_w32) (iota .tc S128x128 32 (@List.cons (Fin 2) (1 : Fin S128x128.rank) (@List.nil (Fin 2))) iota_S128x128_d1_w32) k0_pay8 x k0_pay9 k0_pay10 y z = (ones lower) := by subst hx hy hz; rfl
theorem word14 (x y z : BitVec 32) (hx : x = 64#32) (hy : y = 1#32) (hz : z = 0#32) : k0_pay14 (F := Ideal) (iota .tc S128x128 32 (@List.cons (Fin 2) (0 : Fin S128x128.rank) (@List.nil (Fin 2))) iota_S128x128_d0_w32) (iota .tc S128x128 32 (@List.cons (Fin 2) (1 : Fin S128x128.rank) (@List.nil (Fin 2))) iota_S128x128_d1_w32) k0_pay8 x k0_pay9 k0_pay10 y z = (ones upper) := by subst hx hy hz; rfl
theorem word15 : k0_pay15 (F := Ideal) B.lg = B.lb := rfl
theorem word16 : k0_pay16 (F := Ideal) B.zq = (flat B.zq) := rfl
theorem word17 : k0_pay17 (F := Ideal) B.zq = (logistic (flat B.zq)) := rfl
theorem word18 : k0_pay18 (F := Ideal) B.zq = B.q := rfl
theorem word19 : k0_pay19 (F := Ideal) B.zq = B.qz := rfl
theorem word20 : k0_pay20 (F := Ideal) B.zf = (flat B.zf) := rfl
theorem word21 : k0_pay21 (F := Ideal) (flat B.zf) = B.sf := rfl
theorem word22 : k0_pay22 (F := Ideal) B.lb (flat B.zf) = B.f := rfl
theorem word23 : k0_pay23 (F := Ideal) B.lb (flat B.zf) = B.k := rfl
theorem word24 : k0_pay24 (F := Ideal) B.lb (flat B.zf) = B.lf := rfl
theorem word25 : k0_pay25 (F := Ideal) (ones lower) B.lb (flat B.zf) = (exactDot (ones lower) (tile B.lf (0 : Fin 16))) := rfl
theorem word26 : k0_pay26 (F := Ideal) (ones lower) B.lb (flat B.zf) = (exactDot (ones lower) (tile B.lf (1 : Fin 16))) := rfl
theorem word27 : k0_pay27 (F := Ideal) (ones lower) B.lb (flat B.zf) = (exactDot (ones lower) (tile B.lf (2 : Fin 16))) := rfl
theorem word28 : k0_pay28 (F := Ideal) (ones lower) B.lf = (exactDot (ones lower) (tile B.lf (3 : Fin 16))) := rfl
theorem word29 : k0_pay29 (F := Ideal) (ones lower) B.lf = (exactDot (ones lower) (tile B.lf (4 : Fin 16))) := rfl
theorem word30 : k0_pay30 (F := Ideal) (ones lower) B.lf = (exactDot (ones lower) (tile B.lf (5 : Fin 16))) := rfl
theorem word31 : k0_pay31 (F := Ideal) B.lf = (tile B.lf (6 : Fin 16)) := rfl
theorem word32 : k0_pay32 (F := Ideal) B.lf = (half (tile B.lf (6 : Fin 16))) := rfl
theorem word33 : k0_pay33 (F := Ideal) B.lf = (rest (tile B.lf (6 : Fin 16))) := rfl
theorem word34 : k0_pay34 (F := Ideal) B.lf = (half (rest (tile B.lf (6 : Fin 16)))) := rfl
theorem word35 : k0_pay35 (F := Ideal) B.lf = (half (rest (rest (tile B.lf (6 : Fin 16))))) := rfl
theorem word36 : k0_pay36 (F := Ideal) (ones lower) B.lf = (tileNN (ones lower) (half (tile B.lf (6 : Fin 16)))) := rfl
theorem word37 : k0_pay37 (F := Ideal) (ones lower) B.lf = (tileNN (ones lower) (half (rest (tile B.lf (6 : Fin 16))))) := rfl
theorem word38 : k0_pay38 (F := Ideal) (ones lower) (half (rest (rest (tile B.lf (6 : Fin 16))))) (tileNN (ones lower) (half (tile B.lf (6 : Fin 16)))) (tileNN (ones lower) (half (rest (tile B.lf (6 : Fin 16))))) = (exactDot (ones lower) (tile B.lf (6 : Fin 16))) := rfl
theorem word39 : k0_pay39 (F := Ideal) (ones lower) B.lf = (exactDot (ones lower) (tile B.lf (7 : Fin 16))) := rfl
theorem word40 : k0_pay40 (F := Ideal) (ones lower) B.lf = (exactDot (ones lower) (tile B.lf (8 : Fin 16))) := rfl
theorem word41 : k0_pay41 (F := Ideal) (ones lower) B.lf = (exactDot (ones lower) (tile B.lf (9 : Fin 16))) := rfl
theorem word42 : k0_pay42 (F := Ideal) B.lf = (tile B.lf (10 : Fin 16)) := rfl
theorem word43 : k0_pay43 (F := Ideal) B.lf = (half (tile B.lf (10 : Fin 16))) := rfl
theorem word44 : k0_pay44 (F := Ideal) B.lf = (rest (tile B.lf (10 : Fin 16))) := rfl
theorem word45 : k0_pay45 (F := Ideal) B.lf = (half (rest (tile B.lf (10 : Fin 16)))) := rfl
theorem word46 : k0_pay46 (F := Ideal) B.lf = (half (rest (rest (tile B.lf (10 : Fin 16))))) := rfl
theorem word47 : k0_pay47 (F := Ideal) (ones lower) (half (tile B.lf (10 : Fin 16))) (half (rest (tile B.lf (10 : Fin 16)))) (half (rest (rest (tile B.lf (10 : Fin 16))))) = (exactDot (ones lower) (tile B.lf (10 : Fin 16))) := rfl
theorem word48 : k0_pay48 (F := Ideal) (ones lower) B.lf = (exactDot (ones lower) (tile B.lf (11 : Fin 16))) := rfl
theorem word49 : k0_pay49 (F := Ideal) (ones lower) B.lf = (exactDot (ones lower) (tile B.lf (12 : Fin 16))) := rfl
theorem word50 : k0_pay50 (F := Ideal) (ones lower) B.lf = (exactDot (ones lower) (tile B.lf (13 : Fin 16))) := rfl
theorem word51 : k0_pay51 (F := Ideal) B.lf = (tile B.lf (14 : Fin 16)) := rfl
theorem word52 : k0_pay52 (F := Ideal) B.lf = (half (tile B.lf (14 : Fin 16))) := rfl
theorem word53 : k0_pay53 (F := Ideal) B.lf = (rest (tile B.lf (14 : Fin 16))) := rfl
theorem word54 : k0_pay54 (F := Ideal) (ones lower) B.lf (exactDot (ones lower) (tile B.lf (0 : Fin 16))) (exactDot (ones lower) (tile B.lf (1 : Fin 16))) (exactDot (ones lower) (tile B.lf (2 : Fin 16))) (exactDot (ones lower) (tile B.lf (3 : Fin 16))) (exactDot (ones lower) (tile B.lf (4 : Fin 16))) (exactDot (ones lower) (tile B.lf (5 : Fin 16))) (exactDot (ones lower) (tile B.lf (6 : Fin 16))) (exactDot (ones lower) (tile B.lf (7 : Fin 16))) (exactDot (ones lower) (tile B.lf (8 : Fin 16))) (exactDot (ones lower) (tile B.lf (9 : Fin 16))) (exactDot (ones lower) (tile B.lf (10 : Fin 16))) (exactDot (ones lower) (tile B.lf (11 : Fin 16))) (exactDot (ones lower) (tile B.lf (12 : Fin 16))) (exactDot (ones lower) (tile B.lf (13 : Fin 16))) (half (tile B.lf (14 : Fin 16))) (rest (tile B.lf (14 : Fin 16))) = B.b := rfl
theorem word55 : k0_pay55 (F := Ideal) (ones lower) B.lf (exactDot (ones lower) (tile B.lf (0 : Fin 16))) (exactDot (ones lower) (tile B.lf (1 : Fin 16))) (exactDot (ones lower) (tile B.lf (2 : Fin 16))) (exactDot (ones lower) (tile B.lf (3 : Fin 16))) (exactDot (ones lower) (tile B.lf (4 : Fin 16))) (exactDot (ones lower) (tile B.lf (5 : Fin 16))) (exactDot (ones lower) (tile B.lf (6 : Fin 16))) (exactDot (ones lower) (tile B.lf (7 : Fin 16))) (exactDot (ones lower) (tile B.lf (8 : Fin 16))) (exactDot (ones lower) (tile B.lf (9 : Fin 16))) (exactDot (ones lower) (tile B.lf (10 : Fin 16))) (exactDot (ones lower) (tile B.lf (11 : Fin 16))) (exactDot (ones lower) (tile B.lf (12 : Fin 16))) (exactDot (ones lower) (tile B.lf (13 : Fin 16))) (half (tile B.lf (14 : Fin 16))) (rest (tile B.lf (14 : Fin 16))) = B.bl := rfl
theorem word56 : k0_pay56 (F := Ideal) (ones lower) B.lf (exactDot (ones lower) (tile B.lf (0 : Fin 16))) (exactDot (ones lower) (tile B.lf (1 : Fin 16))) (exactDot (ones lower) (tile B.lf (2 : Fin 16))) (exactDot (ones lower) (tile B.lf (3 : Fin 16))) (exactDot (ones lower) (tile B.lf (4 : Fin 16))) (exactDot (ones lower) (tile B.lf (5 : Fin 16))) (exactDot (ones lower) (tile B.lf (6 : Fin 16))) (exactDot (ones lower) (tile B.lf (7 : Fin 16))) (exactDot (ones lower) (tile B.lf (8 : Fin 16))) (exactDot (ones lower) (tile B.lf (9 : Fin 16))) (exactDot (ones lower) (tile B.lf (10 : Fin 16))) (exactDot (ones lower) (tile B.lf (11 : Fin 16))) (exactDot (ones lower) (tile B.lf (12 : Fin 16))) (exactDot (ones lower) (tile B.lf (13 : Fin 16))) (half (tile B.lf (14 : Fin 16))) (rest (tile B.lf (14 : Fin 16))) = B.eb := rfl
theorem word57 : k0_pay57 (F := Ideal) (ones lower) B.lf (exactDot (ones lower) (tile B.lf (0 : Fin 16))) (exactDot (ones lower) (tile B.lf (1 : Fin 16))) (exactDot (ones lower) (tile B.lf (2 : Fin 16))) (exactDot (ones lower) (tile B.lf (3 : Fin 16))) (exactDot (ones lower) (tile B.lf (4 : Fin 16))) (exactDot (ones lower) (tile B.lf (5 : Fin 16))) (exactDot (ones lower) (tile B.lf (6 : Fin 16))) (exactDot (ones lower) (tile B.lf (7 : Fin 16))) (exactDot (ones lower) (tile B.lf (8 : Fin 16))) (exactDot (ones lower) (tile B.lf (9 : Fin 16))) (exactDot (ones lower) (tile B.lf (10 : Fin 16))) (exactDot (ones lower) (tile B.lf (11 : Fin 16))) (exactDot (ones lower) (tile B.lf (12 : Fin 16))) (exactDot (ones lower) (tile B.lf (13 : Fin 16))) (half (tile B.lf (14 : Fin 16))) (rest (tile B.lf (14 : Fin 16))) = B.enb := rfl
theorem word58 : k0_pay58 (F := Ideal) (ones lower) B.lf (exactDot (ones lower) (tile B.lf (0 : Fin 16))) (exactDot (ones lower) (tile B.lf (1 : Fin 16))) (exactDot (ones lower) (tile B.lf (2 : Fin 16))) (exactDot (ones lower) (tile B.lf (3 : Fin 16))) (exactDot (ones lower) (tile B.lf (4 : Fin 16))) (exactDot (ones lower) (tile B.lf (5 : Fin 16))) (exactDot (ones lower) (tile B.lf (6 : Fin 16))) (exactDot (ones lower) (tile B.lf (7 : Fin 16))) (exactDot (ones lower) (tile B.lf (8 : Fin 16))) (exactDot (ones lower) (tile B.lf (9 : Fin 16))) (exactDot (ones lower) (tile B.lf (10 : Fin 16))) (exactDot (ones lower) (tile B.lf (11 : Fin 16))) (exactDot (ones lower) (tile B.lf (12 : Fin 16))) (exactDot (ones lower) (tile B.lf (13 : Fin 16))) (half (tile B.lf (14 : Fin 16))) (rest (tile B.lf (14 : Fin 16))) = B.ekl := rfl
theorem word59 : k0_pay59 (F := Ideal) (ones lower) B.lf (exactDot (ones lower) (tile B.lf (0 : Fin 16))) (exactDot (ones lower) (tile B.lf (1 : Fin 16))) (exactDot (ones lower) (tile B.lf (2 : Fin 16))) (exactDot (ones lower) (tile B.lf (3 : Fin 16))) (exactDot (ones lower) (tile B.lf (4 : Fin 16))) (exactDot (ones lower) (tile B.lf (5 : Fin 16))) (exactDot (ones lower) (tile B.lf (6 : Fin 16))) (exactDot (ones lower) (tile B.lf (7 : Fin 16))) (exactDot (ones lower) (tile B.lf (8 : Fin 16))) (exactDot (ones lower) (tile B.lf (9 : Fin 16))) (exactDot (ones lower) (tile B.lf (10 : Fin 16))) (exactDot (ones lower) (tile B.lf (11 : Fin 16))) (exactDot (ones lower) (tile B.lf (12 : Fin 16))) (exactDot (ones lower) (tile B.lf (13 : Fin 16))) (half (tile B.lf (14 : Fin 16))) (rest (tile B.lf (14 : Fin 16))) = B.ebl := rfl
theorem word60 : k0_pay60 (F := Ideal) (ones lower) B.q B.lf (exactDot (ones lower) (tile B.lf (0 : Fin 16))) (exactDot (ones lower) (tile B.lf (1 : Fin 16))) (exactDot (ones lower) (tile B.lf (2 : Fin 16))) (exactDot (ones lower) (tile B.lf (3 : Fin 16))) (exactDot (ones lower) (tile B.lf (4 : Fin 16))) (exactDot (ones lower) (tile B.lf (5 : Fin 16))) (exactDot (ones lower) (tile B.lf (6 : Fin 16))) (exactDot (ones lower) (tile B.lf (7 : Fin 16))) (exactDot (ones lower) (tile B.lf (8 : Fin 16))) (exactDot (ones lower) (tile B.lf (9 : Fin 16))) (exactDot (ones lower) (tile B.lf (10 : Fin 16))) (exactDot (ones lower) (tile B.lf (11 : Fin 16))) (exactDot (ones lower) (tile B.lf (12 : Fin 16))) (exactDot (ones lower) (tile B.lf (13 : Fin 16))) (half (tile B.lf (14 : Fin 16))) (rest (tile B.lf (14 : Fin 16))) = B.qd := rfl
theorem word61 : k0_pay61 (F := Ideal) (ones lower) B.k B.lf (exactDot (ones lower) (tile B.lf (0 : Fin 16))) (exactDot (ones lower) (tile B.lf (1 : Fin 16))) (exactDot (ones lower) (tile B.lf (2 : Fin 16))) (exactDot (ones lower) (tile B.lf (3 : Fin 16))) (exactDot (ones lower) (tile B.lf (4 : Fin 16))) (exactDot (ones lower) (tile B.lf (5 : Fin 16))) (exactDot (ones lower) (tile B.lf (6 : Fin 16))) (exactDot (ones lower) (tile B.lf (7 : Fin 16))) (exactDot (ones lower) (tile B.lf (8 : Fin 16))) (exactDot (ones lower) (tile B.lf (9 : Fin 16))) (exactDot (ones lower) (tile B.lf (10 : Fin 16))) (exactDot (ones lower) (tile B.lf (11 : Fin 16))) (exactDot (ones lower) (tile B.lf (12 : Fin 16))) (exactDot (ones lower) (tile B.lf (13 : Fin 16))) (half (tile B.lf (14 : Fin 16))) (rest (tile B.lf (14 : Fin 16))) = B.kd := rfl
theorem word62 : k0_pay62 (F := Ideal) (ones lower) B.k B.lf (exactDot (ones lower) (tile B.lf (0 : Fin 16))) (exactDot (ones lower) (tile B.lf (1 : Fin 16))) (exactDot (ones lower) (tile B.lf (2 : Fin 16))) (exactDot (ones lower) (tile B.lf (3 : Fin 16))) (exactDot (ones lower) (tile B.lf (4 : Fin 16))) (exactDot (ones lower) (tile B.lf (5 : Fin 16))) (exactDot (ones lower) (tile B.lf (6 : Fin 16))) (exactDot (ones lower) (tile B.lf (7 : Fin 16))) (exactDot (ones lower) (tile B.lf (8 : Fin 16))) (exactDot (ones lower) (tile B.lf (9 : Fin 16))) (exactDot (ones lower) (tile B.lf (10 : Fin 16))) (exactDot (ones lower) (tile B.lf (11 : Fin 16))) (exactDot (ones lower) (tile B.lf (12 : Fin 16))) (exactDot (ones lower) (tile B.lf (13 : Fin 16))) (half (tile B.lf (14 : Fin 16))) (rest (tile B.lf (14 : Fin 16))) = B.ke := rfl
theorem word63 : k0_pay63 (F := Ideal) (ones lower) B.q B.lf (exactDot (ones lower) (tile B.lf (0 : Fin 16))) (exactDot (ones lower) (tile B.lf (1 : Fin 16))) (exactDot (ones lower) (tile B.lf (2 : Fin 16))) (exactDot (ones lower) (tile B.lf (3 : Fin 16))) (exactDot (ones lower) (tile B.lf (4 : Fin 16))) (exactDot (ones lower) (tile B.lf (5 : Fin 16))) (exactDot (ones lower) (tile B.lf (6 : Fin 16))) (exactDot (ones lower) (tile B.lf (7 : Fin 16))) (exactDot (ones lower) (tile B.lf (8 : Fin 16))) (exactDot (ones lower) (tile B.lf (9 : Fin 16))) (exactDot (ones lower) (tile B.lf (10 : Fin 16))) (exactDot (ones lower) (tile B.lf (11 : Fin 16))) (exactDot (ones lower) (tile B.lf (12 : Fin 16))) (exactDot (ones lower) (tile B.lf (13 : Fin 16))) (half (tile B.lf (14 : Fin 16))) (rest (tile B.lf (14 : Fin 16))) = B.qdh := rfl
theorem word64 : k0_pay64 (F := Ideal) (ones lower) B.k B.lf (exactDot (ones lower) (tile B.lf (0 : Fin 16))) (exactDot (ones lower) (tile B.lf (1 : Fin 16))) (exactDot (ones lower) (tile B.lf (2 : Fin 16))) (exactDot (ones lower) (tile B.lf (3 : Fin 16))) (exactDot (ones lower) (tile B.lf (4 : Fin 16))) (exactDot (ones lower) (tile B.lf (5 : Fin 16))) (exactDot (ones lower) (tile B.lf (6 : Fin 16))) (exactDot (ones lower) (tile B.lf (7 : Fin 16))) (exactDot (ones lower) (tile B.lf (8 : Fin 16))) (exactDot (ones lower) (tile B.lf (9 : Fin 16))) (exactDot (ones lower) (tile B.lf (10 : Fin 16))) (exactDot (ones lower) (tile B.lf (11 : Fin 16))) (exactDot (ones lower) (tile B.lf (12 : Fin 16))) (exactDot (ones lower) (tile B.lf (13 : Fin 16))) (half (tile B.lf (14 : Fin 16))) (rest (tile B.lf (14 : Fin 16))) = B.kdh := rfl
theorem word65 : k0_pay65 (F := Ideal) (ones lower) B.k B.lf (exactDot (ones lower) (tile B.lf (0 : Fin 16))) (exactDot (ones lower) (tile B.lf (1 : Fin 16))) (exactDot (ones lower) (tile B.lf (2 : Fin 16))) (exactDot (ones lower) (tile B.lf (3 : Fin 16))) (exactDot (ones lower) (tile B.lf (4 : Fin 16))) (exactDot (ones lower) (tile B.lf (5 : Fin 16))) (exactDot (ones lower) (tile B.lf (6 : Fin 16))) (exactDot (ones lower) (tile B.lf (7 : Fin 16))) (exactDot (ones lower) (tile B.lf (8 : Fin 16))) (exactDot (ones lower) (tile B.lf (9 : Fin 16))) (exactDot (ones lower) (tile B.lf (10 : Fin 16))) (exactDot (ones lower) (tile B.lf (11 : Fin 16))) (exactDot (ones lower) (tile B.lf (12 : Fin 16))) (exactDot (ones lower) (tile B.lf (13 : Fin 16))) (half (tile B.lf (14 : Fin 16))) (rest (tile B.lf (14 : Fin 16))) = B.keh := rfl
theorem word66 : k0_pay66 (F := Ideal) B.zi = B.v := rfl
theorem word67 : k0_pay67 (F := Ideal) (B.st (0 : Fin 32)) = (B.sts (0 : Fin 32)) := rfl
theorem word68 : k0_pay68 (F := Ideal) (B.st (1 : Fin 32)) = (B.sts (1 : Fin 32)) := rfl
theorem word69 : k0_pay69 (F := Ideal) (B.st (2 : Fin 32)) = (B.sts (2 : Fin 32)) := rfl
theorem word70 : k0_pay70 (F := Ideal) (B.st (3 : Fin 32)) = (B.sts (3 : Fin 32)) := rfl
theorem word71 : k0_pay71 (F := Ideal) (B.st (4 : Fin 32)) = (B.sts (4 : Fin 32)) := rfl
theorem word72 : k0_pay72 (F := Ideal) (B.st (5 : Fin 32)) = (B.sts (5 : Fin 32)) := rfl
theorem word73 : k0_pay73 (F := Ideal) (B.st (6 : Fin 32)) = (B.sts (6 : Fin 32)) := rfl
theorem word74 : k0_pay74 (F := Ideal) (B.st (7 : Fin 32)) = (B.sts (7 : Fin 32)) := rfl
theorem word75 : k0_pay75 (F := Ideal) (B.st (8 : Fin 32)) = (B.sts (8 : Fin 32)) := rfl
theorem word76 : k0_pay76 (F := Ideal) (B.st (9 : Fin 32)) = (B.sts (9 : Fin 32)) := rfl
theorem word77 : k0_pay77 (F := Ideal) (B.st (10 : Fin 32)) = (B.sts (10 : Fin 32)) := rfl
theorem word78 : k0_pay78 (F := Ideal) (B.st (11 : Fin 32)) = (B.sts (11 : Fin 32)) := rfl
theorem word79 : k0_pay79 (F := Ideal) (B.st (12 : Fin 32)) = (B.sts (12 : Fin 32)) := rfl
theorem word80 : k0_pay80 (F := Ideal) (B.st (13 : Fin 32)) = (B.sts (13 : Fin 32)) := rfl
theorem word81 : k0_pay81 (F := Ideal) (B.st (14 : Fin 32)) = (B.sts (14 : Fin 32)) := rfl
theorem word82 : k0_pay82 (F := Ideal) (B.st (15 : Fin 32)) = (B.sts (15 : Fin 32)) := rfl
theorem word83 : k0_pay83 (F := Ideal) (B.st (16 : Fin 32)) = (B.sts (16 : Fin 32)) := rfl
theorem word84 : k0_pay84 (F := Ideal) (B.st (17 : Fin 32)) = (B.sts (17 : Fin 32)) := rfl
theorem word85 : k0_pay85 (F := Ideal) (B.st (18 : Fin 32)) = (B.sts (18 : Fin 32)) := rfl
theorem word86 : k0_pay86 (F := Ideal) (B.st (19 : Fin 32)) = (B.sts (19 : Fin 32)) := rfl
theorem word87 : k0_pay87 (F := Ideal) (B.st (20 : Fin 32)) = (B.sts (20 : Fin 32)) := rfl
theorem word88 : k0_pay88 (F := Ideal) (B.st (21 : Fin 32)) = (B.sts (21 : Fin 32)) := rfl
theorem word89 : k0_pay89 (F := Ideal) (B.st (22 : Fin 32)) = (B.sts (22 : Fin 32)) := rfl
theorem word90 : k0_pay90 (F := Ideal) (B.st (23 : Fin 32)) = (B.sts (23 : Fin 32)) := rfl
theorem word91 : k0_pay91 (F := Ideal) (B.st (24 : Fin 32)) = (B.sts (24 : Fin 32)) := rfl
theorem word92 : k0_pay92 (F := Ideal) (B.st (25 : Fin 32)) = (B.sts (25 : Fin 32)) := rfl
theorem word93 : k0_pay93 (F := Ideal) (B.st (26 : Fin 32)) = (B.sts (26 : Fin 32)) := rfl
theorem word94 : k0_pay94 (F := Ideal) (B.st (27 : Fin 32)) = (B.sts (27 : Fin 32)) := rfl
theorem word95 : k0_pay95 (F := Ideal) (B.st (28 : Fin 32)) = (B.sts (28 : Fin 32)) := rfl
theorem word96 : k0_pay96 (F := Ideal) (B.st (29 : Fin 32)) = (B.sts (29 : Fin 32)) := rfl
theorem word97 : k0_pay97 (F := Ideal) (B.st (30 : Fin 32)) = (B.sts (30 : Fin 32)) := rfl
theorem word98 : k0_pay98 (F := Ideal) (B.st (31 : Fin 32)) = (B.sts (31 : Fin 32)) := rfl
theorem word99 : k0_pay99 (F := Ideal) (B.sts (0 : Fin 32)) = (B.sth (0 : Fin 32)) := rfl
theorem word100 : k0_pay100 (F := Ideal) (B.sts (1 : Fin 32)) = (B.sth (1 : Fin 32)) := rfl
theorem word101 : k0_pay101 (F := Ideal) (B.sts (2 : Fin 32)) = (B.sth (2 : Fin 32)) := rfl
theorem word102 : k0_pay102 (F := Ideal) (B.sts (3 : Fin 32)) = (B.sth (3 : Fin 32)) := rfl
theorem word103 : k0_pay103 (F := Ideal) (B.sts (4 : Fin 32)) = (B.sth (4 : Fin 32)) := rfl
theorem word104 : k0_pay104 (F := Ideal) (B.sts (5 : Fin 32)) = (B.sth (5 : Fin 32)) := rfl
theorem word105 : k0_pay105 (F := Ideal) (B.sts (6 : Fin 32)) = (B.sth (6 : Fin 32)) := rfl
theorem word106 : k0_pay106 (F := Ideal) (B.sts (7 : Fin 32)) = (B.sth (7 : Fin 32)) := rfl
theorem word107 : k0_pay107 (F := Ideal) (B.sts (8 : Fin 32)) = (B.sth (8 : Fin 32)) := rfl
theorem word108 : k0_pay108 (F := Ideal) (B.sts (9 : Fin 32)) = (B.sth (9 : Fin 32)) := rfl
theorem word109 : k0_pay109 (F := Ideal) (B.sts (10 : Fin 32)) = (B.sth (10 : Fin 32)) := rfl
theorem word110 : k0_pay110 (F := Ideal) (B.sts (11 : Fin 32)) = (B.sth (11 : Fin 32)) := rfl
theorem word111 : k0_pay111 (F := Ideal) (B.sts (12 : Fin 32)) = (B.sth (12 : Fin 32)) := rfl
theorem word112 : k0_pay112 (F := Ideal) (B.sts (13 : Fin 32)) = (B.sth (13 : Fin 32)) := rfl
theorem word113 : k0_pay113 (F := Ideal) (B.sts (14 : Fin 32)) = (B.sth (14 : Fin 32)) := rfl
theorem word114 : k0_pay114 (F := Ideal) (B.sts (15 : Fin 32)) = (B.sth (15 : Fin 32)) := rfl
theorem word115 : k0_pay115 (F := Ideal) (B.sts (16 : Fin 32)) = (B.sth (16 : Fin 32)) := rfl
theorem word116 : k0_pay116 (F := Ideal) (B.sts (17 : Fin 32)) = (B.sth (17 : Fin 32)) := rfl
theorem word117 : k0_pay117 (F := Ideal) (B.sts (18 : Fin 32)) = (B.sth (18 : Fin 32)) := rfl
theorem word118 : k0_pay118 (F := Ideal) (B.sts (19 : Fin 32)) = (B.sth (19 : Fin 32)) := rfl
theorem word119 : k0_pay119 (F := Ideal) (B.sts (20 : Fin 32)) = (B.sth (20 : Fin 32)) := rfl
theorem word120 : k0_pay120 (F := Ideal) (B.sts (21 : Fin 32)) = (B.sth (21 : Fin 32)) := rfl
theorem word121 : k0_pay121 (F := Ideal) (B.sts (22 : Fin 32)) = (B.sth (22 : Fin 32)) := rfl
theorem word122 : k0_pay122 (F := Ideal) (B.sts (23 : Fin 32)) = (B.sth (23 : Fin 32)) := rfl
theorem word123 : k0_pay123 (F := Ideal) (B.sts (24 : Fin 32)) = (B.sth (24 : Fin 32)) := rfl
theorem word124 : k0_pay124 (F := Ideal) (B.sts (25 : Fin 32)) = (B.sth (25 : Fin 32)) := rfl
theorem word125 : k0_pay125 (F := Ideal) (B.sts (26 : Fin 32)) = (B.sth (26 : Fin 32)) := rfl
theorem word126 : k0_pay126 (F := Ideal) (B.sts (27 : Fin 32)) = (B.sth (27 : Fin 32)) := rfl
theorem word127 : k0_pay127 (F := Ideal) (B.sts (28 : Fin 32)) = (B.sth (28 : Fin 32)) := rfl
theorem word128 : k0_pay128 (F := Ideal) (B.sts (29 : Fin 32)) = (B.sth (29 : Fin 32)) := rfl
theorem word129 : k0_pay129 (F := Ideal) (B.st (30 : Fin 32)) = (B.sth (30 : Fin 32)) := rfl
theorem word130 : k0_pay130 (F := Ideal) (B.st (31 : Fin 32)) = (B.sth (31 : Fin 32)) := rfl
theorem word131 : k0_pay131 (F := Ideal) lower B.qdh B.kdh = (B.a (0 : Fin 16)) := rfl
theorem word132 : k0_pay132 (F := Ideal) lower B.qdh B.kdh = (B.a (1 : Fin 16)) := rfl
theorem word133 : k0_pay133 (F := Ideal) B.qdh B.kdh = (tileNT (tile B.qdh (2 : Fin 16)) (tile B.kdh (2 : Fin 16))) := rfl
theorem word134 : k0_pay134 (F := Ideal) lower (tileNT (tile B.qdh (2 : Fin 16)) (tile B.kdh (2 : Fin 16))) (Scalar.ofBits .f32 0x00000000#32) = (B.a (2 : Fin 16)) := rfl
theorem word135 : k0_pay135 (F := Ideal) lower B.qdh B.kdh = (B.a (3 : Fin 16)) := rfl
theorem word136 : k0_pay136 (F := Ideal) lower B.qdh B.kdh = (B.a (4 : Fin 16)) := rfl
theorem word137 : k0_pay137 (F := Ideal) lower B.qdh B.kdh = (B.a (5 : Fin 16)) := rfl
theorem word138 : k0_pay138 (F := Ideal) lower B.qdh B.kdh = (B.a (6 : Fin 16)) := rfl
theorem word139 : k0_pay139 (F := Ideal) lower B.qdh B.kdh = (B.a (7 : Fin 16)) := rfl
theorem word140 : k0_pay140 (F := Ideal) lower B.qdh B.kdh = (B.a (8 : Fin 16)) := rfl
theorem word141 : k0_pay141 (F := Ideal) lower B.qdh B.kdh = (B.a (9 : Fin 16)) := rfl
theorem word142 : k0_pay142 (F := Ideal) B.qdh = (tile B.qdh (10 : Fin 16)) := rfl
theorem word143 : k0_pay143 (F := Ideal) lower B.kdh (tile B.qdh (10 : Fin 16)) = (B.a (10 : Fin 16)) := rfl
theorem word144 : k0_pay144 (F := Ideal) lower B.qdh B.kdh = (B.a (11 : Fin 16)) := rfl
theorem word145 : k0_pay145 (F := Ideal) lower B.qdh B.kdh = (B.a (12 : Fin 16)) := rfl
theorem word146 : k0_pay146 (F := Ideal) lower B.qdh B.kdh = (B.a (13 : Fin 16)) := rfl
theorem word147 : k0_pay147 (F := Ideal) lower B.qdh B.kdh = (B.a (14 : Fin 16)) := rfl
theorem word148 : k0_pay148 (F := Ideal) lower B.qdh B.kdh = (B.a (15 : Fin 16)) := rfl
theorem word149 : k0_pay149 (F := Ideal) B.v (B.a (0 : Fin 16)) = (tileNN (B.a (0 : Fin 16)) (tile B.v (0 : Fin 16))) := rfl
theorem word150 : k0_pay150 (F := Ideal) B.v (B.a (1 : Fin 16)) = (tileNN (B.a (1 : Fin 16)) (tile B.v (1 : Fin 16))) := rfl
theorem word151 : k0_pay151 (F := Ideal) B.v (B.a (2 : Fin 16)) = (tileNN (B.a (2 : Fin 16)) (tile B.v (2 : Fin 16))) := rfl
theorem word152 : k0_pay152 (F := Ideal) B.v (B.a (3 : Fin 16)) = (tileNN (B.a (3 : Fin 16)) (tile B.v (3 : Fin 16))) := rfl
theorem word153 : k0_pay153 (F := Ideal) B.v = (tile B.v (4 : Fin 16)) := rfl
theorem word154 : k0_pay154 (F := Ideal) B.v (B.a (4 : Fin 16)) (B.a (5 : Fin 16)) (B.a (6 : Fin 16)) (B.a (7 : Fin 16)) (B.a (8 : Fin 16)) (B.a (9 : Fin 16)) (B.a (10 : Fin 16)) (B.a (11 : Fin 16)) (B.a (12 : Fin 16)) (B.a (13 : Fin 16)) (B.a (14 : Fin 16)) (B.a (15 : Fin 16)) (tileNN (B.a (0 : Fin 16)) (tile B.v (0 : Fin 16))) (tileNN (B.a (1 : Fin 16)) (tile B.v (1 : Fin 16))) (tileNN (B.a (2 : Fin 16)) (tile B.v (2 : Fin 16))) (tileNN (B.a (3 : Fin 16)) (tile B.v (3 : Fin 16))) (tile B.v (4 : Fin 16)) = B.oIntra := rfl
theorem word155 : k0_pay155 (F := Ideal) B.qdh (B.sth (0 : Fin 32)) = (chunkNT (chunk B.qdh (0 : Fin 32)) (B.sth (0 : Fin 32))) := rfl
theorem word156 : k0_pay156 (F := Ideal) B.qdh (B.sth (1 : Fin 32)) = (chunkNT (chunk B.qdh (1 : Fin 32)) (B.sth (1 : Fin 32))) := rfl
theorem word157 : k0_pay157 (F := Ideal) B.qdh (B.sth (2 : Fin 32)) = (chunkNT (chunk B.qdh (2 : Fin 32)) (B.sth (2 : Fin 32))) := rfl
theorem word158 : k0_pay158 (F := Ideal) B.qdh (B.sth (3 : Fin 32)) = (chunkNT (chunk B.qdh (3 : Fin 32)) (B.sth (3 : Fin 32))) := rfl
theorem word159 : k0_pay159 (F := Ideal) B.qdh (B.sth (4 : Fin 32)) = (chunkNT (chunk B.qdh (4 : Fin 32)) (B.sth (4 : Fin 32))) := rfl
theorem word160 : k0_pay160 (F := Ideal) B.qdh (B.sth (5 : Fin 32)) = (chunkNT (chunk B.qdh (5 : Fin 32)) (B.sth (5 : Fin 32))) := rfl
theorem word161 : k0_pay161 (F := Ideal) B.qdh (B.sth (6 : Fin 32)) = (chunkNT (chunk B.qdh (6 : Fin 32)) (B.sth (6 : Fin 32))) := rfl
theorem word162 : k0_pay162 (F := Ideal) B.qdh (B.sth (7 : Fin 32)) = (chunkNT (chunk B.qdh (7 : Fin 32)) (B.sth (7 : Fin 32))) := rfl
theorem word163 : k0_pay163 (F := Ideal) B.qdh (B.sth (8 : Fin 32)) = (chunkNT (chunk B.qdh (8 : Fin 32)) (B.sth (8 : Fin 32))) := rfl
theorem word164 : k0_pay164 (F := Ideal) B.qdh (B.sth (9 : Fin 32)) = (chunkNT (chunk B.qdh (9 : Fin 32)) (B.sth (9 : Fin 32))) := rfl
theorem word165 : k0_pay165 (F := Ideal) B.qdh (B.sth (10 : Fin 32)) = (chunkNT (chunk B.qdh (10 : Fin 32)) (B.sth (10 : Fin 32))) := rfl
theorem word166 : k0_pay166 (F := Ideal) B.qdh (B.sth (11 : Fin 32)) = (chunkNT (chunk B.qdh (11 : Fin 32)) (B.sth (11 : Fin 32))) := rfl
theorem word167 : k0_pay167 (F := Ideal) B.qdh (B.sth (12 : Fin 32)) = (chunkNT (chunk B.qdh (12 : Fin 32)) (B.sth (12 : Fin 32))) := rfl
theorem word168 : k0_pay168 (F := Ideal) B.qdh (B.sth (13 : Fin 32)) = (chunkNT (chunk B.qdh (13 : Fin 32)) (B.sth (13 : Fin 32))) := rfl
theorem word169 : k0_pay169 (F := Ideal) B.qdh (B.sth (14 : Fin 32)) = (chunkNT (chunk B.qdh (14 : Fin 32)) (B.sth (14 : Fin 32))) := rfl
theorem word170 : k0_pay170 (F := Ideal) B.qdh (B.sth (15 : Fin 32)) = (chunkNT (chunk B.qdh (15 : Fin 32)) (B.sth (15 : Fin 32))) := rfl
theorem word171 : k0_pay171 (F := Ideal) B.qdh (B.sth (16 : Fin 32)) = (chunkNT (chunk B.qdh (16 : Fin 32)) (B.sth (16 : Fin 32))) := rfl
theorem word172 : k0_pay172 (F := Ideal) B.qdh (B.sth (17 : Fin 32)) = (chunkNT (chunk B.qdh (17 : Fin 32)) (B.sth (17 : Fin 32))) := rfl
theorem word173 : k0_pay173 (F := Ideal) B.qdh (B.sth (18 : Fin 32)) = (chunkNT (chunk B.qdh (18 : Fin 32)) (B.sth (18 : Fin 32))) := rfl
theorem word174 : k0_pay174 (F := Ideal) B.qdh (B.sth (19 : Fin 32)) = (chunkNT (chunk B.qdh (19 : Fin 32)) (B.sth (19 : Fin 32))) := rfl
theorem word175 : k0_pay175 (F := Ideal) B.qdh (B.sth (20 : Fin 32)) = (chunkNT (chunk B.qdh (20 : Fin 32)) (B.sth (20 : Fin 32))) := rfl
theorem word176 : k0_pay176 (F := Ideal) B.qdh (B.sth (21 : Fin 32)) = (chunkNT (chunk B.qdh (21 : Fin 32)) (B.sth (21 : Fin 32))) := rfl
theorem word177 : k0_pay177 (F := Ideal) B.qdh (B.sth (22 : Fin 32)) = (chunkNT (chunk B.qdh (22 : Fin 32)) (B.sth (22 : Fin 32))) := rfl
theorem word178 : k0_pay178 (F := Ideal) B.qdh (B.sth (23 : Fin 32)) = (chunkNT (chunk B.qdh (23 : Fin 32)) (B.sth (23 : Fin 32))) := rfl
theorem word179 : k0_pay179 (F := Ideal) B.qdh (B.sth (24 : Fin 32)) = (chunkNT (chunk B.qdh (24 : Fin 32)) (B.sth (24 : Fin 32))) := rfl
theorem word180 : k0_pay180 (F := Ideal) B.qdh (B.sth (25 : Fin 32)) = (chunkNT (chunk B.qdh (25 : Fin 32)) (B.sth (25 : Fin 32))) := rfl
theorem word181 : k0_pay181 (F := Ideal) B.qdh (B.sth (26 : Fin 32)) = (chunkNT (chunk B.qdh (26 : Fin 32)) (B.sth (26 : Fin 32))) := rfl
theorem word182 : k0_pay182 (F := Ideal) B.qdh (B.sth (27 : Fin 32)) = (chunkNT (chunk B.qdh (27 : Fin 32)) (B.sth (27 : Fin 32))) := rfl
theorem word183 : k0_pay183 (F := Ideal) B.qdh (B.sth (28 : Fin 32)) (B.sth (29 : Fin 32)) (B.sth (30 : Fin 32)) (B.sth (31 : Fin 32)) B.oIntra (chunkNT (chunk B.qdh (0 : Fin 32)) (B.sth (0 : Fin 32))) (chunkNT (chunk B.qdh (1 : Fin 32)) (B.sth (1 : Fin 32))) (chunkNT (chunk B.qdh (2 : Fin 32)) (B.sth (2 : Fin 32))) (chunkNT (chunk B.qdh (3 : Fin 32)) (B.sth (3 : Fin 32))) (chunkNT (chunk B.qdh (4 : Fin 32)) (B.sth (4 : Fin 32))) (chunkNT (chunk B.qdh (5 : Fin 32)) (B.sth (5 : Fin 32))) (chunkNT (chunk B.qdh (6 : Fin 32)) (B.sth (6 : Fin 32))) (chunkNT (chunk B.qdh (7 : Fin 32)) (B.sth (7 : Fin 32))) (chunkNT (chunk B.qdh (8 : Fin 32)) (B.sth (8 : Fin 32))) (chunkNT (chunk B.qdh (9 : Fin 32)) (B.sth (9 : Fin 32))) (chunkNT (chunk B.qdh (10 : Fin 32)) (B.sth (10 : Fin 32))) (chunkNT (chunk B.qdh (11 : Fin 32)) (B.sth (11 : Fin 32))) (chunkNT (chunk B.qdh (12 : Fin 32)) (B.sth (12 : Fin 32))) (chunkNT (chunk B.qdh (13 : Fin 32)) (B.sth (13 : Fin 32))) (chunkNT (chunk B.qdh (14 : Fin 32)) (B.sth (14 : Fin 32))) (chunkNT (chunk B.qdh (15 : Fin 32)) (B.sth (15 : Fin 32))) (chunkNT (chunk B.qdh (16 : Fin 32)) (B.sth (16 : Fin 32))) (chunkNT (chunk B.qdh (17 : Fin 32)) (B.sth (17 : Fin 32))) (chunkNT (chunk B.qdh (18 : Fin 32)) (B.sth (18 : Fin 32))) (chunkNT (chunk B.qdh (19 : Fin 32)) (B.sth (19 : Fin 32))) (chunkNT (chunk B.qdh (20 : Fin 32)) (B.sth (20 : Fin 32))) (chunkNT (chunk B.qdh (21 : Fin 32)) (B.sth (21 : Fin 32))) (chunkNT (chunk B.qdh (22 : Fin 32)) (B.sth (22 : Fin 32))) (chunkNT (chunk B.qdh (23 : Fin 32)) (B.sth (23 : Fin 32))) (chunkNT (chunk B.qdh (24 : Fin 32)) (B.sth (24 : Fin 32))) (chunkNT (chunk B.qdh (25 : Fin 32)) (B.sth (25 : Fin 32))) (chunkNT (chunk B.qdh (26 : Fin 32)) (B.sth (26 : Fin 32))) (chunkNT (chunk B.qdh (27 : Fin 32)) (B.sth (27 : Fin 32))) = B.o := rfl
theorem word184 : k0_pay184 (F := Ideal) B.qdh (B.sth (28 : Fin 32)) (B.sth (29 : Fin 32)) (B.sth (30 : Fin 32)) (B.sth (31 : Fin 32)) B.oIntra (chunkNT (chunk B.qdh (0 : Fin 32)) (B.sth (0 : Fin 32))) (chunkNT (chunk B.qdh (1 : Fin 32)) (B.sth (1 : Fin 32))) (chunkNT (chunk B.qdh (2 : Fin 32)) (B.sth (2 : Fin 32))) (chunkNT (chunk B.qdh (3 : Fin 32)) (B.sth (3 : Fin 32))) (chunkNT (chunk B.qdh (4 : Fin 32)) (B.sth (4 : Fin 32))) (chunkNT (chunk B.qdh (5 : Fin 32)) (B.sth (5 : Fin 32))) (chunkNT (chunk B.qdh (6 : Fin 32)) (B.sth (6 : Fin 32))) (chunkNT (chunk B.qdh (7 : Fin 32)) (B.sth (7 : Fin 32))) (chunkNT (chunk B.qdh (8 : Fin 32)) (B.sth (8 : Fin 32))) (chunkNT (chunk B.qdh (9 : Fin 32)) (B.sth (9 : Fin 32))) (chunkNT (chunk B.qdh (10 : Fin 32)) (B.sth (10 : Fin 32))) (chunkNT (chunk B.qdh (11 : Fin 32)) (B.sth (11 : Fin 32))) (chunkNT (chunk B.qdh (12 : Fin 32)) (B.sth (12 : Fin 32))) (chunkNT (chunk B.qdh (13 : Fin 32)) (B.sth (13 : Fin 32))) (chunkNT (chunk B.qdh (14 : Fin 32)) (B.sth (14 : Fin 32))) (chunkNT (chunk B.qdh (15 : Fin 32)) (B.sth (15 : Fin 32))) (chunkNT (chunk B.qdh (16 : Fin 32)) (B.sth (16 : Fin 32))) (chunkNT (chunk B.qdh (17 : Fin 32)) (B.sth (17 : Fin 32))) (chunkNT (chunk B.qdh (18 : Fin 32)) (B.sth (18 : Fin 32))) (chunkNT (chunk B.qdh (19 : Fin 32)) (B.sth (19 : Fin 32))) (chunkNT (chunk B.qdh (20 : Fin 32)) (B.sth (20 : Fin 32))) (chunkNT (chunk B.qdh (21 : Fin 32)) (B.sth (21 : Fin 32))) (chunkNT (chunk B.qdh (22 : Fin 32)) (B.sth (22 : Fin 32))) (chunkNT (chunk B.qdh (23 : Fin 32)) (B.sth (23 : Fin 32))) (chunkNT (chunk B.qdh (24 : Fin 32)) (B.sth (24 : Fin 32))) (chunkNT (chunk B.qdh (25 : Fin 32)) (B.sth (25 : Fin 32))) (chunkNT (chunk B.qdh (26 : Fin 32)) (B.sth (26 : Fin 32))) (chunkNT (chunk B.qdh (27 : Fin 32)) (B.sth (27 : Fin 32))) = B.rinv := rfl
theorem word185 : k0_pay185 (F := Ideal) B.qdh (B.sth (28 : Fin 32)) (B.sth (29 : Fin 32)) (B.sth (30 : Fin 32)) (B.sth (31 : Fin 32)) B.oIntra (chunkNT (chunk B.qdh (0 : Fin 32)) (B.sth (0 : Fin 32))) (chunkNT (chunk B.qdh (1 : Fin 32)) (B.sth (1 : Fin 32))) (chunkNT (chunk B.qdh (2 : Fin 32)) (B.sth (2 : Fin 32))) (chunkNT (chunk B.qdh (3 : Fin 32)) (B.sth (3 : Fin 32))) (chunkNT (chunk B.qdh (4 : Fin 32)) (B.sth (4 : Fin 32))) (chunkNT (chunk B.qdh (5 : Fin 32)) (B.sth (5 : Fin 32))) (chunkNT (chunk B.qdh (6 : Fin 32)) (B.sth (6 : Fin 32))) (chunkNT (chunk B.qdh (7 : Fin 32)) (B.sth (7 : Fin 32))) (chunkNT (chunk B.qdh (8 : Fin 32)) (B.sth (8 : Fin 32))) (chunkNT (chunk B.qdh (9 : Fin 32)) (B.sth (9 : Fin 32))) (chunkNT (chunk B.qdh (10 : Fin 32)) (B.sth (10 : Fin 32))) (chunkNT (chunk B.qdh (11 : Fin 32)) (B.sth (11 : Fin 32))) (chunkNT (chunk B.qdh (12 : Fin 32)) (B.sth (12 : Fin 32))) (chunkNT (chunk B.qdh (13 : Fin 32)) (B.sth (13 : Fin 32))) (chunkNT (chunk B.qdh (14 : Fin 32)) (B.sth (14 : Fin 32))) (chunkNT (chunk B.qdh (15 : Fin 32)) (B.sth (15 : Fin 32))) (chunkNT (chunk B.qdh (16 : Fin 32)) (B.sth (16 : Fin 32))) (chunkNT (chunk B.qdh (17 : Fin 32)) (B.sth (17 : Fin 32))) (chunkNT (chunk B.qdh (18 : Fin 32)) (B.sth (18 : Fin 32))) (chunkNT (chunk B.qdh (19 : Fin 32)) (B.sth (19 : Fin 32))) (chunkNT (chunk B.qdh (20 : Fin 32)) (B.sth (20 : Fin 32))) (chunkNT (chunk B.qdh (21 : Fin 32)) (B.sth (21 : Fin 32))) (chunkNT (chunk B.qdh (22 : Fin 32)) (B.sth (22 : Fin 32))) (chunkNT (chunk B.qdh (23 : Fin 32)) (B.sth (23 : Fin 32))) (chunkNT (chunk B.qdh (24 : Fin 32)) (B.sth (24 : Fin 32))) (chunkNT (chunk B.qdh (25 : Fin 32)) (B.sth (25 : Fin 32))) (chunkNT (chunk B.qdh (26 : Fin 32)) (B.sth (26 : Fin 32))) (chunkNT (chunk B.qdh (27 : Fin 32)) (B.sth (27 : Fin 32))) = B.ohat := rfl
theorem word186 : k0_pay186 (F := Ideal) B.zg = (flat B.zg) := rfl
theorem word187 : k0_pay187 (F := Ideal) B.zg = (logistic (flat B.zg)) := rfl
theorem word188 : k0_pay188 (F := Ideal) B.dy = B.dyv := rfl
theorem word189 : k0_pay189 (F := Ideal) B.zg B.dy = B.don := rfl
theorem word190 : k0_pay190 (F := Ideal) B.gn B.qdh (B.sth (28 : Fin 32)) (B.sth (29 : Fin 32)) (B.sth (30 : Fin 32)) (B.sth (31 : Fin 32)) B.oIntra (chunkNT (chunk B.qdh (0 : Fin 32)) (B.sth (0 : Fin 32))) (chunkNT (chunk B.qdh (1 : Fin 32)) (B.sth (1 : Fin 32))) (chunkNT (chunk B.qdh (2 : Fin 32)) (B.sth (2 : Fin 32))) (chunkNT (chunk B.qdh (3 : Fin 32)) (B.sth (3 : Fin 32))) (chunkNT (chunk B.qdh (4 : Fin 32)) (B.sth (4 : Fin 32))) (chunkNT (chunk B.qdh (5 : Fin 32)) (B.sth (5 : Fin 32))) (chunkNT (chunk B.qdh (6 : Fin 32)) (B.sth (6 : Fin 32))) (chunkNT (chunk B.qdh (7 : Fin 32)) (B.sth (7 : Fin 32))) (chunkNT (chunk B.qdh (8 : Fin 32)) (B.sth (8 : Fin 32))) (chunkNT (chunk B.qdh (9 : Fin 32)) (B.sth (9 : Fin 32))) (chunkNT (chunk B.qdh (10 : Fin 32)) (B.sth (10 : Fin 32))) (chunkNT (chunk B.qdh (11 : Fin 32)) (B.sth (11 : Fin 32))) (chunkNT (chunk B.qdh (12 : Fin 32)) (B.sth (12 : Fin 32))) (chunkNT (chunk B.qdh (13 : Fin 32)) (B.sth (13 : Fin 32))) (chunkNT (chunk B.qdh (14 : Fin 32)) (B.sth (14 : Fin 32))) (chunkNT (chunk B.qdh (15 : Fin 32)) (B.sth (15 : Fin 32))) (chunkNT (chunk B.qdh (16 : Fin 32)) (B.sth (16 : Fin 32))) (chunkNT (chunk B.qdh (17 : Fin 32)) (B.sth (17 : Fin 32))) (chunkNT (chunk B.qdh (18 : Fin 32)) (B.sth (18 : Fin 32))) (chunkNT (chunk B.qdh (19 : Fin 32)) (B.sth (19 : Fin 32))) (chunkNT (chunk B.qdh (20 : Fin 32)) (B.sth (20 : Fin 32))) (chunkNT (chunk B.qdh (21 : Fin 32)) (B.sth (21 : Fin 32))) (chunkNT (chunk B.qdh (22 : Fin 32)) (B.sth (22 : Fin 32))) (chunkNT (chunk B.qdh (23 : Fin 32)) (B.sth (23 : Fin 32))) (chunkNT (chunk B.qdh (24 : Fin 32)) (B.sth (24 : Fin 32))) (chunkNT (chunk B.qdh (25 : Fin 32)) (B.sth (25 : Fin 32))) (chunkNT (chunk B.qdh (26 : Fin 32)) (B.sth (26 : Fin 32))) (chunkNT (chunk B.qdh (27 : Fin 32)) (B.sth (27 : Fin 32))) B.zg B.dy = (lift B.dzg) := rfl
theorem word192 : k0_pay192 (F := Ideal) B.gn B.rinv B.ohat B.don = B.do' := rfl
theorem word193 : k0_pay193 (F := Ideal) B.gn lower B.v B.rinv B.ohat B.don = (B.da (0 : Fin 16)) := rfl
theorem word194 : k0_pay194 (F := Ideal) B.gn lower B.v B.rinv B.ohat B.don = (B.da (1 : Fin 16)) := rfl
theorem word195 : k0_pay195 (F := Ideal) B.gn lower B.v B.rinv B.ohat B.don = (B.da (2 : Fin 16)) := rfl
theorem word196 : k0_pay196 (F := Ideal) B.gn B.v B.rinv B.ohat B.don = (tileNT (tile B.do' (3 : Fin 16)) (tile B.v (3 : Fin 16))) := rfl
theorem word197 : k0_pay197 (F := Ideal) lower (tileNT (tile B.do' (3 : Fin 16)) (tile B.v (3 : Fin 16))) = (B.da (3 : Fin 16)) := rfl
theorem word198 : k0_pay198 (F := Ideal) lower B.v B.do' = (B.da (4 : Fin 16)) := rfl
theorem word199 : k0_pay199 (F := Ideal) lower B.v B.do' = (B.da (5 : Fin 16)) := rfl
theorem word200 : k0_pay200 (F := Ideal) lower B.v B.do' = (B.da (6 : Fin 16)) := rfl
theorem word201 : k0_pay201 (F := Ideal) lower B.v B.do' = (B.da (7 : Fin 16)) := rfl
theorem word202 : k0_pay202 (F := Ideal) lower B.v B.do' = (B.da (8 : Fin 16)) := rfl
theorem word203 : k0_pay203 (F := Ideal) lower B.v B.do' = (B.da (9 : Fin 16)) := rfl
theorem word204 : k0_pay204 (F := Ideal) lower B.v B.do' = (B.da (10 : Fin 16)) := rfl
theorem word205 : k0_pay205 (F := Ideal) lower B.v B.do' = (B.da (11 : Fin 16)) := rfl
theorem word206 : k0_pay206 (F := Ideal) lower B.v B.do' = (B.da (12 : Fin 16)) := rfl
theorem word207 : k0_pay207 (F := Ideal) lower B.v B.do' = (B.da (13 : Fin 16)) := rfl
theorem word208 : k0_pay208 (F := Ideal) lower B.v B.do' = (B.da (14 : Fin 16)) := rfl
theorem word209 : k0_pay209 (F := Ideal) lower B.v B.do' = (B.da (15 : Fin 16)) := rfl
theorem word210 : k0_pay210 (F := Ideal) (B.a (0 : Fin 16)) B.do' = (tileTN (B.a (0 : Fin 16)) (tile B.do' (0 : Fin 16))) := rfl
theorem word211 : k0_pay211 (F := Ideal) (B.a (1 : Fin 16)) B.do' = (tileTN (B.a (1 : Fin 16)) (tile B.do' (1 : Fin 16))) := rfl
theorem word212 : k0_pay212 (F := Ideal) (B.a (2 : Fin 16)) B.do' = (tileTN (B.a (2 : Fin 16)) (tile B.do' (2 : Fin 16))) := rfl
theorem word213 : k0_pay213 (F := Ideal) (B.a (3 : Fin 16)) B.do' = (tileTN (B.a (3 : Fin 16)) (tile B.do' (3 : Fin 16))) := rfl
theorem word214 : k0_pay214 (F := Ideal) (B.a (4 : Fin 16)) B.do' = (tileTN (B.a (4 : Fin 16)) (tile B.do' (4 : Fin 16))) := rfl
theorem word215 : k0_pay215 (F := Ideal) (B.a (5 : Fin 16)) B.do' = (tileTN (B.a (5 : Fin 16)) (tile B.do' (5 : Fin 16))) := rfl
theorem word216 : k0_pay216 (F := Ideal) B.do' = (tile B.do' (6 : Fin 16)) := rfl
theorem word217 : k0_pay217 (F := Ideal) (B.a (6 : Fin 16)) (B.a (7 : Fin 16)) (B.a (8 : Fin 16)) (B.a (9 : Fin 16)) (B.a (10 : Fin 16)) (B.a (11 : Fin 16)) (B.a (12 : Fin 16)) (B.a (13 : Fin 16)) (B.a (14 : Fin 16)) (B.a (15 : Fin 16)) B.do' (tileTN (B.a (0 : Fin 16)) (tile B.do' (0 : Fin 16))) (tileTN (B.a (1 : Fin 16)) (tile B.do' (1 : Fin 16))) (tileTN (B.a (2 : Fin 16)) (tile B.do' (2 : Fin 16))) (tileTN (B.a (3 : Fin 16)) (tile B.do' (3 : Fin 16))) (tileTN (B.a (4 : Fin 16)) (tile B.do' (4 : Fin 16))) (tileTN (B.a (5 : Fin 16)) (tile B.do' (5 : Fin 16))) (tile B.do' (6 : Fin 16)) (constant S128x128 .f32 0x00000000#32) = B.dvIntra := rfl
theorem word218 : k0_pay218 (F := Ideal) B.kdh (B.da (0 : Fin 16)) = (tileNN (B.da (0 : Fin 16)) (tile B.kdh (0 : Fin 16))) := rfl
theorem word219 : k0_pay219 (F := Ideal) B.kdh (B.da (1 : Fin 16)) = (tileNN (B.da (1 : Fin 16)) (tile B.kdh (1 : Fin 16))) := rfl
theorem word220 : k0_pay220 (F := Ideal) B.kdh (B.da (2 : Fin 16)) = (tileNN (B.da (2 : Fin 16)) (tile B.kdh (2 : Fin 16))) := rfl
theorem word221 : k0_pay221 (F := Ideal) B.kdh (B.da (3 : Fin 16)) = (tileNN (B.da (3 : Fin 16)) (tile B.kdh (3 : Fin 16))) := rfl
theorem word222 : k0_pay222 (F := Ideal) B.kdh (B.da (4 : Fin 16)) = (tileNN (B.da (4 : Fin 16)) (tile B.kdh (4 : Fin 16))) := rfl
theorem word223 : k0_pay223 (F := Ideal) B.kdh (B.da (5 : Fin 16)) = (tileNN (B.da (5 : Fin 16)) (tile B.kdh (5 : Fin 16))) := rfl
theorem word224 : k0_pay224 (F := Ideal) B.kdh (B.da (6 : Fin 16)) = (tileNN (B.da (6 : Fin 16)) (tile B.kdh (6 : Fin 16))) := rfl
theorem word225 : k0_pay225 (F := Ideal) B.kdh (B.da (7 : Fin 16)) = (tileNN (B.da (7 : Fin 16)) (tile B.kdh (7 : Fin 16))) := rfl
theorem word226 : k0_pay226 (F := Ideal) B.kdh (B.da (8 : Fin 16)) = (tileNN (B.da (8 : Fin 16)) (tile B.kdh (8 : Fin 16))) := rfl
theorem word227 : k0_pay227 (F := Ideal) B.kdh (B.da (9 : Fin 16)) = (tileNN (B.da (9 : Fin 16)) (tile B.kdh (9 : Fin 16))) := rfl
theorem word228 : k0_pay228 (F := Ideal) B.kdh = (tile B.kdh (10 : Fin 16)) := rfl
theorem word229 : k0_pay229 (F := Ideal) B.kdh (B.da (10 : Fin 16)) (B.da (11 : Fin 16)) (B.da (12 : Fin 16)) (B.da (13 : Fin 16)) (B.da (14 : Fin 16)) (B.da (15 : Fin 16)) (tileNN (B.da (0 : Fin 16)) (tile B.kdh (0 : Fin 16))) (tileNN (B.da (1 : Fin 16)) (tile B.kdh (1 : Fin 16))) (tileNN (B.da (2 : Fin 16)) (tile B.kdh (2 : Fin 16))) (tileNN (B.da (3 : Fin 16)) (tile B.kdh (3 : Fin 16))) (tileNN (B.da (4 : Fin 16)) (tile B.kdh (4 : Fin 16))) (tileNN (B.da (5 : Fin 16)) (tile B.kdh (5 : Fin 16))) (tileNN (B.da (6 : Fin 16)) (tile B.kdh (6 : Fin 16))) (tileNN (B.da (7 : Fin 16)) (tile B.kdh (7 : Fin 16))) (tileNN (B.da (8 : Fin 16)) (tile B.kdh (8 : Fin 16))) (tileNN (B.da (9 : Fin 16)) (tile B.kdh (9 : Fin 16))) (tile B.kdh (10 : Fin 16)) = B.dqdIntra := rfl
theorem word230 : k0_pay230 (F := Ideal) B.qdh (B.da (0 : Fin 16)) = (tileTN (B.da (0 : Fin 16)) (tile B.qdh (0 : Fin 16))) := rfl
theorem word231 : k0_pay231 (F := Ideal) B.qdh (B.da (1 : Fin 16)) = (tileTN (B.da (1 : Fin 16)) (tile B.qdh (1 : Fin 16))) := rfl
theorem word232 : k0_pay232 (F := Ideal) B.qdh (B.da (2 : Fin 16)) = (tileTN (B.da (2 : Fin 16)) (tile B.qdh (2 : Fin 16))) := rfl
theorem word233 : k0_pay233 (F := Ideal) B.qdh (B.da (3 : Fin 16)) = (tileTN (B.da (3 : Fin 16)) (tile B.qdh (3 : Fin 16))) := rfl
theorem word234 : k0_pay234 (F := Ideal) B.qdh (B.da (4 : Fin 16)) = (tileTN (B.da (4 : Fin 16)) (tile B.qdh (4 : Fin 16))) := rfl
theorem word235 : k0_pay235 (F := Ideal) B.qdh (B.da (5 : Fin 16)) = (tileTN (B.da (5 : Fin 16)) (tile B.qdh (5 : Fin 16))) := rfl
theorem word236 : k0_pay236 (F := Ideal) B.qdh (B.da (6 : Fin 16)) = (tileTN (B.da (6 : Fin 16)) (tile B.qdh (6 : Fin 16))) := rfl
theorem word237 : k0_pay237 (F := Ideal) B.qdh (B.da (7 : Fin 16)) = (tileTN (B.da (7 : Fin 16)) (tile B.qdh (7 : Fin 16))) := rfl
theorem word238 : k0_pay238 (F := Ideal) B.qdh (B.da (8 : Fin 16)) = (tileTN (B.da (8 : Fin 16)) (tile B.qdh (8 : Fin 16))) := rfl
theorem word239 : k0_pay239 (F := Ideal) B.qdh (B.da (9 : Fin 16)) = (tileTN (B.da (9 : Fin 16)) (tile B.qdh (9 : Fin 16))) := rfl
theorem word240 : k0_pay240 (F := Ideal) B.qdh (B.da (10 : Fin 16)) = (tileTN (B.da (10 : Fin 16)) (tile B.qdh (10 : Fin 16))) := rfl
theorem word241 : k0_pay241 (F := Ideal) B.qdh (B.da (11 : Fin 16)) = (tileTN (B.da (11 : Fin 16)) (tile B.qdh (11 : Fin 16))) := rfl
theorem word242 : k0_pay242 (F := Ideal) B.qdh (B.da (12 : Fin 16)) = (tileTN (B.da (12 : Fin 16)) (tile B.qdh (12 : Fin 16))) := rfl
theorem word243 : k0_pay243 (F := Ideal) B.qdh (B.da (13 : Fin 16)) = (tileTN (B.da (13 : Fin 16)) (tile B.qdh (13 : Fin 16))) := rfl
theorem word244 : k0_pay244 (F := Ideal) B.qdh (B.da (14 : Fin 16)) (B.da (15 : Fin 16)) (tileTN (B.da (0 : Fin 16)) (tile B.qdh (0 : Fin 16))) (tileTN (B.da (1 : Fin 16)) (tile B.qdh (1 : Fin 16))) (tileTN (B.da (2 : Fin 16)) (tile B.qdh (2 : Fin 16))) (tileTN (B.da (3 : Fin 16)) (tile B.qdh (3 : Fin 16))) (tileTN (B.da (4 : Fin 16)) (tile B.qdh (4 : Fin 16))) (tileTN (B.da (5 : Fin 16)) (tile B.qdh (5 : Fin 16))) (tileTN (B.da (6 : Fin 16)) (tile B.qdh (6 : Fin 16))) (tileTN (B.da (7 : Fin 16)) (tile B.qdh (7 : Fin 16))) (tileTN (B.da (8 : Fin 16)) (tile B.qdh (8 : Fin 16))) (tileTN (B.da (9 : Fin 16)) (tile B.qdh (9 : Fin 16))) (tileTN (B.da (10 : Fin 16)) (tile B.qdh (10 : Fin 16))) (tileTN (B.da (11 : Fin 16)) (tile B.qdh (11 : Fin 16))) (tileTN (B.da (12 : Fin 16)) (tile B.qdh (12 : Fin 16))) (tileTN (B.da (13 : Fin 16)) (tile B.qdh (13 : Fin 16))) = B.dkd := rfl
theorem word245 : k0_pay245 (F := Ideal) (B.sth (0 : Fin 32)) B.do' = (chunkNN (chunk B.do' (0 : Fin 32)) (B.sth (0 : Fin 32))) := rfl
theorem word246 : k0_pay246 (F := Ideal) (B.sth (1 : Fin 32)) B.do' = (chunkNN (chunk B.do' (1 : Fin 32)) (B.sth (1 : Fin 32))) := rfl
theorem word247 : k0_pay247 (F := Ideal) (B.sth (2 : Fin 32)) B.do' = (chunkNN (chunk B.do' (2 : Fin 32)) (B.sth (2 : Fin 32))) := rfl
theorem word248 : k0_pay248 (F := Ideal) (B.sth (3 : Fin 32)) B.do' = (chunkNN (chunk B.do' (3 : Fin 32)) (B.sth (3 : Fin 32))) := rfl
theorem word249 : k0_pay249 (F := Ideal) (B.sth (4 : Fin 32)) B.do' = (chunkNN (chunk B.do' (4 : Fin 32)) (B.sth (4 : Fin 32))) := rfl
theorem word250 : k0_pay250 (F := Ideal) (B.sth (5 : Fin 32)) B.do' = (chunkNN (chunk B.do' (5 : Fin 32)) (B.sth (5 : Fin 32))) := rfl
theorem word251 : k0_pay251 (F := Ideal) (B.sth (6 : Fin 32)) B.do' = (chunkNN (chunk B.do' (6 : Fin 32)) (B.sth (6 : Fin 32))) := rfl
theorem word252 : k0_pay252 (F := Ideal) (B.sth (7 : Fin 32)) B.do' = (chunkNN (chunk B.do' (7 : Fin 32)) (B.sth (7 : Fin 32))) := rfl
theorem word253 : k0_pay253 (F := Ideal) (B.sth (8 : Fin 32)) B.do' = (chunkNN (chunk B.do' (8 : Fin 32)) (B.sth (8 : Fin 32))) := rfl
theorem word254 : k0_pay254 (F := Ideal) (B.sth (9 : Fin 32)) B.do' = (chunkNN (chunk B.do' (9 : Fin 32)) (B.sth (9 : Fin 32))) := rfl
theorem word255 : k0_pay255 (F := Ideal) (B.sth (10 : Fin 32)) B.do' = (chunkNN (chunk B.do' (10 : Fin 32)) (B.sth (10 : Fin 32))) := rfl
theorem word256 : k0_pay256 (F := Ideal) (B.sth (11 : Fin 32)) B.do' = (chunkNN (chunk B.do' (11 : Fin 32)) (B.sth (11 : Fin 32))) := rfl
theorem word257 : k0_pay257 (F := Ideal) (B.sth (12 : Fin 32)) B.do' = (chunkNN (chunk B.do' (12 : Fin 32)) (B.sth (12 : Fin 32))) := rfl
theorem word258 : k0_pay258 (F := Ideal) (B.sth (13 : Fin 32)) B.do' = (chunkNN (chunk B.do' (13 : Fin 32)) (B.sth (13 : Fin 32))) := rfl
theorem word259 : k0_pay259 (F := Ideal) (B.sth (14 : Fin 32)) B.do' = (chunkNN (chunk B.do' (14 : Fin 32)) (B.sth (14 : Fin 32))) := rfl
theorem word260 : k0_pay260 (F := Ideal) (B.sth (15 : Fin 32)) B.do' = (chunkNN (chunk B.do' (15 : Fin 32)) (B.sth (15 : Fin 32))) := rfl
theorem word261 : k0_pay261 (F := Ideal) (B.sth (16 : Fin 32)) B.do' = (chunkNN (chunk B.do' (16 : Fin 32)) (B.sth (16 : Fin 32))) := rfl
theorem word262 : k0_pay262 (F := Ideal) B.do' = (chunk B.do' (17 : Fin 32)) := rfl
theorem word263 : k0_pay263 (F := Ideal) (B.sth (17 : Fin 32)) (B.sth (18 : Fin 32)) (B.sth (19 : Fin 32)) (B.sth (20 : Fin 32)) (B.sth (21 : Fin 32)) (B.sth (22 : Fin 32)) (B.sth (23 : Fin 32)) (B.sth (24 : Fin 32)) (B.sth (25 : Fin 32)) (B.sth (26 : Fin 32)) (B.sth (27 : Fin 32)) (B.sth (28 : Fin 32)) (B.sth (29 : Fin 32)) (B.sth (30 : Fin 32)) (B.sth (31 : Fin 32)) B.do' (chunkNN (chunk B.do' (0 : Fin 32)) (B.sth (0 : Fin 32))) (chunkNN (chunk B.do' (1 : Fin 32)) (B.sth (1 : Fin 32))) (chunkNN (chunk B.do' (2 : Fin 32)) (B.sth (2 : Fin 32))) (chunkNN (chunk B.do' (3 : Fin 32)) (B.sth (3 : Fin 32))) (chunkNN (chunk B.do' (4 : Fin 32)) (B.sth (4 : Fin 32))) (chunkNN (chunk B.do' (5 : Fin 32)) (B.sth (5 : Fin 32))) (chunkNN (chunk B.do' (6 : Fin 32)) (B.sth (6 : Fin 32))) (chunkNN (chunk B.do' (7 : Fin 32)) (B.sth (7 : Fin 32))) (chunkNN (chunk B.do' (8 : Fin 32)) (B.sth (8 : Fin 32))) (chunkNN (chunk B.do' (9 : Fin 32)) (B.sth (9 : Fin 32))) (chunkNN (chunk B.do' (10 : Fin 32)) (B.sth (10 : Fin 32))) (chunkNN (chunk B.do' (11 : Fin 32)) (B.sth (11 : Fin 32))) (chunkNN (chunk B.do' (12 : Fin 32)) (B.sth (12 : Fin 32))) (chunkNN (chunk B.do' (13 : Fin 32)) (B.sth (13 : Fin 32))) (chunkNN (chunk B.do' (14 : Fin 32)) (B.sth (14 : Fin 32))) (chunkNN (chunk B.do' (15 : Fin 32)) (B.sth (15 : Fin 32))) (chunkNN (chunk B.do' (16 : Fin 32)) (B.sth (16 : Fin 32))) (chunk B.do' (17 : Fin 32)) (constant S64x128 .f32 0x00000000#32) = B.dqdInter := rfl
theorem word264 : k0_pay264 (F := Ideal) B.qdh B.do' = (B.gk (0 : Fin 32)) := rfl
theorem word265 : k0_pay265 (F := Ideal) B.qdh B.do' = (B.gk (1 : Fin 32)) := rfl
theorem word266 : k0_pay266 (F := Ideal) B.qdh B.do' = (B.gk (2 : Fin 32)) := rfl
theorem word267 : k0_pay267 (F := Ideal) B.qdh B.do' = (B.gk (3 : Fin 32)) := rfl
theorem word268 : k0_pay268 (F := Ideal) B.qdh B.do' = (B.gk (4 : Fin 32)) := rfl
theorem word269 : k0_pay269 (F := Ideal) B.qdh B.do' = (B.gk (5 : Fin 32)) := rfl
theorem word270 : k0_pay270 (F := Ideal) B.qdh B.do' = (B.gk (6 : Fin 32)) := rfl

end Cert.Hgrn
-- ==== Proof.Words2.lean ====
/-
  The vector expressions of one grid point, one after the other: what each holds in the words of the block's stages
  (part 2 of 3).
-/
module

public import proofs.«01_k».proof.Proof.Body

@[expose] public section

set_option maxRecDepth 16384

noncomputable section

namespace Cert.Hgrn

open Idealize.ShloMosaic Cert.KernelIdeal Cert.KernelIdeal.Gen

variable (B : Blk)

theorem word271 : k0_pay271 (F := Ideal) B.qdh B.do' = (B.gk (7 : Fin 32)) := rfl
theorem word272 : k0_pay272 (F := Ideal) B.qdh B.do' = (B.gk (8 : Fin 32)) := rfl
theorem word273 : k0_pay273 (F := Ideal) B.qdh B.do' = (B.gk (9 : Fin 32)) := rfl
theorem word274 : k0_pay274 (F := Ideal) B.qdh B.do' = (B.gk (10 : Fin 32)) := rfl
theorem word275 : k0_pay275 (F := Ideal) B.qdh B.do' = (B.gk (11 : Fin 32)) := rfl
theorem word276 : k0_pay276 (F := Ideal) B.qdh B.do' = (B.gk (12 : Fin 32)) := rfl
theorem word277 : k0_pay277 (F := Ideal) B.qdh B.do' = (B.gk (13 : Fin 32)) := rfl
theorem word278 : k0_pay278 (F := Ideal) B.qdh B.do' = (B.gk (14 : Fin 32)) := rfl
theorem word279 : k0_pay279 (F := Ideal) B.qdh B.do' = (B.gk (15 : Fin 32)) := rfl
theorem word280 : k0_pay280 (F := Ideal) B.qdh B.do' = (B.gk (16 : Fin 32)) := rfl
theorem word281 : k0_pay281 (F := Ideal) B.qdh B.do' = (B.gk (17 : Fin 32)) := rfl
theorem word282 : k0_pay282 (F := Ideal) B.qdh B.do' = (B.gk (18 : Fin 32)) := rfl
theorem word283 : k0_pay283 (F := Ideal) B.qdh B.do' = (B.gk (19 : Fin 32)) := rfl
theorem word284 : k0_pay284 (F := Ideal) B.qdh B.do' = (B.gk (20 : Fin 32)) := rfl
theorem word285 : k0_pay285 (F := Ideal) B.qdh B.do' = (B.gk (21 : Fin 32)) := rfl
theorem word286 : k0_pay286 (F := Ideal) B.qdh B.do' = (B.gk (22 : Fin 32)) := rfl
theorem word287 : k0_pay287 (F := Ideal) B.qdh B.do' = (B.gk (23 : Fin 32)) := rfl
theorem word288 : k0_pay288 (F := Ideal) B.qdh B.do' = (B.gk (24 : Fin 32)) := rfl
theorem word289 : k0_pay289 (F := Ideal) B.qdh B.do' = (B.gk (25 : Fin 32)) := rfl
theorem word290 : k0_pay290 (F := Ideal) B.qdh B.do' = (B.gk (26 : Fin 32)) := rfl
theorem word291 : k0_pay291 (F := Ideal) B.qdh B.do' = (B.gk (27 : Fin 32)) := rfl
theorem word292 : k0_pay292 (F := Ideal) B.qdh B.do' = (B.gk (28 : Fin 32)) := rfl
theorem word293 : k0_pay293 (F := Ideal) B.qdh B.do' = (B.gk (29 : Fin 32)) := rfl
theorem word294 : k0_pay294 (F := Ideal) B.qdh B.do' = (B.gk (30 : Fin 32)) := rfl
theorem word295 : k0_pay295 (F := Ideal) B.qdh B.do' = (B.gk (31 : Fin 32)) := rfl
theorem word296 : k0_pay296 (F := Ideal) B.g0 = (B.g 0) := rfl
theorem word297 : k0_pay297 (F := Ideal) B.ebl B.g0 = (mulf (B.g 0) (broadcastTo S128x128 (firstRow B.ebl (31 : Fin 32)) broadcasts_S1x128_S128x128)) := rfl
theorem word298 : k0_pay298 (F := Ideal) (B.gk (31 : Fin 32)) (mulf (B.g 0) (broadcastTo S128x128 (firstRow B.ebl (31 : Fin 32)) broadcasts_S1x128_S128x128)) = (B.g 1) := rfl
theorem word299 : k0_pay299 (F := Ideal) B.ebl (B.gk (30 : Fin 32)) (B.gk (31 : Fin 32)) (mulf (B.g 0) (broadcastTo S128x128 (firstRow B.ebl (31 : Fin 32)) broadcasts_S1x128_S128x128)) = (B.g 2) := rfl
theorem word300 : k0_pay300 (F := Ideal) B.ebl (B.gk (29 : Fin 32)) (B.gk (30 : Fin 32)) (B.gk (31 : Fin 32)) (mulf (B.g 0) (broadcastTo S128x128 (firstRow B.ebl (31 : Fin 32)) broadcasts_S1x128_S128x128)) = (B.g 3) := rfl
theorem word301 : k0_pay301 (F := Ideal) B.ebl (B.gk (28 : Fin 32)) (B.gk (29 : Fin 32)) (B.gk (30 : Fin 32)) (B.gk (31 : Fin 32)) (mulf (B.g 0) (broadcastTo S128x128 (firstRow B.ebl (31 : Fin 32)) broadcasts_S1x128_S128x128)) = (B.g 4) := rfl
theorem word302 : k0_pay302 (F := Ideal) B.ebl (B.gk (27 : Fin 32)) (B.gk (28 : Fin 32)) (B.gk (29 : Fin 32)) (B.gk (30 : Fin 32)) (B.gk (31 : Fin 32)) (mulf (B.g 0) (broadcastTo S128x128 (firstRow B.ebl (31 : Fin 32)) broadcasts_S1x128_S128x128)) = (B.g 5) := rfl
theorem word303 : k0_pay303 (F := Ideal) B.ebl (B.gk (26 : Fin 32)) (B.gk (27 : Fin 32)) (B.gk (28 : Fin 32)) (B.gk (29 : Fin 32)) (B.gk (30 : Fin 32)) (B.gk (31 : Fin 32)) (mulf (B.g 0) (broadcastTo S128x128 (firstRow B.ebl (31 : Fin 32)) broadcasts_S1x128_S128x128)) = (B.g 6) := rfl
theorem word304 : k0_pay304 (F := Ideal) B.ebl (B.gk (25 : Fin 32)) (B.gk (26 : Fin 32)) (B.gk (27 : Fin 32)) (B.gk (28 : Fin 32)) (B.gk (29 : Fin 32)) (B.gk (30 : Fin 32)) (B.gk (31 : Fin 32)) (mulf (B.g 0) (broadcastTo S128x128 (firstRow B.ebl (31 : Fin 32)) broadcasts_S1x128_S128x128)) = (B.g 7) := rfl
theorem word305 : k0_pay305 (F := Ideal) B.ebl (B.gk (24 : Fin 32)) (B.gk (25 : Fin 32)) (B.gk (26 : Fin 32)) (B.gk (27 : Fin 32)) (B.gk (28 : Fin 32)) (B.gk (29 : Fin 32)) (B.gk (30 : Fin 32)) (B.gk (31 : Fin 32)) (mulf (B.g 0) (broadcastTo S128x128 (firstRow B.ebl (31 : Fin 32)) broadcasts_S1x128_S128x128)) = (B.g 8) := rfl
theorem word306 : k0_pay306 (F := Ideal) B.ebl (B.gk (23 : Fin 32)) (B.gk (24 : Fin 32)) (B.gk (25 : Fin 32)) (B.gk (26 : Fin 32)) (B.gk (27 : Fin 32)) (B.gk (28 : Fin 32)) (B.gk (29 : Fin 32)) (B.gk (30 : Fin 32)) (B.gk (31 : Fin 32)) (mulf (B.g 0) (broadcastTo S128x128 (firstRow B.ebl (31 : Fin 32)) broadcasts_S1x128_S128x128)) = (B.g 9) := rfl
theorem word307 : k0_pay307 (F := Ideal) B.ebl (B.gk (22 : Fin 32)) (B.gk (23 : Fin 32)) (B.gk (24 : Fin 32)) (B.gk (25 : Fin 32)) (B.gk (26 : Fin 32)) (B.gk (27 : Fin 32)) (B.gk (28 : Fin 32)) (B.gk (29 : Fin 32)) (B.gk (30 : Fin 32)) (B.gk (31 : Fin 32)) (mulf (B.g 0) (broadcastTo S128x128 (firstRow B.ebl (31 : Fin 32)) broadcasts_S1x128_S128x128)) = (B.g 10) := rfl
theorem word308 : k0_pay308 (F := Ideal) B.ebl (B.gk (21 : Fin 32)) (B.gk (22 : Fin 32)) (B.gk (23 : Fin 32)) (B.gk (24 : Fin 32)) (B.gk (25 : Fin 32)) (B.gk (26 : Fin 32)) (B.gk (27 : Fin 32)) (B.gk (28 : Fin 32)) (B.gk (29 : Fin 32)) (B.gk (30 : Fin 32)) (B.gk (31 : Fin 32)) (mulf (B.g 0) (broadcastTo S128x128 (firstRow B.ebl (31 : Fin 32)) broadcasts_S1x128_S128x128)) = (B.g 11) := rfl
theorem word309 : k0_pay309 (F := Ideal) B.ebl (B.gk (20 : Fin 32)) (B.gk (21 : Fin 32)) (B.gk (22 : Fin 32)) (B.gk (23 : Fin 32)) (B.gk (24 : Fin 32)) (B.gk (25 : Fin 32)) (B.gk (26 : Fin 32)) (B.gk (27 : Fin 32)) (B.gk (28 : Fin 32)) (B.gk (29 : Fin 32)) (B.gk (30 : Fin 32)) (B.gk (31 : Fin 32)) (mulf (B.g 0) (broadcastTo S128x128 (firstRow B.ebl (31 : Fin 32)) broadcasts_S1x128_S128x128)) = (B.g 12) := rfl
theorem word310 : k0_pay310 (F := Ideal) B.ebl (B.gk (19 : Fin 32)) (B.gk (20 : Fin 32)) (B.gk (21 : Fin 32)) (B.gk (22 : Fin 32)) (B.gk (23 : Fin 32)) (B.gk (24 : Fin 32)) (B.gk (25 : Fin 32)) (B.gk (26 : Fin 32)) (B.gk (27 : Fin 32)) (B.gk (28 : Fin 32)) (B.gk (29 : Fin 32)) (B.gk (30 : Fin 32)) (B.gk (31 : Fin 32)) (mulf (B.g 0) (broadcastTo S128x128 (firstRow B.ebl (31 : Fin 32)) broadcasts_S1x128_S128x128)) = (B.g 13) := rfl
theorem word311 : k0_pay311 (F := Ideal) B.ebl (B.gk (18 : Fin 32)) (B.gk (19 : Fin 32)) (B.gk (20 : Fin 32)) (B.gk (21 : Fin 32)) (B.gk (22 : Fin 32)) (B.gk (23 : Fin 32)) (B.gk (24 : Fin 32)) (B.gk (25 : Fin 32)) (B.gk (26 : Fin 32)) (B.gk (27 : Fin 32)) (B.gk (28 : Fin 32)) (B.gk (29 : Fin 32)) (B.gk (30 : Fin 32)) (B.gk (31 : Fin 32)) (mulf (B.g 0) (broadcastTo S128x128 (firstRow B.ebl (31 : Fin 32)) broadcasts_S1x128_S128x128)) = (B.g 14) := rfl
theorem word312 : k0_pay312 (F := Ideal) B.ebl (B.gk (17 : Fin 32)) (B.gk (18 : Fin 32)) (B.gk (19 : Fin 32)) (B.gk (20 : Fin 32)) (B.gk (21 : Fin 32)) (B.gk (22 : Fin 32)) (B.gk (23 : Fin 32)) (B.gk (24 : Fin 32)) (B.gk (25 : Fin 32)) (B.gk (26 : Fin 32)) (B.gk (27 : Fin 32)) (B.gk (28 : Fin 32)) (B.gk (29 : Fin 32)) (B.gk (30 : Fin 32)) (B.gk (31 : Fin 32)) (mulf (B.g 0) (broadcastTo S128x128 (firstRow B.ebl (31 : Fin 32)) broadcasts_S1x128_S128x128)) = (B.g 15) := rfl
theorem word313 : k0_pay313 (F := Ideal) B.ebl (B.gk (17 : Fin 32)) (B.gk (18 : Fin 32)) (B.gk (19 : Fin 32)) (B.gk (20 : Fin 32)) (B.gk (21 : Fin 32)) (B.gk (22 : Fin 32)) (B.gk (23 : Fin 32)) (B.gk (24 : Fin 32)) (B.gk (25 : Fin 32)) (B.gk (26 : Fin 32)) (B.gk (27 : Fin 32)) (B.gk (28 : Fin 32)) (B.gk (29 : Fin 32)) (B.gk (30 : Fin 32)) (B.gk (31 : Fin 32)) (mulf (B.g 0) (broadcastTo S128x128 (firstRow B.ebl (31 : Fin 32)) broadcasts_S1x128_S128x128)) = (mulf (B.g 15) (broadcastTo S128x128 (firstRow B.ebl (16 : Fin 32)) broadcasts_S1x128_S128x128)) := rfl
theorem word314 : k0_pay314 (F := Ideal) (B.gk (16 : Fin 32)) (mulf (B.g 15) (broadcastTo S128x128 (firstRow B.ebl (16 : Fin 32)) broadcasts_S1x128_S128x128)) = (B.g 16) := rfl
theorem word315 : k0_pay315 (F := Ideal) B.ebl (B.gk (15 : Fin 32)) (B.gk (16 : Fin 32)) (mulf (B.g 15) (broadcastTo S128x128 (firstRow B.ebl (16 : Fin 32)) broadcasts_S1x128_S128x128)) = (B.g 17) := rfl
theorem word316 : k0_pay316 (F := Ideal) B.ebl (B.gk (14 : Fin 32)) (B.gk (15 : Fin 32)) (B.gk (16 : Fin 32)) (mulf (B.g 15) (broadcastTo S128x128 (firstRow B.ebl (16 : Fin 32)) broadcasts_S1x128_S128x128)) = (B.g 18) := rfl
theorem word317 : k0_pay317 (F := Ideal) B.ebl (B.gk (13 : Fin 32)) (B.gk (14 : Fin 32)) (B.gk (15 : Fin 32)) (B.gk (16 : Fin 32)) (mulf (B.g 15) (broadcastTo S128x128 (firstRow B.ebl (16 : Fin 32)) broadcasts_S1x128_S128x128)) = (B.g 19) := rfl
theorem word318 : k0_pay318 (F := Ideal) B.ebl (B.gk (12 : Fin 32)) (B.gk (13 : Fin 32)) (B.gk (14 : Fin 32)) (B.gk (15 : Fin 32)) (B.gk (16 : Fin 32)) (mulf (B.g 15) (broadcastTo S128x128 (firstRow B.ebl (16 : Fin 32)) broadcasts_S1x128_S128x128)) = (B.g 20) := rfl
theorem word319 : k0_pay319 (F := Ideal) B.ebl (B.gk (11 : Fin 32)) (B.gk (12 : Fin 32)) (B.gk (13 : Fin 32)) (B.gk (14 : Fin 32)) (B.gk (15 : Fin 32)) (B.gk (16 : Fin 32)) (mulf (B.g 15) (broadcastTo S128x128 (firstRow B.ebl (16 : Fin 32)) broadcasts_S1x128_S128x128)) = (B.g 21) := rfl
theorem word320 : k0_pay320 (F := Ideal) B.ebl (B.gk (10 : Fin 32)) (B.gk (11 : Fin 32)) (B.gk (12 : Fin 32)) (B.gk (13 : Fin 32)) (B.gk (14 : Fin 32)) (B.gk (15 : Fin 32)) (B.gk (16 : Fin 32)) (mulf (B.g 15) (broadcastTo S128x128 (firstRow B.ebl (16 : Fin 32)) broadcasts_S1x128_S128x128)) = (B.g 22) := rfl
theorem word321 : k0_pay321 (F := Ideal) B.ebl (B.gk (9 : Fin 32)) (B.gk (10 : Fin 32)) (B.gk (11 : Fin 32)) (B.gk (12 : Fin 32)) (B.gk (13 : Fin 32)) (B.gk (14 : Fin 32)) (B.gk (15 : Fin 32)) (B.gk (16 : Fin 32)) (mulf (B.g 15) (broadcastTo S128x128 (firstRow B.ebl (16 : Fin 32)) broadcasts_S1x128_S128x128)) = (B.g 23) := rfl
theorem word322 : k0_pay322 (F := Ideal) B.ebl (B.gk (8 : Fin 32)) (B.gk (9 : Fin 32)) (B.gk (10 : Fin 32)) (B.gk (11 : Fin 32)) (B.gk (12 : Fin 32)) (B.gk (13 : Fin 32)) (B.gk (14 : Fin 32)) (B.gk (15 : Fin 32)) (B.gk (16 : Fin 32)) (mulf (B.g 15) (broadcastTo S128x128 (firstRow B.ebl (16 : Fin 32)) broadcasts_S1x128_S128x128)) = (B.g 24) := rfl
theorem word323 : k0_pay323 (F := Ideal) B.ebl (B.gk (7 : Fin 32)) (B.gk (8 : Fin 32)) (B.gk (9 : Fin 32)) (B.gk (10 : Fin 32)) (B.gk (11 : Fin 32)) (B.gk (12 : Fin 32)) (B.gk (13 : Fin 32)) (B.gk (14 : Fin 32)) (B.gk (15 : Fin 32)) (B.gk (16 : Fin 32)) (mulf (B.g 15) (broadcastTo S128x128 (firstRow B.ebl (16 : Fin 32)) broadcasts_S1x128_S128x128)) = (B.g 25) := rfl
theorem word324 : k0_pay324 (F := Ideal) B.ebl (B.gk (6 : Fin 32)) (B.gk (7 : Fin 32)) (B.gk (8 : Fin 32)) (B.gk (9 : Fin 32)) (B.gk (10 : Fin 32)) (B.gk (11 : Fin 32)) (B.gk (12 : Fin 32)) (B.gk (13 : Fin 32)) (B.gk (14 : Fin 32)) (B.gk (15 : Fin 32)) (B.gk (16 : Fin 32)) (mulf (B.g 15) (broadcastTo S128x128 (firstRow B.ebl (16 : Fin 32)) broadcasts_S1x128_S128x128)) = (B.g 26) := rfl
theorem word325 : k0_pay325 (F := Ideal) B.ebl (B.gk (5 : Fin 32)) (B.gk (6 : Fin 32)) (B.gk (7 : Fin 32)) (B.gk (8 : Fin 32)) (B.gk (9 : Fin 32)) (B.gk (10 : Fin 32)) (B.gk (11 : Fin 32)) (B.gk (12 : Fin 32)) (B.gk (13 : Fin 32)) (B.gk (14 : Fin 32)) (B.gk (15 : Fin 32)) (B.gk (16 : Fin 32)) (mulf (B.g 15) (broadcastTo S128x128 (firstRow B.ebl (16 : Fin 32)) broadcasts_S1x128_S128x128)) = (B.g 27) := rfl
theorem word326 : k0_pay326 (F := Ideal) B.ebl (B.gk (4 : Fin 32)) (B.gk (5 : Fin 32)) (B.gk (6 : Fin 32)) (B.gk (7 : Fin 32)) (B.gk (8 : Fin 32)) (B.gk (9 : Fin 32)) (B.gk (10 : Fin 32)) (B.gk (11 : Fin 32)) (B.gk (12 : Fin 32)) (B.gk (13 : Fin 32)) (B.gk (14 : Fin 32)) (B.gk (15 : Fin 32)) (B.gk (16 : Fin 32)) (mulf (B.g 15) (broadcastTo S128x128 (firstRow B.ebl (16 : Fin 32)) broadcasts_S1x128_S128x128)) = (B.g 28) := rfl
theorem word327 : k0_pay327 (F := Ideal) B.ebl (B.gk (3 : Fin 32)) (B.gk (4 : Fin 32)) (B.gk (5 : Fin 32)) (B.gk (6 : Fin 32)) (B.gk (7 : Fin 32)) (B.gk (8 : Fin 32)) (B.gk (9 : Fin 32)) (B.gk (10 : Fin 32)) (B.gk (11 : Fin 32)) (B.gk (12 : Fin 32)) (B.gk (13 : Fin 32)) (B.gk (14 : Fin 32)) (B.gk (15 : Fin 32)) (B.gk (16 : Fin 32)) (mulf (B.g 15) (broadcastTo S128x128 (firstRow B.ebl (16 : Fin 32)) broadcasts_S1x128_S128x128)) = (B.g 29) := rfl
theorem word328 : k0_pay328 (F := Ideal) B.ebl (B.gk (2 : Fin 32)) (B.gk (3 : Fin 32)) (B.gk (4 : Fin 32)) (B.gk (5 : Fin 32)) (B.gk (6 : Fin 32)) (B.gk (7 : Fin 32)) (B.gk (8 : Fin 32)) (B.gk (9 : Fin 32)) (B.gk (10 : Fin 32)) (B.gk (11 : Fin 32)) (B.gk (12 : Fin 32)) (B.gk (13 : Fin 32)) (B.gk (14 : Fin 32)) (B.gk (15 : Fin 32)) (B.gk (16 : Fin 32)) (mulf (B.g 15) (broadcastTo S128x128 (firstRow B.ebl (16 : Fin 32)) broadcasts_S1x128_S128x128)) = (B.g 30) := rfl
theorem word329 : k0_pay329 (F := Ideal) B.ebl (B.gk (2 : Fin 32)) (B.gk (3 : Fin 32)) (B.gk (4 : Fin 32)) (B.gk (5 : Fin 32)) (B.gk (6 : Fin 32)) (B.gk (7 : Fin 32)) (B.gk (8 : Fin 32)) (B.gk (9 : Fin 32)) (B.gk (10 : Fin 32)) (B.gk (11 : Fin 32)) (B.gk (12 : Fin 32)) (B.gk (13 : Fin 32)) (B.gk (14 : Fin 32)) (B.gk (15 : Fin 32)) (B.gk (16 : Fin 32)) (mulf (B.g 15) (broadcastTo S128x128 (firstRow B.ebl (16 : Fin 32)) broadcasts_S1x128_S128x128)) = (mulf (B.g 30) (broadcastTo S128x128 (firstRow B.ebl (1 : Fin 32)) broadcasts_S1x128_S128x128)) := rfl
theorem word330 : k0_pay330 (F := Ideal) (B.gk (1 : Fin 32)) (mulf (B.g 30) (broadcastTo S128x128 (firstRow B.ebl (1 : Fin 32)) broadcasts_S1x128_S128x128)) = (B.g 31) := rfl
theorem word331 : k0_pay331 (F := Ideal) B.ebl (B.gk (0 : Fin 32)) (B.gk (1 : Fin 32)) (mulf (B.g 30) (broadcastTo S128x128 (firstRow B.ebl (1 : Fin 32)) broadcasts_S1x128_S128x128)) = B.gOut := rfl
theorem word332 : k0_pay332 (F := Ideal) (B.gk (1 : Fin 32)) (mulf (B.g 30) (broadcastTo S128x128 (firstRow B.ebl (1 : Fin 32)) broadcasts_S1x128_S128x128)) = (B.gsh (0 : Fin 32)) := rfl
theorem word333 : k0_pay333 (F := Ideal) (B.g 30) = (B.gsh (1 : Fin 32)) := rfl
theorem word334 : k0_pay334 (F := Ideal) (B.g 29) = (B.gsh (2 : Fin 32)) := rfl
theorem word335 : k0_pay335 (F := Ideal) (B.g 28) = (B.gsh (3 : Fin 32)) := rfl
theorem word336 : k0_pay336 (F := Ideal) (B.g 27) = (B.gsh (4 : Fin 32)) := rfl
theorem word337 : k0_pay337 (F := Ideal) (B.g 26) = (B.gsh (5 : Fin 32)) := rfl
theorem word338 : k0_pay338 (F := Ideal) (B.g 25) = (B.gsh (6 : Fin 32)) := rfl
theorem word339 : k0_pay339 (F := Ideal) (B.g 24) = (B.gsh (7 : Fin 32)) := rfl
theorem word340 : k0_pay340 (F := Ideal) (B.g 23) = (B.gsh (8 : Fin 32)) := rfl
theorem word341 : k0_pay341 (F := Ideal) (B.g 22) = (B.gsh (9 : Fin 32)) := rfl
theorem word342 : k0_pay342 (F := Ideal) (B.g 21) = (B.gsh (10 : Fin 32)) := rfl
theorem word343 : k0_pay343 (F := Ideal) (B.g 20) = (B.gsh (11 : Fin 32)) := rfl
theorem word344 : k0_pay344 (F := Ideal) (B.g 19) = (B.gsh (12 : Fin 32)) := rfl
theorem word345 : k0_pay345 (F := Ideal) (B.g 18) = (B.gsh (13 : Fin 32)) := rfl
theorem word346 : k0_pay346 (F := Ideal) (B.g 17) = (B.gsh (14 : Fin 32)) := rfl
theorem word347 : k0_pay347 (F := Ideal) (B.g 16) = (B.gsh (15 : Fin 32)) := rfl
theorem word348 : k0_pay348 (F := Ideal) (B.g 15) = (B.gsh (16 : Fin 32)) := rfl
theorem word349 : k0_pay349 (F := Ideal) (B.g 14) = (B.gsh (17 : Fin 32)) := rfl
theorem word350 : k0_pay350 (F := Ideal) (B.g 13) = (B.gsh (18 : Fin 32)) := rfl
theorem word351 : k0_pay351 (F := Ideal) (B.g 12) = (B.gsh (19 : Fin 32)) := rfl
theorem word352 : k0_pay352 (F := Ideal) (B.g 11) = (B.gsh (20 : Fin 32)) := rfl
theorem word353 : k0_pay353 (F := Ideal) (B.g 10) = (B.gsh (21 : Fin 32)) := rfl
theorem word354 : k0_pay354 (F := Ideal) (B.g 9) = (B.gsh (22 : Fin 32)) := rfl
theorem word355 : k0_pay355 (F := Ideal) (B.g 8) = (B.gsh (23 : Fin 32)) := rfl
theorem word356 : k0_pay356 (F := Ideal) (B.g 7) = (B.gsh (24 : Fin 32)) := rfl
theorem word357 : k0_pay357 (F := Ideal) (B.g 6) = (B.gsh (25 : Fin 32)) := rfl
theorem word358 : k0_pay358 (F := Ideal) (B.g 5) = (B.gsh (26 : Fin 32)) := rfl
theorem word359 : k0_pay359 (F := Ideal) (B.g 4) = (B.gsh (27 : Fin 32)) := rfl
theorem word360 : k0_pay360 (F := Ideal) (B.g 3) = (B.gsh (28 : Fin 32)) := rfl
theorem word361 : k0_pay361 (F := Ideal) (B.g 2) = (B.gsh (29 : Fin 32)) := rfl
theorem word362 : k0_pay362 (F := Ideal) (B.g 1) = (B.gsh (30 : Fin 32)) := rfl
theorem word363 : k0_pay363 (F := Ideal) (B.g 0) = (B.gsh (31 : Fin 32)) := rfl
theorem word364 : k0_pay364 (F := Ideal) B.keh (B.gk (1 : Fin 32)) (mulf (B.g 30) (broadcastTo S128x128 (firstRow B.ebl (1 : Fin 32)) broadcasts_S1x128_S128x128)) = (chunkNT (chunk B.keh (0 : Fin 32)) (B.gsh (0 : Fin 32))) := rfl
theorem word365 : k0_pay365 (F := Ideal) B.keh (B.g 30) = (chunkNT (chunk B.keh (1 : Fin 32)) (B.gsh (1 : Fin 32))) := rfl
theorem word366 : k0_pay366 (F := Ideal) B.keh (B.g 29) = (chunkNT (chunk B.keh (2 : Fin 32)) (B.gsh (2 : Fin 32))) := rfl
theorem word367 : k0_pay367 (F := Ideal) B.keh (B.g 28) = (chunkNT (chunk B.keh (3 : Fin 32)) (B.gsh (3 : Fin 32))) := rfl
theorem word368 : k0_pay368 (F := Ideal) B.keh (B.g 27) = (chunkNT (chunk B.keh (4 : Fin 32)) (B.gsh (4 : Fin 32))) := rfl
theorem word369 : k0_pay369 (F := Ideal) B.keh = (chunk B.keh (5 : Fin 32)) := rfl
theorem word370 : k0_pay370 (F := Ideal) (B.gsh (5 : Fin 32)) (chunk B.keh (5 : Fin 32)) = (chunkNT (chunk B.keh (5 : Fin 32)) (B.gsh (5 : Fin 32))) := rfl
theorem word371 : k0_pay371 (F := Ideal) B.keh (B.gsh (6 : Fin 32)) = (chunkNT (chunk B.keh (6 : Fin 32)) (B.gsh (6 : Fin 32))) := rfl
theorem word372 : k0_pay372 (F := Ideal) B.keh (B.gsh (7 : Fin 32)) = (chunkNT (chunk B.keh (7 : Fin 32)) (B.gsh (7 : Fin 32))) := rfl
theorem word373 : k0_pay373 (F := Ideal) B.keh (B.gsh (8 : Fin 32)) = (chunkNT (chunk B.keh (8 : Fin 32)) (B.gsh (8 : Fin 32))) := rfl
theorem word374 : k0_pay374 (F := Ideal) B.keh (B.gsh (9 : Fin 32)) = (chunkNT (chunk B.keh (9 : Fin 32)) (B.gsh (9 : Fin 32))) := rfl
theorem word375 : k0_pay375 (F := Ideal) B.keh (B.gsh (10 : Fin 32)) = (chunkNT (chunk B.keh (10 : Fin 32)) (B.gsh (10 : Fin 32))) := rfl
theorem word376 : k0_pay376 (F := Ideal) B.keh (B.gsh (11 : Fin 32)) = (chunkNT (chunk B.keh (11 : Fin 32)) (B.gsh (11 : Fin 32))) := rfl
theorem word377 : k0_pay377 (F := Ideal) B.keh (B.gsh (12 : Fin 32)) = (chunkNT (chunk B.keh (12 : Fin 32)) (B.gsh (12 : Fin 32))) := rfl
theorem word378 : k0_pay378 (F := Ideal) B.keh (B.gsh (13 : Fin 32)) = (chunkNT (chunk B.keh (13 : Fin 32)) (B.gsh (13 : Fin 32))) := rfl
theorem word379 : k0_pay379 (F := Ideal) B.keh (B.gsh (14 : Fin 32)) = (chunkNT (chunk B.keh (14 : Fin 32)) (B.gsh (14 : Fin 32))) := rfl
theorem word380 : k0_pay380 (F := Ideal) B.keh (B.gsh (15 : Fin 32)) = (chunkNT (chunk B.keh (15 : Fin 32)) (B.gsh (15 : Fin 32))) := rfl
theorem word381 : k0_pay381 (F := Ideal) B.keh (B.gsh (16 : Fin 32)) = (chunkNT (chunk B.keh (16 : Fin 32)) (B.gsh (16 : Fin 32))) := rfl
theorem word382 : k0_pay382 (F := Ideal) B.keh (B.gsh (17 : Fin 32)) = (chunkNT (chunk B.keh (17 : Fin 32)) (B.gsh (17 : Fin 32))) := rfl
theorem word383 : k0_pay383 (F := Ideal) B.keh (B.gsh (18 : Fin 32)) = (chunkNT (chunk B.keh (18 : Fin 32)) (B.gsh (18 : Fin 32))) := rfl
theorem word384 : k0_pay384 (F := Ideal) B.keh (B.gsh (19 : Fin 32)) = (chunkNT (chunk B.keh (19 : Fin 32)) (B.gsh (19 : Fin 32))) := rfl
theorem word385 : k0_pay385 (F := Ideal) B.keh (B.gsh (20 : Fin 32)) = (chunkNT (chunk B.keh (20 : Fin 32)) (B.gsh (20 : Fin 32))) := rfl
theorem word386 : k0_pay386 (F := Ideal) B.keh (B.gsh (21 : Fin 32)) = (chunkNT (chunk B.keh (21 : Fin 32)) (B.gsh (21 : Fin 32))) := rfl
theorem word387 : k0_pay387 (F := Ideal) B.keh (B.gsh (22 : Fin 32)) = (chunkNT (chunk B.keh (22 : Fin 32)) (B.gsh (22 : Fin 32))) := rfl
theorem word388 : k0_pay388 (F := Ideal) B.keh (B.gsh (23 : Fin 32)) = (chunkNT (chunk B.keh (23 : Fin 32)) (B.gsh (23 : Fin 32))) := rfl
theorem word389 : k0_pay389 (F := Ideal) B.keh (B.gsh (24 : Fin 32)) = (chunkNT (chunk B.keh (24 : Fin 32)) (B.gsh (24 : Fin 32))) := rfl
theorem word390 : k0_pay390 (F := Ideal) B.keh = (chunk B.keh (25 : Fin 32)) := rfl
theorem word391 : k0_pay391 (F := Ideal) B.keh B.dvIntra (B.gsh (25 : Fin 32)) (B.gsh (26 : Fin 32)) (B.gsh (27 : Fin 32)) (B.gsh (28 : Fin 32)) (B.gsh (29 : Fin 32)) (B.gsh (30 : Fin 32)) (B.gsh (31 : Fin 32)) (chunkNT (chunk B.keh (0 : Fin 32)) (B.gsh (0 : Fin 32))) (chunkNT (chunk B.keh (1 : Fin 32)) (B.gsh (1 : Fin 32))) (chunkNT (chunk B.keh (2 : Fin 32)) (B.gsh (2 : Fin 32))) (chunkNT (chunk B.keh (3 : Fin 32)) (B.gsh (3 : Fin 32))) (chunkNT (chunk B.keh (4 : Fin 32)) (B.gsh (4 : Fin 32))) (chunkNT (chunk B.keh (5 : Fin 32)) (B.gsh (5 : Fin 32))) (chunkNT (chunk B.keh (6 : Fin 32)) (B.gsh (6 : Fin 32))) (chunkNT (chunk B.keh (7 : Fin 32)) (B.gsh (7 : Fin 32))) (chunkNT (chunk B.keh (8 : Fin 32)) (B.gsh (8 : Fin 32))) (chunkNT (chunk B.keh (9 : Fin 32)) (B.gsh (9 : Fin 32))) (chunkNT (chunk B.keh (10 : Fin 32)) (B.gsh (10 : Fin 32))) (chunkNT (chunk B.keh (11 : Fin 32)) (B.gsh (11 : Fin 32))) (chunkNT (chunk B.keh (12 : Fin 32)) (B.gsh (12 : Fin 32))) (chunkNT (chunk B.keh (13 : Fin 32)) (B.gsh (13 : Fin 32))) (chunkNT (chunk B.keh (14 : Fin 32)) (B.gsh (14 : Fin 32))) (chunkNT (chunk B.keh (15 : Fin 32)) (B.gsh (15 : Fin 32))) (chunkNT (chunk B.keh (16 : Fin 32)) (B.gsh (16 : Fin 32))) (chunkNT (chunk B.keh (17 : Fin 32)) (B.gsh (17 : Fin 32))) (chunkNT (chunk B.keh (18 : Fin 32)) (B.gsh (18 : Fin 32))) (chunkNT (chunk B.keh (19 : Fin 32)) (B.gsh (19 : Fin 32))) (chunkNT (chunk B.keh (20 : Fin 32)) (B.gsh (20 : Fin 32))) (chunkNT (chunk B.keh (21 : Fin 32)) (B.gsh (21 : Fin 32))) (chunkNT (chunk B.keh (22 : Fin 32)) (B.gsh (22 : Fin 32))) (chunkNT (chunk B.keh (23 : Fin 32)) (B.gsh (23 : Fin 32))) (chunkNT (chunk B.keh (24 : Fin 32)) (B.gsh (24 : Fin 32))) (chunk B.keh (25 : Fin 32)) = (lift B.dvh) := rfl
theorem word392 : k0_pay392 (F := Ideal) B.v (B.gsh (0 : Fin 32)) = (chunkNN (chunk B.v (0 : Fin 32)) (B.gsh (0 : Fin 32))) := rfl
theorem word393 : k0_pay393 (F := Ideal) B.v (B.gsh (1 : Fin 32)) = (chunkNN (chunk B.v (1 : Fin 32)) (B.gsh (1 : Fin 32))) := rfl
theorem word394 : k0_pay394 (F := Ideal) B.v (B.gsh (2 : Fin 32)) = (chunkNN (chunk B.v (2 : Fin 32)) (B.gsh (2 : Fin 32))) := rfl
theorem word395 : k0_pay395 (F := Ideal) B.v (B.gsh (3 : Fin 32)) = (chunkNN (chunk B.v (3 : Fin 32)) (B.gsh (3 : Fin 32))) := rfl
theorem word396 : k0_pay396 (F := Ideal) B.v (B.gsh (4 : Fin 32)) = (chunkNN (chunk B.v (4 : Fin 32)) (B.gsh (4 : Fin 32))) := rfl
theorem word397 : k0_pay397 (F := Ideal) B.v (B.gsh (5 : Fin 32)) = (chunkNN (chunk B.v (5 : Fin 32)) (B.gsh (5 : Fin 32))) := rfl
theorem word398 : k0_pay398 (F := Ideal) B.v (B.gsh (6 : Fin 32)) = (chunkNN (chunk B.v (6 : Fin 32)) (B.gsh (6 : Fin 32))) := rfl
theorem word399 : k0_pay399 (F := Ideal) B.v (B.gsh (7 : Fin 32)) = (chunkNN (chunk B.v (7 : Fin 32)) (B.gsh (7 : Fin 32))) := rfl
theorem word400 : k0_pay400 (F := Ideal) B.v (B.gsh (8 : Fin 32)) = (chunkNN (chunk B.v (8 : Fin 32)) (B.gsh (8 : Fin 32))) := rfl
theorem word401 : k0_pay401 (F := Ideal) B.v (B.gsh (9 : Fin 32)) = (chunkNN (chunk B.v (9 : Fin 32)) (B.gsh (9 : Fin 32))) := rfl
theorem word402 : k0_pay402 (F := Ideal) B.v (B.gsh (10 : Fin 32)) = (chunkNN (chunk B.v (10 : Fin 32)) (B.gsh (10 : Fin 32))) := rfl
theorem word403 : k0_pay403 (F := Ideal) B.v (B.gsh (11 : Fin 32)) = (chunkNN (chunk B.v (11 : Fin 32)) (B.gsh (11 : Fin 32))) := rfl
theorem word404 : k0_pay404 (F := Ideal) B.v (B.gsh (12 : Fin 32)) = (chunkNN (chunk B.v (12 : Fin 32)) (B.gsh (12 : Fin 32))) := rfl
theorem word405 : k0_pay405 (F := Ideal) B.v (B.gsh (13 : Fin 32)) = (chunkNN (chunk B.v (13 : Fin 32)) (B.gsh (13 : Fin 32))) := rfl
theorem word406 : k0_pay406 (F := Ideal) B.v (B.gsh (14 : Fin 32)) = (chunkNN (chunk B.v (14 : Fin 32)) (B.gsh (14 : Fin 32))) := rfl
theorem word407 : k0_pay407 (F := Ideal) B.v (B.gsh (15 : Fin 32)) = (chunkNN (chunk B.v (15 : Fin 32)) (B.gsh (15 : Fin 32))) := rfl
theorem word408 : k0_pay408 (F := Ideal) B.v (B.gsh (16 : Fin 32)) = (chunkNN (chunk B.v (16 : Fin 32)) (B.gsh (16 : Fin 32))) := rfl
theorem word409 : k0_pay409 (F := Ideal) B.v (B.gsh (17 : Fin 32)) = (chunkNN (chunk B.v (17 : Fin 32)) (B.gsh (17 : Fin 32))) := rfl
theorem word410 : k0_pay410 (F := Ideal) B.v (B.gsh (18 : Fin 32)) = (chunkNN (chunk B.v (18 : Fin 32)) (B.gsh (18 : Fin 32))) := rfl

end Cert.Hgrn
-- ==== Proof.Words3.lean ====
/-
  The vector expressions of one grid point, one after the other: what each holds in the words of the block's stages
  (part 3 of 3).
-/
module

public import proofs.«01_k».proof.Proof.Body

@[expose] public section

set_option maxRecDepth 16384

noncomputable section

namespace Cert.Hgrn

open Idealize.ShloMosaic Cert.KernelIdeal Cert.KernelIdeal.Gen

variable (B : Blk)

theorem word411 : k0_pay411 (F := Ideal) B.v (B.gsh (19 : Fin 32)) = (chunkNN (chunk B.v (19 : Fin 32)) (B.gsh (19 : Fin 32))) := rfl
theorem word412 : k0_pay412 (F := Ideal) B.v (B.gsh (20 : Fin 32)) = (chunkNN (chunk B.v (20 : Fin 32)) (B.gsh (20 : Fin 32))) := rfl
theorem word413 : k0_pay413 (F := Ideal) B.v (B.gsh (21 : Fin 32)) = (chunkNN (chunk B.v (21 : Fin 32)) (B.gsh (21 : Fin 32))) := rfl
theorem word414 : k0_pay414 (F := Ideal) B.v (B.gsh (22 : Fin 32)) = (chunkNN (chunk B.v (22 : Fin 32)) (B.gsh (22 : Fin 32))) := rfl
theorem word415 : k0_pay415 (F := Ideal) B.v (B.gsh (23 : Fin 32)) = (chunkNN (chunk B.v (23 : Fin 32)) (B.gsh (23 : Fin 32))) := rfl
theorem word416 : k0_pay416 (F := Ideal) B.v (B.gsh (24 : Fin 32)) = (chunkNN (chunk B.v (24 : Fin 32)) (B.gsh (24 : Fin 32))) := rfl
theorem word417 : k0_pay417 (F := Ideal) B.v (B.gsh (25 : Fin 32)) = (chunkNN (chunk B.v (25 : Fin 32)) (B.gsh (25 : Fin 32))) := rfl
theorem word418 : k0_pay418 (F := Ideal) B.v (B.gsh (26 : Fin 32)) = (chunkNN (chunk B.v (26 : Fin 32)) (B.gsh (26 : Fin 32))) := rfl
theorem word419 : k0_pay419 (F := Ideal) B.v (B.gsh (27 : Fin 32)) = (chunkNN (chunk B.v (27 : Fin 32)) (B.gsh (27 : Fin 32))) := rfl
theorem word420 : k0_pay420 (F := Ideal) B.v (B.gsh (28 : Fin 32)) = (chunkNN (chunk B.v (28 : Fin 32)) (B.gsh (28 : Fin 32))) := rfl
theorem word421 : k0_pay421 (F := Ideal) B.v (B.gsh (29 : Fin 32)) = (chunkNN (chunk B.v (29 : Fin 32)) (B.gsh (29 : Fin 32))) := rfl
theorem word422 : k0_pay422 (F := Ideal) B.v (B.gsh (30 : Fin 32)) (B.gsh (31 : Fin 32)) (chunkNN (chunk B.v (0 : Fin 32)) (B.gsh (0 : Fin 32))) (chunkNN (chunk B.v (1 : Fin 32)) (B.gsh (1 : Fin 32))) (chunkNN (chunk B.v (2 : Fin 32)) (B.gsh (2 : Fin 32))) (chunkNN (chunk B.v (3 : Fin 32)) (B.gsh (3 : Fin 32))) (chunkNN (chunk B.v (4 : Fin 32)) (B.gsh (4 : Fin 32))) (chunkNN (chunk B.v (5 : Fin 32)) (B.gsh (5 : Fin 32))) (chunkNN (chunk B.v (6 : Fin 32)) (B.gsh (6 : Fin 32))) (chunkNN (chunk B.v (7 : Fin 32)) (B.gsh (7 : Fin 32))) (chunkNN (chunk B.v (8 : Fin 32)) (B.gsh (8 : Fin 32))) (chunkNN (chunk B.v (9 : Fin 32)) (B.gsh (9 : Fin 32))) (chunkNN (chunk B.v (10 : Fin 32)) (B.gsh (10 : Fin 32))) (chunkNN (chunk B.v (11 : Fin 32)) (B.gsh (11 : Fin 32))) (chunkNN (chunk B.v (12 : Fin 32)) (B.gsh (12 : Fin 32))) (chunkNN (chunk B.v (13 : Fin 32)) (B.gsh (13 : Fin 32))) (chunkNN (chunk B.v (14 : Fin 32)) (B.gsh (14 : Fin 32))) (chunkNN (chunk B.v (15 : Fin 32)) (B.gsh (15 : Fin 32))) (chunkNN (chunk B.v (16 : Fin 32)) (B.gsh (16 : Fin 32))) (chunkNN (chunk B.v (17 : Fin 32)) (B.gsh (17 : Fin 32))) (chunkNN (chunk B.v (18 : Fin 32)) (B.gsh (18 : Fin 32))) (chunkNN (chunk B.v (19 : Fin 32)) (B.gsh (19 : Fin 32))) (chunkNN (chunk B.v (20 : Fin 32)) (B.gsh (20 : Fin 32))) (chunkNN (chunk B.v (21 : Fin 32)) (B.gsh (21 : Fin 32))) (chunkNN (chunk B.v (22 : Fin 32)) (B.gsh (22 : Fin 32))) (chunkNN (chunk B.v (23 : Fin 32)) (B.gsh (23 : Fin 32))) (chunkNN (chunk B.v (24 : Fin 32)) (B.gsh (24 : Fin 32))) (chunkNN (chunk B.v (25 : Fin 32)) (B.gsh (25 : Fin 32))) (chunkNN (chunk B.v (26 : Fin 32)) (B.gsh (26 : Fin 32))) (chunkNN (chunk B.v (27 : Fin 32)) (B.gsh (27 : Fin 32))) (chunkNN (chunk B.v (28 : Fin 32)) (B.gsh (28 : Fin 32))) (chunkNN (chunk B.v (29 : Fin 32)) (B.gsh (29 : Fin 32))) = B.dke := rfl
theorem word423 : k0_pay423 (F := Ideal) (B.sts (0 : Fin 32)) (B.g 31) = (B.stateSum (0 : Fin 32)) := rfl
theorem word424 : k0_pay424 (F := Ideal) (B.sts (1 : Fin 32)) (B.g 30) = (B.stateSum (1 : Fin 32)) := rfl
theorem word425 : k0_pay425 (F := Ideal) (B.sts (2 : Fin 32)) (B.g 29) = (B.stateSum (2 : Fin 32)) := rfl
theorem word426 : k0_pay426 (F := Ideal) (B.sts (3 : Fin 32)) (B.g 28) = (B.stateSum (3 : Fin 32)) := rfl
theorem word427 : k0_pay427 (F := Ideal) (B.sts (4 : Fin 32)) (B.g 27) = (B.stateSum (4 : Fin 32)) := rfl
theorem word428 : k0_pay428 (F := Ideal) (B.sts (5 : Fin 32)) (B.g 26) = (B.stateSum (5 : Fin 32)) := rfl
theorem word429 : k0_pay429 (F := Ideal) (B.sts (6 : Fin 32)) (B.g 25) = (B.stateSum (6 : Fin 32)) := rfl
theorem word430 : k0_pay430 (F := Ideal) (B.sts (7 : Fin 32)) (B.g 24) = (B.stateSum (7 : Fin 32)) := rfl
theorem word431 : k0_pay431 (F := Ideal) (B.sts (8 : Fin 32)) (B.g 23) = (B.stateRow (8 : Fin 32)) := rfl
theorem word432 : k0_pay432 (F := Ideal) (B.stateRow (8 : Fin 32)) = (B.stateSum (8 : Fin 32)) := rfl
theorem word433 : k0_pay433 (F := Ideal) (B.sts (9 : Fin 32)) (B.g 22) = (B.stateSum (9 : Fin 32)) := rfl
theorem word434 : k0_pay434 (F := Ideal) (B.sts (10 : Fin 32)) (B.g 21) = (B.stateSum (10 : Fin 32)) := rfl
theorem word435 : k0_pay435 (F := Ideal) (B.sts (11 : Fin 32)) (B.g 20) = (B.stateSum (11 : Fin 32)) := rfl
theorem word436 : k0_pay436 (F := Ideal) (B.sts (12 : Fin 32)) (B.g 19) = (B.stateSum (12 : Fin 32)) := rfl
theorem word437 : k0_pay437 (F := Ideal) (B.sts (13 : Fin 32)) (B.g 18) = (B.stateSum (13 : Fin 32)) := rfl
theorem word438 : k0_pay438 (F := Ideal) (B.sts (14 : Fin 32)) (B.g 17) = (B.stateSum (14 : Fin 32)) := rfl
theorem word439 : k0_pay439 (F := Ideal) (B.sts (15 : Fin 32)) (B.g 16) = (B.stateSum (15 : Fin 32)) := rfl
theorem word440 : k0_pay440 (F := Ideal) (B.sts (16 : Fin 32)) (B.g 15) = (B.stateSum (16 : Fin 32)) := rfl
theorem word441 : k0_pay441 (F := Ideal) (B.sts (17 : Fin 32)) (B.g 14) = (B.stateSum (17 : Fin 32)) := rfl
theorem word442 : k0_pay442 (F := Ideal) (B.sts (18 : Fin 32)) (B.g 13) = (B.stateRow (18 : Fin 32)) := rfl
theorem word443 : k0_pay443 (F := Ideal) (B.stateRow (18 : Fin 32)) = (B.stateSum (18 : Fin 32)) := rfl
theorem word444 : k0_pay444 (F := Ideal) (B.sts (19 : Fin 32)) (B.g 12) = (B.stateSum (19 : Fin 32)) := rfl
theorem word445 : k0_pay445 (F := Ideal) (B.sts (20 : Fin 32)) (B.g 11) = (B.stateSum (20 : Fin 32)) := rfl
theorem word446 : k0_pay446 (F := Ideal) (B.sts (21 : Fin 32)) (B.g 10) = (B.stateSum (21 : Fin 32)) := rfl
theorem word447 : k0_pay447 (F := Ideal) (B.sts (22 : Fin 32)) (B.g 9) = (B.stateSum (22 : Fin 32)) := rfl
theorem word448 : k0_pay448 (F := Ideal) (B.sts (23 : Fin 32)) (B.g 8) = (B.stateSum (23 : Fin 32)) := rfl
theorem word449 : k0_pay449 (F := Ideal) (B.sts (24 : Fin 32)) (B.g 7) = (B.stateSum (24 : Fin 32)) := rfl
theorem word450 : k0_pay450 (F := Ideal) (B.sts (25 : Fin 32)) (B.g 6) = (B.stateSum (25 : Fin 32)) := rfl
theorem word451 : k0_pay451 (F := Ideal) (B.sts (26 : Fin 32)) (B.g 5) = (B.stateSum (26 : Fin 32)) := rfl
theorem word452 : k0_pay452 (F := Ideal) (B.sts (27 : Fin 32)) (B.g 4) = (B.stateSum (27 : Fin 32)) := rfl
theorem word453 : k0_pay453 (F := Ideal) (B.sts (28 : Fin 32)) (B.g 3) = (B.stateRow (28 : Fin 32)) := rfl
theorem word454 : k0_pay454 (F := Ideal) B.dqdIntra B.dqdInter = B.dqd := rfl
theorem word455 : k0_pay455 (F := Ideal) B.qz B.eb B.dqdIntra B.dqdInter = (lift B.dzq) := rfl
theorem word456 : k0_pay456 (F := Ideal) B.ke B.dke = B.tke := rfl
theorem word457 : k0_pay457 (F := Ideal) B.qd B.kd B.ke B.dqdIntra B.dkd B.dqdInter B.dke = B.db := rfl
theorem word458 : k0_pay458 (F := Ideal) B.ebl B.ke (B.sts (29 : Fin 32)) (B.sts (30 : Fin 32)) (B.sts (31 : Fin 32)) (B.g 0) (B.g 1) (B.g 2) B.dke (B.stateSum (0 : Fin 32)) (B.stateSum (1 : Fin 32)) (B.stateSum (2 : Fin 32)) (B.stateSum (3 : Fin 32)) (B.stateSum (4 : Fin 32)) (B.stateSum (5 : Fin 32)) (B.stateSum (6 : Fin 32)) (B.stateSum (7 : Fin 32)) (B.stateSum (8 : Fin 32)) (B.stateSum (9 : Fin 32)) (B.stateSum (10 : Fin 32)) (B.stateSum (11 : Fin 32)) (B.stateSum (12 : Fin 32)) (B.stateSum (13 : Fin 32)) (B.stateSum (14 : Fin 32)) (B.stateSum (15 : Fin 32)) (B.stateSum (16 : Fin 32)) (B.stateSum (17 : Fin 32)) (B.stateSum (18 : Fin 32)) (B.stateSum (19 : Fin 32)) (B.stateSum (20 : Fin 32)) (B.stateSum (21 : Fin 32)) (B.stateSum (22 : Fin 32)) (B.stateSum (23 : Fin 32)) (B.stateSum (24 : Fin 32)) (B.stateSum (25 : Fin 32)) (B.stateSum (26 : Fin 32)) (B.stateSum (27 : Fin 32)) (B.stateRow (28 : Fin 32)) = B.dbLast := rfl
theorem word459 : k0_pay459 (F := Ideal) B.enb B.ekl B.dkd B.dke = B.dk := rfl
theorem word460 : k0_pay460 (F := Ideal) B.qd B.kd B.ke B.dqdIntra B.dkd B.dqdInter B.dke = (tile B.db (0 : Fin 16)) := rfl
theorem word461 : k0_pay461 (F := Ideal) B.qd B.kd B.ke B.dqdIntra B.dkd B.dqdInter B.dke = (half (tile B.db (0 : Fin 16))) := rfl
theorem word462 : k0_pay462 (F := Ideal) B.qd B.kd B.ke B.dqdIntra B.dkd B.dqdInter B.dke = (rest (tile B.db (0 : Fin 16))) := rfl
theorem word463 : k0_pay463 (F := Ideal) B.qd B.kd B.ke B.dqdIntra B.dkd B.dqdInter B.dke = (half (rest (tile B.db (0 : Fin 16)))) := rfl
theorem word464 : k0_pay464 (F := Ideal) B.qd B.kd B.ke B.dqdIntra B.dkd B.dqdInter B.dke = (half (rest (rest (tile B.db (0 : Fin 16))))) := rfl
theorem word465 : k0_pay465 (F := Ideal) (ones upper) B.qd B.kd B.ke B.dqdIntra B.dkd B.dqdInter B.dke = (tileNN (ones upper) (half (tile B.db (0 : Fin 16)))) := rfl
theorem word466 : k0_pay466 (F := Ideal) (ones upper) B.qd B.kd B.ke B.dqdIntra B.dkd B.dqdInter B.dke = (tileNN (ones upper) (half (rest (tile B.db (0 : Fin 16))))) := rfl
theorem word467 : k0_pay467 (F := Ideal) (ones upper) (half (rest (rest (tile B.db (0 : Fin 16))))) (tileNN (ones upper) (half (tile B.db (0 : Fin 16)))) (tileNN (ones upper) (half (rest (tile B.db (0 : Fin 16))))) = (exactDot (ones upper) (tile B.db (0 : Fin 16))) := rfl
theorem word468 : k0_pay468 (F := Ideal) (ones upper) B.db = (exactDot (ones upper) (tile B.db (1 : Fin 16))) := rfl
theorem word469 : k0_pay469 (F := Ideal) (ones upper) B.db = (exactDot (ones upper) (tile B.db (2 : Fin 16))) := rfl
theorem word470 : k0_pay470 (F := Ideal) (ones upper) B.db = (exactDot (ones upper) (tile B.db (3 : Fin 16))) := rfl
theorem word471 : k0_pay471 (F := Ideal) B.db = (tile B.db (4 : Fin 16)) := rfl
theorem word472 : k0_pay472 (F := Ideal) B.db = (half (tile B.db (4 : Fin 16))) := rfl
theorem word473 : k0_pay473 (F := Ideal) B.db = (rest (tile B.db (4 : Fin 16))) := rfl
theorem word474 : k0_pay474 (F := Ideal) B.db = (half (rest (tile B.db (4 : Fin 16)))) := rfl
theorem word475 : k0_pay475 (F := Ideal) B.db = (half (rest (rest (tile B.db (4 : Fin 16))))) := rfl
theorem word476 : k0_pay476 (F := Ideal) (ones upper) (half (tile B.db (4 : Fin 16))) (half (rest (tile B.db (4 : Fin 16)))) (half (rest (rest (tile B.db (4 : Fin 16))))) = (exactDot (ones upper) (tile B.db (4 : Fin 16))) := rfl
theorem word477 : k0_pay477 (F := Ideal) (ones upper) B.db = (exactDot (ones upper) (tile B.db (5 : Fin 16))) := rfl
theorem word478 : k0_pay478 (F := Ideal) (ones upper) B.db = (exactDot (ones upper) (tile B.db (6 : Fin 16))) := rfl
theorem word479 : k0_pay479 (F := Ideal) (ones upper) B.db = (exactDot (ones upper) (tile B.db (7 : Fin 16))) := rfl
theorem word480 : k0_pay480 (F := Ideal) B.db = (tile B.db (8 : Fin 16)) := rfl
theorem word481 : k0_pay481 (F := Ideal) B.db = (half (tile B.db (8 : Fin 16))) := rfl
theorem word482 : k0_pay482 (F := Ideal) B.db = (rest (tile B.db (8 : Fin 16))) := rfl
theorem word483 : k0_pay483 (F := Ideal) (ones upper) (half (tile B.db (8 : Fin 16))) (rest (tile B.db (8 : Fin 16))) = (exactDot (ones upper) (tile B.db (8 : Fin 16))) := rfl
theorem word484 : k0_pay484 (F := Ideal) (ones upper) B.db = (exactDot (ones upper) (tile B.db (9 : Fin 16))) := rfl
theorem word485 : k0_pay485 (F := Ideal) (ones upper) B.db = (exactDot (ones upper) (tile B.db (10 : Fin 16))) := rfl
theorem word486 : k0_pay486 (F := Ideal) (ones upper) B.db = (exactDot (ones upper) (tile B.db (11 : Fin 16))) := rfl
theorem word487 : k0_pay487 (F := Ideal) (ones upper) B.db = (exactDot (ones upper) (tile B.db (12 : Fin 16))) := rfl
theorem word488 : k0_pay488 (F := Ideal) (ones upper) B.db = (exactDot (ones upper) (tile B.db (13 : Fin 16))) := rfl
theorem word489 : k0_pay489 (F := Ideal) (ones upper) B.db = (exactDot (ones upper) (tile B.db (14 : Fin 16))) := rfl
theorem word490 : k0_pay490 (F := Ideal) B.db = (tile B.db (15 : Fin 16)) := rfl
theorem word491 : k0_pay491 (F := Ideal) B.db = (half (tile B.db (15 : Fin 16))) := rfl
theorem word492 : k0_pay492 (F := Ideal) B.db = (rest (tile B.db (15 : Fin 16))) := rfl
theorem word493 : k0_pay493 (F := Ideal) B.db = (half (rest (tile B.db (15 : Fin 16)))) := rfl
theorem word494 : k0_pay494 (F := Ideal) B.db = (half (rest (rest (tile B.db (15 : Fin 16))))) := rfl
theorem word495 : k0_pay495 (F := Ideal) (ones upper) B.db = (tileNN (ones upper) (half (tile B.db (15 : Fin 16)))) := rfl
theorem word496 : k0_pay496 (F := Ideal) (ones upper) B.db = (tileNN (ones upper) (half (rest (tile B.db (15 : Fin 16))))) := rfl
theorem word497 : k0_pay497 (F := Ideal) (ones upper) (half (rest (rest (tile B.db (15 : Fin 16))))) (tileNN (ones upper) (half (tile B.db (15 : Fin 16)))) (tileNN (ones upper) (half (rest (tile B.db (15 : Fin 16))))) = (exactDot (ones upper) (tile B.db (15 : Fin 16))) := rfl
theorem word498 : k0_pay498 (F := Ideal) B.f B.dbLast B.dk B.dlfIntra = B.df := rfl
theorem word499 : k0_pay499 (F := Ideal) B.lb B.sf B.df = B.dzf := rfl
theorem word3 (X : FVec Ideal S1x128 .f32) : k0_pay3 (F := Ideal) B.lb B.sf B.df X = addf (shapeCast S1x128 X shapeCasts_S1x128_S1x128) B.dl0 := rfl
theorem word4 (X : FVec Ideal S1x128 .f32) : k0_pay4 (F := Ideal) B.lb B.sf B.df X = subf (shapeCast S1x128 X shapeCasts_S1x128_S1x128) B.dl0 := rfl
theorem word191 (X : FVec Ideal S1x1x128 .f32) : k0_pay191 (F := Ideal) B.ohat B.don X = shapeCast S1x1x128 (addf (shapeCast S1x128 X shapeCasts_S1x1x128_S1x128) B.dgn) shapeCasts_S1x128_S1x1x128 := rfl
/-- Sixteen tiles, one below the other. -/
def cat (t0 t1 t2 t3 t4 t5 t6 t7 t8 t9 t10 t11 t12 t13 t14 t15 : FVec Ideal S128x128 .f32) : FVec Ideal S2048x128 .f32 :=
  concatenate S2048x128 0 [⟨S128x128, t0⟩, ⟨S128x128, t1⟩, ⟨S128x128, t2⟩, ⟨S128x128, t3⟩, ⟨S128x128, t4⟩, ⟨S128x128, t5⟩, ⟨S128x128, t6⟩, ⟨S128x128, t7⟩, ⟨S128x128, t8⟩, ⟨S128x128, t9⟩, ⟨S128x128, t10⟩, ⟨S128x128, t11⟩, ⟨S128x128, t12⟩, ⟨S128x128, t13⟩, ⟨S128x128, t14⟩, ⟨S128x128, t15⟩] concatenates_S128x128_S128x128_S128x128_S128x128_S128x128_S128x128_S128x128_S128x128_S128x128_S128x128_S128x128_S128x128_S128x128_S128x128_S128x128_S128x128_S2048x128_d0
theorem cat_eq (t0 t1 t2 t3 t4 t5 t6 t7 t8 t9 t10 t11 t12 t13 t14 t15 : FVec Ideal S128x128 .f32) : concatenate S2048x128 0 [⟨S128x128, t0⟩, ⟨S128x128, t1⟩, ⟨S128x128, t2⟩, ⟨S128x128, t3⟩, ⟨S128x128, t4⟩, ⟨S128x128, t5⟩, ⟨S128x128, t6⟩, ⟨S128x128, t7⟩, ⟨S128x128, t8⟩, ⟨S128x128, t9⟩, ⟨S128x128, t10⟩, ⟨S128x128, t11⟩, ⟨S128x128, t12⟩, ⟨S128x128, t13⟩, ⟨S128x128, t14⟩, ⟨S128x128, t15⟩] concatenates_S128x128_S128x128_S128x128_S128x128_S128x128_S128x128_S128x128_S128x128_S128x128_S128x128_S128x128_S128x128_S128x128_S128x128_S128x128_S128x128_S2048x128_d0 = cat t0 t1 t2 t3 t4 t5 t6 t7 t8 t9 t10 t11 t12 t13 t14 t15 := rfl
theorem word500 : cat (exactDot (ones upper) (tile B.db (0 : Fin 16))) (exactDot (ones upper) (tile B.db (1 : Fin 16))) (exactDot (ones upper) (tile B.db (2 : Fin 16))) (exactDot (ones upper) (tile B.db (3 : Fin 16))) (exactDot (ones upper) (tile B.db (4 : Fin 16))) (exactDot (ones upper) (tile B.db (5 : Fin 16))) (exactDot (ones upper) (tile B.db (6 : Fin 16))) (exactDot (ones upper) (tile B.db (7 : Fin 16))) (exactDot (ones upper) (tile B.db (8 : Fin 16))) (exactDot (ones upper) (tile B.db (9 : Fin 16))) (exactDot (ones upper) (tile B.db (10 : Fin 16))) (exactDot (ones upper) (tile B.db (11 : Fin 16))) (exactDot (ones upper) (tile B.db (12 : Fin 16))) (exactDot (ones upper) (tile B.db (13 : Fin 16))) (exactDot (ones upper) (tile B.db (14 : Fin 16))) (exactDot (ones upper) (tile B.db (15 : Fin 16))) = B.dlfIntra := rfl
theorem word501 (c : Fin 32) : shapeCast S128x128 (B.st c) shapeCasts_S1x1x128x128_S128x128 = B.sts c := rfl
theorem word502 (c : Fin 32) : truncf .bf16 (B.sts c) bitsLt_bf16_f32 = B.sth c := rfl
theorem word503 : shapeCast S2048x128 B.zf shapeCasts_S1x1x2048x128_S2048x128 = flat B.zf := rfl

end Cert.Hgrn
-- ==== Proof.Blocks.lean ====
/-
  The blocks a grid point reads, cut from the contents of its staging buffers, and what it leaves in its three outputs
  and in the state's gradient, in the words of those blocks.
-/
module

public import proofs.«01_k».proof.Proof.Gen.KernelIdeal.Value
public import Idealize.ShloMosaic.Lib.Pipeline.ReadBack
public import proofs.«01_k».proof.Proof.Words1
public import proofs.«01_k».proof.Proof.Words2
public import proofs.«01_k».proof.Proof.Words3

@[expose] public section
set_option maxRecDepth 16384
noncomputable section
namespace Cert.Hgrn
open Cert.KernelIdeal Cert.KernelIdeal.Gen
open Idealize.ShloMosaic Idealize.ShloMosaic.TcCoe Idealize.ShloMosaic.Tactic
theorem inb_state (c : Fin 32) : ∀ a, (![c.val, 0, 0, 0] : Fin 4 → ℕ) a + S1x1x128x128.size a ≤ S32x1x128x128.size a
  | 0 => by show c.val + 1 ≤ 32; omega
  | 1 => by show 0 + 1 ≤ 1; omega
  | 2 => by show 0 + 128 ≤ 128; omega
  | 3 => by show 0 + 128 ≤ 128; omega

/-- The blocks a point reads, from the contents of its staging buffers. -/
def blk (x0 x1 x2 x3 : FVec Ideal S1x1x2048x128 .f32) (x4 : FVec Ideal S2x128 .f32) (x5 : FVec Ideal S1x128 .f32)
    (x6 : FVec Ideal S32x1x128x128 .f32) (x7 : FVec Ideal S2048x128 .f32) (g0 : FVec Ideal S1x128x128 .f32) : Blk where
  zq := View.ld (Val := Elt Ideal) (e' := .f32) x0 (Rect.unit (s := S1x1x2048x128) ![0, 0, 0, 0] S1x1x2048x128.size inb_S1x1x2048x128_S1x1x2048x128_0_0_0_0)
  zf := View.ld (Val := Elt Ideal) (e' := .f32) x1 (Rect.unit (s := S1x1x2048x128) ![0, 0, 0, 0] S1x1x2048x128.size inb_S1x1x2048x128_S1x1x2048x128_0_0_0_0)
  zi := View.ld (Val := Elt Ideal) (e' := .f32) x2 (Rect.unit (s := S1x1x2048x128) ![0, 0, 0, 0] S1x1x2048x128.size inb_S1x1x2048x128_S1x1x2048x128_0_0_0_0)
  zg := View.ld (Val := Elt Ideal) (e' := .f32) x3 (Rect.unit (s := S1x1x2048x128) ![0, 0, 0, 0] S1x1x2048x128.size inb_S1x1x2048x128_S1x1x2048x128_0_0_0_0)
  lg := View.ld (Val := Elt Ideal) (e' := .f32) x4 (Rect.unit (s := S2x128) ![0, 0] S2x128.size inb_S2x128_S2x128_0_0)
  gn := View.ld (Val := Elt Ideal) (e' := .f32) x5 (Rect.unit (s := S1x128) ![0, 0] S1x128.size inb_S1x128_S1x128_0_0)
  st c := View.ld (Val := Elt Ideal) (e' := .f32) x6 (Rect.unit (s := S32x1x128x128) ![c.val, 0, 0, 0] S1x1x128x128.size (inb_state c))
  dy := View.ld (Val := Elt Ideal) (e' := .f32) x7 (Rect.unit (s := S2048x128) ![0, 0] S2048x128.size inb_S2048x128_S2048x128_0_0)
  g0 := g0

/-- The four segments of the gradient a point stores. -/
def four (B : Blk) : FVec Ideal S4x2048x128 .bf16 :=
  View.canon (Val := Elt Ideal) (e := .bf16)
    [⟨Rect.unit (s := S4x2048x128) ![1, 0, 0] S1x2048x128.size inb_S4x2048x128_S1x2048x128_1_0_0, lift B.dzf⟩,
     ⟨Rect.unit (s := S4x2048x128) ![0, 0, 0] S1x2048x128.size inb_S4x2048x128_S1x2048x128_0_0_0, lift B.dzq⟩,
     ⟨Rect.unit (s := S4x2048x128) ![2, 0, 0] S1x2048x128.size inb_S4x2048x128_S1x2048x128_2_0_0, lift B.dvh⟩,
     ⟨Rect.unit (s := S4x2048x128) ![3, 0, 0] S1x2048x128.size inb_S4x2048x128_S1x2048x128_3_0_0, lift B.dzg⟩]

/-- The logits' gradient after a point that found `X`, over whatever `L` was stored before. -/
def twoRows (B : Blk) (X : FVec Ideal S2x128 .f32) (L : List (View.Piece (Elt Ideal) S2x128 .f32)) : FVec Ideal S2x128 .f32 :=
  View.canon (Val := Elt Ideal) (e := .f32)
    (⟨Rect.unit (s := S2x128) ![1, 0] S1x128.size inb_S2x128_S1x128_1_0,
        subf (shapeCast S1x128 (View.ld (Val := Elt Ideal) (e' := .f32) X (Rect.unit (s := S2x128) ![1, 0] S1x128.size inb_S2x128_S1x128_1_0)) shapeCasts_S1x128_S1x128) B.dl0⟩ ::
     ⟨Rect.unit (s := S2x128) ![0, 0] S1x128.size inb_S2x128_S1x128_0_0,
        addf (shapeCast S1x128 (View.ld (Val := Elt Ideal) (e' := .f32) X (Rect.unit (s := S2x128) ![0, 0] S1x128.size inb_S2x128_S1x128_0_0)) shapeCasts_S1x128_S1x128) B.dl0⟩ :: L)

/-- The gain's gradient after a point that found `X`. -/
def gainRow (B : Blk) (X : FVec Ideal S1x1x128 .f32) : FVec Ideal S1x1x128 .f32 :=
  shapeCast S1x1x128 (addf (shapeCast S1x128 (View.ld (Val := Elt Ideal) (e' := .f32) X (Rect.unit (s := S1x1x128) ![0, 0, 0] S1x1x128.size inb_S1x1x128_S1x1x128_0_0_0)) shapeCasts_S1x1x128_S1x128) B.dgn) shapeCasts_S1x128_S1x1x128

/-- The blocks a point reads, with the state's gradient taken from its buffer's contents. -/
def blk' (x0 x1 x2 x3 : FVec Ideal S1x1x2048x128 .f32) (x4 : FVec Ideal S2x128 .f32) (x5 : FVec Ideal S1x128 .f32)
    (x6 : FVec Ideal S32x1x128x128 .f32) (x7 : FVec Ideal S2048x128 .f32) (s : FVec Ideal S1x128x128 .f32) : Blk :=
  blk x0 x1 x2 x3 x4 x5 x6 x7 (View.ld (Val := Elt Ideal) (e' := .f32) s (Rect.unit (s := S1x128x128) ![0, 0, 0] S1x128x128.size inb_S1x128x128_S1x128x128_0_0_0))

end Cert.Hgrn
-- ==== Proof.PointA.lean ====
/-
  What a grid point leaves in its three outputs
  and in the state's gradient, in the words of those blocks.
-/
module

public import proofs.«01_k».proof.Proof.Blocks

@[expose] public section
set_option maxRecDepth 16384
noncomputable section
namespace Cert.Hgrn
open Cert.KernelIdeal Cert.KernelIdeal.Gen
open Idealize.ShloMosaic Idealize.ShloMosaic.TcCoe Idealize.ShloMosaic.Tactic

set_option maxHeartbeats 4000000 in
theorem sout0_A_0_eq (c : Dev nD) (i : grid0.Coords) (arg2 : Memref sig .tc .vmem S1x1x2048x128 .f32) (harg2 : arg2.IsWhole) (arg3 : Memref sig .tc .vmem S1x1x2048x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S2x128 .f32) (harg6 : arg6.IsWhole) (arg7 : Memref sig .tc .vmem S1x128 .f32) (harg7 : arg7.IsWhole) (arg8 : Memref sig .tc .vmem S32x1x128x128 .f32) (harg8 : arg8.IsWhole) (arg9 : Memref sig .tc .vmem S2048x128 .f32) (harg9 : arg9.IsWhole) (arg10 : Memref sig .tc .vmem S4x2048x128 .bf16) (harg10 : arg10.IsWhole) (arg11 : Memref sig .tc .vmem S2x128 .f32) (harg11 : arg11.IsWhole) (arg12 : Memref sig .tc .vmem S1x1x128 .f32) (harg12 : arg12.IsWhole) (arg13 : Memref sig .tc .vmem S1x128x128 .f32) (harg13 : arg13.IsWhole) (hc0 : cond0_0 i)
    (x0 : Vec Ideal S1x1x2048x128 .f32) (x1 : Vec Ideal S1x1x2048x128 .f32) (x2 : Vec Ideal S1x1x2048x128 .f32) (x3 : Vec Ideal S1x1x2048x128 .f32) (x4 : Vec Ideal S2x128 .f32) (x5 : Vec Ideal S1x128 .f32) (x6 : Vec Ideal S32x1x128x128 .f32) (x7 : Vec Ideal S2048x128 .f32) : sout0_A_0 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 = (blk' x0 x1 x2 x3 x4 x5 x6 x7 k0_pay5).gOut := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7)]
  unfold kernelRun0_A
  dsimp only
  sl_unfold_words
  simp (config := { decide := true }) only [↓View.readCov_skip, View.readCov_fill, cat_eq, View.readAt_eq_ld, harg2.read_unread, harg3.read_unread, harg4.read_unread, harg5.read_unread, harg6.read_unread, harg7.read_unread, harg8.read_unread, harg9.read_unread, harg11.read_unread, harg12.read_unread, harg13.read_unread]
  simp (config := { decide := true }) only [show View.ld (Val := Elt Ideal) (e' := .f32) x0 (Rect.unit (s := S1x1x2048x128) ![0, 0, 0, 0] S1x1x2048x128.size inb_S1x1x2048x128_S1x1x2048x128_0_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).zq from rfl,
    show View.ld (Val := Elt Ideal) (e' := .f32) x1 (Rect.unit (s := S1x1x2048x128) ![0, 0, 0, 0] S1x1x2048x128.size inb_S1x1x2048x128_S1x1x2048x128_0_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).zf from rfl,
    show View.ld (Val := Elt Ideal) (e' := .f32) x2 (Rect.unit (s := S1x1x2048x128) ![0, 0, 0, 0] S1x1x2048x128.size inb_S1x1x2048x128_S1x1x2048x128_0_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).zi from rfl,
    show View.ld (Val := Elt Ideal) (e' := .f32) x3 (Rect.unit (s := S1x1x2048x128) ![0, 0, 0, 0] S1x1x2048x128.size inb_S1x1x2048x128_S1x1x2048x128_0_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).zg from rfl,
    show View.ld (Val := Elt Ideal) (e' := .f32) x4 (Rect.unit (s := S2x128) ![0, 0] S2x128.size inb_S2x128_S2x128_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).lg from rfl,
    show View.ld (Val := Elt Ideal) (e' := .f32) x5 (Rect.unit (s := S1x128) ![0, 0] S1x128.size inb_S1x128_S1x128_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).gn from rfl,
    show View.ld (Val := Elt Ideal) (e' := .f32) x7 (Rect.unit (s := S2048x128) ![0, 0] S2048x128.size inb_S2048x128_S2048x128_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).dy from rfl,
    show View.ld (Val := Elt Ideal) (e' := .f32) x6 (Rect.unit (s := S32x1x128x128) ![0, 0, 0, 0] S1x1x128x128.size inb_S32x1x128x128_S1x1x128x128_0_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (0 : Fin 32) from rfl,
    show View.ld (Val := Elt Ideal) (e' := .f32) x6 (Rect.unit (s := S32x1x128x128) ![1, 0, 0, 0] S1x1x128x128.size inb_S32x1x128x128_S1x1x128x128_1_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (1 : Fin 32) from rfl,
    show View.ld (Val := Elt Ideal) (e' := .f32) x6 (Rect.unit (s := S32x1x128x128) ![2, 0, 0, 0] S1x1x128x128.size inb_S32x1x128x128_S1x1x128x128_2_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (2 : Fin 32) from rfl,
    show View.ld (Val := Elt Ideal) (e' := .f32) x6 (Rect.unit (s := S32x1x128x128) ![3, 0, 0, 0] S1x1x128x128.size inb_S32x1x128x128_S1x1x128x128_3_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (3 : Fin 32) from rfl,
    show View.ld (Val := Elt Ideal) (e' := .f32) x6 (Rect.unit (s := S32x1x128x128) ![4, 0, 0, 0] S1x1x128x128.size inb_S32x1x128x128_S1x1x128x128_4_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (4 : Fin 32) from rfl,
    show View.ld (Val := Elt Ideal) (e' := .f32) x6 (Rect.unit (s := S32x1x128x128) ![5, 0, 0, 0] S1x1x128x128.size inb_S32x1x128x128_S1x1x128x128_5_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (5 : Fin 32) from rfl,
    show View.ld (Val := Elt Ideal) (e' := .f32) x6 (Rect.unit (s := S32x1x128x128) ![6, 0, 0, 0] S1x1x128x128.size inb_S32x1x128x128_S1x1x128x128_6_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (6 : Fin 32) from rfl,
    show View.ld (Val := Elt Ideal) (e' := .f32) x6 (Rect.unit (s := S32x1x128x128) ![7, 0, 0, 0] S1x1x128x128.size inb_S32x1x128x128_S1x1x128x128_7_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (7 : Fin 32) from rfl,
    show View.ld (Val := Elt Ideal) (e' := .f32) x6 (Rect.unit (s := S32x1x128x128) ![8, 0, 0, 0] S1x1x128x128.size inb_S32x1x128x128_S1x1x128x128_8_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (8 : Fin 32) from rfl,
    show View.ld (Val := Elt Ideal) (e' := .f32) x6 (Rect.unit (s := S32x1x128x128) ![9, 0, 0, 0] S1x1x128x128.size inb_S32x1x128x128_S1x1x128x128_9_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (9 : Fin 32) from rfl,
    show View.ld (Val := Elt Ideal) (e' := .f32) x6 (Rect.unit (s := S32x1x128x128) ![10, 0, 0, 0] S1x1x128x128.size inb_S32x1x128x128_S1x1x128x128_10_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (10 : Fin 32) from rfl,
    show View.ld (Val := Elt Ideal) (e' := .f32) x6 (Rect.unit (s := S32x1x128x128) ![11, 0, 0, 0] S1x1x128x128.size inb_S32x1x128x128_S1x1x128x128_11_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (11 : Fin 32) from rfl,
    show View.ld (Val := Elt Ideal) (e' := .f32) x6 (Rect.unit (s := S32x1x128x128) ![12, 0, 0, 0] S1x1x128x128.size inb_S32x1x128x128_S1x1x128x128_12_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (12 : Fin 32) from rfl,
    show View.ld (Val := Elt Ideal) (e' := .f32) x6 (Rect.unit (s := S32x1x128x128) ![13, 0, 0, 0] S1x1x128x128.size inb_S32x1x128x128_S1x1x128x128_13_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (13 : Fin 32) from rfl,
    show View.ld (Val := Elt Ideal) (e' := .f32) x6 (Rect.unit (s := S32x1x128x128) ![14, 0, 0, 0] S1x1x128x128.size inb_S32x1x128x128_S1x1x128x128_14_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (14 : Fin 32) from rfl,
    show View.ld (Val := Elt Ideal) (e' := .f32) x6 (Rect.unit (s := S32x1x128x128) ![15, 0, 0, 0] S1x1x128x128.size inb_S32x1x128x128_S1x1x128x128_15_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (15 : Fin 32) from rfl,
    show View.ld (Val := Elt Ideal) (e' := .f32) x6 (Rect.unit (s := S32x1x128x128) ![16, 0, 0, 0] S1x1x128x128.size inb_S32x1x128x128_S1x1x128x128_16_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (16 : Fin 32) from rfl,
    show View.ld (Val := Elt Ideal) (e' := .f32) x6 (Rect.unit (s := S32x1x128x128) ![17, 0, 0, 0] S1x1x128x128.size inb_S32x1x128x128_S1x1x128x128_17_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (17 : Fin 32) from rfl,
    show View.ld (Val := Elt Ideal) (e' := .f32) x6 (Rect.unit (s := S32x1x128x128) ![18, 0, 0, 0] S1x1x128x128.size inb_S32x1x128x128_S1x1x128x128_18_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (18 : Fin 32) from rfl,
    show View.ld (Val := Elt Ideal) (e' := .f32) x6 (Rect.unit (s := S32x1x128x128) ![19, 0, 0, 0] S1x1x128x128.size inb_S32x1x128x128_S1x1x128x128_19_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (19 : Fin 32) from rfl,
    show View.ld (Val := Elt Ideal) (e' := .f32) x6 (Rect.unit (s := S32x1x128x128) ![20, 0, 0, 0] S1x1x128x128.size inb_S32x1x128x128_S1x1x128x128_20_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (20 : Fin 32) from rfl,
    show View.ld (Val := Elt Ideal) (e' := .f32) x6 (Rect.unit (s := S32x1x128x128) ![21, 0, 0, 0] S1x1x128x128.size inb_S32x1x128x128_S1x1x128x128_21_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (21 : Fin 32) from rfl,
    show View.ld (Val := Elt Ideal) (e' := .f32) x6 (Rect.unit (s := S32x1x128x128) ![22, 0, 0, 0] S1x1x128x128.size inb_S32x1x128x128_S1x1x128x128_22_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (22 : Fin 32) from rfl,
    show View.ld (Val := Elt Ideal) (e' := .f32) x6 (Rect.unit (s := S32x1x128x128) ![23, 0, 0, 0] S1x1x128x128.size inb_S32x1x128x128_S1x1x128x128_23_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (23 : Fin 32) from rfl,
    show View.ld (Val := Elt Ideal) (e' := .f32) x6 (Rect.unit (s := S32x1x128x128) ![24, 0, 0, 0] S1x1x128x128.size inb_S32x1x128x128_S1x1x128x128_24_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (24 : Fin 32) from rfl,
    show View.ld (Val := Elt Ideal) (e' := .f32) x6 (Rect.unit (s := S32x1x128x128) ![25, 0, 0, 0] S1x1x128x128.size inb_S32x1x128x128_S1x1x128x128_25_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (25 : Fin 32) from rfl,
    show View.ld (Val := Elt Ideal) (e' := .f32) x6 (Rect.unit (s := S32x1x128x128) ![26, 0, 0, 0] S1x1x128x128.size inb_S32x1x128x128_S1x1x128x128_26_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (26 : Fin 32) from rfl,
    show View.ld (Val := Elt Ideal) (e' := .f32) x6 (Rect.unit (s := S32x1x128x128) ![27, 0, 0, 0] S1x1x128x128.size inb_S32x1x128x128_S1x1x128x128_27_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (27 : Fin 32) from rfl,
    show View.ld (Val := Elt Ideal) (e' := .f32) x6 (Rect.unit (s := S32x1x128x128) ![28, 0, 0, 0] S1x1x128x128.size inb_S32x1x128x128_S1x1x128x128_28_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (28 : Fin 32) from rfl,
    show View.ld (Val := Elt Ideal) (e' := .f32) x6 (Rect.unit (s := S32x1x128x128) ![29, 0, 0, 0] S1x1x128x128.size inb_S32x1x128x128_S1x1x128x128_29_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (29 : Fin 32) from rfl,
    show View.ld (Val := Elt Ideal) (e' := .f32) x6 (Rect.unit (s := S32x1x128x128) ![30, 0, 0, 0] S1x1x128x128.size inb_S32x1x128x128_S1x1x128x128_30_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (30 : Fin 32) from rfl,
    show View.ld (Val := Elt Ideal) (e' := .f32) x6 (Rect.unit (s := S32x1x128x128) ![31, 0, 0, 0] S1x1x128x128.size inb_S32x1x128x128_S1x1x128x128_31_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (31 : Fin 32) from rfl,
    show k0_pay296 (F := Ideal) (View.ld (Val := Elt Ideal) (e' := .f32) (k0_pay5 (F := Ideal)) (Rect.unit (s := S1x128x128) ![0, 0, 0] S1x128x128.size inb_S1x128x128_S1x128x128_0_0_0)) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).g 0 from rfl,
    show k0_pay297 (F := Ideal) (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).ebl (View.ld (Val := Elt Ideal) (e' := .f32) (k0_pay5 (F := Ideal)) (Rect.unit (s := S1x128x128) ![0, 0, 0] S1x128x128.size inb_S1x128x128_S1x128x128_0_0_0)) = mulf ((blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).g 0) (broadcastTo S128x128 (firstRow (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).ebl (31 : Fin 32)) broadcasts_S1x128_S128x128) from rfl,
    word1, word2, word12, word13, word14, word15, word16, word17, word18, word19, word20, word21, word22, word23, word24, word25, word26, word27, word28, word29, word30, word31, word32, word33, word34, word35, word36, word37, word38, word39, word40, word41, word42, word43, word44, word45, word46, word47, word48, word49, word50, word51, word52, word53, word54, word55, word56, word57, word58, word59, word60, word61, word62, word63, word64, word65, word66, word67, word68, word69, word70, word71, word72, word73, word74, word75, word76, word77, word78, word79, word80, word81, word82, word83, word84, word85, word86, word87, word88, word89, word90, word91, word92, word93, word94, word95, word96, word97, word98, word99, word100, word101, word102, word103, word104, word105, word106, word107, word108, word109, word110, word111, word112, word113, word114, word115, word116, word117, word118, word119, word120, word121, word122, word123, word124, word125, word126, word127, word128, word129, word130, word131, word132, word133, word134, word135, word136, word137, word138, word139, word140, word141, word142, word143, word144, word145, word146, word147, word148, word149, word150, word151, word152, word153, word154, word155, word156, word157, word158, word159, word160, word161, word162, word163, word164, word165, word166, word167, word168, word169, word170, word171, word172, word173, word174, word175, word176, word177, word178, word179, word180, word181, word182, word183, word184, word185, word186, word187, word188, word189, word190, word192, word193, word194, word195, word196, word197, word198, word199, word200, word201, word202, word203, word204, word205, word206, word207, word208, word209, word210, word211, word212, word213, word214, word215, word216, word217, word218, word219, word220, word221, word222, word223, word224, word225, word226, word227, word228, word229, word230, word231, word232, word233, word234, word235, word236, word237, word238, word239, word240, word241, word242, word243, word244, word245, word246, word247, word248, word249, word250, word251, word252, word253, word254, word255, word256, word257, word258, word259, word260, word261, word262, word263, word264, word265, word266, word267, word268, word269, word270, word271, word272, word273, word274, word275, word276, word277, word278, word279, word280, word281, word282, word283, word284, word285, word286, word287, word288, word289, word290, word291, word292, word293, word294, word295, word298, word299, word300, word301, word302, word303, word304, word305, word306, word307, word308, word309, word310, word311, word312, word313, word314, word315, word316, word317, word318, word319, word320, word321, word322, word323, word324, word325, word326, word327, word328, word329, word330, word331, word332, word333, word334, word335, word336, word337, word338, word339, word340, word341, word342, word343, word344, word345, word346, word347, word348, word349, word350, word351, word352, word353, word354, word355, word356, word357, word358, word359, word360, word361, word362, word363, word364, word365, word366, word367, word368, word369, word370, word371, word372, word373, word374, word375, word376, word377, word378, word379, word380, word381, word382, word383, word384, word385, word386, word387, word388, word389, word390, word391, word392, word393, word394, word395, word396, word397, word398, word399, word400, word401, word402, word403, word404, word405, word406, word407, word408, word409, word410, word411, word412, word413, word414, word415, word416, word417, word418, word419, word420, word421, word422, word423, word424, word425, word426, word427, word428, word429, word430, word431, word432, word433, word434, word435, word436, word437, word438, word439, word440, word441, word442, word443, word444, word445, word446, word447, word448, word449, word450, word451, word452, word453, word454, word455, word456, word457, word458, word459, word460, word461, word462, word463, word464, word465, word466, word467, word468, word469, word470, word471, word472, word473, word474, word475, word476, word477, word478, word479, word480, word481, word482, word483, word484, word485, word486, word487, word488, word489, word490, word491, word492, word493, word494, word495, word496, word497, word498, word499, word3, word4, word191, word500, word501, word502, word503]
  rw [View.canon_cons_unit_lit _ _ _ (by decide)]
  rfl

set_option maxHeartbeats 4000000 in
theorem out0_A_8_eq (c : Dev nD) (i : grid0.Coords) (arg2 : Memref sig .tc .vmem S1x1x2048x128 .f32) (harg2 : arg2.IsWhole) (arg3 : Memref sig .tc .vmem S1x1x2048x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S2x128 .f32) (harg6 : arg6.IsWhole) (arg7 : Memref sig .tc .vmem S1x128 .f32) (harg7 : arg7.IsWhole) (arg8 : Memref sig .tc .vmem S32x1x128x128 .f32) (harg8 : arg8.IsWhole) (arg9 : Memref sig .tc .vmem S2048x128 .f32) (harg9 : arg9.IsWhole) (arg10 : Memref sig .tc .vmem S4x2048x128 .bf16) (harg10 : arg10.IsWhole) (arg11 : Memref sig .tc .vmem S2x128 .f32) (harg11 : arg11.IsWhole) (arg12 : Memref sig .tc .vmem S1x1x128 .f32) (harg12 : arg12.IsWhole) (arg13 : Memref sig .tc .vmem S1x128x128 .f32) (harg13 : arg13.IsWhole) (hc0 : cond0_0 i)
    (x0 : Vec Ideal S1x1x2048x128 .f32) (x1 : Vec Ideal S1x1x2048x128 .f32) (x2 : Vec Ideal S1x1x2048x128 .f32) (x3 : Vec Ideal S1x1x2048x128 .f32) (x4 : Vec Ideal S2x128 .f32) (x5 : Vec Ideal S1x128 .f32) (x6 : Vec Ideal S32x1x128x128 .f32) (x7 : Vec Ideal S2048x128 .f32) : out0_A_8 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 = four (blk' x0 x1 x2 x3 x4 x5 x6 x7 k0_pay5) := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7)]
  unfold kernelRun0_A
  dsimp only
  sl_unfold_words
  simp (config := { decide := true }) only [↓View.readCov_skip, View.readCov_fill, cat_eq, View.readAt_eq_ld, harg2.read_unread, harg3.read_unread, harg4.read_unread, harg5.read_unread, harg6.read_unread, harg7.read_unread, harg8.read_unread, harg9.read_unread, harg11.read_unread, harg12.read_unread, harg13.read_unread]
  simp (config := { decide := true }) only [show View.ld (Val := Elt Ideal) (e' := .f32) x0 (Rect.unit (s := S1x1x2048x128) ![0, 0, 0, 0] S1x1x2048x128.size inb_S1x1x2048x128_S1x1x2048x128_0_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).zq from rfl,
    show View.ld (Val := Elt Ideal) (e' := .f32) x1 (Rect.unit (s := S1x1x2048x128) ![0, 0, 0, 0] S1x1x2048x128.size inb_S1x1x2048x128_S1x1x2048x128_0_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).zf from rfl,
    show View.ld (Val := Elt Ideal) (e' := .f32) x2 (Rect.unit (s := S1x1x2048x128) ![0, 0, 0, 0] S1x1x2048x128.size inb_S1x1x2048x128_S1x1x2048x128_0_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).zi from rfl,
    show View.ld (Val := Elt Ideal) (e' := .f32) x3 (Rect.unit (s := S1x1x2048x128) ![0, 0, 0, 0] S1x1x2048x128.size inb_S1x1x2048x128_S1x1x2048x128_0_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).zg from rfl,
    show View.ld (Val := Elt Ideal) (e' := .f32) x4 (Rect.unit (s := S2x128) ![0, 0] S2x128.size inb_S2x128_S2x128_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).lg from rfl,
    show View.ld (Val := Elt Ideal) (e' := .f32) x5 (Rect.unit (s := S1x128) ![0, 0] S1x128.size inb_S1x128_S1x128_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).gn from rfl,
    show View.ld (Val := Elt Ideal) (e' := .f32) x7 (Rect.unit (s := S2048x128) ![0, 0] S2048x128.size inb_S2048x128_S2048x128_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).dy from rfl,
    show View.ld (Val := Elt Ideal) (e' := .f32) x6 (Rect.unit (s := S32x1x128x128) ![0, 0, 0, 0] S1x1x128x128.size inb_S32x1x128x128_S1x1x128x128_0_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (0 : Fin 32) from rfl,
    show View.ld (Val := Elt Ideal) (e' := .f32) x6 (Rect.unit (s := S32x1x128x128) ![1, 0, 0, 0] S1x1x128x128.size inb_S32x1x128x128_S1x1x128x128_1_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (1 : Fin 32) from rfl,
    show View.ld (Val := Elt Ideal) (e' := .f32) x6 (Rect.unit (s := S32x1x128x128) ![2, 0, 0, 0] S1x1x128x128.size inb_S32x1x128x128_S1x1x128x128_2_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (2 : Fin 32) from rfl,
    show View.ld (Val := Elt Ideal) (e' := .f32) x6 (Rect.unit (s := S32x1x128x128) ![3, 0, 0, 0] S1x1x128x128.size inb_S32x1x128x128_S1x1x128x128_3_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (3 : Fin 32) from rfl,
    show View.ld (Val := Elt Ideal) (e' := .f32) x6 (Rect.unit (s := S32x1x128x128) ![4, 0, 0, 0] S1x1x128x128.size inb_S32x1x128x128_S1x1x128x128_4_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (4 : Fin 32) from rfl,
    show View.ld (Val := Elt Ideal) (e' := .f32) x6 (Rect.unit (s := S32x1x128x128) ![5, 0, 0, 0] S1x1x128x128.size inb_S32x1x128x128_S1x1x128x128_5_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (5 : Fin 32) from rfl,
    show View.ld (Val := Elt Ideal) (e' := .f32) x6 (Rect.unit (s := S32x1x128x128) ![6, 0, 0, 0] S1x1x128x128.size inb_S32x1x128x128_S1x1x128x128_6_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (6 : Fin 32) from rfl,
    show View.ld (Val := Elt Ideal) (e' := .f32) x6 (Rect.unit (s := S32x1x128x128) ![7, 0, 0, 0] S1x1x128x128.size inb_S32x1x128x128_S1x1x128x128_7_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (7 : Fin 32) from rfl,
    show View.ld (Val := Elt Ideal) (e' := .f32) x6 (Rect.unit (s := S32x1x128x128) ![8, 0, 0, 0] S1x1x128x128.size inb_S32x1x128x128_S1x1x128x128_8_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (8 : Fin 32) from rfl,
    show View.ld (Val := Elt Ideal) (e' := .f32) x6 (Rect.unit (s := S32x1x128x128) ![9, 0, 0, 0] S1x1x128x128.size inb_S32x1x128x128_S1x1x128x128_9_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (9 : Fin 32) from rfl,
    show View.ld (Val := Elt Ideal) (e' := .f32) x6 (Rect.unit (s := S32x1x128x128) ![10, 0, 0, 0] S1x1x128x128.size inb_S32x1x128x128_S1x1x128x128_10_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (10 : Fin 32) from rfl,
    show View.ld (Val := Elt Ideal) (e' := .f32) x6 (Rect.unit (s := S32x1x128x128) ![11, 0, 0, 0] S1x1x128x128.size inb_S32x1x128x128_S1x1x128x128_11_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (11 : Fin 32) from rfl,
    show View.ld (Val := Elt Ideal) (e' := .f32) x6 (Rect.unit (s := S32x1x128x128) ![12, 0, 0, 0] S1x1x128x128.size inb_S32x1x128x128_S1x1x128x128_12_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (12 : Fin 32) from rfl,
    show View.ld (Val := Elt Ideal) (e' := .f32) x6 (Rect.unit (s := S32x1x128x128) ![13, 0, 0, 0] S1x1x128x128.size inb_S32x1x128x128_S1x1x128x128_13_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (13 : Fin 32) from rfl,
    show View.ld (Val := Elt Ideal) (e' := .f32) x6 (Rect.unit (s := S32x1x128x128) ![14, 0, 0, 0] S1x1x128x128.size inb_S32x1x128x128_S1x1x128x128_14_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (14 : Fin 32) from rfl,
    show View.ld (Val := Elt Ideal) (e' := .f32) x6 (Rect.unit (s := S32x1x128x128) ![15, 0, 0, 0] S1x1x128x128.size inb_S32x1x128x128_S1x1x128x128_15_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (15 : Fin 32) from rfl,
    show View.ld (Val := Elt Ideal) (e' := .f32) x6 (Rect.unit (s := S32x1x128x128) ![16, 0, 0, 0] S1x1x128x128.size inb_S32x1x128x128_S1x1x128x128_16_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (16 : Fin 32) from rfl,
    show View.ld (Val := Elt Ideal) (e' := .f32) x6 (Rect.unit (s := S32x1x128x128) ![17, 0, 0, 0] S1x1x128x128.size inb_S32x1x128x128_S1x1x128x128_17_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (17 : Fin 32) from rfl,
    show View.ld (Val := Elt Ideal) (e' := .f32) x6 (Rect.unit (s := S32x1x128x128) ![18, 0, 0, 0] S1x1x128x128.size inb_S32x1x128x128_S1x1x128x128_18_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (18 : Fin 32) from rfl,
    show View.ld (Val := Elt Ideal) (e' := .f32) x6 (Rect.unit (s := S32x1x128x128) ![19, 0, 0, 0] S1x1x128x128.size inb_S32x1x128x128_S1x1x128x128_19_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (19 : Fin 32) from rfl,
    show View.ld (Val := Elt Ideal) (e' := .f32) x6 (Rect.unit (s := S32x1x128x128) ![20, 0, 0, 0] S1x1x128x128.size inb_S32x1x128x128_S1x1x128x128_20_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (20 : Fin 32) from rfl,
    show View.ld (Val := Elt Ideal) (e' := .f32) x6 (Rect.unit (s := S32x1x128x128) ![21, 0, 0, 0] S1x1x128x128.size inb_S32x1x128x128_S1x1x128x128_21_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (21 : Fin 32) from rfl,
    show View.ld (Val := Elt Ideal) (e' := .f32) x6 (Rect.unit (s := S32x1x128x128) ![22, 0, 0, 0] S1x1x128x128.size inb_S32x1x128x128_S1x1x128x128_22_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (22 : Fin 32) from rfl,
    show View.ld (Val := Elt Ideal) (e' := .f32) x6 (Rect.unit (s := S32x1x128x128) ![23, 0, 0, 0] S1x1x128x128.size inb_S32x1x128x128_S1x1x128x128_23_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (23 : Fin 32) from rfl,
    show View.ld (Val := Elt Ideal) (e' := .f32) x6 (Rect.unit (s := S32x1x128x128) ![24, 0, 0, 0] S1x1x128x128.size inb_S32x1x128x128_S1x1x128x128_24_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (24 : Fin 32) from rfl,
    show View.ld (Val := Elt Ideal) (e' := .f32) x6 (Rect.unit (s := S32x1x128x128) ![25, 0, 0, 0] S1x1x128x128.size inb_S32x1x128x128_S1x1x128x128_25_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (25 : Fin 32) from rfl,
    show View.ld (Val := Elt Ideal) (e' := .f32) x6 (Rect.unit (s := S32x1x128x128) ![26, 0, 0, 0] S1x1x128x128.size inb_S32x1x128x128_S1x1x128x128_26_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (26 : Fin 32) from rfl,
    show View.ld (Val := Elt Ideal) (e' := .f32) x6 (Rect.unit (s := S32x1x128x128) ![27, 0, 0, 0] S1x1x128x128.size inb_S32x1x128x128_S1x1x128x128_27_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (27 : Fin 32) from rfl,
    show View.ld (Val := Elt Ideal) (e' := .f32) x6 (Rect.unit (s := S32x1x128x128) ![28, 0, 0, 0] S1x1x128x128.size inb_S32x1x128x128_S1x1x128x128_28_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (28 : Fin 32) from rfl,
    show View.ld (Val := Elt Ideal) (e' := .f32) x6 (Rect.unit (s := S32x1x128x128) ![29, 0, 0, 0] S1x1x128x128.size inb_S32x1x128x128_S1x1x128x128_29_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (29 : Fin 32) from rfl,
    show View.ld (Val := Elt Ideal) (e' := .f32) x6 (Rect.unit (s := S32x1x128x128) ![30, 0, 0, 0] S1x1x128x128.size inb_S32x1x128x128_S1x1x128x128_30_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (30 : Fin 32) from rfl,
    show View.ld (Val := Elt Ideal) (e' := .f32) x6 (Rect.unit (s := S32x1x128x128) ![31, 0, 0, 0] S1x1x128x128.size inb_S32x1x128x128_S1x1x128x128_31_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (31 : Fin 32) from rfl,
    show k0_pay296 (F := Ideal) (View.ld (Val := Elt Ideal) (e' := .f32) (k0_pay5 (F := Ideal)) (Rect.unit (s := S1x128x128) ![0, 0, 0] S1x128x128.size inb_S1x128x128_S1x128x128_0_0_0)) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).g 0 from rfl,
    show k0_pay297 (F := Ideal) (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).ebl (View.ld (Val := Elt Ideal) (e' := .f32) (k0_pay5 (F := Ideal)) (Rect.unit (s := S1x128x128) ![0, 0, 0] S1x128x128.size inb_S1x128x128_S1x128x128_0_0_0)) = mulf ((blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).g 0) (broadcastTo S128x128 (firstRow (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).ebl (31 : Fin 32)) broadcasts_S1x128_S128x128) from rfl,
    word1, word2, word12, word13, word14, word15, word16, word17, word18, word19, word20, word21, word22, word23, word24, word25, word26, word27, word28, word29, word30, word31, word32, word33, word34, word35, word36, word37, word38, word39, word40, word41, word42, word43, word44, word45, word46, word47, word48, word49, word50, word51, word52, word53, word54, word55, word56, word57, word58, word59, word60, word61, word62, word63, word64, word65, word66, word67, word68, word69, word70, word71, word72, word73, word74, word75, word76, word77, word78, word79, word80, word81, word82, word83, word84, word85, word86, word87, word88, word89, word90, word91, word92, word93, word94, word95, word96, word97, word98, word99, word100, word101, word102, word103, word104, word105, word106, word107, word108, word109, word110, word111, word112, word113, word114, word115, word116, word117, word118, word119, word120, word121, word122, word123, word124, word125, word126, word127, word128, word129, word130, word131, word132, word133, word134, word135, word136, word137, word138, word139, word140, word141, word142, word143, word144, word145, word146, word147, word148, word149, word150, word151, word152, word153, word154, word155, word156, word157, word158, word159, word160, word161, word162, word163, word164, word165, word166, word167, word168, word169, word170, word171, word172, word173, word174, word175, word176, word177, word178, word179, word180, word181, word182, word183, word184, word185, word186, word187, word188, word189, word190, word192, word193, word194, word195, word196, word197, word198, word199, word200, word201, word202, word203, word204, word205, word206, word207, word208, word209, word210, word211, word212, word213, word214, word215, word216, word217, word218, word219, word220, word221, word222, word223, word224, word225, word226, word227, word228, word229, word230, word231, word232, word233, word234, word235, word236, word237, word238, word239, word240, word241, word242, word243, word244, word245, word246, word247, word248, word249, word250, word251, word252, word253, word254, word255, word256, word257, word258, word259, word260, word261, word262, word263, word264, word265, word266, word267, word268, word269, word270, word271, word272, word273, word274, word275, word276, word277, word278, word279, word280, word281, word282, word283, word284, word285, word286, word287, word288, word289, word290, word291, word292, word293, word294, word295, word298, word299, word300, word301, word302, word303, word304, word305, word306, word307, word308, word309, word310, word311, word312, word313, word314, word315, word316, word317, word318, word319, word320, word321, word322, word323, word324, word325, word326, word327, word328, word329, word330, word331, word332, word333, word334, word335, word336, word337, word338, word339, word340, word341, word342, word343, word344, word345, word346, word347, word348, word349, word350, word351, word352, word353, word354, word355, word356, word357, word358, word359, word360, word361, word362, word363, word364, word365, word366, word367, word368, word369, word370, word371, word372, word373, word374, word375, word376, word377, word378, word379, word380, word381, word382, word383, word384, word385, word386, word387, word388, word389, word390, word391, word392, word393, word394, word395, word396, word397, word398, word399, word400, word401, word402, word403, word404, word405, word406, word407, word408, word409, word410, word411, word412, word413, word414, word415, word416, word417, word418, word419, word420, word421, word422, word423, word424, word425, word426, word427, word428, word429, word430, word431, word432, word433, word434, word435, word436, word437, word438, word439, word440, word441, word442, word443, word444, word445, word446, word447, word448, word449, word450, word451, word452, word453, word454, word455, word456, word457, word458, word459, word460, word461, word462, word463, word464, word465, word466, word467, word468, word469, word470, word471, word472, word473, word474, word475, word476, word477, word478, word479, word480, word481, word482, word483, word484, word485, word486, word487, word488, word489, word490, word491, word492, word493, word494, word495, word496, word497, word498, word499, word3, word4, word191, word500, word501, word502, word503]
  rfl

set_option maxHeartbeats 4000000 in
theorem out0_A_9_eq (c : Dev nD) (i : grid0.Coords) (arg2 : Memref sig .tc .vmem S1x1x2048x128 .f32) (harg2 : arg2.IsWhole) (arg3 : Memref sig .tc .vmem S1x1x2048x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S2x128 .f32) (harg6 : arg6.IsWhole) (arg7 : Memref sig .tc .vmem S1x128 .f32) (harg7 : arg7.IsWhole) (arg8 : Memref sig .tc .vmem S32x1x128x128 .f32) (harg8 : arg8.IsWhole) (arg9 : Memref sig .tc .vmem S2048x128 .f32) (harg9 : arg9.IsWhole) (arg10 : Memref sig .tc .vmem S4x2048x128 .bf16) (harg10 : arg10.IsWhole) (arg11 : Memref sig .tc .vmem S2x128 .f32) (harg11 : arg11.IsWhole) (arg12 : Memref sig .tc .vmem S1x1x128 .f32) (harg12 : arg12.IsWhole) (arg13 : Memref sig .tc .vmem S1x128x128 .f32) (harg13 : arg13.IsWhole) (hc0 : cond0_0 i)
    (x0 : Vec Ideal S1x1x2048x128 .f32) (x1 : Vec Ideal S1x1x2048x128 .f32) (x2 : Vec Ideal S1x1x2048x128 .f32) (x3 : Vec Ideal S1x1x2048x128 .f32) (x4 : Vec Ideal S2x128 .f32) (x5 : Vec Ideal S1x128 .f32) (x6 : Vec Ideal S32x1x128x128 .f32) (x7 : Vec Ideal S2048x128 .f32) : out0_A_9 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 = twoRows (blk' x0 x1 x2 x3 x4 x5 x6 x7 k0_pay5) (k0_pay6 (F := Ideal)) [⟨Rect.unit (s := S2x128) ![0, 0] S2x128.size inb_S2x128_S2x128_0_0, k0_pay6 (F := Ideal)⟩] := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7)]
  unfold kernelRun0_A
  dsimp only
  sl_unfold_words
  simp (config := { decide := true }) only [↓View.readCov_skip, View.readCov_fill, cat_eq, View.readAt_eq_ld, harg2.read_unread, harg3.read_unread, harg4.read_unread, harg5.read_unread, harg6.read_unread, harg7.read_unread, harg8.read_unread, harg9.read_unread, harg11.read_unread, harg12.read_unread, harg13.read_unread]
  simp (config := { decide := true }) only [show View.ld (Val := Elt Ideal) (e' := .f32) x0 (Rect.unit (s := S1x1x2048x128) ![0, 0, 0, 0] S1x1x2048x128.size inb_S1x1x2048x128_S1x1x2048x128_0_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).zq from rfl,
    show View.ld (Val := Elt Ideal) (e' := .f32) x1 (Rect.unit (s := S1x1x2048x128) ![0, 0, 0, 0] S1x1x2048x128.size inb_S1x1x2048x128_S1x1x2048x128_0_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).zf from rfl,
    show View.ld (Val := Elt Ideal) (e' := .f32) x2 (Rect.unit (s := S1x1x2048x128) ![0, 0, 0, 0] S1x1x2048x128.size inb_S1x1x2048x128_S1x1x2048x128_0_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).zi from rfl,
    show View.ld (Val := Elt Ideal) (e' := .f32) x3 (Rect.unit (s := S1x1x2048x128) ![0, 0, 0, 0] S1x1x2048x128.size inb_S1x1x2048x128_S1x1x2048x128_0_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).zg from rfl,
    show View.ld (Val := Elt Ideal) (e' := .f32) x4 (Rect.unit (s := S2x128) ![0, 0] S2x128.size inb_S2x128_S2x128_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).lg from rfl,
    show View.ld (Val := Elt Ideal) (e' := .f32) x5 (Rect.unit (s := S1x128) ![0, 0] S1x128.size inb_S1x128_S1x128_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).gn from rfl,
    show View.ld (Val := Elt Ideal) (e' := .f32) x7 (Rect.unit (s := S2048x128) ![0, 0] S2048x128.size inb_S2048x128_S2048x128_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).dy from rfl,
    show View.ld (Val := Elt Ideal) (e' := .f32) x6 (Rect.unit (s := S32x1x128x128) ![0, 0, 0, 0] S1x1x128x128.size inb_S32x1x128x128_S1x1x128x128_0_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (0 : Fin 32) from rfl,
    show View.ld (Val := Elt Ideal) (e' := .f32) x6 (Rect.unit (s := S32x1x128x128) ![1, 0, 0, 0] S1x1x128x128.size inb_S32x1x128x128_S1x1x128x128_1_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (1 : Fin 32) from rfl,
    show View.ld (Val := Elt Ideal) (e' := .f32) x6 (Rect.unit (s := S32x1x128x128) ![2, 0, 0, 0] S1x1x128x128.size inb_S32x1x128x128_S1x1x128x128_2_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (2 : Fin 32) from rfl,
    show View.ld (Val := Elt Ideal) (e' := .f32) x6 (Rect.unit (s := S32x1x128x128) ![3, 0, 0, 0] S1x1x128x128.size inb_S32x1x128x128_S1x1x128x128_3_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (3 : Fin 32) from rfl,
    show View.ld (Val := Elt Ideal) (e' := .f32) x6 (Rect.unit (s := S32x1x128x128) ![4, 0, 0, 0] S1x1x128x128.size inb_S32x1x128x128_S1x1x128x128_4_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (4 : Fin 32) from rfl,
    show View.ld (Val := Elt Ideal) (e' := .f32) x6 (Rect.unit (s := S32x1x128x128) ![5, 0, 0, 0] S1x1x128x128.size inb_S32x1x128x128_S1x1x128x128_5_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (5 : Fin 32) from rfl,
    show View.ld (Val := Elt Ideal) (e' := .f32) x6 (Rect.unit (s := S32x1x128x128) ![6, 0, 0, 0] S1x1x128x128.size inb_S32x1x128x128_S1x1x128x128_6_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (6 : Fin 32) from rfl,
    show View.ld (Val := Elt Ideal) (e' := .f32) x6 (Rect.unit (s := S32x1x128x128) ![7, 0, 0, 0] S1x1x128x128.size inb_S32x1x128x128_S1x1x128x128_7_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (7 : Fin 32) from rfl,
    show View.ld (Val := Elt Ideal) (e' := .f32) x6 (Rect.unit (s := S32x1x128x128) ![8, 0, 0, 0] S1x1x128x128.size inb_S32x1x128x128_S1x1x128x128_8_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (8 : Fin 32) from rfl,
    show View.ld (Val := Elt Ideal) (e' := .f32) x6 (Rect.unit (s := S32x1x128x128) ![9, 0, 0, 0] S1x1x128x128.size inb_S32x1x128x128_S1x1x128x128_9_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (9 : Fin 32) from rfl,
    show View.ld (Val := Elt Ideal) (e' := .f32) x6 (Rect.unit (s := S32x1x128x128) ![10, 0, 0, 0] S1x1x128x128.size inb_S32x1x128x128_S1x1x128x128_10_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (10 : Fin 32) from rfl,
    show View.ld (Val := Elt Ideal) (e' := .f32) x6 (Rect.unit (s := S32x1x128x128) ![11, 0, 0, 0] S1x1x128x128.size inb_S32x1x128x128_S1x1x128x128_11_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (11 : Fin 32) from rfl,
    show View.ld (Val := Elt Ideal) (e' := .f32) x6 (Rect.unit (s := S32x1x128x128) ![12, 0, 0, 0] S1x1x128x128.size inb_S32x1x128x128_S1x1x128x128_12_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (12 : Fin 32) from rfl,
    show View.ld (Val := Elt Ideal) (e' := .f32) x6 (Rect.unit (s := S32x1x128x128) ![13, 0, 0, 0] S1x1x128x128.size inb_S32x1x128x128_S1x1x128x128_13_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (13 : Fin 32) from rfl,
    show View.ld (Val := Elt Ideal) (e' := .f32) x6 (Rect.unit (s := S32x1x128x128) ![14, 0, 0, 0] S1x1x128x128.size inb_S32x1x128x128_S1x1x128x128_14_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (14 : Fin 32) from rfl,
    show View.ld (Val := Elt Ideal) (e' := .f32) x6 (Rect.unit (s := S32x1x128x128) ![15, 0, 0, 0] S1x1x128x128.size inb_S32x1x128x128_S1x1x128x128_15_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (15 : Fin 32) from rfl,
    show View.ld (Val := Elt Ideal) (e' := .f32) x6 (Rect.unit (s := S32x1x128x128) ![16, 0, 0, 0] S1x1x128x128.size inb_S32x1x128x128_S1x1x128x128_16_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (16 : Fin 32) from rfl,
    show View.ld (Val := Elt Ideal) (e' := .f32) x6 (Rect.unit (s := S32x1x128x128) ![17, 0, 0, 0] S1x1x128x128.size inb_S32x1x128x128_S1x1x128x128_17_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (17 : Fin 32) from rfl,
    show View.ld (Val := Elt Ideal) (e' := .f32) x6 (Rect.unit (s := S32x1x128x128) ![18, 0, 0, 0] S1x1x128x128.size inb_S32x1x128x128_S1x1x128x128_18_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (18 : Fin 32) from rfl,
    show View.ld (Val := Elt Ideal) (e' := .f32) x6 (Rect.unit (s := S32x1x128x128) ![19, 0, 0, 0] S1x1x128x128.size inb_S32x1x128x128_S1x1x128x128_19_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (19 : Fin 32) from rfl,
    show View.ld (Val := Elt Ideal) (e' := .f32) x6 (Rect.unit (s := S32x1x128x128) ![20, 0, 0, 0] S1x1x128x128.size inb_S32x1x128x128_S1x1x128x128_20_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (20 : Fin 32) from rfl,
    show View.ld (Val := Elt Ideal) (e' := .f32) x6 (Rect.unit (s := S32x1x128x128) ![21, 0, 0, 0] S1x1x128x128.size inb_S32x1x128x128_S1x1x128x128_21_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (21 : Fin 32) from rfl,
    show View.ld (Val := Elt Ideal) (e' := .f32) x6 (Rect.unit (s := S32x1x128x128) ![22, 0, 0, 0] S1x1x128x128.size inb_S32x1x128x128_S1x1x128x128_22_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (22 : Fin 32) from rfl,
    show View.ld (Val := Elt Ideal) (e' := .f32) x6 (Rect.unit (s := S32x1x128x128) ![23, 0, 0, 0] S1x1x128x128.size inb_S32x1x128x128_S1x1x128x128_23_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (23 : Fin 32) from rfl,
    show View.ld (Val := Elt Ideal) (e' := .f32) x6 (Rect.unit (s := S32x1x128x128) ![24, 0, 0, 0] S1x1x128x128.size inb_S32x1x128x128_S1x1x128x128_24_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (24 : Fin 32) from rfl,
    show View.ld (Val := Elt Ideal) (e' := .f32) x6 (Rect.unit (s := S32x1x128x128) ![25, 0, 0, 0] S1x1x128x128.size inb_S32x1x128x128_S1x1x128x128_25_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (25 : Fin 32) from rfl,
    show View.ld (Val := Elt Ideal) (e' := .f32) x6 (Rect.unit (s := S32x1x128x128) ![26, 0, 0, 0] S1x1x128x128.size inb_S32x1x128x128_S1x1x128x128_26_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (26 : Fin 32) from rfl,
    show View.ld (Val := Elt Ideal) (e' := .f32) x6 (Rect.unit (s := S32x1x128x128) ![27, 0, 0, 0] S1x1x128x128.size inb_S32x1x128x128_S1x1x128x128_27_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (27 : Fin 32) from rfl,
    show View.ld (Val := Elt Ideal) (e' := .f32) x6 (Rect.unit (s := S32x1x128x128) ![28, 0, 0, 0] S1x1x128x128.size inb_S32x1x128x128_S1x1x128x128_28_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (28 : Fin 32) from rfl,
    show View.ld (Val := Elt Ideal) (e' := .f32) x6 (Rect.unit (s := S32x1x128x128) ![29, 0, 0, 0] S1x1x128x128.size inb_S32x1x128x128_S1x1x128x128_29_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (29 : Fin 32) from rfl,
    show View.ld (Val := Elt Ideal) (e' := .f32) x6 (Rect.unit (s := S32x1x128x128) ![30, 0, 0, 0] S1x1x128x128.size inb_S32x1x128x128_S1x1x128x128_30_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (30 : Fin 32) from rfl,
    show View.ld (Val := Elt Ideal) (e' := .f32) x6 (Rect.unit (s := S32x1x128x128) ![31, 0, 0, 0] S1x1x128x128.size inb_S32x1x128x128_S1x1x128x128_31_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (31 : Fin 32) from rfl,
    show k0_pay296 (F := Ideal) (View.ld (Val := Elt Ideal) (e' := .f32) (k0_pay5 (F := Ideal)) (Rect.unit (s := S1x128x128) ![0, 0, 0] S1x128x128.size inb_S1x128x128_S1x128x128_0_0_0)) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).g 0 from rfl,
    show k0_pay297 (F := Ideal) (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).ebl (View.ld (Val := Elt Ideal) (e' := .f32) (k0_pay5 (F := Ideal)) (Rect.unit (s := S1x128x128) ![0, 0, 0] S1x128x128.size inb_S1x128x128_S1x128x128_0_0_0)) = mulf ((blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).g 0) (broadcastTo S128x128 (firstRow (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).ebl (31 : Fin 32)) broadcasts_S1x128_S128x128) from rfl,
    word1, word2, word12, word13, word14, word15, word16, word17, word18, word19, word20, word21, word22, word23, word24, word25, word26, word27, word28, word29, word30, word31, word32, word33, word34, word35, word36, word37, word38, word39, word40, word41, word42, word43, word44, word45, word46, word47, word48, word49, word50, word51, word52, word53, word54, word55, word56, word57, word58, word59, word60, word61, word62, word63, word64, word65, word66, word67, word68, word69, word70, word71, word72, word73, word74, word75, word76, word77, word78, word79, word80, word81, word82, word83, word84, word85, word86, word87, word88, word89, word90, word91, word92, word93, word94, word95, word96, word97, word98, word99, word100, word101, word102, word103, word104, word105, word106, word107, word108, word109, word110, word111, word112, word113, word114, word115, word116, word117, word118, word119, word120, word121, word122, word123, word124, word125, word126, word127, word128, word129, word130, word131, word132, word133, word134, word135, word136, word137, word138, word139, word140, word141, word142, word143, word144, word145, word146, word147, word148, word149, word150, word151, word152, word153, word154, word155, word156, word157, word158, word159, word160, word161, word162, word163, word164, word165, word166, word167, word168, word169, word170, word171, word172, word173, word174, word175, word176, word177, word178, word179, word180, word181, word182, word183, word184, word185, word186, word187, word188, word189, word190, word192, word193, word194, word195, word196, word197, word198, word199, word200, word201, word202, word203, word204, word205, word206, word207, word208, word209, word210, word211, word212, word213, word214, word215, word216, word217, word218, word219, word220, word221, word222, word223, word224, word225, word226, word227, word228, word229, word230, word231, word232, word233, word234, word235, word236, word237, word238, word239, word240, word241, word242, word243, word244, word245, word246, word247, word248, word249, word250, word251, word252, word253, word254, word255, word256, word257, word258, word259, word260, word261, word262, word263, word264, word265, word266, word267, word268, word269, word270, word271, word272, word273, word274, word275, word276, word277, word278, word279, word280, word281, word282, word283, word284, word285, word286, word287, word288, word289, word290, word291, word292, word293, word294, word295, word298, word299, word300, word301, word302, word303, word304, word305, word306, word307, word308, word309, word310, word311, word312, word313, word314, word315, word316, word317, word318, word319, word320, word321, word322, word323, word324, word325, word326, word327, word328, word329, word330, word331, word332, word333, word334, word335, word336, word337, word338, word339, word340, word341, word342, word343, word344, word345, word346, word347, word348, word349, word350, word351, word352, word353, word354, word355, word356, word357, word358, word359, word360, word361, word362, word363, word364, word365, word366, word367, word368, word369, word370, word371, word372, word373, word374, word375, word376, word377, word378, word379, word380, word381, word382, word383, word384, word385, word386, word387, word388, word389, word390, word391, word392, word393, word394, word395, word396, word397, word398, word399, word400, word401, word402, word403, word404, word405, word406, word407, word408, word409, word410, word411, word412, word413, word414, word415, word416, word417, word418, word419, word420, word421, word422, word423, word424, word425, word426, word427, word428, word429, word430, word431, word432, word433, word434, word435, word436, word437, word438, word439, word440, word441, word442, word443, word444, word445, word446, word447, word448, word449, word450, word451, word452, word453, word454, word455, word456, word457, word458, word459, word460, word461, word462, word463, word464, word465, word466, word467, word468, word469, word470, word471, word472, word473, word474, word475, word476, word477, word478, word479, word480, word481, word482, word483, word484, word485, word486, word487, word488, word489, word490, word491, word492, word493, word494, word495, word496, word497, word498, word499, word3, word4, word191, word500, word501, word502, word503]
  rfl

set_option maxHeartbeats 4000000 in
theorem out0_A_10_eq (c : Dev nD) (i : grid0.Coords) (arg2 : Memref sig .tc .vmem S1x1x2048x128 .f32) (harg2 : arg2.IsWhole) (arg3 : Memref sig .tc .vmem S1x1x2048x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S2x128 .f32) (harg6 : arg6.IsWhole) (arg7 : Memref sig .tc .vmem S1x128 .f32) (harg7 : arg7.IsWhole) (arg8 : Memref sig .tc .vmem S32x1x128x128 .f32) (harg8 : arg8.IsWhole) (arg9 : Memref sig .tc .vmem S2048x128 .f32) (harg9 : arg9.IsWhole) (arg10 : Memref sig .tc .vmem S4x2048x128 .bf16) (harg10 : arg10.IsWhole) (arg11 : Memref sig .tc .vmem S2x128 .f32) (harg11 : arg11.IsWhole) (arg12 : Memref sig .tc .vmem S1x1x128 .f32) (harg12 : arg12.IsWhole) (arg13 : Memref sig .tc .vmem S1x128x128 .f32) (harg13 : arg13.IsWhole) (hc0 : cond0_0 i)
    (x0 : Vec Ideal S1x1x2048x128 .f32) (x1 : Vec Ideal S1x1x2048x128 .f32) (x2 : Vec Ideal S1x1x2048x128 .f32) (x3 : Vec Ideal S1x1x2048x128 .f32) (x4 : Vec Ideal S2x128 .f32) (x5 : Vec Ideal S1x128 .f32) (x6 : Vec Ideal S32x1x128x128 .f32) (x7 : Vec Ideal S2048x128 .f32) : out0_A_10 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 = gainRow (blk' x0 x1 x2 x3 x4 x5 x6 x7 k0_pay5) (k0_pay7 (F := Ideal)) := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7)]
  unfold kernelRun0_A
  dsimp only
  sl_unfold_words
  simp (config := { decide := true }) only [↓View.readCov_skip, View.readCov_fill, cat_eq, View.readAt_eq_ld, harg2.read_unread, harg3.read_unread, harg4.read_unread, harg5.read_unread, harg6.read_unread, harg7.read_unread, harg8.read_unread, harg9.read_unread, harg11.read_unread, harg12.read_unread, harg13.read_unread]
  simp (config := { decide := true }) only [show View.ld (Val := Elt Ideal) (e' := .f32) x0 (Rect.unit (s := S1x1x2048x128) ![0, 0, 0, 0] S1x1x2048x128.size inb_S1x1x2048x128_S1x1x2048x128_0_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).zq from rfl,
    show View.ld (Val := Elt Ideal) (e' := .f32) x1 (Rect.unit (s := S1x1x2048x128) ![0, 0, 0, 0] S1x1x2048x128.size inb_S1x1x2048x128_S1x1x2048x128_0_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).zf from rfl,
    show View.ld (Val := Elt Ideal) (e' := .f32) x2 (Rect.unit (s := S1x1x2048x128) ![0, 0, 0, 0] S1x1x2048x128.size inb_S1x1x2048x128_S1x1x2048x128_0_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).zi from rfl,
    show View.ld (Val := Elt Ideal) (e' := .f32) x3 (Rect.unit (s := S1x1x2048x128) ![0, 0, 0, 0] S1x1x2048x128.size inb_S1x1x2048x128_S1x1x2048x128_0_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).zg from rfl,
    show View.ld (Val := Elt Ideal) (e' := .f32) x4 (Rect.unit (s := S2x128) ![0, 0] S2x128.size inb_S2x128_S2x128_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).lg from rfl,
    show View.ld (Val := Elt Ideal) (e' := .f32) x5 (Rect.unit (s := S1x128) ![0, 0] S1x128.size inb_S1x128_S1x128_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).gn from rfl,
    show View.ld (Val := Elt Ideal) (e' := .f32) x7 (Rect.unit (s := S2048x128) ![0, 0] S2048x128.size inb_S2048x128_S2048x128_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).dy from rfl,
    show View.ld (Val := Elt Ideal) (e' := .f32) x6 (Rect.unit (s := S32x1x128x128) ![0, 0, 0, 0] S1x1x128x128.size inb_S32x1x128x128_S1x1x128x128_0_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (0 : Fin 32) from rfl,
    show View.ld (Val := Elt Ideal) (e' := .f32) x6 (Rect.unit (s := S32x1x128x128) ![1, 0, 0, 0] S1x1x128x128.size inb_S32x1x128x128_S1x1x128x128_1_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (1 : Fin 32) from rfl,
    show View.ld (Val := Elt Ideal) (e' := .f32) x6 (Rect.unit (s := S32x1x128x128) ![2, 0, 0, 0] S1x1x128x128.size inb_S32x1x128x128_S1x1x128x128_2_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (2 : Fin 32) from rfl,
    show View.ld (Val := Elt Ideal) (e' := .f32) x6 (Rect.unit (s := S32x1x128x128) ![3, 0, 0, 0] S1x1x128x128.size inb_S32x1x128x128_S1x1x128x128_3_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (3 : Fin 32) from rfl,
    show View.ld (Val := Elt Ideal) (e' := .f32) x6 (Rect.unit (s := S32x1x128x128) ![4, 0, 0, 0] S1x1x128x128.size inb_S32x1x128x128_S1x1x128x128_4_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (4 : Fin 32) from rfl,
    show View.ld (Val := Elt Ideal) (e' := .f32) x6 (Rect.unit (s := S32x1x128x128) ![5, 0, 0, 0] S1x1x128x128.size inb_S32x1x128x128_S1x1x128x128_5_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (5 : Fin 32) from rfl,
    show View.ld (Val := Elt Ideal) (e' := .f32) x6 (Rect.unit (s := S32x1x128x128) ![6, 0, 0, 0] S1x1x128x128.size inb_S32x1x128x128_S1x1x128x128_6_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (6 : Fin 32) from rfl,
    show View.ld (Val := Elt Ideal) (e' := .f32) x6 (Rect.unit (s := S32x1x128x128) ![7, 0, 0, 0] S1x1x128x128.size inb_S32x1x128x128_S1x1x128x128_7_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (7 : Fin 32) from rfl,
    show View.ld (Val := Elt Ideal) (e' := .f32) x6 (Rect.unit (s := S32x1x128x128) ![8, 0, 0, 0] S1x1x128x128.size inb_S32x1x128x128_S1x1x128x128_8_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (8 : Fin 32) from rfl,
    show View.ld (Val := Elt Ideal) (e' := .f32) x6 (Rect.unit (s := S32x1x128x128) ![9, 0, 0, 0] S1x1x128x128.size inb_S32x1x128x128_S1x1x128x128_9_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (9 : Fin 32) from rfl,
    show View.ld (Val := Elt Ideal) (e' := .f32) x6 (Rect.unit (s := S32x1x128x128) ![10, 0, 0, 0] S1x1x128x128.size inb_S32x1x128x128_S1x1x128x128_10_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (10 : Fin 32) from rfl,
    show View.ld (Val := Elt Ideal) (e' := .f32) x6 (Rect.unit (s := S32x1x128x128) ![11, 0, 0, 0] S1x1x128x128.size inb_S32x1x128x128_S1x1x128x128_11_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (11 : Fin 32) from rfl,
    show View.ld (Val := Elt Ideal) (e' := .f32) x6 (Rect.unit (s := S32x1x128x128) ![12, 0, 0, 0] S1x1x128x128.size inb_S32x1x128x128_S1x1x128x128_12_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (12 : Fin 32) from rfl,
    show View.ld (Val := Elt Ideal) (e' := .f32) x6 (Rect.unit (s := S32x1x128x128) ![13, 0, 0, 0] S1x1x128x128.size inb_S32x1x128x128_S1x1x128x128_13_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (13 : Fin 32) from rfl,
    show View.ld (Val := Elt Ideal) (e' := .f32) x6 (Rect.unit (s := S32x1x128x128) ![14, 0, 0, 0] S1x1x128x128.size inb_S32x1x128x128_S1x1x128x128_14_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (14 : Fin 32) from rfl,
    show View.ld (Val := Elt Ideal) (e' := .f32) x6 (Rect.unit (s := S32x1x128x128) ![15, 0, 0, 0] S1x1x128x128.size inb_S32x1x128x128_S1x1x128x128_15_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (15 : Fin 32) from rfl,
    show View.ld (Val := Elt Ideal) (e' := .f32) x6 (Rect.unit (s := S32x1x128x128) ![16, 0, 0, 0] S1x1x128x128.size inb_S32x1x128x128_S1x1x128x128_16_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (16 : Fin 32) from rfl,
    show View.ld (Val := Elt Ideal) (e' := .f32) x6 (Rect.unit (s := S32x1x128x128) ![17, 0, 0, 0] S1x1x128x128.size inb_S32x1x128x128_S1x1x128x128_17_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (17 : Fin 32) from rfl,
    show View.ld (Val := Elt Ideal) (e' := .f32) x6 (Rect.unit (s := S32x1x128x128) ![18, 0, 0, 0] S1x1x128x128.size inb_S32x1x128x128_S1x1x128x128_18_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (18 : Fin 32) from rfl,
    show View.ld (Val := Elt Ideal) (e' := .f32) x6 (Rect.unit (s := S32x1x128x128) ![19, 0, 0, 0] S1x1x128x128.size inb_S32x1x128x128_S1x1x128x128_19_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (19 : Fin 32) from rfl,
    show View.ld (Val := Elt Ideal) (e' := .f32) x6 (Rect.unit (s := S32x1x128x128) ![20, 0, 0, 0] S1x1x128x128.size inb_S32x1x128x128_S1x1x128x128_20_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (20 : Fin 32) from rfl,
    show View.ld (Val := Elt Ideal) (e' := .f32) x6 (Rect.unit (s := S32x1x128x128) ![21, 0, 0, 0] S1x1x128x128.size inb_S32x1x128x128_S1x1x128x128_21_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (21 : Fin 32) from rfl,
    show View.ld (Val := Elt Ideal) (e' := .f32) x6 (Rect.unit (s := S32x1x128x128) ![22, 0, 0, 0] S1x1x128x128.size inb_S32x1x128x128_S1x1x128x128_22_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (22 : Fin 32) from rfl,
    show View.ld (Val := Elt Ideal) (e' := .f32) x6 (Rect.unit (s := S32x1x128x128) ![23, 0, 0, 0] S1x1x128x128.size inb_S32x1x128x128_S1x1x128x128_23_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (23 : Fin 32) from rfl,
    show View.ld (Val := Elt Ideal) (e' := .f32) x6 (Rect.unit (s := S32x1x128x128) ![24, 0, 0, 0] S1x1x128x128.size inb_S32x1x128x128_S1x1x128x128_24_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (24 : Fin 32) from rfl,
    show View.ld (Val := Elt Ideal) (e' := .f32) x6 (Rect.unit (s := S32x1x128x128) ![25, 0, 0, 0] S1x1x128x128.size inb_S32x1x128x128_S1x1x128x128_25_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (25 : Fin 32) from rfl,
    show View.ld (Val := Elt Ideal) (e' := .f32) x6 (Rect.unit (s := S32x1x128x128) ![26, 0, 0, 0] S1x1x128x128.size inb_S32x1x128x128_S1x1x128x128_26_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (26 : Fin 32) from rfl,
    show View.ld (Val := Elt Ideal) (e' := .f32) x6 (Rect.unit (s := S32x1x128x128) ![27, 0, 0, 0] S1x1x128x128.size inb_S32x1x128x128_S1x1x128x128_27_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (27 : Fin 32) from rfl,
    show View.ld (Val := Elt Ideal) (e' := .f32) x6 (Rect.unit (s := S32x1x128x128) ![28, 0, 0, 0] S1x1x128x128.size inb_S32x1x128x128_S1x1x128x128_28_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (28 : Fin 32) from rfl,
    show View.ld (Val := Elt Ideal) (e' := .f32) x6 (Rect.unit (s := S32x1x128x128) ![29, 0, 0, 0] S1x1x128x128.size inb_S32x1x128x128_S1x1x128x128_29_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (29 : Fin 32) from rfl,
    show View.ld (Val := Elt Ideal) (e' := .f32) x6 (Rect.unit (s := S32x1x128x128) ![30, 0, 0, 0] S1x1x128x128.size inb_S32x1x128x128_S1x1x128x128_30_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (30 : Fin 32) from rfl,
    show View.ld (Val := Elt Ideal) (e' := .f32) x6 (Rect.unit (s := S32x1x128x128) ![31, 0, 0, 0] S1x1x128x128.size inb_S32x1x128x128_S1x1x128x128_31_0_0_0) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).st (31 : Fin 32) from rfl,
    show k0_pay296 (F := Ideal) (View.ld (Val := Elt Ideal) (e' := .f32) (k0_pay5 (F := Ideal)) (Rect.unit (s := S1x128x128) ![0, 0, 0] S1x128x128.size inb_S1x128x128_S1x128x128_0_0_0)) = (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).g 0 from rfl,
    show k0_pay297 (F := Ideal) (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).ebl (View.ld (Val := Elt Ideal) (e' := .f32) (k0_pay5 (F := Ideal)) (Rect.unit (s := S1x128x128) ![0, 0, 0] S1x128x128.size inb_S1x128x128_S1x128x128_0_0_0)) = mulf ((blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).g 0) (broadcastTo S128x128 (firstRow (blk x0 x1 x2 x3 x4 x5 x6 x7 (View.ld (Val := Elt Ideal) (e' := .f32) (k0_pay5 (F := Ideal)) (Rect.unit (s := S1x128x128) ![0, 0, 0] S1x128x128.size inb_S1x128x128_S1x128x128_0_0_0))).ebl (31 : Fin 32)) broadcasts_S1x128_S128x128) from rfl,
    word1, word2, word12, word13, word14, word15, word16, word17, word18, word19, word20, word21, word22, word23, word24, word25, word26, word27, word28, word29, word30, word31, word32, word33, word34, word35, word36, word37, word38, word39, word40, word41, word42, word43, word44, word45, word46, word47, word48, word49, word50, word51, word52, word53, word54, word55, word56, word57, word58, word59, word60, word61, word62, word63, word64, word65, word66, word67, word68, word69, word70, word71, word72, word73, word74, word75, word76, word77, word78, word79, word80, word81, word82, word83, word84, word85, word86, word87, word88, word89, word90, word91, word92, word93, word94, word95, word96, word97, word98, word99, word100, word101, word102, word103, word104, word105, word106, word107, word108, word109, word110, word111, word112, word113, word114, word115, word116, word117, word118, word119, word120, word121, word122, word123, word124, word125, word126, word127, word128, word129, word130, word131, word132, word133, word134, word135, word136, word137, word138, word139, word140, word141, word142, word143, word144, word145, word146, word147, word148, word149, word150, word151, word152, word153, word154, word155, word156, word157, word158, word159, word160, word161, word162, word163, word164, word165, word166, word167, word168, word169, word170, word171, word172, word173, word174, word175, word176, word177, word178, word179, word180, word181, word182, word183, word184, word185, word186, word187, word188, word189, word190, word192, word193, word194, word195, word196, word197, word198, word199, word200, word201, word202, word203, word204, word205, word206, word207, word208, word209, word210, word211, word212, word213, word214, word215, word216, word217, word218, word219, word220, word221, word222, word223, word224, word225, word226, word227, word228, word229, word230, word231, word232, word233, word234, word235, word236, word237, word238, word239, word240, word241, word242, word243, word244, word245, word246, word247, word248, word249, word250, word251, word252, word253, word254, word255, word256, word257, word258, word259, word260, word261, word262, word263, word264, word265, word266, word267, word268, word269, word270, word271, word272, word273, word274, word275, word276, word277, word278, word279, word280, word281, word282, word283, word284, word285, word286, word287, word288, word289, word290, word291, word292, word293, word294, word295, word298, word299, word300, word301, word302, word303, word304, word305, word306, word307, word308, word309, word310, word311, word312, word313, word314, word315, word316, word317, word318, word319, word320, word321, word322, word323, word324, word325, word326, word327, word328, word329, word330, word331, word332, word333, word334, word335, word336, word337, word338, word339, word340, word341, word342, word343, word344, word345, word346, word347, word348, word349, word350, word351, word352, word353, word354, word355, word356, word357, word358, word359, word360, word361, word362, word363, word364, word365, word366, word367, word368, word369, word370, word371, word372, word373, word374, word375, word376, word377, word378, word379, word380, word381, word382, word383, word384, word385, word386, word387, word388, word389, word390, word391, word392, word393, word394, word395, word396, word397, word398, word399, word400, word401, word402, word403, word404, word405, word406, word407, word408, word409, word410, word411, word412, word413, word414, word415, word416, word417, word418, word419, word420, word421, word422, word423, word424, word425, word426, word427, word428, word429, word430, word431, word432, word433, word434, word435, word436, word437, word438, word439, word440, word441, word442, word443, word444, word445, word446, word447, word448, word449, word450, word451, word452, word453, word454, word455, word456, word457, word458, word459, word460, word461, word462, word463, word464, word465, word466, word467, word468, word469, word470, word471, word472, word473, word474, word475, word476, word477, word478, word479, word480, word481, word482, word483, word484, word485, word486, word487, word488, word489, word490, word491, word492, word493, word494, word495, word496, word497, word498, word499, word3, word4, word191, word500, word501, word502, word503]
  rw [View.canon_cons_unit_lit _ _ _ (by decide)]
  rfl

end Cert.Hgrn
-- ==== Proof.PointB.lean ====
/-
  What a grid point leaves in its three outputs
  and in the state's gradient, in the words of those blocks.
-/
module

public import proofs.«01_k».proof.Proof.Blocks

@[expose] public section
set_option maxRecDepth 16384
noncomputable section
namespace Cert.Hgrn
open Cert.KernelIdeal Cert.KernelIdeal.Gen
open Idealize.ShloMosaic Idealize.ShloMosaic.TcCoe Idealize.ShloMosaic.Tactic

set_option maxHeartbeats 4000000 in
theorem sout0_B_0_eq (c : Dev nD) (i : grid0.Coords) (arg2 : Memref sig .tc .vmem S1x1x2048x128 .f32) (harg2 : arg2.IsWhole) (arg3 : Memref sig .tc .vmem S1x1x2048x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S2x128 .f32) (harg6 : arg6.IsWhole) (arg7 : Memref sig .tc .vmem S1x128 .f32) (harg7 : arg7.IsWhole) (arg8 : Memref sig .tc .vmem S32x1x128x128 .f32) (harg8 : arg8.IsWhole) (arg9 : Memref sig .tc .vmem S2048x128 .f32) (harg9 : arg9.IsWhole) (arg10 : Memref sig .tc .vmem S4x2048x128 .bf16) (harg10 : arg10.IsWhole) (arg11 : Memref sig .tc .vmem S2x128 .f32) (harg11 : arg11.IsWhole) (arg12 : Memref sig .tc .vmem S1x1x128 .f32) (harg12 : arg12.IsWhole) (arg13 : Memref sig .tc .vmem S1x128x128 .f32) (harg13 : arg13.IsWhole) (hc0 : ¬cond0_0 i)
    (x0 : Vec Ideal S1x1x2048x128 .f32) (x1 : Vec Ideal S1x1x2048x128 .f32) (x2 : Vec Ideal S1x1x2048x128 .f32) (x3 : Vec Ideal S1x1x2048x128 .f32) (x4 : Vec Ideal S2x128 .f32) (x5 : Vec Ideal S1x128 .f32) (x6 : Vec Ideal S32x1x128x128 .f32) (x7 : Vec Ideal S2048x128 .f32) (xo9 : Vec Ideal S2x128 .f32) (xo10 : Vec Ideal S1x1x128 .f32) (xs0 : Vec Ideal S1x128x128 .f32) : sout0_B_0 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo9 xo10 xs0 = (blk' x0 x1 x2 x3 x4 x5 x6 x7 xs0).gOut := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo9 xo10 xs0)]
  unfold kernelRun0_B
  dsimp only
  sl_unfold_words
  simp (config := { decide := true }) only [↓View.readCov_skip, View.readCov_fill, cat_eq, View.readAt_eq_ld, harg2.read_unread, harg3.read_unread, harg4.read_unread, harg5.read_unread, harg6.read_unread, harg7.read_unread, harg8.read_unread, harg9.read_unread, harg11.read_unread, harg12.read_unread, harg13.read_unread]
  simp (config := { decide := true }) only [show View.ld (Val := Elt Ideal) (e' := .f32) x0 (Rect.unit (s := S1x1x2048x128) ![0, 0, 0, 0] S1x1x2048x128.size inb_S1x1x2048x128_S1x1x2048x128_0_0_0_0) = (blk x0 x1 x2 x3 x4 x5 x6 x7 (View.ld (Val := Elt Ideal) (e' := .f32) xs0 (Rect.unit (s := S1x128x128) ![0, 0, 0] S1x128x128.size inb_S1x128x128_S1x128x128_0_0_0))).zq from rfl,
    show View.ld (Val := Elt Ideal) (e' := .f32) x1 (Rect.unit (s := S1x1x2048x128) ![0, 0, 0, 0] S1x1x2048x128.size inb_S1x1x2048x128_S1x1x2048x128_0_0_0_0) = (blk x0 x1 x2 x3 x4 x5 x6 x7 (View.ld (Val := Elt Ideal) (e' := .f32) xs0 (Rect.unit (s := S1x128x128) ![0, 0, 0] S1x128x128.size inb_S1x128x128_S1x128x128_0_0_0))).zf from rfl,
    show View.ld (Val := Elt Ideal) (e' := .f32) x2 (Rect.unit (s := S1x1x2048x128) ![0, 0, 0, 0] S1x1x2048x128.size inb_S1x1x2048x128_S1x1x2048x128_0_0_0_0) = (blk x0 x1 x2 x3 x4 x5 x6 x7 (View.ld (Val := Elt Ideal) (e' := .f32) xs0 (Rect.unit (s := S1x128x128) ![0, 0, 0] S1x128x128.size inb_S1x128x128_S1x128x128_0_0_0))).zi from rfl,
    show View.ld (Val := Elt Ideal) (e' := .f32) x3 (Rect.unit (s := S1x1x2048x128) ![0, 0, 0, 0] S1x1x2048x128.size inb_S1x1x2048x128_S1x1x2048x128_0_0_0_0) = (blk x0 x1 x2 x3 x4 x5 x6 x7 (View.ld (Val := Elt Ideal) (e' := .f32) xs0 (Rect.unit (s := S1x128x128) ![0, 0, 0] S1x128x128.size inb_S1x128x128_S1x128x128_0_0_0))).zg from rfl,
    show View.ld (Val := Elt Ideal) (e' := .f32) x4 (Rect.unit (s := S2x128) ![0, 0] S2x128.size inb_S2x128_S2x128_0_0) = (blk x0 x1 x2 x3 x4 x5 x6 x7 (View.ld (Val := Elt Ideal) (e' := .f32) xs0 (Rect.unit (s := S1x128x128) ![0, 0, 0] S1x128x128.size inb_S1x128x128_S1x128x128_0_0_0))).lg from rfl,
    show View.ld (Val := Elt Ideal) (e' := .f32) x5 (Rect.unit (s := S1x128) ![0, 0] S1x128.size inb_S1x128_S1x128_0_0) = (blk x0 x1 x2 x3 x4 x5 x6 x7 (View.ld (Val := Elt Ideal) (e' := .f32) xs0 (Rect.unit (s := S1x128x128) ![0, 0, 0] S1x128x128.size inb_S1x128x128_S1x128x128_0_0_0))).gn from rfl,
    show View.ld (Val := Elt Ideal) (e' := .f32) x7 (Rect.unit (s := S2048x128) ![0, 0] S2048x128.size inb_S2048x128_S2048x128_0_0) = (blk x0 x1 x2 x3 x4 x5 x6 x7 (View.ld (Val := Elt Ideal) (e' := .f32) xs0 (Rect.unit (s := S1x128x128) ![0, 0, 0] S1x128x128.size inb_S1x128x128_S1x128x128_0_0_0))).dy from rfl,
    show View.ld (Val := Elt Ideal) (e' := .f32) x6 (Rect.unit (s := S32x1x128x128) ![0, 0, 0, 0] S1x1x128x128.size inb_S32x1x128x128_S1x1x128x128_0_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (0 : Fin 32) from rfl,
    show View.ld (Val := Elt Ideal) (e' := .f32) x6 (Rect.unit (s := S32x1x128x128) ![1, 0, 0, 0] S1x1x128x128.size inb_S32x1x128x128_S1x1x128x128_1_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (1 : Fin 32) from rfl,
    show View.ld (Val := Elt Ideal) (e' := .f32) x6 (Rect.unit (s := S32x1x128x128) ![2, 0, 0, 0] S1x1x128x128.size inb_S32x1x128x128_S1x1x128x128_2_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (2 : Fin 32) from rfl,
    show View.ld (Val := Elt Ideal) (e' := .f32) x6 (Rect.unit (s := S32x1x128x128) ![3, 0, 0, 0] S1x1x128x128.size inb_S32x1x128x128_S1x1x128x128_3_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (3 : Fin 32) from rfl,
    show View.ld (Val := Elt Ideal) (e' := .f32) x6 (Rect.unit (s := S32x1x128x128) ![4, 0, 0, 0] S1x1x128x128.size inb_S32x1x128x128_S1x1x128x128_4_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (4 : Fin 32) from rfl,
    show View.ld (Val := Elt Ideal) (e' := .f32) x6 (Rect.unit (s := S32x1x128x128) ![5, 0, 0, 0] S1x1x128x128.size inb_S32x1x128x128_S1x1x128x128_5_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (5 : Fin 32) from rfl,
    show View.ld (Val := Elt Ideal) (e' := .f32) x6 (Rect.unit (s := S32x1x128x128) ![6, 0, 0, 0] S1x1x128x128.size inb_S32x1x128x128_S1x1x128x128_6_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (6 : Fin 32) from rfl,
    show View.ld (Val := Elt Ideal) (e' := .f32) x6 (Rect.unit (s := S32x1x128x128) ![7, 0, 0, 0] S1x1x128x128.size inb_S32x1x128x128_S1x1x128x128_7_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (7 : Fin 32) from rfl,
    show View.ld (Val := Elt Ideal) (e' := .f32) x6 (Rect.unit (s := S32x1x128x128) ![8, 0, 0, 0] S1x1x128x128.size inb_S32x1x128x128_S1x1x128x128_8_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (8 : Fin 32) from rfl,
    show View.ld (Val := Elt Ideal) (e' := .f32) x6 (Rect.unit (s := S32x1x128x128) ![9, 0, 0, 0] S1x1x128x128.size inb_S32x1x128x128_S1x1x128x128_9_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (9 : Fin 32) from rfl,
    show View.ld (Val := Elt Ideal) (e' := .f32) x6 (Rect.unit (s := S32x1x128x128) ![10, 0, 0, 0] S1x1x128x128.size inb_S32x1x128x128_S1x1x128x128_10_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (10 : Fin 32) from rfl,
    show View.ld (Val := Elt Ideal) (e' := .f32) x6 (Rect.unit (s := S32x1x128x128) ![11, 0, 0, 0] S1x1x128x128.size inb_S32x1x128x128_S1x1x128x128_11_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (11 : Fin 32) from rfl,
    show View.ld (Val := Elt Ideal) (e' := .f32) x6 (Rect.unit (s := S32x1x128x128) ![12, 0, 0, 0] S1x1x128x128.size inb_S32x1x128x128_S1x1x128x128_12_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (12 : Fin 32) from rfl,
    show View.ld (Val := Elt Ideal) (e' := .f32) x6 (Rect.unit (s := S32x1x128x128) ![13, 0, 0, 0] S1x1x128x128.size inb_S32x1x128x128_S1x1x128x128_13_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (13 : Fin 32) from rfl,
    show View.ld (Val := Elt Ideal) (e' := .f32) x6 (Rect.unit (s := S32x1x128x128) ![14, 0, 0, 0] S1x1x128x128.size inb_S32x1x128x128_S1x1x128x128_14_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (14 : Fin 32) from rfl,
    show View.ld (Val := Elt Ideal) (e' := .f32) x6 (Rect.unit (s := S32x1x128x128) ![15, 0, 0, 0] S1x1x128x128.size inb_S32x1x128x128_S1x1x128x128_15_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (15 : Fin 32) from rfl,
    show View.ld (Val := Elt Ideal) (e' := .f32) x6 (Rect.unit (s := S32x1x128x128) ![16, 0, 0, 0] S1x1x128x128.size inb_S32x1x128x128_S1x1x128x128_16_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (16 : Fin 32) from rfl,
    show View.ld (Val := Elt Ideal) (e' := .f32) x6 (Rect.unit (s := S32x1x128x128) ![17, 0, 0, 0] S1x1x128x128.size inb_S32x1x128x128_S1x1x128x128_17_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (17 : Fin 32) from rfl,
    show View.ld (Val := Elt Ideal) (e' := .f32) x6 (Rect.unit (s := S32x1x128x128) ![18, 0, 0, 0] S1x1x128x128.size inb_S32x1x128x128_S1x1x128x128_18_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (18 : Fin 32) from rfl,
    show View.ld (Val := Elt Ideal) (e' := .f32) x6 (Rect.unit (s := S32x1x128x128) ![19, 0, 0, 0] S1x1x128x128.size inb_S32x1x128x128_S1x1x128x128_19_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (19 : Fin 32) from rfl,
    show View.ld (Val := Elt Ideal) (e' := .f32) x6 (Rect.unit (s := S32x1x128x128) ![20, 0, 0, 0] S1x1x128x128.size inb_S32x1x128x128_S1x1x128x128_20_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (20 : Fin 32) from rfl,
    show View.ld (Val := Elt Ideal) (e' := .f32) x6 (Rect.unit (s := S32x1x128x128) ![21, 0, 0, 0] S1x1x128x128.size inb_S32x1x128x128_S1x1x128x128_21_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (21 : Fin 32) from rfl,
    show View.ld (Val := Elt Ideal) (e' := .f32) x6 (Rect.unit (s := S32x1x128x128) ![22, 0, 0, 0] S1x1x128x128.size inb_S32x1x128x128_S1x1x128x128_22_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (22 : Fin 32) from rfl,
    show View.ld (Val := Elt Ideal) (e' := .f32) x6 (Rect.unit (s := S32x1x128x128) ![23, 0, 0, 0] S1x1x128x128.size inb_S32x1x128x128_S1x1x128x128_23_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (23 : Fin 32) from rfl,
    show View.ld (Val := Elt Ideal) (e' := .f32) x6 (Rect.unit (s := S32x1x128x128) ![24, 0, 0, 0] S1x1x128x128.size inb_S32x1x128x128_S1x1x128x128_24_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (24 : Fin 32) from rfl,
    show View.ld (Val := Elt Ideal) (e' := .f32) x6 (Rect.unit (s := S32x1x128x128) ![25, 0, 0, 0] S1x1x128x128.size inb_S32x1x128x128_S1x1x128x128_25_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (25 : Fin 32) from rfl,
    show View.ld (Val := Elt Ideal) (e' := .f32) x6 (Rect.unit (s := S32x1x128x128) ![26, 0, 0, 0] S1x1x128x128.size inb_S32x1x128x128_S1x1x128x128_26_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (26 : Fin 32) from rfl,
    show View.ld (Val := Elt Ideal) (e' := .f32) x6 (Rect.unit (s := S32x1x128x128) ![27, 0, 0, 0] S1x1x128x128.size inb_S32x1x128x128_S1x1x128x128_27_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (27 : Fin 32) from rfl,
    show View.ld (Val := Elt Ideal) (e' := .f32) x6 (Rect.unit (s := S32x1x128x128) ![28, 0, 0, 0] S1x1x128x128.size inb_S32x1x128x128_S1x1x128x128_28_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (28 : Fin 32) from rfl,
    show View.ld (Val := Elt Ideal) (e' := .f32) x6 (Rect.unit (s := S32x1x128x128) ![29, 0, 0, 0] S1x1x128x128.size inb_S32x1x128x128_S1x1x128x128_29_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (29 : Fin 32) from rfl,
    show View.ld (Val := Elt Ideal) (e' := .f32) x6 (Rect.unit (s := S32x1x128x128) ![30, 0, 0, 0] S1x1x128x128.size inb_S32x1x128x128_S1x1x128x128_30_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (30 : Fin 32) from rfl,
    show View.ld (Val := Elt Ideal) (e' := .f32) x6 (Rect.unit (s := S32x1x128x128) ![31, 0, 0, 0] S1x1x128x128.size inb_S32x1x128x128_S1x1x128x128_31_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (31 : Fin 32) from rfl,
    show k0_pay296 (F := Ideal) (View.ld (Val := Elt Ideal) (e' := .f32) xs0 (Rect.unit (s := S1x128x128) ![0, 0, 0] S1x128x128.size inb_S1x128x128_S1x128x128_0_0_0)) = (blk x0 x1 x2 x3 x4 x5 x6 x7 (View.ld (Val := Elt Ideal) (e' := .f32) xs0 (Rect.unit (s := S1x128x128) ![0, 0, 0] S1x128x128.size inb_S1x128x128_S1x128x128_0_0_0))).g 0 from rfl,
    show k0_pay297 (F := Ideal) (blk x0 x1 x2 x3 x4 x5 x6 x7 (View.ld (Val := Elt Ideal) (e' := .f32) xs0 (Rect.unit (s := S1x128x128) ![0, 0, 0] S1x128x128.size inb_S1x128x128_S1x128x128_0_0_0))).ebl (View.ld (Val := Elt Ideal) (e' := .f32) xs0 (Rect.unit (s := S1x128x128) ![0, 0, 0] S1x128x128.size inb_S1x128x128_S1x128x128_0_0_0)) = mulf ((blk x0 x1 x2 x3 x4 x5 x6 x7 (View.ld (Val := Elt Ideal) (e' := .f32) xs0 (Rect.unit (s := S1x128x128) ![0, 0, 0] S1x128x128.size inb_S1x128x128_S1x128x128_0_0_0))).g 0) (broadcastTo S128x128 (firstRow (blk x0 x1 x2 x3 x4 x5 x6 x7 (View.ld (Val := Elt Ideal) (e' := .f32) xs0 (Rect.unit (s := S1x128x128) ![0, 0, 0] S1x128x128.size inb_S1x128x128_S1x128x128_0_0_0))).ebl (31 : Fin 32)) broadcasts_S1x128_S128x128) from rfl,
    word1, word2, word12, word13, word14, word15, word16, word17, word18, word19, word20, word21, word22, word23, word24, word25, word26, word27, word28, word29, word30, word31, word32, word33, word34, word35, word36, word37, word38, word39, word40, word41, word42, word43, word44, word45, word46, word47, word48, word49, word50, word51, word52, word53, word54, word55, word56, word57, word58, word59, word60, word61, word62, word63, word64, word65, word66, word67, word68, word69, word70, word71, word72, word73, word74, word75, word76, word77, word78, word79, word80, word81, word82, word83, word84, word85, word86, word87, word88, word89, word90, word91, word92, word93, word94, word95, word96, word97, word98, word99, word100, word101, word102, word103, word104, word105, word106, word107, word108, word109, word110, word111, word112, word113, word114, word115, word116, word117, word118, word119, word120, word121, word122, word123, word124, word125, word126, word127, word128, word129, word130, word131, word132, word133, word134, word135, word136, word137, word138, word139, word140, word141, word142, word143, word144, word145, word146, word147, word148, word149, word150, word151, word152, word153, word154, word155, word156, word157, word158, word159, word160, word161, word162, word163, word164, word165, word166, word167, word168, word169, word170, word171, word172, word173, word174, word175, word176, word177, word178, word179, word180, word181, word182, word183, word184, word185, word186, word187, word188, word189, word190, word192, word193, word194, word195, word196, word197, word198, word199, word200, word201, word202, word203, word204, word205, word206, word207, word208, word209, word210, word211, word212, word213, word214, word215, word216, word217, word218, word219, word220, word221, word222, word223, word224, word225, word226, word227, word228, word229, word230, word231, word232, word233, word234, word235, word236, word237, word238, word239, word240, word241, word242, word243, word244, word245, word246, word247, word248, word249, word250, word251, word252, word253, word254, word255, word256, word257, word258, word259, word260, word261, word262, word263, word264, word265, word266, word267, word268, word269, word270, word271, word272, word273, word274, word275, word276, word277, word278, word279, word280, word281, word282, word283, word284, word285, word286, word287, word288, word289, word290, word291, word292, word293, word294, word295, word298, word299, word300, word301, word302, word303, word304, word305, word306, word307, word308, word309, word310, word311, word312, word313, word314, word315, word316, word317, word318, word319, word320, word321, word322, word323, word324, word325, word326, word327, word328, word329, word330, word331, word332, word333, word334, word335, word336, word337, word338, word339, word340, word341, word342, word343, word344, word345, word346, word347, word348, word349, word350, word351, word352, word353, word354, word355, word356, word357, word358, word359, word360, word361, word362, word363, word364, word365, word366, word367, word368, word369, word370, word371, word372, word373, word374, word375, word376, word377, word378, word379, word380, word381, word382, word383, word384, word385, word386, word387, word388, word389, word390, word391, word392, word393, word394, word395, word396, word397, word398, word399, word400, word401, word402, word403, word404, word405, word406, word407, word408, word409, word410, word411, word412, word413, word414, word415, word416, word417, word418, word419, word420, word421, word422, word423, word424, word425, word426, word427, word428, word429, word430, word431, word432, word433, word434, word435, word436, word437, word438, word439, word440, word441, word442, word443, word444, word445, word446, word447, word448, word449, word450, word451, word452, word453, word454, word455, word456, word457, word458, word459, word460, word461, word462, word463, word464, word465, word466, word467, word468, word469, word470, word471, word472, word473, word474, word475, word476, word477, word478, word479, word480, word481, word482, word483, word484, word485, word486, word487, word488, word489, word490, word491, word492, word493, word494, word495, word496, word497, word498, word499, word3, word4, word191, word500, word501, word502, word503]
  rw [View.canon_cons_unit_lit _ _ _ (by decide)]
  rfl

set_option maxHeartbeats 4000000 in
theorem out0_B_8_eq (c : Dev nD) (i : grid0.Coords) (arg2 : Memref sig .tc .vmem S1x1x2048x128 .f32) (harg2 : arg2.IsWhole) (arg3 : Memref sig .tc .vmem S1x1x2048x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S2x128 .f32) (harg6 : arg6.IsWhole) (arg7 : Memref sig .tc .vmem S1x128 .f32) (harg7 : arg7.IsWhole) (arg8 : Memref sig .tc .vmem S32x1x128x128 .f32) (harg8 : arg8.IsWhole) (arg9 : Memref sig .tc .vmem S2048x128 .f32) (harg9 : arg9.IsWhole) (arg10 : Memref sig .tc .vmem S4x2048x128 .bf16) (harg10 : arg10.IsWhole) (arg11 : Memref sig .tc .vmem S2x128 .f32) (harg11 : arg11.IsWhole) (arg12 : Memref sig .tc .vmem S1x1x128 .f32) (harg12 : arg12.IsWhole) (arg13 : Memref sig .tc .vmem S1x128x128 .f32) (harg13 : arg13.IsWhole) (hc0 : ¬cond0_0 i)
    (x0 : Vec Ideal S1x1x2048x128 .f32) (x1 : Vec Ideal S1x1x2048x128 .f32) (x2 : Vec Ideal S1x1x2048x128 .f32) (x3 : Vec Ideal S1x1x2048x128 .f32) (x4 : Vec Ideal S2x128 .f32) (x5 : Vec Ideal S1x128 .f32) (x6 : Vec Ideal S32x1x128x128 .f32) (x7 : Vec Ideal S2048x128 .f32) (xo9 : Vec Ideal S2x128 .f32) (xo10 : Vec Ideal S1x1x128 .f32) (xs0 : Vec Ideal S1x128x128 .f32) : out0_B_8 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo9 xo10 xs0 = four (blk' x0 x1 x2 x3 x4 x5 x6 x7 xs0) := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo9 xo10 xs0)]
  unfold kernelRun0_B
  dsimp only
  sl_unfold_words
  simp (config := { decide := true }) only [↓View.readCov_skip, View.readCov_fill, cat_eq, View.readAt_eq_ld, harg2.read_unread, harg3.read_unread, harg4.read_unread, harg5.read_unread, harg6.read_unread, harg7.read_unread, harg8.read_unread, harg9.read_unread, harg11.read_unread, harg12.read_unread, harg13.read_unread]
  simp (config := { decide := true }) only [show View.ld (Val := Elt Ideal) (e' := .f32) x0 (Rect.unit (s := S1x1x2048x128) ![0, 0, 0, 0] S1x1x2048x128.size inb_S1x1x2048x128_S1x1x2048x128_0_0_0_0) = (blk x0 x1 x2 x3 x4 x5 x6 x7 (View.ld (Val := Elt Ideal) (e' := .f32) xs0 (Rect.unit (s := S1x128x128) ![0, 0, 0] S1x128x128.size inb_S1x128x128_S1x128x128_0_0_0))).zq from rfl,
    show View.ld (Val := Elt Ideal) (e' := .f32) x1 (Rect.unit (s := S1x1x2048x128) ![0, 0, 0, 0] S1x1x2048x128.size inb_S1x1x2048x128_S1x1x2048x128_0_0_0_0) = (blk x0 x1 x2 x3 x4 x5 x6 x7 (View.ld (Val := Elt Ideal) (e' := .f32) xs0 (Rect.unit (s := S1x128x128) ![0, 0, 0] S1x128x128.size inb_S1x128x128_S1x128x128_0_0_0))).zf from rfl,
    show View.ld (Val := Elt Ideal) (e' := .f32) x2 (Rect.unit (s := S1x1x2048x128) ![0, 0, 0, 0] S1x1x2048x128.size inb_S1x1x2048x128_S1x1x2048x128_0_0_0_0) = (blk x0 x1 x2 x3 x4 x5 x6 x7 (View.ld (Val := Elt Ideal) (e' := .f32) xs0 (Rect.unit (s := S1x128x128) ![0, 0, 0] S1x128x128.size inb_S1x128x128_S1x128x128_0_0_0))).zi from rfl,
    show View.ld (Val := Elt Ideal) (e' := .f32) x3 (Rect.unit (s := S1x1x2048x128) ![0, 0, 0, 0] S1x1x2048x128.size inb_S1x1x2048x128_S1x1x2048x128_0_0_0_0) = (blk x0 x1 x2 x3 x4 x5 x6 x7 (View.ld (Val := Elt Ideal) (e' := .f32) xs0 (Rect.unit (s := S1x128x128) ![0, 0, 0] S1x128x128.size inb_S1x128x128_S1x128x128_0_0_0))).zg from rfl,
    show View.ld (Val := Elt Ideal) (e' := .f32) x4 (Rect.unit (s := S2x128) ![0, 0] S2x128.size inb_S2x128_S2x128_0_0) = (blk x0 x1 x2 x3 x4 x5 x6 x7 (View.ld (Val := Elt Ideal) (e' := .f32) xs0 (Rect.unit (s := S1x128x128) ![0, 0, 0] S1x128x128.size inb_S1x128x128_S1x128x128_0_0_0))).lg from rfl,
    show View.ld (Val := Elt Ideal) (e' := .f32) x5 (Rect.unit (s := S1x128) ![0, 0] S1x128.size inb_S1x128_S1x128_0_0) = (blk x0 x1 x2 x3 x4 x5 x6 x7 (View.ld (Val := Elt Ideal) (e' := .f32) xs0 (Rect.unit (s := S1x128x128) ![0, 0, 0] S1x128x128.size inb_S1x128x128_S1x128x128_0_0_0))).gn from rfl,
    show View.ld (Val := Elt Ideal) (e' := .f32) x7 (Rect.unit (s := S2048x128) ![0, 0] S2048x128.size inb_S2048x128_S2048x128_0_0) = (blk x0 x1 x2 x3 x4 x5 x6 x7 (View.ld (Val := Elt Ideal) (e' := .f32) xs0 (Rect.unit (s := S1x128x128) ![0, 0, 0] S1x128x128.size inb_S1x128x128_S1x128x128_0_0_0))).dy from rfl,
    show View.ld (Val := Elt Ideal) (e' := .f32) x6 (Rect.unit (s := S32x1x128x128) ![0, 0, 0, 0] S1x1x128x128.size inb_S32x1x128x128_S1x1x128x128_0_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (0 : Fin 32) from rfl,
    show View.ld (Val := Elt Ideal) (e' := .f32) x6 (Rect.unit (s := S32x1x128x128) ![1, 0, 0, 0] S1x1x128x128.size inb_S32x1x128x128_S1x1x128x128_1_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (1 : Fin 32) from rfl,
    show View.ld (Val := Elt Ideal) (e' := .f32) x6 (Rect.unit (s := S32x1x128x128) ![2, 0, 0, 0] S1x1x128x128.size inb_S32x1x128x128_S1x1x128x128_2_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (2 : Fin 32) from rfl,
    show View.ld (Val := Elt Ideal) (e' := .f32) x6 (Rect.unit (s := S32x1x128x128) ![3, 0, 0, 0] S1x1x128x128.size inb_S32x1x128x128_S1x1x128x128_3_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (3 : Fin 32) from rfl,
    show View.ld (Val := Elt Ideal) (e' := .f32) x6 (Rect.unit (s := S32x1x128x128) ![4, 0, 0, 0] S1x1x128x128.size inb_S32x1x128x128_S1x1x128x128_4_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (4 : Fin 32) from rfl,
    show View.ld (Val := Elt Ideal) (e' := .f32) x6 (Rect.unit (s := S32x1x128x128) ![5, 0, 0, 0] S1x1x128x128.size inb_S32x1x128x128_S1x1x128x128_5_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (5 : Fin 32) from rfl,
    show View.ld (Val := Elt Ideal) (e' := .f32) x6 (Rect.unit (s := S32x1x128x128) ![6, 0, 0, 0] S1x1x128x128.size inb_S32x1x128x128_S1x1x128x128_6_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (6 : Fin 32) from rfl,
    show View.ld (Val := Elt Ideal) (e' := .f32) x6 (Rect.unit (s := S32x1x128x128) ![7, 0, 0, 0] S1x1x128x128.size inb_S32x1x128x128_S1x1x128x128_7_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (7 : Fin 32) from rfl,
    show View.ld (Val := Elt Ideal) (e' := .f32) x6 (Rect.unit (s := S32x1x128x128) ![8, 0, 0, 0] S1x1x128x128.size inb_S32x1x128x128_S1x1x128x128_8_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (8 : Fin 32) from rfl,
    show View.ld (Val := Elt Ideal) (e' := .f32) x6 (Rect.unit (s := S32x1x128x128) ![9, 0, 0, 0] S1x1x128x128.size inb_S32x1x128x128_S1x1x128x128_9_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (9 : Fin 32) from rfl,
    show View.ld (Val := Elt Ideal) (e' := .f32) x6 (Rect.unit (s := S32x1x128x128) ![10, 0, 0, 0] S1x1x128x128.size inb_S32x1x128x128_S1x1x128x128_10_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (10 : Fin 32) from rfl,
    show View.ld (Val := Elt Ideal) (e' := .f32) x6 (Rect.unit (s := S32x1x128x128) ![11, 0, 0, 0] S1x1x128x128.size inb_S32x1x128x128_S1x1x128x128_11_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (11 : Fin 32) from rfl,
    show View.ld (Val := Elt Ideal) (e' := .f32) x6 (Rect.unit (s := S32x1x128x128) ![12, 0, 0, 0] S1x1x128x128.size inb_S32x1x128x128_S1x1x128x128_12_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (12 : Fin 32) from rfl,
    show View.ld (Val := Elt Ideal) (e' := .f32) x6 (Rect.unit (s := S32x1x128x128) ![13, 0, 0, 0] S1x1x128x128.size inb_S32x1x128x128_S1x1x128x128_13_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (13 : Fin 32) from rfl,
    show View.ld (Val := Elt Ideal) (e' := .f32) x6 (Rect.unit (s := S32x1x128x128) ![14, 0, 0, 0] S1x1x128x128.size inb_S32x1x128x128_S1x1x128x128_14_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (14 : Fin 32) from rfl,
    show View.ld (Val := Elt Ideal) (e' := .f32) x6 (Rect.unit (s := S32x1x128x128) ![15, 0, 0, 0] S1x1x128x128.size inb_S32x1x128x128_S1x1x128x128_15_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (15 : Fin 32) from rfl,
    show View.ld (Val := Elt Ideal) (e' := .f32) x6 (Rect.unit (s := S32x1x128x128) ![16, 0, 0, 0] S1x1x128x128.size inb_S32x1x128x128_S1x1x128x128_16_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (16 : Fin 32) from rfl,
    show View.ld (Val := Elt Ideal) (e' := .f32) x6 (Rect.unit (s := S32x1x128x128) ![17, 0, 0, 0] S1x1x128x128.size inb_S32x1x128x128_S1x1x128x128_17_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (17 : Fin 32) from rfl,
    show View.ld (Val := Elt Ideal) (e' := .f32) x6 (Rect.unit (s := S32x1x128x128) ![18, 0, 0, 0] S1x1x128x128.size inb_S32x1x128x128_S1x1x128x128_18_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (18 : Fin 32) from rfl,
    show View.ld (Val := Elt Ideal) (e' := .f32) x6 (Rect.unit (s := S32x1x128x128) ![19, 0, 0, 0] S1x1x128x128.size inb_S32x1x128x128_S1x1x128x128_19_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (19 : Fin 32) from rfl,
    show View.ld (Val := Elt Ideal) (e' := .f32) x6 (Rect.unit (s := S32x1x128x128) ![20, 0, 0, 0] S1x1x128x128.size inb_S32x1x128x128_S1x1x128x128_20_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (20 : Fin 32) from rfl,
    show View.ld (Val := Elt Ideal) (e' := .f32) x6 (Rect.unit (s := S32x1x128x128) ![21, 0, 0, 0] S1x1x128x128.size inb_S32x1x128x128_S1x1x128x128_21_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (21 : Fin 32) from rfl,
    show View.ld (Val := Elt Ideal) (e' := .f32) x6 (Rect.unit (s := S32x1x128x128) ![22, 0, 0, 0] S1x1x128x128.size inb_S32x1x128x128_S1x1x128x128_22_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (22 : Fin 32) from rfl,
    show View.ld (Val := Elt Ideal) (e' := .f32) x6 (Rect.unit (s := S32x1x128x128) ![23, 0, 0, 0] S1x1x128x128.size inb_S32x1x128x128_S1x1x128x128_23_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (23 : Fin 32) from rfl,
    show View.ld (Val := Elt Ideal) (e' := .f32) x6 (Rect.unit (s := S32x1x128x128) ![24, 0, 0, 0] S1x1x128x128.size inb_S32x1x128x128_S1x1x128x128_24_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (24 : Fin 32) from rfl,
    show View.ld (Val := Elt Ideal) (e' := .f32) x6 (Rect.unit (s := S32x1x128x128) ![25, 0, 0, 0] S1x1x128x128.size inb_S32x1x128x128_S1x1x128x128_25_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (25 : Fin 32) from rfl,
    show View.ld (Val := Elt Ideal) (e' := .f32) x6 (Rect.unit (s := S32x1x128x128) ![26, 0, 0, 0] S1x1x128x128.size inb_S32x1x128x128_S1x1x128x128_26_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (26 : Fin 32) from rfl,
    show View.ld (Val := Elt Ideal) (e' := .f32) x6 (Rect.unit (s := S32x1x128x128) ![27, 0, 0, 0] S1x1x128x128.size inb_S32x1x128x128_S1x1x128x128_27_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (27 : Fin 32) from rfl,
    show View.ld (Val := Elt Ideal) (e' := .f32) x6 (Rect.unit (s := S32x1x128x128) ![28, 0, 0, 0] S1x1x128x128.size inb_S32x1x128x128_S1x1x128x128_28_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (28 : Fin 32) from rfl,
    show View.ld (Val := Elt Ideal) (e' := .f32) x6 (Rect.unit (s := S32x1x128x128) ![29, 0, 0, 0] S1x1x128x128.size inb_S32x1x128x128_S1x1x128x128_29_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (29 : Fin 32) from rfl,
    show View.ld (Val := Elt Ideal) (e' := .f32) x6 (Rect.unit (s := S32x1x128x128) ![30, 0, 0, 0] S1x1x128x128.size inb_S32x1x128x128_S1x1x128x128_30_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (30 : Fin 32) from rfl,
    show View.ld (Val := Elt Ideal) (e' := .f32) x6 (Rect.unit (s := S32x1x128x128) ![31, 0, 0, 0] S1x1x128x128.size inb_S32x1x128x128_S1x1x128x128_31_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (31 : Fin 32) from rfl,
    show k0_pay296 (F := Ideal) (View.ld (Val := Elt Ideal) (e' := .f32) xs0 (Rect.unit (s := S1x128x128) ![0, 0, 0] S1x128x128.size inb_S1x128x128_S1x128x128_0_0_0)) = (blk x0 x1 x2 x3 x4 x5 x6 x7 (View.ld (Val := Elt Ideal) (e' := .f32) xs0 (Rect.unit (s := S1x128x128) ![0, 0, 0] S1x128x128.size inb_S1x128x128_S1x128x128_0_0_0))).g 0 from rfl,
    show k0_pay297 (F := Ideal) (blk x0 x1 x2 x3 x4 x5 x6 x7 (View.ld (Val := Elt Ideal) (e' := .f32) xs0 (Rect.unit (s := S1x128x128) ![0, 0, 0] S1x128x128.size inb_S1x128x128_S1x128x128_0_0_0))).ebl (View.ld (Val := Elt Ideal) (e' := .f32) xs0 (Rect.unit (s := S1x128x128) ![0, 0, 0] S1x128x128.size inb_S1x128x128_S1x128x128_0_0_0)) = mulf ((blk x0 x1 x2 x3 x4 x5 x6 x7 (View.ld (Val := Elt Ideal) (e' := .f32) xs0 (Rect.unit (s := S1x128x128) ![0, 0, 0] S1x128x128.size inb_S1x128x128_S1x128x128_0_0_0))).g 0) (broadcastTo S128x128 (firstRow (blk x0 x1 x2 x3 x4 x5 x6 x7 (View.ld (Val := Elt Ideal) (e' := .f32) xs0 (Rect.unit (s := S1x128x128) ![0, 0, 0] S1x128x128.size inb_S1x128x128_S1x128x128_0_0_0))).ebl (31 : Fin 32)) broadcasts_S1x128_S128x128) from rfl,
    word1, word2, word12, word13, word14, word15, word16, word17, word18, word19, word20, word21, word22, word23, word24, word25, word26, word27, word28, word29, word30, word31, word32, word33, word34, word35, word36, word37, word38, word39, word40, word41, word42, word43, word44, word45, word46, word47, word48, word49, word50, word51, word52, word53, word54, word55, word56, word57, word58, word59, word60, word61, word62, word63, word64, word65, word66, word67, word68, word69, word70, word71, word72, word73, word74, word75, word76, word77, word78, word79, word80, word81, word82, word83, word84, word85, word86, word87, word88, word89, word90, word91, word92, word93, word94, word95, word96, word97, word98, word99, word100, word101, word102, word103, word104, word105, word106, word107, word108, word109, word110, word111, word112, word113, word114, word115, word116, word117, word118, word119, word120, word121, word122, word123, word124, word125, word126, word127, word128, word129, word130, word131, word132, word133, word134, word135, word136, word137, word138, word139, word140, word141, word142, word143, word144, word145, word146, word147, word148, word149, word150, word151, word152, word153, word154, word155, word156, word157, word158, word159, word160, word161, word162, word163, word164, word165, word166, word167, word168, word169, word170, word171, word172, word173, word174, word175, word176, word177, word178, word179, word180, word181, word182, word183, word184, word185, word186, word187, word188, word189, word190, word192, word193, word194, word195, word196, word197, word198, word199, word200, word201, word202, word203, word204, word205, word206, word207, word208, word209, word210, word211, word212, word213, word214, word215, word216, word217, word218, word219, word220, word221, word222, word223, word224, word225, word226, word227, word228, word229, word230, word231, word232, word233, word234, word235, word236, word237, word238, word239, word240, word241, word242, word243, word244, word245, word246, word247, word248, word249, word250, word251, word252, word253, word254, word255, word256, word257, word258, word259, word260, word261, word262, word263, word264, word265, word266, word267, word268, word269, word270, word271, word272, word273, word274, word275, word276, word277, word278, word279, word280, word281, word282, word283, word284, word285, word286, word287, word288, word289, word290, word291, word292, word293, word294, word295, word298, word299, word300, word301, word302, word303, word304, word305, word306, word307, word308, word309, word310, word311, word312, word313, word314, word315, word316, word317, word318, word319, word320, word321, word322, word323, word324, word325, word326, word327, word328, word329, word330, word331, word332, word333, word334, word335, word336, word337, word338, word339, word340, word341, word342, word343, word344, word345, word346, word347, word348, word349, word350, word351, word352, word353, word354, word355, word356, word357, word358, word359, word360, word361, word362, word363, word364, word365, word366, word367, word368, word369, word370, word371, word372, word373, word374, word375, word376, word377, word378, word379, word380, word381, word382, word383, word384, word385, word386, word387, word388, word389, word390, word391, word392, word393, word394, word395, word396, word397, word398, word399, word400, word401, word402, word403, word404, word405, word406, word407, word408, word409, word410, word411, word412, word413, word414, word415, word416, word417, word418, word419, word420, word421, word422, word423, word424, word425, word426, word427, word428, word429, word430, word431, word432, word433, word434, word435, word436, word437, word438, word439, word440, word441, word442, word443, word444, word445, word446, word447, word448, word449, word450, word451, word452, word453, word454, word455, word456, word457, word458, word459, word460, word461, word462, word463, word464, word465, word466, word467, word468, word469, word470, word471, word472, word473, word474, word475, word476, word477, word478, word479, word480, word481, word482, word483, word484, word485, word486, word487, word488, word489, word490, word491, word492, word493, word494, word495, word496, word497, word498, word499, word3, word4, word191, word500, word501, word502, word503]
  rfl

set_option maxHeartbeats 4000000 in
theorem out0_B_9_eq (c : Dev nD) (i : grid0.Coords) (arg2 : Memref sig .tc .vmem S1x1x2048x128 .f32) (harg2 : arg2.IsWhole) (arg3 : Memref sig .tc .vmem S1x1x2048x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S2x128 .f32) (harg6 : arg6.IsWhole) (arg7 : Memref sig .tc .vmem S1x128 .f32) (harg7 : arg7.IsWhole) (arg8 : Memref sig .tc .vmem S32x1x128x128 .f32) (harg8 : arg8.IsWhole) (arg9 : Memref sig .tc .vmem S2048x128 .f32) (harg9 : arg9.IsWhole) (arg10 : Memref sig .tc .vmem S4x2048x128 .bf16) (harg10 : arg10.IsWhole) (arg11 : Memref sig .tc .vmem S2x128 .f32) (harg11 : arg11.IsWhole) (arg12 : Memref sig .tc .vmem S1x1x128 .f32) (harg12 : arg12.IsWhole) (arg13 : Memref sig .tc .vmem S1x128x128 .f32) (harg13 : arg13.IsWhole) (hc0 : ¬cond0_0 i)
    (x0 : Vec Ideal S1x1x2048x128 .f32) (x1 : Vec Ideal S1x1x2048x128 .f32) (x2 : Vec Ideal S1x1x2048x128 .f32) (x3 : Vec Ideal S1x1x2048x128 .f32) (x4 : Vec Ideal S2x128 .f32) (x5 : Vec Ideal S1x128 .f32) (x6 : Vec Ideal S32x1x128x128 .f32) (x7 : Vec Ideal S2048x128 .f32) (xo9 : Vec Ideal S2x128 .f32) (xo10 : Vec Ideal S1x1x128 .f32) (xs0 : Vec Ideal S1x128x128 .f32) : out0_B_9 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo9 xo10 xs0 = twoRows (blk' x0 x1 x2 x3 x4 x5 x6 x7 xs0) xo9 [] := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo9 xo10 xs0)]
  unfold kernelRun0_B
  dsimp only
  sl_unfold_words
  simp (config := { decide := true }) only [↓View.readCov_skip, View.readCov_fill, cat_eq, View.readAt_eq_ld, harg2.read_unread, harg3.read_unread, harg4.read_unread, harg5.read_unread, harg6.read_unread, harg7.read_unread, harg8.read_unread, harg9.read_unread, harg11.read_unread, harg12.read_unread, harg13.read_unread]
  simp (config := { decide := true }) only [show View.ld (Val := Elt Ideal) (e' := .f32) x0 (Rect.unit (s := S1x1x2048x128) ![0, 0, 0, 0] S1x1x2048x128.size inb_S1x1x2048x128_S1x1x2048x128_0_0_0_0) = (blk x0 x1 x2 x3 x4 x5 x6 x7 (View.ld (Val := Elt Ideal) (e' := .f32) xs0 (Rect.unit (s := S1x128x128) ![0, 0, 0] S1x128x128.size inb_S1x128x128_S1x128x128_0_0_0))).zq from rfl,
    show View.ld (Val := Elt Ideal) (e' := .f32) x1 (Rect.unit (s := S1x1x2048x128) ![0, 0, 0, 0] S1x1x2048x128.size inb_S1x1x2048x128_S1x1x2048x128_0_0_0_0) = (blk x0 x1 x2 x3 x4 x5 x6 x7 (View.ld (Val := Elt Ideal) (e' := .f32) xs0 (Rect.unit (s := S1x128x128) ![0, 0, 0] S1x128x128.size inb_S1x128x128_S1x128x128_0_0_0))).zf from rfl,
    show View.ld (Val := Elt Ideal) (e' := .f32) x2 (Rect.unit (s := S1x1x2048x128) ![0, 0, 0, 0] S1x1x2048x128.size inb_S1x1x2048x128_S1x1x2048x128_0_0_0_0) = (blk x0 x1 x2 x3 x4 x5 x6 x7 (View.ld (Val := Elt Ideal) (e' := .f32) xs0 (Rect.unit (s := S1x128x128) ![0, 0, 0] S1x128x128.size inb_S1x128x128_S1x128x128_0_0_0))).zi from rfl,
    show View.ld (Val := Elt Ideal) (e' := .f32) x3 (Rect.unit (s := S1x1x2048x128) ![0, 0, 0, 0] S1x1x2048x128.size inb_S1x1x2048x128_S1x1x2048x128_0_0_0_0) = (blk x0 x1 x2 x3 x4 x5 x6 x7 (View.ld (Val := Elt Ideal) (e' := .f32) xs0 (Rect.unit (s := S1x128x128) ![0, 0, 0] S1x128x128.size inb_S1x128x128_S1x128x128_0_0_0))).zg from rfl,
    show View.ld (Val := Elt Ideal) (e' := .f32) x4 (Rect.unit (s := S2x128) ![0, 0] S2x128.size inb_S2x128_S2x128_0_0) = (blk x0 x1 x2 x3 x4 x5 x6 x7 (View.ld (Val := Elt Ideal) (e' := .f32) xs0 (Rect.unit (s := S1x128x128) ![0, 0, 0] S1x128x128.size inb_S1x128x128_S1x128x128_0_0_0))).lg from rfl,
    show View.ld (Val := Elt Ideal) (e' := .f32) x5 (Rect.unit (s := S1x128) ![0, 0] S1x128.size inb_S1x128_S1x128_0_0) = (blk x0 x1 x2 x3 x4 x5 x6 x7 (View.ld (Val := Elt Ideal) (e' := .f32) xs0 (Rect.unit (s := S1x128x128) ![0, 0, 0] S1x128x128.size inb_S1x128x128_S1x128x128_0_0_0))).gn from rfl,
    show View.ld (Val := Elt Ideal) (e' := .f32) x7 (Rect.unit (s := S2048x128) ![0, 0] S2048x128.size inb_S2048x128_S2048x128_0_0) = (blk x0 x1 x2 x3 x4 x5 x6 x7 (View.ld (Val := Elt Ideal) (e' := .f32) xs0 (Rect.unit (s := S1x128x128) ![0, 0, 0] S1x128x128.size inb_S1x128x128_S1x128x128_0_0_0))).dy from rfl,
    show View.ld (Val := Elt Ideal) (e' := .f32) x6 (Rect.unit (s := S32x1x128x128) ![0, 0, 0, 0] S1x1x128x128.size inb_S32x1x128x128_S1x1x128x128_0_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (0 : Fin 32) from rfl,
    show View.ld (Val := Elt Ideal) (e' := .f32) x6 (Rect.unit (s := S32x1x128x128) ![1, 0, 0, 0] S1x1x128x128.size inb_S32x1x128x128_S1x1x128x128_1_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (1 : Fin 32) from rfl,
    show View.ld (Val := Elt Ideal) (e' := .f32) x6 (Rect.unit (s := S32x1x128x128) ![2, 0, 0, 0] S1x1x128x128.size inb_S32x1x128x128_S1x1x128x128_2_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (2 : Fin 32) from rfl,
    show View.ld (Val := Elt Ideal) (e' := .f32) x6 (Rect.unit (s := S32x1x128x128) ![3, 0, 0, 0] S1x1x128x128.size inb_S32x1x128x128_S1x1x128x128_3_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (3 : Fin 32) from rfl,
    show View.ld (Val := Elt Ideal) (e' := .f32) x6 (Rect.unit (s := S32x1x128x128) ![4, 0, 0, 0] S1x1x128x128.size inb_S32x1x128x128_S1x1x128x128_4_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (4 : Fin 32) from rfl,
    show View.ld (Val := Elt Ideal) (e' := .f32) x6 (Rect.unit (s := S32x1x128x128) ![5, 0, 0, 0] S1x1x128x128.size inb_S32x1x128x128_S1x1x128x128_5_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (5 : Fin 32) from rfl,
    show View.ld (Val := Elt Ideal) (e' := .f32) x6 (Rect.unit (s := S32x1x128x128) ![6, 0, 0, 0] S1x1x128x128.size inb_S32x1x128x128_S1x1x128x128_6_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (6 : Fin 32) from rfl,
    show View.ld (Val := Elt Ideal) (e' := .f32) x6 (Rect.unit (s := S32x1x128x128) ![7, 0, 0, 0] S1x1x128x128.size inb_S32x1x128x128_S1x1x128x128_7_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (7 : Fin 32) from rfl,
    show View.ld (Val := Elt Ideal) (e' := .f32) x6 (Rect.unit (s := S32x1x128x128) ![8, 0, 0, 0] S1x1x128x128.size inb_S32x1x128x128_S1x1x128x128_8_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (8 : Fin 32) from rfl,
    show View.ld (Val := Elt Ideal) (e' := .f32) x6 (Rect.unit (s := S32x1x128x128) ![9, 0, 0, 0] S1x1x128x128.size inb_S32x1x128x128_S1x1x128x128_9_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (9 : Fin 32) from rfl,
    show View.ld (Val := Elt Ideal) (e' := .f32) x6 (Rect.unit (s := S32x1x128x128) ![10, 0, 0, 0] S1x1x128x128.size inb_S32x1x128x128_S1x1x128x128_10_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (10 : Fin 32) from rfl,
    show View.ld (Val := Elt Ideal) (e' := .f32) x6 (Rect.unit (s := S32x1x128x128) ![11, 0, 0, 0] S1x1x128x128.size inb_S32x1x128x128_S1x1x128x128_11_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (11 : Fin 32) from rfl,
    show View.ld (Val := Elt Ideal) (e' := .f32) x6 (Rect.unit (s := S32x1x128x128) ![12, 0, 0, 0] S1x1x128x128.size inb_S32x1x128x128_S1x1x128x128_12_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (12 : Fin 32) from rfl,
    show View.ld (Val := Elt Ideal) (e' := .f32) x6 (Rect.unit (s := S32x1x128x128) ![13, 0, 0, 0] S1x1x128x128.size inb_S32x1x128x128_S1x1x128x128_13_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (13 : Fin 32) from rfl,
    show View.ld (Val := Elt Ideal) (e' := .f32) x6 (Rect.unit (s := S32x1x128x128) ![14, 0, 0, 0] S1x1x128x128.size inb_S32x1x128x128_S1x1x128x128_14_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (14 : Fin 32) from rfl,
    show View.ld (Val := Elt Ideal) (e' := .f32) x6 (Rect.unit (s := S32x1x128x128) ![15, 0, 0, 0] S1x1x128x128.size inb_S32x1x128x128_S1x1x128x128_15_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (15 : Fin 32) from rfl,
    show View.ld (Val := Elt Ideal) (e' := .f32) x6 (Rect.unit (s := S32x1x128x128) ![16, 0, 0, 0] S1x1x128x128.size inb_S32x1x128x128_S1x1x128x128_16_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (16 : Fin 32) from rfl,
    show View.ld (Val := Elt Ideal) (e' := .f32) x6 (Rect.unit (s := S32x1x128x128) ![17, 0, 0, 0] S1x1x128x128.size inb_S32x1x128x128_S1x1x128x128_17_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (17 : Fin 32) from rfl,
    show View.ld (Val := Elt Ideal) (e' := .f32) x6 (Rect.unit (s := S32x1x128x128) ![18, 0, 0, 0] S1x1x128x128.size inb_S32x1x128x128_S1x1x128x128_18_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (18 : Fin 32) from rfl,
    show View.ld (Val := Elt Ideal) (e' := .f32) x6 (Rect.unit (s := S32x1x128x128) ![19, 0, 0, 0] S1x1x128x128.size inb_S32x1x128x128_S1x1x128x128_19_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (19 : Fin 32) from rfl,
    show View.ld (Val := Elt Ideal) (e' := .f32) x6 (Rect.unit (s := S32x1x128x128) ![20, 0, 0, 0] S1x1x128x128.size inb_S32x1x128x128_S1x1x128x128_20_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (20 : Fin 32) from rfl,
    show View.ld (Val := Elt Ideal) (e' := .f32) x6 (Rect.unit (s := S32x1x128x128) ![21, 0, 0, 0] S1x1x128x128.size inb_S32x1x128x128_S1x1x128x128_21_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (21 : Fin 32) from rfl,
    show View.ld (Val := Elt Ideal) (e' := .f32) x6 (Rect.unit (s := S32x1x128x128) ![22, 0, 0, 0] S1x1x128x128.size inb_S32x1x128x128_S1x1x128x128_22_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (22 : Fin 32) from rfl,
    show View.ld (Val := Elt Ideal) (e' := .f32) x6 (Rect.unit (s := S32x1x128x128) ![23, 0, 0, 0] S1x1x128x128.size inb_S32x1x128x128_S1x1x128x128_23_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (23 : Fin 32) from rfl,
    show View.ld (Val := Elt Ideal) (e' := .f32) x6 (Rect.unit (s := S32x1x128x128) ![24, 0, 0, 0] S1x1x128x128.size inb_S32x1x128x128_S1x1x128x128_24_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (24 : Fin 32) from rfl,
    show View.ld (Val := Elt Ideal) (e' := .f32) x6 (Rect.unit (s := S32x1x128x128) ![25, 0, 0, 0] S1x1x128x128.size inb_S32x1x128x128_S1x1x128x128_25_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (25 : Fin 32) from rfl,
    show View.ld (Val := Elt Ideal) (e' := .f32) x6 (Rect.unit (s := S32x1x128x128) ![26, 0, 0, 0] S1x1x128x128.size inb_S32x1x128x128_S1x1x128x128_26_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (26 : Fin 32) from rfl,
    show View.ld (Val := Elt Ideal) (e' := .f32) x6 (Rect.unit (s := S32x1x128x128) ![27, 0, 0, 0] S1x1x128x128.size inb_S32x1x128x128_S1x1x128x128_27_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (27 : Fin 32) from rfl,
    show View.ld (Val := Elt Ideal) (e' := .f32) x6 (Rect.unit (s := S32x1x128x128) ![28, 0, 0, 0] S1x1x128x128.size inb_S32x1x128x128_S1x1x128x128_28_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (28 : Fin 32) from rfl,
    show View.ld (Val := Elt Ideal) (e' := .f32) x6 (Rect.unit (s := S32x1x128x128) ![29, 0, 0, 0] S1x1x128x128.size inb_S32x1x128x128_S1x1x128x128_29_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (29 : Fin 32) from rfl,
    show View.ld (Val := Elt Ideal) (e' := .f32) x6 (Rect.unit (s := S32x1x128x128) ![30, 0, 0, 0] S1x1x128x128.size inb_S32x1x128x128_S1x1x128x128_30_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (30 : Fin 32) from rfl,
    show View.ld (Val := Elt Ideal) (e' := .f32) x6 (Rect.unit (s := S32x1x128x128) ![31, 0, 0, 0] S1x1x128x128.size inb_S32x1x128x128_S1x1x128x128_31_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (31 : Fin 32) from rfl,
    show k0_pay296 (F := Ideal) (View.ld (Val := Elt Ideal) (e' := .f32) xs0 (Rect.unit (s := S1x128x128) ![0, 0, 0] S1x128x128.size inb_S1x128x128_S1x128x128_0_0_0)) = (blk x0 x1 x2 x3 x4 x5 x6 x7 (View.ld (Val := Elt Ideal) (e' := .f32) xs0 (Rect.unit (s := S1x128x128) ![0, 0, 0] S1x128x128.size inb_S1x128x128_S1x128x128_0_0_0))).g 0 from rfl,
    show k0_pay297 (F := Ideal) (blk x0 x1 x2 x3 x4 x5 x6 x7 (View.ld (Val := Elt Ideal) (e' := .f32) xs0 (Rect.unit (s := S1x128x128) ![0, 0, 0] S1x128x128.size inb_S1x128x128_S1x128x128_0_0_0))).ebl (View.ld (Val := Elt Ideal) (e' := .f32) xs0 (Rect.unit (s := S1x128x128) ![0, 0, 0] S1x128x128.size inb_S1x128x128_S1x128x128_0_0_0)) = mulf ((blk x0 x1 x2 x3 x4 x5 x6 x7 (View.ld (Val := Elt Ideal) (e' := .f32) xs0 (Rect.unit (s := S1x128x128) ![0, 0, 0] S1x128x128.size inb_S1x128x128_S1x128x128_0_0_0))).g 0) (broadcastTo S128x128 (firstRow (blk x0 x1 x2 x3 x4 x5 x6 x7 (View.ld (Val := Elt Ideal) (e' := .f32) xs0 (Rect.unit (s := S1x128x128) ![0, 0, 0] S1x128x128.size inb_S1x128x128_S1x128x128_0_0_0))).ebl (31 : Fin 32)) broadcasts_S1x128_S128x128) from rfl,
    word1, word2, word12, word13, word14, word15, word16, word17, word18, word19, word20, word21, word22, word23, word24, word25, word26, word27, word28, word29, word30, word31, word32, word33, word34, word35, word36, word37, word38, word39, word40, word41, word42, word43, word44, word45, word46, word47, word48, word49, word50, word51, word52, word53, word54, word55, word56, word57, word58, word59, word60, word61, word62, word63, word64, word65, word66, word67, word68, word69, word70, word71, word72, word73, word74, word75, word76, word77, word78, word79, word80, word81, word82, word83, word84, word85, word86, word87, word88, word89, word90, word91, word92, word93, word94, word95, word96, word97, word98, word99, word100, word101, word102, word103, word104, word105, word106, word107, word108, word109, word110, word111, word112, word113, word114, word115, word116, word117, word118, word119, word120, word121, word122, word123, word124, word125, word126, word127, word128, word129, word130, word131, word132, word133, word134, word135, word136, word137, word138, word139, word140, word141, word142, word143, word144, word145, word146, word147, word148, word149, word150, word151, word152, word153, word154, word155, word156, word157, word158, word159, word160, word161, word162, word163, word164, word165, word166, word167, word168, word169, word170, word171, word172, word173, word174, word175, word176, word177, word178, word179, word180, word181, word182, word183, word184, word185, word186, word187, word188, word189, word190, word192, word193, word194, word195, word196, word197, word198, word199, word200, word201, word202, word203, word204, word205, word206, word207, word208, word209, word210, word211, word212, word213, word214, word215, word216, word217, word218, word219, word220, word221, word222, word223, word224, word225, word226, word227, word228, word229, word230, word231, word232, word233, word234, word235, word236, word237, word238, word239, word240, word241, word242, word243, word244, word245, word246, word247, word248, word249, word250, word251, word252, word253, word254, word255, word256, word257, word258, word259, word260, word261, word262, word263, word264, word265, word266, word267, word268, word269, word270, word271, word272, word273, word274, word275, word276, word277, word278, word279, word280, word281, word282, word283, word284, word285, word286, word287, word288, word289, word290, word291, word292, word293, word294, word295, word298, word299, word300, word301, word302, word303, word304, word305, word306, word307, word308, word309, word310, word311, word312, word313, word314, word315, word316, word317, word318, word319, word320, word321, word322, word323, word324, word325, word326, word327, word328, word329, word330, word331, word332, word333, word334, word335, word336, word337, word338, word339, word340, word341, word342, word343, word344, word345, word346, word347, word348, word349, word350, word351, word352, word353, word354, word355, word356, word357, word358, word359, word360, word361, word362, word363, word364, word365, word366, word367, word368, word369, word370, word371, word372, word373, word374, word375, word376, word377, word378, word379, word380, word381, word382, word383, word384, word385, word386, word387, word388, word389, word390, word391, word392, word393, word394, word395, word396, word397, word398, word399, word400, word401, word402, word403, word404, word405, word406, word407, word408, word409, word410, word411, word412, word413, word414, word415, word416, word417, word418, word419, word420, word421, word422, word423, word424, word425, word426, word427, word428, word429, word430, word431, word432, word433, word434, word435, word436, word437, word438, word439, word440, word441, word442, word443, word444, word445, word446, word447, word448, word449, word450, word451, word452, word453, word454, word455, word456, word457, word458, word459, word460, word461, word462, word463, word464, word465, word466, word467, word468, word469, word470, word471, word472, word473, word474, word475, word476, word477, word478, word479, word480, word481, word482, word483, word484, word485, word486, word487, word488, word489, word490, word491, word492, word493, word494, word495, word496, word497, word498, word499, word3, word4, word191, word500, word501, word502, word503]
  rfl

set_option maxHeartbeats 4000000 in
theorem out0_B_10_eq (c : Dev nD) (i : grid0.Coords) (arg2 : Memref sig .tc .vmem S1x1x2048x128 .f32) (harg2 : arg2.IsWhole) (arg3 : Memref sig .tc .vmem S1x1x2048x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S2x128 .f32) (harg6 : arg6.IsWhole) (arg7 : Memref sig .tc .vmem S1x128 .f32) (harg7 : arg7.IsWhole) (arg8 : Memref sig .tc .vmem S32x1x128x128 .f32) (harg8 : arg8.IsWhole) (arg9 : Memref sig .tc .vmem S2048x128 .f32) (harg9 : arg9.IsWhole) (arg10 : Memref sig .tc .vmem S4x2048x128 .bf16) (harg10 : arg10.IsWhole) (arg11 : Memref sig .tc .vmem S2x128 .f32) (harg11 : arg11.IsWhole) (arg12 : Memref sig .tc .vmem S1x1x128 .f32) (harg12 : arg12.IsWhole) (arg13 : Memref sig .tc .vmem S1x128x128 .f32) (harg13 : arg13.IsWhole) (hc0 : ¬cond0_0 i)
    (x0 : Vec Ideal S1x1x2048x128 .f32) (x1 : Vec Ideal S1x1x2048x128 .f32) (x2 : Vec Ideal S1x1x2048x128 .f32) (x3 : Vec Ideal S1x1x2048x128 .f32) (x4 : Vec Ideal S2x128 .f32) (x5 : Vec Ideal S1x128 .f32) (x6 : Vec Ideal S32x1x128x128 .f32) (x7 : Vec Ideal S2048x128 .f32) (xo9 : Vec Ideal S2x128 .f32) (xo10 : Vec Ideal S1x1x128 .f32) (xs0 : Vec Ideal S1x128x128 .f32) : out0_B_10 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo9 xo10 xs0 = gainRow (blk' x0 x1 x2 x3 x4 x5 x6 x7 xs0) xo10 := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo9 xo10 xs0)]
  unfold kernelRun0_B
  dsimp only
  sl_unfold_words
  simp (config := { decide := true }) only [↓View.readCov_skip, View.readCov_fill, cat_eq, View.readAt_eq_ld, harg2.read_unread, harg3.read_unread, harg4.read_unread, harg5.read_unread, harg6.read_unread, harg7.read_unread, harg8.read_unread, harg9.read_unread, harg11.read_unread, harg12.read_unread, harg13.read_unread]
  simp (config := { decide := true }) only [show View.ld (Val := Elt Ideal) (e' := .f32) x0 (Rect.unit (s := S1x1x2048x128) ![0, 0, 0, 0] S1x1x2048x128.size inb_S1x1x2048x128_S1x1x2048x128_0_0_0_0) = (blk x0 x1 x2 x3 x4 x5 x6 x7 (View.ld (Val := Elt Ideal) (e' := .f32) xs0 (Rect.unit (s := S1x128x128) ![0, 0, 0] S1x128x128.size inb_S1x128x128_S1x128x128_0_0_0))).zq from rfl,
    show View.ld (Val := Elt Ideal) (e' := .f32) x1 (Rect.unit (s := S1x1x2048x128) ![0, 0, 0, 0] S1x1x2048x128.size inb_S1x1x2048x128_S1x1x2048x128_0_0_0_0) = (blk x0 x1 x2 x3 x4 x5 x6 x7 (View.ld (Val := Elt Ideal) (e' := .f32) xs0 (Rect.unit (s := S1x128x128) ![0, 0, 0] S1x128x128.size inb_S1x128x128_S1x128x128_0_0_0))).zf from rfl,
    show View.ld (Val := Elt Ideal) (e' := .f32) x2 (Rect.unit (s := S1x1x2048x128) ![0, 0, 0, 0] S1x1x2048x128.size inb_S1x1x2048x128_S1x1x2048x128_0_0_0_0) = (blk x0 x1 x2 x3 x4 x5 x6 x7 (View.ld (Val := Elt Ideal) (e' := .f32) xs0 (Rect.unit (s := S1x128x128) ![0, 0, 0] S1x128x128.size inb_S1x128x128_S1x128x128_0_0_0))).zi from rfl,
    show View.ld (Val := Elt Ideal) (e' := .f32) x3 (Rect.unit (s := S1x1x2048x128) ![0, 0, 0, 0] S1x1x2048x128.size inb_S1x1x2048x128_S1x1x2048x128_0_0_0_0) = (blk x0 x1 x2 x3 x4 x5 x6 x7 (View.ld (Val := Elt Ideal) (e' := .f32) xs0 (Rect.unit (s := S1x128x128) ![0, 0, 0] S1x128x128.size inb_S1x128x128_S1x128x128_0_0_0))).zg from rfl,
    show View.ld (Val := Elt Ideal) (e' := .f32) x4 (Rect.unit (s := S2x128) ![0, 0] S2x128.size inb_S2x128_S2x128_0_0) = (blk x0 x1 x2 x3 x4 x5 x6 x7 (View.ld (Val := Elt Ideal) (e' := .f32) xs0 (Rect.unit (s := S1x128x128) ![0, 0, 0] S1x128x128.size inb_S1x128x128_S1x128x128_0_0_0))).lg from rfl,
    show View.ld (Val := Elt Ideal) (e' := .f32) x5 (Rect.unit (s := S1x128) ![0, 0] S1x128.size inb_S1x128_S1x128_0_0) = (blk x0 x1 x2 x3 x4 x5 x6 x7 (View.ld (Val := Elt Ideal) (e' := .f32) xs0 (Rect.unit (s := S1x128x128) ![0, 0, 0] S1x128x128.size inb_S1x128x128_S1x128x128_0_0_0))).gn from rfl,
    show View.ld (Val := Elt Ideal) (e' := .f32) x7 (Rect.unit (s := S2048x128) ![0, 0] S2048x128.size inb_S2048x128_S2048x128_0_0) = (blk x0 x1 x2 x3 x4 x5 x6 x7 (View.ld (Val := Elt Ideal) (e' := .f32) xs0 (Rect.unit (s := S1x128x128) ![0, 0, 0] S1x128x128.size inb_S1x128x128_S1x128x128_0_0_0))).dy from rfl,
    show View.ld (Val := Elt Ideal) (e' := .f32) x6 (Rect.unit (s := S32x1x128x128) ![0, 0, 0, 0] S1x1x128x128.size inb_S32x1x128x128_S1x1x128x128_0_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (0 : Fin 32) from rfl,
    show View.ld (Val := Elt Ideal) (e' := .f32) x6 (Rect.unit (s := S32x1x128x128) ![1, 0, 0, 0] S1x1x128x128.size inb_S32x1x128x128_S1x1x128x128_1_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (1 : Fin 32) from rfl,
    show View.ld (Val := Elt Ideal) (e' := .f32) x6 (Rect.unit (s := S32x1x128x128) ![2, 0, 0, 0] S1x1x128x128.size inb_S32x1x128x128_S1x1x128x128_2_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (2 : Fin 32) from rfl,
    show View.ld (Val := Elt Ideal) (e' := .f32) x6 (Rect.unit (s := S32x1x128x128) ![3, 0, 0, 0] S1x1x128x128.size inb_S32x1x128x128_S1x1x128x128_3_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (3 : Fin 32) from rfl,
    show View.ld (Val := Elt Ideal) (e' := .f32) x6 (Rect.unit (s := S32x1x128x128) ![4, 0, 0, 0] S1x1x128x128.size inb_S32x1x128x128_S1x1x128x128_4_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (4 : Fin 32) from rfl,
    show View.ld (Val := Elt Ideal) (e' := .f32) x6 (Rect.unit (s := S32x1x128x128) ![5, 0, 0, 0] S1x1x128x128.size inb_S32x1x128x128_S1x1x128x128_5_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (5 : Fin 32) from rfl,
    show View.ld (Val := Elt Ideal) (e' := .f32) x6 (Rect.unit (s := S32x1x128x128) ![6, 0, 0, 0] S1x1x128x128.size inb_S32x1x128x128_S1x1x128x128_6_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (6 : Fin 32) from rfl,
    show View.ld (Val := Elt Ideal) (e' := .f32) x6 (Rect.unit (s := S32x1x128x128) ![7, 0, 0, 0] S1x1x128x128.size inb_S32x1x128x128_S1x1x128x128_7_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (7 : Fin 32) from rfl,
    show View.ld (Val := Elt Ideal) (e' := .f32) x6 (Rect.unit (s := S32x1x128x128) ![8, 0, 0, 0] S1x1x128x128.size inb_S32x1x128x128_S1x1x128x128_8_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (8 : Fin 32) from rfl,
    show View.ld (Val := Elt Ideal) (e' := .f32) x6 (Rect.unit (s := S32x1x128x128) ![9, 0, 0, 0] S1x1x128x128.size inb_S32x1x128x128_S1x1x128x128_9_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (9 : Fin 32) from rfl,
    show View.ld (Val := Elt Ideal) (e' := .f32) x6 (Rect.unit (s := S32x1x128x128) ![10, 0, 0, 0] S1x1x128x128.size inb_S32x1x128x128_S1x1x128x128_10_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (10 : Fin 32) from rfl,
    show View.ld (Val := Elt Ideal) (e' := .f32) x6 (Rect.unit (s := S32x1x128x128) ![11, 0, 0, 0] S1x1x128x128.size inb_S32x1x128x128_S1x1x128x128_11_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (11 : Fin 32) from rfl,
    show View.ld (Val := Elt Ideal) (e' := .f32) x6 (Rect.unit (s := S32x1x128x128) ![12, 0, 0, 0] S1x1x128x128.size inb_S32x1x128x128_S1x1x128x128_12_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (12 : Fin 32) from rfl,
    show View.ld (Val := Elt Ideal) (e' := .f32) x6 (Rect.unit (s := S32x1x128x128) ![13, 0, 0, 0] S1x1x128x128.size inb_S32x1x128x128_S1x1x128x128_13_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (13 : Fin 32) from rfl,
    show View.ld (Val := Elt Ideal) (e' := .f32) x6 (Rect.unit (s := S32x1x128x128) ![14, 0, 0, 0] S1x1x128x128.size inb_S32x1x128x128_S1x1x128x128_14_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (14 : Fin 32) from rfl,
    show View.ld (Val := Elt Ideal) (e' := .f32) x6 (Rect.unit (s := S32x1x128x128) ![15, 0, 0, 0] S1x1x128x128.size inb_S32x1x128x128_S1x1x128x128_15_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (15 : Fin 32) from rfl,
    show View.ld (Val := Elt Ideal) (e' := .f32) x6 (Rect.unit (s := S32x1x128x128) ![16, 0, 0, 0] S1x1x128x128.size inb_S32x1x128x128_S1x1x128x128_16_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (16 : Fin 32) from rfl,
    show View.ld (Val := Elt Ideal) (e' := .f32) x6 (Rect.unit (s := S32x1x128x128) ![17, 0, 0, 0] S1x1x128x128.size inb_S32x1x128x128_S1x1x128x128_17_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (17 : Fin 32) from rfl,
    show View.ld (Val := Elt Ideal) (e' := .f32) x6 (Rect.unit (s := S32x1x128x128) ![18, 0, 0, 0] S1x1x128x128.size inb_S32x1x128x128_S1x1x128x128_18_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (18 : Fin 32) from rfl,
    show View.ld (Val := Elt Ideal) (e' := .f32) x6 (Rect.unit (s := S32x1x128x128) ![19, 0, 0, 0] S1x1x128x128.size inb_S32x1x128x128_S1x1x128x128_19_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (19 : Fin 32) from rfl,
    show View.ld (Val := Elt Ideal) (e' := .f32) x6 (Rect.unit (s := S32x1x128x128) ![20, 0, 0, 0] S1x1x128x128.size inb_S32x1x128x128_S1x1x128x128_20_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (20 : Fin 32) from rfl,
    show View.ld (Val := Elt Ideal) (e' := .f32) x6 (Rect.unit (s := S32x1x128x128) ![21, 0, 0, 0] S1x1x128x128.size inb_S32x1x128x128_S1x1x128x128_21_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (21 : Fin 32) from rfl,
    show View.ld (Val := Elt Ideal) (e' := .f32) x6 (Rect.unit (s := S32x1x128x128) ![22, 0, 0, 0] S1x1x128x128.size inb_S32x1x128x128_S1x1x128x128_22_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (22 : Fin 32) from rfl,
    show View.ld (Val := Elt Ideal) (e' := .f32) x6 (Rect.unit (s := S32x1x128x128) ![23, 0, 0, 0] S1x1x128x128.size inb_S32x1x128x128_S1x1x128x128_23_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (23 : Fin 32) from rfl,
    show View.ld (Val := Elt Ideal) (e' := .f32) x6 (Rect.unit (s := S32x1x128x128) ![24, 0, 0, 0] S1x1x128x128.size inb_S32x1x128x128_S1x1x128x128_24_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (24 : Fin 32) from rfl,
    show View.ld (Val := Elt Ideal) (e' := .f32) x6 (Rect.unit (s := S32x1x128x128) ![25, 0, 0, 0] S1x1x128x128.size inb_S32x1x128x128_S1x1x128x128_25_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (25 : Fin 32) from rfl,
    show View.ld (Val := Elt Ideal) (e' := .f32) x6 (Rect.unit (s := S32x1x128x128) ![26, 0, 0, 0] S1x1x128x128.size inb_S32x1x128x128_S1x1x128x128_26_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (26 : Fin 32) from rfl,
    show View.ld (Val := Elt Ideal) (e' := .f32) x6 (Rect.unit (s := S32x1x128x128) ![27, 0, 0, 0] S1x1x128x128.size inb_S32x1x128x128_S1x1x128x128_27_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (27 : Fin 32) from rfl,
    show View.ld (Val := Elt Ideal) (e' := .f32) x6 (Rect.unit (s := S32x1x128x128) ![28, 0, 0, 0] S1x1x128x128.size inb_S32x1x128x128_S1x1x128x128_28_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (28 : Fin 32) from rfl,
    show View.ld (Val := Elt Ideal) (e' := .f32) x6 (Rect.unit (s := S32x1x128x128) ![29, 0, 0, 0] S1x1x128x128.size inb_S32x1x128x128_S1x1x128x128_29_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (29 : Fin 32) from rfl,
    show View.ld (Val := Elt Ideal) (e' := .f32) x6 (Rect.unit (s := S32x1x128x128) ![30, 0, 0, 0] S1x1x128x128.size inb_S32x1x128x128_S1x1x128x128_30_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (30 : Fin 32) from rfl,
    show View.ld (Val := Elt Ideal) (e' := .f32) x6 (Rect.unit (s := S32x1x128x128) ![31, 0, 0, 0] S1x1x128x128.size inb_S32x1x128x128_S1x1x128x128_31_0_0_0) = (blk x0 x1 x2 x3 x4 x5 x6 x7 (View.ld (Val := Elt Ideal) (e' := .f32) xs0 (Rect.unit (s := S1x128x128) ![0, 0, 0] S1x128x128.size inb_S1x128x128_S1x128x128_0_0_0))).st (31 : Fin 32) from rfl,
    show k0_pay296 (F := Ideal) (View.ld (Val := Elt Ideal) (e' := .f32) xs0 (Rect.unit (s := S1x128x128) ![0, 0, 0] S1x128x128.size inb_S1x128x128_S1x128x128_0_0_0)) = (blk x0 x1 x2 x3 x4 x5 x6 x7 (View.ld (Val := Elt Ideal) (e' := .f32) xs0 (Rect.unit (s := S1x128x128) ![0, 0, 0] S1x128x128.size inb_S1x128x128_S1x128x128_0_0_0))).g 0 from rfl,
    show k0_pay297 (F := Ideal) (blk x0 x1 x2 x3 x4 x5 x6 x7 (View.ld (Val := Elt Ideal) (e' := .f32) xs0 (Rect.unit (s := S1x128x128) ![0, 0, 0] S1x128x128.size inb_S1x128x128_S1x128x128_0_0_0))).ebl (View.ld (Val := Elt Ideal) (e' := .f32) xs0 (Rect.unit (s := S1x128x128) ![0, 0, 0] S1x128x128.size inb_S1x128x128_S1x128x128_0_0_0)) = mulf ((blk x0 x1 x2 x3 x4 x5 x6 x7 (View.ld (Val := Elt Ideal) (e' := .f32) xs0 (Rect.unit (s := S1x128x128) ![0, 0, 0] S1x128x128.size inb_S1x128x128_S1x128x128_0_0_0))).g 0) (broadcastTo S128x128 (firstRow (blk x0 x1 x2 x3 x4 x5 x6 x7 (View.ld (Val := Elt Ideal) (e' := .f32) xs0 (Rect.unit (s := S1x128x128) ![0, 0, 0] S1x128x128.size inb_S1x128x128_S1x128x128_0_0_0))).ebl (31 : Fin 32)) broadcasts_S1x128_S128x128) from rfl,
    word1, word2, word12, word13, word14, word15, word16, word17, word18, word19, word20, word21, word22, word23, word24, word25, word26, word27, word28, word29, word30, word31, word32, word33, word34, word35, word36, word37, word38, word39, word40, word41, word42, word43, word44, word45, word46, word47, word48, word49, word50, word51, word52, word53, word54, word55, word56, word57, word58, word59, word60, word61, word62, word63, word64, word65, word66, word67, word68, word69, word70, word71, word72, word73, word74, word75, word76, word77, word78, word79, word80, word81, word82, word83, word84, word85, word86, word87, word88, word89, word90, word91, word92, word93, word94, word95, word96, word97, word98, word99, word100, word101, word102, word103, word104, word105, word106, word107, word108, word109, word110, word111, word112, word113, word114, word115, word116, word117, word118, word119, word120, word121, word122, word123, word124, word125, word126, word127, word128, word129, word130, word131, word132, word133, word134, word135, word136, word137, word138, word139, word140, word141, word142, word143, word144, word145, word146, word147, word148, word149, word150, word151, word152, word153, word154, word155, word156, word157, word158, word159, word160, word161, word162, word163, word164, word165, word166, word167, word168, word169, word170, word171, word172, word173, word174, word175, word176, word177, word178, word179, word180, word181, word182, word183, word184, word185, word186, word187, word188, word189, word190, word192, word193, word194, word195, word196, word197, word198, word199, word200, word201, word202, word203, word204, word205, word206, word207, word208, word209, word210, word211, word212, word213, word214, word215, word216, word217, word218, word219, word220, word221, word222, word223, word224, word225, word226, word227, word228, word229, word230, word231, word232, word233, word234, word235, word236, word237, word238, word239, word240, word241, word242, word243, word244, word245, word246, word247, word248, word249, word250, word251, word252, word253, word254, word255, word256, word257, word258, word259, word260, word261, word262, word263, word264, word265, word266, word267, word268, word269, word270, word271, word272, word273, word274, word275, word276, word277, word278, word279, word280, word281, word282, word283, word284, word285, word286, word287, word288, word289, word290, word291, word292, word293, word294, word295, word298, word299, word300, word301, word302, word303, word304, word305, word306, word307, word308, word309, word310, word311, word312, word313, word314, word315, word316, word317, word318, word319, word320, word321, word322, word323, word324, word325, word326, word327, word328, word329, word330, word331, word332, word333, word334, word335, word336, word337, word338, word339, word340, word341, word342, word343, word344, word345, word346, word347, word348, word349, word350, word351, word352, word353, word354, word355, word356, word357, word358, word359, word360, word361, word362, word363, word364, word365, word366, word367, word368, word369, word370, word371, word372, word373, word374, word375, word376, word377, word378, word379, word380, word381, word382, word383, word384, word385, word386, word387, word388, word389, word390, word391, word392, word393, word394, word395, word396, word397, word398, word399, word400, word401, word402, word403, word404, word405, word406, word407, word408, word409, word410, word411, word412, word413, word414, word415, word416, word417, word418, word419, word420, word421, word422, word423, word424, word425, word426, word427, word428, word429, word430, word431, word432, word433, word434, word435, word436, word437, word438, word439, word440, word441, word442, word443, word444, word445, word446, word447, word448, word449, word450, word451, word452, word453, word454, word455, word456, word457, word458, word459, word460, word461, word462, word463, word464, word465, word466, word467, word468, word469, word470, word471, word472, word473, word474, word475, word476, word477, word478, word479, word480, word481, word482, word483, word484, word485, word486, word487, word488, word489, word490, word491, word492, word493, word494, word495, word496, word497, word498, word499, word3, word4, word191, word500, word501, word502, word503]
  rw [View.canon_cons_unit_lit _ _ _ (by decide)]
  rfl

end Cert.Hgrn
-- ==== Proof.BlockOps.lean ====
/-
  What the block's helpers do to arrays of real numbers: repeated rows and columns, sums, products of tiles and of
  chunks, the masks of a tile and the sums under them.
-/
module

public import proofs.«01_k».proof.Proof.Body
public import proofs.«01_k».proof.Proof.Real

@[expose] public section

set_option maxRecDepth 16384

noncomputable section

namespace Cert.Hgrn

open Idealize.ShloMosaic Cert.KernelIdeal Cert.KernelIdeal.Gen

/-! ## Constants -/

/-- The constant added to the mean square: 8796093 · 2⁻⁴³. -/
def eps : ℝ := 8796093 * (2 : ℝ) ^ (-43 : ℤ)

theorem eps_pos : 0 < eps := by unfold eps; positivity

theorem ofBits_eps : Ideal.ofBits .f32 0x358637BD#32 = ((eps : ℝ) : EReal) := by
  unfold eps
  simp [Ideal.ofBits, Ideal.ieee, -EReal.coe_mul]

theorem ofBits_128 : Ideal.ofBits .f32 0x43000000#32 = ((128 : ℝ) : EReal) := by
  simp [Ideal.ofBits, Ideal.ieee, -EReal.coe_mul]; norm_num

variable {a b : ℕ}

theorem reads_one : Reads (splat ⟨2, ![a, b]⟩ 0x3F800000#32) (fun _ _ => 1) := fun i j => by
  show Ideal.ofBits .f32 0x3F800000#32 = _
  rw [Ideal.ofBits_one_f32, EReal.coe_one]

theorem reads_zero : Reads (splat ⟨2, ![a, b]⟩ 0x00000000#32) (fun _ _ => 0) := fun i j => by
  show Ideal.ofBits .f32 0x00000000#32 = _
  rw [Ideal.ofBits_zero_f32, EReal.coe_zero]

theorem reads_128 : Reads (splat ⟨2, ![a, b]⟩ 0x43000000#32) (fun _ _ => 128) := fun i j => ofBits_128

theorem reads_eps : Reads (splat ⟨2, ![a, b]⟩ 0x358637BD#32) (fun _ _ => eps) := fun i j => ofBits_eps

/-! ## Repeated rows and columns, sums -/

namespace Reads

variable {r s : ℕ → ℕ → ℝ}

theorem overRows {X : FVec Ideal S1x128 .f32} (hx : Reads X r) : Reads (overRows X) (fun _ j => r 0 j) := fun i j => by
  have e : Hgrn.overRows X (ix2 i j) = X (ix2 0 j) := by pointwise [Hgrn.overRows]
  rw [e]; exact hx 0 j

theorem overLanes {X : FVec Ideal S2048x1 .f32} (hx : Reads X r) : Reads (overLanes X) (fun i _ => r i 0) := fun i j => by
  have e : Hgrn.overLanes X (ix2 i j) = X (ix2 i 0) := by pointwise [Hgrn.overLanes]
  rw [e]; exact hx i 0

theorem sumLanes {X : FVec Ideal S2048x128 .f32} (hx : Reads X r) :
    Reads (sumLanes X) (fun i _ => ∑ k ∈ Finset.range 128, r i k) := fun i j => by
  have e : Hgrn.sumLanes X (ix2 i j) = ∑ x : Fin 128, X (ix2 i x) := by pointwise [Hgrn.sumLanes]
  rw [e]; beta_reduce; rw [Finset.sum_range, coe_sum]
  exact Finset.sum_congr rfl fun x _ => hx i x

theorem sumRows {X : FVec Ideal S2048x128 .f32} (hx : Reads X r) :
    Reads (sumRows X) (fun _ j => ∑ k ∈ Finset.range 2048, r k j) := fun i j => by
  have e : Hgrn.sumRows X (ix2 i j) = ∑ x : Fin 2048, X (ix2 x j) := by pointwise [Hgrn.sumRows]
  rw [e]; beta_reduce; rw [Finset.sum_range, coe_sum]
  exact Finset.sum_congr rfl fun x _ => hx x j

theorem meanLanes {X : FVec Ideal S2048x128 .f32} (hx : Reads X r) :
    Reads (meanLanes X) (fun i _ => (∑ k ∈ Finset.range 128, r i k) / 128) :=
  hx.sumLanes.div reads_128 fun _ _ _ _ => by norm_num

theorem lastOfChunk {X : FVec Ideal S2048x128 .f32} (hx : Reads X r) :
    Reads (lastOfChunk X) (fun i j => r (i / 64 * 64 + 63) j) := fun i j => by
  have e : Hgrn.lastOfChunk X (ix2 i j) = X (ix2 ⟨i.val / 64 * 64 + 63, by omega⟩ j) := by pointwise [Hgrn.lastOfChunk]
  rw [e]; exact hx _ j

theorem sumOfChunk {X : FVec Ideal S2048x128 .f32} (hx : Reads X r) :
    Reads (sumOfChunk X) (fun i j => ∑ k ∈ Finset.range 64, r (i / 64 * 64 + k) j) := fun i j => by
  have e : Hgrn.sumOfChunk X (ix2 i j) = ∑ x : Fin 64, X (ix2 ⟨i.val / 64 * 64 + x.val, by omega⟩ j) := by pointwise [Hgrn.sumOfChunk]
  rw [e]; beta_reduce; rw [Finset.sum_range, coe_sum]
  exact Finset.sum_congr rfl fun x _ => hx _ j

/-! ## Tiles and chunks -/

variable {φ ψ : FTy}

theorem tile {X : FVec Ideal S2048x128 φ} (hx : Reads X r) (n : Fin 16) : Reads (tile X n) (fun i j => r (128 * n + i) j) :=
  hx.rows (128 * n.val) (slices_tile n)
theorem chunk {X : FVec Ideal S2048x128 φ} (hx : Reads X r) (n : Fin 32) : Reads (chunk X n) (fun i j => r (64 * n + i) j) :=
  hx.rows (64 * n.val) (slices_chunk n)
theorem firstRow {X : FVec Ideal S2048x128 φ} (hx : Reads X r) (n : Fin 32) : Reads (firstRow X n) (fun i j => r (64 * n + i) j) :=
  hx.rows (64 * n.val) (slices_row n)

theorem tiles {f : Fin 16 → FVec Ideal S128x128 φ} (hf : ∀ n : Fin 16, Reads (f n) (fun i j => r (128 * n + i) j)) :
    Reads (tiles f) r := stack (by decide) hf rfl _
theorem chunks {f : Fin 32 → FVec Ideal S64x128 φ} (hf : ∀ n : Fin 32, Reads (f n) (fun i j => r (64 * n + i) j)) :
    Reads (chunks f) r := stack (by decide) hf rfl _

/-! ## Products -/

theorem dot_sum {n : ℕ} {x y : Fin n → EReal} {u v : ℕ → ℝ} (hx : ∀ k : Fin n, x k = ((u k : ℝ) : EReal))
    (hy : ∀ k : Fin n, y k = ((v k : ℝ) : EReal)) : ∑ k, x k * y k = ((∑ k ∈ Finset.range n, u k * v k : ℝ) : EReal) := by
  rw [Finset.sum_range, coe_sum]
  refine Finset.sum_congr rfl fun k _ => ?_
  rw [hx, hy, EReal.coe_mul]

theorem tileNN {X : FVec Ideal S128x128 φ} {Y : FVec Ideal S128x128 ψ} (hx : Reads X r) (hy : Reads Y s) :
    Reads (tileNN X Y) (fun i j => ∑ k ∈ Finset.range 128, r i k * s k j) := fun i j => by
  have e : Hgrn.tileNN X Y (ix2 i j) = ∑ x : Fin 128, X (ix2 i x) * Y (ix2 x j) := by pointwise [Hgrn.tileNN, zeros]
  rw [e]; exact dot_sum (hx i) (fun k => hy k j)
theorem tileNT {X : FVec Ideal S128x128 φ} {Y : FVec Ideal S128x128 ψ} (hx : Reads X r) (hy : Reads Y s) :
    Reads (tileNT X Y) (fun i j => ∑ k ∈ Finset.range 128, r i k * s j k) := fun i j => by
  have e : Hgrn.tileNT X Y (ix2 i j) = ∑ x : Fin 128, X (ix2 i x) * Y (ix2 j x) := by pointwise [Hgrn.tileNT, zeros]
  rw [e]; exact dot_sum (hx i) (hy j)
theorem tileTN {X : FVec Ideal S128x128 φ} {Y : FVec Ideal S128x128 ψ} (hx : Reads X r) (hy : Reads Y s) :
    Reads (tileTN X Y) (fun i j => ∑ k ∈ Finset.range 128, r k i * s k j) := fun i j => by
  have e : Hgrn.tileTN X Y (ix2 i j) = ∑ x : Fin 128, X (ix2 x i) * Y (ix2 x j) := by pointwise [Hgrn.tileTN, zeros]
  rw [e]; exact dot_sum (fun k => hx k i) (fun k => hy k j)
theorem chunkNN {X : FVec Ideal S64x128 φ} {Y : FVec Ideal S128x128 ψ} (hx : Reads X r) (hy : Reads Y s) :
    Reads (chunkNN X Y) (fun i j => ∑ k ∈ Finset.range 128, r i k * s k j) := fun i j => by
  have e : Hgrn.chunkNN X Y (ix2 i j) = ∑ x : Fin 128, X (ix2 i x) * Y (ix2 x j) := by pointwise [Hgrn.chunkNN, zeros]
  rw [e]; exact dot_sum (hx i) (fun k => hy k j)
theorem chunkNT {X : FVec Ideal S64x128 φ} {Y : FVec Ideal S128x128 ψ} (hx : Reads X r) (hy : Reads Y s) :
    Reads (chunkNT X Y) (fun i j => ∑ k ∈ Finset.range 128, r i k * s j k) := fun i j => by
  have e : Hgrn.chunkNT X Y (ix2 i j) = ∑ x : Fin 128, X (ix2 i x) * Y (ix2 j x) := by pointwise [Hgrn.chunkNT, zeros]
  rw [e]; exact dot_sum (hx i) (hy j)
theorem chunkTN {X : FVec Ideal S64x128 φ} {Y : FVec Ideal S64x128 ψ} (hx : Reads X r) (hy : Reads Y s) :
    Reads (chunkTN X Y) (fun i j => ∑ k ∈ Finset.range 64, r k i * s k j) := fun i j => by
  have e : Hgrn.chunkTN X Y (ix2 i j) = ∑ x : Fin 64, X (ix2 x i) * Y (ix2 x j) := by pointwise [Hgrn.chunkTN, zeros]
  rw [e]; exact dot_sum (fun k => hx k i) (fun k => hy k j)

theorem half {X : FVec Ideal ⟨2, ![a, b]⟩ .f32} (hx : Reads X r) : Reads (half X) r := hx

/-- What truncation loses is zero. -/
theorem rest {X : FVec Ideal ⟨2, ![a, b]⟩ .f32} (hx : Reads X r) : Reads (rest X) (fun _ _ => 0) :=
  (hx.sub hx).congr fun _ _ _ _ => sub_self _

theorem exactDot {T : FVec Ideal S128x128 .bf16} {X : FVec Ideal S128x128 .f32} (ht : Reads T r) (hx : Reads X s) :
    Reads (exactDot T X) (fun i j => ∑ k ∈ Finset.range 128, r i k * s k j) :=
  (((ht.tileNN hx.half).add (ht.tileNN hx.rest.half)).add (ht.tileNN hx.rest.rest.half)).congr fun i _ j _ => by simp

/-! ## Activations -/

theorem silu {Z : FVec Ideal S2048x128 .f32} (hz : Reads Z r) : Reads (silu Z) (fun i j => r i j * sgm (r i j)) :=
  hz.mul hz.logistic
theorem siluGrad {Z : FVec Ideal S2048x128 .f32} (hz : Reads Z r) :
    Reads (siluGrad Z) (fun i j => sgm (r i j) * (1 + r i j * (1 - sgm (r i j)))) :=
  hz.logistic.mul (reads_one.add (hz.mul (reads_one.sub hz.logistic)))

end Reads

/-! ## The masks -/

/-- The chunk number of the word of `n`. -/
def chunkWord (w : BitVec 32) : BitVec 32 :=
  Scalar.select
      (IntOp.andi
        (IntOp.cmpi CmpIPredicate.ne
          (IntOp.subi (BitVec.setWidth 32 (IntOp.cmpi CmpIPredicate.sgt w 0#32))
            (BitVec.setWidth 32 (IntOp.cmpi CmpIPredicate.slt w 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector w 64#32) 0#32))
      (IntOp.subi (IntOp.divsi ArithUnit.vector w 64#32) 1#32)
      (IntOp.divsi ArithUnit.vector w 64#32)

theorem chunkWord_eq : ∀ n : Fin 128, chunkWord (BitVec.ofNat 32 n.val) = BitVec.ofNat 32 (n.val / 64) := by
  decide +kernel

theorem chunkNo_apply (P : IVec S128x128 32) (i j : Fin 128) : chunkNo P (ix2 i j) = chunkWord (P (ix2 i j)) := by
  pointwise [chunkNo, chunkWord]

theorem rowNo_apply (i j : Fin 128) : rowNo (ix2 i j) = BitVec.ofNat 32 i.val := by pointwise [rowNo]
theorem colNo_apply (i j : Fin 128) : colNo (ix2 i j) = BitVec.ofNat 32 j.val := by pointwise [colNo]

theorem lower_word : ∀ i j : Fin 128, IntOp.andi (IntOp.cmpi .eq (BitVec.ofNat 32 (i.val / 64)) (BitVec.ofNat 32 (j.val / 64)))
    (IntOp.cmpi .sge (BitVec.ofNat 32 i.val) (BitVec.ofNat 32 j.val)) = if i.val / 64 = j.val / 64 ∧ j.val ≤ i.val then 1#1 else 0#1 := by
  decide +kernel
theorem upper_word : ∀ i j : Fin 128, IntOp.andi (IntOp.cmpi .eq (BitVec.ofNat 32 (i.val / 64)) (BitVec.ofNat 32 (j.val / 64)))
    (IntOp.cmpi .sle (BitVec.ofNat 32 i.val) (BitVec.ofNat 32 j.val)) = if i.val / 64 = j.val / 64 ∧ i.val ≤ j.val then 1#1 else 0#1 := by
  decide +kernel

theorem lower_apply (i j : Fin 128) : lower (ix2 i j) = if i.val / 64 = j.val / 64 ∧ j.val ≤ i.val then 1#1 else 0#1 := by
  rw [← lower_word i j, ← chunkWord_eq i, ← chunkWord_eq j, ← rowNo_apply i j, ← colNo_apply i j, ← chunkNo_apply, ← chunkNo_apply]
  rfl
theorem upper_apply (i j : Fin 128) : upper (ix2 i j) = if i.val / 64 = j.val / 64 ∧ i.val ≤ j.val then 1#1 else 0#1 := by
  rw [← upper_word i j, ← chunkWord_eq i, ← chunkWord_eq j, ← rowNo_apply i j, ← colNo_apply i j, ← chunkNo_apply, ← chunkNo_apply]
  rfl

theorem reads_ones {c : IVec S128x128 1} {p : ℕ → ℕ → Prop} [∀ i j, Decidable (p i j)]
    (hc : ∀ i j : Fin 128, c (ix2 i j) = if p i j then 1#1 else 0#1) : Reads (ones c) (fun i j => if p i j then 1 else 0) := fun i j => by
  have e : ones c (ix2 i j) = (FloatOps.sitofp .f32 (BitVec.setWidth 32 (c (ix2 i j))) : Ideal .f32) := by pointwise [ones]
  rw [e, hc]
  by_cases h : p i j
  · simp only [h, if_true]
    show (((BitVec.setWidth 32 1#1).toInt : ℝ) : EReal) = _
    rw [show (BitVec.setWidth 32 1#1).toInt = 1 by decide]; simp
  · simp only [h, if_false]
    show (((BitVec.setWidth 32 0#1).toInt : ℝ) : EReal) = _
    rw [show (BitVec.setWidth 32 0#1).toInt = 0 by decide]; simp

namespace Reads

variable {r s : ℕ → ℕ → ℝ}

/-- A running sum within a chunk, and the sum from a token to its chunk's end. -/
theorem lowerSum {X : FVec Ideal S128x128 .f32} (hx : Reads X r) :
    Reads (Hgrn.exactDot (ones lower) X) (fun i j => ∑ k ∈ Finset.Ico (64 * (i / 64)) (i + 1), r k j) :=
  ((reads_ones lower_apply).exactDot hx).congr fun i hi j _ => by
    simp only [ite_mul, one_mul, zero_mul]
    exact tril_sum hi fun k => r k j
theorem upperSum {X : FVec Ideal S128x128 .f32} (hx : Reads X r) :
    Reads (Hgrn.exactDot (ones upper) X) (fun i j => ∑ k ∈ Finset.Ico i (64 * (i / 64) + 64), r k j) :=
  ((reads_ones upper_apply).exactDot hx).congr fun i hi j _ => by
    simp only [ite_mul, one_mul, zero_mul]
    exact triu_sum hi fun k => r k j

theorem pairs {X Y : FVec Ideal S128x128 .bf16} (hx : Reads X r) (hy : Reads Y s) :
    Reads (pairs X Y) (fun i j => if i / 64 = j / 64 ∧ j ≤ i then ∑ k ∈ Finset.range 128, r i k * s j k else 0) :=
  Reads.half (Reads.select (p := fun i j => i / 64 = j / 64 ∧ j ≤ i) lower_apply (hx.tileNT hy) reads_zero)

/-- A masked tile against a tile: the sum over the chunk's tokens up to the row's. -/
theorem maskNN {φ : FTy} {X : FVec Ideal S128x128 .bf16} {Y : FVec Ideal S128x128 φ}
    (hx : Reads X fun i j => if i / 64 = j / 64 ∧ j ≤ i then r i j else 0) (hy : Reads Y s) :
    Reads (Hgrn.tileNN X Y) (fun i j => ∑ k ∈ Finset.Ico (64 * (i / 64)) (i + 1), r i k * s k j) :=
  (hx.tileNN hy).congr fun i hi j _ => by
    simp only [ite_mul, zero_mul]
    exact tril_sum hi fun k => r i k * s k j
theorem maskTN {φ : FTy} {X : FVec Ideal S128x128 .bf16} {Y : FVec Ideal S128x128 φ}
    (hx : Reads X fun i j => if i / 64 = j / 64 ∧ j ≤ i then r i j else 0) (hy : Reads Y s) :
    Reads (Hgrn.tileTN X Y) (fun i j => ∑ k ∈ Finset.Ico i (64 * (i / 64) + 64), r k i * s k j) :=
  (hx.tileTN hy).congr fun i hi j _ => by
    simp only [ite_mul, zero_mul, eq_comm (a := _ / 64) (b := i / 64)]
    exact triu_sum hi fun k => r k i * s k j

end Reads

end Cert.Hgrn
-- ==== Proof.Block.lean ====
/-
  What one grid point computes when its blocks hold a head's numbers: every stage holds the quantity of the
  token-level text it stands for.
-/
module

public import proofs.«01_k».proof.Proof.BlockOps

@[expose] public section

set_option maxRecDepth 16384

noncomputable section

namespace Cert.Hgrn

open Idealize.ShloMosaic Cert.KernelIdeal Cert.KernelIdeal.Gen
open Finset (range Ico)

/-- The blocks hold tokens `2048 J` on of head `H`, the states before chunks `32 J` on, and the gradient of the state
    after them. -/
structure Holds (B : Blk) (H : Head) (J : ℕ) : Prop where
  hJ : J < 4
  zq : Reads (flat B.zq) fun i d => H.zq (2048 * J + i) d
  zf : Reads (flat B.zf) fun i d => H.zf (2048 * J + i) d
  zi : Reads (flat B.zi) fun i d => H.zi (2048 * J + i) d
  zg : Reads (flat B.zg) fun i d => H.zg (2048 * J + i) d
  l0 : Reads B.logit0 fun _ d => H.l0 d
  l1 : Reads B.logit1 fun _ d => H.l1 d
  gn : Reads B.gn fun _ d => H.gn d
  st : ∀ c : Fin 32, Reads (B.sts c) fun v d => H.St (32 * J + c) v d
  dy : Reads B.dyv fun i d => H.dy (2048 * J + i) d
  g0 : Reads (B.g 0) fun v d => H.Gs eps (32 * J + 32) v d

/-! ## Sums over a tile's or a chunk's tokens, in the tokens' own numbers -/

theorem shift_sum (g : ℕ → ℝ) (T x y x' y' : ℕ) (hx : T + x = x') (hy : T + y = y') :
    ∑ k ∈ Ico x y, g (T + k) = ∑ k ∈ Ico x' y', g k := by
  subst hx; subst hy
  rw [Finset.sum_Ico_add g x y T, Nat.add_comm x, Nat.add_comm y]

theorem low_sum (g : ℕ → ℝ) (J n i : ℕ) :
    ∑ k ∈ Ico (64 * (i / 64)) (i + 1), g (2048 * J + (128 * n + k))
      = ∑ k ∈ Ico (64 * ((2048 * J + (128 * n + i)) / 64)) (2048 * J + (128 * n + i) + 1), g k := by
  simp only [← Nat.add_assoc (2048 * J) (128 * n)]
  exact shift_sum g _ _ _ _ _ (by omega) (by omega)

theorem high_sum (g : ℕ → ℝ) (J n i : ℕ) :
    ∑ k ∈ Ico i (64 * (i / 64) + 64), g (2048 * J + (128 * n + k))
      = ∑ k ∈ Ico (2048 * J + (128 * n + i)) (64 * ((2048 * J + (128 * n + i)) / 64) + 64), g k := by
  simp only [← Nat.add_assoc (2048 * J) (128 * n)]
  exact shift_sum g _ _ _ _ _ (by omega) (by omega)

theorem chunk_sum (g : ℕ → ℝ) (J c : ℕ) :
    ∑ k ∈ range 64, g (2048 * J + (64 * c + k)) = ∑ k ∈ Ico (64 * (32 * J + c)) (64 * (32 * J + c) + 64), g k := by
  simp only [← Nat.add_assoc (2048 * J) (64 * c)]
  rw [Finset.range_eq_Ico]
  exact shift_sum g _ _ _ _ _ (by omega) (by omega)

/-- Two tokens of one tile lie in one chunk when their places in the tile do. -/
theorem same_chunk (J n i k : ℕ) (h : i / 64 = k / 64) :
    (2048 * J + (128 * n + k)) / 64 = (2048 * J + (128 * n + i)) / 64 := by omega

/-! ## The gate -/

namespace Holds

variable {B : Blk} {H : Head} {J : ℕ} (h : Holds B H J)
include h

theorem lt {i : ℕ} (hi : i < 2048) : 2048 * J + i < N := by have := h.hJ; rw [N_eq]; omega

theorem lb : Reads B.lb fun _ d => H.lb d :=
  have m := h.l0.max h.l1
  have a := (h.l0.sub m).exp
  have b := (h.l1.sub m).exp
  (a.div (a.add b) fun _ _ _ _ => by positivity).congr fun i _ d _ => by
    unfold Head.lb
    rw [Real.exp_sub, Real.exp_sub, ← add_div, div_div_div_cancel_right₀ (Real.exp_pos _).ne']

theorem oneLessLb : Reads B.oneLessLb fun _ d => 1 - H.lb d := reads_one.sub h.lb
theorem q : Reads B.q fun i d => H.q (2048 * J + i) d := h.zq.silu
theorem qz : Reads B.qz fun i d => H.qz (2048 * J + i) d := h.zq.siluGrad
theorem sf : Reads B.sf fun i d => H.sf (2048 * J + i) d := h.zf.logistic
theorem f : Reads B.f fun i d => H.f (2048 * J + i) d := h.lb.overRows.add (h.oneLessLb.overRows.mul h.sf)
theorem k : Reads B.k fun i d => H.k (2048 * J + i) d := reads_one.sub h.f
theorem lf : Reads B.lf fun i d => H.lf (2048 * J + i) d := h.f.log fun _ _ _ _ => H.f_pos _ _

theorem b : Reads B.b fun i d => H.b (2048 * J + i) d :=
  Reads.tiles fun n => ((h.lf.tile n).lowerSum).congr fun i hi d _ => by
    rw [low_sum (fun t => H.lf t d)]
    unfold Head.b Head.S
    rw [Finset.sum_Ico_eq_sub _ (by omega)]

theorem bl : Reads B.bl fun i d => H.bl (2048 * J + i) d := h.b.lastOfChunk.congr fun i _ d _ => by
  unfold Head.b Head.bl
  rw [show (2048 * J + (i / 64 * 64 + 63)) / 64 = (2048 * J + i) / 64 by omega,
    show 2048 * J + (i / 64 * 64 + 63) + 1 = 64 * ((2048 * J + i) / 64) + 64 by omega]

theorem eb : Reads B.eb fun i d => Real.exp (H.b (2048 * J + i) d) := h.b.exp
theorem enb : Reads B.enb fun i d => Real.exp (-H.b (2048 * J + i) d) :=
  ((reads_zero.sub h.b).congr fun _ _ _ _ => zero_sub _).exp
theorem ekl : Reads B.ekl fun i d => Real.exp (H.bl (2048 * J + i) d - H.b (2048 * J + i) d) := (h.bl.sub h.b).exp
theorem ebl : Reads B.ebl fun i d => Real.exp (H.bl (2048 * J + i) d) := h.bl.exp
theorem qd : Reads B.qd fun i d => H.qd (2048 * J + i) d := h.q.mul h.eb
theorem kd : Reads B.kd fun i d => H.kd (2048 * J + i) d := h.k.mul h.enb
theorem ke : Reads B.ke fun i d => H.ke (2048 * J + i) d := h.k.mul h.ekl
theorem qdh : Reads B.qdh fun i d => H.qd (2048 * J + i) d := h.qd.half
theorem kdh : Reads B.kdh fun i d => H.kd (2048 * J + i) d := h.kd.half
theorem keh : Reads B.keh fun i d => H.ke (2048 * J + i) d := h.ke.half
theorem v : Reads B.v fun i d => H.zi (2048 * J + i) d := h.zi.half
theorem sth (c : Fin 32) : Reads (B.sth c) fun v d => H.St (32 * J + c) v d := (h.st c).half

/-! ## The output and the norm -/

theorem a (n : Fin 16) : Reads (B.a n) fun i j => if i / 64 = j / 64 ∧ j ≤ i then H.A (2048 * J + (128 * n + i)) (2048 * J + (128 * n + j)) else 0 :=
  ((h.qdh.tile n).pairs (h.kdh.tile n)).congr fun i _ j _ => by
    by_cases e : i / 64 = j / 64 ∧ j ≤ i
    · rw [if_pos e, if_pos e, H.A_eq (same_chunk J n i j e.1) (by omega)]
    · rw [if_neg e, if_neg e]

theorem oIntra : Reads B.oIntra fun i v => ∑ s ∈ Ico (64 * ((2048 * J + i) / 64)) (2048 * J + i + 1), H.A (2048 * J + i) s * H.zi s v :=
  Reads.tiles fun n => (Reads.maskNN (r := fun i j => H.A (2048 * J + (128 * n + i)) (2048 * J + (128 * n + j))) (h.a n) (h.v.tile n)).congr fun i _ v _ =>
    low_sum (fun s => H.A (2048 * J + (128 * n + i)) s * H.zi s v) J n i

theorem o : Reads B.o fun i v => H.o (2048 * J + i) v :=
  (h.oIntra.add (Reads.chunks (r := fun i v => ∑ d ∈ range 128, H.qd (2048 * J + i) d * H.St ((2048 * J + i) / 64) v d) fun c =>
    ((h.qdh.chunk c).chunkNT (h.sth c)).congr fun i hi v _ => by
      rw [show (2048 * J + (64 * c.val + i)) / 64 = 32 * J + c by omega])).congr fun i hi v _ => (H.o_eq (h.lt hi) v).symm

theorem rinv : Reads B.rinv fun i _ => H.rinv eps (2048 * J + i) :=
  ((h.o.mul h.o).meanLanes.add reads_eps).rsqrt fun i _ _ _ => H.var_pos eps_pos (2048 * J + i)

theorem ohat : Reads B.ohat fun i v => H.ohat eps (2048 * J + i) v := h.o.mul h.rinv.overLanes
theorem sg : Reads B.sg fun i v => H.sg (2048 * J + i) v := h.zg.silu
theorem dsg : Reads B.dsg fun i v => H.dsg (2048 * J + i) v := h.zg.siluGrad
theorem don : Reads B.don fun i v => H.don (2048 * J + i) v := h.dy.mul h.sg
theorem dzg : Reads B.dzg fun i v => H.dzg eps (2048 * J + i) v :=
  ((h.dy.mul (h.ohat.mul h.gn.overRows)).mul h.dsg).half
theorem dgn : Reads B.dgn fun _ v => ∑ t ∈ Ico (2048 * J) (2048 * J + 2048), H.don t v * H.ohat eps t v :=
  (h.don.mul h.ohat).sumRows.congr fun _ _ v _ => by
    rw [Finset.range_eq_Ico]
    exact shift_sum (fun t => H.don t v * H.ohat eps t v) (2048 * J) 0 2048 _ _ rfl rfl
theorem dohat : Reads B.dohat fun i v => H.dohat (2048 * J + i) v := h.don.mul h.gn.overRows
theorem do' : Reads B.do' fun i v => H.do' eps (2048 * J + i) v :=
  (h.rinv.overLanes.mul (h.dohat.sub (h.ohat.mul (h.dohat.mul h.ohat).meanLanes.overLanes))).half

/-! ## The state's gradient -/

theorem da (n : Fin 16) : Reads (B.da n) fun i j => if i / 64 = j / 64 ∧ j ≤ i then H.DA eps (2048 * J + (128 * n + i)) (2048 * J + (128 * n + j)) else 0 :=
  ((h.do'.tile n).pairs (h.v.tile n)).congr fun i _ j _ => by
    by_cases e : i / 64 = j / 64 ∧ j ≤ i
    · rw [if_pos e, if_pos e]
      unfold Head.DA
      rw [if_pos (by omega)]
    · rw [if_neg e, if_neg e]

theorem gk (c : Fin 32) : Reads (B.gk c) fun v d => ∑ r ∈ Ico (64 * (32 * J + c)) (64 * (32 * J + c) + 64), H.do' eps r v * H.qd r d :=
  ((h.do'.chunk c).chunkTN (h.qdh.chunk c)).congr fun v _ d _ => chunk_sum (fun r => H.do' eps r v * H.qd r d) J c

theorem overState {X : FVec Ideal S1x128 .f32} {r : ℕ → ℕ → ℝ} (hx : Reads X r) :
    Reads (broadcastTo S128x128 X broadcasts_S1x128_S128x128) (fun _ j => r 0 j) := fun i j => by
  have e : broadcastTo S128x128 X broadcasts_S1x128_S128x128 (ix2 i j) = X (ix2 0 j) := by pointwise []
  rw [e]; exact hx 0 j

theorem g (n : ℕ) (hn : n ≤ 32) : Reads (B.g n) fun v d => H.Gs eps (32 * J + 32 - n) v d := by
  induction n with
  | zero => exact h.g0
  | succ n ih =>
    exact (((ih (by omega)).mul (h.overState (h.ebl.firstRow ⟨31 - n, by omega⟩))).add (h.gk ⟨31 - n, by omega⟩)).congr fun v _ d _ => by
      have := h.hJ
      rw [← H.Gs_step (c := 32 * J + 32 - (n + 1)) (by rw [N_eq]; omega) v d]
      simp only [show 32 * J + 32 - (n + 1) + 1 = 32 * J + 32 - n by omega, show 32 * J + (31 - n) = 32 * J + 32 - (n + 1) by omega,
        show 2048 * J + (64 * (31 - n) + 0) = 64 * (32 * J + 32 - (n + 1)) by omega]

theorem gs (c : Fin 32) : Reads (B.gs c) fun v d => H.Gs eps (32 * J + c + 1) v d :=
  (h.g (31 - c.val) (by omega)).congr fun v _ d _ => by rw [show 32 * J + 32 - (31 - c.val) = 32 * J + c + 1 by omega]
theorem gsh (c : Fin 32) : Reads (B.gsh c) fun v d => H.Gs eps (32 * J + c + 1) v d := (h.gs c).half

/-! ## The gradients of the keys, the queries and the values -/

theorem dv : Reads B.dv fun i v => H.dv eps (2048 * J + i) v :=
  ((Reads.tiles (r := fun i v => ∑ t ∈ Ico (2048 * J + i) (64 * ((2048 * J + i) / 64) + 64), H.A t (2048 * J + i) * H.do' eps t v) fun n =>
    (Reads.maskTN (r := fun i j => H.A (2048 * J + (128 * n + i)) (2048 * J + (128 * n + j))) (h.a n) (h.do'.tile n)).congr fun i _ v _ =>
      high_sum (fun t => H.A t (2048 * J + (128 * n + i)) * H.do' eps t v) J n i).add
  (Reads.chunks (r := fun i v => ∑ d ∈ range 128, H.ke (2048 * J + i) d * H.Gs eps ((2048 * J + i) / 64 + 1) v d) fun c =>
    ((h.keh.chunk c).chunkNT (h.gsh c)).congr fun i hi v _ => by
      rw [show (2048 * J + (64 * c.val + i)) / 64 = 32 * J + c by omega])).congr fun i hi v _ => (H.dv_eq (h.lt hi) v).symm

theorem dvh : Reads B.dvh fun i v => H.dv eps (2048 * J + i) v := h.dv.half

theorem dkd : Reads B.dkd fun i d => H.dkd eps (2048 * J + i) d :=
  Reads.tiles fun n =>
    (Reads.maskTN (r := fun i j => H.DA eps (2048 * J + (128 * n + i)) (2048 * J + (128 * n + j))) (h.da n) (h.qdh.tile n)).congr fun i _ d _ =>
      high_sum (fun t => H.DA eps t (2048 * J + (128 * n + i)) * H.qd t d) J n i

theorem dke : Reads B.dke fun i d => H.dke eps (2048 * J + i) d :=
  Reads.chunks fun c => ((h.v.chunk c).chunkNN (h.gsh c)).congr fun i hi d _ => by
    unfold Head.dke
    rw [show (2048 * J + (64 * c.val + i)) / 64 = 32 * J + c by omega]

theorem dqd : Reads B.dqd fun i d => H.dqd eps (2048 * J + i) d :=
  (Reads.tiles (r := fun i d => ∑ s ∈ Ico (64 * ((2048 * J + i) / 64)) (2048 * J + i + 1), H.DA eps (2048 * J + i) s * H.kd s d) fun n =>
    (Reads.maskNN (r := fun i j => H.DA eps (2048 * J + (128 * n + i)) (2048 * J + (128 * n + j))) (h.da n) (h.kdh.tile n)).congr fun i _ d _ =>
      low_sum (fun s => H.DA eps (2048 * J + (128 * n + i)) s * H.kd s d) J n i).add
  (Reads.chunks (r := fun i d => ∑ v ∈ range 128, H.do' eps (2048 * J + i) v * H.St ((2048 * J + i) / 64) v d) fun c =>
    ((h.do'.chunk c).chunkNN (h.sth c)).congr fun i hi d _ => by
      rw [show (2048 * J + (64 * c.val + i)) / 64 = 32 * J + c by omega])

theorem dzq : Reads B.dzq fun i d => H.dzq eps (2048 * J + i) d :=
  ((h.dqd.mul h.eb).mul h.qz).half.congr fun i hi d _ => by
    unfold Head.dzq
    rw [H.dq_eq (h.lt hi)]

/-! ## The gradient of the gate -/

theorem stateRow (c : Fin 32) : Reads (B.stateRow c) fun _ d => ∑ v ∈ range 128, H.Gs eps (32 * J + c + 1) v d * H.St (32 * J + c) v d := fun i j => by
  have e : B.stateRow c (ix2 i j) = ∑ x : Fin 128, (B.gs c) (ix2 x j) * (B.sts c) (ix2 x j) := by pointwise [Blk.stateRow]
  rw [e]; exact Reads.dot_sum (fun k => h.gs c k j) (fun k => h.st c k j)

theorem debl : Reads B.debl fun i d => ∑ v ∈ range 128, H.Gs eps ((2048 * J + i) / 64 + 1) v d * H.St ((2048 * J + i) / 64) v d :=
  Reads.chunks fun c i j => by
    have e : B.stateSum c (ix2 i j) = B.stateRow c (ix2 0 j) := by pointwise [Blk.stateSum]
    rw [e, h.stateRow c 0 j]
    beta_reduce
    rw [show (2048 * J + (64 * c.val + i.val)) / 64 = 32 * J + c by omega]

theorem tke : Reads B.tke fun i d => H.dke eps (2048 * J + i) d * H.ke (2048 * J + i) d := h.dke.mul h.ke

theorem db : Reads B.db fun i d => H.dB eps (2048 * J + i) d :=
  (((h.dqd.mul h.qd).sub (h.dkd.mul h.kd)).sub h.tke).congr fun i hi d _ => H.db_eq (h.lt hi) d

theorem dk : Reads B.dk fun i d => H.dk eps (2048 * J + i) d :=
  ((h.dkd.mul h.enb).add (h.dke.mul h.ekl)).congr fun i hi d _ => H.dk_eq (h.lt hi) d

theorem dlf : Reads B.dlf fun i d => H.dlf eps (2048 * J + i) d :=
  ((Reads.tiles (r := fun i d => ∑ t ∈ Ico (2048 * J + i) (64 * ((2048 * J + i) / 64) + 64), H.dB eps t d) fun n =>
    (h.db.tile n).upperSum.congr fun i _ d _ => high_sum (fun t => H.dB eps t d) J n i).add
  (h.tke.sumOfChunk.add (h.debl.mul h.ebl))).congr fun i hi d _ => by
    rw [← H.dlf_eq (h.lt hi)]
    congr 2
    have e := chunk_sum (fun r => H.dke eps r d * H.ke r d) J (i / 64)
    rw [show 64 * (32 * J + i / 64) = 64 * ((2048 * J + i) / 64) by omega] at e
    rw [← e, Nat.mul_comm (i / 64) 64]

theorem df : Reads B.df fun i d => H.df eps (2048 * J + i) d := (h.dlf.div h.f fun _ _ _ _ => (H.f_pos _ _).ne').sub h.dk

theorem dzf : Reads B.dzf fun i d => H.dzf eps (2048 * J + i) d :=
  ((h.df.mul h.oneLessLb.overRows).mul (h.sf.mul (reads_one.sub h.sf))).half

theorem dlb : Reads B.dlb fun _ d => ∑ t ∈ Ico (2048 * J) (2048 * J + 2048), H.df eps t d * (1 - H.sf t d) :=
  (h.df.mul (reads_one.sub h.sf)).sumRows.congr fun _ _ d _ => by
    rw [Finset.range_eq_Ico]
    exact shift_sum (fun t => H.df eps t d * (1 - H.sf t d)) (2048 * J) 0 2048 _ _ rfl rfl

theorem dl0 : Reads B.dl0 fun _ d => (∑ t ∈ Ico (2048 * J) (2048 * J + 2048), H.df eps t d * (1 - H.sf t d)) * H.lb d * (1 - H.lb d) :=
  (h.dlb.mul h.lb).mul (reads_one.sub h.lb)

end Holds

end Cert.Hgrn
-- ==== Proof.StepOps.lean ====
/-
  The entries of what a grid point leaves in its outputs and in the state's gradient.
-/
module

public import proofs.«01_k».proof.Proof.PointA
public import proofs.«01_k».proof.Proof.PointB
public import proofs.«01_k».proof.Proof.Block
public import Idealize.ShloMosaic.Lib.Writes

@[expose] public section

set_option maxRecDepth 16384

noncomputable section

namespace Cert.Hgrn

open Idealize.ShloMosaic Cert.KernelIdeal Cert.KernelIdeal.Gen
open Idealize.ShloMosaic.View (canon_cons_emb canon_cons_of_not_mem)

theorem canon_skip {S : Shape} {e : EltTy} (r : Rect S) (w) (L : List (View.Piece (Elt Ideal) S e)) {y : S.Idx} (h : y ∉ r.set) :
    View.canon (⟨r, w⟩ :: L) y = View.canon L y := canon_cons_of_not_mem _ _ h

theorem lift_apply (X : FVec Ideal S2048x128 .bf16) (i : Fin 2048) (d : Fin 128) : lift X (ix3 0 i d) = X (ix2 i d) := by
  pointwise [lift]

theorem zeroS (j : S1x128x128.Idx) : k0_pay5 (F := Ideal) j = 0 := by pointwise [k0_pay5]
theorem zeroL (j : S2x128.Idx) : k0_pay6 (F := Ideal) j = 0 := by pointwise [k0_pay6]
theorem zeroG (j : S1x1x128.Idx) : k0_pay7 (F := Ideal) j = 0 := by pointwise [k0_pay7]

/-- An entry of segment `n` of the stored block. -/
theorem emb_seg {n : ℕ} (inb) (k : Fin 4) (hk : k.val = n) (i : Fin 2048) (d : Fin 128) :
    (Rect.unit (s := S4x2048x128) ![n, 0, 0] S1x2048x128.size inb).emb (ix3 0 i d) = ix3 k i d := by
  refine Rect.emb_eq_of_coords _ _ _ fun a => ?_
  match a with
  | 0 => show k.val = n + 1 * 0; omega
  | 1 => show i.val = 0 + 1 * i.val; omega
  | 2 => show d.val = 0 + 1 * d.val; omega

theorem not_seg {n : ℕ} (inb) (k : Fin 4) (hk : k.val ≠ n) (i : Fin 2048) (d : Fin 128) :
    ix3 k i d ∉ (Rect.unit (s := S4x2048x128) ![n, 0, 0] S1x2048x128.size inb).set := by
  rw [Rect.mem_set_unit]
  intro h
  have := h 0
  change n ≤ k.val ∧ k.val < n + 1 at this
  omega

theorem four_zq (B : Blk) (i : Fin 2048) (d : Fin 128) : four B (ix3 0 i d) = B.dzq (ix2 i d) := by
  unfold four
  rw [canon_skip (Rect.unit (s := S4x2048x128) ![1, 0, 0] S1x2048x128.size inb_S4x2048x128_S1x2048x128_1_0_0) _ _ (not_seg _ 0 (by decide) i d), ← emb_seg inb_S4x2048x128_S1x2048x128_0_0_0 0 rfl i d, canon_cons_emb, lift_apply]
theorem four_zf (B : Blk) (i : Fin 2048) (d : Fin 128) : four B (ix3 1 i d) = B.dzf (ix2 i d) := by
  unfold four
  rw [← emb_seg inb_S4x2048x128_S1x2048x128_1_0_0 1 rfl i d, canon_cons_emb, lift_apply]
theorem four_zi (B : Blk) (i : Fin 2048) (d : Fin 128) : four B (ix3 2 i d) = B.dvh (ix2 i d) := by
  unfold four
  rw [canon_skip (Rect.unit (s := S4x2048x128) ![1, 0, 0] S1x2048x128.size inb_S4x2048x128_S1x2048x128_1_0_0) _ _ (not_seg _ 2 (by decide) i d), canon_skip (Rect.unit (s := S4x2048x128) ![0, 0, 0] S1x2048x128.size inb_S4x2048x128_S1x2048x128_0_0_0) _ _ (not_seg _ 2 (by decide) i d),
    ← emb_seg inb_S4x2048x128_S1x2048x128_2_0_0 2 rfl i d, canon_cons_emb, lift_apply]
theorem four_zg (B : Blk) (i : Fin 2048) (d : Fin 128) : four B (ix3 3 i d) = B.dzg (ix2 i d) := by
  unfold four
  rw [canon_skip (Rect.unit (s := S4x2048x128) ![1, 0, 0] S1x2048x128.size inb_S4x2048x128_S1x2048x128_1_0_0) _ _ (not_seg _ 3 (by decide) i d), canon_skip (Rect.unit (s := S4x2048x128) ![0, 0, 0] S1x2048x128.size inb_S4x2048x128_S1x2048x128_0_0_0) _ _ (not_seg _ 3 (by decide) i d),
    canon_skip (Rect.unit (s := S4x2048x128) ![2, 0, 0] S1x2048x128.size inb_S4x2048x128_S1x2048x128_2_0_0) _ _ (not_seg _ 3 (by decide) i d),
    ← emb_seg inb_S4x2048x128_S1x2048x128_3_0_0 3 rfl i d, canon_cons_emb, lift_apply]

theorem emb_row {n : ℕ} (inb) (k : Fin 2) (hk : k.val = n) (d : Fin 128) :
    (Rect.unit (s := S2x128) ![n, 0] S1x128.size inb).emb (ix2 0 d) = ix2 k d := by
  refine Rect.emb_eq_of_coords _ _ _ fun a => ?_
  match a with
  | 0 => show k.val = n + 1 * 0; omega
  | 1 => show d.val = 0 + 1 * d.val; omega

theorem not_row {n : ℕ} (inb) (k : Fin 2) (hk : k.val ≠ n) (d : Fin 128) :
    ix2 k d ∉ (Rect.unit (s := S2x128) ![n, 0] S1x128.size inb).set := by
  rw [Rect.mem_set_unit]
  intro h
  have := h 0
  change n ≤ k.val ∧ k.val < n + 1 at this
  omega

theorem ld_row {n : ℕ} (inb) (k : Fin 2) (hk : k.val = n) (X : FVec Ideal S2x128 .f32) (d : Fin 128) :
    shapeCast S1x128 (View.ld (Val := Elt Ideal) (e' := .f32) X (Rect.unit (s := S2x128) ![n, 0] S1x128.size inb)) shapeCasts_S1x128_S1x128 (ix2 0 d) = X (ix2 k d) := by
  subst hk
  pointwise []

theorem twoRows_0 (B : Blk) (X : FVec Ideal S2x128 .f32) (L) (d : Fin 128) : twoRows B X L (ix2 0 d) = X (ix2 0 d) + B.dl0 (ix2 0 d) := by
  unfold twoRows
  rw [canon_skip (Rect.unit (s := S2x128) ![1, 0] S1x128.size inb_S2x128_S1x128_1_0) _ _ (not_row _ 0 (by decide) d),
    ← ld_row inb_S2x128_S1x128_0_0 0 rfl X d, ← emb_row inb_S2x128_S1x128_0_0 0 rfl d, canon_cons_emb]
  rfl
theorem twoRows_1 (B : Blk) (X : FVec Ideal S2x128 .f32) (L) (d : Fin 128) : twoRows B X L (ix2 1 d) = X (ix2 1 d) - B.dl0 (ix2 0 d) := by
  unfold twoRows
  rw [← ld_row inb_S2x128_S1x128_1_0 1 rfl X d, ← emb_row inb_S2x128_S1x128_1_0 1 rfl d, canon_cons_emb]
  rfl

theorem gainRow_apply (B : Blk) (X : FVec Ideal S1x1x128 .f32) (d : Fin 128) : gainRow B X (ix3 0 0 d) = X (ix3 0 0 d) + B.dgn (ix2 0 d) := by
  pointwise [gainRow]

theorem gOut_apply (B : Blk) (v d : Fin 128) : B.gOut (ix3 0 v d) = B.g 32 (ix2 v d) := by pointwise [Blk.gOut]

end Cert.Hgrn
-- ==== Proof.Steps.lean ====
/-
  The walk over a head's four blocks of tokens, from the last to the first: what the outputs and the state's gradient
  hold after each point.
-/
module

public import proofs.«01_k».proof.Proof.StepOps

@[expose] public section

set_option maxRecDepth 16384

noncomputable section

namespace Cert.Hgrn

open Idealize.ShloMosaic Idealize.ShloMosaic.TcCoe Cert.KernelIdeal Cert.KernelIdeal.Gen
open Finset (range Ico)

variable (m : (ℓ : Loc nD τ sig) → Buf (Elt Ideal) ℓ) (c : Dev nD) (HD : ℕ → Head)

/-- The block of tokens point `n` works on. -/
def blockOf (n : ℕ) : ℕ := 3 - n % 4

/-- A carried array holds the gradient of the state before chunk `k` of head `H`. -/
def HoldsState (H : Head) (k : ℕ) (s : FVec Ideal S1x128x128 .f32) : Prop :=
  ∀ v d : Fin 128, s (ix3 0 v d) = ((H.Gs eps k v d : ℝ) : EReal)

/-- The blocks the points read hold their heads' numbers. -/
def Inputs : Prop := ∀ (t : Fin cfg0.N) (s : FVec Ideal S1x128x128 .f32),
  HoldsState (HD (t.val / 4)) (32 * blockOf t.val + 32) s →
  Holds (blk' (iblk m c 0 t) (iblk m c 1 t) (iblk m c 2 t) (iblk m c 3 t) (iblk m c 4 t) (iblk m c 5 t) (iblk m c 6 t) (iblk m c 7 t) s)
    (HD (t.val / 4)) (blockOf t.val)

/-- What is carried from block to block: the logits' gradient, the gain's gradient, the state's gradient, of the
    tokens from block `J` on. -/
structure Carried (H : Head) (J : ℕ) (x9 : FVec Ideal S2x128 .f32) (x10 : FVec Ideal S1x1x128 .f32) (s : FVec Ideal S1x128x128 .f32) : Prop where
  l0 : ∀ d : Fin 128, x9 (ix2 0 d) = ((H.dl0To eps (2048 * J) d : ℝ) : EReal)
  l1 : ∀ d : Fin 128, x9 (ix2 1 d) = ((-H.dl0To eps (2048 * J) d : ℝ) : EReal)
  gn : ∀ d : Fin 128, x10 (ix3 0 0 d) = ((H.dgnTo eps (2048 * J) d : ℝ) : EReal)
  st : HoldsState H (32 * J) s

theorem carried_zero (H : Head) : Carried H 4 (k0_pay6 (F := Ideal)) (k0_pay7 (F := Ideal)) (k0_pay5 (F := Ideal)) where
  l0 d := by rw [zeroL]; unfold Head.dl0To Head.dlbTo; rw [N_eq]; simp
  l1 d := by rw [zeroL]; unfold Head.dl0To Head.dlbTo; rw [N_eq]; simp
  gn d := by rw [zeroG]; unfold Head.dgnTo; rw [N_eq]; simp
  st v d := by rw [zeroS, H.Gs_end (by rw [N_eq]), EReal.coe_zero]

theorem carried_step {H : Head} {J : ℕ} {B : Blk} (h : Holds B H J) {x9 x10 s} (k : Carried H (J + 1) x9 x10 s) (L) :
    Carried H J (twoRows B x9 L) (gainRow B x10) B.gOut := by
  have hJ := h.hJ
  have split (g : ℕ → ℝ) : ∑ t ∈ Ico (2048 * J) N, g t = ∑ t ∈ Ico (2048 * (J + 1)) N, g t + ∑ t ∈ Ico (2048 * J) (2048 * J + 2048), g t := by
    rw [add_comm]
    exact (Finset.sum_Ico_consecutive g (by omega) (by rw [N_eq]; omega)).symm
  refine ⟨fun d => ?_, fun d => ?_, fun d => ?_, fun v d => ?_⟩
  · rw [twoRows_0, k.l0, h.dl0 0 d, ← EReal.coe_add]
    congr 1
    unfold Head.dl0To Head.dlbTo
    rw [split]; ring
  · rw [twoRows_1, k.l1, h.dl0 0 d, ← EReal.coe_sub]
    congr 1
    unfold Head.dl0To Head.dlbTo
    rw [split]; ring
  · rw [gainRow_apply, k.gn, h.dgn 0 d, ← EReal.coe_add]
    congr 1
    unfold Head.dgnTo
    rw [split]
  · rw [gOut_apply, h.g 32 le_rfl v d]
    rw [Nat.add_sub_cancel]

/-- The four segments of a point's stored block. -/
structure Stored (H : Head) (J : ℕ) (x8 : FVec Ideal S4x2048x128 .bf16) : Prop where
  zq : ∀ (i : Fin 2048) (d : Fin 128), x8 (ix3 0 i d) = ((H.dzq eps (2048 * J + i) d : ℝ) : EReal)
  zf : ∀ (i : Fin 2048) (d : Fin 128), x8 (ix3 1 i d) = ((H.dzf eps (2048 * J + i) d : ℝ) : EReal)
  zi : ∀ (i : Fin 2048) (d : Fin 128), x8 (ix3 2 i d) = ((H.dv eps (2048 * J + i) d : ℝ) : EReal)
  zg : ∀ (i : Fin 2048) (d : Fin 128), x8 (ix3 3 i d) = ((H.dzg eps (2048 * J + i) d : ℝ) : EReal)

theorem stored {H : Head} {J : ℕ} {B : Blk} (h : Holds B H J) : Stored H J (four B) where
  zq i d := by rw [four_zq]; exact h.dzq i d
  zf i d := by rw [four_zf]; exact h.dzf i d
  zi i d := by rw [four_zi]; exact h.dvh i d
  zg i d := by rw [four_zg]; exact h.dzg i d

/-- What the buffers hold after a point that meets a head's first visit, and after one that continues it. -/
theorem outs_A (t : Fin cfg0.N) (h0 : t.val % 4 = 0) {B : Blk}
    (hB : B = blk' (iblk m c 0 t) (iblk m c 1 t) (iblk m c 2 t) (iblk m c 3 t) (iblk m c 4 t) (iblk m c 5 t) (iblk m c 6 t) (iblk m c 7 t) (k0_pay5 (F := Ideal))) :
    (outsAt0 m c t.val t.isLt).1 = four B ∧ (∃ L, (outsAt0 m c t.val t.isLt).2.1 = twoRows B (k0_pay6 (F := Ideal)) L)
      ∧ (outsAt0 m c t.val t.isLt).2.2.1 = gainRow B (k0_pay7 (F := Ideal)) ∧ (outsAt0 m c t.val t.isLt).2.2.2 = B.gOut := by
  subst hB
  rw [outsAt0_A m c t h0]
  dsimp only
  rw [out0_A_8_eq, out0_A_9_eq, out0_A_10_eq, sout0_A_0_eq]
  exact ⟨rfl, ⟨_, rfl⟩, rfl, rfl⟩

theorem outs_B (t : Fin cfg0.N) (h0 : ¬t.val % 4 = 0) (p : Vec Ideal S4x2048x128 .bf16 × Vec Ideal S2x128 .f32 × Vec Ideal S1x1x128 .f32 × Vec Ideal S1x128x128 .f32)
    (hp : p = outsAt0 m c (t.val - 1) (Nat.lt_of_le_of_lt (Nat.sub_le _ _) t.isLt)) {B : Blk}
    (hB : B = blk' (iblk m c 0 t) (iblk m c 1 t) (iblk m c 2 t) (iblk m c 3 t) (iblk m c 4 t) (iblk m c 5 t) (iblk m c 6 t) (iblk m c 7 t) p.2.2.2) :
    (outsAt0 m c t.val t.isLt).1 = four B ∧ (∃ L, (outsAt0 m c t.val t.isLt).2.1 = twoRows B p.2.1 L)
      ∧ (outsAt0 m c t.val t.isLt).2.2.1 = gainRow B p.2.2.1 ∧ (outsAt0 m c t.val t.isLt).2.2.2 = B.gOut := by
  subst hB
  subst hp
  rw [outsAt0_B m c t h0]
  dsimp only
  rw [out0_B_8_eq, out0_B_9_eq, out0_B_10_eq, sout0_B_0_eq]
  exact ⟨rfl, ⟨_, rfl⟩, rfl, rfl⟩

variable {m c HD}

theorem after (hin : Inputs m c HD) (n : ℕ) : ∀ hn : n < cfg0.N,
    Stored (HD (n / 4)) (blockOf n) (outsAt0 m c n hn).1
      ∧ Carried (HD (n / 4)) (blockOf n) (outsAt0 m c n hn).2.1 (outsAt0 m c n hn).2.2.1 (outsAt0 m c n hn).2.2.2 := by
  induction n using Nat.strong_induction_on with
  | _ n ih =>
    intro hn
    by_cases h0 : n % 4 = 0
    · obtain ⟨e8, ⟨L, e9⟩, e10, es⟩ := outs_A m c ⟨n, hn⟩ h0 rfl
      have hJ : blockOf n = 3 := by unfold blockOf; omega
      have k0 := carried_zero (HD (n / 4))
      have h := hin ⟨n, hn⟩ (k0_pay5 (F := Ideal)) (by
        show HoldsState (HD (n / 4)) (32 * blockOf n + 32) _
        rw [hJ]; exact k0.st)
      dsimp only at e8 e9 e10 es h
      rw [e8, e9, e10, es]
      refine ⟨stored h, carried_step h (s := k0_pay5 (F := Ideal)) ?_ L⟩
      rw [hJ]; exact k0
    · obtain ⟨e8, ⟨L, e9⟩, e10, es⟩ := outs_B m c ⟨n, hn⟩ h0 _ rfl rfl
      have kp := (ih (n - 1) (by omega) (by omega)).2
      rw [show (n - 1) / 4 = n / 4 by omega, show blockOf (n - 1) = blockOf n + 1 by unfold blockOf; omega] at kp
      have h := hin ⟨n, hn⟩ (outsAt0 m c (n - 1) (by omega)).2.2.2 (by
        have := kp.st
        rwa [Nat.mul_add] at this)
      dsimp only at e8 e9 e10 es h
      rw [e8, e9, e10, es]
      exact ⟨stored h, carried_step h kp L⟩

end Cert.Hgrn
-- ==== Proof.Input.lean ====
/-
  The blocks the points read hold their heads' numbers.
-/
module

public import proofs.«01_k».proof.Proof.HostReads
public import proofs.«01_k».proof.Proof.Steps
public import Idealize.ShloMosaic.Lib.Pipeline.ValueKit.Geometry

@[expose] public section

set_option maxRecDepth 16384

noncomputable section

namespace Cert.Hgrn

open Idealize.ShloMosaic Idealize.ShloMosaic.TcCoe Cert.KernelIdeal Cert.KernelIdeal.Gen

variable (m : (ℓ : Loc nD τ sig) → Buf (Elt Ideal) ℓ) (c : Dev nD)

theorem index0 : ∀ t : Fin cfg0.N, win0_0.index t = ![0, t.val / 4, 3 - t.val % 4, 0] := (by decide +kernel : ∀ t : Fin grid0.N, _)
theorem index1 : ∀ t : Fin cfg0.N, win0_1.index t = ![1, t.val / 4, 3 - t.val % 4, 0] := (by decide +kernel : ∀ t : Fin grid0.N, _)
theorem index2 : ∀ t : Fin cfg0.N, win0_2.index t = ![2, t.val / 4, 3 - t.val % 4, 0] := (by decide +kernel : ∀ t : Fin grid0.N, _)
theorem index3 : ∀ t : Fin cfg0.N, win0_3.index t = ![3, t.val / 4, 3 - t.val % 4, 0] := (by decide +kernel : ∀ t : Fin grid0.N, _)
theorem index4 : ∀ t : Fin cfg0.N, win0_4.index t = ![0, t.val / 4] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![3 - t.val % 4, t.val / 4, 0, 0] := (by decide +kernel : ∀ t : Fin grid0.N, _)
theorem index7 : ∀ t : Fin cfg0.N, win0_7.index t = ![3 - t.val % 4, t.val / 4] := (by decide +kernel : ∀ t : Fin grid0.N, _)

theorem lt_32 (t : Fin cfg0.N) : t.val < 32 := lt_of_lt_of_eq t.isLt N_0

theorem block0 (t : Fin cfg0.N) (i : Fin 2048) (d : Fin 128) :
    iblk m c 0 t (ix4 0 0 i d) = bySegment (argZ m c) (ix4 0 ⟨t.val / 4, by have := lt_32 t; omega⟩ ⟨2048 * blockOf t.val + i.val, by unfold blockOf; omega⟩ d) := by
  rw [← entry_z]
  blk_ext [iblk, index0, blockOf]
theorem block1 (t : Fin cfg0.N) (i : Fin 2048) (d : Fin 128) :
    iblk m c 1 t (ix4 0 0 i d) = bySegment (argZ m c) (ix4 1 ⟨t.val / 4, by have := lt_32 t; omega⟩ ⟨2048 * blockOf t.val + i.val, by unfold blockOf; omega⟩ d) := by
  rw [← entry_z]
  blk_ext [iblk, index1, blockOf]
theorem block2 (t : Fin cfg0.N) (i : Fin 2048) (d : Fin 128) :
    iblk m c 2 t (ix4 0 0 i d) = bySegment (argZ m c) (ix4 2 ⟨t.val / 4, by have := lt_32 t; omega⟩ ⟨2048 * blockOf t.val + i.val, by unfold blockOf; omega⟩ d) := by
  rw [← entry_z]
  blk_ext [iblk, index2, blockOf]
theorem block3 (t : Fin cfg0.N) (i : Fin 2048) (d : Fin 128) :
    iblk m c 3 t (ix4 0 0 i d) = bySegment (argZ m c) (ix4 3 ⟨t.val / 4, by have := lt_32 t; omega⟩ ⟨2048 * blockOf t.val + i.val, by unfold blockOf; omega⟩ d) := by
  rw [← entry_z]
  blk_ext [iblk, index3, blockOf]
theorem block4 (t : Fin cfg0.N) (i : Fin 2) (d : Fin 128) :
    iblk m c 4 t (ix2 i d) = argL m c (ix2 i ⟨128 * (t.val / 4) + d.val, by have := lt_32 t; omega⟩) := by
  refine Eq.trans ?_ (congrFun (V_main_arg1 m c) _)
  blk_ext [iblk, index4]
theorem block5 (t : Fin cfg0.N) (d : Fin 128) :
    iblk m c 5 t (ix2 0 d) = argG m c (ix2 0 d) := by
  refine Eq.trans ?_ (congrFun (V_main_arg2 m c) _)
  blk_ext [iblk, index5]
theorem block6 (t : Fin cfg0.N) (x : Fin 32) (v d : Fin 128) :
    iblk m c 6 t (ix4 x 0 v d) = states (argZ m c) (argL m c) (ix4 ⟨32 * blockOf t.val + x.val, by unfold blockOf; omega⟩ ⟨t.val / 4, by have := lt_32 t; omega⟩ v d) := by
  rw [← entry_states]
  blk_ext [iblk, index6, blockOf]
theorem block7 (t : Fin cfg0.N) (i : Fin 2048) (d : Fin 128) :
    iblk m c 7 t (ix2 i d) = argDy m c (ix3 0 ⟨2048 * blockOf t.val + i.val, by unfold blockOf; omega⟩ ⟨128 * (t.val / 4) + d.val, by have := lt_32 t; omega⟩) := by
  have e : ∀ (a : Fin 8192) (b : Fin 1024), shapeCast S8192x1024 (argDy m c) shapeCasts_S1x8192x1024_S8192x1024 (ix2 a b) = argDy m c (ix3 0 a b) := fun a b => by
    pointwise []
  rw [← e, ← entry_dy]
  blk_ext [iblk, index7, blockOf]

end Cert.Hgrn
-- ==== Proof.Inputs.lean ====
/-
  Every point finds its head's numbers in its blocks.
-/
module

public import proofs.«01_k».proof.Proof.Input

@[expose] public section

set_option maxRecDepth 16384

noncomputable section

namespace Cert.Hgrn

open Idealize.ShloMosaic Idealize.ShloMosaic.TcCoe Cert.KernelIdeal Cert.KernelIdeal.Gen

section Loads

variable (x0 x1 x2 x3 : FVec Ideal S1x1x2048x128 .f32) (x4 : FVec Ideal S2x128 .f32) (x5 : FVec Ideal S1x128 .f32)
  (x6 : FVec Ideal S32x1x128x128 .f32) (x7 : FVec Ideal S2048x128 .f32) (s : FVec Ideal S1x128x128 .f32)

theorem load_zq (i : Fin 2048) (d : Fin 128) : flat (blk' x0 x1 x2 x3 x4 x5 x6 x7 s).zq (ix2 i d) = x0 (ix4 0 0 i d) := by
  pointwise [flat, blk', blk]
theorem load_zf (i : Fin 2048) (d : Fin 128) : flat (blk' x0 x1 x2 x3 x4 x5 x6 x7 s).zf (ix2 i d) = x1 (ix4 0 0 i d) := by
  pointwise [flat, blk', blk]
theorem load_zi (i : Fin 2048) (d : Fin 128) : flat (blk' x0 x1 x2 x3 x4 x5 x6 x7 s).zi (ix2 i d) = x2 (ix4 0 0 i d) := by
  pointwise [flat, blk', blk]
theorem load_zg (i : Fin 2048) (d : Fin 128) : flat (blk' x0 x1 x2 x3 x4 x5 x6 x7 s).zg (ix2 i d) = x3 (ix4 0 0 i d) := by
  pointwise [flat, blk', blk]
theorem load_l0 (d : Fin 128) : (blk' x0 x1 x2 x3 x4 x5 x6 x7 s).logit0 (ix2 0 d) = x4 (ix2 0 d) := by
  pointwise [Blk.logit0, blk', blk]
theorem load_l1 (d : Fin 128) : (blk' x0 x1 x2 x3 x4 x5 x6 x7 s).logit1 (ix2 0 d) = x4 (ix2 1 d) := by
  pointwise [Blk.logit1, blk', blk]
theorem load_gn (d : Fin 128) : (blk' x0 x1 x2 x3 x4 x5 x6 x7 s).gn (ix2 0 d) = x5 (ix2 0 d) := by
  pointwise [blk', blk]
theorem load_st (c : Fin 32) (v d : Fin 128) : (blk' x0 x1 x2 x3 x4 x5 x6 x7 s).sts c (ix2 v d) = x6 (ix4 c 0 v d) := by
  pointwise [Blk.sts, blk', blk]
theorem load_dy (i : Fin 2048) (d : Fin 128) : (blk' x0 x1 x2 x3 x4 x5 x6 x7 s).dyv (ix2 i d) = x7 (ix2 i d) := by
  pointwise [Blk.dyv, blk', blk]
theorem load_g0 (v d : Fin 128) : (blk' x0 x1 x2 x3 x4 x5 x6 x7 s).g 0 (ix2 v d) = s (ix3 0 v d) := by
  show shapeCast S128x128 _ shapeCasts_S1x128x128_S128x128 _ = _
  pointwise [blk', blk]

end Loads

variable (m : (ℓ : Loc nD τ sig) → Buf (Elt Ideal) ℓ) (c : Dev nD)

abbrev heads : ℕ → Head := headOf (argZ m c) (argL m c) (argG m c) (argDy m c)

theorem inputs (hz : IsReal (argZ m c)) (hl : IsReal (argL m c)) (hg : IsReal (argG m c)) (hdy : IsReal (argDy m c)) :
    Inputs m c (heads m c) := by
  intro t s hs
  have ht := lt_32 t
  refine { hJ := by unfold blockOf; omega, zq := fun i d => ?_, zf := fun i d => ?_, zi := fun i d => ?_, zg := fun i d => ?_, l0 := fun i d => ?_, l1 := fun i d => ?_, gn := fun i d => ?_, st := fun x v d => ?_, dy := fun i d => ?_, g0 := fun v d => ?_ }
  · rw [load_zq, block0, bySegment_at, at_z hz]
    simp only [heads, headOf, Nat.mul_comm 128, Fin.val_zero, Nat.zero_mul, Nat.zero_add]
  · rw [load_zf, block1, bySegment_at, at_z hz]
    simp only [heads, headOf, Nat.mul_comm 128, Fin.val_one, Nat.one_mul, Nat.add_assoc]
  · rw [load_zi, block2, bySegment_at, at_z hz]
    simp only [heads, headOf, Nat.mul_comm 128, Nat.add_assoc, Fin.val_ofNat, Nat.reduceMul, Nat.reduceMod]
    rfl
  · rw [load_zg, block3, bySegment_at, at_z hz]
    simp only [heads, headOf, Nat.mul_comm 128, Nat.add_assoc]
    rfl
  · rw [Subsingleton.elim i 0, load_l0, block4, at_l hl]; rfl
  · rw [Subsingleton.elim i 0, load_l1, block4, at_l hl]; rfl
  · rw [Subsingleton.elim i 0, load_gn, block5, at_g hg]; rfl
  · rw [load_st, block6, states_reads (g := argG m c) (dy := argDy m c) hz hl]
  · rw [load_dy, block7, at_dy hdy]; rfl
  · rw [load_g0]; exact hs v d

end Cert.Hgrn
-- ==== Proof.RefGates.lean ====
/-
  The reference's forward quantities, by head, token and lane: the gates and keys, the queries, the decays between
  every two tokens, the weights and the recurrence's output.
-/
module

public import proofs.«01_k».proof.Proof.Gen.ReferenceIdeal.Read
public import proofs.«01_k».proof.Proof.HostReads
public import proofs.«01_k».proof.Proof.BlockOps

@[expose] public section

set_option maxRecDepth 16384

noncomputable section

namespace Cert.Hgrn.Ref

open Idealize.ShloMosaic Cert.ReferenceIdeal Cert.ReferenceIdeal.Read

variable (z : FVec Ideal S1x8192x8192 .f32) (l : FVec Ideal S2x1024 .f32) (g : FVec Ideal S1x128 .f32) (dy : FVec Ideal S1x8192x1024 .f32)

theorem v41_eq : val_main_v41 (F := Ideal) l = firstRowByHead (partialSums (softmax l)) := rfl
theorem v58_eq : val_main_v58 (F := Ideal) z l = gateOf (partialSums (softmax l)) (gateCols z) := rfl
theorem v60_eq : val_main_v60 (F := Ideal) z l = keyOf (partialSums (softmax l)) (gateCols z) := rfl
theorem v67_eq : val_main_v67 (F := Ideal) z l = runningSum (logOf (partialSums (softmax l)) (gateCols z)) := rfl
theorem v66_eq : val_main_v66 (F := Ideal) z = byHead (valueCols z) := rfl
theorem v45_eq : val_main_v45 (F := Ideal) z = byHead (gateCols z) := rfl

variable {z l g dy}

theorem f_reads (hz : IsReal z) (hl : IsReal l) : Reads3 (val_main_v58 (F := Ideal) z l) (fun h t d => (headOf z l g dy h).f t d) :=
  v58_eq z l ▸ gate_reads hz hl
theorem k_reads (hz : IsReal z) (hl : IsReal l) : Reads3 (val_main_v60 (F := Ideal) z l) (fun h t d => (headOf z l g dy h).k t d) :=
  v60_eq z l ▸ key_reads hz hl
theorem b_reads (hz : IsReal z) (hl : IsReal l) : Reads3 (val_main_v67 (F := Ideal) z l) (fun h t d => (headOf z l g dy h).B t d) :=
  v67_eq z l ▸ running_reads (log_reads hz hl)
theorem v_reads (hz : IsReal z) : Reads3 (val_main_v66 (F := Ideal) z) (fun h t d => (headOf z l g dy h).zi t d) :=
  v66_eq z ▸ valueCols_reads hz
theorem lb_reads (hl : IsReal l) (h : Fin 8) (d : Fin 128) : val_main_v41 (F := Ideal) l (ix3 h 0 d) = (((headOf z l g dy h).lb d : ℝ) : EReal) :=
  v41_eq l ▸ bound_reads hl h d

theorem sf_reads (hz : IsReal z) : Reads3 (val_main_v51 (F := Ideal) z) (fun h t d => (headOf z l g dy h).sf t d) := fun h t d => by
  have e : val_main_v51 (F := Ideal) z = sigmoid3 (val_main_v45 (F := Ideal) z) := rfl
  rw [e, sigmoid3_at, v45_eq, gateCols_reads (l := l) (g := g) (dy := dy) hz, one_word, sigmoid_word]
  rfl

theorem zq_reads (hz : IsReal z) : Reads3 (val_main_v63 (F := Ideal) z) (fun h t d => (headOf z l g dy h).zq t d) := fun h t d => by
  have e : val_main_v63 (F := Ideal) z (ix3 h t d) = z (ix3 0 t ⟨h.val * 128 + d.val, by omega⟩) := by
    pointwise [val_main_v63, val_main_v62, val_main_v1, val_main_v0]
  rw [e, at_z hz]
  simp only [headOf, Nat.mul_comm 128]

theorem sq_reads (hz : IsReal z) : Reads3 (val_main_v64_2 (F := Ideal) z) (fun h t d => sgm ((headOf z l g dy h).zq t d)) := fun h t d => by
  have e : val_main_v64_2 (F := Ideal) z = sigmoid3 (val_main_v63 (F := Ideal) z) := rfl
  rw [e, sigmoid3_at, zq_reads (l := l) (g := g) (dy := dy) hz h t d, one_word, sigmoid_word]

theorem sq'_reads (hz : IsReal z) : Reads3 (val_main_v64_1 (F := Ideal) z) (fun h t d => sgm ((headOf z l g dy h).zq t d) * (1 - sgm ((headOf z l g dy h).zq t d))) := fun h t d => by
  have e : val_main_v64_1 (F := Ideal) z (ix3 h t d) = val_main_v64_2 (F := Ideal) z (ix3 h t d) * (Ideal.ofBits .f32 0x3F800000#32 - val_main_v64_2 (F := Ideal) z (ix3 h t d)) := by
    pointwise [val_main_v64_1, val_main_call1_v7, val_main_call1_v6, val_main_call1_cst_1]
  rw [e, sq_reads (l := l) (g := g) (dy := dy) hz h t d, one_word, ← EReal.coe_sub, ← EReal.coe_mul]

theorem q_reads (hz : IsReal z) : Reads3 (val_main_v64_0 (F := Ideal) z) (fun h t d => (headOf z l g dy h).q t d) := fun h t d => by
  have e : val_main_v64_0 (F := Ideal) z (ix3 h t d) = val_main_v63 (F := Ideal) z (ix3 h t d) * val_main_v64_2 (F := Ideal) z (ix3 h t d) := by
    pointwise [val_main_v64_0]
  rw [e, zq_reads (l := l) (g := g) (dy := dy) hz h t d, sq_reads (l := l) (g := g) (dy := dy) hz h t d, ← EReal.coe_mul]
  rfl

/-- The mask: token `t` reads token `s` from itself back. -/
theorem mask_at (t s : Fin 8192) : val_main_v70 (F := Ideal) (ix2 t s) = if s.val ≤ t.val then 1#1 else 0#1 := by
  have e : val_main_v70 (F := Ideal) (ix2 t s) = IntOp.cmpi CmpIPredicate.sge (BitVec.ofNat 32 t) (BitVec.ofNat 32 s) := by
    pointwise [val_main_v70, val_main_v68, val_main_v69]
  have h1 : ∀ x : Fin 8192, (BitVec.ofNat 32 x.val).toInt = x.val := fun x => by
    have hx := x.isLt
    rw [BitVec.toInt_eq_toNat_of_lt] <;> simp only [BitVec.toNat_ofNat] <;> omega
  rw [e]
  show BitVec.ofBool (BitVec.sle _ _) = _
  rw [BitVec.sle, h1, h1]
  by_cases hs : s.val ≤ t.val
  · rw [if_pos hs, decide_eq_true (by exact_mod_cast hs)]; rfl
  · rw [if_neg hs, decide_eq_false (by exact_mod_cast hs)]; rfl

/-- A masked number. -/
theorem select_mask (t s : Fin 8192) (x y : EReal) :
    Scalar.select (val_main_v70 (F := Ideal) (ix2 t s)) x y = if s.val ≤ t.val then x else y := by
  rw [mask_at]
  split_ifs
  · exact if_pos rfl
  · exact if_neg (by decide)

/-- The decay from token `s` to token `t`; one where token `t` doesn't read token `s`. -/
theorem decay_at (hz : IsReal z) (hl : IsReal l) (h : Fin 8) (t s : Fin 8192) (d : Fin 128) :
    val_main_v78 (F := Ideal) z l (ix4 h t s d) = ((Real.exp (if s.val ≤ t.val then (headOf z l g dy h).B t d - (headOf z l g dy h).B s d else 0) : ℝ) : EReal) := by
  have e : val_main_v78 (F := Ideal) z l (ix4 h t s d) = Ideal.exp (Scalar.select (val_main_v70 (F := Ideal) (ix2 t s))
      (val_main_v67 (F := Ideal) z l (ix3 h t d) - val_main_v67 (F := Ideal) z l (ix3 h s d)) 0) := by
    pointwise [val_main_v78, val_main_v77_0, val_main_v77_1, val_main_v76, val_main_v75, val_main_v74, val_main_v73, val_main_v72, val_main_v71, val_main_call3_v2, val_main_call3_v0, val_main_cst_14, id]
  rw [e, select_mask, b_reads (g := g) (dy := dy) hz hl h t d, b_reads (g := g) (dy := dy) hz hl h s d, ← EReal.coe_sub]
  split_ifs
  · rfl
  · rw [← EReal.coe_zero]; rfl

theorem qk_at (hz : IsReal z) (hl : IsReal l) (h : Fin 8) (t s : Fin 8192) (d : Fin 128) :
    val_main_v83 (F := Ideal) z l (ix4 h t s d) = (((headOf z l g dy h).q t d * (headOf z l g dy h).k s d : ℝ) : EReal) := by
  have e : val_main_v83 (F := Ideal) z l (ix4 h t s d) = val_main_v64_0 (F := Ideal) z (ix3 h t d) * val_main_v60 (F := Ideal) z l (ix3 h s d) := by
    pointwise [val_main_v83, val_main_v82, val_main_v81, val_main_v80, val_main_v79]
  rw [e, q_reads (l := l) (g := g) (dy := dy) hz h t d, k_reads (g := g) (dy := dy) hz hl h s d, ← EReal.coe_mul]

theorem a_reads (hz : IsReal z) (hl : IsReal l) : Reads3 (val_main_v86_0 (F := Ideal) z l) (fun h t s => (headOf z l g dy h).A t s) := fun h t s => by
  have e : val_main_v86_0 (F := Ideal) z l (ix3 h t s) = Scalar.select (val_main_v70 (F := Ideal) (ix2 t s))
      (∑ d : Fin 128, val_main_v83 (F := Ideal) z l (ix4 h t s d) * val_main_v78 (F := Ideal) z l (ix4 h t s d)) 0 := by
    pointwise [val_main_v86_0, val_main_v86_1, val_main_v85, val_main_v84, val_main_call4_v2, val_main_call4_v0, val_main_cst_15, val_main_cst_16, id]
  rw [e, select_mask]
  beta_reduce
  unfold Head.A
  split_ifs with hs
  · rw [Finset.sum_range, coe_sum]
    refine Finset.sum_congr rfl fun d _ => ?_
    rw [qk_at (g := g) (dy := dy) hz hl, decay_at (g := g) (dy := dy) hz hl, if_pos hs, ← EReal.coe_mul]
  · exact EReal.coe_zero.symm

theorem o_reads (hz : IsReal z) (hl : IsReal l) : Reads3 (val_main_v87 (F := Ideal) z l) (fun h t v => (headOf z l g dy h).o t v) := fun h t v => by
  have e : val_main_v87 (F := Ideal) z l (ix3 h t v) = ∑ s : Fin 8192, val_main_v86_0 (F := Ideal) z l (ix3 h t s) * val_main_v66 (F := Ideal) z (ix3 h s v) := by
    pointwise [val_main_v87]
  rw [e]
  exact Reads.dot_sum (fun s => a_reads (g := g) (dy := dy) hz hl h t s) (fun s => v_reads (l := l) (g := g) (dy := dy) hz h s v)

end Cert.Hgrn.Ref
-- ==== Proof.RefNorm.lean ====
/-
  The reference's norm and gate, and their gradients: the gate's, the gain's, and the recurrence's output's.
-/
module

public import proofs.«01_k».proof.Proof.RefGates

@[expose] public section

set_option maxRecDepth 16384

noncomputable section

namespace Cert.Hgrn.Ref

open Idealize.ShloMosaic Cert.ReferenceIdeal Cert.ReferenceIdeal.Read

variable {z : FVec Ideal S1x8192x8192 .f32} {l : FVec Ideal S2x1024 .f32} {g : FVec Ideal S1x128 .f32} {dy : FVec Ideal S1x8192x1024 .f32}

theorem minus_half : Ideal.ofBits .f32 0xBF000000#32 = ((-(1 / 2) : ℝ) : EReal) := by
  simp [Ideal.ofBits, Ideal.ieee, -EReal.coe_mul]; norm_num

theorem rsqrt_pos {x : ℝ} (h : 0 < x) : Ideal.rsqrt (x : EReal) = (((Real.sqrt x)⁻¹ : ℝ) : EReal) := by
  show (if x < 0 then (⊥ : EReal) else if x = 0 then ⊤ else _) = _
  rw [if_neg (not_lt.2 h.le), if_neg h.ne']

theorem var_at (hz : IsReal z) (hl : IsReal l) (h : Fin 8) (t : Fin 8192) :
    val_main_v94 (F := Ideal) z l (ix3 h t 0) = (((headOf z l g dy h).var eps t : ℝ) : EReal) := by
  have e : val_main_v94 (F := Ideal) z l (ix3 h t 0)
      = Ideal.div (∑ v : Fin 128, val_main_v87 (F := Ideal) z l (ix3 h t v) * val_main_v87 (F := Ideal) z l (ix3 h t v)) (Ideal.ofBits .f32 0x43000000#32) + Ideal.ofBits .f32 0x358637BD#32 := by
    pointwise [val_main_v94, val_main_v93, val_main_v92, val_main_v91, val_main_v90, val_main_v89, val_main_v88, val_main_cst_17, val_main_cst_18, val_main_cst_19]
  rw [e, Reads.dot_sum (fun v => o_reads (g := g) (dy := dy) hz hl h t v) (fun v => o_reads (g := g) (dy := dy) hz hl h t v), ofBits_128, ofBits_eps,
    Reads.div_val (by norm_num), ← EReal.coe_add]
  rfl

theorem rinv_at (hz : IsReal z) (hl : IsReal l) (h : Fin 8) (t : Fin 8192) :
    val_main_v95 (F := Ideal) z l (ix3 h t 0) = (((headOf z l g dy h).rinv eps t : ℝ) : EReal) := by
  have e : val_main_v95 (F := Ideal) z l (ix3 h t 0) = Ideal.rsqrt (val_main_v94 (F := Ideal) z l (ix3 h t 0)) := by
    pointwise [val_main_v95]
  rw [e, var_at (g := g) (dy := dy) hz hl, rsqrt_pos (Head.var_pos _ eps_pos _)]
  rfl

/-- The derivative of the reciprocal root. -/
theorem slope_at (hz : IsReal z) (hl : IsReal l) (h : Fin 8) (t : Fin 8192) :
    val_main_v98 (F := Ideal) z l (ix3 h t 0) = ((-(1 / 2) * ((headOf z l g dy h).rinv eps t / (headOf z l g dy h).var eps t) : ℝ) : EReal) := by
  have e : val_main_v98 (F := Ideal) z l (ix3 h t 0) = Ideal.ofBits .f32 0xBF000000#32
      * Ideal.div (val_main_v95 (F := Ideal) z l (ix3 h t 0)) (val_main_v94 (F := Ideal) z l (ix3 h t 0)) := by
    pointwise [val_main_v98, val_main_v97, val_main_v96, val_main_cst_20]
  rw [e, minus_half, rinv_at (g := g) (dy := dy) hz hl, var_at (g := g) (dy := dy) hz hl, Reads.div_val (Head.var_pos _ eps_pos _).ne', ← EReal.coe_mul]

theorem ohat_reads (hz : IsReal z) (hl : IsReal l) : Reads3 (val_main_v100 (F := Ideal) z l) (fun h t v => (headOf z l g dy h).ohat eps t v) := fun h t v => by
  have e : val_main_v100 (F := Ideal) z l (ix3 h t v) = val_main_v87 (F := Ideal) z l (ix3 h t v) * val_main_v95 (F := Ideal) z l (ix3 h t 0) := by
    pointwise [val_main_v100, val_main_v99]
  rw [e, o_reads (g := g) (dy := dy) hz hl h t v, rinv_at (g := g) (dy := dy) hz hl, ← EReal.coe_mul]
  rfl

theorem gain_at (hg : IsReal g) (h : Fin 8) (v : Fin 128) : val_main_v9 (F := Ideal) g (ix3 h 0 v) = (((headOf z l g dy h).gn v : ℝ) : EReal) := by
  have e : val_main_v9 (F := Ideal) g (ix3 h 0 v) = g (ix2 0 v) := by pointwise [val_main_v9, val_main_v8]
  rw [e, at_g hg]
  rfl

/-! ## The gate and the gradient that comes in, by token and column -/

theorem zg_at (hz : IsReal z) (t : Fin 8192) (j : Fin 1024) (h d : ℕ) (hj : j.val = 128 * h + d) :
    val_main_v7 (F := Ideal) z (ix2 t j) = (((headOf z l g dy h).zg t d : ℝ) : EReal) := by
  have e : val_main_v7 (F := Ideal) z (ix2 t j) = z (ix3 0 t ⟨3072 + j.val, by omega⟩) := by pointwise [val_main_v7, val_main_v6]
  rw [e, at_z hz]
  simp only [headOf, hj]

theorem sg_at (hz : IsReal z) (t : Fin 8192) (j : Fin 1024) (h d : ℕ) (hj : j.val = 128 * h + d) :
    val_main_v105_2 (F := Ideal) z (ix2 t j) = ((sgm ((headOf z l g dy h).zg t d) : ℝ) : EReal) := by
  have e : val_main_v105_2 (F := Ideal) z (ix2 t j) = Ideal.div (Ideal.ofBits .f32 0x3F800000#32)
      (Ideal.ofBits .f32 0x3F800000#32 + Ideal.exp (-val_main_v7 (F := Ideal) z (ix2 t j))) := by
    pointwise [val_main_v105_2, val_main_call5_v4, val_main_call5_v3, val_main_call5_v2, val_main_call5_v1, val_main_call5_v0, val_main_call5_cst, val_main_call5_cst_0]
  rw [e, zg_at (l := l) (g := g) (dy := dy) hz t j h d hj, one_word, sigmoid_word]

theorem sg'_at (hz : IsReal z) (t : Fin 8192) (j : Fin 1024) (h d : ℕ) (hj : j.val = 128 * h + d) :
    val_main_v105_1 (F := Ideal) z (ix2 t j) = ((sgm ((headOf z l g dy h).zg t d) * (1 - sgm ((headOf z l g dy h).zg t d)) : ℝ) : EReal) := by
  have e : val_main_v105_1 (F := Ideal) z (ix2 t j) = val_main_v105_2 (F := Ideal) z (ix2 t j)
      * (Ideal.ofBits .f32 0x3F800000#32 - val_main_v105_2 (F := Ideal) z (ix2 t j)) := by
    pointwise [val_main_v105_1, val_main_call5_v7, val_main_call5_v6, val_main_call5_cst_1]
  rw [e, sg_at (l := l) (g := g) (dy := dy) hz t j h d hj, one_word, ← EReal.coe_sub, ← EReal.coe_mul]

theorem silu_at (hz : IsReal z) (t : Fin 8192) (j : Fin 1024) (h d : ℕ) (hj : j.val = 128 * h + d) :
    val_main_v105_0 (F := Ideal) z (ix2 t j) = (((headOf z l g dy h).sg t d : ℝ) : EReal) := by
  have e : val_main_v105_0 (F := Ideal) z (ix2 t j) = val_main_v7 (F := Ideal) z (ix2 t j) * val_main_v105_2 (F := Ideal) z (ix2 t j) := by
    pointwise [val_main_v105_0]
  rw [e, zg_at (l := l) (g := g) (dy := dy) hz t j h d hj, sg_at (l := l) (g := g) (dy := dy) hz t j h d hj, ← EReal.coe_mul]
  rfl

theorem dy_at (hdy : IsReal dy) (t : Fin 8192) (j : Fin 1024) (h d : ℕ) (hj : j.val = 128 * h + d) :
    val_main_v107 (F := Ideal) dy (ix2 t j) = (((headOf z l g dy h).dy t d : ℝ) : EReal) := by
  have e : val_main_v107 (F := Ideal) dy (ix2 t j) = dy (ix3 0 t j) := by pointwise [val_main_v107]
  rw [e, at_dy hdy]
  simp only [headOf, hj]

/-- The gate's gradient. -/
theorem dzg_at (hz : IsReal z) (hl : IsReal l) (hg : IsReal g) (hdy : IsReal dy) (t : Fin 8192) (j : Fin 1024) (h : Fin 8) (d : Fin 128)
    (hj : j.val = 128 * h.val + d.val) :
    val_main_v110 (F := Ideal) z l g dy (ix2 t j) = (((headOf z l g dy h).dzg eps t d : ℝ) : EReal) := by
  have e : val_main_v110 (F := Ideal) z l g dy (ix2 t j)
      = (val_main_v104 (F := Ideal) z l g (ix2 t j) * val_main_v107 (F := Ideal) dy (ix2 t j)) * val_main_v105_2 (F := Ideal) z (ix2 t j)
        + (val_main_v7 (F := Ideal) z (ix2 t j) * (val_main_v104 (F := Ideal) z l g (ix2 t j) * val_main_v107 (F := Ideal) dy (ix2 t j))) * val_main_v105_1 (F := Ideal) z (ix2 t j) := by
    pointwise [val_main_v110, val_main_call6_v0, val_main_call6_v1, val_main_call6_v2, val_main_v108]
  have e2 : val_main_v104 (F := Ideal) z l g (ix2 t j) = val_main_v100 (F := Ideal) z l (ix3 h t d) * val_main_v9 (F := Ideal) g (ix3 h 0 d) := by
    have e3 : val_main_v104 (F := Ideal) z l g (ix2 t j)
        = val_main_v102 (F := Ideal) z l g (ix3 ⟨j.val / 128, by omega⟩ t ⟨j.val % 128, by omega⟩) := by
      pointwise [val_main_v104, val_main_v103]
    have a1 : (⟨j.val / 128, by omega⟩ : Fin 8) = h := Fin.ext (by show j.val / 128 = h.val; omega)
    have a2 : (⟨j.val % 128, by omega⟩ : Fin 128) = d := Fin.ext (by show j.val % 128 = d.val; omega)
    rw [e3, a1, a2]
    pointwise [val_main_v102, val_main_v101]
  rw [e, e2, ohat_reads (g := g) (dy := dy) hz hl h t d, gain_at (z := z) (l := l) (dy := dy) hg, dy_at (z := z) (l := l) (g := g) hdy t j h d hj,
    sg_at (l := l) (g := g) (dy := dy) hz t j h d hj, sg'_at (l := l) (g := g) (dy := dy) hz t j h d hj, zg_at (l := l) (g := g) (dy := dy) hz t j h d hj]
  simp only [← EReal.coe_mul, ← EReal.coe_add]
  congr 1
  unfold Head.dzg Head.dsg
  ring

theorem don_reads (hz : IsReal z) (hdy : IsReal dy) : Reads3 (val_main_v112 (F := Ideal) z dy) (fun h t v => (headOf z l g dy h).don t v) := fun h t v => by
  have e : val_main_v112 (F := Ideal) z dy (ix3 h t v) = val_main_v107 (F := Ideal) dy (ix2 t ⟨h.val * 128 + v.val, by omega⟩)
      * val_main_v105_0 (F := Ideal) z (ix2 t ⟨h.val * 128 + v.val, by omega⟩) := by
    pointwise [val_main_v112, val_main_v111, val_main_v109]
  have hj : h.val * 128 + v.val = 128 * h.val + v.val := by omega
  rw [e, dy_at (z := z) (l := l) (g := g) hdy t _ h v hj, silu_at (l := l) (g := g) (dy := dy) hz t _ h v hj, ← EReal.coe_mul]
  rfl

theorem dgn_at (hz : IsReal z) (hl : IsReal l) (hdy : IsReal dy) (h : Fin 8) (v : Fin 128) :
    val_main_v115 (F := Ideal) z l dy (ix3 h 0 v) = (((headOf z l g dy h).dgnTo eps 0 v : ℝ) : EReal) := by
  have e : val_main_v115 (F := Ideal) z l dy (ix3 h 0 v) = ∑ t : Fin 8192, val_main_v100 (F := Ideal) z l (ix3 h t v) * val_main_v112 (F := Ideal) z dy (ix3 h t v) := by
    pointwise [val_main_v115, val_main_v114, val_main_v113, val_main_cst_21]
  have r : ((headOf z l g dy h).dgnTo eps 0 v : ℝ) = ∑ t ∈ Finset.range 8192, (headOf z l g dy h).ohat eps t v * (headOf z l g dy h).don t v := by
    unfold Head.dgnTo
    rw [N_eq, ← Finset.range_eq_Ico]
    exact Finset.sum_congr rfl fun t _ => mul_comm _ _
  rw [e, r]
  exact Reads.dot_sum (u := fun t => (headOf z l g dy h).ohat eps t v) (v := fun t => (headOf z l g dy h).don t v)
    (fun t => ohat_reads (g := g) (dy := dy) hz hl h t v) (fun t => don_reads (l := l) (g := g) hz hdy h t v)

theorem dohat_reads (hz : IsReal z) (hg : IsReal g) (hdy : IsReal dy) : Reads3 (val_main_v117 (F := Ideal) z g dy) (fun h t v => (headOf z l g dy h).dohat t v) := fun h t v => by
  have e : val_main_v117 (F := Ideal) z g dy (ix3 h t v) = val_main_v112 (F := Ideal) z dy (ix3 h t v) * val_main_v9 (F := Ideal) g (ix3 h 0 v) := by
    pointwise [val_main_v117, val_main_v116]
  rw [e, don_reads (l := l) (g := g) hz hdy h t v, gain_at (z := z) (l := l) (dy := dy) hg, ← EReal.coe_mul]
  rfl

/-- The mean square's gradient, by token. -/
theorem dvar_at (hz : IsReal z) (hl : IsReal l) (hg : IsReal g) (hdy : IsReal dy) (h : Fin 8) (t : Fin 8192) (v : Fin 128) :
    val_main_v127 (F := Ideal) z l g dy (ix3 h t v) = (((∑ u ∈ Finset.range 128, (headOf z l g dy h).o t u * (headOf z l g dy h).dohat t u)
      * (-(1 / 2) * ((headOf z l g dy h).rinv eps t / (headOf z l g dy h).var eps t)) / 128 : ℝ) : EReal) := by
  have e : val_main_v127 (F := Ideal) z l g dy (ix3 h t v) = Ideal.div ((∑ u : Fin 128, val_main_v87 (F := Ideal) z l (ix3 h t u) * val_main_v117 (F := Ideal) z g dy (ix3 h t u))
      * val_main_v98 (F := Ideal) z l (ix3 h t 0)) (Ideal.ofBits .f32 0x43000000#32) := by
    pointwise [val_main_v127, val_main_v126, val_main_v125, val_main_v124, val_main_v123, val_main_v120, val_main_v119, val_main_v118, val_main_cst_22, val_main_cst_23, val_main_cst_24]
    exact Fin.sum_univ_one _
  rw [e, Reads.dot_sum (fun u => o_reads (g := g) (dy := dy) hz hl h t u) (fun u => dohat_reads (l := l) hz hg hdy h t u), slope_at (g := g) (dy := dy) hz hl, ofBits_128,
    ← EReal.coe_mul, Reads.div_val (by norm_num)]

theorem do_eq (h : ℕ) (t v : ℕ) (H : Head) :
    H.dohat t v * H.rinv eps t + H.o t v * ((∑ u ∈ Finset.range 128, H.o t u * H.dohat t u) * (-(1 / 2) * (H.rinv eps t / H.var eps t)) / 128)
      + ((∑ u ∈ Finset.range 128, H.o t u * H.dohat t u) * (-(1 / 2) * (H.rinv eps t / H.var eps t)) / 128) * H.o t v = H.do' eps t v := by
  have hv : 0 < H.var eps t := Head.var_pos _ eps_pos _
  have h2 : H.rinv eps t * H.rinv eps t = (H.var eps t)⁻¹ := by
    unfold Head.rinv
    rw [← mul_inv, Real.mul_self_sqrt hv.le]
  have h3 : ∑ u ∈ Finset.range 128, H.dohat t u * H.ohat eps t u = (∑ u ∈ Finset.range 128, H.o t u * H.dohat t u) * H.rinv eps t := by
    rw [Finset.sum_mul]
    refine Finset.sum_congr rfl fun u _ => ?_
    unfold Head.ohat
    ring
  unfold Head.do' Head.dot
  rw [h3, div_eq_mul_inv (H.rinv eps t) (H.var eps t), ← h2]
  unfold Head.ohat
  ring

theorem do_reads (hz : IsReal z) (hl : IsReal l) (hg : IsReal g) (hdy : IsReal dy) :
    Reads3 (val_main_v131 (F := Ideal) z l g dy) (fun h t v => (headOf z l g dy h).do' eps t v) := fun h t v => by
  have e : val_main_v131 (F := Ideal) z l g dy (ix3 h t v)
      = val_main_v117 (F := Ideal) z g dy (ix3 h t v) * val_main_v95 (F := Ideal) z l (ix3 h t 0)
        + val_main_v87 (F := Ideal) z l (ix3 h t v) * val_main_v127 (F := Ideal) z l g dy (ix3 h t v)
        + val_main_v127 (F := Ideal) z l g dy (ix3 h t v) * val_main_v87 (F := Ideal) z l (ix3 h t v) := by
    pointwise [val_main_v131, val_main_v130, val_main_v129, val_main_v128, val_main_v122, val_main_v121]
  rw [e, dohat_reads (l := l) hz hg hdy h t v, rinv_at (g := g) (dy := dy) hz hl, o_reads (g := g) (dy := dy) hz hl h t v, dvar_at hz hl hg hdy]
  simp only [← EReal.coe_mul, ← EReal.coe_add]
  exact congrArg _ (do_eq h t v _)

end Cert.Hgrn.Ref
-- ==== Proof.RefBack.lean ====
/-
  The reference's gradients of the values, keys, queries, and of the gates before their sigmoid.
-/
module

public import proofs.«01_k».proof.Proof.RefNorm

@[expose] public section

set_option maxRecDepth 16384

noncomputable section

namespace Cert.Hgrn.Ref

open Idealize.ShloMosaic Cert.ReferenceIdeal Cert.ReferenceIdeal.Read

variable {z : FVec Ideal S1x8192x8192 .f32} {l : FVec Ideal S2x1024 .f32} {g : FVec Ideal S1x128 .f32} {dy : FVec Ideal S1x8192x1024 .f32}

/-! ## The values, and the attention's gradient -/

theorem dv_reads (hz : IsReal z) (hl : IsReal l) (hg : IsReal g) (hdy : IsReal dy) :
    Reads3 (val_main_v133 (F := Ideal) z l g dy) (fun h s v => (headOf z l g dy h).dv eps s v) := fun h s v => by
  have e : val_main_v133 (F := Ideal) z l g dy (ix3 h s v) = ∑ t : Fin 8192, val_main_v131 (F := Ideal) z l g dy (ix3 h t v) * val_main_v86_0 (F := Ideal) z l (ix3 h t s) := by
    pointwise [val_main_v133, val_main_v132]
  have r : ((headOf z l g dy h).dv eps s v : ℝ) = ∑ t ∈ Finset.range 8192, (headOf z l g dy h).do' eps t v * (headOf z l g dy h).A t s := by
    unfold Head.dv
    rw [N_eq]
    exact Finset.sum_congr rfl fun t _ => mul_comm _ _
  rw [e]; beta_reduce; rw [r]
  exact Reads.dot_sum (u := fun t => (headOf z l g dy h).do' eps t v) (v := fun t => (headOf z l g dy h).A t s)
    (fun t => do_reads hz hl hg hdy h t v) (fun t => a_reads (g := g) (dy := dy) hz hl h t s)

theorem da_reads (hz : IsReal z) (hl : IsReal l) (hg : IsReal g) (hdy : IsReal dy) :
    Reads3 (val_main_v135 (F := Ideal) z l g dy) (fun h t s => (headOf z l g dy h).DA eps t s) := fun h t s => by
  have e : val_main_v135 (F := Ideal) z l g dy (ix3 h t s) = Scalar.select (val_main_v70 (F := Ideal) (ix2 t s))
      (∑ v : Fin 128, val_main_v131 (F := Ideal) z l g dy (ix3 h t v) * val_main_v66 (F := Ideal) z (ix3 h s v)) 0 := by
    pointwise [val_main_v135, val_main_v134, val_main_v86_1, val_main_call7_v0, val_main_call7_cst]
  rw [e, select_mask]
  beta_reduce
  unfold Head.DA
  split_ifs with hs
  · exact Reads.dot_sum (u := fun v => (headOf z l g dy h).do' eps t v) (v := fun v => (headOf z l g dy h).zi s v)
      (fun v => do_reads hz hl hg hdy h t v) (fun v => v_reads (l := l) (g := g) (dy := dy) hz h s v)
  · exact EReal.coe_zero.symm

/-- Past the mask the attention's gradient is 0, and the decay there counts for nothing. -/
theorem da_decay (H : Head) (t s d : ℕ) : H.DA eps t s * Real.exp (if s ≤ t then H.B t d - H.B s d else 0) = H.DA eps t s * Real.exp (H.B t d - H.B s d) := by
  unfold Head.DA
  split_ifs
  · rfl
  · rw [zero_mul, zero_mul]

/-- The attention's gradient with its decay. -/
theorem dad_at (hz : IsReal z) (hl : IsReal l) (hg : IsReal g) (hdy : IsReal dy) (h : Fin 8) (t s : Fin 8192) (d : Fin 128) :
    val_main_v138 (F := Ideal) z l g dy (ix4 h t s d)
      = (((headOf z l g dy h).DA eps t s * Real.exp ((headOf z l g dy h).B t d - (headOf z l g dy h).B s d) : ℝ) : EReal) := by
  have e : val_main_v138 (F := Ideal) z l g dy (ix4 h t s d) = val_main_v135 (F := Ideal) z l g dy (ix3 h t s) * val_main_v78 (F := Ideal) z l (ix4 h t s d) := by
    pointwise [val_main_v138, val_main_v136]
  rw [e, da_reads hz hl hg hdy h t s, decay_at (g := g) (dy := dy) hz hl, ← EReal.coe_mul]
  exact congrArg _ (da_decay _ _ _ _)

/-! ## The keys and the queries -/

theorem dk_reads (hz : IsReal z) (hl : IsReal l) (hg : IsReal g) (hdy : IsReal dy) :
    Reads3 (val_main_v147 (F := Ideal) z l g dy) (fun h s d => (headOf z l g dy h).dk eps s d) := fun h s d => by
  have e : val_main_v147 (F := Ideal) z l g dy (ix3 h s d) = val_main_v141 (F := Ideal) z l g dy (ix3 h s d) := by
    pointwise [val_main_v147, val_main_v142, val_main_cst_27]
    all_goals exact Fin.sum_univ_one _
  have e2 : val_main_v141 (F := Ideal) z l g dy (ix3 h s d) = ∑ t : Fin 8192, val_main_v64_0 (F := Ideal) z (ix3 h t d) * val_main_v138 (F := Ideal) z l g dy (ix4 h t s d) := by
    pointwise [val_main_v141, val_main_v140, val_main_v139, val_main_v79, val_main_cst_25]
  have r : ((headOf z l g dy h).dk eps s d : ℝ) = ∑ t ∈ Finset.range 8192, (headOf z l g dy h).q t d
      * ((headOf z l g dy h).DA eps t s * Real.exp ((headOf z l g dy h).B t d - (headOf z l g dy h).B s d)) := by
    unfold Head.dk
    rw [N_eq]
    exact Finset.sum_congr rfl fun t _ => by ring
  rw [e, e2]; beta_reduce; rw [r]
  exact Reads.dot_sum (u := fun t => (headOf z l g dy h).q t d)
    (v := fun t => (headOf z l g dy h).DA eps t s * Real.exp ((headOf z l g dy h).B t d - (headOf z l g dy h).B s d))
    (fun t => q_reads (l := l) (g := g) (dy := dy) hz h t d) (fun t => dad_at hz hl hg hdy h t s d)

theorem dq_reads (hz : IsReal z) (hl : IsReal l) (hg : IsReal g) (hdy : IsReal dy) :
    Reads3 (val_main_v148 (F := Ideal) z l g dy) (fun h t d => (headOf z l g dy h).dq eps t d) := fun h t d => by
  have e : val_main_v148 (F := Ideal) z l g dy (ix3 h t d) = val_main_v145 (F := Ideal) z l g dy (ix3 h t d) := by
    pointwise [val_main_v148, val_main_v146, val_main_cst_28]
    all_goals exact Fin.sum_univ_one _
  have e2 : val_main_v145 (F := Ideal) z l g dy (ix3 h t d) = ∑ s : Fin 8192, val_main_v138 (F := Ideal) z l g dy (ix4 h t s d) * val_main_v60 (F := Ideal) z l (ix3 h s d) := by
    pointwise [val_main_v145, val_main_v144, val_main_v143, val_main_v80, val_main_cst_26]
  have r : ((headOf z l g dy h).dq eps t d : ℝ) = ∑ s ∈ Finset.range 8192,
      (headOf z l g dy h).DA eps t s * Real.exp ((headOf z l g dy h).B t d - (headOf z l g dy h).B s d) * (headOf z l g dy h).k s d := by
    unfold Head.dq
    rw [N_eq]
    exact Finset.sum_congr rfl fun s _ => by ring
  rw [e, e2]; beta_reduce; rw [r]
  exact Reads.dot_sum (u := fun s => (headOf z l g dy h).DA eps t s * Real.exp ((headOf z l g dy h).B t d - (headOf z l g dy h).B s d))
    (v := fun s => (headOf z l g dy h).k s d)
    (fun s => dad_at hz hl hg hdy h t s d) (fun s => k_reads (g := g) (dy := dy) hz hl h s d)

theorem dzq_reads (hz : IsReal z) (hl : IsReal l) (hg : IsReal g) (hdy : IsReal dy) :
    Reads3 (val_main_v162 (F := Ideal) z l g dy) (fun h t d => (headOf z l g dy h).dzq eps t d) := fun h t d => by
  have e : val_main_v162 (F := Ideal) z l g dy (ix3 h t d) = val_main_v148 (F := Ideal) z l g dy (ix3 h t d) * val_main_v64_2 (F := Ideal) z (ix3 h t d)
      + (val_main_v63 (F := Ideal) z (ix3 h t d) * val_main_v148 (F := Ideal) z l g dy (ix3 h t d)) * val_main_v64_1 (F := Ideal) z (ix3 h t d) := by
    pointwise [val_main_v162, val_main_call10_v0, val_main_call10_v1, val_main_call10_v2]
  rw [e, dq_reads hz hl hg hdy h t d, sq_reads (l := l) (g := g) (dy := dy) hz h t d, sq'_reads (l := l) (g := g) (dy := dy) hz h t d,
    zq_reads (l := l) (g := g) (dy := dy) hz h t d]
  simp only [← EReal.coe_mul, ← EReal.coe_add]
  congr 1
  unfold Head.dzq Head.qz
  ring

/-! ## The running sum of the log gates -/

/-- One pair of tokens' part of the running sum's gradient. -/
theorem w_at (hz : IsReal z) (hl : IsReal l) (hg : IsReal g) (hdy : IsReal dy) (h : Fin 8) (t s : Fin 8192) (d : Fin 128) :
    val_main_v150 (F := Ideal) z l g dy (ix4 h t s d) = (((headOf z l g dy h).w eps d t s : ℝ) : EReal) := by
  have e : val_main_v150 (F := Ideal) z l g dy (ix4 h t s d) = Scalar.select (val_main_v70 (F := Ideal) (ix2 t s))
      (val_main_v83 (F := Ideal) z l (ix4 h t s d) * val_main_v135 (F := Ideal) z l g dy (ix3 h t s) * val_main_v78 (F := Ideal) z l (ix4 h t s d)) 0 := by
    pointwise [val_main_v150, val_main_v149, val_main_v137, val_main_v136, val_main_v77_1, val_main_v76, val_main_call8_v0, val_main_call8_cst]
  rw [e, select_mask, qk_at (g := g) (dy := dy) hz hl, da_reads hz hl hg hdy h t s, decay_at (g := g) (dy := dy) hz hl]
  beta_reduce
  unfold Head.w Head.DA
  split_ifs
  · simp only [← EReal.coe_mul]
    congr 1
    ring
  · rw [zero_mul, zero_mul, zero_mul]
    exact EReal.coe_zero.symm

theorem rowSum_at (hz : IsReal z) (hl : IsReal l) (hg : IsReal g) (hdy : IsReal dy) (h : Fin 8) (t : Fin 8192) (d : Fin 128) :
    val_main_v157 (F := Ideal) z l g dy (ix3 h t d) = ((∑ s ∈ Finset.range N, (headOf z l g dy h).w eps d t s : ℝ) : EReal) := by
  have e : val_main_v157 (F := Ideal) z l g dy (ix3 h t d) = val_main_v151 (F := Ideal) z l g dy (ix3 h t d) := by
    pointwise [val_main_v157, val_main_v152, val_main_cst_32]
    all_goals exact Fin.sum_univ_one _
  have e2 : val_main_v151 (F := Ideal) z l g dy (ix3 h t d) = ∑ s : Fin 8192, val_main_v150 (F := Ideal) z l g dy (ix4 h t s d) := by
    pointwise [val_main_v151, val_main_cst_29]
  rw [e, e2, N_eq, Finset.sum_range, coe_sum]
  exact Finset.sum_congr rfl fun s _ => w_at hz hl hg hdy h t s d

theorem colSum_at (hz : IsReal z) (hl : IsReal l) (hg : IsReal g) (hdy : IsReal dy) (h : Fin 8) (s : Fin 8192) (d : Fin 128) :
    val_main_v156 (F := Ideal) z l g dy (ix3 h s d) = ((-∑ t ∈ Finset.range N, (headOf z l g dy h).w eps d t s : ℝ) : EReal) := by
  have e : val_main_v156 (F := Ideal) z l g dy (ix3 h s d) = val_main_v154 (F := Ideal) z l g dy (ix3 h s d) := by
    pointwise [val_main_v156, val_main_v155, val_main_cst_31]
    all_goals exact Fin.sum_univ_one _
  have e2 : val_main_v154 (F := Ideal) z l g dy (ix3 h s d) = ∑ t : Fin 8192, -val_main_v150 (F := Ideal) z l g dy (ix4 h t s d) := by
    pointwise [val_main_v154, val_main_v153, val_main_cst_30]
  rw [e, e2, N_eq, ← Finset.sum_neg_distrib, Finset.sum_range, coe_sum]
  refine Finset.sum_congr rfl fun t _ => ?_
  rw [w_at hz hl hg hdy, ← EReal.coe_neg]

theorem dB_reads (hz : IsReal z) (hl : IsReal l) (hg : IsReal g) (hdy : IsReal dy) :
    Reads3 (val_main_v158 (F := Ideal) z l g dy) (fun h t d => (headOf z l g dy h).dB eps t d) := fun h t d => by
  have e : val_main_v158 (F := Ideal) z l g dy (ix3 h t d) = val_main_v156 (F := Ideal) z l g dy (ix3 h t d) + val_main_v157 (F := Ideal) z l g dy (ix3 h t d) := by
    pointwise [val_main_v158]
  rw [e, rowSum_at hz hl hg hdy, colSum_at hz hl hg hdy, ← EReal.coe_add]
  congr 1
  unfold Head.dB
  ring

theorem dlf_reads (hz : IsReal z) (hl : IsReal l) (hg : IsReal g) (hdy : IsReal dy) :
    Reads3 (val_main_v159 (F := Ideal) z l g dy) (fun h t d => (headOf z l g dy h).dlf eps t d) := by
  have e : val_main_v159 (F := Ideal) z l g dy = Ideal.hostReduceWindowAdd ![1, 8192, 1] ![1, 1, 1] ![0, 0, 0] ![0, 8191, 0]
      Gen.reduceWindows_S8x8192x128_S8x8192x128_w1s1p0_0_w8192s1p0_8191_w1s1p0_0 (val_main_v158 (F := Ideal) z l g dy)
      (val_main_call9_call0_v0 (F := Ideal) (Shape.Idx.first Gen.h_S_)) := window_init _ _ _ _ _ _ _ _
  have e0 : val_main_call9_call0_v0 (F := Ideal) (Shape.Idx.first Gen.h_S_) = (0 : EReal) := by
    pointwise [val_main_call9_call0_v0, val_main_call9_call0_cst]
  rw [e0] at e
  rw [e]
  exact Reads3.cumsumBack rfl (dB_reads hz hl hg hdy) _

/-! ## The gates -/

theorem df_reads (hz : IsReal z) (hl : IsReal l) (hg : IsReal g) (hdy : IsReal dy) :
    Reads3 (val_main_v167 (F := Ideal) z l g dy) (fun h t d => (headOf z l g dy h).df eps t d) := fun h t d => by
  have e : val_main_v167 (F := Ideal) z l g dy (ix3 h t d) = Ideal.div (val_main_v159 (F := Ideal) z l g dy (ix3 h t d)) (val_main_v58 (F := Ideal) z l (ix3 h t d))
      + -val_main_v147 (F := Ideal) z l g dy (ix3 h t d) := by
    pointwise [val_main_v167, val_main_v166, val_main_v165]
  rw [e, dlf_reads hz hl hg hdy h t d, f_reads (g := g) (dy := dy) hz hl h t d, dk_reads hz hl hg hdy h t d,
    Reads.div_val (Head.f_pos _ _ _).ne', ← EReal.coe_neg, ← EReal.coe_add]
  rfl

theorem dzf_reads (hz : IsReal z) (hl : IsReal l) (hg : IsReal g) (hdy : IsReal dy) :
    Reads3 (val_main_v175 (F := Ideal) z l g dy) (fun h t d => (headOf z l g dy h).dzf eps t d) := fun h t d => by
  have e : val_main_v175 (F := Ideal) z l g dy (ix3 h t d) = (Ideal.ofBits .f32 0x3F800000#32 - val_main_v41 (F := Ideal) l (ix3 h 0 d)) * val_main_v167 (F := Ideal) z l g dy (ix3 h t d)
      * (val_main_v51 (F := Ideal) z (ix3 h t d) * (Ideal.ofBits .f32 0x3F800000#32 - val_main_v51 (F := Ideal) z (ix3 h t d))) := by
    pointwise [val_main_v175, val_main_v171, val_main_v170, val_main_v54, val_main_v53, val_main_v52, val_main_v43, val_main_v42, val_main_cst_12,val_main_cst_9]
  rw [e, df_reads hz hl hg hdy h t d, lb_reads (z := z) (g := g) (dy := dy) hl, sf_reads (l := l) (g := g) (dy := dy) hz h t d, one_word]
  simp only [← EReal.coe_mul, ← EReal.coe_sub]
  congr 1
  unfold Head.dzf
  ring

end Cert.Hgrn.Ref
-- ==== Proof.Result.lean ====
/-
  What the three result arrays hold after the whole grid: each entry is written by the point that holds its block, so the
  facts about a point's stored blocks (Steps.lean) become facts about the arrays.
-/
module

public import proofs.«01_k».proof.Proof.Steps
public import Idealize.ShloMosaic.Lib.Pipeline.ValueKit.Geometry

@[expose] public section

set_option maxRecDepth 16384

noncomputable section

namespace Cert.Hgrn

open Idealize.ShloMosaic Idealize.ShloMosaic.TcCoe Cert.KernelIdeal Cert.KernelIdeal.Gen

/-- Segment `k` of the gradient of the projected input: query, forget gate, value, output gate. -/
def Head.seg (H : Head) (k t d : ℕ) : ℝ :=
  if k = 0 then H.dzq eps t d else if k = 1 then H.dzf eps t d else if k = 2 then H.dv eps t d else H.dzg eps t d

theorem Stored.seg {H : Head} {J : ℕ} {x8 : FVec Ideal S4x2048x128 .bf16} (h : Stored H J x8) (k : Fin 4) (i : Fin 2048) (d : Fin 128) :
    x8 (ix3 k i d) = ((H.seg k (2048 * J + i) d : ℝ) : EReal) := by
  fin_cases k
  · exact h.zq i d
  · exact h.zf i d
  · exact h.zi i d
  · exact h.zg i d

variable {m : (ℓ : Loc nD τ sig) → Buf (Elt Ideal) ℓ} {c : Dev nD} {HD : ℕ → Head}

theorem index8 : ∀ t : Fin cfg0.N, win0_8.index t = ![0, 3 - t.val % 4, t.val / 4] := (by decide +kernel : ∀ t : Fin grid0.N, _)
theorem index9 : ∀ t : Fin cfg0.N, win0_9.index t = ![0, t.val / 4] := (by decide +kernel : ∀ t : Fin grid0.N, _)
theorem index10 : ∀ t : Fin cfg0.N, win0_10.index t = ![t.val / 4, 0, 0] := (by decide +kernel : ∀ t : Fin grid0.N, _)

theorem result_dz (hin : Inputs m c HD) (i : S4x8192x1024.Idx) :
    (dats m 0 c).arrAt 8 cfg0.N i = (((HD ((i 2 : ℕ) / 128)).seg (i 0) (i 1) ((i 2 : ℕ) % 128) : ℝ) : EReal) := by
  refine (dats m 0 c).arrAt_forall_of_covers 8
    (fun i v => v = (((HD ((i 2 : ℕ) / 128)).seg (i 0) (i 1) ((i 2 : ℕ) % 128) : ℝ) : EReal)) (by decide +kernel) (fun t hf y => ?_) i
  have h := (after hin t.val t.isLt).1.seg (y 0) (y 1) (y 2)
  blk_simp [index8]
  have hy : (y 2 : ℕ) < 128 := (y 2).isLt
  rw [show ((t : ℕ) / 4 * 128 + (y 2 : ℕ)) / 128 = t / 4 by omega, show ((t : ℕ) / 4 * 128 + (y 2 : ℕ)) % 128 = y 2 by omega]
  rw [show 2048 * blockOf (t : ℕ) + (y 1 : ℕ) = (3 - (t : ℕ) % 4) * 2048 + (y 1 : ℕ) by unfold blockOf; omega] at h
  rw [after0_8]
  exact (congrArg (outsAt0 m c t.val t.isLt).1 (eq_ix3 y)).trans h

/-- Row `r` of the gradient of the logits: the two rows are opposite. -/
def Head.logit (H : Head) (r d : ℕ) : ℝ := if r = 0 then H.dl0To eps 0 d else -H.dl0To eps 0 d

theorem Carried.logit {H : Head} {x9 : FVec Ideal S2x128 .f32} {x10 s} (h : Carried H 0 x9 x10 s) (r : Fin 2) (d : Fin 128) :
    x9 (ix2 r d) = ((H.logit r d : ℝ) : EReal) := by
  fin_cases r
  · exact h.l0 d
  · exact (h.l1 d).trans (by rfl)

theorem result_dl (hin : Inputs m c HD) (i : S2x1024.Idx) :
    (dats m 0 c).arrAt 9 cfg0.N i = (((HD ((i 1 : ℕ) / 128)).logit (i 0) ((i 1 : ℕ) % 128) : ℝ) : EReal) := by
  refine (dats m 0 c).arrAt_forall_of_covers 9
    (fun i v => v = (((HD ((i 1 : ℕ) / 128)).logit (i 0) ((i 1 : ℕ) % 128) : ℝ) : EReal)) (by decide +kernel) (fun t hf y => ?_) i
  have h := (after hin t.val t.isLt).2
  have h3 := (flush0_9 t).mp hf
  rw [show blockOf (t : ℕ) = 0 by unfold blockOf; omega] at h
  replace h := h.logit (y 0) (y 1)
  blk_simp [index9]
  have hy : (y 1 : ℕ) < 128 := (y 1).isLt
  rw [show ((t : ℕ) / 4 * 128 + (y 1 : ℕ)) / 128 = t / 4 by omega, show ((t : ℕ) / 4 * 128 + (y 1 : ℕ)) % 128 = y 1 by omega]
  rw [after0_9]
  exact (congrArg (outsAt0 m c t.val t.isLt).2.1 (eq_ix2 y)).trans h

theorem result_dgn (hin : Inputs m c HD) (i : S8x1x128.Idx) :
    (dats m 0 c).arrAt 10 cfg0.N i = (((HD (i 0)).dgnTo eps 0 (i 2) : ℝ) : EReal) := by
  refine (dats m 0 c).arrAt_forall_of_covers 10
    (fun i v => v = (((HD (i 0)).dgnTo eps 0 (i 2) : ℝ) : EReal)) (by decide +kernel) (fun t hf y => ?_) i
  have h := (after hin t.val t.isLt).2
  have h3 := (flush0_10 t).mp hf
  rw [show blockOf (t : ℕ) = 0 by unfold blockOf; omega] at h
  replace h := h.gn (y 2)
  blk_simp [index10]
  rw [after0_10]
  have e : y = ix3 0 0 (y 2) := by
    funext a
    fin_cases a
    · exact Fin.ext (by have : (y 0 : ℕ) < 1 := (y 0).isLt; show (y 0 : ℕ) = 0; omega)
    · exact Fin.ext (by have : (y 1 : ℕ) < 1 := (y 1).isLt; show (y 1 : ℕ) = 0; omega)
    · rfl
  exact (congrArg (outsAt0 m c t.val t.isLt).2.2.1 e).trans h

end Cert.Hgrn
-- ==== Proof.RefLogits.lean ====
/-
  The reference's gradient of the two logits of the gate's bound: through the softmax over them.
-/
module

public import proofs.«01_k».proof.Proof.RefBack
public import proofs.«01_k».proof.Proof.Result

@[expose] public section

set_option maxRecDepth 16384

noncomputable section

namespace Cert.Hgrn.Ref

open Idealize.ShloMosaic Cert.ReferenceIdeal Cert.ReferenceIdeal.Read

variable {z : FVec Ideal S1x8192x8192 .f32} {l : FVec Ideal S2x1024 .f32} {g : FVec Ideal S1x128 .f32} {dy : FVec Ideal S1x8192x1024 .f32}

theorem v30_eq (l : FVec Ideal S2x1024 .f32) : val_main_v30 (F := Ideal) l = shiftedExp l := rfl

theorem dlb_at (hz : IsReal z) (hl : IsReal l) (hg : IsReal g) (hdy : IsReal dy) (h : Fin 8) (d : Fin 128) :
    val_main_v179 (F := Ideal) z l g dy (ix3 h 0 d) = (((headOf z l g dy h).dlbTo eps 0 d : ℝ) : EReal) := by
  have e : val_main_v179 (F := Ideal) z l g dy (ix3 h 0 d) = val_main_v168 (F := Ideal) z l g dy (ix2 h d) + -val_main_v173 (F := Ideal) z l g dy (ix2 h d) := by
    pointwise [val_main_v179, val_main_v178, val_main_v174, val_main_v169]
  have e1 : val_main_v168 (F := Ideal) z l g dy (ix2 h d) = ∑ t : Fin 8192, val_main_v167 (F := Ideal) z l g dy (ix3 h t d) := by
    pointwise [val_main_v168, val_main_cst_33]
  have e2 : val_main_v173 (F := Ideal) z l g dy (ix2 h d) = ∑ t : Fin 8192, val_main_v167 (F := Ideal) z l g dy (ix3 h t d) * val_main_v51 (F := Ideal) z (ix3 h t d) := by
    pointwise [val_main_v173, val_main_v172, val_main_cst_34]
  have r1 : val_main_v168 (F := Ideal) z l g dy (ix2 h d) = ((∑ t ∈ Finset.range 8192, (headOf z l g dy h).df eps t d : ℝ) : EReal) := by
    rw [e1, Finset.sum_range, coe_sum]
    exact Finset.sum_congr rfl fun t _ => df_reads hz hl hg hdy h t d
  have r2 : val_main_v173 (F := Ideal) z l g dy (ix2 h d)
      = ((∑ t ∈ Finset.range 8192, (headOf z l g dy h).df eps t d * (headOf z l g dy h).sf t d : ℝ) : EReal) := by
    rw [e2]
    exact Reads.dot_sum (u := fun t => (headOf z l g dy h).df eps t d) (v := fun t => (headOf z l g dy h).sf t d)
      (fun t => df_reads hz hl hg hdy h t d) (fun t => sf_reads (l := l) (g := g) (dy := dy) hz h t d)
  rw [e, r1, r2, ← EReal.coe_neg, ← EReal.coe_add]
  congr 1
  unfold Head.dlbTo
  rw [N_eq, ← Finset.range_eq_Ico, ← sub_eq_add_neg, ← Finset.sum_sub_distrib]
  exact Finset.sum_congr rfl fun t _ => by ring

/-- The bound's gradient, column by column: the head's and then the feature's. -/
def boundGrad (z : FVec Ideal S1x8192x8192 .f32) (l : FVec Ideal S2x1024 .f32) (g : FVec Ideal S1x128 .f32) (dy : FVec Ideal S1x8192x1024 .f32) (j : ℕ) : ℝ :=
  (headOf z l g dy (j / 128)).dlbTo eps 0 (j % 128)

theorem padded_reads (hz : IsReal z) (hl : IsReal l) (hg : IsReal g) (hdy : IsReal dy) :
    Reads (val_main_v182 (F := Ideal) z l g dy) (fun r j => if r = 0 then boundGrad z l g dy j else 0) := fun r j => by
  have e : val_main_v180 (F := Ideal) z l g dy (ix1 j) = val_main_v179 (F := Ideal) z l g dy (ix3 ⟨j.val / 128, by omega⟩ 0 ⟨j.val % 128, by omega⟩) := by
    pointwise [val_main_v180]
  beta_reduce
  split_ifs with hr
  · obtain rfl : r = 0 := Fin.ext hr
    have e2 : val_main_v182 (F := Ideal) z l g dy (ix2 0 j) = val_main_v180 (F := Ideal) z l g dy (ix1 j) := by
      pointwise [val_main_v182, val_main_v181, val_main_cst_35]
    rw [e2, e, dlb_at hz hl hg hdy]
    rfl
  · obtain rfl : r = 1 := Fin.ext (by show r.val = 1; omega)
    have e2 : val_main_v182 (F := Ideal) z l g dy (ix2 1 j) = 0 := by
      pointwise [val_main_v182, val_main_v181, val_main_cst_35]
    exact e2.trans EReal.coe_zero.symm

theorem first_reads (hz : IsReal z) (hl : IsReal l) (hg : IsReal g) (hdy : IsReal dy) :
    Reads (val_main_v183 (F := Ideal) z l g dy) (fun r j => if r = 0 then boundGrad z l g dy j else 0) := fun r j => by
  have e : val_main_v183 (F := Ideal) z l g dy = Ideal.hostReduceWindowAdd ![2, 1] ![1, 1] ![0, 0] ![1, 0]
      Gen.reduceWindows_S2x1024_S2x1024_w2s1p0_1_w1s1p0_0 (val_main_v182 (F := Ideal) z l g dy)
      (val_main_call11_call0_v0 (F := Ideal) (Shape.Idx.first Gen.h_S_)) := window_init _ _ _ _ _ _ _ _
  have e0 : val_main_call11_call0_v0 (F := Ideal) (Shape.Idx.first Gen.h_S_) = (0 : EReal) := by
    pointwise [val_main_call11_call0_v0, val_main_call11_call0_cst]
  rw [e0] at e
  rw [e, Reads.cumsumBack rfl (padded_reads hz hl hg hdy) _ r j]
  congr 1
  have hr := r.isLt
  interval_cases r.val <;> simp [Finset.sum_Ico_eq_sum_range, Finset.sum_range_succ]

/-- The gradient of the two logits. -/
theorem logit_at (hz : IsReal z) (hl : IsReal l) (hg : IsReal g) (hdy : IsReal dy) (r : Fin 2) (j : Fin 1024) :
    val_main_v195 (F := Ideal) z l g dy (ix2 r j) = (((headOf z l g dy (j.val / 128)).logit r (j.val % 128) : ℝ) : EReal) := by
  obtain ⟨M, hM⟩ := largest_real hl
  have hs : Reads (val_main_v30 (F := Ideal) l) (fun r j => Real.exp (lAt l r j - M j)) := v30_eq l ▸ shifted_reads hl hM
  have hp : 0 < Real.exp (lAt l 0 j - M j) + Real.exp (lAt l 1 j - M j) := by positivity
  have sum : val_main_v31 (F := Ideal) l (ix1 j) = ((Real.exp (lAt l 0 j - M j) + Real.exp (lAt l 1 j - M j) : ℝ) : EReal) := by
    have e : val_main_v31 (F := Ideal) l (ix1 j) = ∑ r : Fin 2, val_main_v30 (F := Ideal) l (ix2 r j) := by
      pointwise [val_main_v31, val_main_cst_7]
    rw [e, Fin.sum_univ_two, hs 0 j, hs 1 j, ← EReal.coe_add]
    rfl
  have square : val_main_v37 (F := Ideal) l (ix2 0 j) = ((1 / ((Real.exp (lAt l 0 j - M j) + Real.exp (lAt l 1 j - M j)) * (Real.exp (lAt l 0 j - M j) + Real.exp (lAt l 1 j - M j))) : ℝ) : EReal) := by
    have e : val_main_v37 (F := Ideal) l (ix2 0 j) = Ideal.div (Ideal.ofBits .f32 0x3F800000#32) (val_main_v31 (F := Ideal) l (ix1 j) * val_main_v31 (F := Ideal) l (ix1 j)) := by
      pointwise [val_main_v37, val_main_v36, val_main_v35, val_main_v32, val_main_cst_8]
    rw [e, sum, one_word, ← EReal.coe_mul, Reads.div_val (mul_pos hp hp).ne']
  have part : val_main_v187 (F := Ideal) z l g dy (ix1 j) = ((boundGrad z l g dy j
      * (1 / ((Real.exp (lAt l 0 j - M j) + Real.exp (lAt l 1 j - M j)) * (Real.exp (lAt l 0 j - M j) + Real.exp (lAt l 1 j - M j)))) * Real.exp (lAt l 0 j - M j) : ℝ) : EReal) := by
    have e : val_main_v187 (F := Ideal) z l g dy (ix1 j) = ∑ r : Fin 2, val_main_v183 (F := Ideal) z l g dy (ix2 r j) * val_main_v37 (F := Ideal) l (ix2 0 j) * val_main_v30 (F := Ideal) l (ix2 r j) := by
      pointwise [val_main_v187, val_main_v186, val_main_v185, val_main_v184, val_main_cst_36]
    rw [e, Fin.sum_univ_two, first_reads hz hl hg hdy 0 j, first_reads hz hl hg hdy 1 j, hs 0 j, hs 1 j, square]
    simp only [← EReal.coe_mul, ← EReal.coe_add]
    congr 1
    simp
  have e : val_main_v195 (F := Ideal) z l g dy (ix2 r j) = (Ideal.div (val_main_v183 (F := Ideal) z l g dy (ix2 r j)) (val_main_v31 (F := Ideal) l (ix1 j))
      + val_main_v192 (F := Ideal) z l g dy (ix1 j)) * val_main_v30 (F := Ideal) l (ix2 r j) := by
    pointwise [val_main_v195, val_main_v194, val_main_v193, val_main_v191, val_main_v190, val_main_v32]
  have e2 : val_main_v192 (F := Ideal) z l g dy (ix1 j) = -val_main_v187 (F := Ideal) z l g dy (ix1 j) := by
    pointwise [val_main_v192, val_main_v189, val_main_v188, val_main_cst_37]
    all_goals exact Fin.sum_univ_one _
  rw [e, e2, first_reads hz hl hg hdy r j, hs r j, sum, part, Reads.div_val hp.ne']
  simp only [← EReal.coe_neg, ← EReal.coe_mul, ← EReal.coe_add]
  congr 1
  have hj : 128 * (j.val / 128) + j.val % 128 = j.val := Nat.div_add_mod _ _
  have hb : (headOf z l g dy (j.val / 128)).lb (j.val % 128)
      = Real.exp (lAt l 0 j - M j) / (Real.exp (lAt l 0 j - M j) + Real.exp (lAt l 1 j - M j)) := by
    rw [soft_shift]
    unfold Head.lb soft
    simp only [headOf, hj]
  unfold Head.logit Head.dl0To
  rw [hb]
  show _ = if r.val = 0 then boundGrad z l g dy j * _ * _ else -(boundGrad z l g dy j * _ * _)
  have hr := r.isLt
  obtain hr | hr : r.val = 0 ∨ r.val = 1 := by omega
  · rw [hr, if_pos rfl, if_pos rfl]
    field_simp
    ring
  · rw [hr, if_neg one_ne_zero, if_neg one_ne_zero]
    field_simp
    ring

end Cert.Hgrn.Ref
-- ==== Proof.RefOut.lean ====
/-
  The reference's first result: the four gradients of the projection, one after another.
-/
module

public import proofs.«01_k».proof.Proof.RefLogits

@[expose] public section

set_option maxRecDepth 16384

noncomputable section

namespace Cert.Hgrn.Ref

open Idealize.ShloMosaic Cert.ReferenceIdeal Cert.ReferenceIdeal.Read

variable {z : FVec Ideal S1x8192x8192 .f32} {l : FVec Ideal S2x1024 .f32} {g : FVec Ideal S1x128 .f32} {dy : FVec Ideal S1x8192x1024 .f32}

theorem seg_at (hz : IsReal z) (hl : IsReal l) (hg : IsReal g) (hdy : IsReal dy) (k : Fin 4) (t : Fin 8192) (j : Fin 1024) :
    val_main_v201 (F := Ideal) z l g dy (ix3 k t j) = (((headOf z l g dy (j.val / 128)).seg k t (j.val % 128) : ℝ) : EReal) := by
  have hj : j.val = 128 * (j.val / 128) + j.val % 128 := (Nat.div_add_mod _ _).symm
  have hk := k.isLt
  obtain hk | hk | hk | hk : k.val = 0 ∨ k.val = 1 ∨ k.val = 2 ∨ k.val = 3 := by omega
  · obtain rfl : k = 0 := Fin.ext hk
    have e : val_main_v201 (F := Ideal) z l g dy (ix3 0 t j) = val_main_v162 (F := Ideal) z l g dy (ix3 ⟨j.val / 128, by omega⟩ t ⟨j.val % 128, by omega⟩) := by
      pointwise [val_main_v201, val_main_v200, val_main_v196, val_main_v164, val_main_v163]
    rw [e]
    exact dzq_reads hz hl hg hdy _ _ _
  · obtain rfl : k = 1 := Fin.ext hk
    have e : val_main_v201 (F := Ideal) z l g dy (ix3 1 t j) = val_main_v175 (F := Ideal) z l g dy (ix3 ⟨j.val / 128, by omega⟩ t ⟨j.val % 128, by omega⟩) := by
      pointwise [val_main_v201, val_main_v200, val_main_v197, val_main_v177, val_main_v176]
    rw [e]
    exact dzf_reads hz hl hg hdy _ _ _
  · obtain rfl : k = 2 := Fin.ext hk
    have e : val_main_v201 (F := Ideal) z l g dy (ix3 2 t j) = val_main_v133 (F := Ideal) z l g dy (ix3 ⟨j.val / 128, by omega⟩ t ⟨j.val % 128, by omega⟩) := by
      pointwise [val_main_v201, val_main_v200, val_main_v198, val_main_v161, val_main_v160]
    rw [e]
    exact dv_reads hz hl hg hdy _ _ _
  · obtain rfl : k = 3 := Fin.ext hk
    have e : val_main_v201 (F := Ideal) z l g dy (ix3 3 t j) = val_main_v110 (F := Ideal) z l g dy (ix2 t j) := by
      pointwise [val_main_v201, val_main_v200, val_main_v199]
    rw [e]
    exact dzg_at hz hl hg hdy t j ⟨j.val / 128, by omega⟩ ⟨j.val % 128, by omega⟩ hj

/-! ## The three results -/

theorem seg_val (hz : IsReal z) (hl : IsReal l) (hg : IsReal g) (hdy : IsReal dy) (i : S4x8192x1024.Idx) :
    val_main_v201 (F := Ideal) z l g dy i = (((headOf z l g dy ((i 2).val / 128)).seg (i 0).val (i 1).val ((i 2).val % 128) : ℝ) : EReal) := by
  have e : i = ix3 (i 0) (i 1) (i 2) := by funext a; fin_cases a <;> rfl
  exact (congrArg _ e).trans (seg_at hz hl hg hdy (i 0) (i 1) (i 2))

theorem logit_val (hz : IsReal z) (hl : IsReal l) (hg : IsReal g) (hdy : IsReal dy) (i : S2x1024.Idx) :
    val_main_v195 (F := Ideal) z l g dy i = (((headOf z l g dy ((i 1).val / 128)).logit (i 0).val ((i 1).val % 128) : ℝ) : EReal) := by
  have e : i = ix2 (i 0) (i 1) := by funext a; fin_cases a <;> rfl
  exact (congrArg _ e).trans (logit_at hz hl hg hdy (i 0) (i 1))

theorem gain_val (hz : IsReal z) (hl : IsReal l) (hdy : IsReal dy) (i : S8x1x128.Idx) :
    val_main_v115 (F := Ideal) z l dy i = (((headOf z l g dy (i 0).val).dgnTo eps 0 (i 2).val : ℝ) : EReal) := by
  have e : i = ix3 (i 0) 0 (i 2) := by
    funext a; fin_cases a
    · rfl
    · exact Subsingleton.elim (α := Fin 1) _ _
    · rfl
  exact (congrArg _ e).trans (dgn_at hz hl hdy (i 0) (i 2))

end Cert.Hgrn.Ref
-- ==== Proof.Finite.lean ====
/-
  What the precondition says: every entry of every argument is a real number.
-/
module

public import proofs.«01_k».proof.Pre_finite_inputs
public import proofs.«01_k».proof.Proof.Heads

@[expose] public section

set_option maxRecDepth 16384

noncomputable section

namespace Cert.Hgrn

open Idealize.ShloMosaic

theorem finite_facts : Cert.Pre_finite_inputs.Facts := ⟨by decide, by decide, by decide, by decide⟩

/-- A number whose absolute value is below infinity is real. -/
theorem real_of_abs {x : EReal} (h : Ideal.cmp .olt (max x (-x)) (Ideal.ofBits .f32 0x7F800000#32) = 1#1) : x = ((x.toReal : ℝ) : EReal) := by
  have htop : Ideal.ofBits .f32 0x7F800000#32 = ⊤ := by simp [Ideal.ofBits, Ideal.ieee]
  rw [htop] at h
  induction x using EReal.rec with
  | bot => simp [Ideal.cmp] at h
  | coe a => rfl
  | top => simp [Ideal.cmp] at h

/-- One argument's part of the precondition. -/
theorem real_of_below {s u : Shape} {X : FVec Ideal s .f32} {map : Fin u.rank → Fin s.rank} {hb : u.BroadcastsInDim s map}
    (h : cmpf .olt (Host.absf X) (broadcastInDim s map hb (constant (F := Ideal) u .f32 0x7F800000#32)) = fun _ => 1#1) : IsReal X :=
  fun i => real_of_abs (congrFun h i)

theorem real_args {z : FVec Ideal ⟨3, ![1, 8192, 8192]⟩ .f32} {l : FVec Ideal ⟨2, ![2, 1024]⟩ .f32} {g : FVec Ideal ⟨2, ![1, 128]⟩ .f32}
    {dy : FVec Ideal ⟨3, ![1, 8192, 1024]⟩ .f32} [Cert.Pre_finite_inputs.Facts]
    (h : (Cert.Pre_finite_inputs.fn (F := Ideal) z l g dy).1 = (fun _ => 1#1) ∧ (Cert.Pre_finite_inputs.fn (F := Ideal) z l g dy).2.1 = (fun _ => 1#1)
      ∧ (Cert.Pre_finite_inputs.fn (F := Ideal) z l g dy).2.2.1 = (fun _ => 1#1) ∧ (Cert.Pre_finite_inputs.fn (F := Ideal) z l g dy).2.2.2 = (fun _ => 1#1)) :
    IsReal z ∧ IsReal l ∧ IsReal g ∧ IsReal dy := by
  simp only [Cert.Pre_finite_inputs.fn] at h
  exact ⟨real_of_below h.1, real_of_below h.2.1, real_of_below h.2.2.1, real_of_below h.2.2.2⟩

end Cert.Hgrn
-- ==== Proof.WIn.lean ====
/-
  The gradient of the input weights: what the kernel's result array holds. Grid point `4 p + b` adds to panel `p` of 1024
  columns the product of block `b` of 2048 tokens; the sums over the four blocks join into one sum over the tokens.
-/
module

public import proofs.«01_k».proof.Proof.Gen.KernelWInIdeal.Value
public import Idealize.ShloMosaic.Lib.Pointwise
public import Idealize.ShloMosaic.Lib.Pipeline.ValueKit

@[expose] public section

set_option maxRecDepth 16384

noncomputable section

namespace Cert.WIn

open Idealize.ShloMosaic Idealize.ShloMosaic.TcCoe Cert.KernelWInIdeal Cert.KernelWInIdeal.Gen
open Finset (range)

theorem zero_apply (j : S1x2048x1024.Idx) : k0_pay1 (F := Ideal) j = 0 := by pointwise [k0_pay1]

theorem step_apply (a : FVec Ideal S1x2048x1024 .f32) (h : FVec Ideal S2048x2048 .bf16) (x : FVec Ideal S1x2048x1024 .bf16) (i : Fin 2048) (d : Fin 1024) :
    k0_pay2 a h x (ix3 0 i d) = a (ix3 0 i d) + ∑ r : Fin 2048, h (ix2 r i) * x (ix3 0 r d) := by
  pointwise [k0_pay2]

theorem step_apply' (a : FVec Ideal S1x2048x1024 .f32) (h : FVec Ideal S2048x2048 .bf16) (x : FVec Ideal S1x2048x1024 .bf16) (i : Fin 2048) (d : Fin 1024) :
    k0_pay3 a h x (ix3 0 i d) = a (ix3 0 i d) + ∑ r : Fin 2048, h (ix2 r i) * x (ix3 0 r d) := by
  pointwise [k0_pay3]

variable (m : (ℓ : Loc nD τ sig) → Buf (Elt Ideal) ℓ) (c : Dev nD)

theorem outs_A (t : Fin cfg0.N) (h0 : t.val % 4 = 0) (h1 : t.val < 16) (h2 : ¬16 ≤ t.val) :
    outsAt0 m c t.val t.isLt = k0_pay2 (k0_pay1 (F := Ideal)) (iblk m c 0 t) (iblk m c 1 t) := by
  rw [outsAt0_A m c t h0 h1 h2]
  frame_out
theorem outs_B (t : Fin cfg0.N) (h0 : ¬t.val % 4 = 0) (h1 : t.val < 16) (h2 : ¬16 ≤ t.val) :
    outsAt0 m c t.val t.isLt = k0_pay2 (outsAt0 m c (t.val - 1) (Nat.lt_of_le_of_lt (Nat.sub_le _ _) t.isLt)) (iblk m c 0 t) (iblk m c 1 t) := by
  rw [outsAt0_B m c t h0 h1 h2]
  frame_out
theorem outs_C (t : Fin cfg0.N) (h0 : t.val % 4 = 0) (h1 : ¬t.val < 16) (h2 : 16 ≤ t.val) :
    outsAt0 m c t.val t.isLt = k0_pay3 (k0_pay1 (F := Ideal)) (iblk m c 0 t) (iblk m c 2 t) := by
  rw [outsAt0_C m c t h0 h1 h2]
  frame_out
theorem outs_D (t : Fin cfg0.N) (h0 : ¬t.val % 4 = 0) (h1 : ¬t.val < 16) (h2 : 16 ≤ t.val) :
    outsAt0 m c t.val t.isLt = k0_pay3 (outsAt0 m c (t.val - 1) (Nat.lt_of_le_of_lt (Nat.sub_le _ _) t.isLt)) (iblk m c 0 t) (iblk m c 2 t) := by
  rw [outsAt0_D m c t h0 h1 h2]
  frame_out

theorem index0 : ∀ t : Fin cfg0.N, win0_0.index t = ![t.val % 4, 0] := (by decide +kernel : ∀ t : Fin grid0.N, _)
theorem index1 : ∀ t : Fin cfg0.N, t.val < 16 → win0_1.index t = ![t.val / 4, t.val % 4, 0] := (by decide +kernel : ∀ t : Fin grid0.N, _)
theorem index2 : ∀ t : Fin cfg0.N, 16 ≤ t.val → win0_2.index t = ![t.val / 4 - 4, t.val % 4, 0] := (by decide +kernel : ∀ t : Fin grid0.N, _)
theorem index3 : ∀ t : Fin cfg0.N, win0_3.index t = ![t.val / 8, 0, t.val / 4 % 2] := (by decide +kernel : ∀ t : Fin grid0.N, _)

theorem lt_32 (t : Fin cfg0.N) : t.val < 32 := lt_of_lt_of_eq t.isLt N_0

/-- The three arguments. -/
abbrev argH : FVec Ideal S8192x2048 .bf16 := m ((c : Thread nD τ).loc main_arg0)
abbrev argR : FVec Ideal S4x8192x1024 .bf16 := m ((c : Thread nD τ).loc main_arg1)
abbrev argA : FVec Ideal S4x8192x1024 .bf16 := m ((c : Thread nD τ).loc main_arg2)

/-- The layer's input at token `n`. -/
def hAt (x : FVec Ideal S8192x2048 .bf16) (n : ℕ) (i : Fin 2048) : EReal := if h : n < 8192 then x (ix2 ⟨n, h⟩ i) else 0

/-- Column `d` of panel `p` of the gradients of the projections at token `n`: the first four panels are the recurrence's. -/
def sAt (x y : FVec Ideal S4x8192x1024 .bf16) (p n : ℕ) (d : Fin 1024) : EReal :=
  if h : n < 8192 then
    if h1 : p < 4 then x (ix3 ⟨p, h1⟩ ⟨n, h⟩ d) else if h2 : p - 4 < 4 then y (ix3 ⟨p - 4, h2⟩ ⟨n, h⟩ d) else 0
  else 0

theorem block0 (t : Fin cfg0.N) (r i : Fin 2048) : iblk m c 0 t (ix2 r i) = hAt (argH m c) (2048 * (t.val % 4) + r.val) i := by
  unfold hAt
  rw [dif_pos (by omega)]
  blk_ext [iblk, index0]

theorem block1 (t : Fin cfg0.N) (h : t.val < 16) (r : Fin 2048) (d : Fin 1024) :
    iblk m c 1 t (ix3 0 r d) = sAt (argR m c) (argA m c) (t.val / 4) (2048 * (t.val % 4) + r.val) d := by
  unfold sAt
  rw [dif_pos (by omega), dif_pos (by omega)]
  blk_ext [iblk, index1 t h]

theorem block2 (t : Fin cfg0.N) (h : 16 ≤ t.val) (r : Fin 2048) (d : Fin 1024) :
    iblk m c 2 t (ix3 0 r d) = sAt (argR m c) (argA m c) (t.val / 4) (2048 * (t.val % 4) + r.val) d := by
  have := lt_32 t
  unfold sAt
  rw [dif_pos (by omega), dif_neg (by omega), dif_pos (by omega)]
  blk_ext [iblk, index2 t h]

/-- Panel `p`'s entry summed over the first `n` tokens. -/
def upTo (x : FVec Ideal S8192x2048 .bf16) (y z : FVec Ideal S4x8192x1024 .bf16) (p : ℕ) (i : Fin 2048) (d : Fin 1024) (n : ℕ) : EReal :=
  ∑ k ∈ range n, hAt x k i * sAt y z p k d

theorem upTo_block (x : FVec Ideal S8192x2048 .bf16) (y z : FVec Ideal S4x8192x1024 .bf16) (p : ℕ) (i : Fin 2048) (d : Fin 1024) (b : ℕ) :
    upTo x y z p i d (2048 * b) + ∑ r : Fin 2048, hAt x (2048 * b + r.val) i * sAt y z p (2048 * b + r.val) d = upTo x y z p i d (2048 * (b + 1)) := by
  unfold upTo
  rw [Nat.mul_add, Nat.mul_one, Finset.sum_range_add]
  congr 1

theorem upTo_zero (x : FVec Ideal S8192x2048 .bf16) (y z : FVec Ideal S4x8192x1024 .bf16) (p : ℕ) (i : Fin 2048) (d : Fin 1024) :
    upTo x y z p i d (2048 * 0) = 0 := Finset.sum_range_zero _

/-- After point `n` the panel's buffer holds the sum over the tokens of the blocks so far. -/
theorem after (n : ℕ) : ∀ (hn : n < cfg0.N) (i : Fin 2048) (d : Fin 1024),
    outsAt0 m c n hn (ix3 0 i d) = upTo (argH m c) (argR m c) (argA m c) (n / 4) i d (2048 * (n % 4 + 1)) := by
  induction n using Nat.strong_induction_on with
  | _ n ih =>
    intro hn i d
    by_cases h0 : n % 4 = 0
    · rw [← upTo_block, h0, upTo_zero]
      by_cases h1 : n < 16
      · have e := outs_A m c ⟨n, hn⟩ h0 h1 (by show ¬16 ≤ n; omega)
        dsimp only at e
        rw [e, step_apply, zero_apply]
        congr 1
        refine Finset.sum_congr rfl fun r _ => ?_
        rw [block0, block1 _ _ _ h1]
        dsimp only
        rw [h0]
      · have h2 : 16 ≤ n := by omega
        have e := outs_C m c ⟨n, hn⟩ h0 h1 h2
        dsimp only at e
        rw [e, step_apply', zero_apply]
        congr 1
        refine Finset.sum_congr rfl fun r _ => ?_
        rw [block0, block2 _ _ _ h2]
        dsimp only
        rw [h0]
    · have ep := ih (n - 1) (by omega) (by omega) i d
      rw [show (n - 1) / 4 = n / 4 by omega, show (n - 1) % 4 + 1 = n % 4 by omega] at ep
      rw [← upTo_block]
      by_cases h1 : n < 16
      · have e := outs_B m c ⟨n, hn⟩ h0 h1 (by show ¬16 ≤ n; omega)
        dsimp only at e
        rw [e, step_apply, ep]
        congr 1
        refine Finset.sum_congr rfl fun r _ => ?_
        rw [block0, block1 _ _ _ h1]
      · have h2 : 16 ≤ n := by omega
        have e := outs_D m c ⟨n, hn⟩ h0 h1 h2
        dsimp only at e
        rw [e, step_apply', ep]
        congr 1
        refine Finset.sum_congr rfl fun r _ => ?_
        rw [block0, block2 _ _ _ h2]

/-- The gradient of the input weights: entry `(s, i, e)` sums over the tokens the products of the layer's input with
    column `2048 s + e` of the gradients of the projections. -/
def grad (x : FVec Ideal S8192x2048 .bf16) (y z : FVec Ideal S4x8192x1024 .bf16) (j : S4x2048x2048.Idx) : EReal :=
  upTo x y z (2 * (j 0 : ℕ) + (j 2 : ℕ) / 1024) ⟨(j 1 : ℕ) % 2048, Nat.mod_lt _ (by decide)⟩ ⟨(j 2 : ℕ) % 1024, Nat.mod_lt _ (by decide)⟩ 8192

theorem result (j : S4x2048x2048.Idx) : (dats m 0 c).arrAt 3 cfg0.N j = grad (argH m c) (argR m c) (argA m c) j := by
  refine (dats m 0 c).arrAt_forall_of_covers 3 (fun i v => v = grad (argH m c) (argR m c) (argA m c) i) (by decide +kernel) (fun t hf y => ?_) j
  have h := after m c t.val t.isLt (y 1) (y 2)
  have h3 := (flush0_3 t).mp hf
  have hy : (y 2 : ℕ) < 1024 := (y 2).isLt
  have hy1 : (y 1 : ℕ) < 2048 := (y 1).isLt
  have hy0 : (y 0 : ℕ) < 1 := (y 0).isLt
  unfold grad
  blk_simp [index3]
  rw [after0_3]
  have e : y = ix3 0 (y 1) (y 2) := by
    funext a
    fin_cases a
    · exact Fin.ext (by show (y 0 : ℕ) = 0; omega)
    · rfl
    · rfl
  refine (congrArg (outsAt0 m c t.val t.isLt) e).trans (h.trans ?_)
  rw [h3]
  congr 1 <;> first | omega | (apply Fin.ext; show (_ : ℕ) = _; first | omega | (dsimp only; omega))

end Cert.WIn
-- ==== Proof.WInRef.lean ====
/-
  The gradient of the input weights: what the reference computes, entry by entry.
-/
module

public import proofs.«01_k».proof.Proof.WIn
public import proofs.«01_k».proof.Proof.Gen.ReferenceWInIdeal.Read

@[expose] public section

set_option maxRecDepth 16384

noncomputable section

namespace Cert.WIn

open Idealize.ShloMosaic Idealize.ShloMosaic.TcCoe Cert.ReferenceWInIdeal Cert.ReferenceWInIdeal.Read

variable (x : FVec Ideal S8192x2048 .bf16) (y z : FVec Ideal S4x8192x1024 .bf16)

set_option maxHeartbeats 1000000 in
/-- The gradients of the projections side by side: column `1024 p + d` is column `d` of panel `p`. -/
theorem side (k : Fin 8192) (p : Fin 8) (d : Fin 1024) :
    val_main_v17 (F := Ideal) y z (ix2 k ⟨1024 * p.val + d.val, by omega⟩) = sAt y z p.val k.val d := by
  unfold sAt
  rw [dif_pos k.isLt]
  fin_cases p
  all_goals
    simp only [Nat.reduceMul, Nat.reduceSub, Nat.reduceLT, Nat.reduceAdd, dite_true, dite_false]
    pointwise [val_main_v17, val_main_v16, val_main_v0, val_main_v1, val_main_v2, val_main_v3, val_main_v4, val_main_v5, val_main_v6, val_main_v7,
      val_main_v8, val_main_v9, val_main_v10, val_main_v11, val_main_v12, val_main_v13, val_main_v14, val_main_v15]
  all_goals
    simp (disch := omega) only [dif_pos, dif_neg]
  all_goals
    first
      | done
      | exact congrArg y (congrArg (ix3 _ k) (Fin.ext (by dsimp only; omega)))
      | exact congrArg z (congrArg (ix3 _ k) (Fin.ext (by dsimp only; omega)))

theorem prod (q : Fin 8192) (i : Fin 2048) :
    val_main_v21 (F := Ideal) x y z (ix2 q i) = ∑ k : Fin 8192, val_main_v17 (F := Ideal) y z (ix2 k q) * x (ix2 k i) := by
  pointwise [val_main_v21, val_main_v19]

theorem panels (s : Fin 4) (i e : Fin 2048) :
    val_main_v31 (F := Ideal) x y z (ix3 s i e) = val_main_v21 (F := Ideal) x y z (ix2 ⟨2048 * s.val + e.val, by omega⟩ i) := by
  fin_cases s
  all_goals
    pointwise [val_main_v31, val_main_v30, val_main_v29, val_main_v28, val_main_v27, val_main_v26, val_main_v25, val_main_v24, val_main_v23, val_main_v22]

theorem value (j : S4x2048x2048.Idx) : val_main_v31 (F := Ideal) x y z j = grad x y z j := by
  have h0 : (j 0 : ℕ) < 4 := (j 0).isLt
  have h1 : (j 1 : ℕ) < 2048 := (j 1).isLt
  have h2 : (j 2 : ℕ) < 2048 := (j 2).isLt
  refine (congrArg _ (eq_ix3 j)).trans ((panels x y z (j 0) (j 1) (j 2)).trans ((prod x y z _ _).trans ?_))
  unfold grad upTo
  refine Eq.trans ?_ (Finset.sum_range (n := 8192) _).symm
  refine Finset.sum_congr rfl fun k _ => ?_
  rw [mul_comm]
  have e : (⟨2048 * (j 0 : ℕ) + (j 2 : ℕ), by omega⟩ : Fin 8192)
      = ⟨1024 * (⟨2 * (j 0 : ℕ) + (j 2 : ℕ) / 1024, by omega⟩ : Fin 8).val + (⟨(j 2 : ℕ) % 1024, Nat.mod_lt _ (by decide)⟩ : Fin 1024).val, by dsimp only; omega⟩ :=
    Fin.ext (by dsimp only; omega)
  congr 1
  · unfold hAt
    rw [dif_pos k.isLt]
    exact congrArg x (congrArg (ix2 k) (Fin.ext (Nat.mod_eq_of_lt h1).symm))
  · exact (congrArg (fun q => val_main_v17 (F := Ideal) y z (ix2 k q)) e).trans (side y z k ⟨2 * (j 0 : ℕ) + (j 2 : ℕ) / 1024, by omega⟩ _)

end Cert.WIn
-- ==== Proof.WInEq.lean ====
/-
  The gradient of the input weights: the two programs end with equal results.
-/
module

public import proofs.«01_k».proof.Proof.WInRef
public import proofs.«01_k».proof.Defs
public import proofs.«01_k».proof.Proof.Gen.ReferenceWInIdeal.Run

@[expose] public section

set_option maxRecDepth 16384

noncomputable section

namespace Cert.WIn

open Idealize.ShloMosaic Idealize.ShloMosaic.TcCoe Idealize.SL.Sem

instance : Cert.KernelWInIdeal.Facts := Cert.KernelWInIdeal.Gen.facts
instance : Cert.ReferenceWInIdeal.Facts := Cert.ReferenceWInIdeal.Gen.facts

/-- The reference keeps its arguments. -/
theorem frame_ri : Cert.quiescent_ReferenceWInIdeal := by
  intro m ρ _
  exact (θ_run Cert.ReferenceWInIdeal.defs _ _).mono (fun r h => ⟨fun c => (h c).2,
      Idealize.ShloMosaic.sem_eq_zero_of_no_sems (by decide) r.2⟩)
    (Cert.ReferenceWInIdeal.Value.run (F := Ideal) m ρ)

/-- The result, as the reference's function of the kernel's arguments. -/
def out (m : (ℓ : Loc Cert.KernelWInIdeal.nD Cert.KernelWInIdeal.τ Cert.KernelWInIdeal.sig) → Buf (Elt Ideal) ℓ) (c : Dev Cert.KernelWInIdeal.nD) :
    FVec Ideal Cert.KernelWInIdeal.S4x2048x2048 .f32 :=
  Cert.ReferenceWInIdeal.Read.val_main_v31 (F := Ideal) (argH m c) (argR m c) (argA m c)

theorem stored (m : (ℓ : Loc Cert.KernelWInIdeal.nD Cert.KernelWInIdeal.τ Cert.KernelWInIdeal.sig) → Buf (Elt Ideal) ℓ) (c : Dev Cert.KernelWInIdeal.nD) :
    (Cert.KernelWInIdeal.Gen.dats m 0 c).arrAt 3 Cert.KernelWInIdeal.cfg0.N = out m c :=
  funext fun i => (result m c i).trans (value _ _ _ i).symm

theorem algebraic : Cert.algebraic_KernelWInIdeal_ReferenceWInIdeal := by
  intro m g m' g' _ hag
  refine ⟨out m, ?_, ?_⟩
  · refine (θ_run Cert.KernelWInIdeal.defs _ _).mono (fun r h c => ?_) (Cert.KernelWInIdeal.Value.run_blocks m g)
    obtain ⟨h0, hargs⟩ := h c
    exact ⟨h0.trans (stored m c), hargs⟩
  · refine (θ_run Cert.ReferenceWInIdeal.defs _ _).mono (fun r h c => ?_) (Cert.ReferenceWInIdeal.Value.run (F := Ideal) m' g')
    obtain ⟨h0, hargs⟩ := h c
    obtain ⟨a0, a1, a2⟩ := hag c
    refine ⟨(h0.trans (Cert.ReferenceWInIdeal.Read.val_main_v31_eq _ _)).trans ?_, hargs⟩
    exact congr (congr (congrArg Cert.ReferenceWInIdeal.Read.val_main_v31 a0) a1) a2

end Cert.WIn
-- ==== Proof.HParts.lean ====
/-
  The gradient of the layer's input as one sum over the 8192 columns of the projections: the columns' gradients and the
  weights, and the sum over the first columns.
-/
module

public import Idealize.ShloMosaic.Lib.Pointwise

@[expose] public section

set_option maxRecDepth 16384

noncomputable section

namespace Cert.HGrad

open Idealize.ShloMosaic
open Finset (range)

/-- Panel `p` of the gradients of the projections, at token `t` and the panel's column `d`: the first four panels are the
    recurrence's. -/
def panel (y z : FVec Ideal ⟨3, ![4, 8192, 1024]⟩ .bf16) (t p d : ℕ) : EReal :=
  if h : t < 8192 ∧ d < 1024 then
    if h1 : p < 4 then y (ix3 ⟨p, h1⟩ ⟨t, h.1⟩ ⟨d, h.2⟩) else if h2 : p - 4 < 4 then z (ix3 ⟨p - 4, h2⟩ ⟨t, h.1⟩ ⟨d, h.2⟩) else 0
  else 0

/-- Row `i` of quarter `q` of the weights' columns, at the quarter's column `e`. -/
def weight (w : FVec Ideal ⟨3, ![4, 2048, 2048]⟩ .bf16) (i q e : ℕ) : EReal :=
  if h : q < 4 ∧ i < 2048 ∧ e < 2048 then w (ix3 ⟨q, h.1⟩ ⟨i, h.2.1⟩ ⟨e, h.2.2⟩) else 0

/-- Column `k`'s product. -/
def term (y z : FVec Ideal ⟨3, ![4, 8192, 1024]⟩ .bf16) (w : FVec Ideal ⟨3, ![4, 2048, 2048]⟩ .bf16) (t i k : ℕ) : EReal :=
  panel y z t (k / 1024) (k % 1024) * weight w i (k / 2048) (k % 2048)

/-- Token `t`'s entry `i` summed over the first `n` columns. -/
def upTo (y z : FVec Ideal ⟨3, ![4, 8192, 1024]⟩ .bf16) (w : FVec Ideal ⟨3, ![4, 2048, 2048]⟩ .bf16) (t i n : ℕ) : EReal :=
  ∑ k ∈ range n, term y z w t i k

variable (y z : FVec Ideal ⟨3, ![4, 8192, 1024]⟩ .bf16) (w : FVec Ideal ⟨3, ![4, 2048, 2048]⟩ .bf16) (t i : ℕ)

theorem upTo_zero : upTo y z w t i (2048 * 0) = 0 := Finset.sum_range_zero _

/-- The next quarter's columns: its two panels. -/
theorem upTo_quarter (b : ℕ) :
    upTo y z w t i (2048 * b)
      + (∑ k : Fin 1024, panel y z t (2 * b) k.val * weight w i b k.val + ∑ k : Fin 1024, panel y z t (2 * b + 1) k.val * weight w i b (1024 + k.val))
      = upTo y z w t i (2048 * (b + 1)) := by
  unfold upTo
  rw [show 2048 * (b + 1) = 2048 * b + 1024 + 1024 by omega, Finset.sum_range_add _ (2048 * b + 1024), Finset.sum_range_add _ (2048 * b), add_assoc]
  congr 2
  · refine Eq.trans ?_ (Finset.sum_range _).symm
    refine Finset.sum_congr rfl fun k _ => ?_
    have := k.isLt
    unfold term
    rw [show (2048 * b + k.val) / 1024 = 2 * b by omega, show (2048 * b + k.val) % 1024 = k.val by omega,
      show (2048 * b + k.val) / 2048 = b by omega, show (2048 * b + k.val) % 2048 = k.val by omega]
  · refine Eq.trans ?_ (Finset.sum_range _).symm
    refine Finset.sum_congr rfl fun k _ => ?_
    have := k.isLt
    unfold term
    rw [show (2048 * b + 1024 + k.val) / 1024 = 2 * b + 1 by omega, show (2048 * b + 1024 + k.val) % 1024 = k.val by omega,
      show (2048 * b + 1024 + k.val) / 2048 = b by omega, show (2048 * b + 1024 + k.val) % 2048 = 1024 + k.val by omega]

end Cert.HGrad
-- ==== Proof.HFirst.lean ====
/-
  The gradient of the layer's input, first 3072 tokens: what the kernel's result array holds. Grid point `4 r + b` adds to block
  `r` of 1024 tokens the product over quarter `b` of the columns; the sums over the four quarters join into one.
-/
module

public import proofs.«01_k».proof.Proof.HParts
public import proofs.«01_k».proof.Proof.Gen.KernelHFirstIdeal.Value
public import Idealize.ShloMosaic.Lib.Pipeline.ValueKit

@[expose] public section

set_option maxRecDepth 16384

noncomputable section

namespace Cert.HFirst

open Idealize.ShloMosaic Idealize.ShloMosaic.TcCoe Cert.KernelHFirstIdeal Cert.KernelHFirstIdeal.Gen Cert.HGrad

theorem zero_apply (j : S1024x2048.Idx) : k0_pay1 (F := Ideal) j = 0 := by pointwise [k0_pay1]

theorem step_apply (a : FVec Ideal S1024x2048 .f32) (x0 x1 : FVec Ideal S1x1024x1024 .bf16) (w0 w1 : FVec Ideal S1x2048x1024 .bf16) (r : Fin 1024) (i : Fin 2048) :
    k0_pay2 a x0 w0 x1 w1 (ix2 r i)
      = a (ix2 r i) + (∑ k : Fin 1024, x0 (ix3 0 r k) * w0 (ix3 0 i k) + ∑ k : Fin 1024, x1 (ix3 0 r k) * w1 (ix3 0 i k)) := by
  pointwise [k0_pay2]

theorem step_apply' (a : FVec Ideal S1024x2048 .f32) (x0 x1 : FVec Ideal S1x1024x1024 .bf16) (w0 w1 : FVec Ideal S1x2048x1024 .bf16) (r : Fin 1024) (i : Fin 2048) :
    k0_pay3 a x0 w0 x1 w1 (ix2 r i)
      = a (ix2 r i) + (∑ k : Fin 1024, x0 (ix3 0 r k) * w0 (ix3 0 i k) + ∑ k : Fin 1024, x1 (ix3 0 r k) * w1 (ix3 0 i k)) := by
  pointwise [k0_pay3]

/-- The parts of the blocks a point loads: one panel of the two, and half of the quarter's columns. -/
def panel0 (x : FVec Ideal S2x1024x1024 .bf16) : FVec Ideal S1x1024x1024 .bf16 :=
  View.ld (Val := Elt Ideal) (e' := .bf16) x (Rect.unit (s := S2x1024x1024) ![0, 0, 0] S1x1024x1024.size inb_S2x1024x1024_S1x1024x1024_0_0_0)
def panel1 (x : FVec Ideal S2x1024x1024 .bf16) : FVec Ideal S1x1024x1024 .bf16 :=
  View.ld (Val := Elt Ideal) (e' := .bf16) x (Rect.unit (s := S2x1024x1024) ![1, 0, 0] S1x1024x1024.size inb_S2x1024x1024_S1x1024x1024_1_0_0)
def half0 (x : FVec Ideal S1x2048x2048 .bf16) : FVec Ideal S1x2048x1024 .bf16 :=
  View.ld (Val := Elt Ideal) (e' := .bf16) x (Rect.unit (s := S1x2048x2048) ![0, 0, 0] S1x2048x1024.size inb_S1x2048x2048_S1x2048x1024_0_0_0)
def half1 (x : FVec Ideal S1x2048x2048 .bf16) : FVec Ideal S1x2048x1024 .bf16 :=
  View.ld (Val := Elt Ideal) (e' := .bf16) x (Rect.unit (s := S1x2048x2048) ![0, 0, 1024] S1x2048x1024.size inb_S1x2048x2048_S1x2048x1024_0_0_1024)

theorem panel0_apply (x : FVec Ideal S2x1024x1024 .bf16) (r k : Fin 1024) : panel0 x (ix3 0 r k) = x (ix3 0 r k) := by pointwise [panel0]
theorem panel1_apply (x : FVec Ideal S2x1024x1024 .bf16) (r k : Fin 1024) : panel1 x (ix3 0 r k) = x (ix3 1 r k) := by pointwise [panel1]
theorem half0_apply (x : FVec Ideal S1x2048x2048 .bf16) (i : Fin 2048) (k : Fin 1024) : half0 x (ix3 0 i k) = x (ix3 0 i ⟨k.val, by omega⟩) := by
  pointwise [half0]
theorem half1_apply (x : FVec Ideal S1x2048x2048 .bf16) (i : Fin 2048) (k : Fin 1024) : half1 x (ix3 0 i k) = x (ix3 0 i ⟨1024 + k.val, by omega⟩) := by
  pointwise [half1]

variable (m : (ℓ : Loc nD τ sig) → Buf (Elt Ideal) ℓ) (c : Dev nD)

theorem outs_A (t : Fin cfg0.N) (h0 : t.val % 4 = 0) (h1 : t.val % 4 ≤ 1) (h2 : ¬2 ≤ t.val % 4) :
    outsAt0 m c t.val t.isLt = k0_pay2 (F := Ideal) (k0_pay1 (F := Ideal)) (panel0 (iblk m c 0 t)) (half0 (iblk m c 2 t)) (panel1 (iblk m c 0 t)) (half1 (iblk m c 2 t)) := by
  rw [outsAt0_A m c t h0 h1 h2]
  frame_out
  rfl
theorem outs_B (t : Fin cfg0.N) (h0 : ¬t.val % 4 = 0) (h1 : t.val % 4 ≤ 1) (h2 : ¬2 ≤ t.val % 4) :
    outsAt0 m c t.val t.isLt = k0_pay2 (outsAt0 m c (t.val - 1) (Nat.lt_of_le_of_lt (Nat.sub_le _ _) t.isLt))
      (panel0 (iblk m c 0 t)) (half0 (iblk m c 2 t)) (panel1 (iblk m c 0 t)) (half1 (iblk m c 2 t)) := by
  rw [outsAt0_B m c t h0 h1 h2]
  frame_out
  rfl
theorem outs_C (t : Fin cfg0.N) (h0 : ¬t.val % 4 = 0) (h1 : ¬t.val % 4 ≤ 1) (h2 : 2 ≤ t.val % 4) :
    outsAt0 m c t.val t.isLt = k0_pay3 (outsAt0 m c (t.val - 1) (Nat.lt_of_le_of_lt (Nat.sub_le _ _) t.isLt))
      (panel0 (iblk m c 1 t)) (half0 (iblk m c 2 t)) (panel1 (iblk m c 1 t)) (half1 (iblk m c 2 t)) := by
  rw [outsAt0_C m c t h0 h1 h2]
  frame_out
  rfl

theorem index0 : ∀ t : Fin cfg0.N, t.val % 4 ≤ 1 → win0_0.index t = ![t.val % 4, t.val / 4, 0] := (by decide +kernel : ∀ t : Fin grid0.N, _)
theorem index1 : ∀ t : Fin cfg0.N, 2 ≤ t.val % 4 → win0_1.index t = ![t.val % 4 - 2, t.val / 4, 0] := (by decide +kernel : ∀ t : Fin grid0.N, _)
theorem index2 : ∀ t : Fin cfg0.N, win0_2.index t = ![t.val % 4, 0, 0] := (by decide +kernel : ∀ t : Fin grid0.N, _)
theorem index4 : ∀ t : Fin cfg0.N, win0_4.index t = ![t.val / 4, 0] := (by decide +kernel : ∀ t : Fin grid0.N, _)

theorem lt_N (t : Fin cfg0.N) : t.val < 12 := lt_of_lt_of_eq t.isLt N_0

/-- The three arguments the products take. -/
abbrev argR : FVec Ideal S4x8192x1024 .bf16 := m ((c : Thread nD τ).loc main_arg0)
abbrev argA : FVec Ideal S4x8192x1024 .bf16 := m ((c : Thread nD τ).loc main_arg1)
abbrev argW : FVec Ideal S4x2048x2048 .bf16 := m ((c : Thread nD τ).loc main_arg2)

theorem block0 (t : Fin cfg0.N) (h : t.val % 4 ≤ 1) (s : Fin 2) (r k : Fin 1024) :
    iblk m c 0 t (ix3 s r k) = panel (argR m c) (argA m c) (1024 * (t.val / 4) + r.val) (2 * (t.val % 4) + s.val) k.val := by
  have := lt_N t
  unfold panel
  rw [dif_pos ⟨by omega, k.isLt⟩, dif_pos (by omega)]
  blk_ext [iblk, index0 t h]

theorem block1 (t : Fin cfg0.N) (h : 2 ≤ t.val % 4) (s : Fin 2) (r k : Fin 1024) :
    iblk m c 1 t (ix3 s r k) = panel (argR m c) (argA m c) (1024 * (t.val / 4) + r.val) (2 * (t.val % 4) + s.val) k.val := by
  have := lt_N t
  unfold panel
  rw [dif_pos ⟨by omega, k.isLt⟩, dif_neg (by omega), dif_pos (by omega)]
  blk_ext [iblk, index1 t h]

theorem block2 (t : Fin cfg0.N) (i e : Fin 2048) : iblk m c 2 t (ix3 0 i e) = weight (argW m c) i.val (t.val % 4) e.val := by
  unfold weight
  rw [dif_pos ⟨by omega, i.isLt, e.isLt⟩]
  blk_ext [iblk, index2]

/-- What a point adds, from its blocks. -/
theorem adds0 (t : Fin cfg0.N) (h : t.val % 4 ≤ 1) (r : Fin 1024) (i : Fin 2048) :
    (∑ k : Fin 1024, panel0 (iblk m c 0 t) (ix3 0 r k) * half0 (iblk m c 2 t) (ix3 0 i k) + ∑ k : Fin 1024, panel1 (iblk m c 0 t) (ix3 0 r k) * half1 (iblk m c 2 t) (ix3 0 i k) : EReal)
      = ∑ k : Fin 1024, panel (argR m c) (argA m c) (1024 * (t.val / 4) + r.val) (2 * (t.val % 4)) k.val * weight (argW m c) i.val (t.val % 4) k.val
        + ∑ k : Fin 1024, panel (argR m c) (argA m c) (1024 * (t.val / 4) + r.val) (2 * (t.val % 4) + 1) k.val * weight (argW m c) i.val (t.val % 4) (1024 + k.val) := by
  congr 1
  · refine Finset.sum_congr rfl fun k _ => ?_
    rw [panel0_apply, half0_apply, block0 m c t h, block2]
    rfl
  · refine Finset.sum_congr rfl fun k _ => ?_
    rw [panel1_apply, half1_apply, block0 m c t h, block2]
    rfl

theorem adds1 (t : Fin cfg0.N) (h : 2 ≤ t.val % 4) (r : Fin 1024) (i : Fin 2048) :
    (∑ k : Fin 1024, panel0 (iblk m c 1 t) (ix3 0 r k) * half0 (iblk m c 2 t) (ix3 0 i k) + ∑ k : Fin 1024, panel1 (iblk m c 1 t) (ix3 0 r k) * half1 (iblk m c 2 t) (ix3 0 i k) : EReal)
      = ∑ k : Fin 1024, panel (argR m c) (argA m c) (1024 * (t.val / 4) + r.val) (2 * (t.val % 4)) k.val * weight (argW m c) i.val (t.val % 4) k.val
        + ∑ k : Fin 1024, panel (argR m c) (argA m c) (1024 * (t.val / 4) + r.val) (2 * (t.val % 4) + 1) k.val * weight (argW m c) i.val (t.val % 4) (1024 + k.val) := by
  congr 1
  · refine Finset.sum_congr rfl fun k _ => ?_
    rw [panel0_apply, half0_apply, block1 m c t h, block2]
    rfl
  · refine Finset.sum_congr rfl fun k _ => ?_
    rw [panel1_apply, half1_apply, block1 m c t h, block2]
    rfl

/-- After point `n` the block's buffer holds the sum over the columns of the quarters so far. -/
theorem after (n : ℕ) : ∀ (hn : n < cfg0.N) (r : Fin 1024) (i : Fin 2048),
    outsAt0 m c n hn (ix2 r i) = upTo (argR m c) (argA m c) (argW m c) (1024 * (n / 4) + r.val) i.val (2048 * (n % 4 + 1)) := by
  induction n using Nat.strong_induction_on with
  | _ n ih =>
    intro hn r i
    by_cases h0 : n % 4 = 0
    · have e := outs_A m c ⟨n, hn⟩ h0 (by show n % 4 ≤ 1; omega) (by show ¬2 ≤ n % 4; omega)
      dsimp only at e
      rw [← upTo_quarter, h0, upTo_zero, e, step_apply, zero_apply]
      refine congrArg (fun s : EReal => 0 + s) ((adds0 m c ⟨n, hn⟩ (by show n % 4 ≤ 1; omega) r i).trans ?_)
      dsimp only
      rw [h0]
    · have ep := ih (n - 1) (by omega) (by omega) r i
      rw [show (n - 1) / 4 = n / 4 by omega, show (n - 1) % 4 + 1 = n % 4 by omega] at ep
      rw [← upTo_quarter]
      by_cases h1 : n % 4 ≤ 1
      · have e := outs_B m c ⟨n, hn⟩ h0 h1 (by show ¬2 ≤ n % 4; omega)
        dsimp only at e
        rw [e, step_apply, ep]
        exact congrArg (fun s : EReal => _ + s) (adds0 m c ⟨n, hn⟩ h1 r i)
      · have h2 : 2 ≤ n % 4 := by omega
        have e := outs_C m c ⟨n, hn⟩ h0 h1 h2
        dsimp only at e
        rw [e, step_apply', ep]
        exact congrArg (fun s : EReal => _ + s) (adds1 m c ⟨n, hn⟩ h2 r i)

/-- The gradient of the layer's input at the first 3072 tokens: entry `(t, i)` sums over the columns of the projections. -/
def grad (y z : FVec Ideal S4x8192x1024 .bf16) (w : FVec Ideal S4x2048x2048 .bf16) (j : S3072x2048.Idx) : EReal :=
  upTo y z w ((j 0 : ℕ)) (j 1 : ℕ) 8192

theorem result (j : S3072x2048.Idx) : (dats m 0 c).arrAt 4 cfg0.N j = grad (argR m c) (argA m c) (argW m c) j := by
  refine (dats m 0 c).arrAt_forall_of_covers 4 (fun i v => v = grad (argR m c) (argA m c) (argW m c) i) (by decide +kernel) (fun t hf y => ?_) j
  have h := after m c t.val t.isLt (y 0) (y 1)
  have h3 := (flush0_4 t).mp hf
  unfold grad
  blk_simp [index4]
  rw [after0_4]
  refine (congrArg (outsAt0 m c t.val t.isLt) (eq_ix2 y)).trans (h.trans ?_)
  rw [h3]
  congr 1 <;> omega

end Cert.HFirst
-- ==== Proof.HFirstRef.lean ====
/-
  The gradient of the layer's input, first 3072 tokens: what the reference computes, entry by entry.
-/
module

public import proofs.«01_k».proof.Proof.HFirst
public import proofs.«01_k».proof.Proof.Gen.ReferenceHFirstIdeal.Read

@[expose] public section

set_option maxRecDepth 16384

noncomputable section

namespace Cert.HFirst

open Idealize.ShloMosaic Idealize.ShloMosaic.TcCoe Cert.ReferenceHFirstIdeal Cert.ReferenceHFirstIdeal.Read Cert.HGrad

variable (y z : FVec Ideal S4x8192x1024 .bf16) (w : FVec Ideal S4x2048x2048 .bf16)

set_option maxHeartbeats 1000000 in
/-- The gradients of the projections side by side: column `1024 p + d` is column `d` of panel `p`. -/
theorem side (t : Fin 8192) (p : Fin 8) (d : Fin 1024) :
    val_main_v29 (F := Ideal) y z (ix2 t ⟨1024 * p.val + d.val, by omega⟩) = panel y z t.val p.val d.val := by
  unfold panel
  rw [dif_pos ⟨t.isLt, d.isLt⟩]
  fin_cases p
  all_goals
    simp only [Nat.reduceMul, Nat.reduceSub, Nat.reduceLT, Nat.reduceAdd, dite_true, dite_false]
    pointwise [val_main_v29, val_main_v28, val_main_v12, val_main_v13, val_main_v14, val_main_v15, val_main_v16, val_main_v17, val_main_v18, val_main_v19,
      val_main_v20, val_main_v21, val_main_v22, val_main_v23, val_main_v24, val_main_v25, val_main_v26, val_main_v27]
  all_goals
    simp (disch := omega) only [dif_pos, dif_neg]
  all_goals
    first
      | done
      | exact congrArg y (congrArg (ix3 _ t) (Fin.ext (by dsimp only; omega)))
      | exact congrArg z (congrArg (ix3 _ t) (Fin.ext (by dsimp only; omega)))

set_option maxHeartbeats 1000000 in
/-- The four quarters of the weights side by side: column `2048 q + e` is column `e` of quarter `q`. -/
theorem wide (i : Fin 2048) (q : Fin 4) (e : Fin 2048) :
    val_main_v9 (F := Ideal) w (ix2 i ⟨2048 * q.val + e.val, by omega⟩) = weight w i.val q.val e.val := by
  unfold weight
  rw [dif_pos ⟨q.isLt, i.isLt, e.isLt⟩]
  fin_cases q
  all_goals
    pointwise [val_main_v9, val_main_v8, val_main_v0, val_main_v1, val_main_v2, val_main_v3, val_main_v4, val_main_v5, val_main_v6, val_main_v7]
  all_goals
    simp (disch := omega) only [dif_pos, dif_neg]
  all_goals
    first
      | done
      | exact congrArg w (congrArg (ix3 _ i) (Fin.ext (by dsimp only; omega)))

theorem prod (t : Fin 8192) (i : Fin 2048) :
    val_main_v30 (F := Ideal) y z w (ix2 t i) = ∑ k : Fin 8192, val_main_v29 (F := Ideal) y z (ix2 t k) * val_main_v9 (F := Ideal) w (ix2 i k) := by
  pointwise [val_main_v30]

theorem tokens (r : Fin 3072) (i : Fin 2048) :
    val_main_v31 (F := Ideal) y z w (ix2 r i) = val_main_v30 (F := Ideal) y z w (ix2 ⟨r.val, by omega⟩ i) := by
  pointwise [val_main_v31]

theorem value (j : S3072x2048.Idx) : val_main_v31 (F := Ideal) y z w j = grad y z w j := by
  have h0 : (j 0 : ℕ) < 3072 := (j 0).isLt
  have h1 : (j 1 : ℕ) < 2048 := (j 1).isLt
  refine (congrArg _ (eq_ix2 j)).trans ((tokens y z w (j 0) (j 1)).trans ((prod y z w _ _).trans ?_))
  unfold grad upTo
  refine Eq.trans ?_ (Finset.sum_range (n := 8192) _).symm
  refine Finset.sum_congr rfl fun k _ => ?_
  have hk := k.isLt
  unfold term
  have e : k = ⟨1024 * (⟨k.val / 1024, by omega⟩ : Fin 8).val + (⟨k.val % 1024, Nat.mod_lt _ (by decide)⟩ : Fin 1024).val, by dsimp only; omega⟩ :=
    Fin.ext (by dsimp only; omega)
  have e' : k = ⟨2048 * (⟨k.val / 2048, by omega⟩ : Fin 4).val + (⟨k.val % 2048, Nat.mod_lt _ (by decide)⟩ : Fin 2048).val, by dsimp only; omega⟩ :=
    Fin.ext (by dsimp only; omega)
  congr 1
  · exact (congrArg (fun q => val_main_v29 (F := Ideal) y z (ix2 ⟨(j 0 : ℕ), by omega⟩ q)) e).trans (side y z ⟨(j 0 : ℕ), by omega⟩ ⟨k.val / 1024, by omega⟩ _)
  · exact (congrArg (fun q => val_main_v9 (F := Ideal) w (ix2 (j 1) q)) e').trans (wide w (j 1) ⟨k.val / 2048, by omega⟩ _)

end Cert.HFirst
-- ==== Proof.HFirstEq.lean ====
/-
  The gradient of the layer's input at the first 3072 tokens: the two programs end with equal results.
-/
module

public import proofs.«01_k».proof.Proof.HFirstRef
public import proofs.«01_k».proof.Defs
public import proofs.«01_k».proof.Proof.Gen.ReferenceHFirstIdeal.Run

@[expose] public section

set_option maxRecDepth 16384

noncomputable section

namespace Cert.HFirst

open Idealize.ShloMosaic Idealize.ShloMosaic.TcCoe Idealize.SL.Sem

instance : Cert.KernelHFirstIdeal.Facts := Cert.KernelHFirstIdeal.Gen.facts
instance : Cert.ReferenceHFirstIdeal.Facts := Cert.ReferenceHFirstIdeal.Gen.facts

/-- The reference keeps its arguments. -/
theorem frame_ri : Cert.quiescent_ReferenceHFirstIdeal := by
  intro m ρ _
  exact (θ_run Cert.ReferenceHFirstIdeal.defs _ _).mono (fun r h => ⟨fun c => (h c).2,
      Idealize.ShloMosaic.sem_eq_zero_of_no_sems (by decide) r.2⟩)
    (Cert.ReferenceHFirstIdeal.Value.run (F := Ideal) m ρ)

/-- The result, as the reference's function of the kernel's arguments. -/
def out (m : (ℓ : Loc Cert.KernelHFirstIdeal.nD Cert.KernelHFirstIdeal.τ Cert.KernelHFirstIdeal.sig) → Buf (Elt Ideal) ℓ) (c : Dev Cert.KernelHFirstIdeal.nD) :
    FVec Ideal Cert.KernelHFirstIdeal.S3072x2048 .f32 :=
  Cert.ReferenceHFirstIdeal.Read.val_main_v31 (F := Ideal) (argR m c) (argA m c) (argW m c)

theorem stored (m : (ℓ : Loc Cert.KernelHFirstIdeal.nD Cert.KernelHFirstIdeal.τ Cert.KernelHFirstIdeal.sig) → Buf (Elt Ideal) ℓ) (c : Dev Cert.KernelHFirstIdeal.nD) :
    (Cert.KernelHFirstIdeal.Gen.dats m 0 c).arrAt 4 Cert.KernelHFirstIdeal.cfg0.N = out m c :=
  funext fun i => (result m c i).trans (value _ _ _ i).symm

theorem algebraic : Cert.algebraic_KernelHFirstIdeal_ReferenceHFirstIdeal := by
  intro m g m' g' _ hag
  refine ⟨out m, ?_, ?_⟩
  · refine (θ_run Cert.KernelHFirstIdeal.defs _ _).mono (fun r h c => ?_) (Cert.KernelHFirstIdeal.Value.run_blocks m g)
    obtain ⟨h0, hargs⟩ := h c
    exact ⟨h0.trans (stored m c), hargs⟩
  · refine (θ_run Cert.ReferenceHFirstIdeal.defs _ _).mono (fun r h c => ?_) (Cert.ReferenceHFirstIdeal.Value.run (F := Ideal) m' g')
    obtain ⟨h0, hargs⟩ := h c
    obtain ⟨a0, a1, a2, _⟩ := hag c
    refine ⟨(h0.trans (Cert.ReferenceHFirstIdeal.Read.val_main_v31_eq _ _ _)).trans ?_, hargs⟩
    exact congr (congr (congrArg Cert.ReferenceHFirstIdeal.Read.val_main_v31 a0) a1) a2

end Cert.HFirst
-- ==== Proof.HLast.lean ====
/-
  The gradient of the layer's input, last 5120 tokens: what the kernel's result array holds. Grid point `4 r + b` adds to block
  `r` of 1024 tokens the product over quarter `b` of the columns; the sums over the four quarters join into one.
-/
module

public import proofs.«01_k».proof.Proof.HParts
public import proofs.«01_k».proof.Proof.Gen.KernelHLastIdeal.Value
public import Idealize.ShloMosaic.Lib.Pipeline.ValueKit

@[expose] public section

set_option maxRecDepth 16384

noncomputable section

namespace Cert.HLast

open Idealize.ShloMosaic Idealize.ShloMosaic.TcCoe Cert.KernelHLastIdeal Cert.KernelHLastIdeal.Gen Cert.HGrad

theorem zero_apply (j : S1024x2048.Idx) : k0_pay1 (F := Ideal) j = 0 := by pointwise [k0_pay1]

theorem step_apply (a : FVec Ideal S1024x2048 .f32) (x0 x1 : FVec Ideal S1x1024x1024 .bf16) (w0 w1 : FVec Ideal S1x2048x1024 .bf16) (r : Fin 1024) (i : Fin 2048) :
    k0_pay2 a x0 w0 x1 w1 (ix2 r i)
      = a (ix2 r i) + (∑ k : Fin 1024, x0 (ix3 0 r k) * w0 (ix3 0 i k) + ∑ k : Fin 1024, x1 (ix3 0 r k) * w1 (ix3 0 i k)) := by
  pointwise [k0_pay2]

theorem step_apply' (a : FVec Ideal S1024x2048 .f32) (x0 x1 : FVec Ideal S1x1024x1024 .bf16) (w0 w1 : FVec Ideal S1x2048x1024 .bf16) (r : Fin 1024) (i : Fin 2048) :
    k0_pay3 a x0 w0 x1 w1 (ix2 r i)
      = a (ix2 r i) + (∑ k : Fin 1024, x0 (ix3 0 r k) * w0 (ix3 0 i k) + ∑ k : Fin 1024, x1 (ix3 0 r k) * w1 (ix3 0 i k)) := by
  pointwise [k0_pay3]

/-- The parts of the blocks a point loads: one panel of the two, and half of the quarter's columns. -/
def panel0 (x : FVec Ideal S2x1024x1024 .bf16) : FVec Ideal S1x1024x1024 .bf16 :=
  View.ld (Val := Elt Ideal) (e' := .bf16) x (Rect.unit (s := S2x1024x1024) ![0, 0, 0] S1x1024x1024.size inb_S2x1024x1024_S1x1024x1024_0_0_0)
def panel1 (x : FVec Ideal S2x1024x1024 .bf16) : FVec Ideal S1x1024x1024 .bf16 :=
  View.ld (Val := Elt Ideal) (e' := .bf16) x (Rect.unit (s := S2x1024x1024) ![1, 0, 0] S1x1024x1024.size inb_S2x1024x1024_S1x1024x1024_1_0_0)
def half0 (x : FVec Ideal S1x2048x2048 .bf16) : FVec Ideal S1x2048x1024 .bf16 :=
  View.ld (Val := Elt Ideal) (e' := .bf16) x (Rect.unit (s := S1x2048x2048) ![0, 0, 0] S1x2048x1024.size inb_S1x2048x2048_S1x2048x1024_0_0_0)
def half1 (x : FVec Ideal S1x2048x2048 .bf16) : FVec Ideal S1x2048x1024 .bf16 :=
  View.ld (Val := Elt Ideal) (e' := .bf16) x (Rect.unit (s := S1x2048x2048) ![0, 0, 1024] S1x2048x1024.size inb_S1x2048x2048_S1x2048x1024_0_0_1024)

theorem panel0_apply (x : FVec Ideal S2x1024x1024 .bf16) (r k : Fin 1024) : panel0 x (ix3 0 r k) = x (ix3 0 r k) := by pointwise [panel0]
theorem panel1_apply (x : FVec Ideal S2x1024x1024 .bf16) (r k : Fin 1024) : panel1 x (ix3 0 r k) = x (ix3 1 r k) := by pointwise [panel1]
theorem half0_apply (x : FVec Ideal S1x2048x2048 .bf16) (i : Fin 2048) (k : Fin 1024) : half0 x (ix3 0 i k) = x (ix3 0 i ⟨k.val, by omega⟩) := by
  pointwise [half0]
theorem half1_apply (x : FVec Ideal S1x2048x2048 .bf16) (i : Fin 2048) (k : Fin 1024) : half1 x (ix3 0 i k) = x (ix3 0 i ⟨1024 + k.val, by omega⟩) := by
  pointwise [half1]

variable (m : (ℓ : Loc nD τ sig) → Buf (Elt Ideal) ℓ) (c : Dev nD)

theorem outs_A (t : Fin cfg0.N) (h0 : t.val % 4 = 0) (h1 : t.val % 4 ≤ 1) (h2 : ¬2 ≤ t.val % 4) :
    outsAt0 m c t.val t.isLt = k0_pay2 (F := Ideal) (k0_pay1 (F := Ideal)) (panel0 (iblk m c 0 t)) (half0 (iblk m c 2 t)) (panel1 (iblk m c 0 t)) (half1 (iblk m c 2 t)) := by
  rw [outsAt0_A m c t h0 h1 h2]
  frame_out
  rfl
theorem outs_B (t : Fin cfg0.N) (h0 : ¬t.val % 4 = 0) (h1 : t.val % 4 ≤ 1) (h2 : ¬2 ≤ t.val % 4) :
    outsAt0 m c t.val t.isLt = k0_pay2 (outsAt0 m c (t.val - 1) (Nat.lt_of_le_of_lt (Nat.sub_le _ _) t.isLt))
      (panel0 (iblk m c 0 t)) (half0 (iblk m c 2 t)) (panel1 (iblk m c 0 t)) (half1 (iblk m c 2 t)) := by
  rw [outsAt0_B m c t h0 h1 h2]
  frame_out
  rfl
theorem outs_C (t : Fin cfg0.N) (h0 : ¬t.val % 4 = 0) (h1 : ¬t.val % 4 ≤ 1) (h2 : 2 ≤ t.val % 4) :
    outsAt0 m c t.val t.isLt = k0_pay3 (outsAt0 m c (t.val - 1) (Nat.lt_of_le_of_lt (Nat.sub_le _ _) t.isLt))
      (panel0 (iblk m c 1 t)) (half0 (iblk m c 2 t)) (panel1 (iblk m c 1 t)) (half1 (iblk m c 2 t)) := by
  rw [outsAt0_C m c t h0 h1 h2]
  frame_out
  rfl

theorem index0 : ∀ t : Fin cfg0.N, t.val % 4 ≤ 1 → win0_0.index t = ![t.val % 4, 3 + t.val / 4, 0] := (by decide +kernel : ∀ t : Fin grid0.N, _)
theorem index1 : ∀ t : Fin cfg0.N, 2 ≤ t.val % 4 → win0_1.index t = ![t.val % 4 - 2, 3 + t.val / 4, 0] := (by decide +kernel : ∀ t : Fin grid0.N, _)
theorem index2 : ∀ t : Fin cfg0.N, win0_2.index t = ![t.val % 4, 0, 0] := (by decide +kernel : ∀ t : Fin grid0.N, _)
theorem index4 : ∀ t : Fin cfg0.N, win0_4.index t = ![t.val / 4, 0] := (by decide +kernel : ∀ t : Fin grid0.N, _)

theorem lt_N (t : Fin cfg0.N) : t.val < 20 := lt_of_lt_of_eq t.isLt N_0

/-- The three arguments the products take. -/
abbrev argR : FVec Ideal S4x8192x1024 .bf16 := m ((c : Thread nD τ).loc main_arg0)
abbrev argA : FVec Ideal S4x8192x1024 .bf16 := m ((c : Thread nD τ).loc main_arg1)
abbrev argW : FVec Ideal S4x2048x2048 .bf16 := m ((c : Thread nD τ).loc main_arg2)

theorem block0 (t : Fin cfg0.N) (h : t.val % 4 ≤ 1) (s : Fin 2) (r k : Fin 1024) :
    iblk m c 0 t (ix3 s r k) = panel (argR m c) (argA m c) (1024 * (3 + t.val / 4) + r.val) (2 * (t.val % 4) + s.val) k.val := by
  have := lt_N t
  unfold panel
  rw [dif_pos ⟨by omega, k.isLt⟩, dif_pos (by omega)]
  blk_ext [iblk, index0 t h]

theorem block1 (t : Fin cfg0.N) (h : 2 ≤ t.val % 4) (s : Fin 2) (r k : Fin 1024) :
    iblk m c 1 t (ix3 s r k) = panel (argR m c) (argA m c) (1024 * (3 + t.val / 4) + r.val) (2 * (t.val % 4) + s.val) k.val := by
  have := lt_N t
  unfold panel
  rw [dif_pos ⟨by omega, k.isLt⟩, dif_neg (by omega), dif_pos (by omega)]
  blk_ext [iblk, index1 t h]

theorem block2 (t : Fin cfg0.N) (i e : Fin 2048) : iblk m c 2 t (ix3 0 i e) = weight (argW m c) i.val (t.val % 4) e.val := by
  unfold weight
  rw [dif_pos ⟨by omega, i.isLt, e.isLt⟩]
  blk_ext [iblk, index2]

/-- What a point adds, from its blocks. -/
theorem adds0 (t : Fin cfg0.N) (h : t.val % 4 ≤ 1) (r : Fin 1024) (i : Fin 2048) :
    (∑ k : Fin 1024, panel0 (iblk m c 0 t) (ix3 0 r k) * half0 (iblk m c 2 t) (ix3 0 i k) + ∑ k : Fin 1024, panel1 (iblk m c 0 t) (ix3 0 r k) * half1 (iblk m c 2 t) (ix3 0 i k) : EReal)
      = ∑ k : Fin 1024, panel (argR m c) (argA m c) (1024 * (3 + t.val / 4) + r.val) (2 * (t.val % 4)) k.val * weight (argW m c) i.val (t.val % 4) k.val
        + ∑ k : Fin 1024, panel (argR m c) (argA m c) (1024 * (3 + t.val / 4) + r.val) (2 * (t.val % 4) + 1) k.val * weight (argW m c) i.val (t.val % 4) (1024 + k.val) := by
  congr 1
  · refine Finset.sum_congr rfl fun k _ => ?_
    rw [panel0_apply, half0_apply, block0 m c t h, block2]
    rfl
  · refine Finset.sum_congr rfl fun k _ => ?_
    rw [panel1_apply, half1_apply, block0 m c t h, block2]
    rfl

theorem adds1 (t : Fin cfg0.N) (h : 2 ≤ t.val % 4) (r : Fin 1024) (i : Fin 2048) :
    (∑ k : Fin 1024, panel0 (iblk m c 1 t) (ix3 0 r k) * half0 (iblk m c 2 t) (ix3 0 i k) + ∑ k : Fin 1024, panel1 (iblk m c 1 t) (ix3 0 r k) * half1 (iblk m c 2 t) (ix3 0 i k) : EReal)
      = ∑ k : Fin 1024, panel (argR m c) (argA m c) (1024 * (3 + t.val / 4) + r.val) (2 * (t.val % 4)) k.val * weight (argW m c) i.val (t.val % 4) k.val
        + ∑ k : Fin 1024, panel (argR m c) (argA m c) (1024 * (3 + t.val / 4) + r.val) (2 * (t.val % 4) + 1) k.val * weight (argW m c) i.val (t.val % 4) (1024 + k.val) := by
  congr 1
  · refine Finset.sum_congr rfl fun k _ => ?_
    rw [panel0_apply, half0_apply, block1 m c t h, block2]
    rfl
  · refine Finset.sum_congr rfl fun k _ => ?_
    rw [panel1_apply, half1_apply, block1 m c t h, block2]
    rfl

/-- After point `n` the block's buffer holds the sum over the columns of the quarters so far. -/
theorem after (n : ℕ) : ∀ (hn : n < cfg0.N) (r : Fin 1024) (i : Fin 2048),
    outsAt0 m c n hn (ix2 r i) = upTo (argR m c) (argA m c) (argW m c) (1024 * (3 + n / 4) + r.val) i.val (2048 * (n % 4 + 1)) := by
  induction n using Nat.strong_induction_on with
  | _ n ih =>
    intro hn r i
    by_cases h0 : n % 4 = 0
    · have e := outs_A m c ⟨n, hn⟩ h0 (by show n % 4 ≤ 1; omega) (by show ¬2 ≤ n % 4; omega)
      dsimp only at e
      rw [← upTo_quarter, h0, upTo_zero, e, step_apply, zero_apply]
      refine congrArg (fun s : EReal => 0 + s) ((adds0 m c ⟨n, hn⟩ (by show n % 4 ≤ 1; omega) r i).trans ?_)
      dsimp only
      rw [h0]
    · have ep := ih (n - 1) (by omega) (by omega) r i
      rw [show (n - 1) / 4 = n / 4 by omega, show (n - 1) % 4 + 1 = n % 4 by omega] at ep
      rw [← upTo_quarter]
      by_cases h1 : n % 4 ≤ 1
      · have e := outs_B m c ⟨n, hn⟩ h0 h1 (by show ¬2 ≤ n % 4; omega)
        dsimp only at e
        rw [e, step_apply, ep]
        exact congrArg (fun s : EReal => _ + s) (adds0 m c ⟨n, hn⟩ h1 r i)
      · have h2 : 2 ≤ n % 4 := by omega
        have e := outs_C m c ⟨n, hn⟩ h0 h1 h2
        dsimp only at e
        rw [e, step_apply', ep]
        exact congrArg (fun s : EReal => _ + s) (adds1 m c ⟨n, hn⟩ h2 r i)

/-- The gradient of the layer's input at the last 5120 tokens: entry `(t, i)` sums over the columns of the projections. -/
def grad (y z : FVec Ideal S4x8192x1024 .bf16) (w : FVec Ideal S4x2048x2048 .bf16) (j : S5120x2048.Idx) : EReal :=
  upTo y z w (3072 + (j 0 : ℕ)) (j 1 : ℕ) 8192

theorem result (j : S5120x2048.Idx) : (dats m 0 c).arrAt 4 cfg0.N j = grad (argR m c) (argA m c) (argW m c) j := by
  refine (dats m 0 c).arrAt_forall_of_covers 4 (fun i v => v = grad (argR m c) (argA m c) (argW m c) i) (by decide +kernel) (fun t hf y => ?_) j
  have h := after m c t.val t.isLt (y 0) (y 1)
  have h3 := (flush0_4 t).mp hf
  unfold grad
  blk_simp [index4]
  rw [after0_4]
  refine (congrArg (outsAt0 m c t.val t.isLt) (eq_ix2 y)).trans (h.trans ?_)
  rw [h3]
  congr 1 <;> omega

end Cert.HLast
-- ==== Proof.HLastRef.lean ====
/-
  The gradient of the layer's input, last 5120 tokens: what the reference computes, entry by entry.
-/
module

public import proofs.«01_k».proof.Proof.HLast
public import proofs.«01_k».proof.Proof.Gen.ReferenceHLastIdeal.Read

@[expose] public section

set_option maxRecDepth 16384

noncomputable section

namespace Cert.HLast

open Idealize.ShloMosaic Idealize.ShloMosaic.TcCoe Cert.ReferenceHLastIdeal Cert.ReferenceHLastIdeal.Read Cert.HGrad

variable (y z : FVec Ideal S4x8192x1024 .bf16) (w : FVec Ideal S4x2048x2048 .bf16)

set_option maxHeartbeats 1000000 in
/-- The gradients of the projections side by side: column `1024 p + d` is column `d` of panel `p`. -/
theorem side (t : Fin 8192) (p : Fin 8) (d : Fin 1024) :
    val_main_v29 (F := Ideal) y z (ix2 t ⟨1024 * p.val + d.val, by omega⟩) = panel y z t.val p.val d.val := by
  unfold panel
  rw [dif_pos ⟨t.isLt, d.isLt⟩]
  fin_cases p
  all_goals
    simp only [Nat.reduceMul, Nat.reduceSub, Nat.reduceLT, Nat.reduceAdd, dite_true, dite_false]
    pointwise [val_main_v29, val_main_v28, val_main_v12, val_main_v13, val_main_v14, val_main_v15, val_main_v16, val_main_v17, val_main_v18, val_main_v19,
      val_main_v20, val_main_v21, val_main_v22, val_main_v23, val_main_v24, val_main_v25, val_main_v26, val_main_v27]
  all_goals
    simp (disch := omega) only [dif_pos, dif_neg]
  all_goals
    first
      | done
      | exact congrArg y (congrArg (ix3 _ t) (Fin.ext (by dsimp only; omega)))
      | exact congrArg z (congrArg (ix3 _ t) (Fin.ext (by dsimp only; omega)))

set_option maxHeartbeats 1000000 in
/-- The four quarters of the weights side by side: column `2048 q + e` is column `e` of quarter `q`. -/
theorem wide (i : Fin 2048) (q : Fin 4) (e : Fin 2048) :
    val_main_v9 (F := Ideal) w (ix2 i ⟨2048 * q.val + e.val, by omega⟩) = weight w i.val q.val e.val := by
  unfold weight
  rw [dif_pos ⟨q.isLt, i.isLt, e.isLt⟩]
  fin_cases q
  all_goals
    pointwise [val_main_v9, val_main_v8, val_main_v0, val_main_v1, val_main_v2, val_main_v3, val_main_v4, val_main_v5, val_main_v6, val_main_v7]
  all_goals
    simp (disch := omega) only [dif_pos, dif_neg]
  all_goals
    first
      | done
      | exact congrArg w (congrArg (ix3 _ i) (Fin.ext (by dsimp only; omega)))

theorem prod (t : Fin 8192) (i : Fin 2048) :
    val_main_v30 (F := Ideal) y z w (ix2 t i) = ∑ k : Fin 8192, val_main_v29 (F := Ideal) y z (ix2 t k) * val_main_v9 (F := Ideal) w (ix2 i k) := by
  pointwise [val_main_v30]

theorem tokens (r : Fin 5120) (i : Fin 2048) :
    val_main_v31 (F := Ideal) y z w (ix2 r i) = val_main_v30 (F := Ideal) y z w (ix2 ⟨3072 + r.val, by omega⟩ i) := by
  pointwise [val_main_v31]

theorem value (j : S5120x2048.Idx) : val_main_v31 (F := Ideal) y z w j = grad y z w j := by
  have h0 : (j 0 : ℕ) < 5120 := (j 0).isLt
  have h1 : (j 1 : ℕ) < 2048 := (j 1).isLt
  refine (congrArg _ (eq_ix2 j)).trans ((tokens y z w (j 0) (j 1)).trans ((prod y z w _ _).trans ?_))
  unfold grad upTo
  refine Eq.trans ?_ (Finset.sum_range (n := 8192) _).symm
  refine Finset.sum_congr rfl fun k _ => ?_
  have hk := k.isLt
  unfold term
  have e : k = ⟨1024 * (⟨k.val / 1024, by omega⟩ : Fin 8).val + (⟨k.val % 1024, Nat.mod_lt _ (by decide)⟩ : Fin 1024).val, by dsimp only; omega⟩ :=
    Fin.ext (by dsimp only; omega)
  have e' : k = ⟨2048 * (⟨k.val / 2048, by omega⟩ : Fin 4).val + (⟨k.val % 2048, Nat.mod_lt _ (by decide)⟩ : Fin 2048).val, by dsimp only; omega⟩ :=
    Fin.ext (by dsimp only; omega)
  congr 1
  · exact (congrArg (fun q => val_main_v29 (F := Ideal) y z (ix2 ⟨3072 + (j 0 : ℕ), by omega⟩ q)) e).trans (side y z ⟨3072 + (j 0 : ℕ), by omega⟩ ⟨k.val / 1024, by omega⟩ _)
  · exact (congrArg (fun q => val_main_v9 (F := Ideal) w (ix2 (j 1) q)) e').trans (wide w (j 1) ⟨k.val / 2048, by omega⟩ _)

end Cert.HLast
-- ==== Proof.HLastEq.lean ====
/-
  The gradient of the layer's input at the last 5120 tokens: the two programs end with equal results.
-/
module

public import proofs.«01_k».proof.Proof.HLastRef
public import proofs.«01_k».proof.Defs
public import proofs.«01_k».proof.Proof.Gen.ReferenceHLastIdeal.Run

@[expose] public section

set_option maxRecDepth 16384

noncomputable section

namespace Cert.HLast

open Idealize.ShloMosaic Idealize.ShloMosaic.TcCoe Idealize.SL.Sem

instance : Cert.KernelHLastIdeal.Facts := Cert.KernelHLastIdeal.Gen.facts
instance : Cert.ReferenceHLastIdeal.Facts := Cert.ReferenceHLastIdeal.Gen.facts

/-- The reference keeps its arguments. -/
theorem frame_ri : Cert.quiescent_ReferenceHLastIdeal := by
  intro m ρ _
  exact (θ_run Cert.ReferenceHLastIdeal.defs _ _).mono (fun r h => ⟨fun c => (h c).2,
      Idealize.ShloMosaic.sem_eq_zero_of_no_sems (by decide) r.2⟩)
    (Cert.ReferenceHLastIdeal.Value.run (F := Ideal) m ρ)

/-- The result, as the reference's function of the kernel's arguments. -/
def out (m : (ℓ : Loc Cert.KernelHLastIdeal.nD Cert.KernelHLastIdeal.τ Cert.KernelHLastIdeal.sig) → Buf (Elt Ideal) ℓ) (c : Dev Cert.KernelHLastIdeal.nD) :
    FVec Ideal Cert.KernelHLastIdeal.S5120x2048 .f32 :=
  Cert.ReferenceHLastIdeal.Read.val_main_v31 (F := Ideal) (argR m c) (argA m c) (argW m c)

theorem stored (m : (ℓ : Loc Cert.KernelHLastIdeal.nD Cert.KernelHLastIdeal.τ Cert.KernelHLastIdeal.sig) → Buf (Elt Ideal) ℓ) (c : Dev Cert.KernelHLastIdeal.nD) :
    (Cert.KernelHLastIdeal.Gen.dats m 0 c).arrAt 4 Cert.KernelHLastIdeal.cfg0.N = out m c :=
  funext fun i => (result m c i).trans (value _ _ _ i).symm

theorem algebraic : Cert.algebraic_KernelHLastIdeal_ReferenceHLastIdeal := by
  intro m g m' g' _ hag
  refine ⟨out m, ?_, ?_⟩
  · refine (θ_run Cert.KernelHLastIdeal.defs _ _).mono (fun r h c => ?_) (Cert.KernelHLastIdeal.Value.run_blocks m g)
    obtain ⟨h0, hargs⟩ := h c
    exact ⟨h0.trans (stored m c), hargs⟩
  · refine (θ_run Cert.ReferenceHLastIdeal.defs _ _).mono (fun r h c => ?_) (Cert.ReferenceHLastIdeal.Value.run (F := Ideal) m' g')
    obtain ⟨h0, hargs⟩ := h c
    obtain ⟨a0, a1, a2, _⟩ := hag c
    refine ⟨(h0.trans (Cert.ReferenceHLastIdeal.Read.val_main_v31_eq _ _ _)).trans ?_, hargs⟩
    exact congr (congr (congrArg Cert.ReferenceHLastIdeal.Read.val_main_v31 a0) a1) a2

end Cert.HLast
-- ==== Proof.WOut.lean ====
/-
  The gradient of the output weights: what the kernel's result array holds. Grid point `4 q + b` adds to quarter `q` of the
  rows the product of block `b` of 2048 tokens; the sums over the four blocks join into one sum over the tokens.
-/
module

public import proofs.«01_k».proof.Proof.Gen.KernelWOutIdeal.Value
public import Idealize.ShloMosaic.Lib.Pointwise
public import Idealize.ShloMosaic.Lib.Pipeline.ValueKit

@[expose] public section

set_option maxRecDepth 16384

noncomputable section

namespace Cert.WOut

open Idealize.ShloMosaic Idealize.ShloMosaic.TcCoe Cert.KernelWOutIdeal Cert.KernelWOutIdeal.Gen
open Finset (range)

theorem zero_apply (j : S1x512x2048.Idx) : k0_pay1 (F := Ideal) j = 0 := by pointwise [k0_pay1]

theorem step_apply (a : FVec Ideal S1x512x2048 .f32) (y : FVec Ideal S2048x512 .bf16) (x : FVec Ideal S2048x2048 .bf16) (i : Fin 512) (d : Fin 2048) :
    k0_pay2 a y x (ix3 0 i d) = a (ix3 0 i d) + ∑ r : Fin 2048, y (ix2 r i) * x (ix2 r d) := by
  pointwise [k0_pay2]

theorem step_apply' (a : FVec Ideal S1x512x2048 .f32) (y : FVec Ideal S2048x512 .bf16) (x : FVec Ideal S2048x2048 .bf16) (i : Fin 512) (d : Fin 2048) :
    k0_pay3 a y x (ix3 0 i d) = a (ix3 0 i d) + ∑ r : Fin 2048, y (ix2 r i) * x (ix2 r d) := by
  pointwise [k0_pay3]

variable (m : (ℓ : Loc nD τ sig) → Buf (Elt Ideal) ℓ) (c : Dev nD)

theorem outs_A (t : Fin cfg0.N) (h0 : t.val % 4 = 0) (h1 : t.val < 8) (h2 : ¬8 ≤ t.val) :
    outsAt0 m c t.val t.isLt = k0_pay2 (k0_pay1 (F := Ideal)) (iblk m c 0 t) (iblk m c 2 t) := by
  rw [outsAt0_A m c t h0 h1 h2]
  frame_out
theorem outs_B (t : Fin cfg0.N) (h0 : ¬t.val % 4 = 0) (h1 : t.val < 8) (h2 : ¬8 ≤ t.val) :
    outsAt0 m c t.val t.isLt = k0_pay2 (outsAt0 m c (t.val - 1) (Nat.lt_of_le_of_lt (Nat.sub_le _ _) t.isLt)) (iblk m c 0 t) (iblk m c 2 t) := by
  rw [outsAt0_B m c t h0 h1 h2]
  frame_out
theorem outs_C (t : Fin cfg0.N) (h0 : t.val % 4 = 0) (h1 : ¬t.val < 8) (h2 : 8 ≤ t.val) :
    outsAt0 m c t.val t.isLt = k0_pay3 (k0_pay1 (F := Ideal)) (iblk m c 1 t) (iblk m c 2 t) := by
  rw [outsAt0_C m c t h0 h1 h2]
  frame_out
theorem outs_D (t : Fin cfg0.N) (h0 : ¬t.val % 4 = 0) (h1 : ¬t.val < 8) (h2 : 8 ≤ t.val) :
    outsAt0 m c t.val t.isLt = k0_pay3 (outsAt0 m c (t.val - 1) (Nat.lt_of_le_of_lt (Nat.sub_le _ _) t.isLt)) (iblk m c 1 t) (iblk m c 2 t) := by
  rw [outsAt0_D m c t h0 h1 h2]
  frame_out

theorem index0 : ∀ t : Fin cfg0.N, t.val < 8 → win0_0.index t = ![t.val % 4, t.val / 4] := (by decide +kernel : ∀ t : Fin grid0.N, _)
theorem index1 : ∀ t : Fin cfg0.N, 8 ≤ t.val → win0_1.index t = ![t.val % 4, t.val / 4 - 2] := (by decide +kernel : ∀ t : Fin grid0.N, _)
theorem index2 : ∀ t : Fin cfg0.N, win0_2.index t = ![t.val % 4, 0] := (by decide +kernel : ∀ t : Fin grid0.N, _)
theorem index3 : ∀ t : Fin cfg0.N, win0_3.index t = ![t.val / 4, 0, 0] := (by decide +kernel : ∀ t : Fin grid0.N, _)

theorem lt_16 (t : Fin cfg0.N) : t.val < 16 := lt_of_lt_of_eq t.isLt N_0

/-- The three arguments. -/
abbrev argR : FVec Ideal S8192x1024 .bf16 := m ((c : Thread nD τ).loc main_arg0)
abbrev argA : FVec Ideal S8192x1024 .bf16 := m ((c : Thread nD τ).loc main_arg1)
abbrev argD : FVec Ideal S8192x2048 .bf16 := m ((c : Thread nD τ).loc main_arg2)

/-- The output's gradient at token `n`. -/
def dAt (x : FVec Ideal S8192x2048 .bf16) (n : ℕ) (e : Fin 2048) : EReal := if h : n < 8192 then x (ix2 ⟨n, h⟩ e) else 0

/-- Column `p` of the two mixers' outputs, side by side, at token `n`. -/
def yAt (y z : FVec Ideal S8192x1024 .bf16) (p n : ℕ) : EReal :=
  if h : n < 8192 then
    if h1 : p < 1024 then y (ix2 ⟨n, h⟩ ⟨p, h1⟩) else if h2 : p - 1024 < 1024 then z (ix2 ⟨n, h⟩ ⟨p - 1024, h2⟩) else 0
  else 0

theorem block0 (t : Fin cfg0.N) (h : t.val < 8) (r : Fin 2048) (i : Fin 512) :
    iblk m c 0 t (ix2 r i) = yAt (argR m c) (argA m c) (512 * (t.val / 4) + i.val) (2048 * (t.val % 4) + r.val) := by
  unfold yAt
  rw [dif_pos (by omega), dif_pos (by omega)]
  blk_ext [iblk, index0 t h]

theorem block1 (t : Fin cfg0.N) (h : 8 ≤ t.val) (r : Fin 2048) (i : Fin 512) :
    iblk m c 1 t (ix2 r i) = yAt (argR m c) (argA m c) (512 * (t.val / 4) + i.val) (2048 * (t.val % 4) + r.val) := by
  have := lt_16 t
  unfold yAt
  rw [dif_pos (by omega), dif_neg (by omega), dif_pos (by omega)]
  blk_ext [iblk, index1 t h]

theorem block2 (t : Fin cfg0.N) (r e : Fin 2048) : iblk m c 2 t (ix2 r e) = dAt (argD m c) (2048 * (t.val % 4) + r.val) e := by
  unfold dAt
  rw [dif_pos (by omega)]
  blk_ext [iblk, index2]

/-- Row `p`'s entry summed over the first `n` tokens. -/
def upTo (y z : FVec Ideal S8192x1024 .bf16) (x : FVec Ideal S8192x2048 .bf16) (p : ℕ) (e : Fin 2048) (n : ℕ) : EReal :=
  ∑ k ∈ range n, yAt y z p k * dAt x k e

theorem upTo_block (y z : FVec Ideal S8192x1024 .bf16) (x : FVec Ideal S8192x2048 .bf16) (p : ℕ) (e : Fin 2048) (b : ℕ) :
    upTo y z x p e (2048 * b) + ∑ r : Fin 2048, yAt y z p (2048 * b + r.val) * dAt x (2048 * b + r.val) e = upTo y z x p e (2048 * (b + 1)) := by
  unfold upTo
  rw [Nat.mul_add, Nat.mul_one, Finset.sum_range_add]
  congr 1

theorem upTo_zero (y z : FVec Ideal S8192x1024 .bf16) (x : FVec Ideal S8192x2048 .bf16) (p : ℕ) (e : Fin 2048) :
    upTo y z x p e (2048 * 0) = 0 := Finset.sum_range_zero _

/-- After point `n` the quarter's buffer holds the sum over the tokens of the blocks so far. -/
theorem after (n : ℕ) : ∀ (hn : n < cfg0.N) (i : Fin 512) (d : Fin 2048),
    outsAt0 m c n hn (ix3 0 i d) = upTo (argR m c) (argA m c) (argD m c) (512 * (n / 4) + i.val) d (2048 * (n % 4 + 1)) := by
  induction n using Nat.strong_induction_on with
  | _ n ih =>
    intro hn i d
    by_cases h0 : n % 4 = 0
    · rw [← upTo_block, h0, upTo_zero]
      by_cases h1 : n < 8
      · have e := outs_A m c ⟨n, hn⟩ h0 h1 (by show ¬8 ≤ n; omega)
        dsimp only at e
        rw [e, step_apply, zero_apply]
        congr 1
        refine Finset.sum_congr rfl fun r _ => ?_
        rw [block0 _ _ _ h1, block2]
        dsimp only
        rw [h0]
      · have h2 : 8 ≤ n := by omega
        have e := outs_C m c ⟨n, hn⟩ h0 h1 h2
        dsimp only at e
        rw [e, step_apply', zero_apply]
        congr 1
        refine Finset.sum_congr rfl fun r _ => ?_
        rw [block1 _ _ _ h2, block2]
        dsimp only
        rw [h0]
    · have ep := ih (n - 1) (by omega) (by omega) i d
      rw [show (n - 1) / 4 = n / 4 by omega, show (n - 1) % 4 + 1 = n % 4 by omega] at ep
      rw [← upTo_block]
      by_cases h1 : n < 8
      · have e := outs_B m c ⟨n, hn⟩ h0 h1 (by show ¬8 ≤ n; omega)
        dsimp only at e
        rw [e, step_apply, ep]
        congr 1
        refine Finset.sum_congr rfl fun r _ => ?_
        rw [block0 _ _ _ h1, block2]
      · have h2 : 8 ≤ n := by omega
        have e := outs_D m c ⟨n, hn⟩ h0 h1 h2
        dsimp only at e
        rw [e, step_apply', ep]
        congr 1
        refine Finset.sum_congr rfl fun r _ => ?_
        rw [block1 _ _ _ h2, block2]

/-- The gradient of the output weights: entry `(q, i, e)` sums over the tokens the products of column `512 q + i` of the
    mixers' outputs with the output's gradient. -/
def grad (y z : FVec Ideal S8192x1024 .bf16) (x : FVec Ideal S8192x2048 .bf16) (j : S4x512x2048.Idx) : EReal :=
  upTo y z x (512 * (j 0 : ℕ) + (j 1 : ℕ)) ⟨(j 2 : ℕ) % 2048, Nat.mod_lt _ (by decide)⟩ 8192

theorem result (j : S4x512x2048.Idx) : (dats m 0 c).arrAt 3 cfg0.N j = grad (argR m c) (argA m c) (argD m c) j := by
  refine (dats m 0 c).arrAt_forall_of_covers 3 (fun i v => v = grad (argR m c) (argA m c) (argD m c) i) (by decide +kernel) (fun t hf y => ?_) j
  have h := after m c t.val t.isLt (y 1) (y 2)
  have h3 := (flush0_3 t).mp hf
  have hy : (y 2 : ℕ) < 2048 := (y 2).isLt
  have hy1 : (y 1 : ℕ) < 512 := (y 1).isLt
  have hy0 : (y 0 : ℕ) < 1 := (y 0).isLt
  unfold grad
  blk_simp [index3]
  rw [after0_3]
  have e : y = ix3 0 (y 1) (y 2) := by
    funext a
    fin_cases a
    · exact Fin.ext (by show (y 0 : ℕ) = 0; omega)
    · rfl
    · rfl
  refine (congrArg (outsAt0 m c t.val t.isLt) e).trans (h.trans ?_)
  rw [h3]
  congr 1 <;> first | omega | (apply Fin.ext; show (_ : ℕ) = _; first | omega | (dsimp only; omega))

end Cert.WOut
-- ==== Proof.WOutRef.lean ====
/-
  The gradient of the output weights: what the reference computes, entry by entry.
-/
module

public import proofs.«01_k».proof.Proof.WOut
public import proofs.«01_k».proof.Proof.Gen.ReferenceWOutIdeal.Read

@[expose] public section

set_option maxRecDepth 16384

noncomputable section

namespace Cert.WOut

open Idealize.ShloMosaic Idealize.ShloMosaic.TcCoe Cert.ReferenceWOutIdeal Cert.ReferenceWOutIdeal.Read

variable (y z : FVec Ideal S8192x1024 .bf16) (x : FVec Ideal S8192x2048 .bf16)

/-- The two mixers' outputs side by side. -/
theorem side (k : Fin 8192) (p : Fin 2048) : val_main_v1 (F := Ideal) y z (ix2 k p) = yAt y z p.val k.val := by
  unfold yAt
  rw [dif_pos k.isLt]
  pointwise [val_main_v1, val_main_v0]
  by_cases h : p.val < 1024
  · simp only [dif_pos h]
  · simp only [dif_neg h, dif_pos (show p.val - 1024 < 1024 by omega)]

theorem prod (e p : Fin 2048) :
    val_main_v5 (F := Ideal) y z x (ix2 e p) = ∑ k : Fin 8192, x (ix2 k e) * val_main_v1 (F := Ideal) y z (ix2 k p) := by
  pointwise [val_main_v5, val_main_v4]

theorem quarters (q : Fin 4) (i : Fin 512) (e : Fin 2048) :
    val_main_v7 (F := Ideal) y z x (ix3 q i e) = val_main_v5 (F := Ideal) y z x (ix2 e ⟨512 * q.val + i.val, by omega⟩) := by
  pointwise [val_main_v7, val_main_v6]
  exact congrArg (fun p => val_main_v5 (F := Ideal) y z x (ix2 e p)) (Fin.ext (by dsimp only; omega))

theorem value (j : S4x512x2048.Idx) : val_main_v7 (F := Ideal) y z x j = grad y z x j := by
  have h0 : (j 0 : ℕ) < 4 := (j 0).isLt
  have h1 : (j 1 : ℕ) < 512 := (j 1).isLt
  have h2 : (j 2 : ℕ) < 2048 := (j 2).isLt
  refine (congrArg _ (eq_ix3 j)).trans ((quarters y z x (j 0) (j 1) (j 2)).trans ((prod y z x _ _).trans ?_))
  unfold grad upTo
  refine Eq.trans ?_ (Finset.sum_range (n := 8192) _).symm
  refine Finset.sum_congr rfl fun k _ => ?_
  rw [mul_comm]
  congr 1
  · exact side y z k _
  · unfold dAt
    rw [dif_pos k.isLt]
    exact congrArg x (congrArg (ix2 k) (Fin.ext (Nat.mod_eq_of_lt h2).symm))

end Cert.WOut
-- ==== Proof.WOutEq.lean ====
/-
  The gradient of the output weights: the two programs end with equal results.
-/
module

public import proofs.«01_k».proof.Proof.WOutRef
public import proofs.«01_k».proof.Defs
public import proofs.«01_k».proof.Proof.Gen.ReferenceWOutIdeal.Run

@[expose] public section

set_option maxRecDepth 16384

noncomputable section

namespace Cert.WOut

open Idealize.ShloMosaic Idealize.ShloMosaic.TcCoe Idealize.SL.Sem

instance : Cert.KernelWOutIdeal.Facts := Cert.KernelWOutIdeal.Gen.facts
instance : Cert.ReferenceWOutIdeal.Facts := Cert.ReferenceWOutIdeal.Gen.facts

/-- The reference keeps its arguments. -/
theorem frame_ri : Cert.quiescent_ReferenceWOutIdeal := by
  intro m ρ _
  exact (θ_run Cert.ReferenceWOutIdeal.defs _ _).mono (fun r h => ⟨fun c => (h c).2,
      Idealize.ShloMosaic.sem_eq_zero_of_no_sems (by decide) r.2⟩)
    (Cert.ReferenceWOutIdeal.Value.run (F := Ideal) m ρ)

/-- The result, as the reference's function of the kernel's arguments. -/
def out (m : (ℓ : Loc Cert.KernelWOutIdeal.nD Cert.KernelWOutIdeal.τ Cert.KernelWOutIdeal.sig) → Buf (Elt Ideal) ℓ) (c : Dev Cert.KernelWOutIdeal.nD) :
    FVec Ideal Cert.KernelWOutIdeal.S4x512x2048 .f32 :=
  Cert.ReferenceWOutIdeal.Read.val_main_v7 (F := Ideal) (argR m c) (argA m c) (argD m c)

theorem stored (m : (ℓ : Loc Cert.KernelWOutIdeal.nD Cert.KernelWOutIdeal.τ Cert.KernelWOutIdeal.sig) → Buf (Elt Ideal) ℓ) (c : Dev Cert.KernelWOutIdeal.nD) :
    (Cert.KernelWOutIdeal.Gen.dats m 0 c).arrAt 3 Cert.KernelWOutIdeal.cfg0.N = out m c :=
  funext fun i => (result m c i).trans (value _ _ _ i).symm

theorem algebraic : Cert.algebraic_KernelWOutIdeal_ReferenceWOutIdeal := by
  intro m g m' g' _ hag
  refine ⟨out m, ?_, ?_⟩
  · refine (θ_run Cert.KernelWOutIdeal.defs _ _).mono (fun r h c => ?_) (Cert.KernelWOutIdeal.Value.run_blocks m g)
    obtain ⟨h0, hargs⟩ := h c
    exact ⟨h0.trans (stored m c), hargs⟩
  · refine (θ_run Cert.ReferenceWOutIdeal.defs _ _).mono (fun r h c => ?_) (Cert.ReferenceWOutIdeal.Value.run (F := Ideal) m' g')
    obtain ⟨h0, hargs⟩ := h c
    obtain ⟨a0, a1, a2⟩ := hag c
    refine ⟨(h0.trans (Cert.ReferenceWOutIdeal.Read.val_main_v7_eq _ _ _)).trans ?_, hargs⟩
    exact congr (congr (congrArg Cert.ReferenceWOutIdeal.Read.val_main_v7 a0) a1) a2

end Cert.WOut
-- ==== Proof.YStep.lean ====
/-
  The gradients behind the output projection: what one grid step stores. It multiplies a block of 512 tokens of the
  output's gradient with the two halves of the output weights; the attention's half is multiplied with the gate, column
  block by column block.
-/
module

public import proofs.«01_k».proof.Proof.Gen.KernelYIdeal.Value
public import Idealize.ShloMosaic.Lib.Pointwise
public import Idealize.ShloMosaic.Lib.Pipeline.ValueKit

@[expose] public section

set_option maxRecDepth 16384

noncomputable section

namespace Cert.YGrad

open Idealize.ShloMosaic Idealize.ShloMosaic.TcCoe Cert.KernelYIdeal Cert.KernelYIdeal.Gen

/-- A gate's number times its logistic. -/
def swish (z : EReal) : EReal := z * Ideal.logistic z

theorem rec_apply (d : FVec Ideal S512x2048 .bf16) (w : FVec Ideal S1024x2048 .bf16) (r : Fin 512) (i : Fin 1024) :
    (k0_pay7 (F := Ideal) d w (ix2 r i) : EReal) = ∑ k : Fin 2048, d (ix2 r k) * w (ix2 i k) := by
  pointwise [k0_pay7]

theorem att_apply (d : FVec Ideal S512x2048 .bf16) (w : FVec Ideal S1024x2048 .bf16) (r : Fin 512) (i : Fin 1024) :
    (k0_pay8 (F := Ideal) d w (ix2 r i) : EReal) = ∑ k : Fin 2048, d (ix2 r k) * w (ix2 i k) := by
  pointwise [k0_pay8]

variable (V : FVec Ideal S512x1024 .f32) (Z : FVec Ideal S1x1x512x128 .f32) (r : Fin 512) (l : Fin 128)

theorem piece0 : (k0_pay19 V Z) (ix3 0 r l) = V (ix2 r ⟨0 + l.val, by omega⟩) * swish (Z (ix4 0 0 r l)) := by
  pointwise [k0_pay19, k0_pay18, k0_pay16, k0_pay15, k0_pay14, swish]

theorem piece1 : (k0_pay29 V Z) (ix3 0 r l) = V (ix2 r ⟨128 + l.val, by omega⟩) * swish (Z (ix4 0 0 r l)) := by
  pointwise [k0_pay29, k0_pay28, k0_pay26, k0_pay24, k0_pay23, swish]

theorem piece2 : (k0_pay39 (k0_pay38 V Z)) (ix3 0 r l) = V (ix2 r ⟨256 + l.val, by omega⟩) * swish (Z (ix4 0 0 r l)) := by
  pointwise [k0_pay39, k0_pay38, k0_pay36, k0_pay34, k0_pay33, swish]

theorem piece3 : (k0_pay48 (k0_pay47 V Z)) (ix3 0 r l) = V (ix2 r ⟨384 + l.val, by omega⟩) * swish (Z (ix4 0 0 r l)) := by
  pointwise [k0_pay48, k0_pay47, k0_pay45, k0_pay43, k0_pay42, swish]

theorem piece4 : (k0_pay58 (k0_pay53 Z) (k0_pay55 V)) (ix3 0 r l) = V (ix2 r ⟨512 + l.val, by omega⟩) * swish (Z (ix4 0 0 r l)) := by
  pointwise [k0_pay58, k0_pay57, k0_pay55, k0_pay53, k0_pay52, k0_pay51, swish]

theorem piece5 : (k0_pay68 (k0_pay63 Z) (k0_pay65 V)) (ix3 0 r l) = V (ix2 r ⟨640 + l.val, by omega⟩) * swish (Z (ix4 0 0 r l)) := by
  pointwise [k0_pay68, k0_pay67, k0_pay65, k0_pay63, k0_pay62, k0_pay61, swish]

theorem piece6 : (k0_pay78 V (k0_pay73 Z)) (ix3 0 r l) = V (ix2 r ⟨768 + l.val, by omega⟩) * swish (Z (ix4 0 0 r l)) := by
  pointwise [k0_pay78, k0_pay77, k0_pay75, k0_pay73, k0_pay72, k0_pay71, swish]

theorem piece7 : (k0_pay4 V (k0_pay83 Z)) (ix3 0 r l) = V (ix2 r ⟨896 + l.val, by omega⟩) * swish (Z (ix4 0 0 r l)) := by
  pointwise [k0_pay4, k0_pay3, k0_pay1, k0_pay83, k0_pay82, k0_pay81, swish]

/-- The block of the gradient of the attention's output: column block `p`, token `r`, column `l`. -/
def block (x0 : FVec Ideal S512x2048 .bf16) (x1 : FVec Ideal S2048x2048 .bf16) (x3 : FVec Ideal S1x8x512x128 .f32) (y : S8x512x128.Idx) : EReal :=
  (∑ k : Fin 2048, x0 (ix2 (y 1) k) * x1 (ix2 ⟨(1024 + (128 * (y 0 : ℕ) + (y 2 : ℕ))) % 2048, Nat.mod_lt _ (by decide)⟩ k)) *
    swish (x3 (ix4 0 (y 0) (y 1) (y 2)))

variable (x0 : FVec Ideal S512x2048 .bf16) (x1 : FVec Ideal S2048x2048 .bf16) (x2 : FVec Ideal S8x512x128 .f32) (x3 : FVec Ideal S1x8x512x128 .f32)

/-- The product with the attention's half of the weights. -/
abbrev A : FVec Ideal S512x1024 .f32 := k0_pay8 (View.ld (Val := Elt Ideal) (e' := .bf16) x0 r0_0) (View.ld (Val := Elt Ideal) (e' := .bf16) x1 r0_3)

theorem A_apply (r : Fin 512) (i : Fin 1024) :
    (A x0 x1 (ix2 r i) : EReal) = ∑ k : Fin 2048, x0 (ix2 r k) * x1 (ix2 ⟨1024 + i.val, by omega⟩ k) := by
  refine (att_apply _ _ r i).trans (Finset.sum_congr rfl fun k _ => ?_)
  congr 1
  · refine View.ld_unit_apply_of _ _ _ _ _ _ fun a => ?_
    fin_cases a
    · show (r : ℕ) = 0 + r.val; omega
    · show (k : ℕ) = 0 + k.val; omega
  · refine View.ld_unit_apply_of _ _ _ _ _ _ fun a => ?_
    fin_cases a
    · rfl
    · show (k : ℕ) = 0 + k.val; omega

/-- Row `128 p + l` of the attention's half, and the gate's column block `p`. -/
theorem block_ix (p : Fin 8) (r : Fin 512) (l : Fin 128) :
    block x0 x1 x3 (ix3 p r l) = A x0 x1 (ix2 r ⟨128 * p.val + l.val, by omega⟩) * swish (x3 (ix4 0 p r l)) := by
  rw [A_apply]
  unfold block
  congr 1
  refine Finset.sum_congr rfl fun k _ => ?_
  congr 2
  exact congrArg (fun i => ix2 i k) (Fin.ext (Nat.mod_eq_of_lt (by show 1024 + (128 * p.val + l.val) < 2048; omega)))

theorem at0 (x : S1x512x128.Idx) : (k0_pay19 (A x0 x1) (View.ld x3 r0_4)) x = block x0 x1 x3 (r0_5.emb x) := by
  have hx0 : (x 0 : ℕ) < 1 := (x 0).isLt
  have e : x = ix3 0 (x 1) (x 2) := by
    funext a
    fin_cases a
    · exact Fin.ext (by show (x 0 : ℕ) = 0; omega)
    · rfl
    · rfl
  have e' : r0_5.emb x = ix3 (0 : Fin 8) (x 1) (x 2) := by
    funext a
    fin_cases a
    · exact Fin.ext (by show 0 + 1 * (x 0 : ℕ) = 0; omega)
    · exact Fin.ext (by show 0 + 1 * (x 1 : ℕ) = (x 1 : ℕ); omega)
    · exact Fin.ext (by show 0 + 1 * (x 2 : ℕ) = (x 2 : ℕ); omega)
  rw [e']
  refine (congrArg _ e).trans ((piece0 _ _ (x 1) (x 2)).trans (Eq.trans ?_ (block_ix x0 x1 x3 0 (x 1) (x 2)).symm))
  congr 2
  refine View.ld_unit_apply_of _ _ _ _ _ _ fun a => ?_
  fin_cases a
  · rfl
  · rfl
  · show (x 1 : ℕ) = 0 + (x 1 : ℕ); omega
  · show (x 2 : ℕ) = 0 + (x 2 : ℕ); omega

theorem at1 (x : S1x512x128.Idx) : (k0_pay29 (A x0 x1) (View.ld x3 r0_7)) x = block x0 x1 x3 (r0_8.emb x) := by
  have hx0 : (x 0 : ℕ) < 1 := (x 0).isLt
  have e : x = ix3 0 (x 1) (x 2) := by
    funext a
    fin_cases a
    · exact Fin.ext (by show (x 0 : ℕ) = 0; omega)
    · rfl
    · rfl
  have e' : r0_8.emb x = ix3 (1 : Fin 8) (x 1) (x 2) := by
    funext a
    fin_cases a
    · exact Fin.ext (by show 1 + 1 * (x 0 : ℕ) = 1; omega)
    · exact Fin.ext (by show 0 + 1 * (x 1 : ℕ) = (x 1 : ℕ); omega)
    · exact Fin.ext (by show 0 + 1 * (x 2 : ℕ) = (x 2 : ℕ); omega)
  rw [e']
  refine (congrArg _ e).trans ((piece1 _ _ (x 1) (x 2)).trans (Eq.trans ?_ (block_ix x0 x1 x3 1 (x 1) (x 2)).symm))
  congr 2
  refine View.ld_unit_apply_of _ _ _ _ _ _ fun a => ?_
  fin_cases a
  · rfl
  · rfl
  · show (x 1 : ℕ) = 0 + (x 1 : ℕ); omega
  · show (x 2 : ℕ) = 0 + (x 2 : ℕ); omega

theorem at2 (x : S1x512x128.Idx) : (k0_pay39 (k0_pay38 (A x0 x1) (View.ld x3 r0_10))) x = block x0 x1 x3 (r0_11.emb x) := by
  have hx0 : (x 0 : ℕ) < 1 := (x 0).isLt
  have e : x = ix3 0 (x 1) (x 2) := by
    funext a
    fin_cases a
    · exact Fin.ext (by show (x 0 : ℕ) = 0; omega)
    · rfl
    · rfl
  have e' : r0_11.emb x = ix3 (2 : Fin 8) (x 1) (x 2) := by
    funext a
    fin_cases a
    · exact Fin.ext (by show 2 + 1 * (x 0 : ℕ) = 2; omega)
    · exact Fin.ext (by show 0 + 1 * (x 1 : ℕ) = (x 1 : ℕ); omega)
    · exact Fin.ext (by show 0 + 1 * (x 2 : ℕ) = (x 2 : ℕ); omega)
  rw [e']
  refine (congrArg _ e).trans ((piece2 _ _ (x 1) (x 2)).trans (Eq.trans ?_ (block_ix x0 x1 x3 2 (x 1) (x 2)).symm))
  congr 2
  refine View.ld_unit_apply_of _ _ _ _ _ _ fun a => ?_
  fin_cases a
  · rfl
  · rfl
  · show (x 1 : ℕ) = 0 + (x 1 : ℕ); omega
  · show (x 2 : ℕ) = 0 + (x 2 : ℕ); omega

theorem at3 (x : S1x512x128.Idx) : (k0_pay48 (k0_pay47 (A x0 x1) (View.ld x3 r0_13))) x = block x0 x1 x3 (r0_14.emb x) := by
  have hx0 : (x 0 : ℕ) < 1 := (x 0).isLt
  have e : x = ix3 0 (x 1) (x 2) := by
    funext a
    fin_cases a
    · exact Fin.ext (by show (x 0 : ℕ) = 0; omega)
    · rfl
    · rfl
  have e' : r0_14.emb x = ix3 (3 : Fin 8) (x 1) (x 2) := by
    funext a
    fin_cases a
    · exact Fin.ext (by show 3 + 1 * (x 0 : ℕ) = 3; omega)
    · exact Fin.ext (by show 0 + 1 * (x 1 : ℕ) = (x 1 : ℕ); omega)
    · exact Fin.ext (by show 0 + 1 * (x 2 : ℕ) = (x 2 : ℕ); omega)
  rw [e']
  refine (congrArg _ e).trans ((piece3 _ _ (x 1) (x 2)).trans (Eq.trans ?_ (block_ix x0 x1 x3 3 (x 1) (x 2)).symm))
  congr 2
  refine View.ld_unit_apply_of _ _ _ _ _ _ fun a => ?_
  fin_cases a
  · rfl
  · rfl
  · show (x 1 : ℕ) = 0 + (x 1 : ℕ); omega
  · show (x 2 : ℕ) = 0 + (x 2 : ℕ); omega

theorem at4 (x : S1x512x128.Idx) : (k0_pay58 (k0_pay53 (View.ld x3 r0_16)) (k0_pay55 (A x0 x1))) x = block x0 x1 x3 (r0_17.emb x) := by
  have hx0 : (x 0 : ℕ) < 1 := (x 0).isLt
  have e : x = ix3 0 (x 1) (x 2) := by
    funext a
    fin_cases a
    · exact Fin.ext (by show (x 0 : ℕ) = 0; omega)
    · rfl
    · rfl
  have e' : r0_17.emb x = ix3 (4 : Fin 8) (x 1) (x 2) := by
    funext a
    fin_cases a
    · exact Fin.ext (by show 4 + 1 * (x 0 : ℕ) = 4; omega)
    · exact Fin.ext (by show 0 + 1 * (x 1 : ℕ) = (x 1 : ℕ); omega)
    · exact Fin.ext (by show 0 + 1 * (x 2 : ℕ) = (x 2 : ℕ); omega)
  rw [e']
  refine (congrArg _ e).trans ((piece4 _ _ (x 1) (x 2)).trans (Eq.trans ?_ (block_ix x0 x1 x3 4 (x 1) (x 2)).symm))
  congr 2
  refine View.ld_unit_apply_of _ _ _ _ _ _ fun a => ?_
  fin_cases a
  · rfl
  · rfl
  · show (x 1 : ℕ) = 0 + (x 1 : ℕ); omega
  · show (x 2 : ℕ) = 0 + (x 2 : ℕ); omega

theorem at5 (x : S1x512x128.Idx) : (k0_pay68 (k0_pay63 (View.ld x3 r0_19)) (k0_pay65 (A x0 x1))) x = block x0 x1 x3 (r0_20.emb x) := by
  have hx0 : (x 0 : ℕ) < 1 := (x 0).isLt
  have e : x = ix3 0 (x 1) (x 2) := by
    funext a
    fin_cases a
    · exact Fin.ext (by show (x 0 : ℕ) = 0; omega)
    · rfl
    · rfl
  have e' : r0_20.emb x = ix3 (5 : Fin 8) (x 1) (x 2) := by
    funext a
    fin_cases a
    · exact Fin.ext (by show 5 + 1 * (x 0 : ℕ) = 5; omega)
    · exact Fin.ext (by show 0 + 1 * (x 1 : ℕ) = (x 1 : ℕ); omega)
    · exact Fin.ext (by show 0 + 1 * (x 2 : ℕ) = (x 2 : ℕ); omega)
  rw [e']
  refine (congrArg _ e).trans ((piece5 _ _ (x 1) (x 2)).trans (Eq.trans ?_ (block_ix x0 x1 x3 5 (x 1) (x 2)).symm))
  congr 2
  refine View.ld_unit_apply_of _ _ _ _ _ _ fun a => ?_
  fin_cases a
  · rfl
  · rfl
  · show (x 1 : ℕ) = 0 + (x 1 : ℕ); omega
  · show (x 2 : ℕ) = 0 + (x 2 : ℕ); omega

theorem at6 (x : S1x512x128.Idx) : (k0_pay78 (A x0 x1) (k0_pay73 (View.ld x3 r0_22))) x = block x0 x1 x3 (r0_23.emb x) := by
  have hx0 : (x 0 : ℕ) < 1 := (x 0).isLt
  have e : x = ix3 0 (x 1) (x 2) := by
    funext a
    fin_cases a
    · exact Fin.ext (by show (x 0 : ℕ) = 0; omega)
    · rfl
    · rfl
  have e' : r0_23.emb x = ix3 (6 : Fin 8) (x 1) (x 2) := by
    funext a
    fin_cases a
    · exact Fin.ext (by show 6 + 1 * (x 0 : ℕ) = 6; omega)
    · exact Fin.ext (by show 0 + 1 * (x 1 : ℕ) = (x 1 : ℕ); omega)
    · exact Fin.ext (by show 0 + 1 * (x 2 : ℕ) = (x 2 : ℕ); omega)
  rw [e']
  refine (congrArg _ e).trans ((piece6 _ _ (x 1) (x 2)).trans (Eq.trans ?_ (block_ix x0 x1 x3 6 (x 1) (x 2)).symm))
  congr 2
  refine View.ld_unit_apply_of _ _ _ _ _ _ fun a => ?_
  fin_cases a
  · rfl
  · rfl
  · show (x 1 : ℕ) = 0 + (x 1 : ℕ); omega
  · show (x 2 : ℕ) = 0 + (x 2 : ℕ); omega

theorem at7 (x : S1x512x128.Idx) : (k0_pay4 (A x0 x1) (k0_pay83 (View.ld x3 r0_25))) x = block x0 x1 x3 (r0_26.emb x) := by
  have hx0 : (x 0 : ℕ) < 1 := (x 0).isLt
  have e : x = ix3 0 (x 1) (x 2) := by
    funext a
    fin_cases a
    · exact Fin.ext (by show (x 0 : ℕ) = 0; omega)
    · rfl
    · rfl
  have e' : r0_26.emb x = ix3 (7 : Fin 8) (x 1) (x 2) := by
    funext a
    fin_cases a
    · exact Fin.ext (by show 7 + 1 * (x 0 : ℕ) = 7; omega)
    · exact Fin.ext (by show 0 + 1 * (x 1 : ℕ) = (x 1 : ℕ); omega)
    · exact Fin.ext (by show 0 + 1 * (x 2 : ℕ) = (x 2 : ℕ); omega)
  rw [e']
  refine (congrArg _ e).trans ((piece7 _ _ (x 1) (x 2)).trans (Eq.trans ?_ (block_ix x0 x1 x3 7 (x 1) (x 2)).symm))
  congr 2
  refine View.ld_unit_apply_of _ _ _ _ _ _ fun a => ?_
  fin_cases a
  · rfl
  · rfl
  · show (x 1 : ℕ) = 0 + (x 1 : ℕ); omega
  · show (x 2 : ℕ) = 0 + (x 2 : ℕ); omega

/-- What a grid step leaves of the gradient of the attention's output. -/
theorem out5 (y : S8x512x128.Idx) : (out0_5 (F := Ideal) x0 x1 x2 x3 y : EReal) = block x0 x1 x3 y := by
  unfold out0_5
  refine View.canon_apply_of_pieces (Val := Elt Ideal) (e := .f32) (block x0 x1 x3) _ (fun p hp => ?_) y (cover0_5 _ _ _ _ _ _ _ _ y)
  simp only [List.mem_cons, List.not_mem_nil, or_false] at hp
  rcases hp with rfl | rfl | rfl | rfl | rfl | rfl | rfl | rfl
  · exact at7 x0 x1 x3
  · exact at6 x0 x1 x3
  · exact at5 x0 x1 x3
  · exact at4 x0 x1 x3
  · exact at3 x0 x1 x3
  · exact at2 x0 x1 x3
  · exact at1 x0 x1 x3
  · exact at0 x0 x1 x3

/-- What a grid step leaves of the gradient of the recurrence's half of y. -/
theorem out4 (r : Fin 512) (i : Fin 1024) :
    (out0_4 (F := Ideal) x0 x1 x2 x3 (ix2 r i) : EReal) = ∑ k : Fin 2048, x0 (ix2 r k) * x1 (ix2 ⟨i.val, by omega⟩ k) := by
  unfold out0_4
  rw [View.canon_cons_unit_lit _ _ _ (by decide)]
  refine (rec_apply _ _ r i).trans (Finset.sum_congr rfl fun k _ => ?_)
  congr 1
  · refine View.ld_unit_apply_of _ _ _ _ _ _ fun a => ?_
    fin_cases a
    · show (r : ℕ) = 0 + r.val; omega
    · show (k : ℕ) = 0 + k.val; omega
  · refine View.ld_unit_apply_of _ _ _ _ _ _ fun a => ?_
    fin_cases a
    · show (i : ℕ) = 0 + i.val; omega
    · show (k : ℕ) = 0 + k.val; omega

end Cert.YGrad
-- ==== Proof.Y.lean ====
/-
  The gradient of the output projection's input: what the kernel's first two result arrays hold. Grid point `t` computes
  block `t` of 512 tokens of both.
-/
module

public import proofs.«01_k».proof.Proof.YStep

@[expose] public section

set_option maxRecDepth 16384

noncomputable section

namespace Cert.YGrad

open Idealize.ShloMosaic Idealize.ShloMosaic.TcCoe Cert.KernelYIdeal Cert.KernelYIdeal.Gen

variable (m : (ℓ : Loc nD τ sig) → Buf (Elt Ideal) ℓ) (c : Dev nD)

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index3 : ∀ t : Fin cfg0.N, win0_3.index t = ![7, 0, t.val, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![0, t.val, 0] := (by decide +kernel : ∀ t : Fin grid0.N, _)

theorem lt_16 (t : Fin cfg0.N) : t.val < 16 := lt_of_lt_of_eq t.isLt N_0

/-- The arguments the two results depend on: the output's gradient, the output weights and the projected segments. -/
abbrev argD : FVec Ideal S8192x2048 .bf16 := m ((c : Thread nD τ).loc main_arg0)
abbrev argW : FVec Ideal S2048x2048 .bf16 := m ((c : Thread nD τ).loc main_arg1)
abbrev argZ : FVec Ideal S8x8x8192x128 .f32 := m ((c : Thread nD τ).loc main_arg3)

theorem block0 (t : Fin cfg0.N) (r : Fin 512) (k : Fin 2048) :
    (iblk m c 0 t (ix2 r k) : EReal) = argD m c (ix2 ⟨512 * t.val + r.val, by have := lt_16 t; omega⟩ k) := by
  have := lt_16 t
  blk_ext [iblk, index0]

theorem block1 (t : Fin cfg0.N) (i k : Fin 2048) : (iblk m c 1 t (ix2 i k) : EReal) = argW m c (ix2 i k) := by
  blk_ext [iblk, index1]

theorem block3 (t : Fin cfg0.N) (p : Fin 8) (r : Fin 512) (l : Fin 128) :
    (iblk m c 3 t (ix4 0 p r l) : EReal) = argZ m c (ix4 7 p ⟨512 * t.val + r.val, by have := lt_16 t; omega⟩ l) := by
  have := lt_16 t
  blk_ext [iblk, index3]

/-- Token `n`'s gradient at column `i` of the projection's input. -/
def dy (d : FVec Ideal S8192x2048 .bf16) (w : FVec Ideal S2048x2048 .bf16) (n : ℕ) (i : ℕ) : EReal :=
  ∑ k : Fin 2048, d (ix2 ⟨n % 8192, Nat.mod_lt _ (by decide)⟩ k) * w (ix2 ⟨i % 2048, Nat.mod_lt _ (by decide)⟩ k)

/-- The gradient of the recurrence's half. -/
def gradR (d : FVec Ideal S8192x2048 .bf16) (w : FVec Ideal S2048x2048 .bf16) (j : S8192x1024.Idx) : EReal := dy d w (j 0 : ℕ) (j 1 : ℕ)

/-- The gradient of the attention's output: the attention's half times the gate. -/
def gradA (d : FVec Ideal S8192x2048 .bf16) (w : FVec Ideal S2048x2048 .bf16) (z : FVec Ideal S8x8x8192x128 .f32) (j : S8x8192x128.Idx) : EReal :=
  dy d w (j 1 : ℕ) (1024 + (128 * (j 0 : ℕ) + (j 2 : ℕ))) * swish (z (ix4 7 ⟨(j 0 : ℕ) % 8, Nat.mod_lt _ (by decide)⟩ ⟨(j 1 : ℕ) % 8192, Nat.mod_lt _ (by decide)⟩ ⟨(j 2 : ℕ) % 128, Nat.mod_lt _ (by decide)⟩))

theorem resultR (j : S8192x1024.Idx) : (dats m 0 c).arrAt 4 cfg0.N j = gradR (argD m c) (argW m c) j := by
  refine (dats m 0 c).arrAt_forall_of_covers 4 (fun i v => v = gradR (argD m c) (argW m c) i) (by decide +kernel) (fun t _ y => ?_) j
  have ht := lt_16 t
  have hy0 : (y 0 : ℕ) < 512 := (y 0).isLt
  have hy1 : (y 1 : ℕ) < 1024 := (y 1).isLt
  unfold gradR dy
  blk_simp [index4]
  rw [after0_4]
  refine (congrArg _ (eq_ix2 y)).trans ((out4 _ _ _ _ (y 0) (y 1)).trans (Finset.sum_congr rfl fun k _ => ?_))
  refine congrArg₂ (· * ·) ((block0 m c t (y 0) k).trans ?_) ((block1 m c t _ k).trans ?_)
  · exact congrArg (fun n => argD m c (ix2 n k)) (Fin.ext (by first | rfl | (dsimp only; omega)))
  · exact congrArg (fun n => argW m c (ix2 n k)) (Fin.ext (by first | rfl | (dsimp only; omega)))

theorem resultA (j : S8x8192x128.Idx) : (dats m 0 c).arrAt 5 cfg0.N j = gradA (argD m c) (argW m c) (argZ m c) j := by
  refine (dats m 0 c).arrAt_forall_of_covers 5 (fun i v => v = gradA (argD m c) (argW m c) (argZ m c) i) (by decide +kernel) (fun t _ y => ?_) j
  have ht := lt_16 t
  have hy0 : (y 0 : ℕ) < 8 := (y 0).isLt
  have hy1 : (y 1 : ℕ) < 512 := (y 1).isLt
  have hy2 : (y 2 : ℕ) < 128 := (y 2).isLt
  unfold gradA dy
  blk_simp [index5]
  rw [after0_5]
  refine (out5 _ _ _ _ y).trans ?_
  unfold block
  congr 1
  · refine Finset.sum_congr rfl fun k _ => ?_
    refine congrArg₂ (· * ·) ((block0 m c t (y 1) k).trans ?_) ((block1 m c t _ k).trans ?_)
    · exact congrArg (fun n => argD m c (ix2 n k)) (Fin.ext (by first | rfl | (dsimp only; omega)))
    · exact congrArg (fun n => argW m c (ix2 n k)) (Fin.ext (by first | rfl | (dsimp only; omega)))
  · refine congrArg swish ((block3 m c t (y 0) (y 1) (y 2)).trans (congrArg (argZ m c) ?_))
    congr 1 <;> first | rfl | (apply Fin.ext; dsimp only; omega)

end Cert.YGrad
-- ==== Proof.YRef.lean ====
/-
  The gradient of the output projection's input: what the reference computes, entry by entry.
-/
module

public import proofs.«01_k».proof.Proof.Y
public import proofs.«01_k».proof.Proof.Gen.ReferenceYIdeal.Read

@[expose] public section

set_option maxRecDepth 16384

noncomputable section

namespace Cert.YGrad

open Idealize.ShloMosaic Idealize.ShloMosaic.TcCoe Cert.ReferenceYIdeal Cert.ReferenceYIdeal.Read

variable (d : FVec Ideal S8192x2048 .bf16) (w : FVec Ideal S2048x2048 .bf16) (z : FVec Ideal S8x8x8192x128 .f32)

theorem prod (n : Fin 8192) (i : Fin 2048) :
    (val_main_v13 (F := Ideal) d w (ix2 n i) : EReal) = dy d w n.val i.val := by
  unfold dy
  pointwise [val_main_v13, val_main_v12, val_main_v5]
  refine Finset.sum_congr rfl fun k _ => ?_
  congr 1
  · exact congrArg (fun n => d (ix2 n k)) (Fin.ext (by dsimp only; omega))
  · exact congrArg (fun n => w (ix2 n k)) (Fin.ext (by dsimp only; omega))

theorem valueR (j : S8192x1024.Idx) : (val_main_v14 (F := Ideal) d w j : EReal) = gradR d w j := by
  have h1 : (j 1 : ℕ) < 1024 := (j 1).isLt
  unfold gradR
  refine (congrArg _ (eq_ix2 j)).trans (Eq.trans ?_ (prod d w (j 0) ⟨(j 1 : ℕ), by omega⟩))
  pointwise [val_main_v14]

/-- The gate's segment laid out with the tokens first, and its swish. -/
theorem gate (n : Fin 8192) (p : Fin 8) (l : Fin 128) :
    (val_main_v4 (F := Ideal) z (ix2 n ⟨128 * p.val + l.val, by omega⟩) : EReal) = swish (z (ix4 7 p n l)) := by
  have e : val_main_v3 (F := Ideal) z (ix2 n ⟨128 * p.val + l.val, by omega⟩) = z (ix4 7 p n l) := by
    pointwise [val_main_v3, val_main_v2, val_main_v1, val_main_v0]
  rw [← e]
  pointwise [val_main_v4, val_main_call0_v5, val_main_call0_v4, val_main_call0_v3, val_main_call0_v2, val_main_call0_v1, val_main_call0_v0, val_main_call0_cst, val_main_call0_cst_0]
  rfl

theorem valueA (j : S8x8192x128.Idx) : (val_main_v18 (F := Ideal) d w z j : EReal) = gradA d w z j := by
  have h0 : (j 0 : ℕ) < 8 := (j 0).isLt
  have h2 : (j 2 : ℕ) < 128 := (j 2).isLt
  have e : (val_main_v18 (F := Ideal) d w z (ix3 (j 0) (j 1) (j 2)) : EReal)
      = val_main_v13 (F := Ideal) d w (ix2 (j 1) ⟨1024 + (128 * (j 0 : ℕ) + (j 2 : ℕ)), by omega⟩)
        * val_main_v4 (F := Ideal) z (ix2 (j 1) ⟨128 * (j 0 : ℕ) + (j 2 : ℕ), by omega⟩) := by
    pointwise [val_main_v18, val_main_v17, val_main_v16, val_main_v15]
    simp only [Nat.mul_comm]
  refine (congrArg _ (eq_ix3 j)).trans (e.trans ?_)
  unfold gradA
  refine congrArg₂ (· * ·) (prod d w _ _) ((gate z (j 1) (j 0) (j 2)).trans (congrArg swish (congrArg z ?_)))
  congr 1 <;> exact Fin.ext (Nat.mod_eq_of_lt (Fin.isLt _)).symm

end Cert.YGrad
-- ==== Proof.YEq.lean ====
/-
  The gradient of the output projection's input: the two programs end with equal results.
-/
module

public import proofs.«01_k».proof.Proof.YRef
public import proofs.«01_k».proof.Defs
public import proofs.«01_k».proof.Proof.Gen.ReferenceYIdeal.Run

@[expose] public section

set_option maxRecDepth 16384

noncomputable section

namespace Cert.YGrad

open Idealize.ShloMosaic Idealize.ShloMosaic.TcCoe Idealize.SL.Sem

instance : Cert.KernelYIdeal.Facts := Cert.KernelYIdeal.Gen.facts
instance : Cert.ReferenceYIdeal.Facts := Cert.ReferenceYIdeal.Gen.facts

/-- The reference keeps its arguments. -/
theorem frame_ri : Cert.quiescent_ReferenceYIdeal := by
  intro m ρ _
  exact (θ_run Cert.ReferenceYIdeal.defs _ _).mono (fun r h => ⟨fun c => (h c).2.2,
      Idealize.ShloMosaic.sem_eq_zero_of_no_sems (by decide) r.2⟩)
    (Cert.ReferenceYIdeal.Value.run (F := Ideal) m ρ)

variable (m : (ℓ : Loc Cert.KernelYIdeal.nD Cert.KernelYIdeal.τ Cert.KernelYIdeal.sig) → Buf (Elt Ideal) ℓ) (c : Dev Cert.KernelYIdeal.nD)

/-- The two results, as the reference's functions of the kernel's arguments. -/
def outR : FVec Ideal Cert.KernelYIdeal.S8192x1024 .f32 := Cert.ReferenceYIdeal.Read.val_main_v14 (F := Ideal) (argD m c) (argW m c)

def outA : FVec Ideal Cert.KernelYIdeal.S8x8192x128 .f32 := Cert.ReferenceYIdeal.Read.val_main_v18 (F := Ideal) (argD m c) (argW m c) (argZ m c)

theorem storedR : (Cert.KernelYIdeal.Gen.dats m 0 c).arrAt 4 Cert.KernelYIdeal.cfg0.N = outR m c :=
  funext fun i => (resultR m c i).trans (valueR _ _ i).symm

theorem storedA : (Cert.KernelYIdeal.Gen.dats m 0 c).arrAt 5 Cert.KernelYIdeal.cfg0.N = outA m c :=
  funext fun i => (resultA m c i).trans (valueA _ _ _ i).symm

theorem algebraic : Cert.algebraic_KernelYIdeal_ReferenceYIdeal := by
  intro m g m' g' _ hag
  refine ⟨outR m, outA m, ?_, ?_⟩
  · refine (θ_run Cert.KernelYIdeal.defs _ _).mono (fun r h c => ?_) (Cert.KernelYIdeal.Value.run_blocks m g)
    obtain ⟨h4, h5, _, _, hargs⟩ := h c
    exact ⟨h4.trans (storedR m c), h5.trans (storedA m c), hargs⟩
  · refine (θ_run Cert.ReferenceYIdeal.defs _ _).mono (fun r h c => ?_) (Cert.ReferenceYIdeal.Value.run (F := Ideal) m' g')
    obtain ⟨h0, h1, hargs⟩ := h c
    obtain ⟨a0, a1, _, a3⟩ := hag c
    refine ⟨(h0.trans (Cert.ReferenceYIdeal.Read.val_main_v14_eq _ _)).trans ?_, (h1.trans (Cert.ReferenceYIdeal.Read.val_main_v18_eq _ _ _)).trans ?_, hargs⟩
    · exact congr (congrArg Cert.ReferenceYIdeal.Read.val_main_v14 a0) a1
    · exact congr (congr (congrArg Cert.ReferenceYIdeal.Read.val_main_v18 a0) a1) a3

end Cert.YGrad
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Inputs
public import proofs.«01_k».proof.Proof.RefOut
public import proofs.«01_k».proof.Proof.Finite
public import proofs.«01_k».proof.Proof.WInEq
public import proofs.«01_k».proof.Proof.HFirstEq
public import proofs.«01_k».proof.Proof.HLastEq
public import proofs.«01_k».proof.Proof.WOutEq
public import proofs.«01_k».proof.Proof.YEq
public import proofs.«01_k».proof.Proof.Gen.KernelWIn
public import proofs.«01_k».proof.Proof.Gen.KernelWIn.Frame
public import proofs.«01_k».proof.Proof.Gen.KernelWInIdeal
public import proofs.«01_k».proof.Proof.Gen.KernelWInIdeal.Frame
public import proofs.«01_k».proof.Proof.Gen.KernelWInIdeal.Value
public import proofs.«01_k».proof.Proof.Gen.ReferenceWInIdeal
public import proofs.«01_k».proof.Proof.Gen.ReferenceWInIdeal.Run
public import proofs.«01_k».proof.Proof.Gen.ReferenceWInIdeal.Read
public import proofs.«01_k».proof.Proof.Gen.KernelHFirst
public import proofs.«01_k».proof.Proof.Gen.KernelHFirst.Frame
public import proofs.«01_k».proof.Proof.Gen.KernelHFirstIdeal
public import proofs.«01_k».proof.Proof.Gen.KernelHFirstIdeal.Frame
public import proofs.«01_k».proof.Proof.Gen.KernelHFirstIdeal.Value
public import proofs.«01_k».proof.Proof.Gen.ReferenceHFirstIdeal
public import proofs.«01_k».proof.Proof.Gen.ReferenceHFirstIdeal.Run
public import proofs.«01_k».proof.Proof.Gen.ReferenceHFirstIdeal.Read
public import proofs.«01_k».proof.Proof.Gen.KernelHLast
public import proofs.«01_k».proof.Proof.Gen.KernelHLast.Frame
public import proofs.«01_k».proof.Proof.Gen.KernelHLastIdeal
public import proofs.«01_k».proof.Proof.Gen.KernelHLastIdeal.Frame
public import proofs.«01_k».proof.Proof.Gen.KernelHLastIdeal.Value
public import proofs.«01_k».proof.Proof.Gen.ReferenceHLastIdeal
public import proofs.«01_k».proof.Proof.Gen.ReferenceHLastIdeal.Run
public import proofs.«01_k».proof.Proof.Gen.ReferenceHLastIdeal.Read
public import proofs.«01_k».proof.Proof.Gen.KernelWOut
public import proofs.«01_k».proof.Proof.Gen.KernelWOut.Frame
public import proofs.«01_k».proof.Proof.Gen.KernelWOutIdeal
public import proofs.«01_k».proof.Proof.Gen.KernelWOutIdeal.Frame
public import proofs.«01_k».proof.Proof.Gen.KernelWOutIdeal.Value
public import proofs.«01_k».proof.Proof.Gen.KernelY
public import proofs.«01_k».proof.Proof.Gen.KernelY.Frame
public import proofs.«01_k».proof.Proof.Gen.KernelYIdeal
public import proofs.«01_k».proof.Proof.Gen.KernelYIdeal.Frame
public import proofs.«01_k».proof.Proof.Gen.KernelYIdeal.Value
public import proofs.«01_k».proof.Proof.Gen.ReferenceYIdeal
public import proofs.«01_k».proof.Proof.Gen.ReferenceYIdeal.Run
public import proofs.«01_k».proof.Proof.Gen.ReferenceYIdeal.Read
public import proofs.«01_k».proof.Proof.Gen.ReferenceWOutIdeal
public import proofs.«01_k».proof.Proof.Gen.ReferenceWOutIdeal.Run
public import proofs.«01_k».proof.Proof.Gen.ReferenceWOutIdeal.Read
public import Idealize.ShloMosaic.Adequacy
public import Idealize.ShloMosaic.Init

@[expose] public section

noncomputable section

namespace Cert.Proof

open Idealize.ShloMosaic Idealize.SL.Sem Idealize.ShloMosaic.TcCoe Cert.KernelIdeal

theorem frame_ri : Cert.quiescent_ReferenceIdeal := by
  intro m ρ _
  exact (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-! ## The three results, as the reference's functions of the kernel's arguments -/

section

variable (m : (ℓ : Loc nD τ sig) → Buf (Elt Ideal) ℓ) (c : Dev nD)

def dz : FVec Ideal S4x8192x1024 .bf16 :=
  Cert.ReferenceIdeal.Read.val_main_v201 (F := Ideal) (Hgrn.argZ m c) (Hgrn.argL m c) (Hgrn.argG m c) (Hgrn.argDy m c)

def dl : FVec Ideal S2x1024 .f32 :=
  Cert.ReferenceIdeal.Read.val_main_v195 (F := Ideal) (Hgrn.argZ m c) (Hgrn.argL m c) (Hgrn.argG m c) (Hgrn.argDy m c)

def dgn : FVec Ideal S8x1x128 .f32 :=
  Cert.ReferenceIdeal.Read.val_main_v115 (F := Ideal) (Hgrn.argZ m c) (Hgrn.argL m c) (Hgrn.argDy m c)

variable (hz : Hgrn.IsReal (Hgrn.argZ m c)) (hl : Hgrn.IsReal (Hgrn.argL m c)) (hg : Hgrn.IsReal (Hgrn.argG m c)) (hdy : Hgrn.IsReal (Hgrn.argDy m c))

include hz hl hg hdy

theorem stored_dz : (Gen.dats m 0 c).arrAt 8 cfg0.N = dz m c :=
  funext fun i => (Hgrn.result_dz (Hgrn.inputs m c hz hl hg hdy) i).trans (Hgrn.Ref.seg_val hz hl hg hdy i).symm

theorem stored_dl : (Gen.dats m 0 c).arrAt 9 cfg0.N = dl m c :=
  funext fun i => (Hgrn.result_dl (Hgrn.inputs m c hz hl hg hdy) i).trans (Hgrn.Ref.logit_val hz hl hg hdy i).symm

theorem stored_dgn : (Gen.dats m 0 c).arrAt 10 cfg0.N = dgn m c :=
  funext fun i => (Hgrn.result_dgn (Hgrn.inputs m c hz hl hg hdy) i).trans (Hgrn.Ref.gain_val hz hl hdy i).symm

end

theorem algebraic : Cert.algebraic_KernelIdeal_ReferenceIdeal_pre_finite_inputs (hPre_finite_inputs := Hgrn.finite_facts) := by
  intro m g m' g' hpre hag
  refine ⟨dz m, dl m, dgn m, ?_, ?_⟩
  · refine (θ_run Cert.KernelIdeal.defs _ _).mono (fun r h c => ?_) (Value.run_blocks m g)
    obtain ⟨hz, hl, hg, hdy⟩ := @Hgrn.real_args _ _ _ _ Hgrn.finite_facts (hpre c)
    obtain ⟨h8, h9, h10, hargs⟩ := h c
    exact ⟨h8.trans (stored_dz m c hz hl hg hdy), h9.trans (stored_dl m c hz hl hg hdy), h10.trans (stored_dgn m c hz hl hg hdy), hargs⟩
  · refine (θ_run Cert.ReferenceIdeal.defs _ _).mono (fun r h c => ?_) (Cert.ReferenceIdeal.Value.run (F := Ideal) m' g')
    obtain ⟨h0, h1, h2, hargs⟩ := h c
    obtain ⟨a0, a1, a2, a3⟩ := hag c
    refine ⟨(h0.trans (Cert.ReferenceIdeal.Read.val_main_v201_eq _)).trans ?_, (h1.trans (Cert.ReferenceIdeal.Read.val_main_v195_eq _)).trans ?_,
      (h2.trans (Cert.ReferenceIdeal.Read.val_main_v115_eq _)).trans ?_, hargs⟩
    · exact congr (congr (congr (congrArg Cert.ReferenceIdeal.Read.val_main_v201 a0) a1) a2) a3
    · exact congr (congr (congr (congrArg Cert.ReferenceIdeal.Read.val_main_v195 a0) a1) a2) a3
    · exact congr (congr (congrArg Cert.ReferenceIdeal.Read.val_main_v115 a0) a1) a3

theorem claim : Cert.Claim := ⟨Cert.Kernel.Gen.facts, Cert.KernelIdeal.Gen.facts, Cert.ReferenceIdeal.Gen.facts,
  Cert.KernelWIn.Gen.facts, Cert.KernelWInIdeal.Gen.facts, Cert.ReferenceWInIdeal.Gen.facts,
  Cert.KernelHFirst.Gen.facts, Cert.KernelHFirstIdeal.Gen.facts, Cert.ReferenceHFirstIdeal.Gen.facts,
  Cert.KernelHLast.Gen.facts, Cert.KernelHLastIdeal.Gen.facts, Cert.ReferenceHLastIdeal.Gen.facts,
  Cert.KernelWOut.Gen.facts, Cert.KernelWOutIdeal.Gen.facts, Cert.ReferenceWOutIdeal.Gen.facts,
  Cert.KernelY.Gen.facts, Cert.KernelYIdeal.Gen.facts, Cert.ReferenceYIdeal.Gen.facts,
  Hgrn.finite_facts,
  fun m ρ _ => Cert.Kernel.Gen.frame m ρ, fun m ρ _ => Cert.KernelIdeal.Gen.frame m ρ, fun m ρ _ => Cert.KernelIdeal.Gen.frame m ρ,
  frame_ri, fun m ρ _ => frame_ri m ρ trivial,
  fun m ρ _ => Cert.KernelWIn.Gen.frame m ρ, fun m ρ _ => Cert.KernelWInIdeal.Gen.frame m ρ, WIn.frame_ri,
  fun m ρ _ => Cert.KernelHFirst.Gen.frame m ρ, fun m ρ _ => Cert.KernelHFirstIdeal.Gen.frame m ρ, HFirst.frame_ri,
  fun m ρ _ => Cert.KernelHLast.Gen.frame m ρ, fun m ρ _ => Cert.KernelHLastIdeal.Gen.frame m ρ, HLast.frame_ri,
  fun m ρ _ => Cert.KernelWOut.Gen.frame m ρ, fun m ρ _ => Cert.KernelWOutIdeal.Gen.frame m ρ, WOut.frame_ri,
  fun m ρ _ => Cert.KernelY.Gen.frame m ρ, fun m ρ _ => Cert.KernelYIdeal.Gen.frame m ρ, YGrad.frame_ri,
  trivial, algebraic,
  trivial, WIn.algebraic,
  trivial, HFirst.algebraic,
  trivial, HLast.algebraic,
  trivial, WOut.algebraic,
  trivial, YGrad.algebraic⟩

end Cert.Proof

end
